-- ==== Defs.lean ====
def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelRms (m : (ℓ : Loc Cert.KernelRms.nD Cert.KernelRms.τ Cert.KernelRms.sig) → Buf (Elt Bits) ℓ) : Prop :=
  True

def Pre_KernelRmsIdeal (m : (ℓ : Loc Cert.KernelRmsIdeal.nD Cert.KernelRmsIdeal.τ Cert.KernelRmsIdeal.sig) → Buf (Elt Ideal) ℓ) : Prop :=
  True

def Pre_ReferenceRmsIdeal (m : (ℓ : Loc Cert.ReferenceRmsIdeal.nD Cert.ReferenceRmsIdeal.τ Cert.ReferenceRmsIdeal.sig) → Buf (Elt Ideal) ℓ) : Prop :=
  True

def Pre_KernelPbx (m : (ℓ : Loc Cert.KernelPbx.nD Cert.KernelPbx.τ Cert.KernelPbx.sig) → Buf (Elt Bits) ℓ) : Prop :=
  True

def Pre_KernelPbxIdeal (m : (ℓ : Loc Cert.KernelPbxIdeal.nD Cert.KernelPbxIdeal.τ Cert.KernelPbxIdeal.sig) → Buf (Elt Ideal) ℓ) : Prop :=
  True

def Pre_ReferencePbxIdeal (m : (ℓ : Loc Cert.ReferencePbxIdeal.nD Cert.ReferencePbxIdeal.τ Cert.ReferencePbxIdeal.sig) → Buf (Elt Ideal) ℓ) : Prop :=
  True

def Pre_KernelPbw (m : (ℓ : Loc Cert.KernelPbw.nD Cert.KernelPbw.τ Cert.KernelPbw.sig) → Buf (Elt Bits) ℓ) : Prop :=
  True

def Pre_KernelPbwIdeal (m : (ℓ : Loc Cert.KernelPbwIdeal.nD Cert.KernelPbwIdeal.τ Cert.KernelPbwIdeal.sig) → Buf (Elt Ideal) ℓ) : Prop :=
  True

def Pre_ReferencePbwIdeal (m : (ℓ : Loc Cert.ReferencePbwIdeal.nD Cert.ReferencePbwIdeal.τ Cert.ReferencePbwIdeal.sig) → Buf (Elt Ideal) ℓ) : Prop :=
  True

def Pre_KernelWbx (m : (ℓ : Loc Cert.KernelWbx.nD Cert.KernelWbx.τ Cert.KernelWbx.sig) → Buf (Elt Bits) ℓ) : Prop :=
  True

def Pre_KernelWbxIdeal (m : (ℓ : Loc Cert.KernelWbxIdeal.nD Cert.KernelWbxIdeal.τ Cert.KernelWbxIdeal.sig) → Buf (Elt Ideal) ℓ) : Prop :=
  True

def Pre_ReferenceWbxIdeal (m : (ℓ : Loc Cert.ReferenceWbxIdeal.nD Cert.ReferenceWbxIdeal.τ Cert.ReferenceWbxIdeal.sig) → Buf (Elt Ideal) ℓ) : Prop :=
  True

def Pre_KernelWbw (m : (ℓ : Loc Cert.KernelWbw.nD Cert.KernelWbw.τ Cert.KernelWbw.sig) → Buf (Elt Bits) ℓ) : Prop :=
  True

def Pre_KernelWbwIdeal (m : (ℓ : Loc Cert.KernelWbwIdeal.nD Cert.KernelWbwIdeal.τ Cert.KernelWbwIdeal.sig) → Buf (Elt Ideal) ℓ) : Prop :=
  True

def Pre_ReferenceWbwIdeal (m : (ℓ : Loc Cert.ReferenceWbwIdeal.nD Cert.ReferenceWbwIdeal.τ Cert.ReferenceWbwIdeal.sig) → Buf (Elt Ideal) ℓ) : Prop :=
  True

def Pre_KernelAbx (m : (ℓ : Loc Cert.KernelAbx.nD Cert.KernelAbx.τ Cert.KernelAbx.sig) → Buf (Elt Bits) ℓ) : Prop :=
  True

def Pre_KernelAbxIdeal (m : (ℓ : Loc Cert.KernelAbxIdeal.nD Cert.KernelAbxIdeal.τ Cert.KernelAbxIdeal.sig) → Buf (Elt Ideal) ℓ) : Prop :=
  True

def Pre_ReferenceAbxIdeal (m : (ℓ : Loc Cert.ReferenceAbxIdeal.nD Cert.ReferenceAbxIdeal.τ Cert.ReferenceAbxIdeal.sig) → Buf (Elt Ideal) ℓ) : Prop :=
  True

def Pre_KernelAbw (m : (ℓ : Loc Cert.KernelAbw.nD Cert.KernelAbw.τ Cert.KernelAbw.sig) → Buf (Elt Bits) ℓ) : Prop :=
  True

def Pre_KernelAbwIdeal (m : (ℓ : Loc Cert.KernelAbwIdeal.nD Cert.KernelAbwIdeal.τ Cert.KernelAbwIdeal.sig) → Buf (Elt Ideal) ℓ) : Prop :=
  True

def Pre_ReferenceAbwIdeal (m : (ℓ : Loc Cert.ReferenceAbwIdeal.nD Cert.ReferenceAbwIdeal.τ Cert.ReferenceAbwIdeal.sig) → Buf (Elt Ideal) ℓ) : Prop :=
  True

def Pre_KernelBbx (m : (ℓ : Loc Cert.KernelBbx.nD Cert.KernelBbx.τ Cert.KernelBbx.sig) → Buf (Elt Bits) ℓ) : Prop :=
  True

def Pre_KernelBbxIdeal (m : (ℓ : Loc Cert.KernelBbxIdeal.nD Cert.KernelBbxIdeal.τ Cert.KernelBbxIdeal.sig) → Buf (Elt Ideal) ℓ) : Prop :=
  True

def Pre_ReferenceBbxIdeal (m : (ℓ : Loc Cert.ReferenceBbxIdeal.nD Cert.ReferenceBbxIdeal.τ Cert.ReferenceBbxIdeal.sig) → Buf (Elt Ideal) ℓ) : Prop :=
  True

def Pre_KernelBbw (m : (ℓ : Loc Cert.KernelBbw.nD Cert.KernelBbw.τ Cert.KernelBbw.sig) → Buf (Elt Bits) ℓ) : Prop :=
  True

def Pre_KernelBbwIdeal (m : (ℓ : Loc Cert.KernelBbwIdeal.nD Cert.KernelBbwIdeal.τ Cert.KernelBbwIdeal.sig) → Buf (Elt Ideal) ℓ) : Prop :=
  True

def Pre_ReferenceBbwIdeal (m : (ℓ : Loc Cert.ReferenceBbwIdeal.nD Cert.ReferenceBbwIdeal.τ Cert.ReferenceBbwIdeal.sig) → Buf (Elt Ideal) ℓ) : Prop :=
  True

def Pre_KernelPf (m : (ℓ : Loc Cert.KernelPf.nD Cert.KernelPf.τ Cert.KernelPf.sig) → Buf (Elt Bits) ℓ) : Prop :=
  True

def Pre_KernelPfIdeal (m : (ℓ : Loc Cert.KernelPfIdeal.nD Cert.KernelPfIdeal.τ Cert.KernelPfIdeal.sig) → Buf (Elt Ideal) ℓ) : Prop :=
  True

def Pre_ReferencePfIdeal (m : (ℓ : Loc Cert.ReferencePfIdeal.nD Cert.ReferencePfIdeal.τ Cert.ReferencePfIdeal.sig) → Buf (Elt Ideal) ℓ) : Prop :=
  True

def Pre_KernelWf (m : (ℓ : Loc Cert.KernelWf.nD Cert.KernelWf.τ Cert.KernelWf.sig) → Buf (Elt Bits) ℓ) : Prop :=
  True

def Pre_KernelWfIdeal (m : (ℓ : Loc Cert.KernelWfIdeal.nD Cert.KernelWfIdeal.τ Cert.KernelWfIdeal.sig) → Buf (Elt Ideal) ℓ) : Prop :=
  True

def Pre_ReferenceWfIdeal (m : (ℓ : Loc Cert.ReferenceWfIdeal.nD Cert.ReferenceWfIdeal.τ Cert.ReferenceWfIdeal.sig) → Buf (Elt Ideal) ℓ) : Prop :=
  True

def Pre_KernelAf (m : (ℓ : Loc Cert.KernelAf.nD Cert.KernelAf.τ Cert.KernelAf.sig) → Buf (Elt Bits) ℓ) : Prop :=
  True

def Pre_KernelAfIdeal (m : (ℓ : Loc Cert.KernelAfIdeal.nD Cert.KernelAfIdeal.τ Cert.KernelAfIdeal.sig) → Buf (Elt Ideal) ℓ) : Prop :=
  True

def Pre_ReferenceAfIdeal (m : (ℓ : Loc Cert.ReferenceAfIdeal.nD Cert.ReferenceAfIdeal.τ Cert.ReferenceAfIdeal.sig) → Buf (Elt Ideal) ℓ) : Prop :=
  True

def Pre_KernelBf (m : (ℓ : Loc Cert.KernelBf.nD Cert.KernelBf.τ Cert.KernelBf.sig) → Buf (Elt Bits) ℓ) : Prop :=
  True

def Pre_KernelBfIdeal (m : (ℓ : Loc Cert.KernelBfIdeal.nD Cert.KernelBfIdeal.τ Cert.KernelBfIdeal.sig) → Buf (Elt Ideal) ℓ) : Prop :=
  True

def Pre_ReferenceBfIdeal (m : (ℓ : Loc Cert.ReferenceBfIdeal.nD Cert.ReferenceBfIdeal.τ Cert.ReferenceBfIdeal.sig) → Buf (Elt Ideal) ℓ) : Prop :=
  True

def Pre_KernelOw (m : (ℓ : Loc Cert.KernelOw.nD Cert.KernelOw.τ Cert.KernelOw.sig) → Buf (Elt Bits) ℓ) : Prop :=
  True

def Pre_KernelOwIdeal (m : (ℓ : Loc Cert.KernelOwIdeal.nD Cert.KernelOwIdeal.τ Cert.KernelOwIdeal.sig) → Buf (Elt Ideal) ℓ) : Prop :=
  True

def Pre_ReferenceOwIdeal (m : (ℓ : Loc Cert.ReferenceOwIdeal.nD Cert.ReferenceOwIdeal.τ Cert.ReferenceOwIdeal.sig) → Buf (Elt Ideal) ℓ) : Prop :=
  True

def Pre_KernelOg (m : (ℓ : Loc Cert.KernelOg.nD Cert.KernelOg.τ Cert.KernelOg.sig) → Buf (Elt Bits) ℓ) : Prop :=
  True

def Pre_KernelOgIdeal (m : (ℓ : Loc Cert.KernelOgIdeal.nD Cert.KernelOgIdeal.τ Cert.KernelOgIdeal.sig) → Buf (Elt Ideal) ℓ) : Prop :=
  True

def Pre_ReferenceOgIdeal (m : (ℓ : Loc Cert.ReferenceOgIdeal.nD Cert.ReferenceOgIdeal.τ Cert.ReferenceOgIdeal.sig) → Buf (Elt Ideal) ℓ) : Prop :=
  True

def Pre_KernelOa (m : (ℓ : Loc Cert.KernelOa.nD Cert.KernelOa.τ Cert.KernelOa.sig) → Buf (Elt Bits) ℓ) : Prop :=
  True

def Pre_KernelOaIdeal (m : (ℓ : Loc Cert.KernelOaIdeal.nD Cert.KernelOaIdeal.τ Cert.KernelOaIdeal.sig) → Buf (Elt Ideal) ℓ) : Prop :=
  True

def Pre_ReferenceOaIdeal (m : (ℓ : Loc Cert.ReferenceOaIdeal.nD Cert.ReferenceOaIdeal.τ Cert.ReferenceOaIdeal.sig) → Buf (Elt Ideal) ℓ) : Prop :=
  True

def Pre_KernelOb (m : (ℓ : Loc Cert.KernelOb.nD Cert.KernelOb.τ Cert.KernelOb.sig) → Buf (Elt Bits) ℓ) : Prop :=
  True

def Pre_KernelObIdeal (m : (ℓ : Loc Cert.KernelObIdeal.nD Cert.KernelObIdeal.τ Cert.KernelObIdeal.sig) → Buf (Elt Ideal) ℓ) : Prop :=
  True

def Pre_ReferenceObIdeal (m : (ℓ : Loc Cert.ReferenceObIdeal.nD Cert.ReferenceObIdeal.τ Cert.ReferenceObIdeal.sig) → Buf (Elt Ideal) ℓ) : Prop :=
  True

def Pre_KernelOc (m : (ℓ : Loc Cert.KernelOc.nD Cert.KernelOc.τ Cert.KernelOc.sig) → Buf (Elt Bits) ℓ) : Prop :=
  True

def Pre_KernelOcIdeal (m : (ℓ : Loc Cert.KernelOcIdeal.nD Cert.KernelOcIdeal.τ Cert.KernelOcIdeal.sig) → Buf (Elt Ideal) ℓ) : Prop :=
  True

def Pre_ReferenceOcIdeal (m : (ℓ : Loc Cert.ReferenceOcIdeal.nD Cert.ReferenceOcIdeal.τ Cert.ReferenceOcIdeal.sig) → Buf (Elt Ideal) ℓ) : Prop :=
  True

def Pre_KernelOo (m : (ℓ : Loc Cert.KernelOo.nD Cert.KernelOo.τ Cert.KernelOo.sig) → Buf (Elt Bits) ℓ) : Prop :=
  True

def Pre_KernelOoIdeal (m : (ℓ : Loc Cert.KernelOoIdeal.nD Cert.KernelOoIdeal.τ Cert.KernelOoIdeal.sig) → Buf (Elt Ideal) ℓ) : Prop :=
  True

def Pre_ReferenceOoIdeal (m : (ℓ : Loc Cert.ReferenceOoIdeal.nD Cert.ReferenceOoIdeal.τ Cert.ReferenceOoIdeal.sig) → Buf (Elt Ideal) ℓ) : Prop :=
  True

def Pre_KernelSs (m : (ℓ : Loc Cert.KernelSs.nD Cert.KernelSs.τ Cert.KernelSs.sig) → Buf (Elt Bits) ℓ) : Prop :=
  True

def Pre_KernelSsIdeal (m : (ℓ : Loc Cert.KernelSsIdeal.nD Cert.KernelSsIdeal.τ Cert.KernelSsIdeal.sig) → Buf (Elt Ideal) ℓ) : Prop :=
  True

def Pre_ReferenceSsIdeal (m : (ℓ : Loc Cert.ReferenceSsIdeal.nD Cert.ReferenceSsIdeal.τ Cert.ReferenceSsIdeal.sig) → Buf (Elt Ideal) ℓ) : Prop :=
  True

def Pre_KernelSa (m : (ℓ : Loc Cert.KernelSa.nD Cert.KernelSa.τ Cert.KernelSa.sig) → Buf (Elt Bits) ℓ) : Prop :=
  True

def Pre_KernelSaIdeal (m : (ℓ : Loc Cert.KernelSaIdeal.nD Cert.KernelSaIdeal.τ Cert.KernelSaIdeal.sig) → Buf (Elt Ideal) ℓ) : Prop :=
  True

def Pre_ReferenceSaIdeal (m : (ℓ : Loc Cert.ReferenceSaIdeal.nD Cert.ReferenceSaIdeal.τ Cert.ReferenceSaIdeal.sig) → Buf (Elt Ideal) ℓ) : Prop :=
  True

def Pre_KernelLg (m : (ℓ : Loc Cert.KernelLg.nD Cert.KernelLg.τ Cert.KernelLg.sig) → Buf (Elt Bits) ℓ) : Prop :=
  True

def Pre_KernelLgIdeal (m : (ℓ : Loc Cert.KernelLgIdeal.nD Cert.KernelLgIdeal.τ Cert.KernelLgIdeal.sig) → Buf (Elt Ideal) ℓ) : Prop :=
  True

def Pre_ReferenceLgIdeal (m : (ℓ : Loc Cert.ReferenceLgIdeal.nD Cert.ReferenceLgIdeal.τ Cert.ReferenceLgIdeal.sig) → Buf (Elt Ideal) ℓ) : Prop :=
  True

def Pre_KernelRf (m : (ℓ : Loc Cert.KernelRf.nD Cert.KernelRf.τ Cert.KernelRf.sig) → Buf (Elt Bits) ℓ) : Prop :=
  True

def Pre_KernelRfIdeal (m : (ℓ : Loc Cert.KernelRfIdeal.nD Cert.KernelRfIdeal.τ Cert.KernelRfIdeal.sig) → Buf (Elt Ideal) ℓ) : Prop :=
  True

def Pre_ReferenceRfIdeal (m : (ℓ : Loc Cert.ReferenceRfIdeal.nD Cert.ReferenceRfIdeal.τ Cert.ReferenceRfIdeal.sig) → Buf (Elt Ideal) ℓ) : Prop :=
  True

def Pre_KernelGf (m : (ℓ : Loc Cert.KernelGf.nD Cert.KernelGf.τ Cert.KernelGf.sig) → Buf (Elt Bits) ℓ) : Prop :=
  True

def Pre_KernelGfIdeal (m : (ℓ : Loc Cert.KernelGfIdeal.nD Cert.KernelGfIdeal.τ Cert.KernelGfIdeal.sig) → Buf (Elt Ideal) ℓ) : Prop :=
  True

def Pre_ReferenceGfIdeal (m : (ℓ : Loc Cert.ReferenceGfIdeal.nD Cert.ReferenceGfIdeal.τ Cert.ReferenceGfIdeal.sig) → Buf (Elt Ideal) ℓ) : Prop :=
  True

def Pre_KernelTf (m : (ℓ : Loc Cert.KernelTf.nD Cert.KernelTf.τ Cert.KernelTf.sig) → Buf (Elt Bits) ℓ) : Prop :=
  True

def Pre_KernelTfIdeal (m : (ℓ : Loc Cert.KernelTfIdeal.nD Cert.KernelTfIdeal.τ Cert.KernelTfIdeal.sig) → Buf (Elt Ideal) ℓ) : Prop :=
  True

def Pre_ReferenceTfIdeal (m : (ℓ : Loc Cert.ReferenceTfIdeal.nD Cert.ReferenceTfIdeal.τ Cert.ReferenceTfIdeal.sig) → Buf (Elt Ideal) ℓ) : Prop :=
  True

def Pre_KernelTb (m : (ℓ : Loc Cert.KernelTb.nD Cert.KernelTb.τ Cert.KernelTb.sig) → Buf (Elt Bits) ℓ) : Prop :=
  True

def Pre_KernelTbIdeal (m : (ℓ : Loc Cert.KernelTbIdeal.nD Cert.KernelTbIdeal.τ Cert.KernelTbIdeal.sig) → Buf (Elt Ideal) ℓ) : Prop :=
  True

def Pre_ReferenceTbIdeal (m : (ℓ : Loc Cert.ReferenceTbIdeal.nD Cert.ReferenceTbIdeal.τ Cert.ReferenceTbIdeal.sig) → Buf (Elt Ideal) ℓ) : Prop :=
  True

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3)
      ∧ r.2.mem ((c.tc : Thread Cert.KernelGate.nD Cert.KernelGate.τ).loc Cert.KernelGate.main_arg4) = m ((c.tc : Thread Cert.KernelGate.nD Cert.KernelGate.τ).loc Cert.KernelGate.main_arg4))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
      ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3)
      ∧ r.2.mem ((c.tc : Thread Cert.ReferenceGateIdeal.nD Cert.ReferenceGateIdeal.τ).loc Cert.ReferenceGateIdeal.main_arg4) = m ((c.tc : Thread Cert.ReferenceGateIdeal.nD Cert.ReferenceGateIdeal.τ).loc Cert.ReferenceGateIdeal.main_arg4))
      ∧ r.2.sem = fun _ => 0)

def quiescent_KernelRms [hKernelRms : Cert.KernelRms.Facts] : Prop :=
  ∀ (m : (ℓ : Loc Cert.KernelRms.nD Cert.KernelRms.τ Cert.KernelRms.sig) → Buf (Elt Bits) ℓ) (g : Dev Cert.KernelRms.nD → PrngReg), Pre_KernelRms m →
    θ_run (Cert.KernelRms.defs (F := Bits)) (onTc (τ := Cert.KernelRms.τ) (Cert.KernelRms.main (F := Bits))) ⟨m, fun _ => 0, g⟩ (fun r => (∀ c : Dev Cert.KernelRms.nD,
      r.2.mem ((c.tc : Thread Cert.KernelRms.nD Cert.KernelRms.τ).loc Cert.KernelRms.main_arg0) = m ((c.tc : Thread Cert.KernelRms.nD Cert.KernelRms.τ).loc Cert.KernelRms.main_arg0)
      ∧ r.2.mem ((c.tc : Thread Cert.KernelRms.nD Cert.KernelRms.τ).loc Cert.KernelRms.main_arg1) = m ((c.tc : Thread Cert.KernelRms.nD Cert.KernelRms.τ).loc Cert.KernelRms.main_arg1)
      ∧ r.2.mem ((c.tc : Thread Cert.KernelRms.nD Cert.KernelRms.τ).loc Cert.KernelRms.main_arg2) = m ((c.tc : Thread Cert.KernelRms.nD Cert.KernelRms.τ).loc Cert.KernelRms.main_arg2)
      ∧ r.2.mem ((c.tc : Thread Cert.KernelRms.nD Cert.KernelRms.τ).loc Cert.KernelRms.main_arg3) = m ((c.tc : Thread Cert.KernelRms.nD Cert.KernelRms.τ).loc Cert.KernelRms.main_arg3))
      ∧ r.2.sem = fun _ => 0)

def quiescent_KernelRmsIdeal [hKernelRmsIdeal : Cert.KernelRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1)
      ∧ r.2.mem ((c.tc : Thread Cert.KernelRmsIdeal.nD Cert.KernelRmsIdeal.τ).loc Cert.KernelRmsIdeal.main_arg2) = m ((c.tc : Thread Cert.KernelRmsIdeal.nD Cert.KernelRmsIdeal.τ).loc Cert.KernelRmsIdeal.main_arg2)
      ∧ r.2.mem ((c.tc : Thread Cert.KernelRmsIdeal.nD Cert.KernelRmsIdeal.τ).loc Cert.KernelRmsIdeal.main_arg3) = m ((c.tc : Thread Cert.KernelRmsIdeal.nD Cert.KernelRmsIdeal.τ).loc Cert.KernelRmsIdeal.main_arg3))
      ∧ r.2.sem = fun _ => 0)

def quiescent_ReferenceRmsIdeal [hReferenceRmsIdeal : Cert.ReferenceRmsIdeal.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1)
      ∧ r.2.mem ((c.tc : Thread Cert.ReferenceRmsIdeal.nD Cert.ReferenceRmsIdeal.τ).loc Cert.ReferenceRmsIdeal.main_arg2) = m ((c.tc : Thread Cert.ReferenceRmsIdeal.nD Cert.ReferenceRmsIdeal.τ).loc Cert.ReferenceRmsIdeal.main_arg2)
      ∧ r.2.mem ((c.tc : Thread Cert.ReferenceRmsIdeal.nD Cert.ReferenceRmsIdeal.τ).loc Cert.ReferenceRmsIdeal.main_arg3) = m ((c.tc : Thread Cert.ReferenceRmsIdeal.nD Cert.ReferenceRmsIdeal.τ).loc Cert.ReferenceRmsIdeal.main_arg3))
      ∧ r.2.sem = fun _ => 0)

def quiescent_KernelPbx [hKernelPbx : Cert.KernelPbx.Facts] : Prop :=
  ∀ (m : (ℓ : Loc Cert.KernelPbx.nD Cert.KernelPbx.τ Cert.KernelPbx.sig) → Buf (Elt Bits) ℓ) (g : Dev Cert.KernelPbx.nD → PrngReg), Pre_KernelPbx m →
    θ_run (Cert.KernelPbx.defs (F := Bits)) (onTc (τ := Cert.KernelPbx.τ) (Cert.KernelPbx.main (F := Bits))) ⟨m, fun _ => 0, g⟩ (fun r => (∀ c : Dev Cert.KernelPbx.nD,
      r.2.mem ((c.tc : Thread Cert.KernelPbx.nD Cert.KernelPbx.τ).loc Cert.KernelPbx.main_arg0) = m ((c.tc : Thread Cert.KernelPbx.nD Cert.KernelPbx.τ).loc Cert.KernelPbx.main_arg0)
      ∧ r.2.mem ((c.tc : Thread Cert.KernelPbx.nD Cert.KernelPbx.τ).loc Cert.KernelPbx.main_arg1) = m ((c.tc : Thread Cert.KernelPbx.nD Cert.KernelPbx.τ).loc Cert.KernelPbx.main_arg1))
      ∧ r.2.sem = fun _ => 0)

def quiescent_KernelPbxIdeal [hKernelPbxIdeal : Cert.KernelPbxIdeal.Facts] : Prop :=
  ∀ (m : (ℓ : Loc Cert.KernelPbxIdeal.nD Cert.KernelPbxIdeal.τ Cert.KernelPbxIdeal.sig) → Buf (Elt Ideal) ℓ) (g : Dev Cert.KernelPbxIdeal.nD → PrngReg), Pre_KernelPbxIdeal m →
    θ_run (Cert.KernelPbxIdeal.defs (F := Ideal)) (onTc (τ := Cert.KernelPbxIdeal.τ) (Cert.KernelPbxIdeal.main (F := Ideal))) ⟨m, fun _ => 0, g⟩ (fun r => (∀ c : Dev Cert.KernelPbxIdeal.nD,
      r.2.mem ((c.tc : Thread Cert.KernelPbxIdeal.nD Cert.KernelPbxIdeal.τ).loc Cert.KernelPbxIdeal.main_arg0) = m ((c.tc : Thread Cert.KernelPbxIdeal.nD Cert.KernelPbxIdeal.τ).loc Cert.KernelPbxIdeal.main_arg0)
      ∧ r.2.mem ((c.tc : Thread Cert.KernelPbxIdeal.nD Cert.KernelPbxIdeal.τ).loc Cert.KernelPbxIdeal.main_arg1) = m ((c.tc : Thread Cert.KernelPbxIdeal.nD Cert.KernelPbxIdeal.τ).loc Cert.KernelPbxIdeal.main_arg1))
      ∧ r.2.sem = fun _ => 0)

def quiescent_ReferencePbxIdeal [hReferencePbxIdeal : Cert.ReferencePbxIdeal.Facts] : Prop :=
  ∀ (m : (ℓ : Loc Cert.ReferencePbxIdeal.nD Cert.ReferencePbxIdeal.τ Cert.ReferencePbxIdeal.sig) → Buf (Elt Ideal) ℓ) (g : Dev Cert.ReferencePbxIdeal.nD → PrngReg), Pre_ReferencePbxIdeal m →
    θ_run (Cert.ReferencePbxIdeal.defs (F := Ideal)) (onTc (τ := Cert.ReferencePbxIdeal.τ) (Cert.ReferencePbxIdeal.main (F := Ideal))) ⟨m, fun _ => 0, g⟩ (fun r => (∀ c : Dev Cert.ReferencePbxIdeal.nD,
      r.2.mem ((c.tc : Thread Cert.ReferencePbxIdeal.nD Cert.ReferencePbxIdeal.τ).loc Cert.ReferencePbxIdeal.main_arg0) = m ((c.tc : Thread Cert.ReferencePbxIdeal.nD Cert.ReferencePbxIdeal.τ).loc Cert.ReferencePbxIdeal.main_arg0)
      ∧ r.2.mem ((c.tc : Thread Cert.ReferencePbxIdeal.nD Cert.ReferencePbxIdeal.τ).loc Cert.ReferencePbxIdeal.main_arg1) = m ((c.tc : Thread Cert.ReferencePbxIdeal.nD Cert.ReferencePbxIdeal.τ).loc Cert.ReferencePbxIdeal.main_arg1))
      ∧ r.2.sem = fun _ => 0)

def quiescent_KernelPbw [hKernelPbw : Cert.KernelPbw.Facts] : Prop :=
  ∀ (m : (ℓ : Loc Cert.KernelPbw.nD Cert.KernelPbw.τ Cert.KernelPbw.sig) → Buf (Elt Bits) ℓ) (g : Dev Cert.KernelPbw.nD → PrngReg), Pre_KernelPbw m →
    θ_run (Cert.KernelPbw.defs (F := Bits)) (onTc (τ := Cert.KernelPbw.τ) (Cert.KernelPbw.main (F := Bits))) ⟨m, fun _ => 0, g⟩ (fun r => (∀ c : Dev Cert.KernelPbw.nD,
      r.2.mem ((c.tc : Thread Cert.KernelPbw.nD Cert.KernelPbw.τ).loc Cert.KernelPbw.main_arg0) = m ((c.tc : Thread Cert.KernelPbw.nD Cert.KernelPbw.τ).loc Cert.KernelPbw.main_arg0)
      ∧ r.2.mem ((c.tc : Thread Cert.KernelPbw.nD Cert.KernelPbw.τ).loc Cert.KernelPbw.main_arg1) = m ((c.tc : Thread Cert.KernelPbw.nD Cert.KernelPbw.τ).loc Cert.KernelPbw.main_arg1))
      ∧ r.2.sem = fun _ => 0)

def quiescent_KernelPbwIdeal [hKernelPbwIdeal : Cert.KernelPbwIdeal.Facts] : Prop :=
  ∀ (m : (ℓ : Loc Cert.KernelPbwIdeal.nD Cert.KernelPbwIdeal.τ Cert.KernelPbwIdeal.sig) → Buf (Elt Ideal) ℓ) (g : Dev Cert.KernelPbwIdeal.nD → PrngReg), Pre_KernelPbwIdeal m →
    θ_run (Cert.KernelPbwIdeal.defs (F := Ideal)) (onTc (τ := Cert.KernelPbwIdeal.τ) (Cert.KernelPbwIdeal.main (F := Ideal))) ⟨m, fun _ => 0, g⟩ (fun r => (∀ c : Dev Cert.KernelPbwIdeal.nD,
      r.2.mem ((c.tc : Thread Cert.KernelPbwIdeal.nD Cert.KernelPbwIdeal.τ).loc Cert.KernelPbwIdeal.main_arg0) = m ((c.tc : Thread Cert.KernelPbwIdeal.nD Cert.KernelPbwIdeal.τ).loc Cert.KernelPbwIdeal.main_arg0)
      ∧ r.2.mem ((c.tc : Thread Cert.KernelPbwIdeal.nD Cert.KernelPbwIdeal.τ).loc Cert.KernelPbwIdeal.main_arg1) = m ((c.tc : Thread Cert.KernelPbwIdeal.nD Cert.KernelPbwIdeal.τ).loc Cert.KernelPbwIdeal.main_arg1))
      ∧ r.2.sem = fun _ => 0)

def quiescent_ReferencePbwIdeal [hReferencePbwIdeal : Cert.ReferencePbwIdeal.Facts] : Prop :=
  ∀ (m : (ℓ : Loc Cert.ReferencePbwIdeal.nD Cert.ReferencePbwIdeal.τ Cert.ReferencePbwIdeal.sig) → Buf (Elt Ideal) ℓ) (g : Dev Cert.ReferencePbwIdeal.nD → PrngReg), Pre_ReferencePbwIdeal m →
    θ_run (Cert.ReferencePbwIdeal.defs (F := Ideal)) (onTc (τ := Cert.ReferencePbwIdeal.τ) (Cert.ReferencePbwIdeal.main (F := Ideal))) ⟨m, fun _ => 0, g⟩ (fun r => (∀ c : Dev Cert.ReferencePbwIdeal.nD,
      r.2.mem ((c.tc : Thread Cert.ReferencePbwIdeal.nD Cert.ReferencePbwIdeal.τ).loc Cert.ReferencePbwIdeal.main_arg0) = m ((c.tc : Thread Cert.ReferencePbwIdeal.nD Cert.ReferencePbwIdeal.τ).loc Cert.ReferencePbwIdeal.main_arg0)
      ∧ r.2.mem ((c.tc : Thread Cert.ReferencePbwIdeal.nD Cert.ReferencePbwIdeal.τ).loc Cert.ReferencePbwIdeal.main_arg1) = m ((c.tc : Thread Cert.ReferencePbwIdeal.nD Cert.ReferencePbwIdeal.τ).loc Cert.ReferencePbwIdeal.main_arg1))
      ∧ r.2.sem = fun _ => 0)

def quiescent_KernelWbx [hKernelWbx : Cert.KernelWbx.Facts] : Prop :=
  ∀ (m : (ℓ : Loc Cert.KernelWbx.nD Cert.KernelWbx.τ Cert.KernelWbx.sig) → Buf (Elt Bits) ℓ) (g : Dev Cert.KernelWbx.nD → PrngReg), Pre_KernelWbx m →
    θ_run (Cert.KernelWbx.defs (F := Bits)) (onTc (τ := Cert.KernelWbx.τ) (Cert.KernelWbx.main (F := Bits))) ⟨m, fun _ => 0, g⟩ (fun r => (∀ c : Dev Cert.KernelWbx.nD,
      r.2.mem ((c.tc : Thread Cert.KernelWbx.nD Cert.KernelWbx.τ).loc Cert.KernelWbx.main_arg0) = m ((c.tc : Thread Cert.KernelWbx.nD Cert.KernelWbx.τ).loc Cert.KernelWbx.main_arg0)
      ∧ r.2.mem ((c.tc : Thread Cert.KernelWbx.nD Cert.KernelWbx.τ).loc Cert.KernelWbx.main_arg1) = m ((c.tc : Thread Cert.KernelWbx.nD Cert.KernelWbx.τ).loc Cert.KernelWbx.main_arg1))
      ∧ r.2.sem = fun _ => 0)

def quiescent_KernelWbxIdeal [hKernelWbxIdeal : Cert.KernelWbxIdeal.Facts] : Prop :=
  ∀ (m : (ℓ : Loc Cert.KernelWbxIdeal.nD Cert.KernelWbxIdeal.τ Cert.KernelWbxIdeal.sig) → Buf (Elt Ideal) ℓ) (g : Dev Cert.KernelWbxIdeal.nD → PrngReg), Pre_KernelWbxIdeal m →
    θ_run (Cert.KernelWbxIdeal.defs (F := Ideal)) (onTc (τ := Cert.KernelWbxIdeal.τ) (Cert.KernelWbxIdeal.main (F := Ideal))) ⟨m, fun _ => 0, g⟩ (fun r => (∀ c : Dev Cert.KernelWbxIdeal.nD,
      r.2.mem ((c.tc : Thread Cert.KernelWbxIdeal.nD Cert.KernelWbxIdeal.τ).loc Cert.KernelWbxIdeal.main_arg0) = m ((c.tc : Thread Cert.KernelWbxIdeal.nD Cert.KernelWbxIdeal.τ).loc Cert.KernelWbxIdeal.main_arg0)
      ∧ r.2.mem ((c.tc : Thread Cert.KernelWbxIdeal.nD Cert.KernelWbxIdeal.τ).loc Cert.KernelWbxIdeal.main_arg1) = m ((c.tc : Thread Cert.KernelWbxIdeal.nD Cert.KernelWbxIdeal.τ).loc Cert.KernelWbxIdeal.main_arg1))
      ∧ r.2.sem = fun _ => 0)

def quiescent_ReferenceWbxIdeal [hReferenceWbxIdeal : Cert.ReferenceWbxIdeal.Facts] : Prop :=
  ∀ (m : (ℓ : Loc Cert.ReferenceWbxIdeal.nD Cert.ReferenceWbxIdeal.τ Cert.ReferenceWbxIdeal.sig) → Buf (Elt Ideal) ℓ) (g : Dev Cert.ReferenceWbxIdeal.nD → PrngReg), Pre_ReferenceWbxIdeal m →
    θ_run (Cert.ReferenceWbxIdeal.defs (F := Ideal)) (onTc (τ := Cert.ReferenceWbxIdeal.τ) (Cert.ReferenceWbxIdeal.main (F := Ideal))) ⟨m, fun _ => 0, g⟩ (fun r => (∀ c : Dev Cert.ReferenceWbxIdeal.nD,
      r.2.mem ((c.tc : Thread Cert.ReferenceWbxIdeal.nD Cert.ReferenceWbxIdeal.τ).loc Cert.ReferenceWbxIdeal.main_arg0) = m ((c.tc : Thread Cert.ReferenceWbxIdeal.nD Cert.ReferenceWbxIdeal.τ).loc Cert.ReferenceWbxIdeal.main_arg0)
      ∧ r.2.mem ((c.tc : Thread Cert.ReferenceWbxIdeal.nD Cert.ReferenceWbxIdeal.τ).loc Cert.ReferenceWbxIdeal.main_arg1) = m ((c.tc : Thread Cert.ReferenceWbxIdeal.nD Cert.ReferenceWbxIdeal.τ).loc Cert.ReferenceWbxIdeal.main_arg1))
      ∧ r.2.sem = fun _ => 0)

def quiescent_KernelWbw [hKernelWbw : Cert.KernelWbw.Facts] : Prop :=
  ∀ (m : (ℓ : Loc Cert.KernelWbw.nD Cert.KernelWbw.τ Cert.KernelWbw.sig) → Buf (Elt Bits) ℓ) (g : Dev Cert.KernelWbw.nD → PrngReg), Pre_KernelWbw m →
    θ_run (Cert.KernelWbw.defs (F := Bits)) (onTc (τ := Cert.KernelWbw.τ) (Cert.KernelWbw.main (F := Bits))) ⟨m, fun _ => 0, g⟩ (fun r => (∀ c : Dev Cert.KernelWbw.nD,
      r.2.mem ((c.tc : Thread Cert.KernelWbw.nD Cert.KernelWbw.τ).loc Cert.KernelWbw.main_arg0) = m ((c.tc : Thread Cert.KernelWbw.nD Cert.KernelWbw.τ).loc Cert.KernelWbw.main_arg0)
      ∧ r.2.mem ((c.tc : Thread Cert.KernelWbw.nD Cert.KernelWbw.τ).loc Cert.KernelWbw.main_arg1) = m ((c.tc : Thread Cert.KernelWbw.nD Cert.KernelWbw.τ).loc Cert.KernelWbw.main_arg1))
      ∧ r.2.sem = fun _ => 0)

def quiescent_KernelWbwIdeal [hKernelWbwIdeal : Cert.KernelWbwIdeal.Facts] : Prop :=
  ∀ (m : (ℓ : Loc Cert.KernelWbwIdeal.nD Cert.KernelWbwIdeal.τ Cert.KernelWbwIdeal.sig) → Buf (Elt Ideal) ℓ) (g : Dev Cert.KernelWbwIdeal.nD → PrngReg), Pre_KernelWbwIdeal m →
    θ_run (Cert.KernelWbwIdeal.defs (F := Ideal)) (onTc (τ := Cert.KernelWbwIdeal.τ) (Cert.KernelWbwIdeal.main (F := Ideal))) ⟨m, fun _ => 0, g⟩ (fun r => (∀ c : Dev Cert.KernelWbwIdeal.nD,
      r.2.mem ((c.tc : Thread Cert.KernelWbwIdeal.nD Cert.KernelWbwIdeal.τ).loc Cert.KernelWbwIdeal.main_arg0) = m ((c.tc : Thread Cert.KernelWbwIdeal.nD Cert.KernelWbwIdeal.τ).loc Cert.KernelWbwIdeal.main_arg0)
      ∧ r.2.mem ((c.tc : Thread Cert.KernelWbwIdeal.nD Cert.KernelWbwIdeal.τ).loc Cert.KernelWbwIdeal.main_arg1) = m ((c.tc : Thread Cert.KernelWbwIdeal.nD Cert.KernelWbwIdeal.τ).loc Cert.KernelWbwIdeal.main_arg1))
      ∧ r.2.sem = fun _ => 0)

def quiescent_ReferenceWbwIdeal [hReferenceWbwIdeal : Cert.ReferenceWbwIdeal.Facts] : Prop :=
  ∀ (m : (ℓ : Loc Cert.ReferenceWbwIdeal.nD Cert.ReferenceWbwIdeal.τ Cert.ReferenceWbwIdeal.sig) → Buf (Elt Ideal) ℓ) (g : Dev Cert.ReferenceWbwIdeal.nD → PrngReg), Pre_ReferenceWbwIdeal m →
    θ_run (Cert.ReferenceWbwIdeal.defs (F := Ideal)) (onTc (τ := Cert.ReferenceWbwIdeal.τ) (Cert.ReferenceWbwIdeal.main (F := Ideal))) ⟨m, fun _ => 0, g⟩ (fun r => (∀ c : Dev Cert.ReferenceWbwIdeal.nD,
      r.2.mem ((c.tc : Thread Cert.ReferenceWbwIdeal.nD Cert.ReferenceWbwIdeal.τ).loc Cert.ReferenceWbwIdeal.main_arg0) = m ((c.tc : Thread Cert.ReferenceWbwIdeal.nD Cert.ReferenceWbwIdeal.τ).loc Cert.ReferenceWbwIdeal.main_arg0)
      ∧ r.2.mem ((c.tc : Thread Cert.ReferenceWbwIdeal.nD Cert.ReferenceWbwIdeal.τ).loc Cert.ReferenceWbwIdeal.main_arg1) = m ((c.tc : Thread Cert.ReferenceWbwIdeal.nD Cert.ReferenceWbwIdeal.τ).loc Cert.ReferenceWbwIdeal.main_arg1))
      ∧ r.2.sem = fun _ => 0)

def quiescent_KernelAbx [hKernelAbx : Cert.KernelAbx.Facts] : Prop :=
  ∀ (m : (ℓ : Loc Cert.KernelAbx.nD Cert.KernelAbx.τ Cert.KernelAbx.sig) → Buf (Elt Bits) ℓ) (g : Dev Cert.KernelAbx.nD → PrngReg), Pre_KernelAbx m →
    θ_run (Cert.KernelAbx.defs (F := Bits)) (onTc (τ := Cert.KernelAbx.τ) (Cert.KernelAbx.main (F := Bits))) ⟨m, fun _ => 0, g⟩ (fun r => (∀ c : Dev Cert.KernelAbx.nD,
      r.2.mem ((c.tc : Thread Cert.KernelAbx.nD Cert.KernelAbx.τ).loc Cert.KernelAbx.main_arg0) = m ((c.tc : Thread Cert.KernelAbx.nD Cert.KernelAbx.τ).loc Cert.KernelAbx.main_arg0)
      ∧ r.2.mem ((c.tc : Thread Cert.KernelAbx.nD Cert.KernelAbx.τ).loc Cert.KernelAbx.main_arg1) = m ((c.tc : Thread Cert.KernelAbx.nD Cert.KernelAbx.τ).loc Cert.KernelAbx.main_arg1))
      ∧ r.2.sem = fun _ => 0)

def quiescent_KernelAbxIdeal [hKernelAbxIdeal : Cert.KernelAbxIdeal.Facts] : Prop :=
  ∀ (m : (ℓ : Loc Cert.KernelAbxIdeal.nD Cert.KernelAbxIdeal.τ Cert.KernelAbxIdeal.sig) → Buf (Elt Ideal) ℓ) (g : Dev Cert.KernelAbxIdeal.nD → PrngReg), Pre_KernelAbxIdeal m →
    θ_run (Cert.KernelAbxIdeal.defs (F := Ideal)) (onTc (τ := Cert.KernelAbxIdeal.τ) (Cert.KernelAbxIdeal.main (F := Ideal))) ⟨m, fun _ => 0, g⟩ (fun r => (∀ c : Dev Cert.KernelAbxIdeal.nD,
      r.2.mem ((c.tc : Thread Cert.KernelAbxIdeal.nD Cert.KernelAbxIdeal.τ).loc Cert.KernelAbxIdeal.main_arg0) = m ((c.tc : Thread Cert.KernelAbxIdeal.nD Cert.KernelAbxIdeal.τ).loc Cert.KernelAbxIdeal.main_arg0)
      ∧ r.2.mem ((c.tc : Thread Cert.KernelAbxIdeal.nD Cert.KernelAbxIdeal.τ).loc Cert.KernelAbxIdeal.main_arg1) = m ((c.tc : Thread Cert.KernelAbxIdeal.nD Cert.KernelAbxIdeal.τ).loc Cert.KernelAbxIdeal.main_arg1))
      ∧ r.2.sem = fun _ => 0)

def quiescent_ReferenceAbxIdeal [hReferenceAbxIdeal : Cert.ReferenceAbxIdeal.Facts] : Prop :=
  ∀ (m : (ℓ : Loc Cert.ReferenceAbxIdeal.nD Cert.ReferenceAbxIdeal.τ Cert.ReferenceAbxIdeal.sig) → Buf (Elt Ideal) ℓ) (g : Dev Cert.ReferenceAbxIdeal.nD → PrngReg), Pre_ReferenceAbxIdeal m →
    θ_run (Cert.ReferenceAbxIdeal.defs (F := Ideal)) (onTc (τ := Cert.ReferenceAbxIdeal.τ) (Cert.ReferenceAbxIdeal.main (F := Ideal))) ⟨m, fun _ => 0, g⟩ (fun r => (∀ c : Dev Cert.ReferenceAbxIdeal.nD,
      r.2.mem ((c.tc : Thread Cert.ReferenceAbxIdeal.nD Cert.ReferenceAbxIdeal.τ).loc Cert.ReferenceAbxIdeal.main_arg0) = m ((c.tc : Thread Cert.ReferenceAbxIdeal.nD Cert.ReferenceAbxIdeal.τ).loc Cert.ReferenceAbxIdeal.main_arg0)
      ∧ r.2.mem ((c.tc : Thread Cert.ReferenceAbxIdeal.nD Cert.ReferenceAbxIdeal.τ).loc Cert.ReferenceAbxIdeal.main_arg1) = m ((c.tc : Thread Cert.ReferenceAbxIdeal.nD Cert.ReferenceAbxIdeal.τ).loc Cert.ReferenceAbxIdeal.main_arg1))
      ∧ r.2.sem = fun _ => 0)

def quiescent_KernelAbw [hKernelAbw : Cert.KernelAbw.Facts] : Prop :=
  ∀ (m : (ℓ : Loc Cert.KernelAbw.nD Cert.KernelAbw.τ Cert.KernelAbw.sig) → Buf (Elt Bits) ℓ) (g : Dev Cert.KernelAbw.nD → PrngReg), Pre_KernelAbw m →
    θ_run (Cert.KernelAbw.defs (F := Bits)) (onTc (τ := Cert.KernelAbw.τ) (Cert.KernelAbw.main (F := Bits))) ⟨m, fun _ => 0, g⟩ (fun r => (∀ c : Dev Cert.KernelAbw.nD,
      r.2.mem ((c.tc : Thread Cert.KernelAbw.nD Cert.KernelAbw.τ).loc Cert.KernelAbw.main_arg0) = m ((c.tc : Thread Cert.KernelAbw.nD Cert.KernelAbw.τ).loc Cert.KernelAbw.main_arg0)
      ∧ r.2.mem ((c.tc : Thread Cert.KernelAbw.nD Cert.KernelAbw.τ).loc Cert.KernelAbw.main_arg1) = m ((c.tc : Thread Cert.KernelAbw.nD Cert.KernelAbw.τ).loc Cert.KernelAbw.main_arg1))
      ∧ r.2.sem = fun _ => 0)

def quiescent_KernelAbwIdeal [hKernelAbwIdeal : Cert.KernelAbwIdeal.Facts] : Prop :=
  ∀ (m : (ℓ : Loc Cert.KernelAbwIdeal.nD Cert.KernelAbwIdeal.τ Cert.KernelAbwIdeal.sig) → Buf (Elt Ideal) ℓ) (g : Dev Cert.KernelAbwIdeal.nD → PrngReg), Pre_KernelAbwIdeal m →
    θ_run (Cert.KernelAbwIdeal.defs (F := Ideal)) (onTc (τ := Cert.KernelAbwIdeal.τ) (Cert.KernelAbwIdeal.main (F := Ideal))) ⟨m, fun _ => 0, g⟩ (fun r => (∀ c : Dev Cert.KernelAbwIdeal.nD,
      r.2.mem ((c.tc : Thread Cert.KernelAbwIdeal.nD Cert.KernelAbwIdeal.τ).loc Cert.KernelAbwIdeal.main_arg0) = m ((c.tc : Thread Cert.KernelAbwIdeal.nD Cert.KernelAbwIdeal.τ).loc Cert.KernelAbwIdeal.main_arg0)
      ∧ r.2.mem ((c.tc : Thread Cert.KernelAbwIdeal.nD Cert.KernelAbwIdeal.τ).loc Cert.KernelAbwIdeal.main_arg1) = m ((c.tc : Thread Cert.KernelAbwIdeal.nD Cert.KernelAbwIdeal.τ).loc Cert.KernelAbwIdeal.main_arg1))
      ∧ r.2.sem = fun _ => 0)

def quiescent_ReferenceAbwIdeal [hReferenceAbwIdeal : Cert.ReferenceAbwIdeal.Facts] : Prop :=
  ∀ (m : (ℓ : Loc Cert.ReferenceAbwIdeal.nD Cert.ReferenceAbwIdeal.τ Cert.ReferenceAbwIdeal.sig) → Buf (Elt Ideal) ℓ) (g : Dev Cert.ReferenceAbwIdeal.nD → PrngReg), Pre_ReferenceAbwIdeal m →
    θ_run (Cert.ReferenceAbwIdeal.defs (F := Ideal)) (onTc (τ := Cert.ReferenceAbwIdeal.τ) (Cert.ReferenceAbwIdeal.main (F := Ideal))) ⟨m, fun _ => 0, g⟩ (fun r => (∀ c : Dev Cert.ReferenceAbwIdeal.nD,
      r.2.mem ((c.tc : Thread Cert.ReferenceAbwIdeal.nD Cert.ReferenceAbwIdeal.τ).loc Cert.ReferenceAbwIdeal.main_arg0) = m ((c.tc : Thread Cert.ReferenceAbwIdeal.nD Cert.ReferenceAbwIdeal.τ).loc Cert.ReferenceAbwIdeal.main_arg0)
      ∧ r.2.mem ((c.tc : Thread Cert.ReferenceAbwIdeal.nD Cert.ReferenceAbwIdeal.τ).loc Cert.ReferenceAbwIdeal.main_arg1) = m ((c.tc : Thread Cert.ReferenceAbwIdeal.nD Cert.ReferenceAbwIdeal.τ).loc Cert.ReferenceAbwIdeal.main_arg1))
      ∧ r.2.sem = fun _ => 0)

def quiescent_KernelBbx [hKernelBbx : Cert.KernelBbx.Facts] : Prop :=
  ∀ (m : (ℓ : Loc Cert.KernelBbx.nD Cert.KernelBbx.τ Cert.KernelBbx.sig) → Buf (Elt Bits) ℓ) (g : Dev Cert.KernelBbx.nD → PrngReg), Pre_KernelBbx m →
    θ_run (Cert.KernelBbx.defs (F := Bits)) (onTc (τ := Cert.KernelBbx.τ) (Cert.KernelBbx.main (F := Bits))) ⟨m, fun _ => 0, g⟩ (fun r => (∀ c : Dev Cert.KernelBbx.nD,
      r.2.mem ((c.tc : Thread Cert.KernelBbx.nD Cert.KernelBbx.τ).loc Cert.KernelBbx.main_arg0) = m ((c.tc : Thread Cert.KernelBbx.nD Cert.KernelBbx.τ).loc Cert.KernelBbx.main_arg0)
      ∧ r.2.mem ((c.tc : Thread Cert.KernelBbx.nD Cert.KernelBbx.τ).loc Cert.KernelBbx.main_arg1) = m ((c.tc : Thread Cert.KernelBbx.nD Cert.KernelBbx.τ).loc Cert.KernelBbx.main_arg1))
      ∧ r.2.sem = fun _ => 0)

def quiescent_KernelBbxIdeal [hKernelBbxIdeal : Cert.KernelBbxIdeal.Facts] : Prop :=
  ∀ (m : (ℓ : Loc Cert.KernelBbxIdeal.nD Cert.KernelBbxIdeal.τ Cert.KernelBbxIdeal.sig) → Buf (Elt Ideal) ℓ) (g : Dev Cert.KernelBbxIdeal.nD → PrngReg), Pre_KernelBbxIdeal m →
    θ_run (Cert.KernelBbxIdeal.defs (F := Ideal)) (onTc (τ := Cert.KernelBbxIdeal.τ) (Cert.KernelBbxIdeal.main (F := Ideal))) ⟨m, fun _ => 0, g⟩ (fun r => (∀ c : Dev Cert.KernelBbxIdeal.nD,
      r.2.mem ((c.tc : Thread Cert.KernelBbxIdeal.nD Cert.KernelBbxIdeal.τ).loc Cert.KernelBbxIdeal.main_arg0) = m ((c.tc : Thread Cert.KernelBbxIdeal.nD Cert.KernelBbxIdeal.τ).loc Cert.KernelBbxIdeal.main_arg0)
      ∧ r.2.mem ((c.tc : Thread Cert.KernelBbxIdeal.nD Cert.KernelBbxIdeal.τ).loc Cert.KernelBbxIdeal.main_arg1) = m ((c.tc : Thread Cert.KernelBbxIdeal.nD Cert.KernelBbxIdeal.τ).loc Cert.KernelBbxIdeal.main_arg1))
      ∧ r.2.sem = fun _ => 0)

def quiescent_ReferenceBbxIdeal [hReferenceBbxIdeal : Cert.ReferenceBbxIdeal.Facts] : Prop :=
  ∀ (m : (ℓ : Loc Cert.ReferenceBbxIdeal.nD Cert.ReferenceBbxIdeal.τ Cert.ReferenceBbxIdeal.sig) → Buf (Elt Ideal) ℓ) (g : Dev Cert.ReferenceBbxIdeal.nD → PrngReg), Pre_ReferenceBbxIdeal m →
    θ_run (Cert.ReferenceBbxIdeal.defs (F := Ideal)) (onTc (τ := Cert.ReferenceBbxIdeal.τ) (Cert.ReferenceBbxIdeal.main (F := Ideal))) ⟨m, fun _ => 0, g⟩ (fun r => (∀ c : Dev Cert.ReferenceBbxIdeal.nD,
      r.2.mem ((c.tc : Thread Cert.ReferenceBbxIdeal.nD Cert.ReferenceBbxIdeal.τ).loc Cert.ReferenceBbxIdeal.main_arg0) = m ((c.tc : Thread Cert.ReferenceBbxIdeal.nD Cert.ReferenceBbxIdeal.τ).loc Cert.ReferenceBbxIdeal.main_arg0)
      ∧ r.2.mem ((c.tc : Thread Cert.ReferenceBbxIdeal.nD Cert.ReferenceBbxIdeal.τ).loc Cert.ReferenceBbxIdeal.main_arg1) = m ((c.tc : Thread Cert.ReferenceBbxIdeal.nD Cert.ReferenceBbxIdeal.τ).loc Cert.ReferenceBbxIdeal.main_arg1))
      ∧ r.2.sem = fun _ => 0)

def quiescent_KernelBbw [hKernelBbw : Cert.KernelBbw.Facts] : Prop :=
  ∀ (m : (ℓ : Loc Cert.KernelBbw.nD Cert.KernelBbw.τ Cert.KernelBbw.sig) → Buf (Elt Bits) ℓ) (g : Dev Cert.KernelBbw.nD → PrngReg), Pre_KernelBbw m →
    θ_run (Cert.KernelBbw.defs (F := Bits)) (onTc (τ := Cert.KernelBbw.τ) (Cert.KernelBbw.main (F := Bits))) ⟨m, fun _ => 0, g⟩ (fun r => (∀ c : Dev Cert.KernelBbw.nD,
      r.2.mem ((c.tc : Thread Cert.KernelBbw.nD Cert.KernelBbw.τ).loc Cert.KernelBbw.main_arg0) = m ((c.tc : Thread Cert.KernelBbw.nD Cert.KernelBbw.τ).loc Cert.KernelBbw.main_arg0)
      ∧ r.2.mem ((c.tc : Thread Cert.KernelBbw.nD Cert.KernelBbw.τ).loc Cert.KernelBbw.main_arg1) = m ((c.tc : Thread Cert.KernelBbw.nD Cert.KernelBbw.τ).loc Cert.KernelBbw.main_arg1))
      ∧ r.2.sem = fun _ => 0)

def quiescent_KernelBbwIdeal [hKernelBbwIdeal : Cert.KernelBbwIdeal.Facts] : Prop :=
  ∀ (m : (ℓ : Loc Cert.KernelBbwIdeal.nD Cert.KernelBbwIdeal.τ Cert.KernelBbwIdeal.sig) → Buf (Elt Ideal) ℓ) (g : Dev Cert.KernelBbwIdeal.nD → PrngReg), Pre_KernelBbwIdeal m →
    θ_run (Cert.KernelBbwIdeal.defs (F := Ideal)) (onTc (τ := Cert.KernelBbwIdeal.τ) (Cert.KernelBbwIdeal.main (F := Ideal))) ⟨m, fun _ => 0, g⟩ (fun r => (∀ c : Dev Cert.KernelBbwIdeal.nD,
      r.2.mem ((c.tc : Thread Cert.KernelBbwIdeal.nD Cert.KernelBbwIdeal.τ).loc Cert.KernelBbwIdeal.main_arg0) = m ((c.tc : Thread Cert.KernelBbwIdeal.nD Cert.KernelBbwIdeal.τ).loc Cert.KernelBbwIdeal.main_arg0)
      ∧ r.2.mem ((c.tc : Thread Cert.KernelBbwIdeal.nD Cert.KernelBbwIdeal.τ).loc Cert.KernelBbwIdeal.main_arg1) = m ((c.tc : Thread Cert.KernelBbwIdeal.nD Cert.KernelBbwIdeal.τ).loc Cert.KernelBbwIdeal.main_arg1))
      ∧ r.2.sem = fun _ => 0)

def quiescent_ReferenceBbwIdeal [hReferenceBbwIdeal : Cert.ReferenceBbwIdeal.Facts] : Prop :=
  ∀ (m : (ℓ : Loc Cert.ReferenceBbwIdeal.nD Cert.ReferenceBbwIdeal.τ Cert.ReferenceBbwIdeal.sig) → Buf (Elt Ideal) ℓ) (g : Dev Cert.ReferenceBbwIdeal.nD → PrngReg), Pre_ReferenceBbwIdeal m →
    θ_run (Cert.ReferenceBbwIdeal.defs (F := Ideal)) (onTc (τ := Cert.ReferenceBbwIdeal.τ) (Cert.ReferenceBbwIdeal.main (F := Ideal))) ⟨m, fun _ => 0, g⟩ (fun r => (∀ c : Dev Cert.ReferenceBbwIdeal.nD,
      r.2.mem ((c.tc : Thread Cert.ReferenceBbwIdeal.nD Cert.ReferenceBbwIdeal.τ).loc Cert.ReferenceBbwIdeal.main_arg0) = m ((c.tc : Thread Cert.ReferenceBbwIdeal.nD Cert.ReferenceBbwIdeal.τ).loc Cert.ReferenceBbwIdeal.main_arg0)
      ∧ r.2.mem ((c.tc : Thread Cert.ReferenceBbwIdeal.nD Cert.ReferenceBbwIdeal.τ).loc Cert.ReferenceBbwIdeal.main_arg1) = m ((c.tc : Thread Cert.ReferenceBbwIdeal.nD Cert.ReferenceBbwIdeal.τ).loc Cert.ReferenceBbwIdeal.main_arg1))
      ∧ r.2.sem = fun _ => 0)

def quiescent_KernelPf [hKernelPf : Cert.KernelPf.Facts] : Prop :=
  ∀ (m : (ℓ : Loc Cert.KernelPf.nD Cert.KernelPf.τ Cert.KernelPf.sig) → Buf (Elt Bits) ℓ) (g : Dev Cert.KernelPf.nD → PrngReg), Pre_KernelPf m →
    θ_run (Cert.KernelPf.defs (F := Bits)) (onTc (τ := Cert.KernelPf.τ) (Cert.KernelPf.main (F := Bits))) ⟨m, fun _ => 0, g⟩ (fun r => (∀ c : Dev Cert.KernelPf.nD,
      r.2.mem ((c.tc : Thread Cert.KernelPf.nD Cert.KernelPf.τ).loc Cert.KernelPf.main_arg0) = m ((c.tc : Thread Cert.KernelPf.nD Cert.KernelPf.τ).loc Cert.KernelPf.main_arg0)
      ∧ r.2.mem ((c.tc : Thread Cert.KernelPf.nD Cert.KernelPf.τ).loc Cert.KernelPf.main_arg1) = m ((c.tc : Thread Cert.KernelPf.nD Cert.KernelPf.τ).loc Cert.KernelPf.main_arg1))
      ∧ r.2.sem = fun _ => 0)

def quiescent_KernelPfIdeal [hKernelPfIdeal : Cert.KernelPfIdeal.Facts] : Prop :=
  ∀ (m : (ℓ : Loc Cert.KernelPfIdeal.nD Cert.KernelPfIdeal.τ Cert.KernelPfIdeal.sig) → Buf (Elt Ideal) ℓ) (g : Dev Cert.KernelPfIdeal.nD → PrngReg), Pre_KernelPfIdeal m →
    θ_run (Cert.KernelPfIdeal.defs (F := Ideal)) (onTc (τ := Cert.KernelPfIdeal.τ) (Cert.KernelPfIdeal.main (F := Ideal))) ⟨m, fun _ => 0, g⟩ (fun r => (∀ c : Dev Cert.KernelPfIdeal.nD,
      r.2.mem ((c.tc : Thread Cert.KernelPfIdeal.nD Cert.KernelPfIdeal.τ).loc Cert.KernelPfIdeal.main_arg0) = m ((c.tc : Thread Cert.KernelPfIdeal.nD Cert.KernelPfIdeal.τ).loc Cert.KernelPfIdeal.main_arg0)
      ∧ r.2.mem ((c.tc : Thread Cert.KernelPfIdeal.nD Cert.KernelPfIdeal.τ).loc Cert.KernelPfIdeal.main_arg1) = m ((c.tc : Thread Cert.KernelPfIdeal.nD Cert.KernelPfIdeal.τ).loc Cert.KernelPfIdeal.main_arg1))
      ∧ r.2.sem = fun _ => 0)

def quiescent_ReferencePfIdeal [hReferencePfIdeal : Cert.ReferencePfIdeal.Facts] : Prop :=
  ∀ (m : (ℓ : Loc Cert.ReferencePfIdeal.nD Cert.ReferencePfIdeal.τ Cert.ReferencePfIdeal.sig) → Buf (Elt Ideal) ℓ) (g : Dev Cert.ReferencePfIdeal.nD → PrngReg), Pre_ReferencePfIdeal m →
    θ_run (Cert.ReferencePfIdeal.defs (F := Ideal)) (onTc (τ := Cert.ReferencePfIdeal.τ) (Cert.ReferencePfIdeal.main (F := Ideal))) ⟨m, fun _ => 0, g⟩ (fun r => (∀ c : Dev Cert.ReferencePfIdeal.nD,
      r.2.mem ((c.tc : Thread Cert.ReferencePfIdeal.nD Cert.ReferencePfIdeal.τ).loc Cert.ReferencePfIdeal.main_arg0) = m ((c.tc : Thread Cert.ReferencePfIdeal.nD Cert.ReferencePfIdeal.τ).loc Cert.ReferencePfIdeal.main_arg0)
      ∧ r.2.mem ((c.tc : Thread Cert.ReferencePfIdeal.nD Cert.ReferencePfIdeal.τ).loc Cert.ReferencePfIdeal.main_arg1) = m ((c.tc : Thread Cert.ReferencePfIdeal.nD Cert.ReferencePfIdeal.τ).loc Cert.ReferencePfIdeal.main_arg1))
      ∧ r.2.sem = fun _ => 0)

def quiescent_KernelWf [hKernelWf : Cert.KernelWf.Facts] : Prop :=
  ∀ (m : (ℓ : Loc Cert.KernelWf.nD Cert.KernelWf.τ Cert.KernelWf.sig) → Buf (Elt Bits) ℓ) (g : Dev Cert.KernelWf.nD → PrngReg), Pre_KernelWf m →
    θ_run (Cert.KernelWf.defs (F := Bits)) (onTc (τ := Cert.KernelWf.τ) (Cert.KernelWf.main (F := Bits))) ⟨m, fun _ => 0, g⟩ (fun r => (∀ c : Dev Cert.KernelWf.nD,
      r.2.mem ((c.tc : Thread Cert.KernelWf.nD Cert.KernelWf.τ).loc Cert.KernelWf.main_arg0) = m ((c.tc : Thread Cert.KernelWf.nD Cert.KernelWf.τ).loc Cert.KernelWf.main_arg0)
      ∧ r.2.mem ((c.tc : Thread Cert.KernelWf.nD Cert.KernelWf.τ).loc Cert.KernelWf.main_arg1) = m ((c.tc : Thread Cert.KernelWf.nD Cert.KernelWf.τ).loc Cert.KernelWf.main_arg1)
      ∧ r.2.mem ((c.tc : Thread Cert.KernelWf.nD Cert.KernelWf.τ).loc Cert.KernelWf.main_arg2) = m ((c.tc : Thread Cert.KernelWf.nD Cert.KernelWf.τ).loc Cert.KernelWf.main_arg2))
      ∧ r.2.sem = fun _ => 0)

def quiescent_KernelWfIdeal [hKernelWfIdeal : Cert.KernelWfIdeal.Facts] : Prop :=
  ∀ (m : (ℓ : Loc Cert.KernelWfIdeal.nD Cert.KernelWfIdeal.τ Cert.KernelWfIdeal.sig) → Buf (Elt Ideal) ℓ) (g : Dev Cert.KernelWfIdeal.nD → PrngReg), Pre_KernelWfIdeal m →
    θ_run (Cert.KernelWfIdeal.defs (F := Ideal)) (onTc (τ := Cert.KernelWfIdeal.τ) (Cert.KernelWfIdeal.main (F := Ideal))) ⟨m, fun _ => 0, g⟩ (fun r => (∀ c : Dev Cert.KernelWfIdeal.nD,
      r.2.mem ((c.tc : Thread Cert.KernelWfIdeal.nD Cert.KernelWfIdeal.τ).loc Cert.KernelWfIdeal.main_arg0) = m ((c.tc : Thread Cert.KernelWfIdeal.nD Cert.KernelWfIdeal.τ).loc Cert.KernelWfIdeal.main_arg0)
      ∧ r.2.mem ((c.tc : Thread Cert.KernelWfIdeal.nD Cert.KernelWfIdeal.τ).loc Cert.KernelWfIdeal.main_arg1) = m ((c.tc : Thread Cert.KernelWfIdeal.nD Cert.KernelWfIdeal.τ).loc Cert.KernelWfIdeal.main_arg1)
      ∧ r.2.mem ((c.tc : Thread Cert.KernelWfIdeal.nD Cert.KernelWfIdeal.τ).loc Cert.KernelWfIdeal.main_arg2) = m ((c.tc : Thread Cert.KernelWfIdeal.nD Cert.KernelWfIdeal.τ).loc Cert.KernelWfIdeal.main_arg2))
      ∧ r.2.sem = fun _ => 0)

def quiescent_ReferenceWfIdeal [hReferenceWfIdeal : Cert.ReferenceWfIdeal.Facts] : Prop :=
  ∀ (m : (ℓ : Loc Cert.ReferenceWfIdeal.nD Cert.ReferenceWfIdeal.τ Cert.ReferenceWfIdeal.sig) → Buf (Elt Ideal) ℓ) (g : Dev Cert.ReferenceWfIdeal.nD → PrngReg), Pre_ReferenceWfIdeal m →
    θ_run (Cert.ReferenceWfIdeal.defs (F := Ideal)) (onTc (τ := Cert.ReferenceWfIdeal.τ) (Cert.ReferenceWfIdeal.main (F := Ideal))) ⟨m, fun _ => 0, g⟩ (fun r => (∀ c : Dev Cert.ReferenceWfIdeal.nD,
      r.2.mem ((c.tc : Thread Cert.ReferenceWfIdeal.nD Cert.ReferenceWfIdeal.τ).loc Cert.ReferenceWfIdeal.main_arg0) = m ((c.tc : Thread Cert.ReferenceWfIdeal.nD Cert.ReferenceWfIdeal.τ).loc Cert.ReferenceWfIdeal.main_arg0)
      ∧ r.2.mem ((c.tc : Thread Cert.ReferenceWfIdeal.nD Cert.ReferenceWfIdeal.τ).loc Cert.ReferenceWfIdeal.main_arg1) = m ((c.tc : Thread Cert.ReferenceWfIdeal.nD Cert.ReferenceWfIdeal.τ).loc Cert.ReferenceWfIdeal.main_arg1)
      ∧ r.2.mem ((c.tc : Thread Cert.ReferenceWfIdeal.nD Cert.ReferenceWfIdeal.τ).loc Cert.ReferenceWfIdeal.main_arg2) = m ((c.tc : Thread Cert.ReferenceWfIdeal.nD Cert.ReferenceWfIdeal.τ).loc Cert.ReferenceWfIdeal.main_arg2))
      ∧ r.2.sem = fun _ => 0)

def quiescent_KernelAf [hKernelAf : Cert.KernelAf.Facts] : Prop :=
  ∀ (m : (ℓ : Loc Cert.KernelAf.nD Cert.KernelAf.τ Cert.KernelAf.sig) → Buf (Elt Bits) ℓ) (g : Dev Cert.KernelAf.nD → PrngReg), Pre_KernelAf m →
    θ_run (Cert.KernelAf.defs (F := Bits)) (onTc (τ := Cert.KernelAf.τ) (Cert.KernelAf.main (F := Bits))) ⟨m, fun _ => 0, g⟩ (fun r => (∀ c : Dev Cert.KernelAf.nD,
      r.2.mem ((c.tc : Thread Cert.KernelAf.nD Cert.KernelAf.τ).loc Cert.KernelAf.main_arg0) = m ((c.tc : Thread Cert.KernelAf.nD Cert.KernelAf.τ).loc Cert.KernelAf.main_arg0)
      ∧ r.2.mem ((c.tc : Thread Cert.KernelAf.nD Cert.KernelAf.τ).loc Cert.KernelAf.main_arg1) = m ((c.tc : Thread Cert.KernelAf.nD Cert.KernelAf.τ).loc Cert.KernelAf.main_arg1))
      ∧ r.2.sem = fun _ => 0)

def quiescent_KernelAfIdeal [hKernelAfIdeal : Cert.KernelAfIdeal.Facts] : Prop :=
  ∀ (m : (ℓ : Loc Cert.KernelAfIdeal.nD Cert.KernelAfIdeal.τ Cert.KernelAfIdeal.sig) → Buf (Elt Ideal) ℓ) (g : Dev Cert.KernelAfIdeal.nD → PrngReg), Pre_KernelAfIdeal m →
    θ_run (Cert.KernelAfIdeal.defs (F := Ideal)) (onTc (τ := Cert.KernelAfIdeal.τ) (Cert.KernelAfIdeal.main (F := Ideal))) ⟨m, fun _ => 0, g⟩ (fun r => (∀ c : Dev Cert.KernelAfIdeal.nD,
      r.2.mem ((c.tc : Thread Cert.KernelAfIdeal.nD Cert.KernelAfIdeal.τ).loc Cert.KernelAfIdeal.main_arg0) = m ((c.tc : Thread Cert.KernelAfIdeal.nD Cert.KernelAfIdeal.τ).loc Cert.KernelAfIdeal.main_arg0)
      ∧ r.2.mem ((c.tc : Thread Cert.KernelAfIdeal.nD Cert.KernelAfIdeal.τ).loc Cert.KernelAfIdeal.main_arg1) = m ((c.tc : Thread Cert.KernelAfIdeal.nD Cert.KernelAfIdeal.τ).loc Cert.KernelAfIdeal.main_arg1))
      ∧ r.2.sem = fun _ => 0)

def quiescent_ReferenceAfIdeal [hReferenceAfIdeal : Cert.ReferenceAfIdeal.Facts] : Prop :=
  ∀ (m : (ℓ : Loc Cert.ReferenceAfIdeal.nD Cert.ReferenceAfIdeal.τ Cert.ReferenceAfIdeal.sig) → Buf (Elt Ideal) ℓ) (g : Dev Cert.ReferenceAfIdeal.nD → PrngReg), Pre_ReferenceAfIdeal m →
    θ_run (Cert.ReferenceAfIdeal.defs (F := Ideal)) (onTc (τ := Cert.ReferenceAfIdeal.τ) (Cert.ReferenceAfIdeal.main (F := Ideal))) ⟨m, fun _ => 0, g⟩ (fun r => (∀ c : Dev Cert.ReferenceAfIdeal.nD,
      r.2.mem ((c.tc : Thread Cert.ReferenceAfIdeal.nD Cert.ReferenceAfIdeal.τ).loc Cert.ReferenceAfIdeal.main_arg0) = m ((c.tc : Thread Cert.ReferenceAfIdeal.nD Cert.ReferenceAfIdeal.τ).loc Cert.ReferenceAfIdeal.main_arg0)
      ∧ r.2.mem ((c.tc : Thread Cert.ReferenceAfIdeal.nD Cert.ReferenceAfIdeal.τ).loc Cert.ReferenceAfIdeal.main_arg1) = m ((c.tc : Thread Cert.ReferenceAfIdeal.nD Cert.ReferenceAfIdeal.τ).loc Cert.ReferenceAfIdeal.main_arg1))
      ∧ r.2.sem = fun _ => 0)

def quiescent_KernelBf [hKernelBf : Cert.KernelBf.Facts] : Prop :=
  ∀ (m : (ℓ : Loc Cert.KernelBf.nD Cert.KernelBf.τ Cert.KernelBf.sig) → Buf (Elt Bits) ℓ) (g : Dev Cert.KernelBf.nD → PrngReg), Pre_KernelBf m →
    θ_run (Cert.KernelBf.defs (F := Bits)) (onTc (τ := Cert.KernelBf.τ) (Cert.KernelBf.main (F := Bits))) ⟨m, fun _ => 0, g⟩ (fun r => (∀ c : Dev Cert.KernelBf.nD,
      r.2.mem ((c.tc : Thread Cert.KernelBf.nD Cert.KernelBf.τ).loc Cert.KernelBf.main_arg0) = m ((c.tc : Thread Cert.KernelBf.nD Cert.KernelBf.τ).loc Cert.KernelBf.main_arg0)
      ∧ r.2.mem ((c.tc : Thread Cert.KernelBf.nD Cert.KernelBf.τ).loc Cert.KernelBf.main_arg1) = m ((c.tc : Thread Cert.KernelBf.nD Cert.KernelBf.τ).loc Cert.KernelBf.main_arg1))
      ∧ r.2.sem = fun _ => 0)

def quiescent_KernelBfIdeal [hKernelBfIdeal : Cert.KernelBfIdeal.Facts] : Prop :=
  ∀ (m : (ℓ : Loc Cert.KernelBfIdeal.nD Cert.KernelBfIdeal.τ Cert.KernelBfIdeal.sig) → Buf (Elt Ideal) ℓ) (g : Dev Cert.KernelBfIdeal.nD → PrngReg), Pre_KernelBfIdeal m →
    θ_run (Cert.KernelBfIdeal.defs (F := Ideal)) (onTc (τ := Cert.KernelBfIdeal.τ) (Cert.KernelBfIdeal.main (F := Ideal))) ⟨m, fun _ => 0, g⟩ (fun r => (∀ c : Dev Cert.KernelBfIdeal.nD,
      r.2.mem ((c.tc : Thread Cert.KernelBfIdeal.nD Cert.KernelBfIdeal.τ).loc Cert.KernelBfIdeal.main_arg0) = m ((c.tc : Thread Cert.KernelBfIdeal.nD Cert.KernelBfIdeal.τ).loc Cert.KernelBfIdeal.main_arg0)
      ∧ r.2.mem ((c.tc : Thread Cert.KernelBfIdeal.nD Cert.KernelBfIdeal.τ).loc Cert.KernelBfIdeal.main_arg1) = m ((c.tc : Thread Cert.KernelBfIdeal.nD Cert.KernelBfIdeal.τ).loc Cert.KernelBfIdeal.main_arg1))
      ∧ r.2.sem = fun _ => 0)

def quiescent_ReferenceBfIdeal [hReferenceBfIdeal : Cert.ReferenceBfIdeal.Facts] : Prop :=
  ∀ (m : (ℓ : Loc Cert.ReferenceBfIdeal.nD Cert.ReferenceBfIdeal.τ Cert.ReferenceBfIdeal.sig) → Buf (Elt Ideal) ℓ) (g : Dev Cert.ReferenceBfIdeal.nD → PrngReg), Pre_ReferenceBfIdeal m →
    θ_run (Cert.ReferenceBfIdeal.defs (F := Ideal)) (onTc (τ := Cert.ReferenceBfIdeal.τ) (Cert.ReferenceBfIdeal.main (F := Ideal))) ⟨m, fun _ => 0, g⟩ (fun r => (∀ c : Dev Cert.ReferenceBfIdeal.nD,
      r.2.mem ((c.tc : Thread Cert.ReferenceBfIdeal.nD Cert.ReferenceBfIdeal.τ).loc Cert.ReferenceBfIdeal.main_arg0) = m ((c.tc : Thread Cert.ReferenceBfIdeal.nD Cert.ReferenceBfIdeal.τ).loc Cert.ReferenceBfIdeal.main_arg0)
      ∧ r.2.mem ((c.tc : Thread Cert.ReferenceBfIdeal.nD Cert.ReferenceBfIdeal.τ).loc Cert.ReferenceBfIdeal.main_arg1) = m ((c.tc : Thread Cert.ReferenceBfIdeal.nD Cert.ReferenceBfIdeal.τ).loc Cert.ReferenceBfIdeal.main_arg1))
      ∧ r.2.sem = fun _ => 0)

def quiescent_KernelOw [hKernelOw : Cert.KernelOw.Facts] : Prop :=
  ∀ (m : (ℓ : Loc Cert.KernelOw.nD Cert.KernelOw.τ Cert.KernelOw.sig) → Buf (Elt Bits) ℓ) (g : Dev Cert.KernelOw.nD → PrngReg), Pre_KernelOw m →
    θ_run (Cert.KernelOw.defs (F := Bits)) (onTc (τ := Cert.KernelOw.τ) (Cert.KernelOw.main (F := Bits))) ⟨m, fun _ => 0, g⟩ (fun r => (∀ c : Dev Cert.KernelOw.nD,
      r.2.mem ((c.tc : Thread Cert.KernelOw.nD Cert.KernelOw.τ).loc Cert.KernelOw.main_arg0) = m ((c.tc : Thread Cert.KernelOw.nD Cert.KernelOw.τ).loc Cert.KernelOw.main_arg0)
      ∧ r.2.mem ((c.tc : Thread Cert.KernelOw.nD Cert.KernelOw.τ).loc Cert.KernelOw.main_arg1) = m ((c.tc : Thread Cert.KernelOw.nD Cert.KernelOw.τ).loc Cert.KernelOw.main_arg1)
      ∧ r.2.mem ((c.tc : Thread Cert.KernelOw.nD Cert.KernelOw.τ).loc Cert.KernelOw.main_arg2) = m ((c.tc : Thread Cert.KernelOw.nD Cert.KernelOw.τ).loc Cert.KernelOw.main_arg2)
      ∧ r.2.mem ((c.tc : Thread Cert.KernelOw.nD Cert.KernelOw.τ).loc Cert.KernelOw.main_arg3) = m ((c.tc : Thread Cert.KernelOw.nD Cert.KernelOw.τ).loc Cert.KernelOw.main_arg3)
      ∧ r.2.mem ((c.tc : Thread Cert.KernelOw.nD Cert.KernelOw.τ).loc Cert.KernelOw.main_arg4) = m ((c.tc : Thread Cert.KernelOw.nD Cert.KernelOw.τ).loc Cert.KernelOw.main_arg4)
      ∧ r.2.mem ((c.tc : Thread Cert.KernelOw.nD Cert.KernelOw.τ).loc Cert.KernelOw.main_arg5) = m ((c.tc : Thread Cert.KernelOw.nD Cert.KernelOw.τ).loc Cert.KernelOw.main_arg5)
      ∧ r.2.mem ((c.tc : Thread Cert.KernelOw.nD Cert.KernelOw.τ).loc Cert.KernelOw.main_arg6) = m ((c.tc : Thread Cert.KernelOw.nD Cert.KernelOw.τ).loc Cert.KernelOw.main_arg6))
      ∧ r.2.sem = fun _ => 0)

def quiescent_KernelOwIdeal [hKernelOwIdeal : Cert.KernelOwIdeal.Facts] : Prop :=
  ∀ (m : (ℓ : Loc Cert.KernelOwIdeal.nD Cert.KernelOwIdeal.τ Cert.KernelOwIdeal.sig) → Buf (Elt Ideal) ℓ) (g : Dev Cert.KernelOwIdeal.nD → PrngReg), Pre_KernelOwIdeal m →
    θ_run (Cert.KernelOwIdeal.defs (F := Ideal)) (onTc (τ := Cert.KernelOwIdeal.τ) (Cert.KernelOwIdeal.main (F := Ideal))) ⟨m, fun _ => 0, g⟩ (fun r => (∀ c : Dev Cert.KernelOwIdeal.nD,
      r.2.mem ((c.tc : Thread Cert.KernelOwIdeal.nD Cert.KernelOwIdeal.τ).loc Cert.KernelOwIdeal.main_arg0) = m ((c.tc : Thread Cert.KernelOwIdeal.nD Cert.KernelOwIdeal.τ).loc Cert.KernelOwIdeal.main_arg0)
      ∧ r.2.mem ((c.tc : Thread Cert.KernelOwIdeal.nD Cert.KernelOwIdeal.τ).loc Cert.KernelOwIdeal.main_arg1) = m ((c.tc : Thread Cert.KernelOwIdeal.nD Cert.KernelOwIdeal.τ).loc Cert.KernelOwIdeal.main_arg1)
      ∧ r.2.mem ((c.tc : Thread Cert.KernelOwIdeal.nD Cert.KernelOwIdeal.τ).loc Cert.KernelOwIdeal.main_arg2) = m ((c.tc : Thread Cert.KernelOwIdeal.nD Cert.KernelOwIdeal.τ).loc Cert.KernelOwIdeal.main_arg2)
      ∧ r.2.mem ((c.tc : Thread Cert.KernelOwIdeal.nD Cert.KernelOwIdeal.τ).loc Cert.KernelOwIdeal.main_arg3) = m ((c.tc : Thread Cert.KernelOwIdeal.nD Cert.KernelOwIdeal.τ).loc Cert.KernelOwIdeal.main_arg3)
      ∧ r.2.mem ((c.tc : Thread Cert.KernelOwIdeal.nD Cert.KernelOwIdeal.τ).loc Cert.KernelOwIdeal.main_arg4) = m ((c.tc : Thread Cert.KernelOwIdeal.nD Cert.KernelOwIdeal.τ).loc Cert.KernelOwIdeal.main_arg4)
      ∧ r.2.mem ((c.tc : Thread Cert.KernelOwIdeal.nD Cert.KernelOwIdeal.τ).loc Cert.KernelOwIdeal.main_arg5) = m ((c.tc : Thread Cert.KernelOwIdeal.nD Cert.KernelOwIdeal.τ).loc Cert.KernelOwIdeal.main_arg5)
      ∧ r.2.mem ((c.tc : Thread Cert.KernelOwIdeal.nD Cert.KernelOwIdeal.τ).loc Cert.KernelOwIdeal.main_arg6) = m ((c.tc : Thread Cert.KernelOwIdeal.nD Cert.KernelOwIdeal.τ).loc Cert.KernelOwIdeal.main_arg6))
      ∧ r.2.sem = fun _ => 0)

def quiescent_ReferenceOwIdeal [hReferenceOwIdeal : Cert.ReferenceOwIdeal.Facts] : Prop :=
  ∀ (m : (ℓ : Loc Cert.ReferenceOwIdeal.nD Cert.ReferenceOwIdeal.τ Cert.ReferenceOwIdeal.sig) → Buf (Elt Ideal) ℓ) (g : Dev Cert.ReferenceOwIdeal.nD → PrngReg), Pre_ReferenceOwIdeal m →
    θ_run (Cert.ReferenceOwIdeal.defs (F := Ideal)) (onTc (τ := Cert.ReferenceOwIdeal.τ) (Cert.ReferenceOwIdeal.main (F := Ideal))) ⟨m, fun _ => 0, g⟩ (fun r => (∀ c : Dev Cert.ReferenceOwIdeal.nD,
      r.2.mem ((c.tc : Thread Cert.ReferenceOwIdeal.nD Cert.ReferenceOwIdeal.τ).loc Cert.ReferenceOwIdeal.main_arg0) = m ((c.tc : Thread Cert.ReferenceOwIdeal.nD Cert.ReferenceOwIdeal.τ).loc Cert.ReferenceOwIdeal.main_arg0)
      ∧ r.2.mem ((c.tc : Thread Cert.ReferenceOwIdeal.nD Cert.ReferenceOwIdeal.τ).loc Cert.ReferenceOwIdeal.main_arg1) = m ((c.tc : Thread Cert.ReferenceOwIdeal.nD Cert.ReferenceOwIdeal.τ).loc Cert.ReferenceOwIdeal.main_arg1)
      ∧ r.2.mem ((c.tc : Thread Cert.ReferenceOwIdeal.nD Cert.ReferenceOwIdeal.τ).loc Cert.ReferenceOwIdeal.main_arg2) = m ((c.tc : Thread Cert.ReferenceOwIdeal.nD Cert.ReferenceOwIdeal.τ).loc Cert.ReferenceOwIdeal.main_arg2)
      ∧ r.2.mem ((c.tc : Thread Cert.ReferenceOwIdeal.nD Cert.ReferenceOwIdeal.τ).loc Cert.ReferenceOwIdeal.main_arg3) = m ((c.tc : Thread Cert.ReferenceOwIdeal.nD Cert.ReferenceOwIdeal.τ).loc Cert.ReferenceOwIdeal.main_arg3)
      ∧ r.2.mem ((c.tc : Thread Cert.ReferenceOwIdeal.nD Cert.ReferenceOwIdeal.τ).loc Cert.ReferenceOwIdeal.main_arg4) = m ((c.tc : Thread Cert.ReferenceOwIdeal.nD Cert.ReferenceOwIdeal.τ).loc Cert.ReferenceOwIdeal.main_arg4)
      ∧ r.2.mem ((c.tc : Thread Cert.ReferenceOwIdeal.nD Cert.ReferenceOwIdeal.τ).loc Cert.ReferenceOwIdeal.main_arg5) = m ((c.tc : Thread Cert.ReferenceOwIdeal.nD Cert.ReferenceOwIdeal.τ).loc Cert.ReferenceOwIdeal.main_arg5)
      ∧ r.2.mem ((c.tc : Thread Cert.ReferenceOwIdeal.nD Cert.ReferenceOwIdeal.τ).loc Cert.ReferenceOwIdeal.main_arg6) = m ((c.tc : Thread Cert.ReferenceOwIdeal.nD Cert.ReferenceOwIdeal.τ).loc Cert.ReferenceOwIdeal.main_arg6))
      ∧ r.2.sem = fun _ => 0)

def quiescent_KernelOg [hKernelOg : Cert.KernelOg.Facts] : Prop :=
  ∀ (m : (ℓ : Loc Cert.KernelOg.nD Cert.KernelOg.τ Cert.KernelOg.sig) → Buf (Elt Bits) ℓ) (g : Dev Cert.KernelOg.nD → PrngReg), Pre_KernelOg m →
    θ_run (Cert.KernelOg.defs (F := Bits)) (onTc (τ := Cert.KernelOg.τ) (Cert.KernelOg.main (F := Bits))) ⟨m, fun _ => 0, g⟩ (fun r => (∀ c : Dev Cert.KernelOg.nD,
      r.2.mem ((c.tc : Thread Cert.KernelOg.nD Cert.KernelOg.τ).loc Cert.KernelOg.main_arg0) = m ((c.tc : Thread Cert.KernelOg.nD Cert.KernelOg.τ).loc Cert.KernelOg.main_arg0)
      ∧ r.2.mem ((c.tc : Thread Cert.KernelOg.nD Cert.KernelOg.τ).loc Cert.KernelOg.main_arg1) = m ((c.tc : Thread Cert.KernelOg.nD Cert.KernelOg.τ).loc Cert.KernelOg.main_arg1)
      ∧ r.2.mem ((c.tc : Thread Cert.KernelOg.nD Cert.KernelOg.τ).loc Cert.KernelOg.main_arg2) = m ((c.tc : Thread Cert.KernelOg.nD Cert.KernelOg.τ).loc Cert.KernelOg.main_arg2)
      ∧ r.2.mem ((c.tc : Thread Cert.KernelOg.nD Cert.KernelOg.τ).loc Cert.KernelOg.main_arg3) = m ((c.tc : Thread Cert.KernelOg.nD Cert.KernelOg.τ).loc Cert.KernelOg.main_arg3)
      ∧ r.2.mem ((c.tc : Thread Cert.KernelOg.nD Cert.KernelOg.τ).loc Cert.KernelOg.main_arg4) = m ((c.tc : Thread Cert.KernelOg.nD Cert.KernelOg.τ).loc Cert.KernelOg.main_arg4)
      ∧ r.2.mem ((c.tc : Thread Cert.KernelOg.nD Cert.KernelOg.τ).loc Cert.KernelOg.main_arg5) = m ((c.tc : Thread Cert.KernelOg.nD Cert.KernelOg.τ).loc Cert.KernelOg.main_arg5)
      ∧ r.2.mem ((c.tc : Thread Cert.KernelOg.nD Cert.KernelOg.τ).loc Cert.KernelOg.main_arg6) = m ((c.tc : Thread Cert.KernelOg.nD Cert.KernelOg.τ).loc Cert.KernelOg.main_arg6))
      ∧ r.2.sem = fun _ => 0)

def quiescent_KernelOgIdeal [hKernelOgIdeal : Cert.KernelOgIdeal.Facts] : Prop :=
  ∀ (m : (ℓ : Loc Cert.KernelOgIdeal.nD Cert.KernelOgIdeal.τ Cert.KernelOgIdeal.sig) → Buf (Elt Ideal) ℓ) (g : Dev Cert.KernelOgIdeal.nD → PrngReg), Pre_KernelOgIdeal m →
    θ_run (Cert.KernelOgIdeal.defs (F := Ideal)) (onTc (τ := Cert.KernelOgIdeal.τ) (Cert.KernelOgIdeal.main (F := Ideal))) ⟨m, fun _ => 0, g⟩ (fun r => (∀ c : Dev Cert.KernelOgIdeal.nD,
      r.2.mem ((c.tc : Thread Cert.KernelOgIdeal.nD Cert.KernelOgIdeal.τ).loc Cert.KernelOgIdeal.main_arg0) = m ((c.tc : Thread Cert.KernelOgIdeal.nD Cert.KernelOgIdeal.τ).loc Cert.KernelOgIdeal.main_arg0)
      ∧ r.2.mem ((c.tc : Thread Cert.KernelOgIdeal.nD Cert.KernelOgIdeal.τ).loc Cert.KernelOgIdeal.main_arg1) = m ((c.tc : Thread Cert.KernelOgIdeal.nD Cert.KernelOgIdeal.τ).loc Cert.KernelOgIdeal.main_arg1)
      ∧ r.2.mem ((c.tc : Thread Cert.KernelOgIdeal.nD Cert.KernelOgIdeal.τ).loc Cert.KernelOgIdeal.main_arg2) = m ((c.tc : Thread Cert.KernelOgIdeal.nD Cert.KernelOgIdeal.τ).loc Cert.KernelOgIdeal.main_arg2)
      ∧ r.2.mem ((c.tc : Thread Cert.KernelOgIdeal.nD Cert.KernelOgIdeal.τ).loc Cert.KernelOgIdeal.main_arg3) = m ((c.tc : Thread Cert.KernelOgIdeal.nD Cert.KernelOgIdeal.τ).loc Cert.KernelOgIdeal.main_arg3)
      ∧ r.2.mem ((c.tc : Thread Cert.KernelOgIdeal.nD Cert.KernelOgIdeal.τ).loc Cert.KernelOgIdeal.main_arg4) = m ((c.tc : Thread Cert.KernelOgIdeal.nD Cert.KernelOgIdeal.τ).loc Cert.KernelOgIdeal.main_arg4)
      ∧ r.2.mem ((c.tc : Thread Cert.KernelOgIdeal.nD Cert.KernelOgIdeal.τ).loc Cert.KernelOgIdeal.main_arg5) = m ((c.tc : Thread Cert.KernelOgIdeal.nD Cert.KernelOgIdeal.τ).loc Cert.KernelOgIdeal.main_arg5)
      ∧ r.2.mem ((c.tc : Thread Cert.KernelOgIdeal.nD Cert.KernelOgIdeal.τ).loc Cert.KernelOgIdeal.main_arg6) = m ((c.tc : Thread Cert.KernelOgIdeal.nD Cert.KernelOgIdeal.τ).loc Cert.KernelOgIdeal.main_arg6))
      ∧ r.2.sem = fun _ => 0)

def quiescent_ReferenceOgIdeal [hReferenceOgIdeal : Cert.ReferenceOgIdeal.Facts] : Prop :=
  ∀ (m : (ℓ : Loc Cert.ReferenceOgIdeal.nD Cert.ReferenceOgIdeal.τ Cert.ReferenceOgIdeal.sig) → Buf (Elt Ideal) ℓ) (g : Dev Cert.ReferenceOgIdeal.nD → PrngReg), Pre_ReferenceOgIdeal m →
    θ_run (Cert.ReferenceOgIdeal.defs (F := Ideal)) (onTc (τ := Cert.ReferenceOgIdeal.τ) (Cert.ReferenceOgIdeal.main (F := Ideal))) ⟨m, fun _ => 0, g⟩ (fun r => (∀ c : Dev Cert.ReferenceOgIdeal.nD,
      r.2.mem ((c.tc : Thread Cert.ReferenceOgIdeal.nD Cert.ReferenceOgIdeal.τ).loc Cert.ReferenceOgIdeal.main_arg0) = m ((c.tc : Thread Cert.ReferenceOgIdeal.nD Cert.ReferenceOgIdeal.τ).loc Cert.ReferenceOgIdeal.main_arg0)
      ∧ r.2.mem ((c.tc : Thread Cert.ReferenceOgIdeal.nD Cert.ReferenceOgIdeal.τ).loc Cert.ReferenceOgIdeal.main_arg1) = m ((c.tc : Thread Cert.ReferenceOgIdeal.nD Cert.ReferenceOgIdeal.τ).loc Cert.ReferenceOgIdeal.main_arg1)
      ∧ r.2.mem ((c.tc : Thread Cert.ReferenceOgIdeal.nD Cert.ReferenceOgIdeal.τ).loc Cert.ReferenceOgIdeal.main_arg2) = m ((c.tc : Thread Cert.ReferenceOgIdeal.nD Cert.ReferenceOgIdeal.τ).loc Cert.ReferenceOgIdeal.main_arg2)
      ∧ r.2.mem ((c.tc : Thread Cert.ReferenceOgIdeal.nD Cert.ReferenceOgIdeal.τ).loc Cert.ReferenceOgIdeal.main_arg3) = m ((c.tc : Thread Cert.ReferenceOgIdeal.nD Cert.ReferenceOgIdeal.τ).loc Cert.ReferenceOgIdeal.main_arg3)
      ∧ r.2.mem ((c.tc : Thread Cert.ReferenceOgIdeal.nD Cert.ReferenceOgIdeal.τ).loc Cert.ReferenceOgIdeal.main_arg4) = m ((c.tc : Thread Cert.ReferenceOgIdeal.nD Cert.ReferenceOgIdeal.τ).loc Cert.ReferenceOgIdeal.main_arg4)
      ∧ r.2.mem ((c.tc : Thread Cert.ReferenceOgIdeal.nD Cert.ReferenceOgIdeal.τ).loc Cert.ReferenceOgIdeal.main_arg5) = m ((c.tc : Thread Cert.ReferenceOgIdeal.nD Cert.ReferenceOgIdeal.τ).loc Cert.ReferenceOgIdeal.main_arg5)
      ∧ r.2.mem ((c.tc : Thread Cert.ReferenceOgIdeal.nD Cert.ReferenceOgIdeal.τ).loc Cert.ReferenceOgIdeal.main_arg6) = m ((c.tc : Thread Cert.ReferenceOgIdeal.nD Cert.ReferenceOgIdeal.τ).loc Cert.ReferenceOgIdeal.main_arg6))
      ∧ r.2.sem = fun _ => 0)

def quiescent_KernelOa [hKernelOa : Cert.KernelOa.Facts] : Prop :=
  ∀ (m : (ℓ : Loc Cert.KernelOa.nD Cert.KernelOa.τ Cert.KernelOa.sig) → Buf (Elt Bits) ℓ) (g : Dev Cert.KernelOa.nD → PrngReg), Pre_KernelOa m →
    θ_run (Cert.KernelOa.defs (F := Bits)) (onTc (τ := Cert.KernelOa.τ) (Cert.KernelOa.main (F := Bits))) ⟨m, fun _ => 0, g⟩ (fun r => (∀ c : Dev Cert.KernelOa.nD,
      r.2.mem ((c.tc : Thread Cert.KernelOa.nD Cert.KernelOa.τ).loc Cert.KernelOa.main_arg0) = m ((c.tc : Thread Cert.KernelOa.nD Cert.KernelOa.τ).loc Cert.KernelOa.main_arg0)
      ∧ r.2.mem ((c.tc : Thread Cert.KernelOa.nD Cert.KernelOa.τ).loc Cert.KernelOa.main_arg1) = m ((c.tc : Thread Cert.KernelOa.nD Cert.KernelOa.τ).loc Cert.KernelOa.main_arg1)
      ∧ r.2.mem ((c.tc : Thread Cert.KernelOa.nD Cert.KernelOa.τ).loc Cert.KernelOa.main_arg2) = m ((c.tc : Thread Cert.KernelOa.nD Cert.KernelOa.τ).loc Cert.KernelOa.main_arg2)
      ∧ r.2.mem ((c.tc : Thread Cert.KernelOa.nD Cert.KernelOa.τ).loc Cert.KernelOa.main_arg3) = m ((c.tc : Thread Cert.KernelOa.nD Cert.KernelOa.τ).loc Cert.KernelOa.main_arg3)
      ∧ r.2.mem ((c.tc : Thread Cert.KernelOa.nD Cert.KernelOa.τ).loc Cert.KernelOa.main_arg4) = m ((c.tc : Thread Cert.KernelOa.nD Cert.KernelOa.τ).loc Cert.KernelOa.main_arg4)
      ∧ r.2.mem ((c.tc : Thread Cert.KernelOa.nD Cert.KernelOa.τ).loc Cert.KernelOa.main_arg5) = m ((c.tc : Thread Cert.KernelOa.nD Cert.KernelOa.τ).loc Cert.KernelOa.main_arg5)
      ∧ r.2.mem ((c.tc : Thread Cert.KernelOa.nD Cert.KernelOa.τ).loc Cert.KernelOa.main_arg6) = m ((c.tc : Thread Cert.KernelOa.nD Cert.KernelOa.τ).loc Cert.KernelOa.main_arg6))
      ∧ r.2.sem = fun _ => 0)

def quiescent_KernelOaIdeal [hKernelOaIdeal : Cert.KernelOaIdeal.Facts] : Prop :=
  ∀ (m : (ℓ : Loc Cert.KernelOaIdeal.nD Cert.KernelOaIdeal.τ Cert.KernelOaIdeal.sig) → Buf (Elt Ideal) ℓ) (g : Dev Cert.KernelOaIdeal.nD → PrngReg), Pre_KernelOaIdeal m →
    θ_run (Cert.KernelOaIdeal.defs (F := Ideal)) (onTc (τ := Cert.KernelOaIdeal.τ) (Cert.KernelOaIdeal.main (F := Ideal))) ⟨m, fun _ => 0, g⟩ (fun r => (∀ c : Dev Cert.KernelOaIdeal.nD,
      r.2.mem ((c.tc : Thread Cert.KernelOaIdeal.nD Cert.KernelOaIdeal.τ).loc Cert.KernelOaIdeal.main_arg0) = m ((c.tc : Thread Cert.KernelOaIdeal.nD Cert.KernelOaIdeal.τ).loc Cert.KernelOaIdeal.main_arg0)
      ∧ r.2.mem ((c.tc : Thread Cert.KernelOaIdeal.nD Cert.KernelOaIdeal.τ).loc Cert.KernelOaIdeal.main_arg1) = m ((c.tc : Thread Cert.KernelOaIdeal.nD Cert.KernelOaIdeal.τ).loc Cert.KernelOaIdeal.main_arg1)
      ∧ r.2.mem ((c.tc : Thread Cert.KernelOaIdeal.nD Cert.KernelOaIdeal.τ).loc Cert.KernelOaIdeal.main_arg2) = m ((c.tc : Thread Cert.KernelOaIdeal.nD Cert.KernelOaIdeal.τ).loc Cert.KernelOaIdeal.main_arg2)
      ∧ r.2.mem ((c.tc : Thread Cert.KernelOaIdeal.nD Cert.KernelOaIdeal.τ).loc Cert.KernelOaIdeal.main_arg3) = m ((c.tc : Thread Cert.KernelOaIdeal.nD Cert.KernelOaIdeal.τ).loc Cert.KernelOaIdeal.main_arg3)
      ∧ r.2.mem ((c.tc : Thread Cert.KernelOaIdeal.nD Cert.KernelOaIdeal.τ).loc Cert.KernelOaIdeal.main_arg4) = m ((c.tc : Thread Cert.KernelOaIdeal.nD Cert.KernelOaIdeal.τ).loc Cert.KernelOaIdeal.main_arg4)
      ∧ r.2.mem ((c.tc : Thread Cert.KernelOaIdeal.nD Cert.KernelOaIdeal.τ).loc Cert.KernelOaIdeal.main_arg5) = m ((c.tc : Thread Cert.KernelOaIdeal.nD Cert.KernelOaIdeal.τ).loc Cert.KernelOaIdeal.main_arg5)
      ∧ r.2.mem ((c.tc : Thread Cert.KernelOaIdeal.nD Cert.KernelOaIdeal.τ).loc Cert.KernelOaIdeal.main_arg6) = m ((c.tc : Thread Cert.KernelOaIdeal.nD Cert.KernelOaIdeal.τ).loc Cert.KernelOaIdeal.main_arg6))
      ∧ r.2.sem = fun _ => 0)

def quiescent_ReferenceOaIdeal [hReferenceOaIdeal : Cert.ReferenceOaIdeal.Facts] : Prop :=
  ∀ (m : (ℓ : Loc Cert.ReferenceOaIdeal.nD Cert.ReferenceOaIdeal.τ Cert.ReferenceOaIdeal.sig) → Buf (Elt Ideal) ℓ) (g : Dev Cert.ReferenceOaIdeal.nD → PrngReg), Pre_ReferenceOaIdeal m →
    θ_run (Cert.ReferenceOaIdeal.defs (F := Ideal)) (onTc (τ := Cert.ReferenceOaIdeal.τ) (Cert.ReferenceOaIdeal.main (F := Ideal))) ⟨m, fun _ => 0, g⟩ (fun r => (∀ c : Dev Cert.ReferenceOaIdeal.nD,
      r.2.mem ((c.tc : Thread Cert.ReferenceOaIdeal.nD Cert.ReferenceOaIdeal.τ).loc Cert.ReferenceOaIdeal.main_arg0) = m ((c.tc : Thread Cert.ReferenceOaIdeal.nD Cert.ReferenceOaIdeal.τ).loc Cert.ReferenceOaIdeal.main_arg0)
      ∧ r.2.mem ((c.tc : Thread Cert.ReferenceOaIdeal.nD Cert.ReferenceOaIdeal.τ).loc Cert.ReferenceOaIdeal.main_arg1) = m ((c.tc : Thread Cert.ReferenceOaIdeal.nD Cert.ReferenceOaIdeal.τ).loc Cert.ReferenceOaIdeal.main_arg1)
      ∧ r.2.mem ((c.tc : Thread Cert.ReferenceOaIdeal.nD Cert.ReferenceOaIdeal.τ).loc Cert.ReferenceOaIdeal.main_arg2) = m ((c.tc : Thread Cert.ReferenceOaIdeal.nD Cert.ReferenceOaIdeal.τ).loc Cert.ReferenceOaIdeal.main_arg2)
      ∧ r.2.mem ((c.tc : Thread Cert.ReferenceOaIdeal.nD Cert.ReferenceOaIdeal.τ).loc Cert.ReferenceOaIdeal.main_arg3) = m ((c.tc : Thread Cert.ReferenceOaIdeal.nD Cert.ReferenceOaIdeal.τ).loc Cert.ReferenceOaIdeal.main_arg3)
      ∧ r.2.mem ((c.tc : Thread Cert.ReferenceOaIdeal.nD Cert.ReferenceOaIdeal.τ).loc Cert.ReferenceOaIdeal.main_arg4) = m ((c.tc : Thread Cert.ReferenceOaIdeal.nD Cert.ReferenceOaIdeal.τ).loc Cert.ReferenceOaIdeal.main_arg4)
      ∧ r.2.mem ((c.tc : Thread Cert.ReferenceOaIdeal.nD Cert.ReferenceOaIdeal.τ).loc Cert.ReferenceOaIdeal.main_arg5) = m ((c.tc : Thread Cert.ReferenceOaIdeal.nD Cert.ReferenceOaIdeal.τ).loc Cert.ReferenceOaIdeal.main_arg5)
      ∧ r.2.mem ((c.tc : Thread Cert.ReferenceOaIdeal.nD Cert.ReferenceOaIdeal.τ).loc Cert.ReferenceOaIdeal.main_arg6) = m ((c.tc : Thread Cert.ReferenceOaIdeal.nD Cert.ReferenceOaIdeal.τ).loc Cert.ReferenceOaIdeal.main_arg6))
      ∧ r.2.sem = fun _ => 0)

def quiescent_KernelOb [hKernelOb : Cert.KernelOb.Facts] : Prop :=
  ∀ (m : (ℓ : Loc Cert.KernelOb.nD Cert.KernelOb.τ Cert.KernelOb.sig) → Buf (Elt Bits) ℓ) (g : Dev Cert.KernelOb.nD → PrngReg), Pre_KernelOb m →
    θ_run (Cert.KernelOb.defs (F := Bits)) (onTc (τ := Cert.KernelOb.τ) (Cert.KernelOb.main (F := Bits))) ⟨m, fun _ => 0, g⟩ (fun r => (∀ c : Dev Cert.KernelOb.nD,
      r.2.mem ((c.tc : Thread Cert.KernelOb.nD Cert.KernelOb.τ).loc Cert.KernelOb.main_arg0) = m ((c.tc : Thread Cert.KernelOb.nD Cert.KernelOb.τ).loc Cert.KernelOb.main_arg0)
      ∧ r.2.mem ((c.tc : Thread Cert.KernelOb.nD Cert.KernelOb.τ).loc Cert.KernelOb.main_arg1) = m ((c.tc : Thread Cert.KernelOb.nD Cert.KernelOb.τ).loc Cert.KernelOb.main_arg1)
      ∧ r.2.mem ((c.tc : Thread Cert.KernelOb.nD Cert.KernelOb.τ).loc Cert.KernelOb.main_arg2) = m ((c.tc : Thread Cert.KernelOb.nD Cert.KernelOb.τ).loc Cert.KernelOb.main_arg2)
      ∧ r.2.mem ((c.tc : Thread Cert.KernelOb.nD Cert.KernelOb.τ).loc Cert.KernelOb.main_arg3) = m ((c.tc : Thread Cert.KernelOb.nD Cert.KernelOb.τ).loc Cert.KernelOb.main_arg3)
      ∧ r.2.mem ((c.tc : Thread Cert.KernelOb.nD Cert.KernelOb.τ).loc Cert.KernelOb.main_arg4) = m ((c.tc : Thread Cert.KernelOb.nD Cert.KernelOb.τ).loc Cert.KernelOb.main_arg4)
      ∧ r.2.mem ((c.tc : Thread Cert.KernelOb.nD Cert.KernelOb.τ).loc Cert.KernelOb.main_arg5) = m ((c.tc : Thread Cert.KernelOb.nD Cert.KernelOb.τ).loc Cert.KernelOb.main_arg5)
      ∧ r.2.mem ((c.tc : Thread Cert.KernelOb.nD Cert.KernelOb.τ).loc Cert.KernelOb.main_arg6) = m ((c.tc : Thread Cert.KernelOb.nD Cert.KernelOb.τ).loc Cert.KernelOb.main_arg6))
      ∧ r.2.sem = fun _ => 0)

def quiescent_KernelObIdeal [hKernelObIdeal : Cert.KernelObIdeal.Facts] : Prop :=
  ∀ (m : (ℓ : Loc Cert.KernelObIdeal.nD Cert.KernelObIdeal.τ Cert.KernelObIdeal.sig) → Buf (Elt Ideal) ℓ) (g : Dev Cert.KernelObIdeal.nD → PrngReg), Pre_KernelObIdeal m →
    θ_run (Cert.KernelObIdeal.defs (F := Ideal)) (onTc (τ := Cert.KernelObIdeal.τ) (Cert.KernelObIdeal.main (F := Ideal))) ⟨m, fun _ => 0, g⟩ (fun r => (∀ c : Dev Cert.KernelObIdeal.nD,
      r.2.mem ((c.tc : Thread Cert.KernelObIdeal.nD Cert.KernelObIdeal.τ).loc Cert.KernelObIdeal.main_arg0) = m ((c.tc : Thread Cert.KernelObIdeal.nD Cert.KernelObIdeal.τ).loc Cert.KernelObIdeal.main_arg0)
      ∧ r.2.mem ((c.tc : Thread Cert.KernelObIdeal.nD Cert.KernelObIdeal.τ).loc Cert.KernelObIdeal.main_arg1) = m ((c.tc : Thread Cert.KernelObIdeal.nD Cert.KernelObIdeal.τ).loc Cert.KernelObIdeal.main_arg1)
      ∧ r.2.mem ((c.tc : Thread Cert.KernelObIdeal.nD Cert.KernelObIdeal.τ).loc Cert.KernelObIdeal.main_arg2) = m ((c.tc : Thread Cert.KernelObIdeal.nD Cert.KernelObIdeal.τ).loc Cert.KernelObIdeal.main_arg2)
      ∧ r.2.mem ((c.tc : Thread Cert.KernelObIdeal.nD Cert.KernelObIdeal.τ).loc Cert.KernelObIdeal.main_arg3) = m ((c.tc : Thread Cert.KernelObIdeal.nD Cert.KernelObIdeal.τ).loc Cert.KernelObIdeal.main_arg3)
      ∧ r.2.mem ((c.tc : Thread Cert.KernelObIdeal.nD Cert.KernelObIdeal.τ).loc Cert.KernelObIdeal.main_arg4) = m ((c.tc : Thread Cert.KernelObIdeal.nD Cert.KernelObIdeal.τ).loc Cert.KernelObIdeal.main_arg4)
      ∧ r.2.mem ((c.tc : Thread Cert.KernelObIdeal.nD Cert.KernelObIdeal.τ).loc Cert.KernelObIdeal.main_arg5) = m ((c.tc : Thread Cert.KernelObIdeal.nD Cert.KernelObIdeal.τ).loc Cert.KernelObIdeal.main_arg5)
      ∧ r.2.mem ((c.tc : Thread Cert.KernelObIdeal.nD Cert.KernelObIdeal.τ).loc Cert.KernelObIdeal.main_arg6) = m ((c.tc : Thread Cert.KernelObIdeal.nD Cert.KernelObIdeal.τ).loc Cert.KernelObIdeal.main_arg6))
      ∧ r.2.sem = fun _ => 0)

def quiescent_ReferenceObIdeal [hReferenceObIdeal : Cert.ReferenceObIdeal.Facts] : Prop :=
  ∀ (m : (ℓ : Loc Cert.ReferenceObIdeal.nD Cert.ReferenceObIdeal.τ Cert.ReferenceObIdeal.sig) → Buf (Elt Ideal) ℓ) (g : Dev Cert.ReferenceObIdeal.nD → PrngReg), Pre_ReferenceObIdeal m →
    θ_run (Cert.ReferenceObIdeal.defs (F := Ideal)) (onTc (τ := Cert.ReferenceObIdeal.τ) (Cert.ReferenceObIdeal.main (F := Ideal))) ⟨m, fun _ => 0, g⟩ (fun r => (∀ c : Dev Cert.ReferenceObIdeal.nD,
      r.2.mem ((c.tc : Thread Cert.ReferenceObIdeal.nD Cert.ReferenceObIdeal.τ).loc Cert.ReferenceObIdeal.main_arg0) = m ((c.tc : Thread Cert.ReferenceObIdeal.nD Cert.ReferenceObIdeal.τ).loc Cert.ReferenceObIdeal.main_arg0)
      ∧ r.2.mem ((c.tc : Thread Cert.ReferenceObIdeal.nD Cert.ReferenceObIdeal.τ).loc Cert.ReferenceObIdeal.main_arg1) = m ((c.tc : Thread Cert.ReferenceObIdeal.nD Cert.ReferenceObIdeal.τ).loc Cert.ReferenceObIdeal.main_arg1)
      ∧ r.2.mem ((c.tc : Thread Cert.ReferenceObIdeal.nD Cert.ReferenceObIdeal.τ).loc Cert.ReferenceObIdeal.main_arg2) = m ((c.tc : Thread Cert.ReferenceObIdeal.nD Cert.ReferenceObIdeal.τ).loc Cert.ReferenceObIdeal.main_arg2)
      ∧ r.2.mem ((c.tc : Thread Cert.ReferenceObIdeal.nD Cert.ReferenceObIdeal.τ).loc Cert.ReferenceObIdeal.main_arg3) = m ((c.tc : Thread Cert.ReferenceObIdeal.nD Cert.ReferenceObIdeal.τ).loc Cert.ReferenceObIdeal.main_arg3)
      ∧ r.2.mem ((c.tc : Thread Cert.ReferenceObIdeal.nD Cert.ReferenceObIdeal.τ).loc Cert.ReferenceObIdeal.main_arg4) = m ((c.tc : Thread Cert.ReferenceObIdeal.nD Cert.ReferenceObIdeal.τ).loc Cert.ReferenceObIdeal.main_arg4)
      ∧ r.2.mem ((c.tc : Thread Cert.ReferenceObIdeal.nD Cert.ReferenceObIdeal.τ).loc Cert.ReferenceObIdeal.main_arg5) = m ((c.tc : Thread Cert.ReferenceObIdeal.nD Cert.ReferenceObIdeal.τ).loc Cert.ReferenceObIdeal.main_arg5)
      ∧ r.2.mem ((c.tc : Thread Cert.ReferenceObIdeal.nD Cert.ReferenceObIdeal.τ).loc Cert.ReferenceObIdeal.main_arg6) = m ((c.tc : Thread Cert.ReferenceObIdeal.nD Cert.ReferenceObIdeal.τ).loc Cert.ReferenceObIdeal.main_arg6))
      ∧ r.2.sem = fun _ => 0)

def quiescent_KernelOc [hKernelOc : Cert.KernelOc.Facts] : Prop :=
  ∀ (m : (ℓ : Loc Cert.KernelOc.nD Cert.KernelOc.τ Cert.KernelOc.sig) → Buf (Elt Bits) ℓ) (g : Dev Cert.KernelOc.nD → PrngReg), Pre_KernelOc m →
    θ_run (Cert.KernelOc.defs (F := Bits)) (onTc (τ := Cert.KernelOc.τ) (Cert.KernelOc.main (F := Bits))) ⟨m, fun _ => 0, g⟩ (fun r => (∀ c : Dev Cert.KernelOc.nD,
      r.2.mem ((c.tc : Thread Cert.KernelOc.nD Cert.KernelOc.τ).loc Cert.KernelOc.main_arg0) = m ((c.tc : Thread Cert.KernelOc.nD Cert.KernelOc.τ).loc Cert.KernelOc.main_arg0)
      ∧ r.2.mem ((c.tc : Thread Cert.KernelOc.nD Cert.KernelOc.τ).loc Cert.KernelOc.main_arg1) = m ((c.tc : Thread Cert.KernelOc.nD Cert.KernelOc.τ).loc Cert.KernelOc.main_arg1)
      ∧ r.2.mem ((c.tc : Thread Cert.KernelOc.nD Cert.KernelOc.τ).loc Cert.KernelOc.main_arg2) = m ((c.tc : Thread Cert.KernelOc.nD Cert.KernelOc.τ).loc Cert.KernelOc.main_arg2)
      ∧ r.2.mem ((c.tc : Thread Cert.KernelOc.nD Cert.KernelOc.τ).loc Cert.KernelOc.main_arg3) = m ((c.tc : Thread Cert.KernelOc.nD Cert.KernelOc.τ).loc Cert.KernelOc.main_arg3)
      ∧ r.2.mem ((c.tc : Thread Cert.KernelOc.nD Cert.KernelOc.τ).loc Cert.KernelOc.main_arg4) = m ((c.tc : Thread Cert.KernelOc.nD Cert.KernelOc.τ).loc Cert.KernelOc.main_arg4)
      ∧ r.2.mem ((c.tc : Thread Cert.KernelOc.nD Cert.KernelOc.τ).loc Cert.KernelOc.main_arg5) = m ((c.tc : Thread Cert.KernelOc.nD Cert.KernelOc.τ).loc Cert.KernelOc.main_arg5)
      ∧ r.2.mem ((c.tc : Thread Cert.KernelOc.nD Cert.KernelOc.τ).loc Cert.KernelOc.main_arg6) = m ((c.tc : Thread Cert.KernelOc.nD Cert.KernelOc.τ).loc Cert.KernelOc.main_arg6))
      ∧ r.2.sem = fun _ => 0)

def quiescent_KernelOcIdeal [hKernelOcIdeal : Cert.KernelOcIdeal.Facts] : Prop :=
  ∀ (m : (ℓ : Loc Cert.KernelOcIdeal.nD Cert.KernelOcIdeal.τ Cert.KernelOcIdeal.sig) → Buf (Elt Ideal) ℓ) (g : Dev Cert.KernelOcIdeal.nD → PrngReg), Pre_KernelOcIdeal m →
    θ_run (Cert.KernelOcIdeal.defs (F := Ideal)) (onTc (τ := Cert.KernelOcIdeal.τ) (Cert.KernelOcIdeal.main (F := Ideal))) ⟨m, fun _ => 0, g⟩ (fun r => (∀ c : Dev Cert.KernelOcIdeal.nD,
      r.2.mem ((c.tc : Thread Cert.KernelOcIdeal.nD Cert.KernelOcIdeal.τ).loc Cert.KernelOcIdeal.main_arg0) = m ((c.tc : Thread Cert.KernelOcIdeal.nD Cert.KernelOcIdeal.τ).loc Cert.KernelOcIdeal.main_arg0)
      ∧ r.2.mem ((c.tc : Thread Cert.KernelOcIdeal.nD Cert.KernelOcIdeal.τ).loc Cert.KernelOcIdeal.main_arg1) = m ((c.tc : Thread Cert.KernelOcIdeal.nD Cert.KernelOcIdeal.τ).loc Cert.KernelOcIdeal.main_arg1)
      ∧ r.2.mem ((c.tc : Thread Cert.KernelOcIdeal.nD Cert.KernelOcIdeal.τ).loc Cert.KernelOcIdeal.main_arg2) = m ((c.tc : Thread Cert.KernelOcIdeal.nD Cert.KernelOcIdeal.τ).loc Cert.KernelOcIdeal.main_arg2)
      ∧ r.2.mem ((c.tc : Thread Cert.KernelOcIdeal.nD Cert.KernelOcIdeal.τ).loc Cert.KernelOcIdeal.main_arg3) = m ((c.tc : Thread Cert.KernelOcIdeal.nD Cert.KernelOcIdeal.τ).loc Cert.KernelOcIdeal.main_arg3)
      ∧ r.2.mem ((c.tc : Thread Cert.KernelOcIdeal.nD Cert.KernelOcIdeal.τ).loc Cert.KernelOcIdeal.main_arg4) = m ((c.tc : Thread Cert.KernelOcIdeal.nD Cert.KernelOcIdeal.τ).loc Cert.KernelOcIdeal.main_arg4)
      ∧ r.2.mem ((c.tc : Thread Cert.KernelOcIdeal.nD Cert.KernelOcIdeal.τ).loc Cert.KernelOcIdeal.main_arg5) = m ((c.tc : Thread Cert.KernelOcIdeal.nD Cert.KernelOcIdeal.τ).loc Cert.KernelOcIdeal.main_arg5)
      ∧ r.2.mem ((c.tc : Thread Cert.KernelOcIdeal.nD Cert.KernelOcIdeal.τ).loc Cert.KernelOcIdeal.main_arg6) = m ((c.tc : Thread Cert.KernelOcIdeal.nD Cert.KernelOcIdeal.τ).loc Cert.KernelOcIdeal.main_arg6))
      ∧ r.2.sem = fun _ => 0)

def quiescent_ReferenceOcIdeal [hReferenceOcIdeal : Cert.ReferenceOcIdeal.Facts] : Prop :=
  ∀ (m : (ℓ : Loc Cert.ReferenceOcIdeal.nD Cert.ReferenceOcIdeal.τ Cert.ReferenceOcIdeal.sig) → Buf (Elt Ideal) ℓ) (g : Dev Cert.ReferenceOcIdeal.nD → PrngReg), Pre_ReferenceOcIdeal m →
    θ_run (Cert.ReferenceOcIdeal.defs (F := Ideal)) (onTc (τ := Cert.ReferenceOcIdeal.τ) (Cert.ReferenceOcIdeal.main (F := Ideal))) ⟨m, fun _ => 0, g⟩ (fun r => (∀ c : Dev Cert.ReferenceOcIdeal.nD,
      r.2.mem ((c.tc : Thread Cert.ReferenceOcIdeal.nD Cert.ReferenceOcIdeal.τ).loc Cert.ReferenceOcIdeal.main_arg0) = m ((c.tc : Thread Cert.ReferenceOcIdeal.nD Cert.ReferenceOcIdeal.τ).loc Cert.ReferenceOcIdeal.main_arg0)
      ∧ r.2.mem ((c.tc : Thread Cert.ReferenceOcIdeal.nD Cert.ReferenceOcIdeal.τ).loc Cert.ReferenceOcIdeal.main_arg1) = m ((c.tc : Thread Cert.ReferenceOcIdeal.nD Cert.ReferenceOcIdeal.τ).loc Cert.ReferenceOcIdeal.main_arg1)
      ∧ r.2.mem ((c.tc : Thread Cert.ReferenceOcIdeal.nD Cert.ReferenceOcIdeal.τ).loc Cert.ReferenceOcIdeal.main_arg2) = m ((c.tc : Thread Cert.ReferenceOcIdeal.nD Cert.ReferenceOcIdeal.τ).loc Cert.ReferenceOcIdeal.main_arg2)
      ∧ r.2.mem ((c.tc : Thread Cert.ReferenceOcIdeal.nD Cert.ReferenceOcIdeal.τ).loc Cert.ReferenceOcIdeal.main_arg3) = m ((c.tc : Thread Cert.ReferenceOcIdeal.nD Cert.ReferenceOcIdeal.τ).loc Cert.ReferenceOcIdeal.main_arg3)
      ∧ r.2.mem ((c.tc : Thread Cert.ReferenceOcIdeal.nD Cert.ReferenceOcIdeal.τ).loc Cert.ReferenceOcIdeal.main_arg4) = m ((c.tc : Thread Cert.ReferenceOcIdeal.nD Cert.ReferenceOcIdeal.τ).loc Cert.ReferenceOcIdeal.main_arg4)
      ∧ r.2.mem ((c.tc : Thread Cert.ReferenceOcIdeal.nD Cert.ReferenceOcIdeal.τ).loc Cert.ReferenceOcIdeal.main_arg5) = m ((c.tc : Thread Cert.ReferenceOcIdeal.nD Cert.ReferenceOcIdeal.τ).loc Cert.ReferenceOcIdeal.main_arg5)
      ∧ r.2.mem ((c.tc : Thread Cert.ReferenceOcIdeal.nD Cert.ReferenceOcIdeal.τ).loc Cert.ReferenceOcIdeal.main_arg6) = m ((c.tc : Thread Cert.ReferenceOcIdeal.nD Cert.ReferenceOcIdeal.τ).loc Cert.ReferenceOcIdeal.main_arg6))
      ∧ r.2.sem = fun _ => 0)

def quiescent_KernelOo [hKernelOo : Cert.KernelOo.Facts] : Prop :=
  ∀ (m : (ℓ : Loc Cert.KernelOo.nD Cert.KernelOo.τ Cert.KernelOo.sig) → Buf (Elt Bits) ℓ) (g : Dev Cert.KernelOo.nD → PrngReg), Pre_KernelOo m →
    θ_run (Cert.KernelOo.defs (F := Bits)) (onTc (τ := Cert.KernelOo.τ) (Cert.KernelOo.main (F := Bits))) ⟨m, fun _ => 0, g⟩ (fun r => (∀ c : Dev Cert.KernelOo.nD,
      r.2.mem ((c.tc : Thread Cert.KernelOo.nD Cert.KernelOo.τ).loc Cert.KernelOo.main_arg0) = m ((c.tc : Thread Cert.KernelOo.nD Cert.KernelOo.τ).loc Cert.KernelOo.main_arg0)
      ∧ r.2.mem ((c.tc : Thread Cert.KernelOo.nD Cert.KernelOo.τ).loc Cert.KernelOo.main_arg1) = m ((c.tc : Thread Cert.KernelOo.nD Cert.KernelOo.τ).loc Cert.KernelOo.main_arg1)
      ∧ r.2.mem ((c.tc : Thread Cert.KernelOo.nD Cert.KernelOo.τ).loc Cert.KernelOo.main_arg2) = m ((c.tc : Thread Cert.KernelOo.nD Cert.KernelOo.τ).loc Cert.KernelOo.main_arg2)
      ∧ r.2.mem ((c.tc : Thread Cert.KernelOo.nD Cert.KernelOo.τ).loc Cert.KernelOo.main_arg3) = m ((c.tc : Thread Cert.KernelOo.nD Cert.KernelOo.τ).loc Cert.KernelOo.main_arg3)
      ∧ r.2.mem ((c.tc : Thread Cert.KernelOo.nD Cert.KernelOo.τ).loc Cert.KernelOo.main_arg4) = m ((c.tc : Thread Cert.KernelOo.nD Cert.KernelOo.τ).loc Cert.KernelOo.main_arg4)
      ∧ r.2.mem ((c.tc : Thread Cert.KernelOo.nD Cert.KernelOo.τ).loc Cert.KernelOo.main_arg5) = m ((c.tc : Thread Cert.KernelOo.nD Cert.KernelOo.τ).loc Cert.KernelOo.main_arg5)
      ∧ r.2.mem ((c.tc : Thread Cert.KernelOo.nD Cert.KernelOo.τ).loc Cert.KernelOo.main_arg6) = m ((c.tc : Thread Cert.KernelOo.nD Cert.KernelOo.τ).loc Cert.KernelOo.main_arg6))
      ∧ r.2.sem = fun _ => 0)

def quiescent_KernelOoIdeal [hKernelOoIdeal : Cert.KernelOoIdeal.Facts] : Prop :=
  ∀ (m : (ℓ : Loc Cert.KernelOoIdeal.nD Cert.KernelOoIdeal.τ Cert.KernelOoIdeal.sig) → Buf (Elt Ideal) ℓ) (g : Dev Cert.KernelOoIdeal.nD → PrngReg), Pre_KernelOoIdeal m →
    θ_run (Cert.KernelOoIdeal.defs (F := Ideal)) (onTc (τ := Cert.KernelOoIdeal.τ) (Cert.KernelOoIdeal.main (F := Ideal))) ⟨m, fun _ => 0, g⟩ (fun r => (∀ c : Dev Cert.KernelOoIdeal.nD,
      r.2.mem ((c.tc : Thread Cert.KernelOoIdeal.nD Cert.KernelOoIdeal.τ).loc Cert.KernelOoIdeal.main_arg0) = m ((c.tc : Thread Cert.KernelOoIdeal.nD Cert.KernelOoIdeal.τ).loc Cert.KernelOoIdeal.main_arg0)
      ∧ r.2.mem ((c.tc : Thread Cert.KernelOoIdeal.nD Cert.KernelOoIdeal.τ).loc Cert.KernelOoIdeal.main_arg1) = m ((c.tc : Thread Cert.KernelOoIdeal.nD Cert.KernelOoIdeal.τ).loc Cert.KernelOoIdeal.main_arg1)
      ∧ r.2.mem ((c.tc : Thread Cert.KernelOoIdeal.nD Cert.KernelOoIdeal.τ).loc Cert.KernelOoIdeal.main_arg2) = m ((c.tc : Thread Cert.KernelOoIdeal.nD Cert.KernelOoIdeal.τ).loc Cert.KernelOoIdeal.main_arg2)
      ∧ r.2.mem ((c.tc : Thread Cert.KernelOoIdeal.nD Cert.KernelOoIdeal.τ).loc Cert.KernelOoIdeal.main_arg3) = m ((c.tc : Thread Cert.KernelOoIdeal.nD Cert.KernelOoIdeal.τ).loc Cert.KernelOoIdeal.main_arg3)
      ∧ r.2.mem ((c.tc : Thread Cert.KernelOoIdeal.nD Cert.KernelOoIdeal.τ).loc Cert.KernelOoIdeal.main_arg4) = m ((c.tc : Thread Cert.KernelOoIdeal.nD Cert.KernelOoIdeal.τ).loc Cert.KernelOoIdeal.main_arg4)
      ∧ r.2.mem ((c.tc : Thread Cert.KernelOoIdeal.nD Cert.KernelOoIdeal.τ).loc Cert.KernelOoIdeal.main_arg5) = m ((c.tc : Thread Cert.KernelOoIdeal.nD Cert.KernelOoIdeal.τ).loc Cert.KernelOoIdeal.main_arg5)
      ∧ r.2.mem ((c.tc : Thread Cert.KernelOoIdeal.nD Cert.KernelOoIdeal.τ).loc Cert.KernelOoIdeal.main_arg6) = m ((c.tc : Thread Cert.KernelOoIdeal.nD Cert.KernelOoIdeal.τ).loc Cert.KernelOoIdeal.main_arg6))
      ∧ r.2.sem = fun _ => 0)

def quiescent_ReferenceOoIdeal [hReferenceOoIdeal : Cert.ReferenceOoIdeal.Facts] : Prop :=
  ∀ (m : (ℓ : Loc Cert.ReferenceOoIdeal.nD Cert.ReferenceOoIdeal.τ Cert.ReferenceOoIdeal.sig) → Buf (Elt Ideal) ℓ) (g : Dev Cert.ReferenceOoIdeal.nD → PrngReg), Pre_ReferenceOoIdeal m →
    θ_run (Cert.ReferenceOoIdeal.defs (F := Ideal)) (onTc (τ := Cert.ReferenceOoIdeal.τ) (Cert.ReferenceOoIdeal.main (F := Ideal))) ⟨m, fun _ => 0, g⟩ (fun r => (∀ c : Dev Cert.ReferenceOoIdeal.nD,
      r.2.mem ((c.tc : Thread Cert.ReferenceOoIdeal.nD Cert.ReferenceOoIdeal.τ).loc Cert.ReferenceOoIdeal.main_arg0) = m ((c.tc : Thread Cert.ReferenceOoIdeal.nD Cert.ReferenceOoIdeal.τ).loc Cert.ReferenceOoIdeal.main_arg0)
      ∧ r.2.mem ((c.tc : Thread Cert.ReferenceOoIdeal.nD Cert.ReferenceOoIdeal.τ).loc Cert.ReferenceOoIdeal.main_arg1) = m ((c.tc : Thread Cert.ReferenceOoIdeal.nD Cert.ReferenceOoIdeal.τ).loc Cert.ReferenceOoIdeal.main_arg1)
      ∧ r.2.mem ((c.tc : Thread Cert.ReferenceOoIdeal.nD Cert.ReferenceOoIdeal.τ).loc Cert.ReferenceOoIdeal.main_arg2) = m ((c.tc : Thread Cert.ReferenceOoIdeal.nD Cert.ReferenceOoIdeal.τ).loc Cert.ReferenceOoIdeal.main_arg2)
      ∧ r.2.mem ((c.tc : Thread Cert.ReferenceOoIdeal.nD Cert.ReferenceOoIdeal.τ).loc Cert.ReferenceOoIdeal.main_arg3) = m ((c.tc : Thread Cert.ReferenceOoIdeal.nD Cert.ReferenceOoIdeal.τ).loc Cert.ReferenceOoIdeal.main_arg3)
      ∧ r.2.mem ((c.tc : Thread Cert.ReferenceOoIdeal.nD Cert.ReferenceOoIdeal.τ).loc Cert.ReferenceOoIdeal.main_arg4) = m ((c.tc : Thread Cert.ReferenceOoIdeal.nD Cert.ReferenceOoIdeal.τ).loc Cert.ReferenceOoIdeal.main_arg4)
      ∧ r.2.mem ((c.tc : Thread Cert.ReferenceOoIdeal.nD Cert.ReferenceOoIdeal.τ).loc Cert.ReferenceOoIdeal.main_arg5) = m ((c.tc : Thread Cert.ReferenceOoIdeal.nD Cert.ReferenceOoIdeal.τ).loc Cert.ReferenceOoIdeal.main_arg5)
      ∧ r.2.mem ((c.tc : Thread Cert.ReferenceOoIdeal.nD Cert.ReferenceOoIdeal.τ).loc Cert.ReferenceOoIdeal.main_arg6) = m ((c.tc : Thread Cert.ReferenceOoIdeal.nD Cert.ReferenceOoIdeal.τ).loc Cert.ReferenceOoIdeal.main_arg6))
      ∧ r.2.sem = fun _ => 0)

def quiescent_KernelSs [hKernelSs : Cert.KernelSs.Facts] : Prop :=
  ∀ (m : (ℓ : Loc Cert.KernelSs.nD Cert.KernelSs.τ Cert.KernelSs.sig) → Buf (Elt Bits) ℓ) (g : Dev Cert.KernelSs.nD → PrngReg), Pre_KernelSs m →
    θ_run (Cert.KernelSs.defs (F := Bits)) (onTc (τ := Cert.KernelSs.τ) (Cert.KernelSs.main (F := Bits))) ⟨m, fun _ => 0, g⟩ (fun r => (∀ c : Dev Cert.KernelSs.nD,
      r.2.mem ((c.tc : Thread Cert.KernelSs.nD Cert.KernelSs.τ).loc Cert.KernelSs.main_arg0) = m ((c.tc : Thread Cert.KernelSs.nD Cert.KernelSs.τ).loc Cert.KernelSs.main_arg0)
      ∧ r.2.mem ((c.tc : Thread Cert.KernelSs.nD Cert.KernelSs.τ).loc Cert.KernelSs.main_arg1) = m ((c.tc : Thread Cert.KernelSs.nD Cert.KernelSs.τ).loc Cert.KernelSs.main_arg1)
      ∧ r.2.mem ((c.tc : Thread Cert.KernelSs.nD Cert.KernelSs.τ).loc Cert.KernelSs.main_arg2) = m ((c.tc : Thread Cert.KernelSs.nD Cert.KernelSs.τ).loc Cert.KernelSs.main_arg2)
      ∧ r.2.mem ((c.tc : Thread Cert.KernelSs.nD Cert.KernelSs.τ).loc Cert.KernelSs.main_arg3) = m ((c.tc : Thread Cert.KernelSs.nD Cert.KernelSs.τ).loc Cert.KernelSs.main_arg3)
      ∧ r.2.mem ((c.tc : Thread Cert.KernelSs.nD Cert.KernelSs.τ).loc Cert.KernelSs.main_arg4) = m ((c.tc : Thread Cert.KernelSs.nD Cert.KernelSs.τ).loc Cert.KernelSs.main_arg4)
      ∧ r.2.mem ((c.tc : Thread Cert.KernelSs.nD Cert.KernelSs.τ).loc Cert.KernelSs.main_arg5) = m ((c.tc : Thread Cert.KernelSs.nD Cert.KernelSs.τ).loc Cert.KernelSs.main_arg5)
      ∧ r.2.mem ((c.tc : Thread Cert.KernelSs.nD Cert.KernelSs.τ).loc Cert.KernelSs.main_arg6) = m ((c.tc : Thread Cert.KernelSs.nD Cert.KernelSs.τ).loc Cert.KernelSs.main_arg6)
      ∧ r.2.mem ((c.tc : Thread Cert.KernelSs.nD Cert.KernelSs.τ).loc Cert.KernelSs.main_arg7) = m ((c.tc : Thread Cert.KernelSs.nD Cert.KernelSs.τ).loc Cert.KernelSs.main_arg7)
      ∧ r.2.mem ((c.tc : Thread Cert.KernelSs.nD Cert.KernelSs.τ).loc Cert.KernelSs.main_arg8) = m ((c.tc : Thread Cert.KernelSs.nD Cert.KernelSs.τ).loc Cert.KernelSs.main_arg8)
      ∧ r.2.mem ((c.tc : Thread Cert.KernelSs.nD Cert.KernelSs.τ).loc Cert.KernelSs.main_arg9) = m ((c.tc : Thread Cert.KernelSs.nD Cert.KernelSs.τ).loc Cert.KernelSs.main_arg9)
      ∧ r.2.mem ((c.tc : Thread Cert.KernelSs.nD Cert.KernelSs.τ).loc Cert.KernelSs.main_arg10) = m ((c.tc : Thread Cert.KernelSs.nD Cert.KernelSs.τ).loc Cert.KernelSs.main_arg10)
      ∧ r.2.mem ((c.tc : Thread Cert.KernelSs.nD Cert.KernelSs.τ).loc Cert.KernelSs.main_arg11) = m ((c.tc : Thread Cert.KernelSs.nD Cert.KernelSs.τ).loc Cert.KernelSs.main_arg11)
      ∧ r.2.mem ((c.tc : Thread Cert.KernelSs.nD Cert.KernelSs.τ).loc Cert.KernelSs.main_arg12) = m ((c.tc : Thread Cert.KernelSs.nD Cert.KernelSs.τ).loc Cert.KernelSs.main_arg12)
      ∧ r.2.mem ((c.tc : Thread Cert.KernelSs.nD Cert.KernelSs.τ).loc Cert.KernelSs.main_arg13) = m ((c.tc : Thread Cert.KernelSs.nD Cert.KernelSs.τ).loc Cert.KernelSs.main_arg13)
      ∧ r.2.mem ((c.tc : Thread Cert.KernelSs.nD Cert.KernelSs.τ).loc Cert.KernelSs.main_arg14) = m ((c.tc : Thread Cert.KernelSs.nD Cert.KernelSs.τ).loc Cert.KernelSs.main_arg14)
      ∧ r.2.mem ((c.tc : Thread Cert.KernelSs.nD Cert.KernelSs.τ).loc Cert.KernelSs.main_arg15) = m ((c.tc : Thread Cert.KernelSs.nD Cert.KernelSs.τ).loc Cert.KernelSs.main_arg15)
      ∧ r.2.mem ((c.tc : Thread Cert.KernelSs.nD Cert.KernelSs.τ).loc Cert.KernelSs.main_arg16) = m ((c.tc : Thread Cert.KernelSs.nD Cert.KernelSs.τ).loc Cert.KernelSs.main_arg16)
      ∧ r.2.mem ((c.tc : Thread Cert.KernelSs.nD Cert.KernelSs.τ).loc Cert.KernelSs.main_arg17) = m ((c.tc : Thread Cert.KernelSs.nD Cert.KernelSs.τ).loc Cert.KernelSs.main_arg17)
      ∧ r.2.mem ((c.tc : Thread Cert.KernelSs.nD Cert.KernelSs.τ).loc Cert.KernelSs.main_arg18) = m ((c.tc : Thread Cert.KernelSs.nD Cert.KernelSs.τ).loc Cert.KernelSs.main_arg18)
      ∧ r.2.mem ((c.tc : Thread Cert.KernelSs.nD Cert.KernelSs.τ).loc Cert.KernelSs.main_arg19) = m ((c.tc : Thread Cert.KernelSs.nD Cert.KernelSs.τ).loc Cert.KernelSs.main_arg19)
      ∧ r.2.mem ((c.tc : Thread Cert.KernelSs.nD Cert.KernelSs.τ).loc Cert.KernelSs.main_arg20) = m ((c.tc : Thread Cert.KernelSs.nD Cert.KernelSs.τ).loc Cert.KernelSs.main_arg20)
      ∧ r.2.mem ((c.tc : Thread Cert.KernelSs.nD Cert.KernelSs.τ).loc Cert.KernelSs.main_arg21) = m ((c.tc : Thread Cert.KernelSs.nD Cert.KernelSs.τ).loc Cert.KernelSs.main_arg21))
      ∧ r.2.sem = fun _ => 0)

def quiescent_KernelSsIdeal [hKernelSsIdeal : Cert.KernelSsIdeal.Facts] : Prop :=
  ∀ (m : (ℓ : Loc Cert.KernelSsIdeal.nD Cert.KernelSsIdeal.τ Cert.KernelSsIdeal.sig) → Buf (Elt Ideal) ℓ) (g : Dev Cert.KernelSsIdeal.nD → PrngReg), Pre_KernelSsIdeal m →
    θ_run (Cert.KernelSsIdeal.defs (F := Ideal)) (onTc (τ := Cert.KernelSsIdeal.τ) (Cert.KernelSsIdeal.main (F := Ideal))) ⟨m, fun _ => 0, g⟩ (fun r => (∀ c : Dev Cert.KernelSsIdeal.nD,
      r.2.mem ((c.tc : Thread Cert.KernelSsIdeal.nD Cert.KernelSsIdeal.τ).loc Cert.KernelSsIdeal.main_arg0) = m ((c.tc : Thread Cert.KernelSsIdeal.nD Cert.KernelSsIdeal.τ).loc Cert.KernelSsIdeal.main_arg0)
      ∧ r.2.mem ((c.tc : Thread Cert.KernelSsIdeal.nD Cert.KernelSsIdeal.τ).loc Cert.KernelSsIdeal.main_arg1) = m ((c.tc : Thread Cert.KernelSsIdeal.nD Cert.KernelSsIdeal.τ).loc Cert.KernelSsIdeal.main_arg1)
      ∧ r.2.mem ((c.tc : Thread Cert.KernelSsIdeal.nD Cert.KernelSsIdeal.τ).loc Cert.KernelSsIdeal.main_arg2) = m ((c.tc : Thread Cert.KernelSsIdeal.nD Cert.KernelSsIdeal.τ).loc Cert.KernelSsIdeal.main_arg2)
      ∧ r.2.mem ((c.tc : Thread Cert.KernelSsIdeal.nD Cert.KernelSsIdeal.τ).loc Cert.KernelSsIdeal.main_arg3) = m ((c.tc : Thread Cert.KernelSsIdeal.nD Cert.KernelSsIdeal.τ).loc Cert.KernelSsIdeal.main_arg3)
      ∧ r.2.mem ((c.tc : Thread Cert.KernelSsIdeal.nD Cert.KernelSsIdeal.τ).loc Cert.KernelSsIdeal.main_arg4) = m ((c.tc : Thread Cert.KernelSsIdeal.nD Cert.KernelSsIdeal.τ).loc Cert.KernelSsIdeal.main_arg4)
      ∧ r.2.mem ((c.tc : Thread Cert.KernelSsIdeal.nD Cert.KernelSsIdeal.τ).loc Cert.KernelSsIdeal.main_arg5) = m ((c.tc : Thread Cert.KernelSsIdeal.nD Cert.KernelSsIdeal.τ).loc Cert.KernelSsIdeal.main_arg5)
      ∧ r.2.mem ((c.tc : Thread Cert.KernelSsIdeal.nD Cert.KernelSsIdeal.τ).loc Cert.KernelSsIdeal.main_arg6) = m ((c.tc : Thread Cert.KernelSsIdeal.nD Cert.KernelSsIdeal.τ).loc Cert.KernelSsIdeal.main_arg6)
      ∧ r.2.mem ((c.tc : Thread Cert.KernelSsIdeal.nD Cert.KernelSsIdeal.τ).loc Cert.KernelSsIdeal.main_arg7) = m ((c.tc : Thread Cert.KernelSsIdeal.nD Cert.KernelSsIdeal.τ).loc Cert.KernelSsIdeal.main_arg7)
      ∧ r.2.mem ((c.tc : Thread Cert.KernelSsIdeal.nD Cert.KernelSsIdeal.τ).loc Cert.KernelSsIdeal.main_arg8) = m ((c.tc : Thread Cert.KernelSsIdeal.nD Cert.KernelSsIdeal.τ).loc Cert.KernelSsIdeal.main_arg8)
      ∧ r.2.mem ((c.tc : Thread Cert.KernelSsIdeal.nD Cert.KernelSsIdeal.τ).loc Cert.KernelSsIdeal.main_arg9) = m ((c.tc : Thread Cert.KernelSsIdeal.nD Cert.KernelSsIdeal.τ).loc Cert.KernelSsIdeal.main_arg9)
      ∧ r.2.mem ((c.tc : Thread Cert.KernelSsIdeal.nD Cert.KernelSsIdeal.τ).loc Cert.KernelSsIdeal.main_arg10) = m ((c.tc : Thread Cert.KernelSsIdeal.nD Cert.KernelSsIdeal.τ).loc Cert.KernelSsIdeal.main_arg10)
      ∧ r.2.mem ((c.tc : Thread Cert.KernelSsIdeal.nD Cert.KernelSsIdeal.τ).loc Cert.KernelSsIdeal.main_arg11) = m ((c.tc : Thread Cert.KernelSsIdeal.nD Cert.KernelSsIdeal.τ).loc Cert.KernelSsIdeal.main_arg11)
      ∧ r.2.mem ((c.tc : Thread Cert.KernelSsIdeal.nD Cert.KernelSsIdeal.τ).loc Cert.KernelSsIdeal.main_arg12) = m ((c.tc : Thread Cert.KernelSsIdeal.nD Cert.KernelSsIdeal.τ).loc Cert.KernelSsIdeal.main_arg12)
      ∧ r.2.mem ((c.tc : Thread Cert.KernelSsIdeal.nD Cert.KernelSsIdeal.τ).loc Cert.KernelSsIdeal.main_arg13) = m ((c.tc : Thread Cert.KernelSsIdeal.nD Cert.KernelSsIdeal.τ).loc Cert.KernelSsIdeal.main_arg13)
      ∧ r.2.mem ((c.tc : Thread Cert.KernelSsIdeal.nD Cert.KernelSsIdeal.τ).loc Cert.KernelSsIdeal.main_arg14) = m ((c.tc : Thread Cert.KernelSsIdeal.nD Cert.KernelSsIdeal.τ).loc Cert.KernelSsIdeal.main_arg14)
      ∧ r.2.mem ((c.tc : Thread Cert.KernelSsIdeal.nD Cert.KernelSsIdeal.τ).loc Cert.KernelSsIdeal.main_arg15) = m ((c.tc : Thread Cert.KernelSsIdeal.nD Cert.KernelSsIdeal.τ).loc Cert.KernelSsIdeal.main_arg15)
      ∧ r.2.mem ((c.tc : Thread Cert.KernelSsIdeal.nD Cert.KernelSsIdeal.τ).loc Cert.KernelSsIdeal.main_arg16) = m ((c.tc : Thread Cert.KernelSsIdeal.nD Cert.KernelSsIdeal.τ).loc Cert.KernelSsIdeal.main_arg16)
      ∧ r.2.mem ((c.tc : Thread Cert.KernelSsIdeal.nD Cert.KernelSsIdeal.τ).loc Cert.KernelSsIdeal.main_arg17) = m ((c.tc : Thread Cert.KernelSsIdeal.nD Cert.KernelSsIdeal.τ).loc Cert.KernelSsIdeal.main_arg17)
      ∧ r.2.mem ((c.tc : Thread Cert.KernelSsIdeal.nD Cert.KernelSsIdeal.τ).loc Cert.KernelSsIdeal.main_arg18) = m ((c.tc : Thread Cert.KernelSsIdeal.nD Cert.KernelSsIdeal.τ).loc Cert.KernelSsIdeal.main_arg18)
      ∧ r.2.mem ((c.tc : Thread Cert.KernelSsIdeal.nD Cert.KernelSsIdeal.τ).loc Cert.KernelSsIdeal.main_arg19) = m ((c.tc : Thread Cert.KernelSsIdeal.nD Cert.KernelSsIdeal.τ).loc Cert.KernelSsIdeal.main_arg19)
      ∧ r.2.mem ((c.tc : Thread Cert.KernelSsIdeal.nD Cert.KernelSsIdeal.τ).loc Cert.KernelSsIdeal.main_arg20) = m ((c.tc : Thread Cert.KernelSsIdeal.nD Cert.KernelSsIdeal.τ).loc Cert.KernelSsIdeal.main_arg20)
      ∧ r.2.mem ((c.tc : Thread Cert.KernelSsIdeal.nD Cert.KernelSsIdeal.τ).loc Cert.KernelSsIdeal.main_arg21) = m ((c.tc : Thread Cert.KernelSsIdeal.nD Cert.KernelSsIdeal.τ).loc Cert.KernelSsIdeal.main_arg21))
      ∧ r.2.sem = fun _ => 0)

def quiescent_ReferenceSsIdeal [hReferenceSsIdeal : Cert.ReferenceSsIdeal.Facts] : Prop :=
  ∀ (m : (ℓ : Loc Cert.ReferenceSsIdeal.nD Cert.ReferenceSsIdeal.τ Cert.ReferenceSsIdeal.sig) → Buf (Elt Ideal) ℓ) (g : Dev Cert.ReferenceSsIdeal.nD → PrngReg), Pre_ReferenceSsIdeal m →
    θ_run (Cert.ReferenceSsIdeal.defs (F := Ideal)) (onTc (τ := Cert.ReferenceSsIdeal.τ) (Cert.ReferenceSsIdeal.main (F := Ideal))) ⟨m, fun _ => 0, g⟩ (fun r => (∀ c : Dev Cert.ReferenceSsIdeal.nD,
      r.2.mem ((c.tc : Thread Cert.ReferenceSsIdeal.nD Cert.ReferenceSsIdeal.τ).loc Cert.ReferenceSsIdeal.main_arg0) = m ((c.tc : Thread Cert.ReferenceSsIdeal.nD Cert.ReferenceSsIdeal.τ).loc Cert.ReferenceSsIdeal.main_arg0)
      ∧ r.2.mem ((c.tc : Thread Cert.ReferenceSsIdeal.nD Cert.ReferenceSsIdeal.τ).loc Cert.ReferenceSsIdeal.main_arg1) = m ((c.tc : Thread Cert.ReferenceSsIdeal.nD Cert.ReferenceSsIdeal.τ).loc Cert.ReferenceSsIdeal.main_arg1)
      ∧ r.2.mem ((c.tc : Thread Cert.ReferenceSsIdeal.nD Cert.ReferenceSsIdeal.τ).loc Cert.ReferenceSsIdeal.main_arg2) = m ((c.tc : Thread Cert.ReferenceSsIdeal.nD Cert.ReferenceSsIdeal.τ).loc Cert.ReferenceSsIdeal.main_arg2)
      ∧ r.2.mem ((c.tc : Thread Cert.ReferenceSsIdeal.nD Cert.ReferenceSsIdeal.τ).loc Cert.ReferenceSsIdeal.main_arg3) = m ((c.tc : Thread Cert.ReferenceSsIdeal.nD Cert.ReferenceSsIdeal.τ).loc Cert.ReferenceSsIdeal.main_arg3)
      ∧ r.2.mem ((c.tc : Thread Cert.ReferenceSsIdeal.nD Cert.ReferenceSsIdeal.τ).loc Cert.ReferenceSsIdeal.main_arg4) = m ((c.tc : Thread Cert.ReferenceSsIdeal.nD Cert.ReferenceSsIdeal.τ).loc Cert.ReferenceSsIdeal.main_arg4)
      ∧ r.2.mem ((c.tc : Thread Cert.ReferenceSsIdeal.nD Cert.ReferenceSsIdeal.τ).loc Cert.ReferenceSsIdeal.main_arg5) = m ((c.tc : Thread Cert.ReferenceSsIdeal.nD Cert.ReferenceSsIdeal.τ).loc Cert.ReferenceSsIdeal.main_arg5)
      ∧ r.2.mem ((c.tc : Thread Cert.ReferenceSsIdeal.nD Cert.ReferenceSsIdeal.τ).loc Cert.ReferenceSsIdeal.main_arg6) = m ((c.tc : Thread Cert.ReferenceSsIdeal.nD Cert.ReferenceSsIdeal.τ).loc Cert.ReferenceSsIdeal.main_arg6)
      ∧ r.2.mem ((c.tc : Thread Cert.ReferenceSsIdeal.nD Cert.ReferenceSsIdeal.τ).loc Cert.ReferenceSsIdeal.main_arg7) = m ((c.tc : Thread Cert.ReferenceSsIdeal.nD Cert.ReferenceSsIdeal.τ).loc Cert.ReferenceSsIdeal.main_arg7)
      ∧ r.2.mem ((c.tc : Thread Cert.ReferenceSsIdeal.nD Cert.ReferenceSsIdeal.τ).loc Cert.ReferenceSsIdeal.main_arg8) = m ((c.tc : Thread Cert.ReferenceSsIdeal.nD Cert.ReferenceSsIdeal.τ).loc Cert.ReferenceSsIdeal.main_arg8)
      ∧ r.2.mem ((c.tc : Thread Cert.ReferenceSsIdeal.nD Cert.ReferenceSsIdeal.τ).loc Cert.ReferenceSsIdeal.main_arg9) = m ((c.tc : Thread Cert.ReferenceSsIdeal.nD Cert.ReferenceSsIdeal.τ).loc Cert.ReferenceSsIdeal.main_arg9)
      ∧ r.2.mem ((c.tc : Thread Cert.ReferenceSsIdeal.nD Cert.ReferenceSsIdeal.τ).loc Cert.ReferenceSsIdeal.main_arg10) = m ((c.tc : Thread Cert.ReferenceSsIdeal.nD Cert.ReferenceSsIdeal.τ).loc Cert.ReferenceSsIdeal.main_arg10)
      ∧ r.2.mem ((c.tc : Thread Cert.ReferenceSsIdeal.nD Cert.ReferenceSsIdeal.τ).loc Cert.ReferenceSsIdeal.main_arg11) = m ((c.tc : Thread Cert.ReferenceSsIdeal.nD Cert.ReferenceSsIdeal.τ).loc Cert.ReferenceSsIdeal.main_arg11)
      ∧ r.2.mem ((c.tc : Thread Cert.ReferenceSsIdeal.nD Cert.ReferenceSsIdeal.τ).loc Cert.ReferenceSsIdeal.main_arg12) = m ((c.tc : Thread Cert.ReferenceSsIdeal.nD Cert.ReferenceSsIdeal.τ).loc Cert.ReferenceSsIdeal.main_arg12)
      ∧ r.2.mem ((c.tc : Thread Cert.ReferenceSsIdeal.nD Cert.ReferenceSsIdeal.τ).loc Cert.ReferenceSsIdeal.main_arg13) = m ((c.tc : Thread Cert.ReferenceSsIdeal.nD Cert.ReferenceSsIdeal.τ).loc Cert.ReferenceSsIdeal.main_arg13)
      ∧ r.2.mem ((c.tc : Thread Cert.ReferenceSsIdeal.nD Cert.ReferenceSsIdeal.τ).loc Cert.ReferenceSsIdeal.main_arg14) = m ((c.tc : Thread Cert.ReferenceSsIdeal.nD Cert.ReferenceSsIdeal.τ).loc Cert.ReferenceSsIdeal.main_arg14)
      ∧ r.2.mem ((c.tc : Thread Cert.ReferenceSsIdeal.nD Cert.ReferenceSsIdeal.τ).loc Cert.ReferenceSsIdeal.main_arg15) = m ((c.tc : Thread Cert.ReferenceSsIdeal.nD Cert.ReferenceSsIdeal.τ).loc Cert.ReferenceSsIdeal.main_arg15)
      ∧ r.2.mem ((c.tc : Thread Cert.ReferenceSsIdeal.nD Cert.ReferenceSsIdeal.τ).loc Cert.ReferenceSsIdeal.main_arg16) = m ((c.tc : Thread Cert.ReferenceSsIdeal.nD Cert.ReferenceSsIdeal.τ).loc Cert.ReferenceSsIdeal.main_arg16)
      ∧ r.2.mem ((c.tc : Thread Cert.ReferenceSsIdeal.nD Cert.ReferenceSsIdeal.τ).loc Cert.ReferenceSsIdeal.main_arg17) = m ((c.tc : Thread Cert.ReferenceSsIdeal.nD Cert.ReferenceSsIdeal.τ).loc Cert.ReferenceSsIdeal.main_arg17)
      ∧ r.2.mem ((c.tc : Thread Cert.ReferenceSsIdeal.nD Cert.ReferenceSsIdeal.τ).loc Cert.ReferenceSsIdeal.main_arg18) = m ((c.tc : Thread Cert.ReferenceSsIdeal.nD Cert.ReferenceSsIdeal.τ).loc Cert.ReferenceSsIdeal.main_arg18)
      ∧ r.2.mem ((c.tc : Thread Cert.ReferenceSsIdeal.nD Cert.ReferenceSsIdeal.τ).loc Cert.ReferenceSsIdeal.main_arg19) = m ((c.tc : Thread Cert.ReferenceSsIdeal.nD Cert.ReferenceSsIdeal.τ).loc Cert.ReferenceSsIdeal.main_arg19)
      ∧ r.2.mem ((c.tc : Thread Cert.ReferenceSsIdeal.nD Cert.ReferenceSsIdeal.τ).loc Cert.ReferenceSsIdeal.main_arg20) = m ((c.tc : Thread Cert.ReferenceSsIdeal.nD Cert.ReferenceSsIdeal.τ).loc Cert.ReferenceSsIdeal.main_arg20)
      ∧ r.2.mem ((c.tc : Thread Cert.ReferenceSsIdeal.nD Cert.ReferenceSsIdeal.τ).loc Cert.ReferenceSsIdeal.main_arg21) = m ((c.tc : Thread Cert.ReferenceSsIdeal.nD Cert.ReferenceSsIdeal.τ).loc Cert.ReferenceSsIdeal.main_arg21))
      ∧ r.2.sem = fun _ => 0)

def quiescent_KernelSa [hKernelSa : Cert.KernelSa.Facts] : Prop :=
  ∀ (m : (ℓ : Loc Cert.KernelSa.nD Cert.KernelSa.τ Cert.KernelSa.sig) → Buf (Elt Bits) ℓ) (g : Dev Cert.KernelSa.nD → PrngReg), Pre_KernelSa m →
    θ_run (Cert.KernelSa.defs (F := Bits)) (onTc (τ := Cert.KernelSa.τ) (Cert.KernelSa.main (F := Bits))) ⟨m, fun _ => 0, g⟩ (fun r => (∀ c : Dev Cert.KernelSa.nD,
      r.2.mem ((c.tc : Thread Cert.KernelSa.nD Cert.KernelSa.τ).loc Cert.KernelSa.main_arg0) = m ((c.tc : Thread Cert.KernelSa.nD Cert.KernelSa.τ).loc Cert.KernelSa.main_arg0)
      ∧ r.2.mem ((c.tc : Thread Cert.KernelSa.nD Cert.KernelSa.τ).loc Cert.KernelSa.main_arg1) = m ((c.tc : Thread Cert.KernelSa.nD Cert.KernelSa.τ).loc Cert.KernelSa.main_arg1)
      ∧ r.2.mem ((c.tc : Thread Cert.KernelSa.nD Cert.KernelSa.τ).loc Cert.KernelSa.main_arg2) = m ((c.tc : Thread Cert.KernelSa.nD Cert.KernelSa.τ).loc Cert.KernelSa.main_arg2)
      ∧ r.2.mem ((c.tc : Thread Cert.KernelSa.nD Cert.KernelSa.τ).loc Cert.KernelSa.main_arg3) = m ((c.tc : Thread Cert.KernelSa.nD Cert.KernelSa.τ).loc Cert.KernelSa.main_arg3)
      ∧ r.2.mem ((c.tc : Thread Cert.KernelSa.nD Cert.KernelSa.τ).loc Cert.KernelSa.main_arg4) = m ((c.tc : Thread Cert.KernelSa.nD Cert.KernelSa.τ).loc Cert.KernelSa.main_arg4)
      ∧ r.2.mem ((c.tc : Thread Cert.KernelSa.nD Cert.KernelSa.τ).loc Cert.KernelSa.main_arg5) = m ((c.tc : Thread Cert.KernelSa.nD Cert.KernelSa.τ).loc Cert.KernelSa.main_arg5)
      ∧ r.2.mem ((c.tc : Thread Cert.KernelSa.nD Cert.KernelSa.τ).loc Cert.KernelSa.main_arg6) = m ((c.tc : Thread Cert.KernelSa.nD Cert.KernelSa.τ).loc Cert.KernelSa.main_arg6)
      ∧ r.2.mem ((c.tc : Thread Cert.KernelSa.nD Cert.KernelSa.τ).loc Cert.KernelSa.main_arg7) = m ((c.tc : Thread Cert.KernelSa.nD Cert.KernelSa.τ).loc Cert.KernelSa.main_arg7)
      ∧ r.2.mem ((c.tc : Thread Cert.KernelSa.nD Cert.KernelSa.τ).loc Cert.KernelSa.main_arg8) = m ((c.tc : Thread Cert.KernelSa.nD Cert.KernelSa.τ).loc Cert.KernelSa.main_arg8)
      ∧ r.2.mem ((c.tc : Thread Cert.KernelSa.nD Cert.KernelSa.τ).loc Cert.KernelSa.main_arg9) = m ((c.tc : Thread Cert.KernelSa.nD Cert.KernelSa.τ).loc Cert.KernelSa.main_arg9)
      ∧ r.2.mem ((c.tc : Thread Cert.KernelSa.nD Cert.KernelSa.τ).loc Cert.KernelSa.main_arg10) = m ((c.tc : Thread Cert.KernelSa.nD Cert.KernelSa.τ).loc Cert.KernelSa.main_arg10)
      ∧ r.2.mem ((c.tc : Thread Cert.KernelSa.nD Cert.KernelSa.τ).loc Cert.KernelSa.main_arg11) = m ((c.tc : Thread Cert.KernelSa.nD Cert.KernelSa.τ).loc Cert.KernelSa.main_arg11)
      ∧ r.2.mem ((c.tc : Thread Cert.KernelSa.nD Cert.KernelSa.τ).loc Cert.KernelSa.main_arg12) = m ((c.tc : Thread Cert.KernelSa.nD Cert.KernelSa.τ).loc Cert.KernelSa.main_arg12)
      ∧ r.2.mem ((c.tc : Thread Cert.KernelSa.nD Cert.KernelSa.τ).loc Cert.KernelSa.main_arg13) = m ((c.tc : Thread Cert.KernelSa.nD Cert.KernelSa.τ).loc Cert.KernelSa.main_arg13)
      ∧ r.2.mem ((c.tc : Thread Cert.KernelSa.nD Cert.KernelSa.τ).loc Cert.KernelSa.main_arg14) = m ((c.tc : Thread Cert.KernelSa.nD Cert.KernelSa.τ).loc Cert.KernelSa.main_arg14)
      ∧ r.2.mem ((c.tc : Thread Cert.KernelSa.nD Cert.KernelSa.τ).loc Cert.KernelSa.main_arg15) = m ((c.tc : Thread Cert.KernelSa.nD Cert.KernelSa.τ).loc Cert.KernelSa.main_arg15)
      ∧ r.2.mem ((c.tc : Thread Cert.KernelSa.nD Cert.KernelSa.τ).loc Cert.KernelSa.main_arg16) = m ((c.tc : Thread Cert.KernelSa.nD Cert.KernelSa.τ).loc Cert.KernelSa.main_arg16)
      ∧ r.2.mem ((c.tc : Thread Cert.KernelSa.nD Cert.KernelSa.τ).loc Cert.KernelSa.main_arg17) = m ((c.tc : Thread Cert.KernelSa.nD Cert.KernelSa.τ).loc Cert.KernelSa.main_arg17)
      ∧ r.2.mem ((c.tc : Thread Cert.KernelSa.nD Cert.KernelSa.τ).loc Cert.KernelSa.main_arg18) = m ((c.tc : Thread Cert.KernelSa.nD Cert.KernelSa.τ).loc Cert.KernelSa.main_arg18)
      ∧ r.2.mem ((c.tc : Thread Cert.KernelSa.nD Cert.KernelSa.τ).loc Cert.KernelSa.main_arg19) = m ((c.tc : Thread Cert.KernelSa.nD Cert.KernelSa.τ).loc Cert.KernelSa.main_arg19)
      ∧ r.2.mem ((c.tc : Thread Cert.KernelSa.nD Cert.KernelSa.τ).loc Cert.KernelSa.main_arg20) = m ((c.tc : Thread Cert.KernelSa.nD Cert.KernelSa.τ).loc Cert.KernelSa.main_arg20))
      ∧ r.2.sem = fun _ => 0)

def quiescent_KernelSaIdeal [hKernelSaIdeal : Cert.KernelSaIdeal.Facts] : Prop :=
  ∀ (m : (ℓ : Loc Cert.KernelSaIdeal.nD Cert.KernelSaIdeal.τ Cert.KernelSaIdeal.sig) → Buf (Elt Ideal) ℓ) (g : Dev Cert.KernelSaIdeal.nD → PrngReg), Pre_KernelSaIdeal m →
    θ_run (Cert.KernelSaIdeal.defs (F := Ideal)) (onTc (τ := Cert.KernelSaIdeal.τ) (Cert.KernelSaIdeal.main (F := Ideal))) ⟨m, fun _ => 0, g⟩ (fun r => (∀ c : Dev Cert.KernelSaIdeal.nD,
      r.2.mem ((c.tc : Thread Cert.KernelSaIdeal.nD Cert.KernelSaIdeal.τ).loc Cert.KernelSaIdeal.main_arg0) = m ((c.tc : Thread Cert.KernelSaIdeal.nD Cert.KernelSaIdeal.τ).loc Cert.KernelSaIdeal.main_arg0)
      ∧ r.2.mem ((c.tc : Thread Cert.KernelSaIdeal.nD Cert.KernelSaIdeal.τ).loc Cert.KernelSaIdeal.main_arg1) = m ((c.tc : Thread Cert.KernelSaIdeal.nD Cert.KernelSaIdeal.τ).loc Cert.KernelSaIdeal.main_arg1)
      ∧ r.2.mem ((c.tc : Thread Cert.KernelSaIdeal.nD Cert.KernelSaIdeal.τ).loc Cert.KernelSaIdeal.main_arg2) = m ((c.tc : Thread Cert.KernelSaIdeal.nD Cert.KernelSaIdeal.τ).loc Cert.KernelSaIdeal.main_arg2)
      ∧ r.2.mem ((c.tc : Thread Cert.KernelSaIdeal.nD Cert.KernelSaIdeal.τ).loc Cert.KernelSaIdeal.main_arg3) = m ((c.tc : Thread Cert.KernelSaIdeal.nD Cert.KernelSaIdeal.τ).loc Cert.KernelSaIdeal.main_arg3)
      ∧ r.2.mem ((c.tc : Thread Cert.KernelSaIdeal.nD Cert.KernelSaIdeal.τ).loc Cert.KernelSaIdeal.main_arg4) = m ((c.tc : Thread Cert.KernelSaIdeal.nD Cert.KernelSaIdeal.τ).loc Cert.KernelSaIdeal.main_arg4)
      ∧ r.2.mem ((c.tc : Thread Cert.KernelSaIdeal.nD Cert.KernelSaIdeal.τ).loc Cert.KernelSaIdeal.main_arg5) = m ((c.tc : Thread Cert.KernelSaIdeal.nD Cert.KernelSaIdeal.τ).loc Cert.KernelSaIdeal.main_arg5)
      ∧ r.2.mem ((c.tc : Thread Cert.KernelSaIdeal.nD Cert.KernelSaIdeal.τ).loc Cert.KernelSaIdeal.main_arg6) = m ((c.tc : Thread Cert.KernelSaIdeal.nD Cert.KernelSaIdeal.τ).loc Cert.KernelSaIdeal.main_arg6)
      ∧ r.2.mem ((c.tc : Thread Cert.KernelSaIdeal.nD Cert.KernelSaIdeal.τ).loc Cert.KernelSaIdeal.main_arg7) = m ((c.tc : Thread Cert.KernelSaIdeal.nD Cert.KernelSaIdeal.τ).loc Cert.KernelSaIdeal.main_arg7)
      ∧ r.2.mem ((c.tc : Thread Cert.KernelSaIdeal.nD Cert.KernelSaIdeal.τ).loc Cert.KernelSaIdeal.main_arg8) = m ((c.tc : Thread Cert.KernelSaIdeal.nD Cert.KernelSaIdeal.τ).loc Cert.KernelSaIdeal.main_arg8)
      ∧ r.2.mem ((c.tc : Thread Cert.KernelSaIdeal.nD Cert.KernelSaIdeal.τ).loc Cert.KernelSaIdeal.main_arg9) = m ((c.tc : Thread Cert.KernelSaIdeal.nD Cert.KernelSaIdeal.τ).loc Cert.KernelSaIdeal.main_arg9)
      ∧ r.2.mem ((c.tc : Thread Cert.KernelSaIdeal.nD Cert.KernelSaIdeal.τ).loc Cert.KernelSaIdeal.main_arg10) = m ((c.tc : Thread Cert.KernelSaIdeal.nD Cert.KernelSaIdeal.τ).loc Cert.KernelSaIdeal.main_arg10)
      ∧ r.2.mem ((c.tc : Thread Cert.KernelSaIdeal.nD Cert.KernelSaIdeal.τ).loc Cert.KernelSaIdeal.main_arg11) = m ((c.tc : Thread Cert.KernelSaIdeal.nD Cert.KernelSaIdeal.τ).loc Cert.KernelSaIdeal.main_arg11)
      ∧ r.2.mem ((c.tc : Thread Cert.KernelSaIdeal.nD Cert.KernelSaIdeal.τ).loc Cert.KernelSaIdeal.main_arg12) = m ((c.tc : Thread Cert.KernelSaIdeal.nD Cert.KernelSaIdeal.τ).loc Cert.KernelSaIdeal.main_arg12)
      ∧ r.2.mem ((c.tc : Thread Cert.KernelSaIdeal.nD Cert.KernelSaIdeal.τ).loc Cert.KernelSaIdeal.main_arg13) = m ((c.tc : Thread Cert.KernelSaIdeal.nD Cert.KernelSaIdeal.τ).loc Cert.KernelSaIdeal.main_arg13)
      ∧ r.2.mem ((c.tc : Thread Cert.KernelSaIdeal.nD Cert.KernelSaIdeal.τ).loc Cert.KernelSaIdeal.main_arg14) = m ((c.tc : Thread Cert.KernelSaIdeal.nD Cert.KernelSaIdeal.τ).loc Cert.KernelSaIdeal.main_arg14)
      ∧ r.2.mem ((c.tc : Thread Cert.KernelSaIdeal.nD Cert.KernelSaIdeal.τ).loc Cert.KernelSaIdeal.main_arg15) = m ((c.tc : Thread Cert.KernelSaIdeal.nD Cert.KernelSaIdeal.τ).loc Cert.KernelSaIdeal.main_arg15)
      ∧ r.2.mem ((c.tc : Thread Cert.KernelSaIdeal.nD Cert.KernelSaIdeal.τ).loc Cert.KernelSaIdeal.main_arg16) = m ((c.tc : Thread Cert.KernelSaIdeal.nD Cert.KernelSaIdeal.τ).loc Cert.KernelSaIdeal.main_arg16)
      ∧ r.2.mem ((c.tc : Thread Cert.KernelSaIdeal.nD Cert.KernelSaIdeal.τ).loc Cert.KernelSaIdeal.main_arg17) = m ((c.tc : Thread Cert.KernelSaIdeal.nD Cert.KernelSaIdeal.τ).loc Cert.KernelSaIdeal.main_arg17)
      ∧ r.2.mem ((c.tc : Thread Cert.KernelSaIdeal.nD Cert.KernelSaIdeal.τ).loc Cert.KernelSaIdeal.main_arg18) = m ((c.tc : Thread Cert.KernelSaIdeal.nD Cert.KernelSaIdeal.τ).loc Cert.KernelSaIdeal.main_arg18)
      ∧ r.2.mem ((c.tc : Thread Cert.KernelSaIdeal.nD Cert.KernelSaIdeal.τ).loc Cert.KernelSaIdeal.main_arg19) = m ((c.tc : Thread Cert.KernelSaIdeal.nD Cert.KernelSaIdeal.τ).loc Cert.KernelSaIdeal.main_arg19)
      ∧ r.2.mem ((c.tc : Thread Cert.KernelSaIdeal.nD Cert.KernelSaIdeal.τ).loc Cert.KernelSaIdeal.main_arg20) = m ((c.tc : Thread Cert.KernelSaIdeal.nD Cert.KernelSaIdeal.τ).loc Cert.KernelSaIdeal.main_arg20))
      ∧ r.2.sem = fun _ => 0)

def quiescent_ReferenceSaIdeal [hReferenceSaIdeal : Cert.ReferenceSaIdeal.Facts] : Prop :=
  ∀ (m : (ℓ : Loc Cert.ReferenceSaIdeal.nD Cert.ReferenceSaIdeal.τ Cert.ReferenceSaIdeal.sig) → Buf (Elt Ideal) ℓ) (g : Dev Cert.ReferenceSaIdeal.nD → PrngReg), Pre_ReferenceSaIdeal m →
    θ_run (Cert.ReferenceSaIdeal.defs (F := Ideal)) (onTc (τ := Cert.ReferenceSaIdeal.τ) (Cert.ReferenceSaIdeal.main (F := Ideal))) ⟨m, fun _ => 0, g⟩ (fun r => (∀ c : Dev Cert.ReferenceSaIdeal.nD,
      r.2.mem ((c.tc : Thread Cert.ReferenceSaIdeal.nD Cert.ReferenceSaIdeal.τ).loc Cert.ReferenceSaIdeal.main_arg0) = m ((c.tc : Thread Cert.ReferenceSaIdeal.nD Cert.ReferenceSaIdeal.τ).loc Cert.ReferenceSaIdeal.main_arg0)
      ∧ r.2.mem ((c.tc : Thread Cert.ReferenceSaIdeal.nD Cert.ReferenceSaIdeal.τ).loc Cert.ReferenceSaIdeal.main_arg1) = m ((c.tc : Thread Cert.ReferenceSaIdeal.nD Cert.ReferenceSaIdeal.τ).loc Cert.ReferenceSaIdeal.main_arg1)
      ∧ r.2.mem ((c.tc : Thread Cert.ReferenceSaIdeal.nD Cert.ReferenceSaIdeal.τ).loc Cert.ReferenceSaIdeal.main_arg2) = m ((c.tc : Thread Cert.ReferenceSaIdeal.nD Cert.ReferenceSaIdeal.τ).loc Cert.ReferenceSaIdeal.main_arg2)
      ∧ r.2.mem ((c.tc : Thread Cert.ReferenceSaIdeal.nD Cert.ReferenceSaIdeal.τ).loc Cert.ReferenceSaIdeal.main_arg3) = m ((c.tc : Thread Cert.ReferenceSaIdeal.nD Cert.ReferenceSaIdeal.τ).loc Cert.ReferenceSaIdeal.main_arg3)
      ∧ r.2.mem ((c.tc : Thread Cert.ReferenceSaIdeal.nD Cert.ReferenceSaIdeal.τ).loc Cert.ReferenceSaIdeal.main_arg4) = m ((c.tc : Thread Cert.ReferenceSaIdeal.nD Cert.ReferenceSaIdeal.τ).loc Cert.ReferenceSaIdeal.main_arg4)
      ∧ r.2.mem ((c.tc : Thread Cert.ReferenceSaIdeal.nD Cert.ReferenceSaIdeal.τ).loc Cert.ReferenceSaIdeal.main_arg5) = m ((c.tc : Thread Cert.ReferenceSaIdeal.nD Cert.ReferenceSaIdeal.τ).loc Cert.ReferenceSaIdeal.main_arg5)
      ∧ r.2.mem ((c.tc : Thread Cert.ReferenceSaIdeal.nD Cert.ReferenceSaIdeal.τ).loc Cert.ReferenceSaIdeal.main_arg6) = m ((c.tc : Thread Cert.ReferenceSaIdeal.nD Cert.ReferenceSaIdeal.τ).loc Cert.ReferenceSaIdeal.main_arg6)
      ∧ r.2.mem ((c.tc : Thread Cert.ReferenceSaIdeal.nD Cert.ReferenceSaIdeal.τ).loc Cert.ReferenceSaIdeal.main_arg7) = m ((c.tc : Thread Cert.ReferenceSaIdeal.nD Cert.ReferenceSaIdeal.τ).loc Cert.ReferenceSaIdeal.main_arg7)
      ∧ r.2.mem ((c.tc : Thread Cert.ReferenceSaIdeal.nD Cert.ReferenceSaIdeal.τ).loc Cert.ReferenceSaIdeal.main_arg8) = m ((c.tc : Thread Cert.ReferenceSaIdeal.nD Cert.ReferenceSaIdeal.τ).loc Cert.ReferenceSaIdeal.main_arg8)
      ∧ r.2.mem ((c.tc : Thread Cert.ReferenceSaIdeal.nD Cert.ReferenceSaIdeal.τ).loc Cert.ReferenceSaIdeal.main_arg9) = m ((c.tc : Thread Cert.ReferenceSaIdeal.nD Cert.ReferenceSaIdeal.τ).loc Cert.ReferenceSaIdeal.main_arg9)
      ∧ r.2.mem ((c.tc : Thread Cert.ReferenceSaIdeal.nD Cert.ReferenceSaIdeal.τ).loc Cert.ReferenceSaIdeal.main_arg10) = m ((c.tc : Thread Cert.ReferenceSaIdeal.nD Cert.ReferenceSaIdeal.τ).loc Cert.ReferenceSaIdeal.main_arg10)
      ∧ r.2.mem ((c.tc : Thread Cert.ReferenceSaIdeal.nD Cert.ReferenceSaIdeal.τ).loc Cert.ReferenceSaIdeal.main_arg11) = m ((c.tc : Thread Cert.ReferenceSaIdeal.nD Cert.ReferenceSaIdeal.τ).loc Cert.ReferenceSaIdeal.main_arg11)
      ∧ r.2.mem ((c.tc : Thread Cert.ReferenceSaIdeal.nD Cert.ReferenceSaIdeal.τ).loc Cert.ReferenceSaIdeal.main_arg12) = m ((c.tc : Thread Cert.ReferenceSaIdeal.nD Cert.ReferenceSaIdeal.τ).loc Cert.ReferenceSaIdeal.main_arg12)
      ∧ r.2.mem ((c.tc : Thread Cert.ReferenceSaIdeal.nD Cert.ReferenceSaIdeal.τ).loc Cert.ReferenceSaIdeal.main_arg13) = m ((c.tc : Thread Cert.ReferenceSaIdeal.nD Cert.ReferenceSaIdeal.τ).loc Cert.ReferenceSaIdeal.main_arg13)
      ∧ r.2.mem ((c.tc : Thread Cert.ReferenceSaIdeal.nD Cert.ReferenceSaIdeal.τ).loc Cert.ReferenceSaIdeal.main_arg14) = m ((c.tc : Thread Cert.ReferenceSaIdeal.nD Cert.ReferenceSaIdeal.τ).loc Cert.ReferenceSaIdeal.main_arg14)
      ∧ r.2.mem ((c.tc : Thread Cert.ReferenceSaIdeal.nD Cert.ReferenceSaIdeal.τ).loc Cert.ReferenceSaIdeal.main_arg15) = m ((c.tc : Thread Cert.ReferenceSaIdeal.nD Cert.ReferenceSaIdeal.τ).loc Cert.ReferenceSaIdeal.main_arg15)
      ∧ r.2.mem ((c.tc : Thread Cert.ReferenceSaIdeal.nD Cert.ReferenceSaIdeal.τ).loc Cert.ReferenceSaIdeal.main_arg16) = m ((c.tc : Thread Cert.ReferenceSaIdeal.nD Cert.ReferenceSaIdeal.τ).loc Cert.ReferenceSaIdeal.main_arg16)
      ∧ r.2.mem ((c.tc : Thread Cert.ReferenceSaIdeal.nD Cert.ReferenceSaIdeal.τ).loc Cert.ReferenceSaIdeal.main_arg17) = m ((c.tc : Thread Cert.ReferenceSaIdeal.nD Cert.ReferenceSaIdeal.τ).loc Cert.ReferenceSaIdeal.main_arg17)
      ∧ r.2.mem ((c.tc : Thread Cert.ReferenceSaIdeal.nD Cert.ReferenceSaIdeal.τ).loc Cert.ReferenceSaIdeal.main_arg18) = m ((c.tc : Thread Cert.ReferenceSaIdeal.nD Cert.ReferenceSaIdeal.τ).loc Cert.ReferenceSaIdeal.main_arg18)
      ∧ r.2.mem ((c.tc : Thread Cert.ReferenceSaIdeal.nD Cert.ReferenceSaIdeal.τ).loc Cert.ReferenceSaIdeal.main_arg19) = m ((c.tc : Thread Cert.ReferenceSaIdeal.nD Cert.ReferenceSaIdeal.τ).loc Cert.ReferenceSaIdeal.main_arg19)
      ∧ r.2.mem ((c.tc : Thread Cert.ReferenceSaIdeal.nD Cert.ReferenceSaIdeal.τ).loc Cert.ReferenceSaIdeal.main_arg20) = m ((c.tc : Thread Cert.ReferenceSaIdeal.nD Cert.ReferenceSaIdeal.τ).loc Cert.ReferenceSaIdeal.main_arg20))
      ∧ r.2.sem = fun _ => 0)

def quiescent_KernelLg [hKernelLg : Cert.KernelLg.Facts] : Prop :=
  ∀ (m : (ℓ : Loc Cert.KernelLg.nD Cert.KernelLg.τ Cert.KernelLg.sig) → Buf (Elt Bits) ℓ) (g : Dev Cert.KernelLg.nD → PrngReg), Pre_KernelLg m →
    θ_run (Cert.KernelLg.defs (F := Bits)) (onTc (τ := Cert.KernelLg.τ) (Cert.KernelLg.main (F := Bits))) ⟨m, fun _ => 0, g⟩ (fun r => (∀ c : Dev Cert.KernelLg.nD,
      r.2.mem ((c.tc : Thread Cert.KernelLg.nD Cert.KernelLg.τ).loc Cert.KernelLg.main_arg0) = m ((c.tc : Thread Cert.KernelLg.nD Cert.KernelLg.τ).loc Cert.KernelLg.main_arg0)
      ∧ r.2.mem ((c.tc : Thread Cert.KernelLg.nD Cert.KernelLg.τ).loc Cert.KernelLg.main_arg1) = m ((c.tc : Thread Cert.KernelLg.nD Cert.KernelLg.τ).loc Cert.KernelLg.main_arg1)
      ∧ r.2.mem ((c.tc : Thread Cert.KernelLg.nD Cert.KernelLg.τ).loc Cert.KernelLg.main_arg2) = m ((c.tc : Thread Cert.KernelLg.nD Cert.KernelLg.τ).loc Cert.KernelLg.main_arg2))
      ∧ r.2.sem = fun _ => 0)

def quiescent_KernelLgIdeal [hKernelLgIdeal : Cert.KernelLgIdeal.Facts] : Prop :=
  ∀ (m : (ℓ : Loc Cert.KernelLgIdeal.nD Cert.KernelLgIdeal.τ Cert.KernelLgIdeal.sig) → Buf (Elt Ideal) ℓ) (g : Dev Cert.KernelLgIdeal.nD → PrngReg), Pre_KernelLgIdeal m →
    θ_run (Cert.KernelLgIdeal.defs (F := Ideal)) (onTc (τ := Cert.KernelLgIdeal.τ) (Cert.KernelLgIdeal.main (F := Ideal))) ⟨m, fun _ => 0, g⟩ (fun r => (∀ c : Dev Cert.KernelLgIdeal.nD,
      r.2.mem ((c.tc : Thread Cert.KernelLgIdeal.nD Cert.KernelLgIdeal.τ).loc Cert.KernelLgIdeal.main_arg0) = m ((c.tc : Thread Cert.KernelLgIdeal.nD Cert.KernelLgIdeal.τ).loc Cert.KernelLgIdeal.main_arg0)
      ∧ r.2.mem ((c.tc : Thread Cert.KernelLgIdeal.nD Cert.KernelLgIdeal.τ).loc Cert.KernelLgIdeal.main_arg1) = m ((c.tc : Thread Cert.KernelLgIdeal.nD Cert.KernelLgIdeal.τ).loc Cert.KernelLgIdeal.main_arg1)
      ∧ r.2.mem ((c.tc : Thread Cert.KernelLgIdeal.nD Cert.KernelLgIdeal.τ).loc Cert.KernelLgIdeal.main_arg2) = m ((c.tc : Thread Cert.KernelLgIdeal.nD Cert.KernelLgIdeal.τ).loc Cert.KernelLgIdeal.main_arg2))
      ∧ r.2.sem = fun _ => 0)

def quiescent_ReferenceLgIdeal [hReferenceLgIdeal : Cert.ReferenceLgIdeal.Facts] : Prop :=
  ∀ (m : (ℓ : Loc Cert.ReferenceLgIdeal.nD Cert.ReferenceLgIdeal.τ Cert.ReferenceLgIdeal.sig) → Buf (Elt Ideal) ℓ) (g : Dev Cert.ReferenceLgIdeal.nD → PrngReg), Pre_ReferenceLgIdeal m →
    θ_run (Cert.ReferenceLgIdeal.defs (F := Ideal)) (onTc (τ := Cert.ReferenceLgIdeal.τ) (Cert.ReferenceLgIdeal.main (F := Ideal))) ⟨m, fun _ => 0, g⟩ (fun r => (∀ c : Dev Cert.ReferenceLgIdeal.nD,
      r.2.mem ((c.tc : Thread Cert.ReferenceLgIdeal.nD Cert.ReferenceLgIdeal.τ).loc Cert.ReferenceLgIdeal.main_arg0) = m ((c.tc : Thread Cert.ReferenceLgIdeal.nD Cert.ReferenceLgIdeal.τ).loc Cert.ReferenceLgIdeal.main_arg0)
      ∧ r.2.mem ((c.tc : Thread Cert.ReferenceLgIdeal.nD Cert.ReferenceLgIdeal.τ).loc Cert.ReferenceLgIdeal.main_arg1) = m ((c.tc : Thread Cert.ReferenceLgIdeal.nD Cert.ReferenceLgIdeal.τ).loc Cert.ReferenceLgIdeal.main_arg1)
      ∧ r.2.mem ((c.tc : Thread Cert.ReferenceLgIdeal.nD Cert.ReferenceLgIdeal.τ).loc Cert.ReferenceLgIdeal.main_arg2) = m ((c.tc : Thread Cert.ReferenceLgIdeal.nD Cert.ReferenceLgIdeal.τ).loc Cert.ReferenceLgIdeal.main_arg2))
      ∧ r.2.sem = fun _ => 0)

def quiescent_KernelRf [hKernelRf : Cert.KernelRf.Facts] : Prop :=
  ∀ (m : (ℓ : Loc Cert.KernelRf.nD Cert.KernelRf.τ Cert.KernelRf.sig) → Buf (Elt Bits) ℓ) (g : Dev Cert.KernelRf.nD → PrngReg), Pre_KernelRf m →
    θ_run (Cert.KernelRf.defs (F := Bits)) (onTc (τ := Cert.KernelRf.τ) (Cert.KernelRf.main (F := Bits))) ⟨m, fun _ => 0, g⟩ (fun r => (∀ c : Dev Cert.KernelRf.nD,
      r.2.mem ((c.tc : Thread Cert.KernelRf.nD Cert.KernelRf.τ).loc Cert.KernelRf.main_arg0) = m ((c.tc : Thread Cert.KernelRf.nD Cert.KernelRf.τ).loc Cert.KernelRf.main_arg0)
      ∧ r.2.mem ((c.tc : Thread Cert.KernelRf.nD Cert.KernelRf.τ).loc Cert.KernelRf.main_arg1) = m ((c.tc : Thread Cert.KernelRf.nD Cert.KernelRf.τ).loc Cert.KernelRf.main_arg1))
      ∧ r.2.sem = fun _ => 0)

def quiescent_KernelRfIdeal [hKernelRfIdeal : Cert.KernelRfIdeal.Facts] : Prop :=
  ∀ (m : (ℓ : Loc Cert.KernelRfIdeal.nD Cert.KernelRfIdeal.τ Cert.KernelRfIdeal.sig) → Buf (Elt Ideal) ℓ) (g : Dev Cert.KernelRfIdeal.nD → PrngReg), Pre_KernelRfIdeal m →
    θ_run (Cert.KernelRfIdeal.defs (F := Ideal)) (onTc (τ := Cert.KernelRfIdeal.τ) (Cert.KernelRfIdeal.main (F := Ideal))) ⟨m, fun _ => 0, g⟩ (fun r => (∀ c : Dev Cert.KernelRfIdeal.nD,
      r.2.mem ((c.tc : Thread Cert.KernelRfIdeal.nD Cert.KernelRfIdeal.τ).loc Cert.KernelRfIdeal.main_arg0) = m ((c.tc : Thread Cert.KernelRfIdeal.nD Cert.KernelRfIdeal.τ).loc Cert.KernelRfIdeal.main_arg0)
      ∧ r.2.mem ((c.tc : Thread Cert.KernelRfIdeal.nD Cert.KernelRfIdeal.τ).loc Cert.KernelRfIdeal.main_arg1) = m ((c.tc : Thread Cert.KernelRfIdeal.nD Cert.KernelRfIdeal.τ).loc Cert.KernelRfIdeal.main_arg1))
      ∧ r.2.sem = fun _ => 0)

def quiescent_ReferenceRfIdeal [hReferenceRfIdeal : Cert.ReferenceRfIdeal.Facts] : Prop :=
  ∀ (m : (ℓ : Loc Cert.ReferenceRfIdeal.nD Cert.ReferenceRfIdeal.τ Cert.ReferenceRfIdeal.sig) → Buf (Elt Ideal) ℓ) (g : Dev Cert.ReferenceRfIdeal.nD → PrngReg), Pre_ReferenceRfIdeal m →
    θ_run (Cert.ReferenceRfIdeal.defs (F := Ideal)) (onTc (τ := Cert.ReferenceRfIdeal.τ) (Cert.ReferenceRfIdeal.main (F := Ideal))) ⟨m, fun _ => 0, g⟩ (fun r => (∀ c : Dev Cert.ReferenceRfIdeal.nD,
      r.2.mem ((c.tc : Thread Cert.ReferenceRfIdeal.nD Cert.ReferenceRfIdeal.τ).loc Cert.ReferenceRfIdeal.main_arg0) = m ((c.tc : Thread Cert.ReferenceRfIdeal.nD Cert.ReferenceRfIdeal.τ).loc Cert.ReferenceRfIdeal.main_arg0)
      ∧ r.2.mem ((c.tc : Thread Cert.ReferenceRfIdeal.nD Cert.ReferenceRfIdeal.τ).loc Cert.ReferenceRfIdeal.main_arg1) = m ((c.tc : Thread Cert.ReferenceRfIdeal.nD Cert.ReferenceRfIdeal.τ).loc Cert.ReferenceRfIdeal.main_arg1))
      ∧ r.2.sem = fun _ => 0)

def quiescent_KernelGf [hKernelGf : Cert.KernelGf.Facts] : Prop :=
  ∀ (m : (ℓ : Loc Cert.KernelGf.nD Cert.KernelGf.τ Cert.KernelGf.sig) → Buf (Elt Bits) ℓ) (g : Dev Cert.KernelGf.nD → PrngReg), Pre_KernelGf m →
    θ_run (Cert.KernelGf.defs (F := Bits)) (onTc (τ := Cert.KernelGf.τ) (Cert.KernelGf.main (F := Bits))) ⟨m, fun _ => 0, g⟩ (fun r => (∀ c : Dev Cert.KernelGf.nD,
      r.2.mem ((c.tc : Thread Cert.KernelGf.nD Cert.KernelGf.τ).loc Cert.KernelGf.main_arg0) = m ((c.tc : Thread Cert.KernelGf.nD Cert.KernelGf.τ).loc Cert.KernelGf.main_arg0)
      ∧ r.2.mem ((c.tc : Thread Cert.KernelGf.nD Cert.KernelGf.τ).loc Cert.KernelGf.main_arg1) = m ((c.tc : Thread Cert.KernelGf.nD Cert.KernelGf.τ).loc Cert.KernelGf.main_arg1)
      ∧ r.2.mem ((c.tc : Thread Cert.KernelGf.nD Cert.KernelGf.τ).loc Cert.KernelGf.main_arg2) = m ((c.tc : Thread Cert.KernelGf.nD Cert.KernelGf.τ).loc Cert.KernelGf.main_arg2)
      ∧ r.2.mem ((c.tc : Thread Cert.KernelGf.nD Cert.KernelGf.τ).loc Cert.KernelGf.main_arg3) = m ((c.tc : Thread Cert.KernelGf.nD Cert.KernelGf.τ).loc Cert.KernelGf.main_arg3))
      ∧ r.2.sem = fun _ => 0)

def quiescent_KernelGfIdeal [hKernelGfIdeal : Cert.KernelGfIdeal.Facts] : Prop :=
  ∀ (m : (ℓ : Loc Cert.KernelGfIdeal.nD Cert.KernelGfIdeal.τ Cert.KernelGfIdeal.sig) → Buf (Elt Ideal) ℓ) (g : Dev Cert.KernelGfIdeal.nD → PrngReg), Pre_KernelGfIdeal m →
    θ_run (Cert.KernelGfIdeal.defs (F := Ideal)) (onTc (τ := Cert.KernelGfIdeal.τ) (Cert.KernelGfIdeal.main (F := Ideal))) ⟨m, fun _ => 0, g⟩ (fun r => (∀ c : Dev Cert.KernelGfIdeal.nD,
      r.2.mem ((c.tc : Thread Cert.KernelGfIdeal.nD Cert.KernelGfIdeal.τ).loc Cert.KernelGfIdeal.main_arg0) = m ((c.tc : Thread Cert.KernelGfIdeal.nD Cert.KernelGfIdeal.τ).loc Cert.KernelGfIdeal.main_arg0)
      ∧ r.2.mem ((c.tc : Thread Cert.KernelGfIdeal.nD Cert.KernelGfIdeal.τ).loc Cert.KernelGfIdeal.main_arg1) = m ((c.tc : Thread Cert.KernelGfIdeal.nD Cert.KernelGfIdeal.τ).loc Cert.KernelGfIdeal.main_arg1)
      ∧ r.2.mem ((c.tc : Thread Cert.KernelGfIdeal.nD Cert.KernelGfIdeal.τ).loc Cert.KernelGfIdeal.main_arg2) = m ((c.tc : Thread Cert.KernelGfIdeal.nD Cert.KernelGfIdeal.τ).loc Cert.KernelGfIdeal.main_arg2)
      ∧ r.2.mem ((c.tc : Thread Cert.KernelGfIdeal.nD Cert.KernelGfIdeal.τ).loc Cert.KernelGfIdeal.main_arg3) = m ((c.tc : Thread Cert.KernelGfIdeal.nD Cert.KernelGfIdeal.τ).loc Cert.KernelGfIdeal.main_arg3))
      ∧ r.2.sem = fun _ => 0)

def quiescent_ReferenceGfIdeal [hReferenceGfIdeal : Cert.ReferenceGfIdeal.Facts] : Prop :=
  ∀ (m : (ℓ : Loc Cert.ReferenceGfIdeal.nD Cert.ReferenceGfIdeal.τ Cert.ReferenceGfIdeal.sig) → Buf (Elt Ideal) ℓ) (g : Dev Cert.ReferenceGfIdeal.nD → PrngReg), Pre_ReferenceGfIdeal m →
    θ_run (Cert.ReferenceGfIdeal.defs (F := Ideal)) (onTc (τ := Cert.ReferenceGfIdeal.τ) (Cert.ReferenceGfIdeal.main (F := Ideal))) ⟨m, fun _ => 0, g⟩ (fun r => (∀ c : Dev Cert.ReferenceGfIdeal.nD,
      r.2.mem ((c.tc : Thread Cert.ReferenceGfIdeal.nD Cert.ReferenceGfIdeal.τ).loc Cert.ReferenceGfIdeal.main_arg0) = m ((c.tc : Thread Cert.ReferenceGfIdeal.nD Cert.ReferenceGfIdeal.τ).loc Cert.ReferenceGfIdeal.main_arg0)
      ∧ r.2.mem ((c.tc : Thread Cert.ReferenceGfIdeal.nD Cert.ReferenceGfIdeal.τ).loc Cert.ReferenceGfIdeal.main_arg1) = m ((c.tc : Thread Cert.ReferenceGfIdeal.nD Cert.ReferenceGfIdeal.τ).loc Cert.ReferenceGfIdeal.main_arg1)
      ∧ r.2.mem ((c.tc : Thread Cert.ReferenceGfIdeal.nD Cert.ReferenceGfIdeal.τ).loc Cert.ReferenceGfIdeal.main_arg2) = m ((c.tc : Thread Cert.ReferenceGfIdeal.nD Cert.ReferenceGfIdeal.τ).loc Cert.ReferenceGfIdeal.main_arg2)
      ∧ r.2.mem ((c.tc : Thread Cert.ReferenceGfIdeal.nD Cert.ReferenceGfIdeal.τ).loc Cert.ReferenceGfIdeal.main_arg3) = m ((c.tc : Thread Cert.ReferenceGfIdeal.nD Cert.ReferenceGfIdeal.τ).loc Cert.ReferenceGfIdeal.main_arg3))
      ∧ r.2.sem = fun _ => 0)

def quiescent_KernelTf [hKernelTf : Cert.KernelTf.Facts] : Prop :=
  ∀ (m : (ℓ : Loc Cert.KernelTf.nD Cert.KernelTf.τ Cert.KernelTf.sig) → Buf (Elt Bits) ℓ) (g : Dev Cert.KernelTf.nD → PrngReg), Pre_KernelTf m →
    θ_run (Cert.KernelTf.defs (F := Bits)) (onTc (τ := Cert.KernelTf.τ) (Cert.KernelTf.main (F := Bits))) ⟨m, fun _ => 0, g⟩ (fun r => (∀ c : Dev Cert.KernelTf.nD,
      r.2.mem ((c.tc : Thread Cert.KernelTf.nD Cert.KernelTf.τ).loc Cert.KernelTf.main_arg0) = m ((c.tc : Thread Cert.KernelTf.nD Cert.KernelTf.τ).loc Cert.KernelTf.main_arg0)
      ∧ r.2.mem ((c.tc : Thread Cert.KernelTf.nD Cert.KernelTf.τ).loc Cert.KernelTf.main_arg1) = m ((c.tc : Thread Cert.KernelTf.nD Cert.KernelTf.τ).loc Cert.KernelTf.main_arg1)
      ∧ r.2.mem ((c.tc : Thread Cert.KernelTf.nD Cert.KernelTf.τ).loc Cert.KernelTf.main_arg2) = m ((c.tc : Thread Cert.KernelTf.nD Cert.KernelTf.τ).loc Cert.KernelTf.main_arg2)
      ∧ r.2.mem ((c.tc : Thread Cert.KernelTf.nD Cert.KernelTf.τ).loc Cert.KernelTf.main_arg3) = m ((c.tc : Thread Cert.KernelTf.nD Cert.KernelTf.τ).loc Cert.KernelTf.main_arg3))
      ∧ r.2.sem = fun _ => 0)

def quiescent_KernelTfIdeal [hKernelTfIdeal : Cert.KernelTfIdeal.Facts] : Prop :=
  ∀ (m : (ℓ : Loc Cert.KernelTfIdeal.nD Cert.KernelTfIdeal.τ Cert.KernelTfIdeal.sig) → Buf (Elt Ideal) ℓ) (g : Dev Cert.KernelTfIdeal.nD → PrngReg), Pre_KernelTfIdeal m →
    θ_run (Cert.KernelTfIdeal.defs (F := Ideal)) (onTc (τ := Cert.KernelTfIdeal.τ) (Cert.KernelTfIdeal.main (F := Ideal))) ⟨m, fun _ => 0, g⟩ (fun r => (∀ c : Dev Cert.KernelTfIdeal.nD,
      r.2.mem ((c.tc : Thread Cert.KernelTfIdeal.nD Cert.KernelTfIdeal.τ).loc Cert.KernelTfIdeal.main_arg0) = m ((c.tc : Thread Cert.KernelTfIdeal.nD Cert.KernelTfIdeal.τ).loc Cert.KernelTfIdeal.main_arg0)
      ∧ r.2.mem ((c.tc : Thread Cert.KernelTfIdeal.nD Cert.KernelTfIdeal.τ).loc Cert.KernelTfIdeal.main_arg1) = m ((c.tc : Thread Cert.KernelTfIdeal.nD Cert.KernelTfIdeal.τ).loc Cert.KernelTfIdeal.main_arg1)
      ∧ r.2.mem ((c.tc : Thread Cert.KernelTfIdeal.nD Cert.KernelTfIdeal.τ).loc Cert.KernelTfIdeal.main_arg2) = m ((c.tc : Thread Cert.KernelTfIdeal.nD Cert.KernelTfIdeal.τ).loc Cert.KernelTfIdeal.main_arg2)
      ∧ r.2.mem ((c.tc : Thread Cert.KernelTfIdeal.nD Cert.KernelTfIdeal.τ).loc Cert.KernelTfIdeal.main_arg3) = m ((c.tc : Thread Cert.KernelTfIdeal.nD Cert.KernelTfIdeal.τ).loc Cert.KernelTfIdeal.main_arg3))
      ∧ r.2.sem = fun _ => 0)

def quiescent_ReferenceTfIdeal [hReferenceTfIdeal : Cert.ReferenceTfIdeal.Facts] : Prop :=
  ∀ (m : (ℓ : Loc Cert.ReferenceTfIdeal.nD Cert.ReferenceTfIdeal.τ Cert.ReferenceTfIdeal.sig) → Buf (Elt Ideal) ℓ) (g : Dev Cert.ReferenceTfIdeal.nD → PrngReg), Pre_ReferenceTfIdeal m →
    θ_run (Cert.ReferenceTfIdeal.defs (F := Ideal)) (onTc (τ := Cert.ReferenceTfIdeal.τ) (Cert.ReferenceTfIdeal.main (F := Ideal))) ⟨m, fun _ => 0, g⟩ (fun r => (∀ c : Dev Cert.ReferenceTfIdeal.nD,
      r.2.mem ((c.tc : Thread Cert.ReferenceTfIdeal.nD Cert.ReferenceTfIdeal.τ).loc Cert.ReferenceTfIdeal.main_arg0) = m ((c.tc : Thread Cert.ReferenceTfIdeal.nD Cert.ReferenceTfIdeal.τ).loc Cert.ReferenceTfIdeal.main_arg0)
      ∧ r.2.mem ((c.tc : Thread Cert.ReferenceTfIdeal.nD Cert.ReferenceTfIdeal.τ).loc Cert.ReferenceTfIdeal.main_arg1) = m ((c.tc : Thread Cert.ReferenceTfIdeal.nD Cert.ReferenceTfIdeal.τ).loc Cert.ReferenceTfIdeal.main_arg1)
      ∧ r.2.mem ((c.tc : Thread Cert.ReferenceTfIdeal.nD Cert.ReferenceTfIdeal.τ).loc Cert.ReferenceTfIdeal.main_arg2) = m ((c.tc : Thread Cert.ReferenceTfIdeal.nD Cert.ReferenceTfIdeal.τ).loc Cert.ReferenceTfIdeal.main_arg2)
      ∧ r.2.mem ((c.tc : Thread Cert.ReferenceTfIdeal.nD Cert.ReferenceTfIdeal.τ).loc Cert.ReferenceTfIdeal.main_arg3) = m ((c.tc : Thread Cert.ReferenceTfIdeal.nD Cert.ReferenceTfIdeal.τ).loc Cert.ReferenceTfIdeal.main_arg3))
      ∧ r.2.sem = fun _ => 0)

def quiescent_KernelTb [hKernelTb : Cert.KernelTb.Facts] : Prop :=
  ∀ (m : (ℓ : Loc Cert.KernelTb.nD Cert.KernelTb.τ Cert.KernelTb.sig) → Buf (Elt Bits) ℓ) (g : Dev Cert.KernelTb.nD → PrngReg), Pre_KernelTb m →
    θ_run (Cert.KernelTb.defs (F := Bits)) (onTc (τ := Cert.KernelTb.τ) (Cert.KernelTb.main (F := Bits))) ⟨m, fun _ => 0, g⟩ (fun r => (∀ c : Dev Cert.KernelTb.nD,
      r.2.mem ((c.tc : Thread Cert.KernelTb.nD Cert.KernelTb.τ).loc Cert.KernelTb.main_arg0) = m ((c.tc : Thread Cert.KernelTb.nD Cert.KernelTb.τ).loc Cert.KernelTb.main_arg0)
      ∧ r.2.mem ((c.tc : Thread Cert.KernelTb.nD Cert.KernelTb.τ).loc Cert.KernelTb.main_arg1) = m ((c.tc : Thread Cert.KernelTb.nD Cert.KernelTb.τ).loc Cert.KernelTb.main_arg1)
      ∧ r.2.mem ((c.tc : Thread Cert.KernelTb.nD Cert.KernelTb.τ).loc Cert.KernelTb.main_arg2) = m ((c.tc : Thread Cert.KernelTb.nD Cert.KernelTb.τ).loc Cert.KernelTb.main_arg2)
      ∧ r.2.mem ((c.tc : Thread Cert.KernelTb.nD Cert.KernelTb.τ).loc Cert.KernelTb.main_arg3) = m ((c.tc : Thread Cert.KernelTb.nD Cert.KernelTb.τ).loc Cert.KernelTb.main_arg3)
      ∧ r.2.mem ((c.tc : Thread Cert.KernelTb.nD Cert.KernelTb.τ).loc Cert.KernelTb.main_arg4) = m ((c.tc : Thread Cert.KernelTb.nD Cert.KernelTb.τ).loc Cert.KernelTb.main_arg4))
      ∧ r.2.sem = fun _ => 0)

def quiescent_KernelTbIdeal [hKernelTbIdeal : Cert.KernelTbIdeal.Facts] : Prop :=
  ∀ (m : (ℓ : Loc Cert.KernelTbIdeal.nD Cert.KernelTbIdeal.τ Cert.KernelTbIdeal.sig) → Buf (Elt Ideal) ℓ) (g : Dev Cert.KernelTbIdeal.nD → PrngReg), Pre_KernelTbIdeal m →
    θ_run (Cert.KernelTbIdeal.defs (F := Ideal)) (onTc (τ := Cert.KernelTbIdeal.τ) (Cert.KernelTbIdeal.main (F := Ideal))) ⟨m, fun _ => 0, g⟩ (fun r => (∀ c : Dev Cert.KernelTbIdeal.nD,
      r.2.mem ((c.tc : Thread Cert.KernelTbIdeal.nD Cert.KernelTbIdeal.τ).loc Cert.KernelTbIdeal.main_arg0) = m ((c.tc : Thread Cert.KernelTbIdeal.nD Cert.KernelTbIdeal.τ).loc Cert.KernelTbIdeal.main_arg0)
      ∧ r.2.mem ((c.tc : Thread Cert.KernelTbIdeal.nD Cert.KernelTbIdeal.τ).loc Cert.KernelTbIdeal.main_arg1) = m ((c.tc : Thread Cert.KernelTbIdeal.nD Cert.KernelTbIdeal.τ).loc Cert.KernelTbIdeal.main_arg1)
      ∧ r.2.mem ((c.tc : Thread Cert.KernelTbIdeal.nD Cert.KernelTbIdeal.τ).loc Cert.KernelTbIdeal.main_arg2) = m ((c.tc : Thread Cert.KernelTbIdeal.nD Cert.KernelTbIdeal.τ).loc Cert.KernelTbIdeal.main_arg2)
      ∧ r.2.mem ((c.tc : Thread Cert.KernelTbIdeal.nD Cert.KernelTbIdeal.τ).loc Cert.KernelTbIdeal.main_arg3) = m ((c.tc : Thread Cert.KernelTbIdeal.nD Cert.KernelTbIdeal.τ).loc Cert.KernelTbIdeal.main_arg3)
      ∧ r.2.mem ((c.tc : Thread Cert.KernelTbIdeal.nD Cert.KernelTbIdeal.τ).loc Cert.KernelTbIdeal.main_arg4) = m ((c.tc : Thread Cert.KernelTbIdeal.nD Cert.KernelTbIdeal.τ).loc Cert.KernelTbIdeal.main_arg4))
      ∧ r.2.sem = fun _ => 0)

def quiescent_ReferenceTbIdeal [hReferenceTbIdeal : Cert.ReferenceTbIdeal.Facts] : Prop :=
  ∀ (m : (ℓ : Loc Cert.ReferenceTbIdeal.nD Cert.ReferenceTbIdeal.τ Cert.ReferenceTbIdeal.sig) → Buf (Elt Ideal) ℓ) (g : Dev Cert.ReferenceTbIdeal.nD → PrngReg), Pre_ReferenceTbIdeal m →
    θ_run (Cert.ReferenceTbIdeal.defs (F := Ideal)) (onTc (τ := Cert.ReferenceTbIdeal.τ) (Cert.ReferenceTbIdeal.main (F := Ideal))) ⟨m, fun _ => 0, g⟩ (fun r => (∀ c : Dev Cert.ReferenceTbIdeal.nD,
      r.2.mem ((c.tc : Thread Cert.ReferenceTbIdeal.nD Cert.ReferenceTbIdeal.τ).loc Cert.ReferenceTbIdeal.main_arg0) = m ((c.tc : Thread Cert.ReferenceTbIdeal.nD Cert.ReferenceTbIdeal.τ).loc Cert.ReferenceTbIdeal.main_arg0)
      ∧ r.2.mem ((c.tc : Thread Cert.ReferenceTbIdeal.nD Cert.ReferenceTbIdeal.τ).loc Cert.ReferenceTbIdeal.main_arg1) = m ((c.tc : Thread Cert.ReferenceTbIdeal.nD Cert.ReferenceTbIdeal.τ).loc Cert.ReferenceTbIdeal.main_arg1)
      ∧ r.2.mem ((c.tc : Thread Cert.ReferenceTbIdeal.nD Cert.ReferenceTbIdeal.τ).loc Cert.ReferenceTbIdeal.main_arg2) = m ((c.tc : Thread Cert.ReferenceTbIdeal.nD Cert.ReferenceTbIdeal.τ).loc Cert.ReferenceTbIdeal.main_arg2)
      ∧ r.2.mem ((c.tc : Thread Cert.ReferenceTbIdeal.nD Cert.ReferenceTbIdeal.τ).loc Cert.ReferenceTbIdeal.main_arg3) = m ((c.tc : Thread Cert.ReferenceTbIdeal.nD Cert.ReferenceTbIdeal.τ).loc Cert.ReferenceTbIdeal.main_arg3)
      ∧ r.2.mem ((c.tc : Thread Cert.ReferenceTbIdeal.nD Cert.ReferenceTbIdeal.τ).loc Cert.ReferenceTbIdeal.main_arg4) = m ((c.tc : Thread Cert.ReferenceTbIdeal.nD Cert.ReferenceTbIdeal.τ).loc Cert.ReferenceTbIdeal.main_arg4))
      ∧ r.2.sem = fun _ => 0)

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)
      ∧ m' ((c.tc : Thread Cert.ReferenceGateIdeal.nD Cert.ReferenceGateIdeal.τ).loc Cert.ReferenceGateIdeal.main_arg4) = m ((c.tc : Thread Cert.KernelGateIdeal.nD Cert.KernelGateIdeal.τ).loc Cert.KernelGateIdeal.main_arg4)) →
    ∃ (v0 : (c : Dev Cert.KernelGateIdeal.nD) → Buf (Elt Ideal) ((c.tc : Thread Cert.KernelGateIdeal.nD Cert.KernelGateIdeal.τ).loc Cert.KernelGateIdeal.main_v0_0)) (v1 : (c : Dev Cert.KernelGateIdeal.nD) → Buf (Elt Ideal) ((c.tc : Thread Cert.KernelGateIdeal.nD Cert.KernelGateIdeal.τ).loc Cert.KernelGateIdeal.main_v0_1)) (v2 : (c : Dev Cert.KernelGateIdeal.nD) → Buf (Elt Ideal) ((c.tc : Thread Cert.KernelGateIdeal.nD Cert.KernelGateIdeal.τ).loc Cert.KernelGateIdeal.main_v0_2)) (v3 : (c : Dev Cert.KernelGateIdeal.nD) → Buf (Elt Ideal) ((c.tc : Thread Cert.KernelGateIdeal.nD Cert.KernelGateIdeal.τ).loc Cert.KernelGateIdeal.main_v0_3)) (v4 : (c : Dev Cert.KernelGateIdeal.nD) → Buf (Elt Ideal) ((c.tc : Thread Cert.KernelGateIdeal.nD Cert.KernelGateIdeal.τ).loc Cert.KernelGateIdeal.main_v0_4)) (v5 : (c : Dev Cert.KernelGateIdeal.nD) → Buf (Elt Ideal) ((c.tc : Thread Cert.KernelGateIdeal.nD Cert.KernelGateIdeal.τ).loc Cert.KernelGateIdeal.main_v0_5)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0_0) = v0 c
          ∧ r.2.mem ((c.tc : Thread Cert.KernelGateIdeal.nD Cert.KernelGateIdeal.τ).loc Cert.KernelGateIdeal.main_v0_1) = v1 c
          ∧ r.2.mem ((c.tc : Thread Cert.KernelGateIdeal.nD Cert.KernelGateIdeal.τ).loc Cert.KernelGateIdeal.main_v0_2) = v2 c
          ∧ r.2.mem ((c.tc : Thread Cert.KernelGateIdeal.nD Cert.KernelGateIdeal.τ).loc Cert.KernelGateIdeal.main_v0_3) = v3 c
          ∧ r.2.mem ((c.tc : Thread Cert.KernelGateIdeal.nD Cert.KernelGateIdeal.τ).loc Cert.KernelGateIdeal.main_v0_4) = v4 c
          ∧ r.2.mem ((c.tc : Thread Cert.KernelGateIdeal.nD Cert.KernelGateIdeal.τ).loc Cert.KernelGateIdeal.main_v0_5) = v5 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
          ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v45) = v0 c
          ∧ r.2.mem ((c.tc : Thread Cert.ReferenceGateIdeal.nD Cert.ReferenceGateIdeal.τ).loc Cert.ReferenceGateIdeal.main_v46) = v1 c
          ∧ r.2.mem ((c.tc : Thread Cert.ReferenceGateIdeal.nD Cert.ReferenceGateIdeal.τ).loc Cert.ReferenceGateIdeal.main_v47) = v2 c
          ∧ r.2.mem ((c.tc : Thread Cert.ReferenceGateIdeal.nD Cert.ReferenceGateIdeal.τ).loc Cert.ReferenceGateIdeal.main_v48) = v3 c
          ∧ r.2.mem ((c.tc : Thread Cert.ReferenceGateIdeal.nD Cert.ReferenceGateIdeal.τ).loc Cert.ReferenceGateIdeal.main_v49) = v4 c
          ∧ r.2.mem ((c.tc : Thread Cert.ReferenceGateIdeal.nD Cert.ReferenceGateIdeal.τ).loc Cert.ReferenceGateIdeal.main_v50) = v5 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3)
          ∧ r.2.mem ((c.tc : Thread Cert.ReferenceGateIdeal.nD Cert.ReferenceGateIdeal.τ).loc Cert.ReferenceGateIdeal.main_arg4) = m' ((c.tc : Thread Cert.ReferenceGateIdeal.nD Cert.ReferenceGateIdeal.τ).loc Cert.ReferenceGateIdeal.main_arg4))

def preserves_KernelRms_KernelRmsIdeal : Prop :=
  True

def algebraic_KernelRmsIdeal_ReferenceRmsIdeal [hKernelRmsIdeal : Cert.KernelRmsIdeal.Facts] [hReferenceRmsIdeal : Cert.ReferenceRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg)
    (m' : (ℓ : Loc Cert.ReferenceRmsIdeal.nD Cert.ReferenceRmsIdeal.τ Cert.ReferenceRmsIdeal.sig) → Buf (Elt Ideal) ℓ) (g' : Dev Cert.ReferenceRmsIdeal.nD → PrngReg), Pre_KernelRmsIdeal m →
    (∀ c : Dev Cert.KernelRmsIdeal.nD,
      m' ((c.tc : Thread Cert.ReferenceRmsIdeal.nD Cert.ReferenceRmsIdeal.τ).loc Cert.ReferenceRmsIdeal.main_arg0) = m ((c.tc : Thread Cert.KernelRmsIdeal.nD Cert.KernelRmsIdeal.τ).loc Cert.KernelRmsIdeal.main_arg0)
      ∧ m' ((c.tc : Thread Cert.ReferenceRmsIdeal.nD Cert.ReferenceRmsIdeal.τ).loc Cert.ReferenceRmsIdeal.main_arg1) = m ((c.tc : Thread Cert.KernelRmsIdeal.nD Cert.KernelRmsIdeal.τ).loc Cert.KernelRmsIdeal.main_arg1)
      ∧ m' ((c.tc : Thread Cert.ReferenceRmsIdeal.nD Cert.ReferenceRmsIdeal.τ).loc Cert.ReferenceRmsIdeal.main_arg2) = m ((c.tc : Thread Cert.KernelRmsIdeal.nD Cert.KernelRmsIdeal.τ).loc Cert.KernelRmsIdeal.main_arg2)
      ∧ m' ((c.tc : Thread Cert.ReferenceRmsIdeal.nD Cert.ReferenceRmsIdeal.τ).loc Cert.ReferenceRmsIdeal.main_arg3) = m ((c.tc : Thread Cert.KernelRmsIdeal.nD Cert.KernelRmsIdeal.τ).loc Cert.KernelRmsIdeal.main_arg3)) →
    ∃ (v0 : (c : Dev Cert.KernelRmsIdeal.nD) → Buf (Elt Ideal) ((c.tc : Thread Cert.KernelRmsIdeal.nD Cert.KernelRmsIdeal.τ).loc Cert.KernelRmsIdeal.main_v1_0)) (v1 : (c : Dev Cert.KernelRmsIdeal.nD) → Buf (Elt Ideal) ((c.tc : Thread Cert.KernelRmsIdeal.nD Cert.KernelRmsIdeal.τ).loc Cert.KernelRmsIdeal.main_v1_1)),
      θ_run (Cert.KernelRmsIdeal.defs (F := Ideal)) (onTc (τ := Cert.KernelRmsIdeal.τ) (Cert.KernelRmsIdeal.main (F := Ideal))) ⟨m, fun _ => 0, g⟩ (fun r => ∀ c : Dev Cert.KernelRmsIdeal.nD,
          r.2.mem ((c.tc : Thread Cert.KernelRmsIdeal.nD Cert.KernelRmsIdeal.τ).loc Cert.KernelRmsIdeal.main_v1_0) = v0 c
          ∧ r.2.mem ((c.tc : Thread Cert.KernelRmsIdeal.nD Cert.KernelRmsIdeal.τ).loc Cert.KernelRmsIdeal.main_v1_1) = v1 c
          ∧ r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
          ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1)
          ∧ r.2.mem ((c.tc : Thread Cert.KernelRmsIdeal.nD Cert.KernelRmsIdeal.τ).loc Cert.KernelRmsIdeal.main_arg2) = m ((c.tc : Thread Cert.KernelRmsIdeal.nD Cert.KernelRmsIdeal.τ).loc Cert.KernelRmsIdeal.main_arg2)
          ∧ r.2.mem ((c.tc : Thread Cert.KernelRmsIdeal.nD Cert.KernelRmsIdeal.τ).loc Cert.KernelRmsIdeal.main_arg3) = m ((c.tc : Thread Cert.KernelRmsIdeal.nD Cert.KernelRmsIdeal.τ).loc Cert.KernelRmsIdeal.main_arg3))
      ∧ θ_run (Cert.ReferenceRmsIdeal.defs (F := Ideal)) (onTc (τ := Cert.ReferenceRmsIdeal.τ) (Cert.ReferenceRmsIdeal.main (F := Ideal))) ⟨m', fun _ => 0, g'⟩ (fun r => ∀ c : Dev Cert.ReferenceRmsIdeal.nD,
          r.2.mem ((c.tc : Thread Cert.ReferenceRmsIdeal.nD Cert.ReferenceRmsIdeal.τ).loc Cert.ReferenceRmsIdeal.main_v36) = v0 c
          ∧ r.2.mem ((c.tc : Thread Cert.ReferenceRmsIdeal.nD Cert.ReferenceRmsIdeal.τ).loc Cert.ReferenceRmsIdeal.main_v37) = v1 c
          ∧ r.2.mem ((c.tc : Thread Cert.ReferenceRmsIdeal.nD Cert.ReferenceRmsIdeal.τ).loc Cert.ReferenceRmsIdeal.main_arg0) = m' ((c.tc : Thread Cert.ReferenceRmsIdeal.nD Cert.ReferenceRmsIdeal.τ).loc Cert.ReferenceRmsIdeal.main_arg0)
          ∧ r.2.mem ((c.tc : Thread Cert.ReferenceRmsIdeal.nD Cert.ReferenceRmsIdeal.τ).loc Cert.ReferenceRmsIdeal.main_arg1) = m' ((c.tc : Thread Cert.ReferenceRmsIdeal.nD Cert.ReferenceRmsIdeal.τ).loc Cert.ReferenceRmsIdeal.main_arg1)
          ∧ r.2.mem ((c.tc : Thread Cert.ReferenceRmsIdeal.nD Cert.ReferenceRmsIdeal.τ).loc Cert.ReferenceRmsIdeal.main_arg2) = m' ((c.tc : Thread Cert.ReferenceRmsIdeal.nD Cert.ReferenceRmsIdeal.τ).loc Cert.ReferenceRmsIdeal.main_arg2)
          ∧ r.2.mem ((c.tc : Thread Cert.ReferenceRmsIdeal.nD Cert.ReferenceRmsIdeal.τ).loc Cert.ReferenceRmsIdeal.main_arg3) = m' ((c.tc : Thread Cert.ReferenceRmsIdeal.nD Cert.ReferenceRmsIdeal.τ).loc Cert.ReferenceRmsIdeal.main_arg3))

def preserves_KernelPbx_KernelPbxIdeal : Prop :=
  True

def algebraic_KernelPbxIdeal_ReferencePbxIdeal [hKernelPbxIdeal : Cert.KernelPbxIdeal.Facts] [hReferencePbxIdeal : Cert.ReferencePbxIdeal.Facts] : Prop :=
  ∀ (m : (ℓ : Loc Cert.KernelPbxIdeal.nD Cert.KernelPbxIdeal.τ Cert.KernelPbxIdeal.sig) → Buf (Elt Ideal) ℓ) (g : Dev Cert.KernelPbxIdeal.nD → PrngReg)
    (m' : (ℓ : Loc Cert.ReferencePbxIdeal.nD Cert.ReferencePbxIdeal.τ Cert.ReferencePbxIdeal.sig) → Buf (Elt Ideal) ℓ) (g' : Dev Cert.ReferencePbxIdeal.nD → PrngReg), Pre_KernelPbxIdeal m →
    (∀ c : Dev Cert.KernelPbxIdeal.nD,
      m' ((c.tc : Thread Cert.ReferencePbxIdeal.nD Cert.ReferencePbxIdeal.τ).loc Cert.ReferencePbxIdeal.main_arg0) = m ((c.tc : Thread Cert.KernelPbxIdeal.nD Cert.KernelPbxIdeal.τ).loc Cert.KernelPbxIdeal.main_arg0)
      ∧ m' ((c.tc : Thread Cert.ReferencePbxIdeal.nD Cert.ReferencePbxIdeal.τ).loc Cert.ReferencePbxIdeal.main_arg1) = m ((c.tc : Thread Cert.KernelPbxIdeal.nD Cert.KernelPbxIdeal.τ).loc Cert.KernelPbxIdeal.main_arg1)) →
    ∃ (v0 : (c : Dev Cert.KernelPbxIdeal.nD) → Buf (Elt Ideal) ((c.tc : Thread Cert.KernelPbxIdeal.nD Cert.KernelPbxIdeal.τ).loc Cert.KernelPbxIdeal.main_v0)),
      θ_run (Cert.KernelPbxIdeal.defs (F := Ideal)) (onTc (τ := Cert.KernelPbxIdeal.τ) (Cert.KernelPbxIdeal.main (F := Ideal))) ⟨m, fun _ => 0, g⟩ (fun r => ∀ c : Dev Cert.KernelPbxIdeal.nD,
          r.2.mem ((c.tc : Thread Cert.KernelPbxIdeal.nD Cert.KernelPbxIdeal.τ).loc Cert.KernelPbxIdeal.main_v0) = v0 c
          ∧ r.2.mem ((c.tc : Thread Cert.KernelPbxIdeal.nD Cert.KernelPbxIdeal.τ).loc Cert.KernelPbxIdeal.main_arg0) = m ((c.tc : Thread Cert.KernelPbxIdeal.nD Cert.KernelPbxIdeal.τ).loc Cert.KernelPbxIdeal.main_arg0)
          ∧ r.2.mem ((c.tc : Thread Cert.KernelPbxIdeal.nD Cert.KernelPbxIdeal.τ).loc Cert.KernelPbxIdeal.main_arg1) = m ((c.tc : Thread Cert.KernelPbxIdeal.nD Cert.KernelPbxIdeal.τ).loc Cert.KernelPbxIdeal.main_arg1))
      ∧ θ_run (Cert.ReferencePbxIdeal.defs (F := Ideal)) (onTc (τ := Cert.ReferencePbxIdeal.τ) (Cert.ReferencePbxIdeal.main (F := Ideal))) ⟨m', fun _ => 0, g'⟩ (fun r => ∀ c : Dev Cert.ReferencePbxIdeal.nD,
          r.2.mem ((c.tc : Thread Cert.ReferencePbxIdeal.nD Cert.ReferencePbxIdeal.τ).loc Cert.ReferencePbxIdeal.main_v4) = v0 c
          ∧ r.2.mem ((c.tc : Thread Cert.ReferencePbxIdeal.nD Cert.ReferencePbxIdeal.τ).loc Cert.ReferencePbxIdeal.main_arg0) = m' ((c.tc : Thread Cert.ReferencePbxIdeal.nD Cert.ReferencePbxIdeal.τ).loc Cert.ReferencePbxIdeal.main_arg0)
          ∧ r.2.mem ((c.tc : Thread Cert.ReferencePbxIdeal.nD Cert.ReferencePbxIdeal.τ).loc Cert.ReferencePbxIdeal.main_arg1) = m' ((c.tc : Thread Cert.ReferencePbxIdeal.nD Cert.ReferencePbxIdeal.τ).loc Cert.ReferencePbxIdeal.main_arg1))

def preserves_KernelPbw_KernelPbwIdeal : Prop :=
  True

def algebraic_KernelPbwIdeal_ReferencePbwIdeal [hKernelPbwIdeal : Cert.KernelPbwIdeal.Facts] [hReferencePbwIdeal : Cert.ReferencePbwIdeal.Facts] : Prop :=
  ∀ (m : (ℓ : Loc Cert.KernelPbwIdeal.nD Cert.KernelPbwIdeal.τ Cert.KernelPbwIdeal.sig) → Buf (Elt Ideal) ℓ) (g : Dev Cert.KernelPbwIdeal.nD → PrngReg)
    (m' : (ℓ : Loc Cert.ReferencePbwIdeal.nD Cert.ReferencePbwIdeal.τ Cert.ReferencePbwIdeal.sig) → Buf (Elt Ideal) ℓ) (g' : Dev Cert.ReferencePbwIdeal.nD → PrngReg), Pre_KernelPbwIdeal m →
    (∀ c : Dev Cert.KernelPbwIdeal.nD,
      m' ((c.tc : Thread Cert.ReferencePbwIdeal.nD Cert.ReferencePbwIdeal.τ).loc Cert.ReferencePbwIdeal.main_arg0) = m ((c.tc : Thread Cert.KernelPbwIdeal.nD Cert.KernelPbwIdeal.τ).loc Cert.KernelPbwIdeal.main_arg0)
      ∧ m' ((c.tc : Thread Cert.ReferencePbwIdeal.nD Cert.ReferencePbwIdeal.τ).loc Cert.ReferencePbwIdeal.main_arg1) = m ((c.tc : Thread Cert.KernelPbwIdeal.nD Cert.KernelPbwIdeal.τ).loc Cert.KernelPbwIdeal.main_arg1)) →
    ∃ (v0 : (c : Dev Cert.KernelPbwIdeal.nD) → Buf (Elt Ideal) ((c.tc : Thread Cert.KernelPbwIdeal.nD Cert.KernelPbwIdeal.τ).loc Cert.KernelPbwIdeal.main_v0)),
      θ_run (Cert.KernelPbwIdeal.defs (F := Ideal)) (onTc (τ := Cert.KernelPbwIdeal.τ) (Cert.KernelPbwIdeal.main (F := Ideal))) ⟨m, fun _ => 0, g⟩ (fun r => ∀ c : Dev Cert.KernelPbwIdeal.nD,
          r.2.mem ((c.tc : Thread Cert.KernelPbwIdeal.nD Cert.KernelPbwIdeal.τ).loc Cert.KernelPbwIdeal.main_v0) = v0 c
          ∧ r.2.mem ((c.tc : Thread Cert.KernelPbwIdeal.nD Cert.KernelPbwIdeal.τ).loc Cert.KernelPbwIdeal.main_arg0) = m ((c.tc : Thread Cert.KernelPbwIdeal.nD Cert.KernelPbwIdeal.τ).loc Cert.KernelPbwIdeal.main_arg0)
          ∧ r.2.mem ((c.tc : Thread Cert.KernelPbwIdeal.nD Cert.KernelPbwIdeal.τ).loc Cert.KernelPbwIdeal.main_arg1) = m ((c.tc : Thread Cert.KernelPbwIdeal.nD Cert.KernelPbwIdeal.τ).loc Cert.KernelPbwIdeal.main_arg1))
      ∧ θ_run (Cert.ReferencePbwIdeal.defs (F := Ideal)) (onTc (τ := Cert.ReferencePbwIdeal.τ) (Cert.ReferencePbwIdeal.main (F := Ideal))) ⟨m', fun _ => 0, g'⟩ (fun r => ∀ c : Dev Cert.ReferencePbwIdeal.nD,
          r.2.mem ((c.tc : Thread Cert.ReferencePbwIdeal.nD Cert.ReferencePbwIdeal.τ).loc Cert.ReferencePbwIdeal.main_v6) = v0 c
          ∧ r.2.mem ((c.tc : Thread Cert.ReferencePbwIdeal.nD Cert.ReferencePbwIdeal.τ).loc Cert.ReferencePbwIdeal.main_arg0) = m' ((c.tc : Thread Cert.ReferencePbwIdeal.nD Cert.ReferencePbwIdeal.τ).loc Cert.ReferencePbwIdeal.main_arg0)
          ∧ r.2.mem ((c.tc : Thread Cert.ReferencePbwIdeal.nD Cert.ReferencePbwIdeal.τ).loc Cert.ReferencePbwIdeal.main_arg1) = m' ((c.tc : Thread Cert.ReferencePbwIdeal.nD Cert.ReferencePbwIdeal.τ).loc Cert.ReferencePbwIdeal.main_arg1))

def preserves_KernelWbx_KernelWbxIdeal : Prop :=
  True

def algebraic_KernelWbxIdeal_ReferenceWbxIdeal [hKernelWbxIdeal : Cert.KernelWbxIdeal.Facts] [hReferenceWbxIdeal : Cert.ReferenceWbxIdeal.Facts] : Prop :=
  ∀ (m : (ℓ : Loc Cert.KernelWbxIdeal.nD Cert.KernelWbxIdeal.τ Cert.KernelWbxIdeal.sig) → Buf (Elt Ideal) ℓ) (g : Dev Cert.KernelWbxIdeal.nD → PrngReg)
    (m' : (ℓ : Loc Cert.ReferenceWbxIdeal.nD Cert.ReferenceWbxIdeal.τ Cert.ReferenceWbxIdeal.sig) → Buf (Elt Ideal) ℓ) (g' : Dev Cert.ReferenceWbxIdeal.nD → PrngReg), Pre_KernelWbxIdeal m →
    (∀ c : Dev Cert.KernelWbxIdeal.nD,
      m' ((c.tc : Thread Cert.ReferenceWbxIdeal.nD Cert.ReferenceWbxIdeal.τ).loc Cert.ReferenceWbxIdeal.main_arg0) = m ((c.tc : Thread Cert.KernelWbxIdeal.nD Cert.KernelWbxIdeal.τ).loc Cert.KernelWbxIdeal.main_arg0)
      ∧ m' ((c.tc : Thread Cert.ReferenceWbxIdeal.nD Cert.ReferenceWbxIdeal.τ).loc Cert.ReferenceWbxIdeal.main_arg1) = m ((c.tc : Thread Cert.KernelWbxIdeal.nD Cert.KernelWbxIdeal.τ).loc Cert.KernelWbxIdeal.main_arg1)) →
    ∃ (v0 : (c : Dev Cert.KernelWbxIdeal.nD) → Buf (Elt Ideal) ((c.tc : Thread Cert.KernelWbxIdeal.nD Cert.KernelWbxIdeal.τ).loc Cert.KernelWbxIdeal.main_v0)),
      θ_run (Cert.KernelWbxIdeal.defs (F := Ideal)) (onTc (τ := Cert.KernelWbxIdeal.τ) (Cert.KernelWbxIdeal.main (F := Ideal))) ⟨m, fun _ => 0, g⟩ (fun r => ∀ c : Dev Cert.KernelWbxIdeal.nD,
          r.2.mem ((c.tc : Thread Cert.KernelWbxIdeal.nD Cert.KernelWbxIdeal.τ).loc Cert.KernelWbxIdeal.main_v0) = v0 c
          ∧ r.2.mem ((c.tc : Thread Cert.KernelWbxIdeal.nD Cert.KernelWbxIdeal.τ).loc Cert.KernelWbxIdeal.main_arg0) = m ((c.tc : Thread Cert.KernelWbxIdeal.nD Cert.KernelWbxIdeal.τ).loc Cert.KernelWbxIdeal.main_arg0)
          ∧ r.2.mem ((c.tc : Thread Cert.KernelWbxIdeal.nD Cert.KernelWbxIdeal.τ).loc Cert.KernelWbxIdeal.main_arg1) = m ((c.tc : Thread Cert.KernelWbxIdeal.nD Cert.KernelWbxIdeal.τ).loc Cert.KernelWbxIdeal.main_arg1))
      ∧ θ_run (Cert.ReferenceWbxIdeal.defs (F := Ideal)) (onTc (τ := Cert.ReferenceWbxIdeal.τ) (Cert.ReferenceWbxIdeal.main (F := Ideal))) ⟨m', fun _ => 0, g'⟩ (fun r => ∀ c : Dev Cert.ReferenceWbxIdeal.nD,
          r.2.mem ((c.tc : Thread Cert.ReferenceWbxIdeal.nD Cert.ReferenceWbxIdeal.τ).loc Cert.ReferenceWbxIdeal.main_v4) = v0 c
          ∧ r.2.mem ((c.tc : Thread Cert.ReferenceWbxIdeal.nD Cert.ReferenceWbxIdeal.τ).loc Cert.ReferenceWbxIdeal.main_arg0) = m' ((c.tc : Thread Cert.ReferenceWbxIdeal.nD Cert.ReferenceWbxIdeal.τ).loc Cert.ReferenceWbxIdeal.main_arg0)
          ∧ r.2.mem ((c.tc : Thread Cert.ReferenceWbxIdeal.nD Cert.ReferenceWbxIdeal.τ).loc Cert.ReferenceWbxIdeal.main_arg1) = m' ((c.tc : Thread Cert.ReferenceWbxIdeal.nD Cert.ReferenceWbxIdeal.τ).loc Cert.ReferenceWbxIdeal.main_arg1))

def preserves_KernelWbw_KernelWbwIdeal : Prop :=
  True

def algebraic_KernelWbwIdeal_ReferenceWbwIdeal [hKernelWbwIdeal : Cert.KernelWbwIdeal.Facts] [hReferenceWbwIdeal : Cert.ReferenceWbwIdeal.Facts] : Prop :=
  ∀ (m : (ℓ : Loc Cert.KernelWbwIdeal.nD Cert.KernelWbwIdeal.τ Cert.KernelWbwIdeal.sig) → Buf (Elt Ideal) ℓ) (g : Dev Cert.KernelWbwIdeal.nD → PrngReg)
    (m' : (ℓ : Loc Cert.ReferenceWbwIdeal.nD Cert.ReferenceWbwIdeal.τ Cert.ReferenceWbwIdeal.sig) → Buf (Elt Ideal) ℓ) (g' : Dev Cert.ReferenceWbwIdeal.nD → PrngReg), Pre_KernelWbwIdeal m →
    (∀ c : Dev Cert.KernelWbwIdeal.nD,
      m' ((c.tc : Thread Cert.ReferenceWbwIdeal.nD Cert.ReferenceWbwIdeal.τ).loc Cert.ReferenceWbwIdeal.main_arg0) = m ((c.tc : Thread Cert.KernelWbwIdeal.nD Cert.KernelWbwIdeal.τ).loc Cert.KernelWbwIdeal.main_arg0)
      ∧ m' ((c.tc : Thread Cert.ReferenceWbwIdeal.nD Cert.ReferenceWbwIdeal.τ).loc Cert.ReferenceWbwIdeal.main_arg1) = m ((c.tc : Thread Cert.KernelWbwIdeal.nD Cert.KernelWbwIdeal.τ).loc Cert.KernelWbwIdeal.main_arg1)) →
    ∃ (v0 : (c : Dev Cert.KernelWbwIdeal.nD) → Buf (Elt Ideal) ((c.tc : Thread Cert.KernelWbwIdeal.nD Cert.KernelWbwIdeal.τ).loc Cert.KernelWbwIdeal.main_v0)),
      θ_run (Cert.KernelWbwIdeal.defs (F := Ideal)) (onTc (τ := Cert.KernelWbwIdeal.τ) (Cert.KernelWbwIdeal.main (F := Ideal))) ⟨m, fun _ => 0, g⟩ (fun r => ∀ c : Dev Cert.KernelWbwIdeal.nD,
          r.2.mem ((c.tc : Thread Cert.KernelWbwIdeal.nD Cert.KernelWbwIdeal.τ).loc Cert.KernelWbwIdeal.main_v0) = v0 c
          ∧ r.2.mem ((c.tc : Thread Cert.KernelWbwIdeal.nD Cert.KernelWbwIdeal.τ).loc Cert.KernelWbwIdeal.main_arg0) = m ((c.tc : Thread Cert.KernelWbwIdeal.nD Cert.KernelWbwIdeal.τ).loc Cert.KernelWbwIdeal.main_arg0)
          ∧ r.2.mem ((c.tc : Thread Cert.KernelWbwIdeal.nD Cert.KernelWbwIdeal.τ).loc Cert.KernelWbwIdeal.main_arg1) = m ((c.tc : Thread Cert.KernelWbwIdeal.nD Cert.KernelWbwIdeal.τ).loc Cert.KernelWbwIdeal.main_arg1))
      ∧ θ_run (Cert.ReferenceWbwIdeal.defs (F := Ideal)) (onTc (τ := Cert.ReferenceWbwIdeal.τ) (Cert.ReferenceWbwIdeal.main (F := Ideal))) ⟨m', fun _ => 0, g'⟩ (fun r => ∀ c : Dev Cert.ReferenceWbwIdeal.nD,
          r.2.mem ((c.tc : Thread Cert.ReferenceWbwIdeal.nD Cert.ReferenceWbwIdeal.τ).loc Cert.ReferenceWbwIdeal.main_v5) = v0 c
          ∧ r.2.mem ((c.tc : Thread Cert.ReferenceWbwIdeal.nD Cert.ReferenceWbwIdeal.τ).loc Cert.ReferenceWbwIdeal.main_arg0) = m' ((c.tc : Thread Cert.ReferenceWbwIdeal.nD Cert.ReferenceWbwIdeal.τ).loc Cert.ReferenceWbwIdeal.main_arg0)
          ∧ r.2.mem ((c.tc : Thread Cert.ReferenceWbwIdeal.nD Cert.ReferenceWbwIdeal.τ).loc Cert.ReferenceWbwIdeal.main_arg1) = m' ((c.tc : Thread Cert.ReferenceWbwIdeal.nD Cert.ReferenceWbwIdeal.τ).loc Cert.ReferenceWbwIdeal.main_arg1))

def preserves_KernelAbx_KernelAbxIdeal : Prop :=
  True

def algebraic_KernelAbxIdeal_ReferenceAbxIdeal [hKernelAbxIdeal : Cert.KernelAbxIdeal.Facts] [hReferenceAbxIdeal : Cert.ReferenceAbxIdeal.Facts] : Prop :=
  ∀ (m : (ℓ : Loc Cert.KernelAbxIdeal.nD Cert.KernelAbxIdeal.τ Cert.KernelAbxIdeal.sig) → Buf (Elt Ideal) ℓ) (g : Dev Cert.KernelAbxIdeal.nD → PrngReg)
    (m' : (ℓ : Loc Cert.ReferenceAbxIdeal.nD Cert.ReferenceAbxIdeal.τ Cert.ReferenceAbxIdeal.sig) → Buf (Elt Ideal) ℓ) (g' : Dev Cert.ReferenceAbxIdeal.nD → PrngReg), Pre_KernelAbxIdeal m →
    (∀ c : Dev Cert.KernelAbxIdeal.nD,
      m' ((c.tc : Thread Cert.ReferenceAbxIdeal.nD Cert.ReferenceAbxIdeal.τ).loc Cert.ReferenceAbxIdeal.main_arg0) = m ((c.tc : Thread Cert.KernelAbxIdeal.nD Cert.KernelAbxIdeal.τ).loc Cert.KernelAbxIdeal.main_arg0)
      ∧ m' ((c.tc : Thread Cert.ReferenceAbxIdeal.nD Cert.ReferenceAbxIdeal.τ).loc Cert.ReferenceAbxIdeal.main_arg1) = m ((c.tc : Thread Cert.KernelAbxIdeal.nD Cert.KernelAbxIdeal.τ).loc Cert.KernelAbxIdeal.main_arg1)) →
    ∃ (v0 : (c : Dev Cert.KernelAbxIdeal.nD) → Buf (Elt Ideal) ((c.tc : Thread Cert.KernelAbxIdeal.nD Cert.KernelAbxIdeal.τ).loc Cert.KernelAbxIdeal.main_v0)),
      θ_run (Cert.KernelAbxIdeal.defs (F := Ideal)) (onTc (τ := Cert.KernelAbxIdeal.τ) (Cert.KernelAbxIdeal.main (F := Ideal))) ⟨m, fun _ => 0, g⟩ (fun r => ∀ c : Dev Cert.KernelAbxIdeal.nD,
          r.2.mem ((c.tc : Thread Cert.KernelAbxIdeal.nD Cert.KernelAbxIdeal.τ).loc Cert.KernelAbxIdeal.main_v0) = v0 c
          ∧ r.2.mem ((c.tc : Thread Cert.KernelAbxIdeal.nD Cert.KernelAbxIdeal.τ).loc Cert.KernelAbxIdeal.main_arg0) = m ((c.tc : Thread Cert.KernelAbxIdeal.nD Cert.KernelAbxIdeal.τ).loc Cert.KernelAbxIdeal.main_arg0)
          ∧ r.2.mem ((c.tc : Thread Cert.KernelAbxIdeal.nD Cert.KernelAbxIdeal.τ).loc Cert.KernelAbxIdeal.main_arg1) = m ((c.tc : Thread Cert.KernelAbxIdeal.nD Cert.KernelAbxIdeal.τ).loc Cert.KernelAbxIdeal.main_arg1))
      ∧ θ_run (Cert.ReferenceAbxIdeal.defs (F := Ideal)) (onTc (τ := Cert.ReferenceAbxIdeal.τ) (Cert.ReferenceAbxIdeal.main (F := Ideal))) ⟨m', fun _ => 0, g'⟩ (fun r => ∀ c : Dev Cert.ReferenceAbxIdeal.nD,
          r.2.mem ((c.tc : Thread Cert.ReferenceAbxIdeal.nD Cert.ReferenceAbxIdeal.τ).loc Cert.ReferenceAbxIdeal.main_v5) = v0 c
          ∧ r.2.mem ((c.tc : Thread Cert.ReferenceAbxIdeal.nD Cert.ReferenceAbxIdeal.τ).loc Cert.ReferenceAbxIdeal.main_arg0) = m' ((c.tc : Thread Cert.ReferenceAbxIdeal.nD Cert.ReferenceAbxIdeal.τ).loc Cert.ReferenceAbxIdeal.main_arg0)
          ∧ r.2.mem ((c.tc : Thread Cert.ReferenceAbxIdeal.nD Cert.ReferenceAbxIdeal.τ).loc Cert.ReferenceAbxIdeal.main_arg1) = m' ((c.tc : Thread Cert.ReferenceAbxIdeal.nD Cert.ReferenceAbxIdeal.τ).loc Cert.ReferenceAbxIdeal.main_arg1))

def preserves_KernelAbw_KernelAbwIdeal : Prop :=
  True

def algebraic_KernelAbwIdeal_ReferenceAbwIdeal [hKernelAbwIdeal : Cert.KernelAbwIdeal.Facts] [hReferenceAbwIdeal : Cert.ReferenceAbwIdeal.Facts] : Prop :=
  ∀ (m : (ℓ : Loc Cert.KernelAbwIdeal.nD Cert.KernelAbwIdeal.τ Cert.KernelAbwIdeal.sig) → Buf (Elt Ideal) ℓ) (g : Dev Cert.KernelAbwIdeal.nD → PrngReg)
    (m' : (ℓ : Loc Cert.ReferenceAbwIdeal.nD Cert.ReferenceAbwIdeal.τ Cert.ReferenceAbwIdeal.sig) → Buf (Elt Ideal) ℓ) (g' : Dev Cert.ReferenceAbwIdeal.nD → PrngReg), Pre_KernelAbwIdeal m →
    (∀ c : Dev Cert.KernelAbwIdeal.nD,
      m' ((c.tc : Thread Cert.ReferenceAbwIdeal.nD Cert.ReferenceAbwIdeal.τ).loc Cert.ReferenceAbwIdeal.main_arg0) = m ((c.tc : Thread Cert.KernelAbwIdeal.nD Cert.KernelAbwIdeal.τ).loc Cert.KernelAbwIdeal.main_arg0)
      ∧ m' ((c.tc : Thread Cert.ReferenceAbwIdeal.nD Cert.ReferenceAbwIdeal.τ).loc Cert.ReferenceAbwIdeal.main_arg1) = m ((c.tc : Thread Cert.KernelAbwIdeal.nD Cert.KernelAbwIdeal.τ).loc Cert.KernelAbwIdeal.main_arg1)) →
    ∃ (v0 : (c : Dev Cert.KernelAbwIdeal.nD) → Buf (Elt Ideal) ((c.tc : Thread Cert.KernelAbwIdeal.nD Cert.KernelAbwIdeal.τ).loc Cert.KernelAbwIdeal.main_v0)),
      θ_run (Cert.KernelAbwIdeal.defs (F := Ideal)) (onTc (τ := Cert.KernelAbwIdeal.τ) (Cert.KernelAbwIdeal.main (F := Ideal))) ⟨m, fun _ => 0, g⟩ (fun r => ∀ c : Dev Cert.KernelAbwIdeal.nD,
          r.2.mem ((c.tc : Thread Cert.KernelAbwIdeal.nD Cert.KernelAbwIdeal.τ).loc Cert.KernelAbwIdeal.main_v0) = v0 c
          ∧ r.2.mem ((c.tc : Thread Cert.KernelAbwIdeal.nD Cert.KernelAbwIdeal.τ).loc Cert.KernelAbwIdeal.main_arg0) = m ((c.tc : Thread Cert.KernelAbwIdeal.nD Cert.KernelAbwIdeal.τ).loc Cert.KernelAbwIdeal.main_arg0)
          ∧ r.2.mem ((c.tc : Thread Cert.KernelAbwIdeal.nD Cert.KernelAbwIdeal.τ).loc Cert.KernelAbwIdeal.main_arg1) = m ((c.tc : Thread Cert.KernelAbwIdeal.nD Cert.KernelAbwIdeal.τ).loc Cert.KernelAbwIdeal.main_arg1))
      ∧ θ_run (Cert.ReferenceAbwIdeal.defs (F := Ideal)) (onTc (τ := Cert.ReferenceAbwIdeal.τ) (Cert.ReferenceAbwIdeal.main (F := Ideal))) ⟨m', fun _ => 0, g'⟩ (fun r => ∀ c : Dev Cert.ReferenceAbwIdeal.nD,
          r.2.mem ((c.tc : Thread Cert.ReferenceAbwIdeal.nD Cert.ReferenceAbwIdeal.τ).loc Cert.ReferenceAbwIdeal.main_v6) = v0 c
          ∧ r.2.mem ((c.tc : Thread Cert.ReferenceAbwIdeal.nD Cert.ReferenceAbwIdeal.τ).loc Cert.ReferenceAbwIdeal.main_arg0) = m' ((c.tc : Thread Cert.ReferenceAbwIdeal.nD Cert.ReferenceAbwIdeal.τ).loc Cert.ReferenceAbwIdeal.main_arg0)
          ∧ r.2.mem ((c.tc : Thread Cert.ReferenceAbwIdeal.nD Cert.ReferenceAbwIdeal.τ).loc Cert.ReferenceAbwIdeal.main_arg1) = m' ((c.tc : Thread Cert.ReferenceAbwIdeal.nD Cert.ReferenceAbwIdeal.τ).loc Cert.ReferenceAbwIdeal.main_arg1))

def preserves_KernelBbx_KernelBbxIdeal : Prop :=
  True

def algebraic_KernelBbxIdeal_ReferenceBbxIdeal [hKernelBbxIdeal : Cert.KernelBbxIdeal.Facts] [hReferenceBbxIdeal : Cert.ReferenceBbxIdeal.Facts] : Prop :=
  ∀ (m : (ℓ : Loc Cert.KernelBbxIdeal.nD Cert.KernelBbxIdeal.τ Cert.KernelBbxIdeal.sig) → Buf (Elt Ideal) ℓ) (g : Dev Cert.KernelBbxIdeal.nD → PrngReg)
    (m' : (ℓ : Loc Cert.ReferenceBbxIdeal.nD Cert.ReferenceBbxIdeal.τ Cert.ReferenceBbxIdeal.sig) → Buf (Elt Ideal) ℓ) (g' : Dev Cert.ReferenceBbxIdeal.nD → PrngReg), Pre_KernelBbxIdeal m →
    (∀ c : Dev Cert.KernelBbxIdeal.nD,
      m' ((c.tc : Thread Cert.ReferenceBbxIdeal.nD Cert.ReferenceBbxIdeal.τ).loc Cert.ReferenceBbxIdeal.main_arg0) = m ((c.tc : Thread Cert.KernelBbxIdeal.nD Cert.KernelBbxIdeal.τ).loc Cert.KernelBbxIdeal.main_arg0)
      ∧ m' ((c.tc : Thread Cert.ReferenceBbxIdeal.nD Cert.ReferenceBbxIdeal.τ).loc Cert.ReferenceBbxIdeal.main_arg1) = m ((c.tc : Thread Cert.KernelBbxIdeal.nD Cert.KernelBbxIdeal.τ).loc Cert.KernelBbxIdeal.main_arg1)) →
    ∃ (v0 : (c : Dev Cert.KernelBbxIdeal.nD) → Buf (Elt Ideal) ((c.tc : Thread Cert.KernelBbxIdeal.nD Cert.KernelBbxIdeal.τ).loc Cert.KernelBbxIdeal.main_v0)),
      θ_run (Cert.KernelBbxIdeal.defs (F := Ideal)) (onTc (τ := Cert.KernelBbxIdeal.τ) (Cert.KernelBbxIdeal.main (F := Ideal))) ⟨m, fun _ => 0, g⟩ (fun r => ∀ c : Dev Cert.KernelBbxIdeal.nD,
          r.2.mem ((c.tc : Thread Cert.KernelBbxIdeal.nD Cert.KernelBbxIdeal.τ).loc Cert.KernelBbxIdeal.main_v0) = v0 c
          ∧ r.2.mem ((c.tc : Thread Cert.KernelBbxIdeal.nD Cert.KernelBbxIdeal.τ).loc Cert.KernelBbxIdeal.main_arg0) = m ((c.tc : Thread Cert.KernelBbxIdeal.nD Cert.KernelBbxIdeal.τ).loc Cert.KernelBbxIdeal.main_arg0)
          ∧ r.2.mem ((c.tc : Thread Cert.KernelBbxIdeal.nD Cert.KernelBbxIdeal.τ).loc Cert.KernelBbxIdeal.main_arg1) = m ((c.tc : Thread Cert.KernelBbxIdeal.nD Cert.KernelBbxIdeal.τ).loc Cert.KernelBbxIdeal.main_arg1))
      ∧ θ_run (Cert.ReferenceBbxIdeal.defs (F := Ideal)) (onTc (τ := Cert.ReferenceBbxIdeal.τ) (Cert.ReferenceBbxIdeal.main (F := Ideal))) ⟨m', fun _ => 0, g'⟩ (fun r => ∀ c : Dev Cert.ReferenceBbxIdeal.nD,
          r.2.mem ((c.tc : Thread Cert.ReferenceBbxIdeal.nD Cert.ReferenceBbxIdeal.τ).loc Cert.ReferenceBbxIdeal.main_v4) = v0 c
          ∧ r.2.mem ((c.tc : Thread Cert.ReferenceBbxIdeal.nD Cert.ReferenceBbxIdeal.τ).loc Cert.ReferenceBbxIdeal.main_arg0) = m' ((c.tc : Thread Cert.ReferenceBbxIdeal.nD Cert.ReferenceBbxIdeal.τ).loc Cert.ReferenceBbxIdeal.main_arg0)
          ∧ r.2.mem ((c.tc : Thread Cert.ReferenceBbxIdeal.nD Cert.ReferenceBbxIdeal.τ).loc Cert.ReferenceBbxIdeal.main_arg1) = m' ((c.tc : Thread Cert.ReferenceBbxIdeal.nD Cert.ReferenceBbxIdeal.τ).loc Cert.ReferenceBbxIdeal.main_arg1))

def preserves_KernelBbw_KernelBbwIdeal : Prop :=
  True

def algebraic_KernelBbwIdeal_ReferenceBbwIdeal [hKernelBbwIdeal : Cert.KernelBbwIdeal.Facts] [hReferenceBbwIdeal : Cert.ReferenceBbwIdeal.Facts] : Prop :=
  ∀ (m : (ℓ : Loc Cert.KernelBbwIdeal.nD Cert.KernelBbwIdeal.τ Cert.KernelBbwIdeal.sig) → Buf (Elt Ideal) ℓ) (g : Dev Cert.KernelBbwIdeal.nD → PrngReg)
    (m' : (ℓ : Loc Cert.ReferenceBbwIdeal.nD Cert.ReferenceBbwIdeal.τ Cert.ReferenceBbwIdeal.sig) → Buf (Elt Ideal) ℓ) (g' : Dev Cert.ReferenceBbwIdeal.nD → PrngReg), Pre_KernelBbwIdeal m →
    (∀ c : Dev Cert.KernelBbwIdeal.nD,
      m' ((c.tc : Thread Cert.ReferenceBbwIdeal.nD Cert.ReferenceBbwIdeal.τ).loc Cert.ReferenceBbwIdeal.main_arg0) = m ((c.tc : Thread Cert.KernelBbwIdeal.nD Cert.KernelBbwIdeal.τ).loc Cert.KernelBbwIdeal.main_arg0)
      ∧ m' ((c.tc : Thread Cert.ReferenceBbwIdeal.nD Cert.ReferenceBbwIdeal.τ).loc Cert.ReferenceBbwIdeal.main_arg1) = m ((c.tc : Thread Cert.KernelBbwIdeal.nD Cert.KernelBbwIdeal.τ).loc Cert.KernelBbwIdeal.main_arg1)) →
    ∃ (v0 : (c : Dev Cert.KernelBbwIdeal.nD) → Buf (Elt Ideal) ((c.tc : Thread Cert.KernelBbwIdeal.nD Cert.KernelBbwIdeal.τ).loc Cert.KernelBbwIdeal.main_v0)),
      θ_run (Cert.KernelBbwIdeal.defs (F := Ideal)) (onTc (τ := Cert.KernelBbwIdeal.τ) (Cert.KernelBbwIdeal.main (F := Ideal))) ⟨m, fun _ => 0, g⟩ (fun r => ∀ c : Dev Cert.KernelBbwIdeal.nD,
          r.2.mem ((c.tc : Thread Cert.KernelBbwIdeal.nD Cert.KernelBbwIdeal.τ).loc Cert.KernelBbwIdeal.main_v0) = v0 c
          ∧ r.2.mem ((c.tc : Thread Cert.KernelBbwIdeal.nD Cert.KernelBbwIdeal.τ).loc Cert.KernelBbwIdeal.main_arg0) = m ((c.tc : Thread Cert.KernelBbwIdeal.nD Cert.KernelBbwIdeal.τ).loc Cert.KernelBbwIdeal.main_arg0)
          ∧ r.2.mem ((c.tc : Thread Cert.KernelBbwIdeal.nD Cert.KernelBbwIdeal.τ).loc Cert.KernelBbwIdeal.main_arg1) = m ((c.tc : Thread Cert.KernelBbwIdeal.nD Cert.KernelBbwIdeal.τ).loc Cert.KernelBbwIdeal.main_arg1))
      ∧ θ_run (Cert.ReferenceBbwIdeal.defs (F := Ideal)) (onTc (τ := Cert.ReferenceBbwIdeal.τ) (Cert.ReferenceBbwIdeal.main (F := Ideal))) ⟨m', fun _ => 0, g'⟩ (fun r => ∀ c : Dev Cert.ReferenceBbwIdeal.nD,
          r.2.mem ((c.tc : Thread Cert.ReferenceBbwIdeal.nD Cert.ReferenceBbwIdeal.τ).loc Cert.ReferenceBbwIdeal.main_v6) = v0 c
          ∧ r.2.mem ((c.tc : Thread Cert.ReferenceBbwIdeal.nD Cert.ReferenceBbwIdeal.τ).loc Cert.ReferenceBbwIdeal.main_arg0) = m' ((c.tc : Thread Cert.ReferenceBbwIdeal.nD Cert.ReferenceBbwIdeal.τ).loc Cert.ReferenceBbwIdeal.main_arg0)
          ∧ r.2.mem ((c.tc : Thread Cert.ReferenceBbwIdeal.nD Cert.ReferenceBbwIdeal.τ).loc Cert.ReferenceBbwIdeal.main_arg1) = m' ((c.tc : Thread Cert.ReferenceBbwIdeal.nD Cert.ReferenceBbwIdeal.τ).loc Cert.ReferenceBbwIdeal.main_arg1))

def preserves_KernelPf_KernelPfIdeal : Prop :=
  True

def algebraic_KernelPfIdeal_ReferencePfIdeal [hKernelPfIdeal : Cert.KernelPfIdeal.Facts] [hReferencePfIdeal : Cert.ReferencePfIdeal.Facts] : Prop :=
  ∀ (m : (ℓ : Loc Cert.KernelPfIdeal.nD Cert.KernelPfIdeal.τ Cert.KernelPfIdeal.sig) → Buf (Elt Ideal) ℓ) (g : Dev Cert.KernelPfIdeal.nD → PrngReg)
    (m' : (ℓ : Loc Cert.ReferencePfIdeal.nD Cert.ReferencePfIdeal.τ Cert.ReferencePfIdeal.sig) → Buf (Elt Ideal) ℓ) (g' : Dev Cert.ReferencePfIdeal.nD → PrngReg), Pre_KernelPfIdeal m →
    (∀ c : Dev Cert.KernelPfIdeal.nD,
      m' ((c.tc : Thread Cert.ReferencePfIdeal.nD Cert.ReferencePfIdeal.τ).loc Cert.ReferencePfIdeal.main_arg0) = m ((c.tc : Thread Cert.KernelPfIdeal.nD Cert.KernelPfIdeal.τ).loc Cert.KernelPfIdeal.main_arg0)
      ∧ m' ((c.tc : Thread Cert.ReferencePfIdeal.nD Cert.ReferencePfIdeal.τ).loc Cert.ReferencePfIdeal.main_arg1) = m ((c.tc : Thread Cert.KernelPfIdeal.nD Cert.KernelPfIdeal.τ).loc Cert.KernelPfIdeal.main_arg1)) →
    ∃ (v0 : (c : Dev Cert.KernelPfIdeal.nD) → Buf (Elt Ideal) ((c.tc : Thread Cert.KernelPfIdeal.nD Cert.KernelPfIdeal.τ).loc Cert.KernelPfIdeal.main_v0)),
      θ_run (Cert.KernelPfIdeal.defs (F := Ideal)) (onTc (τ := Cert.KernelPfIdeal.τ) (Cert.KernelPfIdeal.main (F := Ideal))) ⟨m, fun _ => 0, g⟩ (fun r => ∀ c : Dev Cert.KernelPfIdeal.nD,
          r.2.mem ((c.tc : Thread Cert.KernelPfIdeal.nD Cert.KernelPfIdeal.τ).loc Cert.KernelPfIdeal.main_v0) = v0 c
          ∧ r.2.mem ((c.tc : Thread Cert.KernelPfIdeal.nD Cert.KernelPfIdeal.τ).loc Cert.KernelPfIdeal.main_arg0) = m ((c.tc : Thread Cert.KernelPfIdeal.nD Cert.KernelPfIdeal.τ).loc Cert.KernelPfIdeal.main_arg0)
          ∧ r.2.mem ((c.tc : Thread Cert.KernelPfIdeal.nD Cert.KernelPfIdeal.τ).loc Cert.KernelPfIdeal.main_arg1) = m ((c.tc : Thread Cert.KernelPfIdeal.nD Cert.KernelPfIdeal.τ).loc Cert.KernelPfIdeal.main_arg1))
      ∧ θ_run (Cert.ReferencePfIdeal.defs (F := Ideal)) (onTc (τ := Cert.ReferencePfIdeal.τ) (Cert.ReferencePfIdeal.main (F := Ideal))) ⟨m', fun _ => 0, g'⟩ (fun r => ∀ c : Dev Cert.ReferencePfIdeal.nD,
          r.2.mem ((c.tc : Thread Cert.ReferencePfIdeal.nD Cert.ReferencePfIdeal.τ).loc Cert.ReferencePfIdeal.main_v2) = v0 c
          ∧ r.2.mem ((c.tc : Thread Cert.ReferencePfIdeal.nD Cert.ReferencePfIdeal.τ).loc Cert.ReferencePfIdeal.main_arg0) = m' ((c.tc : Thread Cert.ReferencePfIdeal.nD Cert.ReferencePfIdeal.τ).loc Cert.ReferencePfIdeal.main_arg0)
          ∧ r.2.mem ((c.tc : Thread Cert.ReferencePfIdeal.nD Cert.ReferencePfIdeal.τ).loc Cert.ReferencePfIdeal.main_arg1) = m' ((c.tc : Thread Cert.ReferencePfIdeal.nD Cert.ReferencePfIdeal.τ).loc Cert.ReferencePfIdeal.main_arg1))

def preserves_KernelWf_KernelWfIdeal : Prop :=
  True

def algebraic_KernelWfIdeal_ReferenceWfIdeal [hKernelWfIdeal : Cert.KernelWfIdeal.Facts] [hReferenceWfIdeal : Cert.ReferenceWfIdeal.Facts] : Prop :=
  ∀ (m : (ℓ : Loc Cert.KernelWfIdeal.nD Cert.KernelWfIdeal.τ Cert.KernelWfIdeal.sig) → Buf (Elt Ideal) ℓ) (g : Dev Cert.KernelWfIdeal.nD → PrngReg)
    (m' : (ℓ : Loc Cert.ReferenceWfIdeal.nD Cert.ReferenceWfIdeal.τ Cert.ReferenceWfIdeal.sig) → Buf (Elt Ideal) ℓ) (g' : Dev Cert.ReferenceWfIdeal.nD → PrngReg), Pre_KernelWfIdeal m →
    (∀ c : Dev Cert.KernelWfIdeal.nD,
      m' ((c.tc : Thread Cert.ReferenceWfIdeal.nD Cert.ReferenceWfIdeal.τ).loc Cert.ReferenceWfIdeal.main_arg0) = m ((c.tc : Thread Cert.KernelWfIdeal.nD Cert.KernelWfIdeal.τ).loc Cert.KernelWfIdeal.main_arg0)
      ∧ m' ((c.tc : Thread Cert.ReferenceWfIdeal.nD Cert.ReferenceWfIdeal.τ).loc Cert.ReferenceWfIdeal.main_arg1) = m ((c.tc : Thread Cert.KernelWfIdeal.nD Cert.KernelWfIdeal.τ).loc Cert.KernelWfIdeal.main_arg1)
      ∧ m' ((c.tc : Thread Cert.ReferenceWfIdeal.nD Cert.ReferenceWfIdeal.τ).loc Cert.ReferenceWfIdeal.main_arg2) = m ((c.tc : Thread Cert.KernelWfIdeal.nD Cert.KernelWfIdeal.τ).loc Cert.KernelWfIdeal.main_arg2)) →
    ∃ (v0 : (c : Dev Cert.KernelWfIdeal.nD) → Buf (Elt Ideal) ((c.tc : Thread Cert.KernelWfIdeal.nD Cert.KernelWfIdeal.τ).loc Cert.KernelWfIdeal.main_v0)),
      θ_run (Cert.KernelWfIdeal.defs (F := Ideal)) (onTc (τ := Cert.KernelWfIdeal.τ) (Cert.KernelWfIdeal.main (F := Ideal))) ⟨m, fun _ => 0, g⟩ (fun r => ∀ c : Dev Cert.KernelWfIdeal.nD,
          r.2.mem ((c.tc : Thread Cert.KernelWfIdeal.nD Cert.KernelWfIdeal.τ).loc Cert.KernelWfIdeal.main_v0) = v0 c
          ∧ r.2.mem ((c.tc : Thread Cert.KernelWfIdeal.nD Cert.KernelWfIdeal.τ).loc Cert.KernelWfIdeal.main_arg0) = m ((c.tc : Thread Cert.KernelWfIdeal.nD Cert.KernelWfIdeal.τ).loc Cert.KernelWfIdeal.main_arg0)
          ∧ r.2.mem ((c.tc : Thread Cert.KernelWfIdeal.nD Cert.KernelWfIdeal.τ).loc Cert.KernelWfIdeal.main_arg1) = m ((c.tc : Thread Cert.KernelWfIdeal.nD Cert.KernelWfIdeal.τ).loc Cert.KernelWfIdeal.main_arg1)
          ∧ r.2.mem ((c.tc : Thread Cert.KernelWfIdeal.nD Cert.KernelWfIdeal.τ).loc Cert.KernelWfIdeal.main_arg2) = m ((c.tc : Thread Cert.KernelWfIdeal.nD Cert.KernelWfIdeal.τ).loc Cert.KernelWfIdeal.main_arg2))
      ∧ θ_run (Cert.ReferenceWfIdeal.defs (F := Ideal)) (onTc (τ := Cert.ReferenceWfIdeal.τ) (Cert.ReferenceWfIdeal.main (F := Ideal))) ⟨m', fun _ => 0, g'⟩ (fun r => ∀ c : Dev Cert.ReferenceWfIdeal.nD,
          r.2.mem ((c.tc : Thread Cert.ReferenceWfIdeal.nD Cert.ReferenceWfIdeal.τ).loc Cert.ReferenceWfIdeal.main_v3) = v0 c
          ∧ r.2.mem ((c.tc : Thread Cert.ReferenceWfIdeal.nD Cert.ReferenceWfIdeal.τ).loc Cert.ReferenceWfIdeal.main_arg0) = m' ((c.tc : Thread Cert.ReferenceWfIdeal.nD Cert.ReferenceWfIdeal.τ).loc Cert.ReferenceWfIdeal.main_arg0)
          ∧ r.2.mem ((c.tc : Thread Cert.ReferenceWfIdeal.nD Cert.ReferenceWfIdeal.τ).loc Cert.ReferenceWfIdeal.main_arg1) = m' ((c.tc : Thread Cert.ReferenceWfIdeal.nD Cert.ReferenceWfIdeal.τ).loc Cert.ReferenceWfIdeal.main_arg1)
          ∧ r.2.mem ((c.tc : Thread Cert.ReferenceWfIdeal.nD Cert.ReferenceWfIdeal.τ).loc Cert.ReferenceWfIdeal.main_arg2) = m' ((c.tc : Thread Cert.ReferenceWfIdeal.nD Cert.ReferenceWfIdeal.τ).loc Cert.ReferenceWfIdeal.main_arg2))

def preserves_KernelAf_KernelAfIdeal : Prop :=
  True

def algebraic_KernelAfIdeal_ReferenceAfIdeal [hKernelAfIdeal : Cert.KernelAfIdeal.Facts] [hReferenceAfIdeal : Cert.ReferenceAfIdeal.Facts] : Prop :=
  ∀ (m : (ℓ : Loc Cert.KernelAfIdeal.nD Cert.KernelAfIdeal.τ Cert.KernelAfIdeal.sig) → Buf (Elt Ideal) ℓ) (g : Dev Cert.KernelAfIdeal.nD → PrngReg)
    (m' : (ℓ : Loc Cert.ReferenceAfIdeal.nD Cert.ReferenceAfIdeal.τ Cert.ReferenceAfIdeal.sig) → Buf (Elt Ideal) ℓ) (g' : Dev Cert.ReferenceAfIdeal.nD → PrngReg), Pre_KernelAfIdeal m →
    (∀ c : Dev Cert.KernelAfIdeal.nD,
      m' ((c.tc : Thread Cert.ReferenceAfIdeal.nD Cert.ReferenceAfIdeal.τ).loc Cert.ReferenceAfIdeal.main_arg0) = m ((c.tc : Thread Cert.KernelAfIdeal.nD Cert.KernelAfIdeal.τ).loc Cert.KernelAfIdeal.main_arg0)
      ∧ m' ((c.tc : Thread Cert.ReferenceAfIdeal.nD Cert.ReferenceAfIdeal.τ).loc Cert.ReferenceAfIdeal.main_arg1) = m ((c.tc : Thread Cert.KernelAfIdeal.nD Cert.KernelAfIdeal.τ).loc Cert.KernelAfIdeal.main_arg1)) →
    ∃ (v0 : (c : Dev Cert.KernelAfIdeal.nD) → Buf (Elt Ideal) ((c.tc : Thread Cert.KernelAfIdeal.nD Cert.KernelAfIdeal.τ).loc Cert.KernelAfIdeal.main_v0)),
      θ_run (Cert.KernelAfIdeal.defs (F := Ideal)) (onTc (τ := Cert.KernelAfIdeal.τ) (Cert.KernelAfIdeal.main (F := Ideal))) ⟨m, fun _ => 0, g⟩ (fun r => ∀ c : Dev Cert.KernelAfIdeal.nD,
          r.2.mem ((c.tc : Thread Cert.KernelAfIdeal.nD Cert.KernelAfIdeal.τ).loc Cert.KernelAfIdeal.main_v0) = v0 c
          ∧ r.2.mem ((c.tc : Thread Cert.KernelAfIdeal.nD Cert.KernelAfIdeal.τ).loc Cert.KernelAfIdeal.main_arg0) = m ((c.tc : Thread Cert.KernelAfIdeal.nD Cert.KernelAfIdeal.τ).loc Cert.KernelAfIdeal.main_arg0)
          ∧ r.2.mem ((c.tc : Thread Cert.KernelAfIdeal.nD Cert.KernelAfIdeal.τ).loc Cert.KernelAfIdeal.main_arg1) = m ((c.tc : Thread Cert.KernelAfIdeal.nD Cert.KernelAfIdeal.τ).loc Cert.KernelAfIdeal.main_arg1))
      ∧ θ_run (Cert.ReferenceAfIdeal.defs (F := Ideal)) (onTc (τ := Cert.ReferenceAfIdeal.τ) (Cert.ReferenceAfIdeal.main (F := Ideal))) ⟨m', fun _ => 0, g'⟩ (fun r => ∀ c : Dev Cert.ReferenceAfIdeal.nD,
          r.2.mem ((c.tc : Thread Cert.ReferenceAfIdeal.nD Cert.ReferenceAfIdeal.τ).loc Cert.ReferenceAfIdeal.main_v2) = v0 c
          ∧ r.2.mem ((c.tc : Thread Cert.ReferenceAfIdeal.nD Cert.ReferenceAfIdeal.τ).loc Cert.ReferenceAfIdeal.main_arg0) = m' ((c.tc : Thread Cert.ReferenceAfIdeal.nD Cert.ReferenceAfIdeal.τ).loc Cert.ReferenceAfIdeal.main_arg0)
          ∧ r.2.mem ((c.tc : Thread Cert.ReferenceAfIdeal.nD Cert.ReferenceAfIdeal.τ).loc Cert.ReferenceAfIdeal.main_arg1) = m' ((c.tc : Thread Cert.ReferenceAfIdeal.nD Cert.ReferenceAfIdeal.τ).loc Cert.ReferenceAfIdeal.main_arg1))

def preserves_KernelBf_KernelBfIdeal : Prop :=
  True

def algebraic_KernelBfIdeal_ReferenceBfIdeal [hKernelBfIdeal : Cert.KernelBfIdeal.Facts] [hReferenceBfIdeal : Cert.ReferenceBfIdeal.Facts] : Prop :=
  ∀ (m : (ℓ : Loc Cert.KernelBfIdeal.nD Cert.KernelBfIdeal.τ Cert.KernelBfIdeal.sig) → Buf (Elt Ideal) ℓ) (g : Dev Cert.KernelBfIdeal.nD → PrngReg)
    (m' : (ℓ : Loc Cert.ReferenceBfIdeal.nD Cert.ReferenceBfIdeal.τ Cert.ReferenceBfIdeal.sig) → Buf (Elt Ideal) ℓ) (g' : Dev Cert.ReferenceBfIdeal.nD → PrngReg), Pre_KernelBfIdeal m →
    (∀ c : Dev Cert.KernelBfIdeal.nD,
      m' ((c.tc : Thread Cert.ReferenceBfIdeal.nD Cert.ReferenceBfIdeal.τ).loc Cert.ReferenceBfIdeal.main_arg0) = m ((c.tc : Thread Cert.KernelBfIdeal.nD Cert.KernelBfIdeal.τ).loc Cert.KernelBfIdeal.main_arg0)
      ∧ m' ((c.tc : Thread Cert.ReferenceBfIdeal.nD Cert.ReferenceBfIdeal.τ).loc Cert.ReferenceBfIdeal.main_arg1) = m ((c.tc : Thread Cert.KernelBfIdeal.nD Cert.KernelBfIdeal.τ).loc Cert.KernelBfIdeal.main_arg1)) →
    ∃ (v0 : (c : Dev Cert.KernelBfIdeal.nD) → Buf (Elt Ideal) ((c.tc : Thread Cert.KernelBfIdeal.nD Cert.KernelBfIdeal.τ).loc Cert.KernelBfIdeal.main_v0)),
      θ_run (Cert.KernelBfIdeal.defs (F := Ideal)) (onTc (τ := Cert.KernelBfIdeal.τ) (Cert.KernelBfIdeal.main (F := Ideal))) ⟨m, fun _ => 0, g⟩ (fun r => ∀ c : Dev Cert.KernelBfIdeal.nD,
          r.2.mem ((c.tc : Thread Cert.KernelBfIdeal.nD Cert.KernelBfIdeal.τ).loc Cert.KernelBfIdeal.main_v0) = v0 c
          ∧ r.2.mem ((c.tc : Thread Cert.KernelBfIdeal.nD Cert.KernelBfIdeal.τ).loc Cert.KernelBfIdeal.main_arg0) = m ((c.tc : Thread Cert.KernelBfIdeal.nD Cert.KernelBfIdeal.τ).loc Cert.KernelBfIdeal.main_arg0)
          ∧ r.2.mem ((c.tc : Thread Cert.KernelBfIdeal.nD Cert.KernelBfIdeal.τ).loc Cert.KernelBfIdeal.main_arg1) = m ((c.tc : Thread Cert.KernelBfIdeal.nD Cert.KernelBfIdeal.τ).loc Cert.KernelBfIdeal.main_arg1))
      ∧ θ_run (Cert.ReferenceBfIdeal.defs (F := Ideal)) (onTc (τ := Cert.ReferenceBfIdeal.τ) (Cert.ReferenceBfIdeal.main (F := Ideal))) ⟨m', fun _ => 0, g'⟩ (fun r => ∀ c : Dev Cert.ReferenceBfIdeal.nD,
          r.2.mem ((c.tc : Thread Cert.ReferenceBfIdeal.nD Cert.ReferenceBfIdeal.τ).loc Cert.ReferenceBfIdeal.main_v2) = v0 c
          ∧ r.2.mem ((c.tc : Thread Cert.ReferenceBfIdeal.nD Cert.ReferenceBfIdeal.τ).loc Cert.ReferenceBfIdeal.main_arg0) = m' ((c.tc : Thread Cert.ReferenceBfIdeal.nD Cert.ReferenceBfIdeal.τ).loc Cert.ReferenceBfIdeal.main_arg0)
          ∧ r.2.mem ((c.tc : Thread Cert.ReferenceBfIdeal.nD Cert.ReferenceBfIdeal.τ).loc Cert.ReferenceBfIdeal.main_arg1) = m' ((c.tc : Thread Cert.ReferenceBfIdeal.nD Cert.ReferenceBfIdeal.τ).loc Cert.ReferenceBfIdeal.main_arg1))

def preserves_KernelOw_KernelOwIdeal : Prop :=
  True

def algebraic_KernelOwIdeal_ReferenceOwIdeal [hKernelOwIdeal : Cert.KernelOwIdeal.Facts] [hReferenceOwIdeal : Cert.ReferenceOwIdeal.Facts] : Prop :=
  ∀ (m : (ℓ : Loc Cert.KernelOwIdeal.nD Cert.KernelOwIdeal.τ Cert.KernelOwIdeal.sig) → Buf (Elt Ideal) ℓ) (g : Dev Cert.KernelOwIdeal.nD → PrngReg)
    (m' : (ℓ : Loc Cert.ReferenceOwIdeal.nD Cert.ReferenceOwIdeal.τ Cert.ReferenceOwIdeal.sig) → Buf (Elt Ideal) ℓ) (g' : Dev Cert.ReferenceOwIdeal.nD → PrngReg), Pre_KernelOwIdeal m →
    (∀ c : Dev Cert.KernelOwIdeal.nD,
      m' ((c.tc : Thread Cert.ReferenceOwIdeal.nD Cert.ReferenceOwIdeal.τ).loc Cert.ReferenceOwIdeal.main_arg0) = m ((c.tc : Thread Cert.KernelOwIdeal.nD Cert.KernelOwIdeal.τ).loc Cert.KernelOwIdeal.main_arg0)
      ∧ m' ((c.tc : Thread Cert.ReferenceOwIdeal.nD Cert.ReferenceOwIdeal.τ).loc Cert.ReferenceOwIdeal.main_arg1) = m ((c.tc : Thread Cert.KernelOwIdeal.nD Cert.KernelOwIdeal.τ).loc Cert.KernelOwIdeal.main_arg1)
      ∧ m' ((c.tc : Thread Cert.ReferenceOwIdeal.nD Cert.ReferenceOwIdeal.τ).loc Cert.ReferenceOwIdeal.main_arg2) = m ((c.tc : Thread Cert.KernelOwIdeal.nD Cert.KernelOwIdeal.τ).loc Cert.KernelOwIdeal.main_arg2)
      ∧ m' ((c.tc : Thread Cert.ReferenceOwIdeal.nD Cert.ReferenceOwIdeal.τ).loc Cert.ReferenceOwIdeal.main_arg3) = m ((c.tc : Thread Cert.KernelOwIdeal.nD Cert.KernelOwIdeal.τ).loc Cert.KernelOwIdeal.main_arg3)
      ∧ m' ((c.tc : Thread Cert.ReferenceOwIdeal.nD Cert.ReferenceOwIdeal.τ).loc Cert.ReferenceOwIdeal.main_arg4) = m ((c.tc : Thread Cert.KernelOwIdeal.nD Cert.KernelOwIdeal.τ).loc Cert.KernelOwIdeal.main_arg4)
      ∧ m' ((c.tc : Thread Cert.ReferenceOwIdeal.nD Cert.ReferenceOwIdeal.τ).loc Cert.ReferenceOwIdeal.main_arg5) = m ((c.tc : Thread Cert.KernelOwIdeal.nD Cert.KernelOwIdeal.τ).loc Cert.KernelOwIdeal.main_arg5)
      ∧ m' ((c.tc : Thread Cert.ReferenceOwIdeal.nD Cert.ReferenceOwIdeal.τ).loc Cert.ReferenceOwIdeal.main_arg6) = m ((c.tc : Thread Cert.KernelOwIdeal.nD Cert.KernelOwIdeal.τ).loc Cert.KernelOwIdeal.main_arg6)) →
    ∃ (v0 : (c : Dev Cert.KernelOwIdeal.nD) → Buf (Elt Ideal) ((c.tc : Thread Cert.KernelOwIdeal.nD Cert.KernelOwIdeal.τ).loc Cert.KernelOwIdeal.main_v0_0)) (v1 : (c : Dev Cert.KernelOwIdeal.nD) → Buf (Elt Ideal) ((c.tc : Thread Cert.KernelOwIdeal.nD Cert.KernelOwIdeal.τ).loc Cert.KernelOwIdeal.main_v0_1)) (v2 : (c : Dev Cert.KernelOwIdeal.nD) → Buf (Elt Ideal) ((c.tc : Thread Cert.KernelOwIdeal.nD Cert.KernelOwIdeal.τ).loc Cert.KernelOwIdeal.main_v0_2)) (v3 : (c : Dev Cert.KernelOwIdeal.nD) → Buf (Elt Ideal) ((c.tc : Thread Cert.KernelOwIdeal.nD Cert.KernelOwIdeal.τ).loc Cert.KernelOwIdeal.main_v0_3)),
      θ_run (Cert.KernelOwIdeal.defs (F := Ideal)) (onTc (τ := Cert.KernelOwIdeal.τ) (Cert.KernelOwIdeal.main (F := Ideal))) ⟨m, fun _ => 0, g⟩ (fun r => ∀ c : Dev Cert.KernelOwIdeal.nD,
          r.2.mem ((c.tc : Thread Cert.KernelOwIdeal.nD Cert.KernelOwIdeal.τ).loc Cert.KernelOwIdeal.main_v0_0) = v0 c
          ∧ r.2.mem ((c.tc : Thread Cert.KernelOwIdeal.nD Cert.KernelOwIdeal.τ).loc Cert.KernelOwIdeal.main_v0_1) = v1 c
          ∧ r.2.mem ((c.tc : Thread Cert.KernelOwIdeal.nD Cert.KernelOwIdeal.τ).loc Cert.KernelOwIdeal.main_v0_2) = v2 c
          ∧ r.2.mem ((c.tc : Thread Cert.KernelOwIdeal.nD Cert.KernelOwIdeal.τ).loc Cert.KernelOwIdeal.main_v0_3) = v3 c
          ∧ r.2.mem ((c.tc : Thread Cert.KernelOwIdeal.nD Cert.KernelOwIdeal.τ).loc Cert.KernelOwIdeal.main_arg0) = m ((c.tc : Thread Cert.KernelOwIdeal.nD Cert.KernelOwIdeal.τ).loc Cert.KernelOwIdeal.main_arg0)
          ∧ r.2.mem ((c.tc : Thread Cert.KernelOwIdeal.nD Cert.KernelOwIdeal.τ).loc Cert.KernelOwIdeal.main_arg1) = m ((c.tc : Thread Cert.KernelOwIdeal.nD Cert.KernelOwIdeal.τ).loc Cert.KernelOwIdeal.main_arg1)
          ∧ r.2.mem ((c.tc : Thread Cert.KernelOwIdeal.nD Cert.KernelOwIdeal.τ).loc Cert.KernelOwIdeal.main_arg2) = m ((c.tc : Thread Cert.KernelOwIdeal.nD Cert.KernelOwIdeal.τ).loc Cert.KernelOwIdeal.main_arg2)
          ∧ r.2.mem ((c.tc : Thread Cert.KernelOwIdeal.nD Cert.KernelOwIdeal.τ).loc Cert.KernelOwIdeal.main_arg3) = m ((c.tc : Thread Cert.KernelOwIdeal.nD Cert.KernelOwIdeal.τ).loc Cert.KernelOwIdeal.main_arg3)
          ∧ r.2.mem ((c.tc : Thread Cert.KernelOwIdeal.nD Cert.KernelOwIdeal.τ).loc Cert.KernelOwIdeal.main_arg4) = m ((c.tc : Thread Cert.KernelOwIdeal.nD Cert.KernelOwIdeal.τ).loc Cert.KernelOwIdeal.main_arg4)
          ∧ r.2.mem ((c.tc : Thread Cert.KernelOwIdeal.nD Cert.KernelOwIdeal.τ).loc Cert.KernelOwIdeal.main_arg5) = m ((c.tc : Thread Cert.KernelOwIdeal.nD Cert.KernelOwIdeal.τ).loc Cert.KernelOwIdeal.main_arg5)
          ∧ r.2.mem ((c.tc : Thread Cert.KernelOwIdeal.nD Cert.KernelOwIdeal.τ).loc Cert.KernelOwIdeal.main_arg6) = m ((c.tc : Thread Cert.KernelOwIdeal.nD Cert.KernelOwIdeal.τ).loc Cert.KernelOwIdeal.main_arg6))
      ∧ θ_run (Cert.ReferenceOwIdeal.defs (F := Ideal)) (onTc (τ := Cert.ReferenceOwIdeal.τ) (Cert.ReferenceOwIdeal.main (F := Ideal))) ⟨m', fun _ => 0, g'⟩ (fun r => ∀ c : Dev Cert.ReferenceOwIdeal.nD,
          r.2.mem ((c.tc : Thread Cert.ReferenceOwIdeal.nD Cert.ReferenceOwIdeal.τ).loc Cert.ReferenceOwIdeal.main_v12) = v0 c
          ∧ r.2.mem ((c.tc : Thread Cert.ReferenceOwIdeal.nD Cert.ReferenceOwIdeal.τ).loc Cert.ReferenceOwIdeal.main_v36) = v1 c
          ∧ r.2.mem ((c.tc : Thread Cert.ReferenceOwIdeal.nD Cert.ReferenceOwIdeal.τ).loc Cert.ReferenceOwIdeal.main_v17) = v2 c
          ∧ r.2.mem ((c.tc : Thread Cert.ReferenceOwIdeal.nD Cert.ReferenceOwIdeal.τ).loc Cert.ReferenceOwIdeal.main_v23) = v3 c
          ∧ r.2.mem ((c.tc : Thread Cert.ReferenceOwIdeal.nD Cert.ReferenceOwIdeal.τ).loc Cert.ReferenceOwIdeal.main_arg0) = m' ((c.tc : Thread Cert.ReferenceOwIdeal.nD Cert.ReferenceOwIdeal.τ).loc Cert.ReferenceOwIdeal.main_arg0)
          ∧ r.2.mem ((c.tc : Thread Cert.ReferenceOwIdeal.nD Cert.ReferenceOwIdeal.τ).loc Cert.ReferenceOwIdeal.main_arg1) = m' ((c.tc : Thread Cert.ReferenceOwIdeal.nD Cert.ReferenceOwIdeal.τ).loc Cert.ReferenceOwIdeal.main_arg1)
          ∧ r.2.mem ((c.tc : Thread Cert.ReferenceOwIdeal.nD Cert.ReferenceOwIdeal.τ).loc Cert.ReferenceOwIdeal.main_arg2) = m' ((c.tc : Thread Cert.ReferenceOwIdeal.nD Cert.ReferenceOwIdeal.τ).loc Cert.ReferenceOwIdeal.main_arg2)
          ∧ r.2.mem ((c.tc : Thread Cert.ReferenceOwIdeal.nD Cert.ReferenceOwIdeal.τ).loc Cert.ReferenceOwIdeal.main_arg3) = m' ((c.tc : Thread Cert.ReferenceOwIdeal.nD Cert.ReferenceOwIdeal.τ).loc Cert.ReferenceOwIdeal.main_arg3)
          ∧ r.2.mem ((c.tc : Thread Cert.ReferenceOwIdeal.nD Cert.ReferenceOwIdeal.τ).loc Cert.ReferenceOwIdeal.main_arg4) = m' ((c.tc : Thread Cert.ReferenceOwIdeal.nD Cert.ReferenceOwIdeal.τ).loc Cert.ReferenceOwIdeal.main_arg4)
          ∧ r.2.mem ((c.tc : Thread Cert.ReferenceOwIdeal.nD Cert.ReferenceOwIdeal.τ).loc Cert.ReferenceOwIdeal.main_arg5) = m' ((c.tc : Thread Cert.ReferenceOwIdeal.nD Cert.ReferenceOwIdeal.τ).loc Cert.ReferenceOwIdeal.main_arg5)
          ∧ r.2.mem ((c.tc : Thread Cert.ReferenceOwIdeal.nD Cert.ReferenceOwIdeal.τ).loc Cert.ReferenceOwIdeal.main_arg6) = m' ((c.tc : Thread Cert.ReferenceOwIdeal.nD Cert.ReferenceOwIdeal.τ).loc Cert.ReferenceOwIdeal.main_arg6))

def preserves_KernelOg_KernelOgIdeal : Prop :=
  True

def algebraic_KernelOgIdeal_ReferenceOgIdeal [hKernelOgIdeal : Cert.KernelOgIdeal.Facts] [hReferenceOgIdeal : Cert.ReferenceOgIdeal.Facts] : Prop :=
  ∀ (m : (ℓ : Loc Cert.KernelOgIdeal.nD Cert.KernelOgIdeal.τ Cert.KernelOgIdeal.sig) → Buf (Elt Ideal) ℓ) (g : Dev Cert.KernelOgIdeal.nD → PrngReg)
    (m' : (ℓ : Loc Cert.ReferenceOgIdeal.nD Cert.ReferenceOgIdeal.τ Cert.ReferenceOgIdeal.sig) → Buf (Elt Ideal) ℓ) (g' : Dev Cert.ReferenceOgIdeal.nD → PrngReg), Pre_KernelOgIdeal m →
    (∀ c : Dev Cert.KernelOgIdeal.nD,
      m' ((c.tc : Thread Cert.ReferenceOgIdeal.nD Cert.ReferenceOgIdeal.τ).loc Cert.ReferenceOgIdeal.main_arg0) = m ((c.tc : Thread Cert.KernelOgIdeal.nD Cert.KernelOgIdeal.τ).loc Cert.KernelOgIdeal.main_arg0)
      ∧ m' ((c.tc : Thread Cert.ReferenceOgIdeal.nD Cert.ReferenceOgIdeal.τ).loc Cert.ReferenceOgIdeal.main_arg1) = m ((c.tc : Thread Cert.KernelOgIdeal.nD Cert.KernelOgIdeal.τ).loc Cert.KernelOgIdeal.main_arg1)
      ∧ m' ((c.tc : Thread Cert.ReferenceOgIdeal.nD Cert.ReferenceOgIdeal.τ).loc Cert.ReferenceOgIdeal.main_arg2) = m ((c.tc : Thread Cert.KernelOgIdeal.nD Cert.KernelOgIdeal.τ).loc Cert.KernelOgIdeal.main_arg2)
      ∧ m' ((c.tc : Thread Cert.ReferenceOgIdeal.nD Cert.ReferenceOgIdeal.τ).loc Cert.ReferenceOgIdeal.main_arg3) = m ((c.tc : Thread Cert.KernelOgIdeal.nD Cert.KernelOgIdeal.τ).loc Cert.KernelOgIdeal.main_arg3)
      ∧ m' ((c.tc : Thread Cert.ReferenceOgIdeal.nD Cert.ReferenceOgIdeal.τ).loc Cert.ReferenceOgIdeal.main_arg4) = m ((c.tc : Thread Cert.KernelOgIdeal.nD Cert.KernelOgIdeal.τ).loc Cert.KernelOgIdeal.main_arg4)
      ∧ m' ((c.tc : Thread Cert.ReferenceOgIdeal.nD Cert.ReferenceOgIdeal.τ).loc Cert.ReferenceOgIdeal.main_arg5) = m ((c.tc : Thread Cert.KernelOgIdeal.nD Cert.KernelOgIdeal.τ).loc Cert.KernelOgIdeal.main_arg5)
      ∧ m' ((c.tc : Thread Cert.ReferenceOgIdeal.nD Cert.ReferenceOgIdeal.τ).loc Cert.ReferenceOgIdeal.main_arg6) = m ((c.tc : Thread Cert.KernelOgIdeal.nD Cert.KernelOgIdeal.τ).loc Cert.KernelOgIdeal.main_arg6)) →
    ∃ (v0 : (c : Dev Cert.KernelOgIdeal.nD) → Buf (Elt Ideal) ((c.tc : Thread Cert.KernelOgIdeal.nD Cert.KernelOgIdeal.τ).loc Cert.KernelOgIdeal.main_v0_0)) (v1 : (c : Dev Cert.KernelOgIdeal.nD) → Buf (Elt Ideal) ((c.tc : Thread Cert.KernelOgIdeal.nD Cert.KernelOgIdeal.τ).loc Cert.KernelOgIdeal.main_v0_1)) (v2 : (c : Dev Cert.KernelOgIdeal.nD) → Buf (Elt Ideal) ((c.tc : Thread Cert.KernelOgIdeal.nD Cert.KernelOgIdeal.τ).loc Cert.KernelOgIdeal.main_v0_2)) (v3 : (c : Dev Cert.KernelOgIdeal.nD) → Buf (Elt Ideal) ((c.tc : Thread Cert.KernelOgIdeal.nD Cert.KernelOgIdeal.τ).loc Cert.KernelOgIdeal.main_v0_3)),
      θ_run (Cert.KernelOgIdeal.defs (F := Ideal)) (onTc (τ := Cert.KernelOgIdeal.τ) (Cert.KernelOgIdeal.main (F := Ideal))) ⟨m, fun _ => 0, g⟩ (fun r => ∀ c : Dev Cert.KernelOgIdeal.nD,
          r.2.mem ((c.tc : Thread Cert.KernelOgIdeal.nD Cert.KernelOgIdeal.τ).loc Cert.KernelOgIdeal.main_v0_0) = v0 c
          ∧ r.2.mem ((c.tc : Thread Cert.KernelOgIdeal.nD Cert.KernelOgIdeal.τ).loc Cert.KernelOgIdeal.main_v0_1) = v1 c
          ∧ r.2.mem ((c.tc : Thread Cert.KernelOgIdeal.nD Cert.KernelOgIdeal.τ).loc Cert.KernelOgIdeal.main_v0_2) = v2 c
          ∧ r.2.mem ((c.tc : Thread Cert.KernelOgIdeal.nD Cert.KernelOgIdeal.τ).loc Cert.KernelOgIdeal.main_v0_3) = v3 c
          ∧ r.2.mem ((c.tc : Thread Cert.KernelOgIdeal.nD Cert.KernelOgIdeal.τ).loc Cert.KernelOgIdeal.main_arg0) = m ((c.tc : Thread Cert.KernelOgIdeal.nD Cert.KernelOgIdeal.τ).loc Cert.KernelOgIdeal.main_arg0)
          ∧ r.2.mem ((c.tc : Thread Cert.KernelOgIdeal.nD Cert.KernelOgIdeal.τ).loc Cert.KernelOgIdeal.main_arg1) = m ((c.tc : Thread Cert.KernelOgIdeal.nD Cert.KernelOgIdeal.τ).loc Cert.KernelOgIdeal.main_arg1)
          ∧ r.2.mem ((c.tc : Thread Cert.KernelOgIdeal.nD Cert.KernelOgIdeal.τ).loc Cert.KernelOgIdeal.main_arg2) = m ((c.tc : Thread Cert.KernelOgIdeal.nD Cert.KernelOgIdeal.τ).loc Cert.KernelOgIdeal.main_arg2)
          ∧ r.2.mem ((c.tc : Thread Cert.KernelOgIdeal.nD Cert.KernelOgIdeal.τ).loc Cert.KernelOgIdeal.main_arg3) = m ((c.tc : Thread Cert.KernelOgIdeal.nD Cert.KernelOgIdeal.τ).loc Cert.KernelOgIdeal.main_arg3)
          ∧ r.2.mem ((c.tc : Thread Cert.KernelOgIdeal.nD Cert.KernelOgIdeal.τ).loc Cert.KernelOgIdeal.main_arg4) = m ((c.tc : Thread Cert.KernelOgIdeal.nD Cert.KernelOgIdeal.τ).loc Cert.KernelOgIdeal.main_arg4)
          ∧ r.2.mem ((c.tc : Thread Cert.KernelOgIdeal.nD Cert.KernelOgIdeal.τ).loc Cert.KernelOgIdeal.main_arg5) = m ((c.tc : Thread Cert.KernelOgIdeal.nD Cert.KernelOgIdeal.τ).loc Cert.KernelOgIdeal.main_arg5)
          ∧ r.2.mem ((c.tc : Thread Cert.KernelOgIdeal.nD Cert.KernelOgIdeal.τ).loc Cert.KernelOgIdeal.main_arg6) = m ((c.tc : Thread Cert.KernelOgIdeal.nD Cert.KernelOgIdeal.τ).loc Cert.KernelOgIdeal.main_arg6))
      ∧ θ_run (Cert.ReferenceOgIdeal.defs (F := Ideal)) (onTc (τ := Cert.ReferenceOgIdeal.τ) (Cert.ReferenceOgIdeal.main (F := Ideal))) ⟨m', fun _ => 0, g'⟩ (fun r => ∀ c : Dev Cert.ReferenceOgIdeal.nD,
          r.2.mem ((c.tc : Thread Cert.ReferenceOgIdeal.nD Cert.ReferenceOgIdeal.τ).loc Cert.ReferenceOgIdeal.main_v12) = v0 c
          ∧ r.2.mem ((c.tc : Thread Cert.ReferenceOgIdeal.nD Cert.ReferenceOgIdeal.τ).loc Cert.ReferenceOgIdeal.main_v36) = v1 c
          ∧ r.2.mem ((c.tc : Thread Cert.ReferenceOgIdeal.nD Cert.ReferenceOgIdeal.τ).loc Cert.ReferenceOgIdeal.main_v17) = v2 c
          ∧ r.2.mem ((c.tc : Thread Cert.ReferenceOgIdeal.nD Cert.ReferenceOgIdeal.τ).loc Cert.ReferenceOgIdeal.main_v23) = v3 c
          ∧ r.2.mem ((c.tc : Thread Cert.ReferenceOgIdeal.nD Cert.ReferenceOgIdeal.τ).loc Cert.ReferenceOgIdeal.main_arg0) = m' ((c.tc : Thread Cert.ReferenceOgIdeal.nD Cert.ReferenceOgIdeal.τ).loc Cert.ReferenceOgIdeal.main_arg0)
          ∧ r.2.mem ((c.tc : Thread Cert.ReferenceOgIdeal.nD Cert.ReferenceOgIdeal.τ).loc Cert.ReferenceOgIdeal.main_arg1) = m' ((c.tc : Thread Cert.ReferenceOgIdeal.nD Cert.ReferenceOgIdeal.τ).loc Cert.ReferenceOgIdeal.main_arg1)
          ∧ r.2.mem ((c.tc : Thread Cert.ReferenceOgIdeal.nD Cert.ReferenceOgIdeal.τ).loc Cert.ReferenceOgIdeal.main_arg2) = m' ((c.tc : Thread Cert.ReferenceOgIdeal.nD Cert.ReferenceOgIdeal.τ).loc Cert.ReferenceOgIdeal.main_arg2)
          ∧ r.2.mem ((c.tc : Thread Cert.ReferenceOgIdeal.nD Cert.ReferenceOgIdeal.τ).loc Cert.ReferenceOgIdeal.main_arg3) = m' ((c.tc : Thread Cert.ReferenceOgIdeal.nD Cert.ReferenceOgIdeal.τ).loc Cert.ReferenceOgIdeal.main_arg3)
          ∧ r.2.mem ((c.tc : Thread Cert.ReferenceOgIdeal.nD Cert.ReferenceOgIdeal.τ).loc Cert.ReferenceOgIdeal.main_arg4) = m' ((c.tc : Thread Cert.ReferenceOgIdeal.nD Cert.ReferenceOgIdeal.τ).loc Cert.ReferenceOgIdeal.main_arg4)
          ∧ r.2.mem ((c.tc : Thread Cert.ReferenceOgIdeal.nD Cert.ReferenceOgIdeal.τ).loc Cert.ReferenceOgIdeal.main_arg5) = m' ((c.tc : Thread Cert.ReferenceOgIdeal.nD Cert.ReferenceOgIdeal.τ).loc Cert.ReferenceOgIdeal.main_arg5)
          ∧ r.2.mem ((c.tc : Thread Cert.ReferenceOgIdeal.nD Cert.ReferenceOgIdeal.τ).loc Cert.ReferenceOgIdeal.main_arg6) = m' ((c.tc : Thread Cert.ReferenceOgIdeal.nD Cert.ReferenceOgIdeal.τ).loc Cert.ReferenceOgIdeal.main_arg6))

def preserves_KernelOa_KernelOaIdeal : Prop :=
  True

def algebraic_KernelOaIdeal_ReferenceOaIdeal [hKernelOaIdeal : Cert.KernelOaIdeal.Facts] [hReferenceOaIdeal : Cert.ReferenceOaIdeal.Facts] : Prop :=
  ∀ (m : (ℓ : Loc Cert.KernelOaIdeal.nD Cert.KernelOaIdeal.τ Cert.KernelOaIdeal.sig) → Buf (Elt Ideal) ℓ) (g : Dev Cert.KernelOaIdeal.nD → PrngReg)
    (m' : (ℓ : Loc Cert.ReferenceOaIdeal.nD Cert.ReferenceOaIdeal.τ Cert.ReferenceOaIdeal.sig) → Buf (Elt Ideal) ℓ) (g' : Dev Cert.ReferenceOaIdeal.nD → PrngReg), Pre_KernelOaIdeal m →
    (∀ c : Dev Cert.KernelOaIdeal.nD,
      m' ((c.tc : Thread Cert.ReferenceOaIdeal.nD Cert.ReferenceOaIdeal.τ).loc Cert.ReferenceOaIdeal.main_arg0) = m ((c.tc : Thread Cert.KernelOaIdeal.nD Cert.KernelOaIdeal.τ).loc Cert.KernelOaIdeal.main_arg0)
      ∧ m' ((c.tc : Thread Cert.ReferenceOaIdeal.nD Cert.ReferenceOaIdeal.τ).loc Cert.ReferenceOaIdeal.main_arg1) = m ((c.tc : Thread Cert.KernelOaIdeal.nD Cert.KernelOaIdeal.τ).loc Cert.KernelOaIdeal.main_arg1)
      ∧ m' ((c.tc : Thread Cert.ReferenceOaIdeal.nD Cert.ReferenceOaIdeal.τ).loc Cert.ReferenceOaIdeal.main_arg2) = m ((c.tc : Thread Cert.KernelOaIdeal.nD Cert.KernelOaIdeal.τ).loc Cert.KernelOaIdeal.main_arg2)
      ∧ m' ((c.tc : Thread Cert.ReferenceOaIdeal.nD Cert.ReferenceOaIdeal.τ).loc Cert.ReferenceOaIdeal.main_arg3) = m ((c.tc : Thread Cert.KernelOaIdeal.nD Cert.KernelOaIdeal.τ).loc Cert.KernelOaIdeal.main_arg3)
      ∧ m' ((c.tc : Thread Cert.ReferenceOaIdeal.nD Cert.ReferenceOaIdeal.τ).loc Cert.ReferenceOaIdeal.main_arg4) = m ((c.tc : Thread Cert.KernelOaIdeal.nD Cert.KernelOaIdeal.τ).loc Cert.KernelOaIdeal.main_arg4)
      ∧ m' ((c.tc : Thread Cert.ReferenceOaIdeal.nD Cert.ReferenceOaIdeal.τ).loc Cert.ReferenceOaIdeal.main_arg5) = m ((c.tc : Thread Cert.KernelOaIdeal.nD Cert.KernelOaIdeal.τ).loc Cert.KernelOaIdeal.main_arg5)
      ∧ m' ((c.tc : Thread Cert.ReferenceOaIdeal.nD Cert.ReferenceOaIdeal.τ).loc Cert.ReferenceOaIdeal.main_arg6) = m ((c.tc : Thread Cert.KernelOaIdeal.nD Cert.KernelOaIdeal.τ).loc Cert.KernelOaIdeal.main_arg6)) →
    ∃ (v0 : (c : Dev Cert.KernelOaIdeal.nD) → Buf (Elt Ideal) ((c.tc : Thread Cert.KernelOaIdeal.nD Cert.KernelOaIdeal.τ).loc Cert.KernelOaIdeal.main_v0_0)) (v1 : (c : Dev Cert.KernelOaIdeal.nD) → Buf (Elt Ideal) ((c.tc : Thread Cert.KernelOaIdeal.nD Cert.KernelOaIdeal.τ).loc Cert.KernelOaIdeal.main_v0_1)) (v2 : (c : Dev Cert.KernelOaIdeal.nD) → Buf (Elt Ideal) ((c.tc : Thread Cert.KernelOaIdeal.nD Cert.KernelOaIdeal.τ).loc Cert.KernelOaIdeal.main_v0_2)) (v3 : (c : Dev Cert.KernelOaIdeal.nD) → Buf (Elt Ideal) ((c.tc : Thread Cert.KernelOaIdeal.nD Cert.KernelOaIdeal.τ).loc Cert.KernelOaIdeal.main_v0_3)),
      θ_run (Cert.KernelOaIdeal.defs (F := Ideal)) (onTc (τ := Cert.KernelOaIdeal.τ) (Cert.KernelOaIdeal.main (F := Ideal))) ⟨m, fun _ => 0, g⟩ (fun r => ∀ c : Dev Cert.KernelOaIdeal.nD,
          r.2.mem ((c.tc : Thread Cert.KernelOaIdeal.nD Cert.KernelOaIdeal.τ).loc Cert.KernelOaIdeal.main_v0_0) = v0 c
          ∧ r.2.mem ((c.tc : Thread Cert.KernelOaIdeal.nD Cert.KernelOaIdeal.τ).loc Cert.KernelOaIdeal.main_v0_1) = v1 c
          ∧ r.2.mem ((c.tc : Thread Cert.KernelOaIdeal.nD Cert.KernelOaIdeal.τ).loc Cert.KernelOaIdeal.main_v0_2) = v2 c
          ∧ r.2.mem ((c.tc : Thread Cert.KernelOaIdeal.nD Cert.KernelOaIdeal.τ).loc Cert.KernelOaIdeal.main_v0_3) = v3 c
          ∧ r.2.mem ((c.tc : Thread Cert.KernelOaIdeal.nD Cert.KernelOaIdeal.τ).loc Cert.KernelOaIdeal.main_arg0) = m ((c.tc : Thread Cert.KernelOaIdeal.nD Cert.KernelOaIdeal.τ).loc Cert.KernelOaIdeal.main_arg0)
          ∧ r.2.mem ((c.tc : Thread Cert.KernelOaIdeal.nD Cert.KernelOaIdeal.τ).loc Cert.KernelOaIdeal.main_arg1) = m ((c.tc : Thread Cert.KernelOaIdeal.nD Cert.KernelOaIdeal.τ).loc Cert.KernelOaIdeal.main_arg1)
          ∧ r.2.mem ((c.tc : Thread Cert.KernelOaIdeal.nD Cert.KernelOaIdeal.τ).loc Cert.KernelOaIdeal.main_arg2) = m ((c.tc : Thread Cert.KernelOaIdeal.nD Cert.KernelOaIdeal.τ).loc Cert.KernelOaIdeal.main_arg2)
          ∧ r.2.mem ((c.tc : Thread Cert.KernelOaIdeal.nD Cert.KernelOaIdeal.τ).loc Cert.KernelOaIdeal.main_arg3) = m ((c.tc : Thread Cert.KernelOaIdeal.nD Cert.KernelOaIdeal.τ).loc Cert.KernelOaIdeal.main_arg3)
          ∧ r.2.mem ((c.tc : Thread Cert.KernelOaIdeal.nD Cert.KernelOaIdeal.τ).loc Cert.KernelOaIdeal.main_arg4) = m ((c.tc : Thread Cert.KernelOaIdeal.nD Cert.KernelOaIdeal.τ).loc Cert.KernelOaIdeal.main_arg4)
          ∧ r.2.mem ((c.tc : Thread Cert.KernelOaIdeal.nD Cert.KernelOaIdeal.τ).loc Cert.KernelOaIdeal.main_arg5) = m ((c.tc : Thread Cert.KernelOaIdeal.nD Cert.KernelOaIdeal.τ).loc Cert.KernelOaIdeal.main_arg5)
          ∧ r.2.mem ((c.tc : Thread Cert.KernelOaIdeal.nD Cert.KernelOaIdeal.τ).loc Cert.KernelOaIdeal.main_arg6) = m ((c.tc : Thread Cert.KernelOaIdeal.nD Cert.KernelOaIdeal.τ).loc Cert.KernelOaIdeal.main_arg6))
      ∧ θ_run (Cert.ReferenceOaIdeal.defs (F := Ideal)) (onTc (τ := Cert.ReferenceOaIdeal.τ) (Cert.ReferenceOaIdeal.main (F := Ideal))) ⟨m', fun _ => 0, g'⟩ (fun r => ∀ c : Dev Cert.ReferenceOaIdeal.nD,
          r.2.mem ((c.tc : Thread Cert.ReferenceOaIdeal.nD Cert.ReferenceOaIdeal.τ).loc Cert.ReferenceOaIdeal.main_v16) = v0 c
          ∧ r.2.mem ((c.tc : Thread Cert.ReferenceOaIdeal.nD Cert.ReferenceOaIdeal.τ).loc Cert.ReferenceOaIdeal.main_v40) = v1 c
          ∧ r.2.mem ((c.tc : Thread Cert.ReferenceOaIdeal.nD Cert.ReferenceOaIdeal.τ).loc Cert.ReferenceOaIdeal.main_v21) = v2 c
          ∧ r.2.mem ((c.tc : Thread Cert.ReferenceOaIdeal.nD Cert.ReferenceOaIdeal.τ).loc Cert.ReferenceOaIdeal.main_v27) = v3 c
          ∧ r.2.mem ((c.tc : Thread Cert.ReferenceOaIdeal.nD Cert.ReferenceOaIdeal.τ).loc Cert.ReferenceOaIdeal.main_arg0) = m' ((c.tc : Thread Cert.ReferenceOaIdeal.nD Cert.ReferenceOaIdeal.τ).loc Cert.ReferenceOaIdeal.main_arg0)
          ∧ r.2.mem ((c.tc : Thread Cert.ReferenceOaIdeal.nD Cert.ReferenceOaIdeal.τ).loc Cert.ReferenceOaIdeal.main_arg1) = m' ((c.tc : Thread Cert.ReferenceOaIdeal.nD Cert.ReferenceOaIdeal.τ).loc Cert.ReferenceOaIdeal.main_arg1)
          ∧ r.2.mem ((c.tc : Thread Cert.ReferenceOaIdeal.nD Cert.ReferenceOaIdeal.τ).loc Cert.ReferenceOaIdeal.main_arg2) = m' ((c.tc : Thread Cert.ReferenceOaIdeal.nD Cert.ReferenceOaIdeal.τ).loc Cert.ReferenceOaIdeal.main_arg2)
          ∧ r.2.mem ((c.tc : Thread Cert.ReferenceOaIdeal.nD Cert.ReferenceOaIdeal.τ).loc Cert.ReferenceOaIdeal.main_arg3) = m' ((c.tc : Thread Cert.ReferenceOaIdeal.nD Cert.ReferenceOaIdeal.τ).loc Cert.ReferenceOaIdeal.main_arg3)
          ∧ r.2.mem ((c.tc : Thread Cert.ReferenceOaIdeal.nD Cert.ReferenceOaIdeal.τ).loc Cert.ReferenceOaIdeal.main_arg4) = m' ((c.tc : Thread Cert.ReferenceOaIdeal.nD Cert.ReferenceOaIdeal.τ).loc Cert.ReferenceOaIdeal.main_arg4)
          ∧ r.2.mem ((c.tc : Thread Cert.ReferenceOaIdeal.nD Cert.ReferenceOaIdeal.τ).loc Cert.ReferenceOaIdeal.main_arg5) = m' ((c.tc : Thread Cert.ReferenceOaIdeal.nD Cert.ReferenceOaIdeal.τ).loc Cert.ReferenceOaIdeal.main_arg5)
          ∧ r.2.mem ((c.tc : Thread Cert.ReferenceOaIdeal.nD Cert.ReferenceOaIdeal.τ).loc Cert.ReferenceOaIdeal.main_arg6) = m' ((c.tc : Thread Cert.ReferenceOaIdeal.nD Cert.ReferenceOaIdeal.τ).loc Cert.ReferenceOaIdeal.main_arg6))

def preserves_KernelOb_KernelObIdeal : Prop :=
  True

def algebraic_KernelObIdeal_ReferenceObIdeal [hKernelObIdeal : Cert.KernelObIdeal.Facts] [hReferenceObIdeal : Cert.ReferenceObIdeal.Facts] : Prop :=
  ∀ (m : (ℓ : Loc Cert.KernelObIdeal.nD Cert.KernelObIdeal.τ Cert.KernelObIdeal.sig) → Buf (Elt Ideal) ℓ) (g : Dev Cert.KernelObIdeal.nD → PrngReg)
    (m' : (ℓ : Loc Cert.ReferenceObIdeal.nD Cert.ReferenceObIdeal.τ Cert.ReferenceObIdeal.sig) → Buf (Elt Ideal) ℓ) (g' : Dev Cert.ReferenceObIdeal.nD → PrngReg), Pre_KernelObIdeal m →
    (∀ c : Dev Cert.KernelObIdeal.nD,
      m' ((c.tc : Thread Cert.ReferenceObIdeal.nD Cert.ReferenceObIdeal.τ).loc Cert.ReferenceObIdeal.main_arg0) = m ((c.tc : Thread Cert.KernelObIdeal.nD Cert.KernelObIdeal.τ).loc Cert.KernelObIdeal.main_arg0)
      ∧ m' ((c.tc : Thread Cert.ReferenceObIdeal.nD Cert.ReferenceObIdeal.τ).loc Cert.ReferenceObIdeal.main_arg1) = m ((c.tc : Thread Cert.KernelObIdeal.nD Cert.KernelObIdeal.τ).loc Cert.KernelObIdeal.main_arg1)
      ∧ m' ((c.tc : Thread Cert.ReferenceObIdeal.nD Cert.ReferenceObIdeal.τ).loc Cert.ReferenceObIdeal.main_arg2) = m ((c.tc : Thread Cert.KernelObIdeal.nD Cert.KernelObIdeal.τ).loc Cert.KernelObIdeal.main_arg2)
      ∧ m' ((c.tc : Thread Cert.ReferenceObIdeal.nD Cert.ReferenceObIdeal.τ).loc Cert.ReferenceObIdeal.main_arg3) = m ((c.tc : Thread Cert.KernelObIdeal.nD Cert.KernelObIdeal.τ).loc Cert.KernelObIdeal.main_arg3)
      ∧ m' ((c.tc : Thread Cert.ReferenceObIdeal.nD Cert.ReferenceObIdeal.τ).loc Cert.ReferenceObIdeal.main_arg4) = m ((c.tc : Thread Cert.KernelObIdeal.nD Cert.KernelObIdeal.τ).loc Cert.KernelObIdeal.main_arg4)
      ∧ m' ((c.tc : Thread Cert.ReferenceObIdeal.nD Cert.ReferenceObIdeal.τ).loc Cert.ReferenceObIdeal.main_arg5) = m ((c.tc : Thread Cert.KernelObIdeal.nD Cert.KernelObIdeal.τ).loc Cert.KernelObIdeal.main_arg5)
      ∧ m' ((c.tc : Thread Cert.ReferenceObIdeal.nD Cert.ReferenceObIdeal.τ).loc Cert.ReferenceObIdeal.main_arg6) = m ((c.tc : Thread Cert.KernelObIdeal.nD Cert.KernelObIdeal.τ).loc Cert.KernelObIdeal.main_arg6)) →
    ∃ (v0 : (c : Dev Cert.KernelObIdeal.nD) → Buf (Elt Ideal) ((c.tc : Thread Cert.KernelObIdeal.nD Cert.KernelObIdeal.τ).loc Cert.KernelObIdeal.main_v0_0)) (v1 : (c : Dev Cert.KernelObIdeal.nD) → Buf (Elt Ideal) ((c.tc : Thread Cert.KernelObIdeal.nD Cert.KernelObIdeal.τ).loc Cert.KernelObIdeal.main_v0_1)) (v2 : (c : Dev Cert.KernelObIdeal.nD) → Buf (Elt Ideal) ((c.tc : Thread Cert.KernelObIdeal.nD Cert.KernelObIdeal.τ).loc Cert.KernelObIdeal.main_v0_2)) (v3 : (c : Dev Cert.KernelObIdeal.nD) → Buf (Elt Ideal) ((c.tc : Thread Cert.KernelObIdeal.nD Cert.KernelObIdeal.τ).loc Cert.KernelObIdeal.main_v0_3)),
      θ_run (Cert.KernelObIdeal.defs (F := Ideal)) (onTc (τ := Cert.KernelObIdeal.τ) (Cert.KernelObIdeal.main (F := Ideal))) ⟨m, fun _ => 0, g⟩ (fun r => ∀ c : Dev Cert.KernelObIdeal.nD,
          r.2.mem ((c.tc : Thread Cert.KernelObIdeal.nD Cert.KernelObIdeal.τ).loc Cert.KernelObIdeal.main_v0_0) = v0 c
          ∧ r.2.mem ((c.tc : Thread Cert.KernelObIdeal.nD Cert.KernelObIdeal.τ).loc Cert.KernelObIdeal.main_v0_1) = v1 c
          ∧ r.2.mem ((c.tc : Thread Cert.KernelObIdeal.nD Cert.KernelObIdeal.τ).loc Cert.KernelObIdeal.main_v0_2) = v2 c
          ∧ r.2.mem ((c.tc : Thread Cert.KernelObIdeal.nD Cert.KernelObIdeal.τ).loc Cert.KernelObIdeal.main_v0_3) = v3 c
          ∧ r.2.mem ((c.tc : Thread Cert.KernelObIdeal.nD Cert.KernelObIdeal.τ).loc Cert.KernelObIdeal.main_arg0) = m ((c.tc : Thread Cert.KernelObIdeal.nD Cert.KernelObIdeal.τ).loc Cert.KernelObIdeal.main_arg0)
          ∧ r.2.mem ((c.tc : Thread Cert.KernelObIdeal.nD Cert.KernelObIdeal.τ).loc Cert.KernelObIdeal.main_arg1) = m ((c.tc : Thread Cert.KernelObIdeal.nD Cert.KernelObIdeal.τ).loc Cert.KernelObIdeal.main_arg1)
          ∧ r.2.mem ((c.tc : Thread Cert.KernelObIdeal.nD Cert.KernelObIdeal.τ).loc Cert.KernelObIdeal.main_arg2) = m ((c.tc : Thread Cert.KernelObIdeal.nD Cert.KernelObIdeal.τ).loc Cert.KernelObIdeal.main_arg2)
          ∧ r.2.mem ((c.tc : Thread Cert.KernelObIdeal.nD Cert.KernelObIdeal.τ).loc Cert.KernelObIdeal.main_arg3) = m ((c.tc : Thread Cert.KernelObIdeal.nD Cert.KernelObIdeal.τ).loc Cert.KernelObIdeal.main_arg3)
          ∧ r.2.mem ((c.tc : Thread Cert.KernelObIdeal.nD Cert.KernelObIdeal.τ).loc Cert.KernelObIdeal.main_arg4) = m ((c.tc : Thread Cert.KernelObIdeal.nD Cert.KernelObIdeal.τ).loc Cert.KernelObIdeal.main_arg4)
          ∧ r.2.mem ((c.tc : Thread Cert.KernelObIdeal.nD Cert.KernelObIdeal.τ).loc Cert.KernelObIdeal.main_arg5) = m ((c.tc : Thread Cert.KernelObIdeal.nD Cert.KernelObIdeal.τ).loc Cert.KernelObIdeal.main_arg5)
          ∧ r.2.mem ((c.tc : Thread Cert.KernelObIdeal.nD Cert.KernelObIdeal.τ).loc Cert.KernelObIdeal.main_arg6) = m ((c.tc : Thread Cert.KernelObIdeal.nD Cert.KernelObIdeal.τ).loc Cert.KernelObIdeal.main_arg6))
      ∧ θ_run (Cert.ReferenceObIdeal.defs (F := Ideal)) (onTc (τ := Cert.ReferenceObIdeal.τ) (Cert.ReferenceObIdeal.main (F := Ideal))) ⟨m', fun _ => 0, g'⟩ (fun r => ∀ c : Dev Cert.ReferenceObIdeal.nD,
          r.2.mem ((c.tc : Thread Cert.ReferenceObIdeal.nD Cert.ReferenceObIdeal.τ).loc Cert.ReferenceObIdeal.main_v16) = v0 c
          ∧ r.2.mem ((c.tc : Thread Cert.ReferenceObIdeal.nD Cert.ReferenceObIdeal.τ).loc Cert.ReferenceObIdeal.main_v40) = v1 c
          ∧ r.2.mem ((c.tc : Thread Cert.ReferenceObIdeal.nD Cert.ReferenceObIdeal.τ).loc Cert.ReferenceObIdeal.main_v21) = v2 c
          ∧ r.2.mem ((c.tc : Thread Cert.ReferenceObIdeal.nD Cert.ReferenceObIdeal.τ).loc Cert.ReferenceObIdeal.main_v27) = v3 c
          ∧ r.2.mem ((c.tc : Thread Cert.ReferenceObIdeal.nD Cert.ReferenceObIdeal.τ).loc Cert.ReferenceObIdeal.main_arg0) = m' ((c.tc : Thread Cert.ReferenceObIdeal.nD Cert.ReferenceObIdeal.τ).loc Cert.ReferenceObIdeal.main_arg0)
          ∧ r.2.mem ((c.tc : Thread Cert.ReferenceObIdeal.nD Cert.ReferenceObIdeal.τ).loc Cert.ReferenceObIdeal.main_arg1) = m' ((c.tc : Thread Cert.ReferenceObIdeal.nD Cert.ReferenceObIdeal.τ).loc Cert.ReferenceObIdeal.main_arg1)
          ∧ r.2.mem ((c.tc : Thread Cert.ReferenceObIdeal.nD Cert.ReferenceObIdeal.τ).loc Cert.ReferenceObIdeal.main_arg2) = m' ((c.tc : Thread Cert.ReferenceObIdeal.nD Cert.ReferenceObIdeal.τ).loc Cert.ReferenceObIdeal.main_arg2)
          ∧ r.2.mem ((c.tc : Thread Cert.ReferenceObIdeal.nD Cert.ReferenceObIdeal.τ).loc Cert.ReferenceObIdeal.main_arg3) = m' ((c.tc : Thread Cert.ReferenceObIdeal.nD Cert.ReferenceObIdeal.τ).loc Cert.ReferenceObIdeal.main_arg3)
          ∧ r.2.mem ((c.tc : Thread Cert.ReferenceObIdeal.nD Cert.ReferenceObIdeal.τ).loc Cert.ReferenceObIdeal.main_arg4) = m' ((c.tc : Thread Cert.ReferenceObIdeal.nD Cert.ReferenceObIdeal.τ).loc Cert.ReferenceObIdeal.main_arg4)
          ∧ r.2.mem ((c.tc : Thread Cert.ReferenceObIdeal.nD Cert.ReferenceObIdeal.τ).loc Cert.ReferenceObIdeal.main_arg5) = m' ((c.tc : Thread Cert.ReferenceObIdeal.nD Cert.ReferenceObIdeal.τ).loc Cert.ReferenceObIdeal.main_arg5)
          ∧ r.2.mem ((c.tc : Thread Cert.ReferenceObIdeal.nD Cert.ReferenceObIdeal.τ).loc Cert.ReferenceObIdeal.main_arg6) = m' ((c.tc : Thread Cert.ReferenceObIdeal.nD Cert.ReferenceObIdeal.τ).loc Cert.ReferenceObIdeal.main_arg6))

def preserves_KernelOc_KernelOcIdeal : Prop :=
  True

def algebraic_KernelOcIdeal_ReferenceOcIdeal [hKernelOcIdeal : Cert.KernelOcIdeal.Facts] [hReferenceOcIdeal : Cert.ReferenceOcIdeal.Facts] : Prop :=
  ∀ (m : (ℓ : Loc Cert.KernelOcIdeal.nD Cert.KernelOcIdeal.τ Cert.KernelOcIdeal.sig) → Buf (Elt Ideal) ℓ) (g : Dev Cert.KernelOcIdeal.nD → PrngReg)
    (m' : (ℓ : Loc Cert.ReferenceOcIdeal.nD Cert.ReferenceOcIdeal.τ Cert.ReferenceOcIdeal.sig) → Buf (Elt Ideal) ℓ) (g' : Dev Cert.ReferenceOcIdeal.nD → PrngReg), Pre_KernelOcIdeal m →
    (∀ c : Dev Cert.KernelOcIdeal.nD,
      m' ((c.tc : Thread Cert.ReferenceOcIdeal.nD Cert.ReferenceOcIdeal.τ).loc Cert.ReferenceOcIdeal.main_arg0) = m ((c.tc : Thread Cert.KernelOcIdeal.nD Cert.KernelOcIdeal.τ).loc Cert.KernelOcIdeal.main_arg0)
      ∧ m' ((c.tc : Thread Cert.ReferenceOcIdeal.nD Cert.ReferenceOcIdeal.τ).loc Cert.ReferenceOcIdeal.main_arg1) = m ((c.tc : Thread Cert.KernelOcIdeal.nD Cert.KernelOcIdeal.τ).loc Cert.KernelOcIdeal.main_arg1)
      ∧ m' ((c.tc : Thread Cert.ReferenceOcIdeal.nD Cert.ReferenceOcIdeal.τ).loc Cert.ReferenceOcIdeal.main_arg2) = m ((c.tc : Thread Cert.KernelOcIdeal.nD Cert.KernelOcIdeal.τ).loc Cert.KernelOcIdeal.main_arg2)
      ∧ m' ((c.tc : Thread Cert.ReferenceOcIdeal.nD Cert.ReferenceOcIdeal.τ).loc Cert.ReferenceOcIdeal.main_arg3) = m ((c.tc : Thread Cert.KernelOcIdeal.nD Cert.KernelOcIdeal.τ).loc Cert.KernelOcIdeal.main_arg3)
      ∧ m' ((c.tc : Thread Cert.ReferenceOcIdeal.nD Cert.ReferenceOcIdeal.τ).loc Cert.ReferenceOcIdeal.main_arg4) = m ((c.tc : Thread Cert.KernelOcIdeal.nD Cert.KernelOcIdeal.τ).loc Cert.KernelOcIdeal.main_arg4)
      ∧ m' ((c.tc : Thread Cert.ReferenceOcIdeal.nD Cert.ReferenceOcIdeal.τ).loc Cert.ReferenceOcIdeal.main_arg5) = m ((c.tc : Thread Cert.KernelOcIdeal.nD Cert.KernelOcIdeal.τ).loc Cert.KernelOcIdeal.main_arg5)
      ∧ m' ((c.tc : Thread Cert.ReferenceOcIdeal.nD Cert.ReferenceOcIdeal.τ).loc Cert.ReferenceOcIdeal.main_arg6) = m ((c.tc : Thread Cert.KernelOcIdeal.nD Cert.KernelOcIdeal.τ).loc Cert.KernelOcIdeal.main_arg6)) →
    ∃ (v0 : (c : Dev Cert.KernelOcIdeal.nD) → Buf (Elt Ideal) ((c.tc : Thread Cert.KernelOcIdeal.nD Cert.KernelOcIdeal.τ).loc Cert.KernelOcIdeal.main_v0_0)) (v1 : (c : Dev Cert.KernelOcIdeal.nD) → Buf (Elt Ideal) ((c.tc : Thread Cert.KernelOcIdeal.nD Cert.KernelOcIdeal.τ).loc Cert.KernelOcIdeal.main_v0_1)) (v2 : (c : Dev Cert.KernelOcIdeal.nD) → Buf (Elt Ideal) ((c.tc : Thread Cert.KernelOcIdeal.nD Cert.KernelOcIdeal.τ).loc Cert.KernelOcIdeal.main_v0_2)) (v3 : (c : Dev Cert.KernelOcIdeal.nD) → Buf (Elt Ideal) ((c.tc : Thread Cert.KernelOcIdeal.nD Cert.KernelOcIdeal.τ).loc Cert.KernelOcIdeal.main_v0_3)),
      θ_run (Cert.KernelOcIdeal.defs (F := Ideal)) (onTc (τ := Cert.KernelOcIdeal.τ) (Cert.KernelOcIdeal.main (F := Ideal))) ⟨m, fun _ => 0, g⟩ (fun r => ∀ c : Dev Cert.KernelOcIdeal.nD,
          r.2.mem ((c.tc : Thread Cert.KernelOcIdeal.nD Cert.KernelOcIdeal.τ).loc Cert.KernelOcIdeal.main_v0_0) = v0 c
          ∧ r.2.mem ((c.tc : Thread Cert.KernelOcIdeal.nD Cert.KernelOcIdeal.τ).loc Cert.KernelOcIdeal.main_v0_1) = v1 c
          ∧ r.2.mem ((c.tc : Thread Cert.KernelOcIdeal.nD Cert.KernelOcIdeal.τ).loc Cert.KernelOcIdeal.main_v0_2) = v2 c
          ∧ r.2.mem ((c.tc : Thread Cert.KernelOcIdeal.nD Cert.KernelOcIdeal.τ).loc Cert.KernelOcIdeal.main_v0_3) = v3 c
          ∧ r.2.mem ((c.tc : Thread Cert.KernelOcIdeal.nD Cert.KernelOcIdeal.τ).loc Cert.KernelOcIdeal.main_arg0) = m ((c.tc : Thread Cert.KernelOcIdeal.nD Cert.KernelOcIdeal.τ).loc Cert.KernelOcIdeal.main_arg0)
          ∧ r.2.mem ((c.tc : Thread Cert.KernelOcIdeal.nD Cert.KernelOcIdeal.τ).loc Cert.KernelOcIdeal.main_arg1) = m ((c.tc : Thread Cert.KernelOcIdeal.nD Cert.KernelOcIdeal.τ).loc Cert.KernelOcIdeal.main_arg1)
          ∧ r.2.mem ((c.tc : Thread Cert.KernelOcIdeal.nD Cert.KernelOcIdeal.τ).loc Cert.KernelOcIdeal.main_arg2) = m ((c.tc : Thread Cert.KernelOcIdeal.nD Cert.KernelOcIdeal.τ).loc Cert.KernelOcIdeal.main_arg2)
          ∧ r.2.mem ((c.tc : Thread Cert.KernelOcIdeal.nD Cert.KernelOcIdeal.τ).loc Cert.KernelOcIdeal.main_arg3) = m ((c.tc : Thread Cert.KernelOcIdeal.nD Cert.KernelOcIdeal.τ).loc Cert.KernelOcIdeal.main_arg3)
          ∧ r.2.mem ((c.tc : Thread Cert.KernelOcIdeal.nD Cert.KernelOcIdeal.τ).loc Cert.KernelOcIdeal.main_arg4) = m ((c.tc : Thread Cert.KernelOcIdeal.nD Cert.KernelOcIdeal.τ).loc Cert.KernelOcIdeal.main_arg4)
          ∧ r.2.mem ((c.tc : Thread Cert.KernelOcIdeal.nD Cert.KernelOcIdeal.τ).loc Cert.KernelOcIdeal.main_arg5) = m ((c.tc : Thread Cert.KernelOcIdeal.nD Cert.KernelOcIdeal.τ).loc Cert.KernelOcIdeal.main_arg5)
          ∧ r.2.mem ((c.tc : Thread Cert.KernelOcIdeal.nD Cert.KernelOcIdeal.τ).loc Cert.KernelOcIdeal.main_arg6) = m ((c.tc : Thread Cert.KernelOcIdeal.nD Cert.KernelOcIdeal.τ).loc Cert.KernelOcIdeal.main_arg6))
      ∧ θ_run (Cert.ReferenceOcIdeal.defs (F := Ideal)) (onTc (τ := Cert.ReferenceOcIdeal.τ) (Cert.ReferenceOcIdeal.main (F := Ideal))) ⟨m', fun _ => 0, g'⟩ (fun r => ∀ c : Dev Cert.ReferenceOcIdeal.nD,
          r.2.mem ((c.tc : Thread Cert.ReferenceOcIdeal.nD Cert.ReferenceOcIdeal.τ).loc Cert.ReferenceOcIdeal.main_v16) = v0 c
          ∧ r.2.mem ((c.tc : Thread Cert.ReferenceOcIdeal.nD Cert.ReferenceOcIdeal.τ).loc Cert.ReferenceOcIdeal.main_v40) = v1 c
          ∧ r.2.mem ((c.tc : Thread Cert.ReferenceOcIdeal.nD Cert.ReferenceOcIdeal.τ).loc Cert.ReferenceOcIdeal.main_v21) = v2 c
          ∧ r.2.mem ((c.tc : Thread Cert.ReferenceOcIdeal.nD Cert.ReferenceOcIdeal.τ).loc Cert.ReferenceOcIdeal.main_v27) = v3 c
          ∧ r.2.mem ((c.tc : Thread Cert.ReferenceOcIdeal.nD Cert.ReferenceOcIdeal.τ).loc Cert.ReferenceOcIdeal.main_arg0) = m' ((c.tc : Thread Cert.ReferenceOcIdeal.nD Cert.ReferenceOcIdeal.τ).loc Cert.ReferenceOcIdeal.main_arg0)
          ∧ r.2.mem ((c.tc : Thread Cert.ReferenceOcIdeal.nD Cert.ReferenceOcIdeal.τ).loc Cert.ReferenceOcIdeal.main_arg1) = m' ((c.tc : Thread Cert.ReferenceOcIdeal.nD Cert.ReferenceOcIdeal.τ).loc Cert.ReferenceOcIdeal.main_arg1)
          ∧ r.2.mem ((c.tc : Thread Cert.ReferenceOcIdeal.nD Cert.ReferenceOcIdeal.τ).loc Cert.ReferenceOcIdeal.main_arg2) = m' ((c.tc : Thread Cert.ReferenceOcIdeal.nD Cert.ReferenceOcIdeal.τ).loc Cert.ReferenceOcIdeal.main_arg2)
          ∧ r.2.mem ((c.tc : Thread Cert.ReferenceOcIdeal.nD Cert.ReferenceOcIdeal.τ).loc Cert.ReferenceOcIdeal.main_arg3) = m' ((c.tc : Thread Cert.ReferenceOcIdeal.nD Cert.ReferenceOcIdeal.τ).loc Cert.ReferenceOcIdeal.main_arg3)
          ∧ r.2.mem ((c.tc : Thread Cert.ReferenceOcIdeal.nD Cert.ReferenceOcIdeal.τ).loc Cert.ReferenceOcIdeal.main_arg4) = m' ((c.tc : Thread Cert.ReferenceOcIdeal.nD Cert.ReferenceOcIdeal.τ).loc Cert.ReferenceOcIdeal.main_arg4)
          ∧ r.2.mem ((c.tc : Thread Cert.ReferenceOcIdeal.nD Cert.ReferenceOcIdeal.τ).loc Cert.ReferenceOcIdeal.main_arg5) = m' ((c.tc : Thread Cert.ReferenceOcIdeal.nD Cert.ReferenceOcIdeal.τ).loc Cert.ReferenceOcIdeal.main_arg5)
          ∧ r.2.mem ((c.tc : Thread Cert.ReferenceOcIdeal.nD Cert.ReferenceOcIdeal.τ).loc Cert.ReferenceOcIdeal.main_arg6) = m' ((c.tc : Thread Cert.ReferenceOcIdeal.nD Cert.ReferenceOcIdeal.τ).loc Cert.ReferenceOcIdeal.main_arg6))

def preserves_KernelOo_KernelOoIdeal : Prop :=
  True

def algebraic_KernelOoIdeal_ReferenceOoIdeal [hKernelOoIdeal : Cert.KernelOoIdeal.Facts] [hReferenceOoIdeal : Cert.ReferenceOoIdeal.Facts] : Prop :=
  ∀ (m : (ℓ : Loc Cert.KernelOoIdeal.nD Cert.KernelOoIdeal.τ Cert.KernelOoIdeal.sig) → Buf (Elt Ideal) ℓ) (g : Dev Cert.KernelOoIdeal.nD → PrngReg)
    (m' : (ℓ : Loc Cert.ReferenceOoIdeal.nD Cert.ReferenceOoIdeal.τ Cert.ReferenceOoIdeal.sig) → Buf (Elt Ideal) ℓ) (g' : Dev Cert.ReferenceOoIdeal.nD → PrngReg), Pre_KernelOoIdeal m →
    (∀ c : Dev Cert.KernelOoIdeal.nD,
      m' ((c.tc : Thread Cert.ReferenceOoIdeal.nD Cert.ReferenceOoIdeal.τ).loc Cert.ReferenceOoIdeal.main_arg0) = m ((c.tc : Thread Cert.KernelOoIdeal.nD Cert.KernelOoIdeal.τ).loc Cert.KernelOoIdeal.main_arg0)
      ∧ m' ((c.tc : Thread Cert.ReferenceOoIdeal.nD Cert.ReferenceOoIdeal.τ).loc Cert.ReferenceOoIdeal.main_arg1) = m ((c.tc : Thread Cert.KernelOoIdeal.nD Cert.KernelOoIdeal.τ).loc Cert.KernelOoIdeal.main_arg1)
      ∧ m' ((c.tc : Thread Cert.ReferenceOoIdeal.nD Cert.ReferenceOoIdeal.τ).loc Cert.ReferenceOoIdeal.main_arg2) = m ((c.tc : Thread Cert.KernelOoIdeal.nD Cert.KernelOoIdeal.τ).loc Cert.KernelOoIdeal.main_arg2)
      ∧ m' ((c.tc : Thread Cert.ReferenceOoIdeal.nD Cert.ReferenceOoIdeal.τ).loc Cert.ReferenceOoIdeal.main_arg3) = m ((c.tc : Thread Cert.KernelOoIdeal.nD Cert.KernelOoIdeal.τ).loc Cert.KernelOoIdeal.main_arg3)
      ∧ m' ((c.tc : Thread Cert.ReferenceOoIdeal.nD Cert.ReferenceOoIdeal.τ).loc Cert.ReferenceOoIdeal.main_arg4) = m ((c.tc : Thread Cert.KernelOoIdeal.nD Cert.KernelOoIdeal.τ).loc Cert.KernelOoIdeal.main_arg4)
      ∧ m' ((c.tc : Thread Cert.ReferenceOoIdeal.nD Cert.ReferenceOoIdeal.τ).loc Cert.ReferenceOoIdeal.main_arg5) = m ((c.tc : Thread Cert.KernelOoIdeal.nD Cert.KernelOoIdeal.τ).loc Cert.KernelOoIdeal.main_arg5)
      ∧ m' ((c.tc : Thread Cert.ReferenceOoIdeal.nD Cert.ReferenceOoIdeal.τ).loc Cert.ReferenceOoIdeal.main_arg6) = m ((c.tc : Thread Cert.KernelOoIdeal.nD Cert.KernelOoIdeal.τ).loc Cert.KernelOoIdeal.main_arg6)) →
    ∃ (v0 : (c : Dev Cert.KernelOoIdeal.nD) → Buf (Elt Ideal) ((c.tc : Thread Cert.KernelOoIdeal.nD Cert.KernelOoIdeal.τ).loc Cert.KernelOoIdeal.main_v0_0)) (v1 : (c : Dev Cert.KernelOoIdeal.nD) → Buf (Elt Ideal) ((c.tc : Thread Cert.KernelOoIdeal.nD Cert.KernelOoIdeal.τ).loc Cert.KernelOoIdeal.main_v0_1)) (v2 : (c : Dev Cert.KernelOoIdeal.nD) → Buf (Elt Ideal) ((c.tc : Thread Cert.KernelOoIdeal.nD Cert.KernelOoIdeal.τ).loc Cert.KernelOoIdeal.main_v0_2)) (v3 : (c : Dev Cert.KernelOoIdeal.nD) → Buf (Elt Ideal) ((c.tc : Thread Cert.KernelOoIdeal.nD Cert.KernelOoIdeal.τ).loc Cert.KernelOoIdeal.main_v0_3)),
      θ_run (Cert.KernelOoIdeal.defs (F := Ideal)) (onTc (τ := Cert.KernelOoIdeal.τ) (Cert.KernelOoIdeal.main (F := Ideal))) ⟨m, fun _ => 0, g⟩ (fun r => ∀ c : Dev Cert.KernelOoIdeal.nD,
          r.2.mem ((c.tc : Thread Cert.KernelOoIdeal.nD Cert.KernelOoIdeal.τ).loc Cert.KernelOoIdeal.main_v0_0) = v0 c
          ∧ r.2.mem ((c.tc : Thread Cert.KernelOoIdeal.nD Cert.KernelOoIdeal.τ).loc Cert.KernelOoIdeal.main_v0_1) = v1 c
          ∧ r.2.mem ((c.tc : Thread Cert.KernelOoIdeal.nD Cert.KernelOoIdeal.τ).loc Cert.KernelOoIdeal.main_v0_2) = v2 c
          ∧ r.2.mem ((c.tc : Thread Cert.KernelOoIdeal.nD Cert.KernelOoIdeal.τ).loc Cert.KernelOoIdeal.main_v0_3) = v3 c
          ∧ r.2.mem ((c.tc : Thread Cert.KernelOoIdeal.nD Cert.KernelOoIdeal.τ).loc Cert.KernelOoIdeal.main_arg0) = m ((c.tc : Thread Cert.KernelOoIdeal.nD Cert.KernelOoIdeal.τ).loc Cert.KernelOoIdeal.main_arg0)
          ∧ r.2.mem ((c.tc : Thread Cert.KernelOoIdeal.nD Cert.KernelOoIdeal.τ).loc Cert.KernelOoIdeal.main_arg1) = m ((c.tc : Thread Cert.KernelOoIdeal.nD Cert.KernelOoIdeal.τ).loc Cert.KernelOoIdeal.main_arg1)
          ∧ r.2.mem ((c.tc : Thread Cert.KernelOoIdeal.nD Cert.KernelOoIdeal.τ).loc Cert.KernelOoIdeal.main_arg2) = m ((c.tc : Thread Cert.KernelOoIdeal.nD Cert.KernelOoIdeal.τ).loc Cert.KernelOoIdeal.main_arg2)
          ∧ r.2.mem ((c.tc : Thread Cert.KernelOoIdeal.nD Cert.KernelOoIdeal.τ).loc Cert.KernelOoIdeal.main_arg3) = m ((c.tc : Thread Cert.KernelOoIdeal.nD Cert.KernelOoIdeal.τ).loc Cert.KernelOoIdeal.main_arg3)
          ∧ r.2.mem ((c.tc : Thread Cert.KernelOoIdeal.nD Cert.KernelOoIdeal.τ).loc Cert.KernelOoIdeal.main_arg4) = m ((c.tc : Thread Cert.KernelOoIdeal.nD Cert.KernelOoIdeal.τ).loc Cert.KernelOoIdeal.main_arg4)
          ∧ r.2.mem ((c.tc : Thread Cert.KernelOoIdeal.nD Cert.KernelOoIdeal.τ).loc Cert.KernelOoIdeal.main_arg5) = m ((c.tc : Thread Cert.KernelOoIdeal.nD Cert.KernelOoIdeal.τ).loc Cert.KernelOoIdeal.main_arg5)
          ∧ r.2.mem ((c.tc : Thread Cert.KernelOoIdeal.nD Cert.KernelOoIdeal.τ).loc Cert.KernelOoIdeal.main_arg6) = m ((c.tc : Thread Cert.KernelOoIdeal.nD Cert.KernelOoIdeal.τ).loc Cert.KernelOoIdeal.main_arg6))
      ∧ θ_run (Cert.ReferenceOoIdeal.defs (F := Ideal)) (onTc (τ := Cert.ReferenceOoIdeal.τ) (Cert.ReferenceOoIdeal.main (F := Ideal))) ⟨m', fun _ => 0, g'⟩ (fun r => ∀ c : Dev Cert.ReferenceOoIdeal.nD,
          r.2.mem ((c.tc : Thread Cert.ReferenceOoIdeal.nD Cert.ReferenceOoIdeal.τ).loc Cert.ReferenceOoIdeal.main_v12) = v0 c
          ∧ r.2.mem ((c.tc : Thread Cert.ReferenceOoIdeal.nD Cert.ReferenceOoIdeal.τ).loc Cert.ReferenceOoIdeal.main_v36) = v1 c
          ∧ r.2.mem ((c.tc : Thread Cert.ReferenceOoIdeal.nD Cert.ReferenceOoIdeal.τ).loc Cert.ReferenceOoIdeal.main_v17) = v2 c
          ∧ r.2.mem ((c.tc : Thread Cert.ReferenceOoIdeal.nD Cert.ReferenceOoIdeal.τ).loc Cert.ReferenceOoIdeal.main_v23) = v3 c
          ∧ r.2.mem ((c.tc : Thread Cert.ReferenceOoIdeal.nD Cert.ReferenceOoIdeal.τ).loc Cert.ReferenceOoIdeal.main_arg0) = m' ((c.tc : Thread Cert.ReferenceOoIdeal.nD Cert.ReferenceOoIdeal.τ).loc Cert.ReferenceOoIdeal.main_arg0)
          ∧ r.2.mem ((c.tc : Thread Cert.ReferenceOoIdeal.nD Cert.ReferenceOoIdeal.τ).loc Cert.ReferenceOoIdeal.main_arg1) = m' ((c.tc : Thread Cert.ReferenceOoIdeal.nD Cert.ReferenceOoIdeal.τ).loc Cert.ReferenceOoIdeal.main_arg1)
          ∧ r.2.mem ((c.tc : Thread Cert.ReferenceOoIdeal.nD Cert.ReferenceOoIdeal.τ).loc Cert.ReferenceOoIdeal.main_arg2) = m' ((c.tc : Thread Cert.ReferenceOoIdeal.nD Cert.ReferenceOoIdeal.τ).loc Cert.ReferenceOoIdeal.main_arg2)
          ∧ r.2.mem ((c.tc : Thread Cert.ReferenceOoIdeal.nD Cert.ReferenceOoIdeal.τ).loc Cert.ReferenceOoIdeal.main_arg3) = m' ((c.tc : Thread Cert.ReferenceOoIdeal.nD Cert.ReferenceOoIdeal.τ).loc Cert.ReferenceOoIdeal.main_arg3)
          ∧ r.2.mem ((c.tc : Thread Cert.ReferenceOoIdeal.nD Cert.ReferenceOoIdeal.τ).loc Cert.ReferenceOoIdeal.main_arg4) = m' ((c.tc : Thread Cert.ReferenceOoIdeal.nD Cert.ReferenceOoIdeal.τ).loc Cert.ReferenceOoIdeal.main_arg4)
          ∧ r.2.mem ((c.tc : Thread Cert.ReferenceOoIdeal.nD Cert.ReferenceOoIdeal.τ).loc Cert.ReferenceOoIdeal.main_arg5) = m' ((c.tc : Thread Cert.ReferenceOoIdeal.nD Cert.ReferenceOoIdeal.τ).loc Cert.ReferenceOoIdeal.main_arg5)
          ∧ r.2.mem ((c.tc : Thread Cert.ReferenceOoIdeal.nD Cert.ReferenceOoIdeal.τ).loc Cert.ReferenceOoIdeal.main_arg6) = m' ((c.tc : Thread Cert.ReferenceOoIdeal.nD Cert.ReferenceOoIdeal.τ).loc Cert.ReferenceOoIdeal.main_arg6))

def preserves_KernelSs_KernelSsIdeal : Prop :=
  True

def algebraic_KernelSsIdeal_ReferenceSsIdeal [hKernelSsIdeal : Cert.KernelSsIdeal.Facts] [hReferenceSsIdeal : Cert.ReferenceSsIdeal.Facts] : Prop :=
  ∀ (m : (ℓ : Loc Cert.KernelSsIdeal.nD Cert.KernelSsIdeal.τ Cert.KernelSsIdeal.sig) → Buf (Elt Ideal) ℓ) (g : Dev Cert.KernelSsIdeal.nD → PrngReg)
    (m' : (ℓ : Loc Cert.ReferenceSsIdeal.nD Cert.ReferenceSsIdeal.τ Cert.ReferenceSsIdeal.sig) → Buf (Elt Ideal) ℓ) (g' : Dev Cert.ReferenceSsIdeal.nD → PrngReg), Pre_KernelSsIdeal m →
    (∀ c : Dev Cert.KernelSsIdeal.nD,
      m' ((c.tc : Thread Cert.ReferenceSsIdeal.nD Cert.ReferenceSsIdeal.τ).loc Cert.ReferenceSsIdeal.main_arg0) = m ((c.tc : Thread Cert.KernelSsIdeal.nD Cert.KernelSsIdeal.τ).loc Cert.KernelSsIdeal.main_arg0)
      ∧ m' ((c.tc : Thread Cert.ReferenceSsIdeal.nD Cert.ReferenceSsIdeal.τ).loc Cert.ReferenceSsIdeal.main_arg1) = m ((c.tc : Thread Cert.KernelSsIdeal.nD Cert.KernelSsIdeal.τ).loc Cert.KernelSsIdeal.main_arg1)
      ∧ m' ((c.tc : Thread Cert.ReferenceSsIdeal.nD Cert.ReferenceSsIdeal.τ).loc Cert.ReferenceSsIdeal.main_arg2) = m ((c.tc : Thread Cert.KernelSsIdeal.nD Cert.KernelSsIdeal.τ).loc Cert.KernelSsIdeal.main_arg2)
      ∧ m' ((c.tc : Thread Cert.ReferenceSsIdeal.nD Cert.ReferenceSsIdeal.τ).loc Cert.ReferenceSsIdeal.main_arg3) = m ((c.tc : Thread Cert.KernelSsIdeal.nD Cert.KernelSsIdeal.τ).loc Cert.KernelSsIdeal.main_arg3)
      ∧ m' ((c.tc : Thread Cert.ReferenceSsIdeal.nD Cert.ReferenceSsIdeal.τ).loc Cert.ReferenceSsIdeal.main_arg4) = m ((c.tc : Thread Cert.KernelSsIdeal.nD Cert.KernelSsIdeal.τ).loc Cert.KernelSsIdeal.main_arg4)
      ∧ m' ((c.tc : Thread Cert.ReferenceSsIdeal.nD Cert.ReferenceSsIdeal.τ).loc Cert.ReferenceSsIdeal.main_arg5) = m ((c.tc : Thread Cert.KernelSsIdeal.nD Cert.KernelSsIdeal.τ).loc Cert.KernelSsIdeal.main_arg5)
      ∧ m' ((c.tc : Thread Cert.ReferenceSsIdeal.nD Cert.ReferenceSsIdeal.τ).loc Cert.ReferenceSsIdeal.main_arg6) = m ((c.tc : Thread Cert.KernelSsIdeal.nD Cert.KernelSsIdeal.τ).loc Cert.KernelSsIdeal.main_arg6)
      ∧ m' ((c.tc : Thread Cert.ReferenceSsIdeal.nD Cert.ReferenceSsIdeal.τ).loc Cert.ReferenceSsIdeal.main_arg7) = m ((c.tc : Thread Cert.KernelSsIdeal.nD Cert.KernelSsIdeal.τ).loc Cert.KernelSsIdeal.main_arg7)
      ∧ m' ((c.tc : Thread Cert.ReferenceSsIdeal.nD Cert.ReferenceSsIdeal.τ).loc Cert.ReferenceSsIdeal.main_arg8) = m ((c.tc : Thread Cert.KernelSsIdeal.nD Cert.KernelSsIdeal.τ).loc Cert.KernelSsIdeal.main_arg8)
      ∧ m' ((c.tc : Thread Cert.ReferenceSsIdeal.nD Cert.ReferenceSsIdeal.τ).loc Cert.ReferenceSsIdeal.main_arg9) = m ((c.tc : Thread Cert.KernelSsIdeal.nD Cert.KernelSsIdeal.τ).loc Cert.KernelSsIdeal.main_arg9)
      ∧ m' ((c.tc : Thread Cert.ReferenceSsIdeal.nD Cert.ReferenceSsIdeal.τ).loc Cert.ReferenceSsIdeal.main_arg10) = m ((c.tc : Thread Cert.KernelSsIdeal.nD Cert.KernelSsIdeal.τ).loc Cert.KernelSsIdeal.main_arg10)
      ∧ m' ((c.tc : Thread Cert.ReferenceSsIdeal.nD Cert.ReferenceSsIdeal.τ).loc Cert.ReferenceSsIdeal.main_arg11) = m ((c.tc : Thread Cert.KernelSsIdeal.nD Cert.KernelSsIdeal.τ).loc Cert.KernelSsIdeal.main_arg11)
      ∧ m' ((c.tc : Thread Cert.ReferenceSsIdeal.nD Cert.ReferenceSsIdeal.τ).loc Cert.ReferenceSsIdeal.main_arg12) = m ((c.tc : Thread Cert.KernelSsIdeal.nD Cert.KernelSsIdeal.τ).loc Cert.KernelSsIdeal.main_arg12)
      ∧ m' ((c.tc : Thread Cert.ReferenceSsIdeal.nD Cert.ReferenceSsIdeal.τ).loc Cert.ReferenceSsIdeal.main_arg13) = m ((c.tc : Thread Cert.KernelSsIdeal.nD Cert.KernelSsIdeal.τ).loc Cert.KernelSsIdeal.main_arg13)
      ∧ m' ((c.tc : Thread Cert.ReferenceSsIdeal.nD Cert.ReferenceSsIdeal.τ).loc Cert.ReferenceSsIdeal.main_arg14) = m ((c.tc : Thread Cert.KernelSsIdeal.nD Cert.KernelSsIdeal.τ).loc Cert.KernelSsIdeal.main_arg14)
      ∧ m' ((c.tc : Thread Cert.ReferenceSsIdeal.nD Cert.ReferenceSsIdeal.τ).loc Cert.ReferenceSsIdeal.main_arg15) = m ((c.tc : Thread Cert.KernelSsIdeal.nD Cert.KernelSsIdeal.τ).loc Cert.KernelSsIdeal.main_arg15)
      ∧ m' ((c.tc : Thread Cert.ReferenceSsIdeal.nD Cert.ReferenceSsIdeal.τ).loc Cert.ReferenceSsIdeal.main_arg16) = m ((c.tc : Thread Cert.KernelSsIdeal.nD Cert.KernelSsIdeal.τ).loc Cert.KernelSsIdeal.main_arg16)
      ∧ m' ((c.tc : Thread Cert.ReferenceSsIdeal.nD Cert.ReferenceSsIdeal.τ).loc Cert.ReferenceSsIdeal.main_arg17) = m ((c.tc : Thread Cert.KernelSsIdeal.nD Cert.KernelSsIdeal.τ).loc Cert.KernelSsIdeal.main_arg17)
      ∧ m' ((c.tc : Thread Cert.ReferenceSsIdeal.nD Cert.ReferenceSsIdeal.τ).loc Cert.ReferenceSsIdeal.main_arg18) = m ((c.tc : Thread Cert.KernelSsIdeal.nD Cert.KernelSsIdeal.τ).loc Cert.KernelSsIdeal.main_arg18)
      ∧ m' ((c.tc : Thread Cert.ReferenceSsIdeal.nD Cert.ReferenceSsIdeal.τ).loc Cert.ReferenceSsIdeal.main_arg19) = m ((c.tc : Thread Cert.KernelSsIdeal.nD Cert.KernelSsIdeal.τ).loc Cert.KernelSsIdeal.main_arg19)
      ∧ m' ((c.tc : Thread Cert.ReferenceSsIdeal.nD Cert.ReferenceSsIdeal.τ).loc Cert.ReferenceSsIdeal.main_arg20) = m ((c.tc : Thread Cert.KernelSsIdeal.nD Cert.KernelSsIdeal.τ).loc Cert.KernelSsIdeal.main_arg20)
      ∧ m' ((c.tc : Thread Cert.ReferenceSsIdeal.nD Cert.ReferenceSsIdeal.τ).loc Cert.ReferenceSsIdeal.main_arg21) = m ((c.tc : Thread Cert.KernelSsIdeal.nD Cert.KernelSsIdeal.τ).loc Cert.KernelSsIdeal.main_arg21)) →
    ∃ (v0 : (c : Dev Cert.KernelSsIdeal.nD) → Buf (Elt Ideal) ((c.tc : Thread Cert.KernelSsIdeal.nD Cert.KernelSsIdeal.τ).loc Cert.KernelSsIdeal.main_v69)) (v1 : (c : Dev Cert.KernelSsIdeal.nD) → Buf (Elt Ideal) ((c.tc : Thread Cert.KernelSsIdeal.nD Cert.KernelSsIdeal.τ).loc Cert.KernelSsIdeal.main_v73)) (v2 : (c : Dev Cert.KernelSsIdeal.nD) → Buf (Elt Ideal) ((c.tc : Thread Cert.KernelSsIdeal.nD Cert.KernelSsIdeal.τ).loc Cert.KernelSsIdeal.main_v77)) (v3 : (c : Dev Cert.KernelSsIdeal.nD) → Buf (Elt Ideal) ((c.tc : Thread Cert.KernelSsIdeal.nD Cert.KernelSsIdeal.τ).loc Cert.KernelSsIdeal.main_v81)) (v4 : (c : Dev Cert.KernelSsIdeal.nD) → Buf (Elt Ideal) ((c.tc : Thread Cert.KernelSsIdeal.nD Cert.KernelSsIdeal.τ).loc Cert.KernelSsIdeal.main_v83)) (v5 : (c : Dev Cert.KernelSsIdeal.nD) → Buf (Elt Ideal) ((c.tc : Thread Cert.KernelSsIdeal.nD Cert.KernelSsIdeal.τ).loc Cert.KernelSsIdeal.main_v85)) (v6 : (c : Dev Cert.KernelSsIdeal.nD) → Buf (Elt Ideal) ((c.tc : Thread Cert.KernelSsIdeal.nD Cert.KernelSsIdeal.τ).loc Cert.KernelSsIdeal.main_v89)) (v7 : (c : Dev Cert.KernelSsIdeal.nD) → Buf (Elt Ideal) ((c.tc : Thread Cert.KernelSsIdeal.nD Cert.KernelSsIdeal.τ).loc Cert.KernelSsIdeal.main_v91)) (v8 : (c : Dev Cert.KernelSsIdeal.nD) → Buf (Elt Ideal) ((c.tc : Thread Cert.KernelSsIdeal.nD Cert.KernelSsIdeal.τ).loc Cert.KernelSsIdeal.main_v93)) (v9 : (c : Dev Cert.KernelSsIdeal.nD) → Buf (Elt Ideal) ((c.tc : Thread Cert.KernelSsIdeal.nD Cert.KernelSsIdeal.τ).loc Cert.KernelSsIdeal.main_v95)) (v10 : (c : Dev Cert.KernelSsIdeal.nD) → Buf (Elt Ideal) ((c.tc : Thread Cert.KernelSsIdeal.nD Cert.KernelSsIdeal.τ).loc Cert.KernelSsIdeal.main_v97)) (v11 : (c : Dev Cert.KernelSsIdeal.nD) → Buf (Elt Ideal) ((c.tc : Thread Cert.KernelSsIdeal.nD Cert.KernelSsIdeal.τ).loc Cert.KernelSsIdeal.main_v99)) (v12 : (c : Dev Cert.KernelSsIdeal.nD) → Buf (Elt Ideal) ((c.tc : Thread Cert.KernelSsIdeal.nD Cert.KernelSsIdeal.τ).loc Cert.KernelSsIdeal.main_v101)) (v13 : (c : Dev Cert.KernelSsIdeal.nD) → Buf (Elt Ideal) ((c.tc : Thread Cert.KernelSsIdeal.nD Cert.KernelSsIdeal.τ).loc Cert.KernelSsIdeal.main_v103)) (v14 : (c : Dev Cert.KernelSsIdeal.nD) → Buf (Elt Ideal) ((c.tc : Thread Cert.KernelSsIdeal.nD Cert.KernelSsIdeal.τ).loc Cert.KernelSsIdeal.main_v107)) (v15 : (c : Dev Cert.KernelSsIdeal.nD) → Buf (Elt Ideal) ((c.tc : Thread Cert.KernelSsIdeal.nD Cert.KernelSsIdeal.τ).loc Cert.KernelSsIdeal.main_v111)) (v16 : (c : Dev Cert.KernelSsIdeal.nD) → Buf (Elt Ideal) ((c.tc : Thread Cert.KernelSsIdeal.nD Cert.KernelSsIdeal.τ).loc Cert.KernelSsIdeal.main_v115)) (v17 : (c : Dev Cert.KernelSsIdeal.nD) → Buf (Elt Ideal) ((c.tc : Thread Cert.KernelSsIdeal.nD Cert.KernelSsIdeal.τ).loc Cert.KernelSsIdeal.main_v117)) (v18 : (c : Dev Cert.KernelSsIdeal.nD) → Buf (Elt Ideal) ((c.tc : Thread Cert.KernelSsIdeal.nD Cert.KernelSsIdeal.τ).loc Cert.KernelSsIdeal.main_v128)) (v19 : (c : Dev Cert.KernelSsIdeal.nD) → Buf (Elt Ideal) ((c.tc : Thread Cert.KernelSsIdeal.nD Cert.KernelSsIdeal.τ).loc Cert.KernelSsIdeal.main_v133)) (v20 : (c : Dev Cert.KernelSsIdeal.nD) → Buf (Elt Ideal) ((c.tc : Thread Cert.KernelSsIdeal.nD Cert.KernelSsIdeal.τ).loc Cert.KernelSsIdeal.main_v123)),
      θ_run (Cert.KernelSsIdeal.defs (F := Ideal)) (onTc (τ := Cert.KernelSsIdeal.τ) (Cert.KernelSsIdeal.main (F := Ideal))) ⟨m, fun _ => 0, g⟩ (fun r => ∀ c : Dev Cert.KernelSsIdeal.nD,
          r.2.mem ((c.tc : Thread Cert.KernelSsIdeal.nD Cert.KernelSsIdeal.τ).loc Cert.KernelSsIdeal.main_v69) = v0 c
          ∧ r.2.mem ((c.tc : Thread Cert.KernelSsIdeal.nD Cert.KernelSsIdeal.τ).loc Cert.KernelSsIdeal.main_v73) = v1 c
          ∧ r.2.mem ((c.tc : Thread Cert.KernelSsIdeal.nD Cert.KernelSsIdeal.τ).loc Cert.KernelSsIdeal.main_v77) = v2 c
          ∧ r.2.mem ((c.tc : Thread Cert.KernelSsIdeal.nD Cert.KernelSsIdeal.τ).loc Cert.KernelSsIdeal.main_v81) = v3 c
          ∧ r.2.mem ((c.tc : Thread Cert.KernelSsIdeal.nD Cert.KernelSsIdeal.τ).loc Cert.KernelSsIdeal.main_v83) = v4 c
          ∧ r.2.mem ((c.tc : Thread Cert.KernelSsIdeal.nD Cert.KernelSsIdeal.τ).loc Cert.KernelSsIdeal.main_v85) = v5 c
          ∧ r.2.mem ((c.tc : Thread Cert.KernelSsIdeal.nD Cert.KernelSsIdeal.τ).loc Cert.KernelSsIdeal.main_v89) = v6 c
          ∧ r.2.mem ((c.tc : Thread Cert.KernelSsIdeal.nD Cert.KernelSsIdeal.τ).loc Cert.KernelSsIdeal.main_v91) = v7 c
          ∧ r.2.mem ((c.tc : Thread Cert.KernelSsIdeal.nD Cert.KernelSsIdeal.τ).loc Cert.KernelSsIdeal.main_v93) = v8 c
          ∧ r.2.mem ((c.tc : Thread Cert.KernelSsIdeal.nD Cert.KernelSsIdeal.τ).loc Cert.KernelSsIdeal.main_v95) = v9 c
          ∧ r.2.mem ((c.tc : Thread Cert.KernelSsIdeal.nD Cert.KernelSsIdeal.τ).loc Cert.KernelSsIdeal.main_v97) = v10 c
          ∧ r.2.mem ((c.tc : Thread Cert.KernelSsIdeal.nD Cert.KernelSsIdeal.τ).loc Cert.KernelSsIdeal.main_v99) = v11 c
          ∧ r.2.mem ((c.tc : Thread Cert.KernelSsIdeal.nD Cert.KernelSsIdeal.τ).loc Cert.KernelSsIdeal.main_v101) = v12 c
          ∧ r.2.mem ((c.tc : Thread Cert.KernelSsIdeal.nD Cert.KernelSsIdeal.τ).loc Cert.KernelSsIdeal.main_v103) = v13 c
          ∧ r.2.mem ((c.tc : Thread Cert.KernelSsIdeal.nD Cert.KernelSsIdeal.τ).loc Cert.KernelSsIdeal.main_v107) = v14 c
          ∧ r.2.mem ((c.tc : Thread Cert.KernelSsIdeal.nD Cert.KernelSsIdeal.τ).loc Cert.KernelSsIdeal.main_v111) = v15 c
          ∧ r.2.mem ((c.tc : Thread Cert.KernelSsIdeal.nD Cert.KernelSsIdeal.τ).loc Cert.KernelSsIdeal.main_v115) = v16 c
          ∧ r.2.mem ((c.tc : Thread Cert.KernelSsIdeal.nD Cert.KernelSsIdeal.τ).loc Cert.KernelSsIdeal.main_v117) = v17 c
          ∧ r.2.mem ((c.tc : Thread Cert.KernelSsIdeal.nD Cert.KernelSsIdeal.τ).loc Cert.KernelSsIdeal.main_v128) = v18 c
          ∧ r.2.mem ((c.tc : Thread Cert.KernelSsIdeal.nD Cert.KernelSsIdeal.τ).loc Cert.KernelSsIdeal.main_v133) = v19 c
          ∧ r.2.mem ((c.tc : Thread Cert.KernelSsIdeal.nD Cert.KernelSsIdeal.τ).loc Cert.KernelSsIdeal.main_v123) = v20 c
          ∧ r.2.mem ((c.tc : Thread Cert.KernelSsIdeal.nD Cert.KernelSsIdeal.τ).loc Cert.KernelSsIdeal.main_arg0) = m ((c.tc : Thread Cert.KernelSsIdeal.nD Cert.KernelSsIdeal.τ).loc Cert.KernelSsIdeal.main_arg0)
          ∧ r.2.mem ((c.tc : Thread Cert.KernelSsIdeal.nD Cert.KernelSsIdeal.τ).loc Cert.KernelSsIdeal.main_arg1) = m ((c.tc : Thread Cert.KernelSsIdeal.nD Cert.KernelSsIdeal.τ).loc Cert.KernelSsIdeal.main_arg1)
          ∧ r.2.mem ((c.tc : Thread Cert.KernelSsIdeal.nD Cert.KernelSsIdeal.τ).loc Cert.KernelSsIdeal.main_arg2) = m ((c.tc : Thread Cert.KernelSsIdeal.nD Cert.KernelSsIdeal.τ).loc Cert.KernelSsIdeal.main_arg2)
          ∧ r.2.mem ((c.tc : Thread Cert.KernelSsIdeal.nD Cert.KernelSsIdeal.τ).loc Cert.KernelSsIdeal.main_arg3) = m ((c.tc : Thread Cert.KernelSsIdeal.nD Cert.KernelSsIdeal.τ).loc Cert.KernelSsIdeal.main_arg3)
          ∧ r.2.mem ((c.tc : Thread Cert.KernelSsIdeal.nD Cert.KernelSsIdeal.τ).loc Cert.KernelSsIdeal.main_arg4) = m ((c.tc : Thread Cert.KernelSsIdeal.nD Cert.KernelSsIdeal.τ).loc Cert.KernelSsIdeal.main_arg4)
          ∧ r.2.mem ((c.tc : Thread Cert.KernelSsIdeal.nD Cert.KernelSsIdeal.τ).loc Cert.KernelSsIdeal.main_arg5) = m ((c.tc : Thread Cert.KernelSsIdeal.nD Cert.KernelSsIdeal.τ).loc Cert.KernelSsIdeal.main_arg5)
          ∧ r.2.mem ((c.tc : Thread Cert.KernelSsIdeal.nD Cert.KernelSsIdeal.τ).loc Cert.KernelSsIdeal.main_arg6) = m ((c.tc : Thread Cert.KernelSsIdeal.nD Cert.KernelSsIdeal.τ).loc Cert.KernelSsIdeal.main_arg6)
          ∧ r.2.mem ((c.tc : Thread Cert.KernelSsIdeal.nD Cert.KernelSsIdeal.τ).loc Cert.KernelSsIdeal.main_arg7) = m ((c.tc : Thread Cert.KernelSsIdeal.nD Cert.KernelSsIdeal.τ).loc Cert.KernelSsIdeal.main_arg7)
          ∧ r.2.mem ((c.tc : Thread Cert.KernelSsIdeal.nD Cert.KernelSsIdeal.τ).loc Cert.KernelSsIdeal.main_arg8) = m ((c.tc : Thread Cert.KernelSsIdeal.nD Cert.KernelSsIdeal.τ).loc Cert.KernelSsIdeal.main_arg8)
          ∧ r.2.mem ((c.tc : Thread Cert.KernelSsIdeal.nD Cert.KernelSsIdeal.τ).loc Cert.KernelSsIdeal.main_arg9) = m ((c.tc : Thread Cert.KernelSsIdeal.nD Cert.KernelSsIdeal.τ).loc Cert.KernelSsIdeal.main_arg9)
          ∧ r.2.mem ((c.tc : Thread Cert.KernelSsIdeal.nD Cert.KernelSsIdeal.τ).loc Cert.KernelSsIdeal.main_arg10) = m ((c.tc : Thread Cert.KernelSsIdeal.nD Cert.KernelSsIdeal.τ).loc Cert.KernelSsIdeal.main_arg10)
          ∧ r.2.mem ((c.tc : Thread Cert.KernelSsIdeal.nD Cert.KernelSsIdeal.τ).loc Cert.KernelSsIdeal.main_arg11) = m ((c.tc : Thread Cert.KernelSsIdeal.nD Cert.KernelSsIdeal.τ).loc Cert.KernelSsIdeal.main_arg11)
          ∧ r.2.mem ((c.tc : Thread Cert.KernelSsIdeal.nD Cert.KernelSsIdeal.τ).loc Cert.KernelSsIdeal.main_arg12) = m ((c.tc : Thread Cert.KernelSsIdeal.nD Cert.KernelSsIdeal.τ).loc Cert.KernelSsIdeal.main_arg12)
          ∧ r.2.mem ((c.tc : Thread Cert.KernelSsIdeal.nD Cert.KernelSsIdeal.τ).loc Cert.KernelSsIdeal.main_arg13) = m ((c.tc : Thread Cert.KernelSsIdeal.nD Cert.KernelSsIdeal.τ).loc Cert.KernelSsIdeal.main_arg13)
          ∧ r.2.mem ((c.tc : Thread Cert.KernelSsIdeal.nD Cert.KernelSsIdeal.τ).loc Cert.KernelSsIdeal.main_arg14) = m ((c.tc : Thread Cert.KernelSsIdeal.nD Cert.KernelSsIdeal.τ).loc Cert.KernelSsIdeal.main_arg14)
          ∧ r.2.mem ((c.tc : Thread Cert.KernelSsIdeal.nD Cert.KernelSsIdeal.τ).loc Cert.KernelSsIdeal.main_arg15) = m ((c.tc : Thread Cert.KernelSsIdeal.nD Cert.KernelSsIdeal.τ).loc Cert.KernelSsIdeal.main_arg15)
          ∧ r.2.mem ((c.tc : Thread Cert.KernelSsIdeal.nD Cert.KernelSsIdeal.τ).loc Cert.KernelSsIdeal.main_arg16) = m ((c.tc : Thread Cert.KernelSsIdeal.nD Cert.KernelSsIdeal.τ).loc Cert.KernelSsIdeal.main_arg16)
          ∧ r.2.mem ((c.tc : Thread Cert.KernelSsIdeal.nD Cert.KernelSsIdeal.τ).loc Cert.KernelSsIdeal.main_arg17) = m ((c.tc : Thread Cert.KernelSsIdeal.nD Cert.KernelSsIdeal.τ).loc Cert.KernelSsIdeal.main_arg17)
          ∧ r.2.mem ((c.tc : Thread Cert.KernelSsIdeal.nD Cert.KernelSsIdeal.τ).loc Cert.KernelSsIdeal.main_arg18) = m ((c.tc : Thread Cert.KernelSsIdeal.nD Cert.KernelSsIdeal.τ).loc Cert.KernelSsIdeal.main_arg18)
          ∧ r.2.mem ((c.tc : Thread Cert.KernelSsIdeal.nD Cert.KernelSsIdeal.τ).loc Cert.KernelSsIdeal.main_arg19) = m ((c.tc : Thread Cert.KernelSsIdeal.nD Cert.KernelSsIdeal.τ).loc Cert.KernelSsIdeal.main_arg19)
          ∧ r.2.mem ((c.tc : Thread Cert.KernelSsIdeal.nD Cert.KernelSsIdeal.τ).loc Cert.KernelSsIdeal.main_arg20) = m ((c.tc : Thread Cert.KernelSsIdeal.nD Cert.KernelSsIdeal.τ).loc Cert.KernelSsIdeal.main_arg20)
          ∧ r.2.mem ((c.tc : Thread Cert.KernelSsIdeal.nD Cert.KernelSsIdeal.τ).loc Cert.KernelSsIdeal.main_arg21) = m ((c.tc : Thread Cert.KernelSsIdeal.nD Cert.KernelSsIdeal.τ).loc Cert.KernelSsIdeal.main_arg21))
      ∧ θ_run (Cert.ReferenceSsIdeal.defs (F := Ideal)) (onTc (τ := Cert.ReferenceSsIdeal.τ) (Cert.ReferenceSsIdeal.main (F := Ideal))) ⟨m', fun _ => 0, g'⟩ (fun r => ∀ c : Dev Cert.ReferenceSsIdeal.nD,
          r.2.mem ((c.tc : Thread Cert.ReferenceSsIdeal.nD Cert.ReferenceSsIdeal.τ).loc Cert.ReferenceSsIdeal.main_v0) = v0 c
          ∧ r.2.mem ((c.tc : Thread Cert.ReferenceSsIdeal.nD Cert.ReferenceSsIdeal.τ).loc Cert.ReferenceSsIdeal.main_v1) = v1 c
          ∧ r.2.mem ((c.tc : Thread Cert.ReferenceSsIdeal.nD Cert.ReferenceSsIdeal.τ).loc Cert.ReferenceSsIdeal.main_v2) = v2 c
          ∧ r.2.mem ((c.tc : Thread Cert.ReferenceSsIdeal.nD Cert.ReferenceSsIdeal.τ).loc Cert.ReferenceSsIdeal.main_v3) = v3 c
          ∧ r.2.mem ((c.tc : Thread Cert.ReferenceSsIdeal.nD Cert.ReferenceSsIdeal.τ).loc Cert.ReferenceSsIdeal.main_v4) = v4 c
          ∧ r.2.mem ((c.tc : Thread Cert.ReferenceSsIdeal.nD Cert.ReferenceSsIdeal.τ).loc Cert.ReferenceSsIdeal.main_v5) = v5 c
          ∧ r.2.mem ((c.tc : Thread Cert.ReferenceSsIdeal.nD Cert.ReferenceSsIdeal.τ).loc Cert.ReferenceSsIdeal.main_v6) = v6 c
          ∧ r.2.mem ((c.tc : Thread Cert.ReferenceSsIdeal.nD Cert.ReferenceSsIdeal.τ).loc Cert.ReferenceSsIdeal.main_v7) = v7 c
          ∧ r.2.mem ((c.tc : Thread Cert.ReferenceSsIdeal.nD Cert.ReferenceSsIdeal.τ).loc Cert.ReferenceSsIdeal.main_v8) = v8 c
          ∧ r.2.mem ((c.tc : Thread Cert.ReferenceSsIdeal.nD Cert.ReferenceSsIdeal.τ).loc Cert.ReferenceSsIdeal.main_v9) = v9 c
          ∧ r.2.mem ((c.tc : Thread Cert.ReferenceSsIdeal.nD Cert.ReferenceSsIdeal.τ).loc Cert.ReferenceSsIdeal.main_v10) = v10 c
          ∧ r.2.mem ((c.tc : Thread Cert.ReferenceSsIdeal.nD Cert.ReferenceSsIdeal.τ).loc Cert.ReferenceSsIdeal.main_v11) = v11 c
          ∧ r.2.mem ((c.tc : Thread Cert.ReferenceSsIdeal.nD Cert.ReferenceSsIdeal.τ).loc Cert.ReferenceSsIdeal.main_v12) = v12 c
          ∧ r.2.mem ((c.tc : Thread Cert.ReferenceSsIdeal.nD Cert.ReferenceSsIdeal.τ).loc Cert.ReferenceSsIdeal.main_v13) = v13 c
          ∧ r.2.mem ((c.tc : Thread Cert.ReferenceSsIdeal.nD Cert.ReferenceSsIdeal.τ).loc Cert.ReferenceSsIdeal.main_v14) = v14 c
          ∧ r.2.mem ((c.tc : Thread Cert.ReferenceSsIdeal.nD Cert.ReferenceSsIdeal.τ).loc Cert.ReferenceSsIdeal.main_v15) = v15 c
          ∧ r.2.mem ((c.tc : Thread Cert.ReferenceSsIdeal.nD Cert.ReferenceSsIdeal.τ).loc Cert.ReferenceSsIdeal.main_v16) = v16 c
          ∧ r.2.mem ((c.tc : Thread Cert.ReferenceSsIdeal.nD Cert.ReferenceSsIdeal.τ).loc Cert.ReferenceSsIdeal.main_v17) = v17 c
          ∧ r.2.mem ((c.tc : Thread Cert.ReferenceSsIdeal.nD Cert.ReferenceSsIdeal.τ).loc Cert.ReferenceSsIdeal.main_v25) = v18 c
          ∧ r.2.mem ((c.tc : Thread Cert.ReferenceSsIdeal.nD Cert.ReferenceSsIdeal.τ).loc Cert.ReferenceSsIdeal.main_v30) = v19 c
          ∧ r.2.mem ((c.tc : Thread Cert.ReferenceSsIdeal.nD Cert.ReferenceSsIdeal.τ).loc Cert.ReferenceSsIdeal.main_v20) = v20 c
          ∧ r.2.mem ((c.tc : Thread Cert.ReferenceSsIdeal.nD Cert.ReferenceSsIdeal.τ).loc Cert.ReferenceSsIdeal.main_arg0) = m' ((c.tc : Thread Cert.ReferenceSsIdeal.nD Cert.ReferenceSsIdeal.τ).loc Cert.ReferenceSsIdeal.main_arg0)
          ∧ r.2.mem ((c.tc : Thread Cert.ReferenceSsIdeal.nD Cert.ReferenceSsIdeal.τ).loc Cert.ReferenceSsIdeal.main_arg1) = m' ((c.tc : Thread Cert.ReferenceSsIdeal.nD Cert.ReferenceSsIdeal.τ).loc Cert.ReferenceSsIdeal.main_arg1)
          ∧ r.2.mem ((c.tc : Thread Cert.ReferenceSsIdeal.nD Cert.ReferenceSsIdeal.τ).loc Cert.ReferenceSsIdeal.main_arg2) = m' ((c.tc : Thread Cert.ReferenceSsIdeal.nD Cert.ReferenceSsIdeal.τ).loc Cert.ReferenceSsIdeal.main_arg2)
          ∧ r.2.mem ((c.tc : Thread Cert.ReferenceSsIdeal.nD Cert.ReferenceSsIdeal.τ).loc Cert.ReferenceSsIdeal.main_arg3) = m' ((c.tc : Thread Cert.ReferenceSsIdeal.nD Cert.ReferenceSsIdeal.τ).loc Cert.ReferenceSsIdeal.main_arg3)
          ∧ r.2.mem ((c.tc : Thread Cert.ReferenceSsIdeal.nD Cert.ReferenceSsIdeal.τ).loc Cert.ReferenceSsIdeal.main_arg4) = m' ((c.tc : Thread Cert.ReferenceSsIdeal.nD Cert.ReferenceSsIdeal.τ).loc Cert.ReferenceSsIdeal.main_arg4)
          ∧ r.2.mem ((c.tc : Thread Cert.ReferenceSsIdeal.nD Cert.ReferenceSsIdeal.τ).loc Cert.ReferenceSsIdeal.main_arg5) = m' ((c.tc : Thread Cert.ReferenceSsIdeal.nD Cert.ReferenceSsIdeal.τ).loc Cert.ReferenceSsIdeal.main_arg5)
          ∧ r.2.mem ((c.tc : Thread Cert.ReferenceSsIdeal.nD Cert.ReferenceSsIdeal.τ).loc Cert.ReferenceSsIdeal.main_arg6) = m' ((c.tc : Thread Cert.ReferenceSsIdeal.nD Cert.ReferenceSsIdeal.τ).loc Cert.ReferenceSsIdeal.main_arg6)
          ∧ r.2.mem ((c.tc : Thread Cert.ReferenceSsIdeal.nD Cert.ReferenceSsIdeal.τ).loc Cert.ReferenceSsIdeal.main_arg7) = m' ((c.tc : Thread Cert.ReferenceSsIdeal.nD Cert.ReferenceSsIdeal.τ).loc Cert.ReferenceSsIdeal.main_arg7)
          ∧ r.2.mem ((c.tc : Thread Cert.ReferenceSsIdeal.nD Cert.ReferenceSsIdeal.τ).loc Cert.ReferenceSsIdeal.main_arg8) = m' ((c.tc : Thread Cert.ReferenceSsIdeal.nD Cert.ReferenceSsIdeal.τ).loc Cert.ReferenceSsIdeal.main_arg8)
          ∧ r.2.mem ((c.tc : Thread Cert.ReferenceSsIdeal.nD Cert.ReferenceSsIdeal.τ).loc Cert.ReferenceSsIdeal.main_arg9) = m' ((c.tc : Thread Cert.ReferenceSsIdeal.nD Cert.ReferenceSsIdeal.τ).loc Cert.ReferenceSsIdeal.main_arg9)
          ∧ r.2.mem ((c.tc : Thread Cert.ReferenceSsIdeal.nD Cert.ReferenceSsIdeal.τ).loc Cert.ReferenceSsIdeal.main_arg10) = m' ((c.tc : Thread Cert.ReferenceSsIdeal.nD Cert.ReferenceSsIdeal.τ).loc Cert.ReferenceSsIdeal.main_arg10)
          ∧ r.2.mem ((c.tc : Thread Cert.ReferenceSsIdeal.nD Cert.ReferenceSsIdeal.τ).loc Cert.ReferenceSsIdeal.main_arg11) = m' ((c.tc : Thread Cert.ReferenceSsIdeal.nD Cert.ReferenceSsIdeal.τ).loc Cert.ReferenceSsIdeal.main_arg11)
          ∧ r.2.mem ((c.tc : Thread Cert.ReferenceSsIdeal.nD Cert.ReferenceSsIdeal.τ).loc Cert.ReferenceSsIdeal.main_arg12) = m' ((c.tc : Thread Cert.ReferenceSsIdeal.nD Cert.ReferenceSsIdeal.τ).loc Cert.ReferenceSsIdeal.main_arg12)
          ∧ r.2.mem ((c.tc : Thread Cert.ReferenceSsIdeal.nD Cert.ReferenceSsIdeal.τ).loc Cert.ReferenceSsIdeal.main_arg13) = m' ((c.tc : Thread Cert.ReferenceSsIdeal.nD Cert.ReferenceSsIdeal.τ).loc Cert.ReferenceSsIdeal.main_arg13)
          ∧ r.2.mem ((c.tc : Thread Cert.ReferenceSsIdeal.nD Cert.ReferenceSsIdeal.τ).loc Cert.ReferenceSsIdeal.main_arg14) = m' ((c.tc : Thread Cert.ReferenceSsIdeal.nD Cert.ReferenceSsIdeal.τ).loc Cert.ReferenceSsIdeal.main_arg14)
          ∧ r.2.mem ((c.tc : Thread Cert.ReferenceSsIdeal.nD Cert.ReferenceSsIdeal.τ).loc Cert.ReferenceSsIdeal.main_arg15) = m' ((c.tc : Thread Cert.ReferenceSsIdeal.nD Cert.ReferenceSsIdeal.τ).loc Cert.ReferenceSsIdeal.main_arg15)
          ∧ r.2.mem ((c.tc : Thread Cert.ReferenceSsIdeal.nD Cert.ReferenceSsIdeal.τ).loc Cert.ReferenceSsIdeal.main_arg16) = m' ((c.tc : Thread Cert.ReferenceSsIdeal.nD Cert.ReferenceSsIdeal.τ).loc Cert.ReferenceSsIdeal.main_arg16)
          ∧ r.2.mem ((c.tc : Thread Cert.ReferenceSsIdeal.nD Cert.ReferenceSsIdeal.τ).loc Cert.ReferenceSsIdeal.main_arg17) = m' ((c.tc : Thread Cert.ReferenceSsIdeal.nD Cert.ReferenceSsIdeal.τ).loc Cert.ReferenceSsIdeal.main_arg17)
          ∧ r.2.mem ((c.tc : Thread Cert.ReferenceSsIdeal.nD Cert.ReferenceSsIdeal.τ).loc Cert.ReferenceSsIdeal.main_arg18) = m' ((c.tc : Thread Cert.ReferenceSsIdeal.nD Cert.ReferenceSsIdeal.τ).loc Cert.ReferenceSsIdeal.main_arg18)
          ∧ r.2.mem ((c.tc : Thread Cert.ReferenceSsIdeal.nD Cert.ReferenceSsIdeal.τ).loc Cert.ReferenceSsIdeal.main_arg19) = m' ((c.tc : Thread Cert.ReferenceSsIdeal.nD Cert.ReferenceSsIdeal.τ).loc Cert.ReferenceSsIdeal.main_arg19)
          ∧ r.2.mem ((c.tc : Thread Cert.ReferenceSsIdeal.nD Cert.ReferenceSsIdeal.τ).loc Cert.ReferenceSsIdeal.main_arg20) = m' ((c.tc : Thread Cert.ReferenceSsIdeal.nD Cert.ReferenceSsIdeal.τ).loc Cert.ReferenceSsIdeal.main_arg20)
          ∧ r.2.mem ((c.tc : Thread Cert.ReferenceSsIdeal.nD Cert.ReferenceSsIdeal.τ).loc Cert.ReferenceSsIdeal.main_arg21) = m' ((c.tc : Thread Cert.ReferenceSsIdeal.nD Cert.ReferenceSsIdeal.τ).loc Cert.ReferenceSsIdeal.main_arg21))

def preserves_KernelSa_KernelSaIdeal : Prop :=
  True

def algebraic_KernelSaIdeal_ReferenceSaIdeal [hKernelSaIdeal : Cert.KernelSaIdeal.Facts] [hReferenceSaIdeal : Cert.ReferenceSaIdeal.Facts] : Prop :=
  ∀ (m : (ℓ : Loc Cert.KernelSaIdeal.nD Cert.KernelSaIdeal.τ Cert.KernelSaIdeal.sig) → Buf (Elt Ideal) ℓ) (g : Dev Cert.KernelSaIdeal.nD → PrngReg)
    (m' : (ℓ : Loc Cert.ReferenceSaIdeal.nD Cert.ReferenceSaIdeal.τ Cert.ReferenceSaIdeal.sig) → Buf (Elt Ideal) ℓ) (g' : Dev Cert.ReferenceSaIdeal.nD → PrngReg), Pre_KernelSaIdeal m →
    (∀ c : Dev Cert.KernelSaIdeal.nD,
      m' ((c.tc : Thread Cert.ReferenceSaIdeal.nD Cert.ReferenceSaIdeal.τ).loc Cert.ReferenceSaIdeal.main_arg0) = m ((c.tc : Thread Cert.KernelSaIdeal.nD Cert.KernelSaIdeal.τ).loc Cert.KernelSaIdeal.main_arg0)
      ∧ m' ((c.tc : Thread Cert.ReferenceSaIdeal.nD Cert.ReferenceSaIdeal.τ).loc Cert.ReferenceSaIdeal.main_arg1) = m ((c.tc : Thread Cert.KernelSaIdeal.nD Cert.KernelSaIdeal.τ).loc Cert.KernelSaIdeal.main_arg1)
      ∧ m' ((c.tc : Thread Cert.ReferenceSaIdeal.nD Cert.ReferenceSaIdeal.τ).loc Cert.ReferenceSaIdeal.main_arg2) = m ((c.tc : Thread Cert.KernelSaIdeal.nD Cert.KernelSaIdeal.τ).loc Cert.KernelSaIdeal.main_arg2)
      ∧ m' ((c.tc : Thread Cert.ReferenceSaIdeal.nD Cert.ReferenceSaIdeal.τ).loc Cert.ReferenceSaIdeal.main_arg3) = m ((c.tc : Thread Cert.KernelSaIdeal.nD Cert.KernelSaIdeal.τ).loc Cert.KernelSaIdeal.main_arg3)
      ∧ m' ((c.tc : Thread Cert.ReferenceSaIdeal.nD Cert.ReferenceSaIdeal.τ).loc Cert.ReferenceSaIdeal.main_arg4) = m ((c.tc : Thread Cert.KernelSaIdeal.nD Cert.KernelSaIdeal.τ).loc Cert.KernelSaIdeal.main_arg4)
      ∧ m' ((c.tc : Thread Cert.ReferenceSaIdeal.nD Cert.ReferenceSaIdeal.τ).loc Cert.ReferenceSaIdeal.main_arg5) = m ((c.tc : Thread Cert.KernelSaIdeal.nD Cert.KernelSaIdeal.τ).loc Cert.KernelSaIdeal.main_arg5)
      ∧ m' ((c.tc : Thread Cert.ReferenceSaIdeal.nD Cert.ReferenceSaIdeal.τ).loc Cert.ReferenceSaIdeal.main_arg6) = m ((c.tc : Thread Cert.KernelSaIdeal.nD Cert.KernelSaIdeal.τ).loc Cert.KernelSaIdeal.main_arg6)
      ∧ m' ((c.tc : Thread Cert.ReferenceSaIdeal.nD Cert.ReferenceSaIdeal.τ).loc Cert.ReferenceSaIdeal.main_arg7) = m ((c.tc : Thread Cert.KernelSaIdeal.nD Cert.KernelSaIdeal.τ).loc Cert.KernelSaIdeal.main_arg7)
      ∧ m' ((c.tc : Thread Cert.ReferenceSaIdeal.nD Cert.ReferenceSaIdeal.τ).loc Cert.ReferenceSaIdeal.main_arg8) = m ((c.tc : Thread Cert.KernelSaIdeal.nD Cert.KernelSaIdeal.τ).loc Cert.KernelSaIdeal.main_arg8)
      ∧ m' ((c.tc : Thread Cert.ReferenceSaIdeal.nD Cert.ReferenceSaIdeal.τ).loc Cert.ReferenceSaIdeal.main_arg9) = m ((c.tc : Thread Cert.KernelSaIdeal.nD Cert.KernelSaIdeal.τ).loc Cert.KernelSaIdeal.main_arg9)
      ∧ m' ((c.tc : Thread Cert.ReferenceSaIdeal.nD Cert.ReferenceSaIdeal.τ).loc Cert.ReferenceSaIdeal.main_arg10) = m ((c.tc : Thread Cert.KernelSaIdeal.nD Cert.KernelSaIdeal.τ).loc Cert.KernelSaIdeal.main_arg10)
      ∧ m' ((c.tc : Thread Cert.ReferenceSaIdeal.nD Cert.ReferenceSaIdeal.τ).loc Cert.ReferenceSaIdeal.main_arg11) = m ((c.tc : Thread Cert.KernelSaIdeal.nD Cert.KernelSaIdeal.τ).loc Cert.KernelSaIdeal.main_arg11)
      ∧ m' ((c.tc : Thread Cert.ReferenceSaIdeal.nD Cert.ReferenceSaIdeal.τ).loc Cert.ReferenceSaIdeal.main_arg12) = m ((c.tc : Thread Cert.KernelSaIdeal.nD Cert.KernelSaIdeal.τ).loc Cert.KernelSaIdeal.main_arg12)
      ∧ m' ((c.tc : Thread Cert.ReferenceSaIdeal.nD Cert.ReferenceSaIdeal.τ).loc Cert.ReferenceSaIdeal.main_arg13) = m ((c.tc : Thread Cert.KernelSaIdeal.nD Cert.KernelSaIdeal.τ).loc Cert.KernelSaIdeal.main_arg13)
      ∧ m' ((c.tc : Thread Cert.ReferenceSaIdeal.nD Cert.ReferenceSaIdeal.τ).loc Cert.ReferenceSaIdeal.main_arg14) = m ((c.tc : Thread Cert.KernelSaIdeal.nD Cert.KernelSaIdeal.τ).loc Cert.KernelSaIdeal.main_arg14)
      ∧ m' ((c.tc : Thread Cert.ReferenceSaIdeal.nD Cert.ReferenceSaIdeal.τ).loc Cert.ReferenceSaIdeal.main_arg15) = m ((c.tc : Thread Cert.KernelSaIdeal.nD Cert.KernelSaIdeal.τ).loc Cert.KernelSaIdeal.main_arg15)
      ∧ m' ((c.tc : Thread Cert.ReferenceSaIdeal.nD Cert.ReferenceSaIdeal.τ).loc Cert.ReferenceSaIdeal.main_arg16) = m ((c.tc : Thread Cert.KernelSaIdeal.nD Cert.KernelSaIdeal.τ).loc Cert.KernelSaIdeal.main_arg16)
      ∧ m' ((c.tc : Thread Cert.ReferenceSaIdeal.nD Cert.ReferenceSaIdeal.τ).loc Cert.ReferenceSaIdeal.main_arg17) = m ((c.tc : Thread Cert.KernelSaIdeal.nD Cert.KernelSaIdeal.τ).loc Cert.KernelSaIdeal.main_arg17)
      ∧ m' ((c.tc : Thread Cert.ReferenceSaIdeal.nD Cert.ReferenceSaIdeal.τ).loc Cert.ReferenceSaIdeal.main_arg18) = m ((c.tc : Thread Cert.KernelSaIdeal.nD Cert.KernelSaIdeal.τ).loc Cert.KernelSaIdeal.main_arg18)
      ∧ m' ((c.tc : Thread Cert.ReferenceSaIdeal.nD Cert.ReferenceSaIdeal.τ).loc Cert.ReferenceSaIdeal.main_arg19) = m ((c.tc : Thread Cert.KernelSaIdeal.nD Cert.KernelSaIdeal.τ).loc Cert.KernelSaIdeal.main_arg19)
      ∧ m' ((c.tc : Thread Cert.ReferenceSaIdeal.nD Cert.ReferenceSaIdeal.τ).loc Cert.ReferenceSaIdeal.main_arg20) = m ((c.tc : Thread Cert.KernelSaIdeal.nD Cert.KernelSaIdeal.τ).loc Cert.KernelSaIdeal.main_arg20)) →
    ∃ (v0 : (c : Dev Cert.KernelSaIdeal.nD) → Buf (Elt Ideal) ((c.tc : Thread Cert.KernelSaIdeal.nD Cert.KernelSaIdeal.τ).loc Cert.KernelSaIdeal.main_v77)) (v1 : (c : Dev Cert.KernelSaIdeal.nD) → Buf (Elt Ideal) ((c.tc : Thread Cert.KernelSaIdeal.nD Cert.KernelSaIdeal.τ).loc Cert.KernelSaIdeal.main_v79)) (v2 : (c : Dev Cert.KernelSaIdeal.nD) → Buf (Elt Ideal) ((c.tc : Thread Cert.KernelSaIdeal.nD Cert.KernelSaIdeal.τ).loc Cert.KernelSaIdeal.main_v83)) (v3 : (c : Dev Cert.KernelSaIdeal.nD) → Buf (Elt Ideal) ((c.tc : Thread Cert.KernelSaIdeal.nD Cert.KernelSaIdeal.τ).loc Cert.KernelSaIdeal.main_v87)) (v4 : (c : Dev Cert.KernelSaIdeal.nD) → Buf (Elt Ideal) ((c.tc : Thread Cert.KernelSaIdeal.nD Cert.KernelSaIdeal.τ).loc Cert.KernelSaIdeal.main_v91)) (v5 : (c : Dev Cert.KernelSaIdeal.nD) → Buf (Elt Ideal) ((c.tc : Thread Cert.KernelSaIdeal.nD Cert.KernelSaIdeal.τ).loc Cert.KernelSaIdeal.main_v93)) (v6 : (c : Dev Cert.KernelSaIdeal.nD) → Buf (Elt Ideal) ((c.tc : Thread Cert.KernelSaIdeal.nD Cert.KernelSaIdeal.τ).loc Cert.KernelSaIdeal.main_v95)) (v7 : (c : Dev Cert.KernelSaIdeal.nD) → Buf (Elt Ideal) ((c.tc : Thread Cert.KernelSaIdeal.nD Cert.KernelSaIdeal.τ).loc Cert.KernelSaIdeal.main_v99)) (v8 : (c : Dev Cert.KernelSaIdeal.nD) → Buf (Elt Ideal) ((c.tc : Thread Cert.KernelSaIdeal.nD Cert.KernelSaIdeal.τ).loc Cert.KernelSaIdeal.main_v101)) (v9 : (c : Dev Cert.KernelSaIdeal.nD) → Buf (Elt Ideal) ((c.tc : Thread Cert.KernelSaIdeal.nD Cert.KernelSaIdeal.τ).loc Cert.KernelSaIdeal.main_v103)) (v10 : (c : Dev Cert.KernelSaIdeal.nD) → Buf (Elt Ideal) ((c.tc : Thread Cert.KernelSaIdeal.nD Cert.KernelSaIdeal.τ).loc Cert.KernelSaIdeal.main_v105)) (v11 : (c : Dev Cert.KernelSaIdeal.nD) → Buf (Elt Ideal) ((c.tc : Thread Cert.KernelSaIdeal.nD Cert.KernelSaIdeal.τ).loc Cert.KernelSaIdeal.main_v107)) (v12 : (c : Dev Cert.KernelSaIdeal.nD) → Buf (Elt Ideal) ((c.tc : Thread Cert.KernelSaIdeal.nD Cert.KernelSaIdeal.τ).loc Cert.KernelSaIdeal.main_v109)) (v13 : (c : Dev Cert.KernelSaIdeal.nD) → Buf (Elt Ideal) ((c.tc : Thread Cert.KernelSaIdeal.nD Cert.KernelSaIdeal.τ).loc Cert.KernelSaIdeal.main_v111)) (v14 : (c : Dev Cert.KernelSaIdeal.nD) → Buf (Elt Ideal) ((c.tc : Thread Cert.KernelSaIdeal.nD Cert.KernelSaIdeal.τ).loc Cert.KernelSaIdeal.main_v113)) (v15 : (c : Dev Cert.KernelSaIdeal.nD) → Buf (Elt Ideal) ((c.tc : Thread Cert.KernelSaIdeal.nD Cert.KernelSaIdeal.τ).loc Cert.KernelSaIdeal.main_v115)) (v16 : (c : Dev Cert.KernelSaIdeal.nD) → Buf (Elt Ideal) ((c.tc : Thread Cert.KernelSaIdeal.nD Cert.KernelSaIdeal.τ).loc Cert.KernelSaIdeal.main_v119)) (v17 : (c : Dev Cert.KernelSaIdeal.nD) → Buf (Elt Ideal) ((c.tc : Thread Cert.KernelSaIdeal.nD Cert.KernelSaIdeal.τ).loc Cert.KernelSaIdeal.main_v123)) (v18 : (c : Dev Cert.KernelSaIdeal.nD) → Buf (Elt Ideal) ((c.tc : Thread Cert.KernelSaIdeal.nD Cert.KernelSaIdeal.τ).loc Cert.KernelSaIdeal.main_v127)) (v19 : (c : Dev Cert.KernelSaIdeal.nD) → Buf (Elt Ideal) ((c.tc : Thread Cert.KernelSaIdeal.nD Cert.KernelSaIdeal.τ).loc Cert.KernelSaIdeal.main_v129)) (v20 : (c : Dev Cert.KernelSaIdeal.nD) → Buf (Elt Ideal) ((c.tc : Thread Cert.KernelSaIdeal.nD Cert.KernelSaIdeal.τ).loc Cert.KernelSaIdeal.main_v131)) (v21 : (c : Dev Cert.KernelSaIdeal.nD) → Buf (Elt Ideal) ((c.tc : Thread Cert.KernelSaIdeal.nD Cert.KernelSaIdeal.τ).loc Cert.KernelSaIdeal.main_v133)) (v22 : (c : Dev Cert.KernelSaIdeal.nD) → Buf (Elt Ideal) ((c.tc : Thread Cert.KernelSaIdeal.nD Cert.KernelSaIdeal.τ).loc Cert.KernelSaIdeal.main_v135)) (v23 : (c : Dev Cert.KernelSaIdeal.nD) → Buf (Elt Ideal) ((c.tc : Thread Cert.KernelSaIdeal.nD Cert.KernelSaIdeal.τ).loc Cert.KernelSaIdeal.main_v139)) (v24 : (c : Dev Cert.KernelSaIdeal.nD) → Buf (Elt Ideal) ((c.tc : Thread Cert.KernelSaIdeal.nD Cert.KernelSaIdeal.τ).loc Cert.KernelSaIdeal.main_v143)) (v25 : (c : Dev Cert.KernelSaIdeal.nD) → Buf (Elt Ideal) ((c.tc : Thread Cert.KernelSaIdeal.nD Cert.KernelSaIdeal.τ).loc Cert.KernelSaIdeal.main_v147)) (v26 : (c : Dev Cert.KernelSaIdeal.nD) → Buf (Elt Ideal) ((c.tc : Thread Cert.KernelSaIdeal.nD Cert.KernelSaIdeal.τ).loc Cert.KernelSaIdeal.main_v149)) (v27 : (c : Dev Cert.KernelSaIdeal.nD) → Buf (Elt Ideal) ((c.tc : Thread Cert.KernelSaIdeal.nD Cert.KernelSaIdeal.τ).loc Cert.KernelSaIdeal.main_v151)) (v28 : (c : Dev Cert.KernelSaIdeal.nD) → Buf (Elt Ideal) ((c.tc : Thread Cert.KernelSaIdeal.nD Cert.KernelSaIdeal.τ).loc Cert.KernelSaIdeal.main_v155)) (v29 : (c : Dev Cert.KernelSaIdeal.nD) → Buf (Elt Ideal) ((c.tc : Thread Cert.KernelSaIdeal.nD Cert.KernelSaIdeal.τ).loc Cert.KernelSaIdeal.main_v157)) (v30 : (c : Dev Cert.KernelSaIdeal.nD) → Buf (Elt Ideal) ((c.tc : Thread Cert.KernelSaIdeal.nD Cert.KernelSaIdeal.τ).loc Cert.KernelSaIdeal.main_v159)) (v31 : (c : Dev Cert.KernelSaIdeal.nD) → Buf (Elt Ideal) ((c.tc : Thread Cert.KernelSaIdeal.nD Cert.KernelSaIdeal.τ).loc Cert.KernelSaIdeal.main_v161)) (v32 : (c : Dev Cert.KernelSaIdeal.nD) → Buf (Elt Ideal) ((c.tc : Thread Cert.KernelSaIdeal.nD Cert.KernelSaIdeal.τ).loc Cert.KernelSaIdeal.main_v163)) (v33 : (c : Dev Cert.KernelSaIdeal.nD) → Buf (Elt Ideal) ((c.tc : Thread Cert.KernelSaIdeal.nD Cert.KernelSaIdeal.τ).loc Cert.KernelSaIdeal.main_v165)) (v34 : (c : Dev Cert.KernelSaIdeal.nD) → Buf (Elt Ideal) ((c.tc : Thread Cert.KernelSaIdeal.nD Cert.KernelSaIdeal.τ).loc Cert.KernelSaIdeal.main_v167)) (v35 : (c : Dev Cert.KernelSaIdeal.nD) → Buf (Elt Ideal) ((c.tc : Thread Cert.KernelSaIdeal.nD Cert.KernelSaIdeal.τ).loc Cert.KernelSaIdeal.main_v169)) (v36 : (c : Dev Cert.KernelSaIdeal.nD) → Buf (Elt Ideal) ((c.tc : Thread Cert.KernelSaIdeal.nD Cert.KernelSaIdeal.τ).loc Cert.KernelSaIdeal.main_v171)) (v37 : (c : Dev Cert.KernelSaIdeal.nD) → Buf (Elt Ideal) ((c.tc : Thread Cert.KernelSaIdeal.nD Cert.KernelSaIdeal.τ).loc Cert.KernelSaIdeal.main_v175)) (v38 : (c : Dev Cert.KernelSaIdeal.nD) → Buf (Elt Ideal) ((c.tc : Thread Cert.KernelSaIdeal.nD Cert.KernelSaIdeal.τ).loc Cert.KernelSaIdeal.main_v179)) (v39 : (c : Dev Cert.KernelSaIdeal.nD) → Buf (Elt Ideal) ((c.tc : Thread Cert.KernelSaIdeal.nD Cert.KernelSaIdeal.τ).loc Cert.KernelSaIdeal.main_v183)) (v40 : (c : Dev Cert.KernelSaIdeal.nD) → Buf (Elt Ideal) ((c.tc : Thread Cert.KernelSaIdeal.nD Cert.KernelSaIdeal.τ).loc Cert.KernelSaIdeal.main_v185)) (v41 : (c : Dev Cert.KernelSaIdeal.nD) → Buf (Elt Ideal) ((c.tc : Thread Cert.KernelSaIdeal.nD Cert.KernelSaIdeal.τ).loc Cert.KernelSaIdeal.main_v187)) (v42 : (c : Dev Cert.KernelSaIdeal.nD) → Buf (Elt Ideal) ((c.tc : Thread Cert.KernelSaIdeal.nD Cert.KernelSaIdeal.τ).loc Cert.KernelSaIdeal.main_v189)) (v43 : (c : Dev Cert.KernelSaIdeal.nD) → Buf (Elt Ideal) ((c.tc : Thread Cert.KernelSaIdeal.nD Cert.KernelSaIdeal.τ).loc Cert.KernelSaIdeal.main_v191)) (v44 : (c : Dev Cert.KernelSaIdeal.nD) → Buf (Elt Ideal) ((c.tc : Thread Cert.KernelSaIdeal.nD Cert.KernelSaIdeal.τ).loc Cert.KernelSaIdeal.main_v195)) (v45 : (c : Dev Cert.KernelSaIdeal.nD) → Buf (Elt Ideal) ((c.tc : Thread Cert.KernelSaIdeal.nD Cert.KernelSaIdeal.τ).loc Cert.KernelSaIdeal.main_v199)) (v46 : (c : Dev Cert.KernelSaIdeal.nD) → Buf (Elt Ideal) ((c.tc : Thread Cert.KernelSaIdeal.nD Cert.KernelSaIdeal.τ).loc Cert.KernelSaIdeal.main_v203)) (v47 : (c : Dev Cert.KernelSaIdeal.nD) → Buf (Elt Ideal) ((c.tc : Thread Cert.KernelSaIdeal.nD Cert.KernelSaIdeal.τ).loc Cert.KernelSaIdeal.main_v205)) (v48 : (c : Dev Cert.KernelSaIdeal.nD) → Buf (Elt Ideal) ((c.tc : Thread Cert.KernelSaIdeal.nD Cert.KernelSaIdeal.τ).loc Cert.KernelSaIdeal.main_v207)) (v49 : (c : Dev Cert.KernelSaIdeal.nD) → Buf (Elt Ideal) ((c.tc : Thread Cert.KernelSaIdeal.nD Cert.KernelSaIdeal.τ).loc Cert.KernelSaIdeal.main_v211)) (v50 : (c : Dev Cert.KernelSaIdeal.nD) → Buf (Elt Ideal) ((c.tc : Thread Cert.KernelSaIdeal.nD Cert.KernelSaIdeal.τ).loc Cert.KernelSaIdeal.main_v213)) (v51 : (c : Dev Cert.KernelSaIdeal.nD) → Buf (Elt Ideal) ((c.tc : Thread Cert.KernelSaIdeal.nD Cert.KernelSaIdeal.τ).loc Cert.KernelSaIdeal.main_v215)) (v52 : (c : Dev Cert.KernelSaIdeal.nD) → Buf (Elt Ideal) ((c.tc : Thread Cert.KernelSaIdeal.nD Cert.KernelSaIdeal.τ).loc Cert.KernelSaIdeal.main_v217)) (v53 : (c : Dev Cert.KernelSaIdeal.nD) → Buf (Elt Ideal) ((c.tc : Thread Cert.KernelSaIdeal.nD Cert.KernelSaIdeal.τ).loc Cert.KernelSaIdeal.main_v219)) (v54 : (c : Dev Cert.KernelSaIdeal.nD) → Buf (Elt Ideal) ((c.tc : Thread Cert.KernelSaIdeal.nD Cert.KernelSaIdeal.τ).loc Cert.KernelSaIdeal.main_v221)) (v55 : (c : Dev Cert.KernelSaIdeal.nD) → Buf (Elt Ideal) ((c.tc : Thread Cert.KernelSaIdeal.nD Cert.KernelSaIdeal.τ).loc Cert.KernelSaIdeal.main_v223)) (v56 : (c : Dev Cert.KernelSaIdeal.nD) → Buf (Elt Ideal) ((c.tc : Thread Cert.KernelSaIdeal.nD Cert.KernelSaIdeal.τ).loc Cert.KernelSaIdeal.main_v225)) (v57 : (c : Dev Cert.KernelSaIdeal.nD) → Buf (Elt Ideal) ((c.tc : Thread Cert.KernelSaIdeal.nD Cert.KernelSaIdeal.τ).loc Cert.KernelSaIdeal.main_v227)) (v58 : (c : Dev Cert.KernelSaIdeal.nD) → Buf (Elt Ideal) ((c.tc : Thread Cert.KernelSaIdeal.nD Cert.KernelSaIdeal.τ).loc Cert.KernelSaIdeal.main_v231)) (v59 : (c : Dev Cert.KernelSaIdeal.nD) → Buf (Elt Ideal) ((c.tc : Thread Cert.KernelSaIdeal.nD Cert.KernelSaIdeal.τ).loc Cert.KernelSaIdeal.main_v235)) (v60 : (c : Dev Cert.KernelSaIdeal.nD) → Buf (Elt Ideal) ((c.tc : Thread Cert.KernelSaIdeal.nD Cert.KernelSaIdeal.τ).loc Cert.KernelSaIdeal.main_v239)) (v61 : (c : Dev Cert.KernelSaIdeal.nD) → Buf (Elt Ideal) ((c.tc : Thread Cert.KernelSaIdeal.nD Cert.KernelSaIdeal.τ).loc Cert.KernelSaIdeal.main_v241)) (v62 : (c : Dev Cert.KernelSaIdeal.nD) → Buf (Elt Ideal) ((c.tc : Thread Cert.KernelSaIdeal.nD Cert.KernelSaIdeal.τ).loc Cert.KernelSaIdeal.main_v243)),
      θ_run (Cert.KernelSaIdeal.defs (F := Ideal)) (onTc (τ := Cert.KernelSaIdeal.τ) (Cert.KernelSaIdeal.main (F := Ideal))) ⟨m, fun _ => 0, g⟩ (fun r => ∀ c : Dev Cert.KernelSaIdeal.nD,
          r.2.mem ((c.tc : Thread Cert.KernelSaIdeal.nD Cert.KernelSaIdeal.τ).loc Cert.KernelSaIdeal.main_v77) = v0 c
          ∧ r.2.mem ((c.tc : Thread Cert.KernelSaIdeal.nD Cert.KernelSaIdeal.τ).loc Cert.KernelSaIdeal.main_v79) = v1 c
          ∧ r.2.mem ((c.tc : Thread Cert.KernelSaIdeal.nD Cert.KernelSaIdeal.τ).loc Cert.KernelSaIdeal.main_v83) = v2 c
          ∧ r.2.mem ((c.tc : Thread Cert.KernelSaIdeal.nD Cert.KernelSaIdeal.τ).loc Cert.KernelSaIdeal.main_v87) = v3 c
          ∧ r.2.mem ((c.tc : Thread Cert.KernelSaIdeal.nD Cert.KernelSaIdeal.τ).loc Cert.KernelSaIdeal.main_v91) = v4 c
          ∧ r.2.mem ((c.tc : Thread Cert.KernelSaIdeal.nD Cert.KernelSaIdeal.τ).loc Cert.KernelSaIdeal.main_v93) = v5 c
          ∧ r.2.mem ((c.tc : Thread Cert.KernelSaIdeal.nD Cert.KernelSaIdeal.τ).loc Cert.KernelSaIdeal.main_v95) = v6 c
          ∧ r.2.mem ((c.tc : Thread Cert.KernelSaIdeal.nD Cert.KernelSaIdeal.τ).loc Cert.KernelSaIdeal.main_v99) = v7 c
          ∧ r.2.mem ((c.tc : Thread Cert.KernelSaIdeal.nD Cert.KernelSaIdeal.τ).loc Cert.KernelSaIdeal.main_v101) = v8 c
          ∧ r.2.mem ((c.tc : Thread Cert.KernelSaIdeal.nD Cert.KernelSaIdeal.τ).loc Cert.KernelSaIdeal.main_v103) = v9 c
          ∧ r.2.mem ((c.tc : Thread Cert.KernelSaIdeal.nD Cert.KernelSaIdeal.τ).loc Cert.KernelSaIdeal.main_v105) = v10 c
          ∧ r.2.mem ((c.tc : Thread Cert.KernelSaIdeal.nD Cert.KernelSaIdeal.τ).loc Cert.KernelSaIdeal.main_v107) = v11 c
          ∧ r.2.mem ((c.tc : Thread Cert.KernelSaIdeal.nD Cert.KernelSaIdeal.τ).loc Cert.KernelSaIdeal.main_v109) = v12 c
          ∧ r.2.mem ((c.tc : Thread Cert.KernelSaIdeal.nD Cert.KernelSaIdeal.τ).loc Cert.KernelSaIdeal.main_v111) = v13 c
          ∧ r.2.mem ((c.tc : Thread Cert.KernelSaIdeal.nD Cert.KernelSaIdeal.τ).loc Cert.KernelSaIdeal.main_v113) = v14 c
          ∧ r.2.mem ((c.tc : Thread Cert.KernelSaIdeal.nD Cert.KernelSaIdeal.τ).loc Cert.KernelSaIdeal.main_v115) = v15 c
          ∧ r.2.mem ((c.tc : Thread Cert.KernelSaIdeal.nD Cert.KernelSaIdeal.τ).loc Cert.KernelSaIdeal.main_v119) = v16 c
          ∧ r.2.mem ((c.tc : Thread Cert.KernelSaIdeal.nD Cert.KernelSaIdeal.τ).loc Cert.KernelSaIdeal.main_v123) = v17 c
          ∧ r.2.mem ((c.tc : Thread Cert.KernelSaIdeal.nD Cert.KernelSaIdeal.τ).loc Cert.KernelSaIdeal.main_v127) = v18 c
          ∧ r.2.mem ((c.tc : Thread Cert.KernelSaIdeal.nD Cert.KernelSaIdeal.τ).loc Cert.KernelSaIdeal.main_v129) = v19 c
          ∧ r.2.mem ((c.tc : Thread Cert.KernelSaIdeal.nD Cert.KernelSaIdeal.τ).loc Cert.KernelSaIdeal.main_v131) = v20 c
          ∧ r.2.mem ((c.tc : Thread Cert.KernelSaIdeal.nD Cert.KernelSaIdeal.τ).loc Cert.KernelSaIdeal.main_v133) = v21 c
          ∧ r.2.mem ((c.tc : Thread Cert.KernelSaIdeal.nD Cert.KernelSaIdeal.τ).loc Cert.KernelSaIdeal.main_v135) = v22 c
          ∧ r.2.mem ((c.tc : Thread Cert.KernelSaIdeal.nD Cert.KernelSaIdeal.τ).loc Cert.KernelSaIdeal.main_v139) = v23 c
          ∧ r.2.mem ((c.tc : Thread Cert.KernelSaIdeal.nD Cert.KernelSaIdeal.τ).loc Cert.KernelSaIdeal.main_v143) = v24 c
          ∧ r.2.mem ((c.tc : Thread Cert.KernelSaIdeal.nD Cert.KernelSaIdeal.τ).loc Cert.KernelSaIdeal.main_v147) = v25 c
          ∧ r.2.mem ((c.tc : Thread Cert.KernelSaIdeal.nD Cert.KernelSaIdeal.τ).loc Cert.KernelSaIdeal.main_v149) = v26 c
          ∧ r.2.mem ((c.tc : Thread Cert.KernelSaIdeal.nD Cert.KernelSaIdeal.τ).loc Cert.KernelSaIdeal.main_v151) = v27 c
          ∧ r.2.mem ((c.tc : Thread Cert.KernelSaIdeal.nD Cert.KernelSaIdeal.τ).loc Cert.KernelSaIdeal.main_v155) = v28 c
          ∧ r.2.mem ((c.tc : Thread Cert.KernelSaIdeal.nD Cert.KernelSaIdeal.τ).loc Cert.KernelSaIdeal.main_v157) = v29 c
          ∧ r.2.mem ((c.tc : Thread Cert.KernelSaIdeal.nD Cert.KernelSaIdeal.τ).loc Cert.KernelSaIdeal.main_v159) = v30 c
          ∧ r.2.mem ((c.tc : Thread Cert.KernelSaIdeal.nD Cert.KernelSaIdeal.τ).loc Cert.KernelSaIdeal.main_v161) = v31 c
          ∧ r.2.mem ((c.tc : Thread Cert.KernelSaIdeal.nD Cert.KernelSaIdeal.τ).loc Cert.KernelSaIdeal.main_v163) = v32 c
          ∧ r.2.mem ((c.tc : Thread Cert.KernelSaIdeal.nD Cert.KernelSaIdeal.τ).loc Cert.KernelSaIdeal.main_v165) = v33 c
          ∧ r.2.mem ((c.tc : Thread Cert.KernelSaIdeal.nD Cert.KernelSaIdeal.τ).loc Cert.KernelSaIdeal.main_v167) = v34 c
          ∧ r.2.mem ((c.tc : Thread Cert.KernelSaIdeal.nD Cert.KernelSaIdeal.τ).loc Cert.KernelSaIdeal.main_v169) = v35 c
          ∧ r.2.mem ((c.tc : Thread Cert.KernelSaIdeal.nD Cert.KernelSaIdeal.τ).loc Cert.KernelSaIdeal.main_v171) = v36 c
          ∧ r.2.mem ((c.tc : Thread Cert.KernelSaIdeal.nD Cert.KernelSaIdeal.τ).loc Cert.KernelSaIdeal.main_v175) = v37 c
          ∧ r.2.mem ((c.tc : Thread Cert.KernelSaIdeal.nD Cert.KernelSaIdeal.τ).loc Cert.KernelSaIdeal.main_v179) = v38 c
          ∧ r.2.mem ((c.tc : Thread Cert.KernelSaIdeal.nD Cert.KernelSaIdeal.τ).loc Cert.KernelSaIdeal.main_v183) = v39 c
          ∧ r.2.mem ((c.tc : Thread Cert.KernelSaIdeal.nD Cert.KernelSaIdeal.τ).loc Cert.KernelSaIdeal.main_v185) = v40 c
          ∧ r.2.mem ((c.tc : Thread Cert.KernelSaIdeal.nD Cert.KernelSaIdeal.τ).loc Cert.KernelSaIdeal.main_v187) = v41 c
          ∧ r.2.mem ((c.tc : Thread Cert.KernelSaIdeal.nD Cert.KernelSaIdeal.τ).loc Cert.KernelSaIdeal.main_v189) = v42 c
          ∧ r.2.mem ((c.tc : Thread Cert.KernelSaIdeal.nD Cert.KernelSaIdeal.τ).loc Cert.KernelSaIdeal.main_v191) = v43 c
          ∧ r.2.mem ((c.tc : Thread Cert.KernelSaIdeal.nD Cert.KernelSaIdeal.τ).loc Cert.KernelSaIdeal.main_v195) = v44 c
          ∧ r.2.mem ((c.tc : Thread Cert.KernelSaIdeal.nD Cert.KernelSaIdeal.τ).loc Cert.KernelSaIdeal.main_v199) = v45 c
          ∧ r.2.mem ((c.tc : Thread Cert.KernelSaIdeal.nD Cert.KernelSaIdeal.τ).loc Cert.KernelSaIdeal.main_v203) = v46 c
          ∧ r.2.mem ((c.tc : Thread Cert.KernelSaIdeal.nD Cert.KernelSaIdeal.τ).loc Cert.KernelSaIdeal.main_v205) = v47 c
          ∧ r.2.mem ((c.tc : Thread Cert.KernelSaIdeal.nD Cert.KernelSaIdeal.τ).loc Cert.KernelSaIdeal.main_v207) = v48 c
          ∧ r.2.mem ((c.tc : Thread Cert.KernelSaIdeal.nD Cert.KernelSaIdeal.τ).loc Cert.KernelSaIdeal.main_v211) = v49 c
          ∧ r.2.mem ((c.tc : Thread Cert.KernelSaIdeal.nD Cert.KernelSaIdeal.τ).loc Cert.KernelSaIdeal.main_v213) = v50 c
          ∧ r.2.mem ((c.tc : Thread Cert.KernelSaIdeal.nD Cert.KernelSaIdeal.τ).loc Cert.KernelSaIdeal.main_v215) = v51 c
          ∧ r.2.mem ((c.tc : Thread Cert.KernelSaIdeal.nD Cert.KernelSaIdeal.τ).loc Cert.KernelSaIdeal.main_v217) = v52 c
          ∧ r.2.mem ((c.tc : Thread Cert.KernelSaIdeal.nD Cert.KernelSaIdeal.τ).loc Cert.KernelSaIdeal.main_v219) = v53 c
          ∧ r.2.mem ((c.tc : Thread Cert.KernelSaIdeal.nD Cert.KernelSaIdeal.τ).loc Cert.KernelSaIdeal.main_v221) = v54 c
          ∧ r.2.mem ((c.tc : Thread Cert.KernelSaIdeal.nD Cert.KernelSaIdeal.τ).loc Cert.KernelSaIdeal.main_v223) = v55 c
          ∧ r.2.mem ((c.tc : Thread Cert.KernelSaIdeal.nD Cert.KernelSaIdeal.τ).loc Cert.KernelSaIdeal.main_v225) = v56 c
          ∧ r.2.mem ((c.tc : Thread Cert.KernelSaIdeal.nD Cert.KernelSaIdeal.τ).loc Cert.KernelSaIdeal.main_v227) = v57 c
          ∧ r.2.mem ((c.tc : Thread Cert.KernelSaIdeal.nD Cert.KernelSaIdeal.τ).loc Cert.KernelSaIdeal.main_v231) = v58 c
          ∧ r.2.mem ((c.tc : Thread Cert.KernelSaIdeal.nD Cert.KernelSaIdeal.τ).loc Cert.KernelSaIdeal.main_v235) = v59 c
          ∧ r.2.mem ((c.tc : Thread Cert.KernelSaIdeal.nD Cert.KernelSaIdeal.τ).loc Cert.KernelSaIdeal.main_v239) = v60 c
          ∧ r.2.mem ((c.tc : Thread Cert.KernelSaIdeal.nD Cert.KernelSaIdeal.τ).loc Cert.KernelSaIdeal.main_v241) = v61 c
          ∧ r.2.mem ((c.tc : Thread Cert.KernelSaIdeal.nD Cert.KernelSaIdeal.τ).loc Cert.KernelSaIdeal.main_v243) = v62 c
          ∧ r.2.mem ((c.tc : Thread Cert.KernelSaIdeal.nD Cert.KernelSaIdeal.τ).loc Cert.KernelSaIdeal.main_arg0) = m ((c.tc : Thread Cert.KernelSaIdeal.nD Cert.KernelSaIdeal.τ).loc Cert.KernelSaIdeal.main_arg0)
          ∧ r.2.mem ((c.tc : Thread Cert.KernelSaIdeal.nD Cert.KernelSaIdeal.τ).loc Cert.KernelSaIdeal.main_arg1) = m ((c.tc : Thread Cert.KernelSaIdeal.nD Cert.KernelSaIdeal.τ).loc Cert.KernelSaIdeal.main_arg1)
          ∧ r.2.mem ((c.tc : Thread Cert.KernelSaIdeal.nD Cert.KernelSaIdeal.τ).loc Cert.KernelSaIdeal.main_arg2) = m ((c.tc : Thread Cert.KernelSaIdeal.nD Cert.KernelSaIdeal.τ).loc Cert.KernelSaIdeal.main_arg2)
          ∧ r.2.mem ((c.tc : Thread Cert.KernelSaIdeal.nD Cert.KernelSaIdeal.τ).loc Cert.KernelSaIdeal.main_arg3) = m ((c.tc : Thread Cert.KernelSaIdeal.nD Cert.KernelSaIdeal.τ).loc Cert.KernelSaIdeal.main_arg3)
          ∧ r.2.mem ((c.tc : Thread Cert.KernelSaIdeal.nD Cert.KernelSaIdeal.τ).loc Cert.KernelSaIdeal.main_arg4) = m ((c.tc : Thread Cert.KernelSaIdeal.nD Cert.KernelSaIdeal.τ).loc Cert.KernelSaIdeal.main_arg4)
          ∧ r.2.mem ((c.tc : Thread Cert.KernelSaIdeal.nD Cert.KernelSaIdeal.τ).loc Cert.KernelSaIdeal.main_arg5) = m ((c.tc : Thread Cert.KernelSaIdeal.nD Cert.KernelSaIdeal.τ).loc Cert.KernelSaIdeal.main_arg5)
          ∧ r.2.mem ((c.tc : Thread Cert.KernelSaIdeal.nD Cert.KernelSaIdeal.τ).loc Cert.KernelSaIdeal.main_arg6) = m ((c.tc : Thread Cert.KernelSaIdeal.nD Cert.KernelSaIdeal.τ).loc Cert.KernelSaIdeal.main_arg6)
          ∧ r.2.mem ((c.tc : Thread Cert.KernelSaIdeal.nD Cert.KernelSaIdeal.τ).loc Cert.KernelSaIdeal.main_arg7) = m ((c.tc : Thread Cert.KernelSaIdeal.nD Cert.KernelSaIdeal.τ).loc Cert.KernelSaIdeal.main_arg7)
          ∧ r.2.mem ((c.tc : Thread Cert.KernelSaIdeal.nD Cert.KernelSaIdeal.τ).loc Cert.KernelSaIdeal.main_arg8) = m ((c.tc : Thread Cert.KernelSaIdeal.nD Cert.KernelSaIdeal.τ).loc Cert.KernelSaIdeal.main_arg8)
          ∧ r.2.mem ((c.tc : Thread Cert.KernelSaIdeal.nD Cert.KernelSaIdeal.τ).loc Cert.KernelSaIdeal.main_arg9) = m ((c.tc : Thread Cert.KernelSaIdeal.nD Cert.KernelSaIdeal.τ).loc Cert.KernelSaIdeal.main_arg9)
          ∧ r.2.mem ((c.tc : Thread Cert.KernelSaIdeal.nD Cert.KernelSaIdeal.τ).loc Cert.KernelSaIdeal.main_arg10) = m ((c.tc : Thread Cert.KernelSaIdeal.nD Cert.KernelSaIdeal.τ).loc Cert.KernelSaIdeal.main_arg10)
          ∧ r.2.mem ((c.tc : Thread Cert.KernelSaIdeal.nD Cert.KernelSaIdeal.τ).loc Cert.KernelSaIdeal.main_arg11) = m ((c.tc : Thread Cert.KernelSaIdeal.nD Cert.KernelSaIdeal.τ).loc Cert.KernelSaIdeal.main_arg11)
          ∧ r.2.mem ((c.tc : Thread Cert.KernelSaIdeal.nD Cert.KernelSaIdeal.τ).loc Cert.KernelSaIdeal.main_arg12) = m ((c.tc : Thread Cert.KernelSaIdeal.nD Cert.KernelSaIdeal.τ).loc Cert.KernelSaIdeal.main_arg12)
          ∧ r.2.mem ((c.tc : Thread Cert.KernelSaIdeal.nD Cert.KernelSaIdeal.τ).loc Cert.KernelSaIdeal.main_arg13) = m ((c.tc : Thread Cert.KernelSaIdeal.nD Cert.KernelSaIdeal.τ).loc Cert.KernelSaIdeal.main_arg13)
          ∧ r.2.mem ((c.tc : Thread Cert.KernelSaIdeal.nD Cert.KernelSaIdeal.τ).loc Cert.KernelSaIdeal.main_arg14) = m ((c.tc : Thread Cert.KernelSaIdeal.nD Cert.KernelSaIdeal.τ).loc Cert.KernelSaIdeal.main_arg14)
          ∧ r.2.mem ((c.tc : Thread Cert.KernelSaIdeal.nD Cert.KernelSaIdeal.τ).loc Cert.KernelSaIdeal.main_arg15) = m ((c.tc : Thread Cert.KernelSaIdeal.nD Cert.KernelSaIdeal.τ).loc Cert.KernelSaIdeal.main_arg15)
          ∧ r.2.mem ((c.tc : Thread Cert.KernelSaIdeal.nD Cert.KernelSaIdeal.τ).loc Cert.KernelSaIdeal.main_arg16) = m ((c.tc : Thread Cert.KernelSaIdeal.nD Cert.KernelSaIdeal.τ).loc Cert.KernelSaIdeal.main_arg16)
          ∧ r.2.mem ((c.tc : Thread Cert.KernelSaIdeal.nD Cert.KernelSaIdeal.τ).loc Cert.KernelSaIdeal.main_arg17) = m ((c.tc : Thread Cert.KernelSaIdeal.nD Cert.KernelSaIdeal.τ).loc Cert.KernelSaIdeal.main_arg17)
          ∧ r.2.mem ((c.tc : Thread Cert.KernelSaIdeal.nD Cert.KernelSaIdeal.τ).loc Cert.KernelSaIdeal.main_arg18) = m ((c.tc : Thread Cert.KernelSaIdeal.nD Cert.KernelSaIdeal.τ).loc Cert.KernelSaIdeal.main_arg18)
          ∧ r.2.mem ((c.tc : Thread Cert.KernelSaIdeal.nD Cert.KernelSaIdeal.τ).loc Cert.KernelSaIdeal.main_arg19) = m ((c.tc : Thread Cert.KernelSaIdeal.nD Cert.KernelSaIdeal.τ).loc Cert.KernelSaIdeal.main_arg19)
          ∧ r.2.mem ((c.tc : Thread Cert.KernelSaIdeal.nD Cert.KernelSaIdeal.τ).loc Cert.KernelSaIdeal.main_arg20) = m ((c.tc : Thread Cert.KernelSaIdeal.nD Cert.KernelSaIdeal.τ).loc Cert.KernelSaIdeal.main_arg20))
      ∧ θ_run (Cert.ReferenceSaIdeal.defs (F := Ideal)) (onTc (τ := Cert.ReferenceSaIdeal.τ) (Cert.ReferenceSaIdeal.main (F := Ideal))) ⟨m', fun _ => 0, g'⟩ (fun r => ∀ c : Dev Cert.ReferenceSaIdeal.nD,
          r.2.mem ((c.tc : Thread Cert.ReferenceSaIdeal.nD Cert.ReferenceSaIdeal.τ).loc Cert.ReferenceSaIdeal.main_v31) = v0 c
          ∧ r.2.mem ((c.tc : Thread Cert.ReferenceSaIdeal.nD Cert.ReferenceSaIdeal.τ).loc Cert.ReferenceSaIdeal.main_v63) = v1 c
          ∧ r.2.mem ((c.tc : Thread Cert.ReferenceSaIdeal.nD Cert.ReferenceSaIdeal.τ).loc Cert.ReferenceSaIdeal.main_v95) = v2 c
          ∧ r.2.mem ((c.tc : Thread Cert.ReferenceSaIdeal.nD Cert.ReferenceSaIdeal.τ).loc Cert.ReferenceSaIdeal.main_v127) = v3 c
          ∧ r.2.mem ((c.tc : Thread Cert.ReferenceSaIdeal.nD Cert.ReferenceSaIdeal.τ).loc Cert.ReferenceSaIdeal.main_v159) = v4 c
          ∧ r.2.mem ((c.tc : Thread Cert.ReferenceSaIdeal.nD Cert.ReferenceSaIdeal.τ).loc Cert.ReferenceSaIdeal.main_v191) = v5 c
          ∧ r.2.mem ((c.tc : Thread Cert.ReferenceSaIdeal.nD Cert.ReferenceSaIdeal.τ).loc Cert.ReferenceSaIdeal.main_v223) = v6 c
          ∧ r.2.mem ((c.tc : Thread Cert.ReferenceSaIdeal.nD Cert.ReferenceSaIdeal.τ).loc Cert.ReferenceSaIdeal.main_v255) = v7 c
          ∧ r.2.mem ((c.tc : Thread Cert.ReferenceSaIdeal.nD Cert.ReferenceSaIdeal.τ).loc Cert.ReferenceSaIdeal.main_v287) = v8 c
          ∧ r.2.mem ((c.tc : Thread Cert.ReferenceSaIdeal.nD Cert.ReferenceSaIdeal.τ).loc Cert.ReferenceSaIdeal.main_v319) = v9 c
          ∧ r.2.mem ((c.tc : Thread Cert.ReferenceSaIdeal.nD Cert.ReferenceSaIdeal.τ).loc Cert.ReferenceSaIdeal.main_v351) = v10 c
          ∧ r.2.mem ((c.tc : Thread Cert.ReferenceSaIdeal.nD Cert.ReferenceSaIdeal.τ).loc Cert.ReferenceSaIdeal.main_v383) = v11 c
          ∧ r.2.mem ((c.tc : Thread Cert.ReferenceSaIdeal.nD Cert.ReferenceSaIdeal.τ).loc Cert.ReferenceSaIdeal.main_v415) = v12 c
          ∧ r.2.mem ((c.tc : Thread Cert.ReferenceSaIdeal.nD Cert.ReferenceSaIdeal.τ).loc Cert.ReferenceSaIdeal.main_v447) = v13 c
          ∧ r.2.mem ((c.tc : Thread Cert.ReferenceSaIdeal.nD Cert.ReferenceSaIdeal.τ).loc Cert.ReferenceSaIdeal.main_v479) = v14 c
          ∧ r.2.mem ((c.tc : Thread Cert.ReferenceSaIdeal.nD Cert.ReferenceSaIdeal.τ).loc Cert.ReferenceSaIdeal.main_v511) = v15 c
          ∧ r.2.mem ((c.tc : Thread Cert.ReferenceSaIdeal.nD Cert.ReferenceSaIdeal.τ).loc Cert.ReferenceSaIdeal.main_v543) = v16 c
          ∧ r.2.mem ((c.tc : Thread Cert.ReferenceSaIdeal.nD Cert.ReferenceSaIdeal.τ).loc Cert.ReferenceSaIdeal.main_v575) = v17 c
          ∧ r.2.mem ((c.tc : Thread Cert.ReferenceSaIdeal.nD Cert.ReferenceSaIdeal.τ).loc Cert.ReferenceSaIdeal.main_v607) = v18 c
          ∧ r.2.mem ((c.tc : Thread Cert.ReferenceSaIdeal.nD Cert.ReferenceSaIdeal.τ).loc Cert.ReferenceSaIdeal.main_v639) = v19 c
          ∧ r.2.mem ((c.tc : Thread Cert.ReferenceSaIdeal.nD Cert.ReferenceSaIdeal.τ).loc Cert.ReferenceSaIdeal.main_v671) = v20 c
          ∧ r.2.mem ((c.tc : Thread Cert.ReferenceSaIdeal.nD Cert.ReferenceSaIdeal.τ).loc Cert.ReferenceSaIdeal.main_v12) = v21 c
          ∧ r.2.mem ((c.tc : Thread Cert.ReferenceSaIdeal.nD Cert.ReferenceSaIdeal.τ).loc Cert.ReferenceSaIdeal.main_v44) = v22 c
          ∧ r.2.mem ((c.tc : Thread Cert.ReferenceSaIdeal.nD Cert.ReferenceSaIdeal.τ).loc Cert.ReferenceSaIdeal.main_v76) = v23 c
          ∧ r.2.mem ((c.tc : Thread Cert.ReferenceSaIdeal.nD Cert.ReferenceSaIdeal.τ).loc Cert.ReferenceSaIdeal.main_v108) = v24 c
          ∧ r.2.mem ((c.tc : Thread Cert.ReferenceSaIdeal.nD Cert.ReferenceSaIdeal.τ).loc Cert.ReferenceSaIdeal.main_v140) = v25 c
          ∧ r.2.mem ((c.tc : Thread Cert.ReferenceSaIdeal.nD Cert.ReferenceSaIdeal.τ).loc Cert.ReferenceSaIdeal.main_v172) = v26 c
          ∧ r.2.mem ((c.tc : Thread Cert.ReferenceSaIdeal.nD Cert.ReferenceSaIdeal.τ).loc Cert.ReferenceSaIdeal.main_v204) = v27 c
          ∧ r.2.mem ((c.tc : Thread Cert.ReferenceSaIdeal.nD Cert.ReferenceSaIdeal.τ).loc Cert.ReferenceSaIdeal.main_v236) = v28 c
          ∧ r.2.mem ((c.tc : Thread Cert.ReferenceSaIdeal.nD Cert.ReferenceSaIdeal.τ).loc Cert.ReferenceSaIdeal.main_v268) = v29 c
          ∧ r.2.mem ((c.tc : Thread Cert.ReferenceSaIdeal.nD Cert.ReferenceSaIdeal.τ).loc Cert.ReferenceSaIdeal.main_v300) = v30 c
          ∧ r.2.mem ((c.tc : Thread Cert.ReferenceSaIdeal.nD Cert.ReferenceSaIdeal.τ).loc Cert.ReferenceSaIdeal.main_v332) = v31 c
          ∧ r.2.mem ((c.tc : Thread Cert.ReferenceSaIdeal.nD Cert.ReferenceSaIdeal.τ).loc Cert.ReferenceSaIdeal.main_v364) = v32 c
          ∧ r.2.mem ((c.tc : Thread Cert.ReferenceSaIdeal.nD Cert.ReferenceSaIdeal.τ).loc Cert.ReferenceSaIdeal.main_v396) = v33 c
          ∧ r.2.mem ((c.tc : Thread Cert.ReferenceSaIdeal.nD Cert.ReferenceSaIdeal.τ).loc Cert.ReferenceSaIdeal.main_v428) = v34 c
          ∧ r.2.mem ((c.tc : Thread Cert.ReferenceSaIdeal.nD Cert.ReferenceSaIdeal.τ).loc Cert.ReferenceSaIdeal.main_v460) = v35 c
          ∧ r.2.mem ((c.tc : Thread Cert.ReferenceSaIdeal.nD Cert.ReferenceSaIdeal.τ).loc Cert.ReferenceSaIdeal.main_v492) = v36 c
          ∧ r.2.mem ((c.tc : Thread Cert.ReferenceSaIdeal.nD Cert.ReferenceSaIdeal.τ).loc Cert.ReferenceSaIdeal.main_v524) = v37 c
          ∧ r.2.mem ((c.tc : Thread Cert.ReferenceSaIdeal.nD Cert.ReferenceSaIdeal.τ).loc Cert.ReferenceSaIdeal.main_v556) = v38 c
          ∧ r.2.mem ((c.tc : Thread Cert.ReferenceSaIdeal.nD Cert.ReferenceSaIdeal.τ).loc Cert.ReferenceSaIdeal.main_v588) = v39 c
          ∧ r.2.mem ((c.tc : Thread Cert.ReferenceSaIdeal.nD Cert.ReferenceSaIdeal.τ).loc Cert.ReferenceSaIdeal.main_v620) = v40 c
          ∧ r.2.mem ((c.tc : Thread Cert.ReferenceSaIdeal.nD Cert.ReferenceSaIdeal.τ).loc Cert.ReferenceSaIdeal.main_v652) = v41 c
          ∧ r.2.mem ((c.tc : Thread Cert.ReferenceSaIdeal.nD Cert.ReferenceSaIdeal.τ).loc Cert.ReferenceSaIdeal.main_v18) = v42 c
          ∧ r.2.mem ((c.tc : Thread Cert.ReferenceSaIdeal.nD Cert.ReferenceSaIdeal.τ).loc Cert.ReferenceSaIdeal.main_v50) = v43 c
          ∧ r.2.mem ((c.tc : Thread Cert.ReferenceSaIdeal.nD Cert.ReferenceSaIdeal.τ).loc Cert.ReferenceSaIdeal.main_v82) = v44 c
          ∧ r.2.mem ((c.tc : Thread Cert.ReferenceSaIdeal.nD Cert.ReferenceSaIdeal.τ).loc Cert.ReferenceSaIdeal.main_v114) = v45 c
          ∧ r.2.mem ((c.tc : Thread Cert.ReferenceSaIdeal.nD Cert.ReferenceSaIdeal.τ).loc Cert.ReferenceSaIdeal.main_v146) = v46 c
          ∧ r.2.mem ((c.tc : Thread Cert.ReferenceSaIdeal.nD Cert.ReferenceSaIdeal.τ).loc Cert.ReferenceSaIdeal.main_v178) = v47 c
          ∧ r.2.mem ((c.tc : Thread Cert.ReferenceSaIdeal.nD Cert.ReferenceSaIdeal.τ).loc Cert.ReferenceSaIdeal.main_v210) = v48 c
          ∧ r.2.mem ((c.tc : Thread Cert.ReferenceSaIdeal.nD Cert.ReferenceSaIdeal.τ).loc Cert.ReferenceSaIdeal.main_v242) = v49 c
          ∧ r.2.mem ((c.tc : Thread Cert.ReferenceSaIdeal.nD Cert.ReferenceSaIdeal.τ).loc Cert.ReferenceSaIdeal.main_v274) = v50 c
          ∧ r.2.mem ((c.tc : Thread Cert.ReferenceSaIdeal.nD Cert.ReferenceSaIdeal.τ).loc Cert.ReferenceSaIdeal.main_v306) = v51 c
          ∧ r.2.mem ((c.tc : Thread Cert.ReferenceSaIdeal.nD Cert.ReferenceSaIdeal.τ).loc Cert.ReferenceSaIdeal.main_v338) = v52 c
          ∧ r.2.mem ((c.tc : Thread Cert.ReferenceSaIdeal.nD Cert.ReferenceSaIdeal.τ).loc Cert.ReferenceSaIdeal.main_v370) = v53 c
          ∧ r.2.mem ((c.tc : Thread Cert.ReferenceSaIdeal.nD Cert.ReferenceSaIdeal.τ).loc Cert.ReferenceSaIdeal.main_v402) = v54 c
          ∧ r.2.mem ((c.tc : Thread Cert.ReferenceSaIdeal.nD Cert.ReferenceSaIdeal.τ).loc Cert.ReferenceSaIdeal.main_v434) = v55 c
          ∧ r.2.mem ((c.tc : Thread Cert.ReferenceSaIdeal.nD Cert.ReferenceSaIdeal.τ).loc Cert.ReferenceSaIdeal.main_v466) = v56 c
          ∧ r.2.mem ((c.tc : Thread Cert.ReferenceSaIdeal.nD Cert.ReferenceSaIdeal.τ).loc Cert.ReferenceSaIdeal.main_v498) = v57 c
          ∧ r.2.mem ((c.tc : Thread Cert.ReferenceSaIdeal.nD Cert.ReferenceSaIdeal.τ).loc Cert.ReferenceSaIdeal.main_v530) = v58 c
          ∧ r.2.mem ((c.tc : Thread Cert.ReferenceSaIdeal.nD Cert.ReferenceSaIdeal.τ).loc Cert.ReferenceSaIdeal.main_v562) = v59 c
          ∧ r.2.mem ((c.tc : Thread Cert.ReferenceSaIdeal.nD Cert.ReferenceSaIdeal.τ).loc Cert.ReferenceSaIdeal.main_v594) = v60 c
          ∧ r.2.mem ((c.tc : Thread Cert.ReferenceSaIdeal.nD Cert.ReferenceSaIdeal.τ).loc Cert.ReferenceSaIdeal.main_v626) = v61 c
          ∧ r.2.mem ((c.tc : Thread Cert.ReferenceSaIdeal.nD Cert.ReferenceSaIdeal.τ).loc Cert.ReferenceSaIdeal.main_v658) = v62 c
          ∧ r.2.mem ((c.tc : Thread Cert.ReferenceSaIdeal.nD Cert.ReferenceSaIdeal.τ).loc Cert.ReferenceSaIdeal.main_arg0) = m' ((c.tc : Thread Cert.ReferenceSaIdeal.nD Cert.ReferenceSaIdeal.τ).loc Cert.ReferenceSaIdeal.main_arg0)
          ∧ r.2.mem ((c.tc : Thread Cert.ReferenceSaIdeal.nD Cert.ReferenceSaIdeal.τ).loc Cert.ReferenceSaIdeal.main_arg1) = m' ((c.tc : Thread Cert.ReferenceSaIdeal.nD Cert.ReferenceSaIdeal.τ).loc Cert.ReferenceSaIdeal.main_arg1)
          ∧ r.2.mem ((c.tc : Thread Cert.ReferenceSaIdeal.nD Cert.ReferenceSaIdeal.τ).loc Cert.ReferenceSaIdeal.main_arg2) = m' ((c.tc : Thread Cert.ReferenceSaIdeal.nD Cert.ReferenceSaIdeal.τ).loc Cert.ReferenceSaIdeal.main_arg2)
          ∧ r.2.mem ((c.tc : Thread Cert.ReferenceSaIdeal.nD Cert.ReferenceSaIdeal.τ).loc Cert.ReferenceSaIdeal.main_arg3) = m' ((c.tc : Thread Cert.ReferenceSaIdeal.nD Cert.ReferenceSaIdeal.τ).loc Cert.ReferenceSaIdeal.main_arg3)
          ∧ r.2.mem ((c.tc : Thread Cert.ReferenceSaIdeal.nD Cert.ReferenceSaIdeal.τ).loc Cert.ReferenceSaIdeal.main_arg4) = m' ((c.tc : Thread Cert.ReferenceSaIdeal.nD Cert.ReferenceSaIdeal.τ).loc Cert.ReferenceSaIdeal.main_arg4)
          ∧ r.2.mem ((c.tc : Thread Cert.ReferenceSaIdeal.nD Cert.ReferenceSaIdeal.τ).loc Cert.ReferenceSaIdeal.main_arg5) = m' ((c.tc : Thread Cert.ReferenceSaIdeal.nD Cert.ReferenceSaIdeal.τ).loc Cert.ReferenceSaIdeal.main_arg5)
          ∧ r.2.mem ((c.tc : Thread Cert.ReferenceSaIdeal.nD Cert.ReferenceSaIdeal.τ).loc Cert.ReferenceSaIdeal.main_arg6) = m' ((c.tc : Thread Cert.ReferenceSaIdeal.nD Cert.ReferenceSaIdeal.τ).loc Cert.ReferenceSaIdeal.main_arg6)
          ∧ r.2.mem ((c.tc : Thread Cert.ReferenceSaIdeal.nD Cert.ReferenceSaIdeal.τ).loc Cert.ReferenceSaIdeal.main_arg7) = m' ((c.tc : Thread Cert.ReferenceSaIdeal.nD Cert.ReferenceSaIdeal.τ).loc Cert.ReferenceSaIdeal.main_arg7)
          ∧ r.2.mem ((c.tc : Thread Cert.ReferenceSaIdeal.nD Cert.ReferenceSaIdeal.τ).loc Cert.ReferenceSaIdeal.main_arg8) = m' ((c.tc : Thread Cert.ReferenceSaIdeal.nD Cert.ReferenceSaIdeal.τ).loc Cert.ReferenceSaIdeal.main_arg8)
          ∧ r.2.mem ((c.tc : Thread Cert.ReferenceSaIdeal.nD Cert.ReferenceSaIdeal.τ).loc Cert.ReferenceSaIdeal.main_arg9) = m' ((c.tc : Thread Cert.ReferenceSaIdeal.nD Cert.ReferenceSaIdeal.τ).loc Cert.ReferenceSaIdeal.main_arg9)
          ∧ r.2.mem ((c.tc : Thread Cert.ReferenceSaIdeal.nD Cert.ReferenceSaIdeal.τ).loc Cert.ReferenceSaIdeal.main_arg10) = m' ((c.tc : Thread Cert.ReferenceSaIdeal.nD Cert.ReferenceSaIdeal.τ).loc Cert.ReferenceSaIdeal.main_arg10)
          ∧ r.2.mem ((c.tc : Thread Cert.ReferenceSaIdeal.nD Cert.ReferenceSaIdeal.τ).loc Cert.ReferenceSaIdeal.main_arg11) = m' ((c.tc : Thread Cert.ReferenceSaIdeal.nD Cert.ReferenceSaIdeal.τ).loc Cert.ReferenceSaIdeal.main_arg11)
          ∧ r.2.mem ((c.tc : Thread Cert.ReferenceSaIdeal.nD Cert.ReferenceSaIdeal.τ).loc Cert.ReferenceSaIdeal.main_arg12) = m' ((c.tc : Thread Cert.ReferenceSaIdeal.nD Cert.ReferenceSaIdeal.τ).loc Cert.ReferenceSaIdeal.main_arg12)
          ∧ r.2.mem ((c.tc : Thread Cert.ReferenceSaIdeal.nD Cert.ReferenceSaIdeal.τ).loc Cert.ReferenceSaIdeal.main_arg13) = m' ((c.tc : Thread Cert.ReferenceSaIdeal.nD Cert.ReferenceSaIdeal.τ).loc Cert.ReferenceSaIdeal.main_arg13)
          ∧ r.2.mem ((c.tc : Thread Cert.ReferenceSaIdeal.nD Cert.ReferenceSaIdeal.τ).loc Cert.ReferenceSaIdeal.main_arg14) = m' ((c.tc : Thread Cert.ReferenceSaIdeal.nD Cert.ReferenceSaIdeal.τ).loc Cert.ReferenceSaIdeal.main_arg14)
          ∧ r.2.mem ((c.tc : Thread Cert.ReferenceSaIdeal.nD Cert.ReferenceSaIdeal.τ).loc Cert.ReferenceSaIdeal.main_arg15) = m' ((c.tc : Thread Cert.ReferenceSaIdeal.nD Cert.ReferenceSaIdeal.τ).loc Cert.ReferenceSaIdeal.main_arg15)
          ∧ r.2.mem ((c.tc : Thread Cert.ReferenceSaIdeal.nD Cert.ReferenceSaIdeal.τ).loc Cert.ReferenceSaIdeal.main_arg16) = m' ((c.tc : Thread Cert.ReferenceSaIdeal.nD Cert.ReferenceSaIdeal.τ).loc Cert.ReferenceSaIdeal.main_arg16)
          ∧ r.2.mem ((c.tc : Thread Cert.ReferenceSaIdeal.nD Cert.ReferenceSaIdeal.τ).loc Cert.ReferenceSaIdeal.main_arg17) = m' ((c.tc : Thread Cert.ReferenceSaIdeal.nD Cert.ReferenceSaIdeal.τ).loc Cert.ReferenceSaIdeal.main_arg17)
          ∧ r.2.mem ((c.tc : Thread Cert.ReferenceSaIdeal.nD Cert.ReferenceSaIdeal.τ).loc Cert.ReferenceSaIdeal.main_arg18) = m' ((c.tc : Thread Cert.ReferenceSaIdeal.nD Cert.ReferenceSaIdeal.τ).loc Cert.ReferenceSaIdeal.main_arg18)
          ∧ r.2.mem ((c.tc : Thread Cert.ReferenceSaIdeal.nD Cert.ReferenceSaIdeal.τ).loc Cert.ReferenceSaIdeal.main_arg19) = m' ((c.tc : Thread Cert.ReferenceSaIdeal.nD Cert.ReferenceSaIdeal.τ).loc Cert.ReferenceSaIdeal.main_arg19)
          ∧ r.2.mem ((c.tc : Thread Cert.ReferenceSaIdeal.nD Cert.ReferenceSaIdeal.τ).loc Cert.ReferenceSaIdeal.main_arg20) = m' ((c.tc : Thread Cert.ReferenceSaIdeal.nD Cert.ReferenceSaIdeal.τ).loc Cert.ReferenceSaIdeal.main_arg20))

def preserves_KernelLg_KernelLgIdeal : Prop :=
  True

def algebraic_KernelLgIdeal_ReferenceLgIdeal [hKernelLgIdeal : Cert.KernelLgIdeal.Facts] [hReferenceLgIdeal : Cert.ReferenceLgIdeal.Facts] : Prop :=
  ∀ (m : (ℓ : Loc Cert.KernelLgIdeal.nD Cert.KernelLgIdeal.τ Cert.KernelLgIdeal.sig) → Buf (Elt Ideal) ℓ) (g : Dev Cert.KernelLgIdeal.nD → PrngReg)
    (m' : (ℓ : Loc Cert.ReferenceLgIdeal.nD Cert.ReferenceLgIdeal.τ Cert.ReferenceLgIdeal.sig) → Buf (Elt Ideal) ℓ) (g' : Dev Cert.ReferenceLgIdeal.nD → PrngReg), Pre_KernelLgIdeal m →
    (∀ c : Dev Cert.KernelLgIdeal.nD,
      m' ((c.tc : Thread Cert.ReferenceLgIdeal.nD Cert.ReferenceLgIdeal.τ).loc Cert.ReferenceLgIdeal.main_arg0) = m ((c.tc : Thread Cert.KernelLgIdeal.nD Cert.KernelLgIdeal.τ).loc Cert.KernelLgIdeal.main_arg0)
      ∧ m' ((c.tc : Thread Cert.ReferenceLgIdeal.nD Cert.ReferenceLgIdeal.τ).loc Cert.ReferenceLgIdeal.main_arg1) = m ((c.tc : Thread Cert.KernelLgIdeal.nD Cert.KernelLgIdeal.τ).loc Cert.KernelLgIdeal.main_arg1)
      ∧ m' ((c.tc : Thread Cert.ReferenceLgIdeal.nD Cert.ReferenceLgIdeal.τ).loc Cert.ReferenceLgIdeal.main_arg2) = m ((c.tc : Thread Cert.KernelLgIdeal.nD Cert.KernelLgIdeal.τ).loc Cert.KernelLgIdeal.main_arg2)) →
    ∃ (v0 : (c : Dev Cert.KernelLgIdeal.nD) → Buf (Elt Ideal) ((c.tc : Thread Cert.KernelLgIdeal.nD Cert.KernelLgIdeal.τ).loc Cert.KernelLgIdeal.main_v1_0)) (v1 : (c : Dev Cert.KernelLgIdeal.nD) → Buf (Elt Ideal) ((c.tc : Thread Cert.KernelLgIdeal.nD Cert.KernelLgIdeal.τ).loc Cert.KernelLgIdeal.main_v1_1)) (v2 : (c : Dev Cert.KernelLgIdeal.nD) → Buf (Elt Ideal) ((c.tc : Thread Cert.KernelLgIdeal.nD Cert.KernelLgIdeal.τ).loc Cert.KernelLgIdeal.main_v1_2)),
      θ_run (Cert.KernelLgIdeal.defs (F := Ideal)) (onTc (τ := Cert.KernelLgIdeal.τ) (Cert.KernelLgIdeal.main (F := Ideal))) ⟨m, fun _ => 0, g⟩ (fun r => ∀ c : Dev Cert.KernelLgIdeal.nD,
          r.2.mem ((c.tc : Thread Cert.KernelLgIdeal.nD Cert.KernelLgIdeal.τ).loc Cert.KernelLgIdeal.main_v1_0) = v0 c
          ∧ r.2.mem ((c.tc : Thread Cert.KernelLgIdeal.nD Cert.KernelLgIdeal.τ).loc Cert.KernelLgIdeal.main_v1_1) = v1 c
          ∧ r.2.mem ((c.tc : Thread Cert.KernelLgIdeal.nD Cert.KernelLgIdeal.τ).loc Cert.KernelLgIdeal.main_v1_2) = v2 c
          ∧ r.2.mem ((c.tc : Thread Cert.KernelLgIdeal.nD Cert.KernelLgIdeal.τ).loc Cert.KernelLgIdeal.main_arg0) = m ((c.tc : Thread Cert.KernelLgIdeal.nD Cert.KernelLgIdeal.τ).loc Cert.KernelLgIdeal.main_arg0)
          ∧ r.2.mem ((c.tc : Thread Cert.KernelLgIdeal.nD Cert.KernelLgIdeal.τ).loc Cert.KernelLgIdeal.main_arg1) = m ((c.tc : Thread Cert.KernelLgIdeal.nD Cert.KernelLgIdeal.τ).loc Cert.KernelLgIdeal.main_arg1)
          ∧ r.2.mem ((c.tc : Thread Cert.KernelLgIdeal.nD Cert.KernelLgIdeal.τ).loc Cert.KernelLgIdeal.main_arg2) = m ((c.tc : Thread Cert.KernelLgIdeal.nD Cert.KernelLgIdeal.τ).loc Cert.KernelLgIdeal.main_arg2))
      ∧ θ_run (Cert.ReferenceLgIdeal.defs (F := Ideal)) (onTc (τ := Cert.ReferenceLgIdeal.τ) (Cert.ReferenceLgIdeal.main (F := Ideal))) ⟨m', fun _ => 0, g'⟩ (fun r => ∀ c : Dev Cert.ReferenceLgIdeal.nD,
          r.2.mem ((c.tc : Thread Cert.ReferenceLgIdeal.nD Cert.ReferenceLgIdeal.τ).loc Cert.ReferenceLgIdeal.main_v51) = v0 c
          ∧ r.2.mem ((c.tc : Thread Cert.ReferenceLgIdeal.nD Cert.ReferenceLgIdeal.τ).loc Cert.ReferenceLgIdeal.main_v50) = v1 c
          ∧ r.2.mem ((c.tc : Thread Cert.ReferenceLgIdeal.nD Cert.ReferenceLgIdeal.τ).loc Cert.ReferenceLgIdeal.main_v52) = v2 c
          ∧ r.2.mem ((c.tc : Thread Cert.ReferenceLgIdeal.nD Cert.ReferenceLgIdeal.τ).loc Cert.ReferenceLgIdeal.main_arg0) = m' ((c.tc : Thread Cert.ReferenceLgIdeal.nD Cert.ReferenceLgIdeal.τ).loc Cert.ReferenceLgIdeal.main_arg0)
          ∧ r.2.mem ((c.tc : Thread Cert.ReferenceLgIdeal.nD Cert.ReferenceLgIdeal.τ).loc Cert.ReferenceLgIdeal.main_arg1) = m' ((c.tc : Thread Cert.ReferenceLgIdeal.nD Cert.ReferenceLgIdeal.τ).loc Cert.ReferenceLgIdeal.main_arg1)
          ∧ r.2.mem ((c.tc : Thread Cert.ReferenceLgIdeal.nD Cert.ReferenceLgIdeal.τ).loc Cert.ReferenceLgIdeal.main_arg2) = m' ((c.tc : Thread Cert.ReferenceLgIdeal.nD Cert.ReferenceLgIdeal.τ).loc Cert.ReferenceLgIdeal.main_arg2))

def preserves_KernelRf_KernelRfIdeal : Prop :=
  True

def algebraic_KernelRfIdeal_ReferenceRfIdeal [hKernelRfIdeal : Cert.KernelRfIdeal.Facts] [hReferenceRfIdeal : Cert.ReferenceRfIdeal.Facts] : Prop :=
  ∀ (m : (ℓ : Loc Cert.KernelRfIdeal.nD Cert.KernelRfIdeal.τ Cert.KernelRfIdeal.sig) → Buf (Elt Ideal) ℓ) (g : Dev Cert.KernelRfIdeal.nD → PrngReg)
    (m' : (ℓ : Loc Cert.ReferenceRfIdeal.nD Cert.ReferenceRfIdeal.τ Cert.ReferenceRfIdeal.sig) → Buf (Elt Ideal) ℓ) (g' : Dev Cert.ReferenceRfIdeal.nD → PrngReg), Pre_KernelRfIdeal m →
    (∀ c : Dev Cert.KernelRfIdeal.nD,
      m' ((c.tc : Thread Cert.ReferenceRfIdeal.nD Cert.ReferenceRfIdeal.τ).loc Cert.ReferenceRfIdeal.main_arg0) = m ((c.tc : Thread Cert.KernelRfIdeal.nD Cert.KernelRfIdeal.τ).loc Cert.KernelRfIdeal.main_arg0)
      ∧ m' ((c.tc : Thread Cert.ReferenceRfIdeal.nD Cert.ReferenceRfIdeal.τ).loc Cert.ReferenceRfIdeal.main_arg1) = m ((c.tc : Thread Cert.KernelRfIdeal.nD Cert.KernelRfIdeal.τ).loc Cert.KernelRfIdeal.main_arg1)) →
    ∃ (v0 : (c : Dev Cert.KernelRfIdeal.nD) → Buf (Elt Ideal) ((c.tc : Thread Cert.KernelRfIdeal.nD Cert.KernelRfIdeal.τ).loc Cert.KernelRfIdeal.main_v1)),
      θ_run (Cert.KernelRfIdeal.defs (F := Ideal)) (onTc (τ := Cert.KernelRfIdeal.τ) (Cert.KernelRfIdeal.main (F := Ideal))) ⟨m, fun _ => 0, g⟩ (fun r => ∀ c : Dev Cert.KernelRfIdeal.nD,
          r.2.mem ((c.tc : Thread Cert.KernelRfIdeal.nD Cert.KernelRfIdeal.τ).loc Cert.KernelRfIdeal.main_v1) = v0 c
          ∧ r.2.mem ((c.tc : Thread Cert.KernelRfIdeal.nD Cert.KernelRfIdeal.τ).loc Cert.KernelRfIdeal.main_arg0) = m ((c.tc : Thread Cert.KernelRfIdeal.nD Cert.KernelRfIdeal.τ).loc Cert.KernelRfIdeal.main_arg0)
          ∧ r.2.mem ((c.tc : Thread Cert.KernelRfIdeal.nD Cert.KernelRfIdeal.τ).loc Cert.KernelRfIdeal.main_arg1) = m ((c.tc : Thread Cert.KernelRfIdeal.nD Cert.KernelRfIdeal.τ).loc Cert.KernelRfIdeal.main_arg1))
      ∧ θ_run (Cert.ReferenceRfIdeal.defs (F := Ideal)) (onTc (τ := Cert.ReferenceRfIdeal.τ) (Cert.ReferenceRfIdeal.main (F := Ideal))) ⟨m', fun _ => 0, g'⟩ (fun r => ∀ c : Dev Cert.ReferenceRfIdeal.nD,
          r.2.mem ((c.tc : Thread Cert.ReferenceRfIdeal.nD Cert.ReferenceRfIdeal.τ).loc Cert.ReferenceRfIdeal.main_v13) = v0 c
          ∧ r.2.mem ((c.tc : Thread Cert.ReferenceRfIdeal.nD Cert.ReferenceRfIdeal.τ).loc Cert.ReferenceRfIdeal.main_arg0) = m' ((c.tc : Thread Cert.ReferenceRfIdeal.nD Cert.ReferenceRfIdeal.τ).loc Cert.ReferenceRfIdeal.main_arg0)
          ∧ r.2.mem ((c.tc : Thread Cert.ReferenceRfIdeal.nD Cert.ReferenceRfIdeal.τ).loc Cert.ReferenceRfIdeal.main_arg1) = m' ((c.tc : Thread Cert.ReferenceRfIdeal.nD Cert.ReferenceRfIdeal.τ).loc Cert.ReferenceRfIdeal.main_arg1))

def preserves_KernelGf_KernelGfIdeal : Prop :=
  True

def algebraic_KernelGfIdeal_ReferenceGfIdeal [hKernelGfIdeal : Cert.KernelGfIdeal.Facts] [hReferenceGfIdeal : Cert.ReferenceGfIdeal.Facts] : Prop :=
  ∀ (m : (ℓ : Loc Cert.KernelGfIdeal.nD Cert.KernelGfIdeal.τ Cert.KernelGfIdeal.sig) → Buf (Elt Ideal) ℓ) (g : Dev Cert.KernelGfIdeal.nD → PrngReg)
    (m' : (ℓ : Loc Cert.ReferenceGfIdeal.nD Cert.ReferenceGfIdeal.τ Cert.ReferenceGfIdeal.sig) → Buf (Elt Ideal) ℓ) (g' : Dev Cert.ReferenceGfIdeal.nD → PrngReg), Pre_KernelGfIdeal m →
    (∀ c : Dev Cert.KernelGfIdeal.nD,
      m' ((c.tc : Thread Cert.ReferenceGfIdeal.nD Cert.ReferenceGfIdeal.τ).loc Cert.ReferenceGfIdeal.main_arg0) = m ((c.tc : Thread Cert.KernelGfIdeal.nD Cert.KernelGfIdeal.τ).loc Cert.KernelGfIdeal.main_arg0)
      ∧ m' ((c.tc : Thread Cert.ReferenceGfIdeal.nD Cert.ReferenceGfIdeal.τ).loc Cert.ReferenceGfIdeal.main_arg1) = m ((c.tc : Thread Cert.KernelGfIdeal.nD Cert.KernelGfIdeal.τ).loc Cert.KernelGfIdeal.main_arg1)
      ∧ m' ((c.tc : Thread Cert.ReferenceGfIdeal.nD Cert.ReferenceGfIdeal.τ).loc Cert.ReferenceGfIdeal.main_arg2) = m ((c.tc : Thread Cert.KernelGfIdeal.nD Cert.KernelGfIdeal.τ).loc Cert.KernelGfIdeal.main_arg2)
      ∧ m' ((c.tc : Thread Cert.ReferenceGfIdeal.nD Cert.ReferenceGfIdeal.τ).loc Cert.ReferenceGfIdeal.main_arg3) = m ((c.tc : Thread Cert.KernelGfIdeal.nD Cert.KernelGfIdeal.τ).loc Cert.KernelGfIdeal.main_arg3)) →
    ∃ (v0 : (c : Dev Cert.KernelGfIdeal.nD) → Buf (Elt Ideal) ((c.tc : Thread Cert.KernelGfIdeal.nD Cert.KernelGfIdeal.τ).loc Cert.KernelGfIdeal.main_v0)),
      θ_run (Cert.KernelGfIdeal.defs (F := Ideal)) (onTc (τ := Cert.KernelGfIdeal.τ) (Cert.KernelGfIdeal.main (F := Ideal))) ⟨m, fun _ => 0, g⟩ (fun r => ∀ c : Dev Cert.KernelGfIdeal.nD,
          r.2.mem ((c.tc : Thread Cert.KernelGfIdeal.nD Cert.KernelGfIdeal.τ).loc Cert.KernelGfIdeal.main_v0) = v0 c
          ∧ r.2.mem ((c.tc : Thread Cert.KernelGfIdeal.nD Cert.KernelGfIdeal.τ).loc Cert.KernelGfIdeal.main_arg0) = m ((c.tc : Thread Cert.KernelGfIdeal.nD Cert.KernelGfIdeal.τ).loc Cert.KernelGfIdeal.main_arg0)
          ∧ r.2.mem ((c.tc : Thread Cert.KernelGfIdeal.nD Cert.KernelGfIdeal.τ).loc Cert.KernelGfIdeal.main_arg1) = m ((c.tc : Thread Cert.KernelGfIdeal.nD Cert.KernelGfIdeal.τ).loc Cert.KernelGfIdeal.main_arg1)
          ∧ r.2.mem ((c.tc : Thread Cert.KernelGfIdeal.nD Cert.KernelGfIdeal.τ).loc Cert.KernelGfIdeal.main_arg2) = m ((c.tc : Thread Cert.KernelGfIdeal.nD Cert.KernelGfIdeal.τ).loc Cert.KernelGfIdeal.main_arg2)
          ∧ r.2.mem ((c.tc : Thread Cert.KernelGfIdeal.nD Cert.KernelGfIdeal.τ).loc Cert.KernelGfIdeal.main_arg3) = m ((c.tc : Thread Cert.KernelGfIdeal.nD Cert.KernelGfIdeal.τ).loc Cert.KernelGfIdeal.main_arg3))
      ∧ θ_run (Cert.ReferenceGfIdeal.defs (F := Ideal)) (onTc (τ := Cert.ReferenceGfIdeal.τ) (Cert.ReferenceGfIdeal.main (F := Ideal))) ⟨m', fun _ => 0, g'⟩ (fun r => ∀ c : Dev Cert.ReferenceGfIdeal.nD,
          r.2.mem ((c.tc : Thread Cert.ReferenceGfIdeal.nD Cert.ReferenceGfIdeal.τ).loc Cert.ReferenceGfIdeal.main_v26) = v0 c
          ∧ r.2.mem ((c.tc : Thread Cert.ReferenceGfIdeal.nD Cert.ReferenceGfIdeal.τ).loc Cert.ReferenceGfIdeal.main_arg0) = m' ((c.tc : Thread Cert.ReferenceGfIdeal.nD Cert.ReferenceGfIdeal.τ).loc Cert.ReferenceGfIdeal.main_arg0)
          ∧ r.2.mem ((c.tc : Thread Cert.ReferenceGfIdeal.nD Cert.ReferenceGfIdeal.τ).loc Cert.ReferenceGfIdeal.main_arg1) = m' ((c.tc : Thread Cert.ReferenceGfIdeal.nD Cert.ReferenceGfIdeal.τ).loc Cert.ReferenceGfIdeal.main_arg1)
          ∧ r.2.mem ((c.tc : Thread Cert.ReferenceGfIdeal.nD Cert.ReferenceGfIdeal.τ).loc Cert.ReferenceGfIdeal.main_arg2) = m' ((c.tc : Thread Cert.ReferenceGfIdeal.nD Cert.ReferenceGfIdeal.τ).loc Cert.ReferenceGfIdeal.main_arg2)
          ∧ r.2.mem ((c.tc : Thread Cert.ReferenceGfIdeal.nD Cert.ReferenceGfIdeal.τ).loc Cert.ReferenceGfIdeal.main_arg3) = m' ((c.tc : Thread Cert.ReferenceGfIdeal.nD Cert.ReferenceGfIdeal.τ).loc Cert.ReferenceGfIdeal.main_arg3))

def preserves_KernelTf_KernelTfIdeal : Prop :=
  True

def algebraic_KernelTfIdeal_ReferenceTfIdeal [hKernelTfIdeal : Cert.KernelTfIdeal.Facts] [hReferenceTfIdeal : Cert.ReferenceTfIdeal.Facts] : Prop :=
  ∀ (m : (ℓ : Loc Cert.KernelTfIdeal.nD Cert.KernelTfIdeal.τ Cert.KernelTfIdeal.sig) → Buf (Elt Ideal) ℓ) (g : Dev Cert.KernelTfIdeal.nD → PrngReg)
    (m' : (ℓ : Loc Cert.ReferenceTfIdeal.nD Cert.ReferenceTfIdeal.τ Cert.ReferenceTfIdeal.sig) → Buf (Elt Ideal) ℓ) (g' : Dev Cert.ReferenceTfIdeal.nD → PrngReg), Pre_KernelTfIdeal m →
    (∀ c : Dev Cert.KernelTfIdeal.nD,
      m' ((c.tc : Thread Cert.ReferenceTfIdeal.nD Cert.ReferenceTfIdeal.τ).loc Cert.ReferenceTfIdeal.main_arg0) = m ((c.tc : Thread Cert.KernelTfIdeal.nD Cert.KernelTfIdeal.τ).loc Cert.KernelTfIdeal.main_arg0)
      ∧ m' ((c.tc : Thread Cert.ReferenceTfIdeal.nD Cert.ReferenceTfIdeal.τ).loc Cert.ReferenceTfIdeal.main_arg1) = m ((c.tc : Thread Cert.KernelTfIdeal.nD Cert.KernelTfIdeal.τ).loc Cert.KernelTfIdeal.main_arg1)
      ∧ m' ((c.tc : Thread Cert.ReferenceTfIdeal.nD Cert.ReferenceTfIdeal.τ).loc Cert.ReferenceTfIdeal.main_arg2) = m ((c.tc : Thread Cert.KernelTfIdeal.nD Cert.KernelTfIdeal.τ).loc Cert.KernelTfIdeal.main_arg2)
      ∧ m' ((c.tc : Thread Cert.ReferenceTfIdeal.nD Cert.ReferenceTfIdeal.τ).loc Cert.ReferenceTfIdeal.main_arg3) = m ((c.tc : Thread Cert.KernelTfIdeal.nD Cert.KernelTfIdeal.τ).loc Cert.KernelTfIdeal.main_arg3)) →
    ∃ (v0 : (c : Dev Cert.KernelTfIdeal.nD) → Buf (Elt Ideal) ((c.tc : Thread Cert.KernelTfIdeal.nD Cert.KernelTfIdeal.τ).loc Cert.KernelTfIdeal.main_v1)),
      θ_run (Cert.KernelTfIdeal.defs (F := Ideal)) (onTc (τ := Cert.KernelTfIdeal.τ) (Cert.KernelTfIdeal.main (F := Ideal))) ⟨m, fun _ => 0, g⟩ (fun r => ∀ c : Dev Cert.KernelTfIdeal.nD,
          r.2.mem ((c.tc : Thread Cert.KernelTfIdeal.nD Cert.KernelTfIdeal.τ).loc Cert.KernelTfIdeal.main_v1) = v0 c
          ∧ r.2.mem ((c.tc : Thread Cert.KernelTfIdeal.nD Cert.KernelTfIdeal.τ).loc Cert.KernelTfIdeal.main_arg0) = m ((c.tc : Thread Cert.KernelTfIdeal.nD Cert.KernelTfIdeal.τ).loc Cert.KernelTfIdeal.main_arg0)
          ∧ r.2.mem ((c.tc : Thread Cert.KernelTfIdeal.nD Cert.KernelTfIdeal.τ).loc Cert.KernelTfIdeal.main_arg1) = m ((c.tc : Thread Cert.KernelTfIdeal.nD Cert.KernelTfIdeal.τ).loc Cert.KernelTfIdeal.main_arg1)
          ∧ r.2.mem ((c.tc : Thread Cert.KernelTfIdeal.nD Cert.KernelTfIdeal.τ).loc Cert.KernelTfIdeal.main_arg2) = m ((c.tc : Thread Cert.KernelTfIdeal.nD Cert.KernelTfIdeal.τ).loc Cert.KernelTfIdeal.main_arg2)
          ∧ r.2.mem ((c.tc : Thread Cert.KernelTfIdeal.nD Cert.KernelTfIdeal.τ).loc Cert.KernelTfIdeal.main_arg3) = m ((c.tc : Thread Cert.KernelTfIdeal.nD Cert.KernelTfIdeal.τ).loc Cert.KernelTfIdeal.main_arg3))
      ∧ θ_run (Cert.ReferenceTfIdeal.defs (F := Ideal)) (onTc (τ := Cert.ReferenceTfIdeal.τ) (Cert.ReferenceTfIdeal.main (F := Ideal))) ⟨m', fun _ => 0, g'⟩ (fun r => ∀ c : Dev Cert.ReferenceTfIdeal.nD,
          r.2.mem ((c.tc : Thread Cert.ReferenceTfIdeal.nD Cert.ReferenceTfIdeal.τ).loc Cert.ReferenceTfIdeal.main_v28) = v0 c
          ∧ r.2.mem ((c.tc : Thread Cert.ReferenceTfIdeal.nD Cert.ReferenceTfIdeal.τ).loc Cert.ReferenceTfIdeal.main_arg0) = m' ((c.tc : Thread Cert.ReferenceTfIdeal.nD Cert.ReferenceTfIdeal.τ).loc Cert.ReferenceTfIdeal.main_arg0)
          ∧ r.2.mem ((c.tc : Thread Cert.ReferenceTfIdeal.nD Cert.ReferenceTfIdeal.τ).loc Cert.ReferenceTfIdeal.main_arg1) = m' ((c.tc : Thread Cert.ReferenceTfIdeal.nD Cert.ReferenceTfIdeal.τ).loc Cert.ReferenceTfIdeal.main_arg1)
          ∧ r.2.mem ((c.tc : Thread Cert.ReferenceTfIdeal.nD Cert.ReferenceTfIdeal.τ).loc Cert.ReferenceTfIdeal.main_arg2) = m' ((c.tc : Thread Cert.ReferenceTfIdeal.nD Cert.ReferenceTfIdeal.τ).loc Cert.ReferenceTfIdeal.main_arg2)
          ∧ r.2.mem ((c.tc : Thread Cert.ReferenceTfIdeal.nD Cert.ReferenceTfIdeal.τ).loc Cert.ReferenceTfIdeal.main_arg3) = m' ((c.tc : Thread Cert.ReferenceTfIdeal.nD Cert.ReferenceTfIdeal.τ).loc Cert.ReferenceTfIdeal.main_arg3))

def preserves_KernelTb_KernelTbIdeal : Prop :=
  True

def algebraic_KernelTbIdeal_ReferenceTbIdeal [hKernelTbIdeal : Cert.KernelTbIdeal.Facts] [hReferenceTbIdeal : Cert.ReferenceTbIdeal.Facts] : Prop :=
  ∀ (m : (ℓ : Loc Cert.KernelTbIdeal.nD Cert.KernelTbIdeal.τ Cert.KernelTbIdeal.sig) → Buf (Elt Ideal) ℓ) (g : Dev Cert.KernelTbIdeal.nD → PrngReg)
    (m' : (ℓ : Loc Cert.ReferenceTbIdeal.nD Cert.ReferenceTbIdeal.τ Cert.ReferenceTbIdeal.sig) → Buf (Elt Ideal) ℓ) (g' : Dev Cert.ReferenceTbIdeal.nD → PrngReg), Pre_KernelTbIdeal m →
    (∀ c : Dev Cert.KernelTbIdeal.nD,
      m' ((c.tc : Thread Cert.ReferenceTbIdeal.nD Cert.ReferenceTbIdeal.τ).loc Cert.ReferenceTbIdeal.main_arg0) = m ((c.tc : Thread Cert.KernelTbIdeal.nD Cert.KernelTbIdeal.τ).loc Cert.KernelTbIdeal.main_arg0)
      ∧ m' ((c.tc : Thread Cert.ReferenceTbIdeal.nD Cert.ReferenceTbIdeal.τ).loc Cert.ReferenceTbIdeal.main_arg1) = m ((c.tc : Thread Cert.KernelTbIdeal.nD Cert.KernelTbIdeal.τ).loc Cert.KernelTbIdeal.main_arg1)
      ∧ m' ((c.tc : Thread Cert.ReferenceTbIdeal.nD Cert.ReferenceTbIdeal.τ).loc Cert.ReferenceTbIdeal.main_arg2) = m ((c.tc : Thread Cert.KernelTbIdeal.nD Cert.KernelTbIdeal.τ).loc Cert.KernelTbIdeal.main_arg2)
      ∧ m' ((c.tc : Thread Cert.ReferenceTbIdeal.nD Cert.ReferenceTbIdeal.τ).loc Cert.ReferenceTbIdeal.main_arg3) = m ((c.tc : Thread Cert.KernelTbIdeal.nD Cert.KernelTbIdeal.τ).loc Cert.KernelTbIdeal.main_arg3)
      ∧ m' ((c.tc : Thread Cert.ReferenceTbIdeal.nD Cert.ReferenceTbIdeal.τ).loc Cert.ReferenceTbIdeal.main_arg4) = m ((c.tc : Thread Cert.KernelTbIdeal.nD Cert.KernelTbIdeal.τ).loc Cert.KernelTbIdeal.main_arg4)) →
    ∃ (v0 : (c : Dev Cert.KernelTbIdeal.nD) → Buf (Elt Ideal) ((c.tc : Thread Cert.KernelTbIdeal.nD Cert.KernelTbIdeal.τ).loc Cert.KernelTbIdeal.main_v1_0)) (v1 : (c : Dev Cert.KernelTbIdeal.nD) → Buf (Elt Ideal) ((c.tc : Thread Cert.KernelTbIdeal.nD Cert.KernelTbIdeal.τ).loc Cert.KernelTbIdeal.main_v1_1)) (v2 : (c : Dev Cert.KernelTbIdeal.nD) → Buf (Elt Ideal) ((c.tc : Thread Cert.KernelTbIdeal.nD Cert.KernelTbIdeal.τ).loc Cert.KernelTbIdeal.main_v1_2)) (v3 : (c : Dev Cert.KernelTbIdeal.nD) → Buf (Elt Ideal) ((c.tc : Thread Cert.KernelTbIdeal.nD Cert.KernelTbIdeal.τ).loc Cert.KernelTbIdeal.main_v1_3)),
      θ_run (Cert.KernelTbIdeal.defs (F := Ideal)) (onTc (τ := Cert.KernelTbIdeal.τ) (Cert.KernelTbIdeal.main (F := Ideal))) ⟨m, fun _ => 0, g⟩ (fun r => ∀ c : Dev Cert.KernelTbIdeal.nD,
          r.2.mem ((c.tc : Thread Cert.KernelTbIdeal.nD Cert.KernelTbIdeal.τ).loc Cert.KernelTbIdeal.main_v1_0) = v0 c
          ∧ r.2.mem ((c.tc : Thread Cert.KernelTbIdeal.nD Cert.KernelTbIdeal.τ).loc Cert.KernelTbIdeal.main_v1_1) = v1 c
          ∧ r.2.mem ((c.tc : Thread Cert.KernelTbIdeal.nD Cert.KernelTbIdeal.τ).loc Cert.KernelTbIdeal.main_v1_2) = v2 c
          ∧ r.2.mem ((c.tc : Thread Cert.KernelTbIdeal.nD Cert.KernelTbIdeal.τ).loc Cert.KernelTbIdeal.main_v1_3) = v3 c
          ∧ r.2.mem ((c.tc : Thread Cert.KernelTbIdeal.nD Cert.KernelTbIdeal.τ).loc Cert.KernelTbIdeal.main_arg0) = m ((c.tc : Thread Cert.KernelTbIdeal.nD Cert.KernelTbIdeal.τ).loc Cert.KernelTbIdeal.main_arg0)
          ∧ r.2.mem ((c.tc : Thread Cert.KernelTbIdeal.nD Cert.KernelTbIdeal.τ).loc Cert.KernelTbIdeal.main_arg1) = m ((c.tc : Thread Cert.KernelTbIdeal.nD Cert.KernelTbIdeal.τ).loc Cert.KernelTbIdeal.main_arg1)
          ∧ r.2.mem ((c.tc : Thread Cert.KernelTbIdeal.nD Cert.KernelTbIdeal.τ).loc Cert.KernelTbIdeal.main_arg2) = m ((c.tc : Thread Cert.KernelTbIdeal.nD Cert.KernelTbIdeal.τ).loc Cert.KernelTbIdeal.main_arg2)
          ∧ r.2.mem ((c.tc : Thread Cert.KernelTbIdeal.nD Cert.KernelTbIdeal.τ).loc Cert.KernelTbIdeal.main_arg3) = m ((c.tc : Thread Cert.KernelTbIdeal.nD Cert.KernelTbIdeal.τ).loc Cert.KernelTbIdeal.main_arg3)
          ∧ r.2.mem ((c.tc : Thread Cert.KernelTbIdeal.nD Cert.KernelTbIdeal.τ).loc Cert.KernelTbIdeal.main_arg4) = m ((c.tc : Thread Cert.KernelTbIdeal.nD Cert.KernelTbIdeal.τ).loc Cert.KernelTbIdeal.main_arg4))
      ∧ θ_run (Cert.ReferenceTbIdeal.defs (F := Ideal)) (onTc (τ := Cert.ReferenceTbIdeal.τ) (Cert.ReferenceTbIdeal.main (F := Ideal))) ⟨m', fun _ => 0, g'⟩ (fun r => ∀ c : Dev Cert.ReferenceTbIdeal.nD,
          r.2.mem ((c.tc : Thread Cert.ReferenceTbIdeal.nD Cert.ReferenceTbIdeal.τ).loc Cert.ReferenceTbIdeal.main_v63) = v0 c
          ∧ r.2.mem ((c.tc : Thread Cert.ReferenceTbIdeal.nD Cert.ReferenceTbIdeal.τ).loc Cert.ReferenceTbIdeal.main_v64) = v1 c
          ∧ r.2.mem ((c.tc : Thread Cert.ReferenceTbIdeal.nD Cert.ReferenceTbIdeal.τ).loc Cert.ReferenceTbIdeal.main_v49) = v2 c
          ∧ r.2.mem ((c.tc : Thread Cert.ReferenceTbIdeal.nD Cert.ReferenceTbIdeal.τ).loc Cert.ReferenceTbIdeal.main_v65) = v3 c
          ∧ r.2.mem ((c.tc : Thread Cert.ReferenceTbIdeal.nD Cert.ReferenceTbIdeal.τ).loc Cert.ReferenceTbIdeal.main_arg0) = m' ((c.tc : Thread Cert.ReferenceTbIdeal.nD Cert.ReferenceTbIdeal.τ).loc Cert.ReferenceTbIdeal.main_arg0)
          ∧ r.2.mem ((c.tc : Thread Cert.ReferenceTbIdeal.nD Cert.ReferenceTbIdeal.τ).loc Cert.ReferenceTbIdeal.main_arg1) = m' ((c.tc : Thread Cert.ReferenceTbIdeal.nD Cert.ReferenceTbIdeal.τ).loc Cert.ReferenceTbIdeal.main_arg1)
          ∧ r.2.mem ((c.tc : Thread Cert.ReferenceTbIdeal.nD Cert.ReferenceTbIdeal.τ).loc Cert.ReferenceTbIdeal.main_arg2) = m' ((c.tc : Thread Cert.ReferenceTbIdeal.nD Cert.ReferenceTbIdeal.τ).loc Cert.ReferenceTbIdeal.main_arg2)
          ∧ r.2.mem ((c.tc : Thread Cert.ReferenceTbIdeal.nD Cert.ReferenceTbIdeal.τ).loc Cert.ReferenceTbIdeal.main_arg3) = m' ((c.tc : Thread Cert.ReferenceTbIdeal.nD Cert.ReferenceTbIdeal.τ).loc Cert.ReferenceTbIdeal.main_arg3)
          ∧ r.2.mem ((c.tc : Thread Cert.ReferenceTbIdeal.nD Cert.ReferenceTbIdeal.τ).loc Cert.ReferenceTbIdeal.main_arg4) = m' ((c.tc : Thread Cert.ReferenceTbIdeal.nD Cert.ReferenceTbIdeal.τ).loc Cert.ReferenceTbIdeal.main_arg4))

def Claim : Prop :=
  ∃ (hKernelGate : Cert.KernelGate.Facts) (hKernelGateIdeal : Cert.KernelGateIdeal.Facts) (hReferenceGateIdeal : Cert.ReferenceGateIdeal.Facts) (hKernelRms : Cert.KernelRms.Facts) (hKernelRmsIdeal : Cert.KernelRmsIdeal.Facts) (hReferenceRmsIdeal : Cert.ReferenceRmsIdeal.Facts) (hKernelPbx : Cert.KernelPbx.Facts) (hKernelPbxIdeal : Cert.KernelPbxIdeal.Facts) (hReferencePbxIdeal : Cert.ReferencePbxIdeal.Facts) (hKernelPbw : Cert.KernelPbw.Facts) (hKernelPbwIdeal : Cert.KernelPbwIdeal.Facts) (hReferencePbwIdeal : Cert.ReferencePbwIdeal.Facts) (hKernelWbx : Cert.KernelWbx.Facts) (hKernelWbxIdeal : Cert.KernelWbxIdeal.Facts) (hReferenceWbxIdeal : Cert.ReferenceWbxIdeal.Facts) (hKernelWbw : Cert.KernelWbw.Facts) (hKernelWbwIdeal : Cert.KernelWbwIdeal.Facts) (hReferenceWbwIdeal : Cert.ReferenceWbwIdeal.Facts) (hKernelAbx : Cert.KernelAbx.Facts) (hKernelAbxIdeal : Cert.KernelAbxIdeal.Facts) (hReferenceAbxIdeal : Cert.ReferenceAbxIdeal.Facts) (hKernelAbw : Cert.KernelAbw.Facts) (hKernelAbwIdeal : Cert.KernelAbwIdeal.Facts) (hReferenceAbwIdeal : Cert.ReferenceAbwIdeal.Facts) (hKernelBbx : Cert.KernelBbx.Facts) (hKernelBbxIdeal : Cert.KernelBbxIdeal.Facts) (hReferenceBbxIdeal : Cert.ReferenceBbxIdeal.Facts) (hKernelBbw : Cert.KernelBbw.Facts) (hKernelBbwIdeal : Cert.KernelBbwIdeal.Facts) (hReferenceBbwIdeal : Cert.ReferenceBbwIdeal.Facts) (hKernelPf : Cert.KernelPf.Facts) (hKernelPfIdeal : Cert.KernelPfIdeal.Facts) (hReferencePfIdeal : Cert.ReferencePfIdeal.Facts) (hKernelWf : Cert.KernelWf.Facts) (hKernelWfIdeal : Cert.KernelWfIdeal.Facts) (hReferenceWfIdeal : Cert.ReferenceWfIdeal.Facts) (hKernelAf : Cert.KernelAf.Facts) (hKernelAfIdeal : Cert.KernelAfIdeal.Facts) (hReferenceAfIdeal : Cert.ReferenceAfIdeal.Facts) (hKernelBf : Cert.KernelBf.Facts) (hKernelBfIdeal : Cert.KernelBfIdeal.Facts) (hReferenceBfIdeal : Cert.ReferenceBfIdeal.Facts) (hKernelOw : Cert.KernelOw.Facts) (hKernelOwIdeal : Cert.KernelOwIdeal.Facts) (hReferenceOwIdeal : Cert.ReferenceOwIdeal.Facts) (hKernelOg : Cert.KernelOg.Facts) (hKernelOgIdeal : Cert.KernelOgIdeal.Facts) (hReferenceOgIdeal : Cert.ReferenceOgIdeal.Facts) (hKernelOa : Cert.KernelOa.Facts) (hKernelOaIdeal : Cert.KernelOaIdeal.Facts) (hReferenceOaIdeal : Cert.ReferenceOaIdeal.Facts) (hKernelOb : Cert.KernelOb.Facts) (hKernelObIdeal : Cert.KernelObIdeal.Facts) (hReferenceObIdeal : Cert.ReferenceObIdeal.Facts) (hKernelOc : Cert.KernelOc.Facts) (hKernelOcIdeal : Cert.KernelOcIdeal.Facts) (hReferenceOcIdeal : Cert.ReferenceOcIdeal.Facts) (hKernelOo : Cert.KernelOo.Facts) (hKernelOoIdeal : Cert.KernelOoIdeal.Facts) (hReferenceOoIdeal : Cert.ReferenceOoIdeal.Facts) (hKernelSs : Cert.KernelSs.Facts) (hKernelSsIdeal : Cert.KernelSsIdeal.Facts) (hReferenceSsIdeal : Cert.ReferenceSsIdeal.Facts) (hKernelSa : Cert.KernelSa.Facts) (hKernelSaIdeal : Cert.KernelSaIdeal.Facts) (hReferenceSaIdeal : Cert.ReferenceSaIdeal.Facts) (hKernelLg : Cert.KernelLg.Facts) (hKernelLgIdeal : Cert.KernelLgIdeal.Facts) (hReferenceLgIdeal : Cert.ReferenceLgIdeal.Facts) (hKernelRf : Cert.KernelRf.Facts) (hKernelRfIdeal : Cert.KernelRfIdeal.Facts) (hReferenceRfIdeal : Cert.ReferenceRfIdeal.Facts) (hKernelGf : Cert.KernelGf.Facts) (hKernelGfIdeal : Cert.KernelGfIdeal.Facts) (hReferenceGfIdeal : Cert.ReferenceGfIdeal.Facts) (hKernelTf : Cert.KernelTf.Facts) (hKernelTfIdeal : Cert.KernelTfIdeal.Facts) (hReferenceTfIdeal : Cert.ReferenceTfIdeal.Facts) (hKernelTb : Cert.KernelTb.Facts) (hKernelTbIdeal : Cert.KernelTbIdeal.Facts) (hReferenceTbIdeal : Cert.ReferenceTbIdeal.Facts),
    quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelRms (hKernelRms := hKernelRms)
    ∧ quiescent_KernelRmsIdeal (hKernelRmsIdeal := hKernelRmsIdeal)
    ∧ quiescent_ReferenceRmsIdeal (hReferenceRmsIdeal := hReferenceRmsIdeal)
    ∧ quiescent_KernelPbx (hKernelPbx := hKernelPbx)
    ∧ quiescent_KernelPbxIdeal (hKernelPbxIdeal := hKernelPbxIdeal)
    ∧ quiescent_ReferencePbxIdeal (hReferencePbxIdeal := hReferencePbxIdeal)
    ∧ quiescent_KernelPbw (hKernelPbw := hKernelPbw)
    ∧ quiescent_KernelPbwIdeal (hKernelPbwIdeal := hKernelPbwIdeal)
    ∧ quiescent_ReferencePbwIdeal (hReferencePbwIdeal := hReferencePbwIdeal)
    ∧ quiescent_KernelWbx (hKernelWbx := hKernelWbx)
    ∧ quiescent_KernelWbxIdeal (hKernelWbxIdeal := hKernelWbxIdeal)
    ∧ quiescent_ReferenceWbxIdeal (hReferenceWbxIdeal := hReferenceWbxIdeal)
    ∧ quiescent_KernelWbw (hKernelWbw := hKernelWbw)
    ∧ quiescent_KernelWbwIdeal (hKernelWbwIdeal := hKernelWbwIdeal)
    ∧ quiescent_ReferenceWbwIdeal (hReferenceWbwIdeal := hReferenceWbwIdeal)
    ∧ quiescent_KernelAbx (hKernelAbx := hKernelAbx)
    ∧ quiescent_KernelAbxIdeal (hKernelAbxIdeal := hKernelAbxIdeal)
    ∧ quiescent_ReferenceAbxIdeal (hReferenceAbxIdeal := hReferenceAbxIdeal)
    ∧ quiescent_KernelAbw (hKernelAbw := hKernelAbw)
    ∧ quiescent_KernelAbwIdeal (hKernelAbwIdeal := hKernelAbwIdeal)
    ∧ quiescent_ReferenceAbwIdeal (hReferenceAbwIdeal := hReferenceAbwIdeal)
    ∧ quiescent_KernelBbx (hKernelBbx := hKernelBbx)
    ∧ quiescent_KernelBbxIdeal (hKernelBbxIdeal := hKernelBbxIdeal)
    ∧ quiescent_ReferenceBbxIdeal (hReferenceBbxIdeal := hReferenceBbxIdeal)
    ∧ quiescent_KernelBbw (hKernelBbw := hKernelBbw)
    ∧ quiescent_KernelBbwIdeal (hKernelBbwIdeal := hKernelBbwIdeal)
    ∧ quiescent_ReferenceBbwIdeal (hReferenceBbwIdeal := hReferenceBbwIdeal)
    ∧ quiescent_KernelPf (hKernelPf := hKernelPf)
    ∧ quiescent_KernelPfIdeal (hKernelPfIdeal := hKernelPfIdeal)
    ∧ quiescent_ReferencePfIdeal (hReferencePfIdeal := hReferencePfIdeal)
    ∧ quiescent_KernelWf (hKernelWf := hKernelWf)
    ∧ quiescent_KernelWfIdeal (hKernelWfIdeal := hKernelWfIdeal)
    ∧ quiescent_ReferenceWfIdeal (hReferenceWfIdeal := hReferenceWfIdeal)
    ∧ quiescent_KernelAf (hKernelAf := hKernelAf)
    ∧ quiescent_KernelAfIdeal (hKernelAfIdeal := hKernelAfIdeal)
    ∧ quiescent_ReferenceAfIdeal (hReferenceAfIdeal := hReferenceAfIdeal)
    ∧ quiescent_KernelBf (hKernelBf := hKernelBf)
    ∧ quiescent_KernelBfIdeal (hKernelBfIdeal := hKernelBfIdeal)
    ∧ quiescent_ReferenceBfIdeal (hReferenceBfIdeal := hReferenceBfIdeal)
    ∧ quiescent_KernelOw (hKernelOw := hKernelOw)
    ∧ quiescent_KernelOwIdeal (hKernelOwIdeal := hKernelOwIdeal)
    ∧ quiescent_ReferenceOwIdeal (hReferenceOwIdeal := hReferenceOwIdeal)
    ∧ quiescent_KernelOg (hKernelOg := hKernelOg)
    ∧ quiescent_KernelOgIdeal (hKernelOgIdeal := hKernelOgIdeal)
    ∧ quiescent_ReferenceOgIdeal (hReferenceOgIdeal := hReferenceOgIdeal)
    ∧ quiescent_KernelOa (hKernelOa := hKernelOa)
    ∧ quiescent_KernelOaIdeal (hKernelOaIdeal := hKernelOaIdeal)
    ∧ quiescent_ReferenceOaIdeal (hReferenceOaIdeal := hReferenceOaIdeal)
    ∧ quiescent_KernelOb (hKernelOb := hKernelOb)
    ∧ quiescent_KernelObIdeal (hKernelObIdeal := hKernelObIdeal)
    ∧ quiescent_ReferenceObIdeal (hReferenceObIdeal := hReferenceObIdeal)
    ∧ quiescent_KernelOc (hKernelOc := hKernelOc)
    ∧ quiescent_KernelOcIdeal (hKernelOcIdeal := hKernelOcIdeal)
    ∧ quiescent_ReferenceOcIdeal (hReferenceOcIdeal := hReferenceOcIdeal)
    ∧ quiescent_KernelOo (hKernelOo := hKernelOo)
    ∧ quiescent_KernelOoIdeal (hKernelOoIdeal := hKernelOoIdeal)
    ∧ quiescent_ReferenceOoIdeal (hReferenceOoIdeal := hReferenceOoIdeal)
    ∧ quiescent_KernelSs (hKernelSs := hKernelSs)
    ∧ quiescent_KernelSsIdeal (hKernelSsIdeal := hKernelSsIdeal)
    ∧ quiescent_ReferenceSsIdeal (hReferenceSsIdeal := hReferenceSsIdeal)
    ∧ quiescent_KernelSa (hKernelSa := hKernelSa)
    ∧ quiescent_KernelSaIdeal (hKernelSaIdeal := hKernelSaIdeal)
    ∧ quiescent_ReferenceSaIdeal (hReferenceSaIdeal := hReferenceSaIdeal)
    ∧ quiescent_KernelLg (hKernelLg := hKernelLg)
    ∧ quiescent_KernelLgIdeal (hKernelLgIdeal := hKernelLgIdeal)
    ∧ quiescent_ReferenceLgIdeal (hReferenceLgIdeal := hReferenceLgIdeal)
    ∧ quiescent_KernelRf (hKernelRf := hKernelRf)
    ∧ quiescent_KernelRfIdeal (hKernelRfIdeal := hKernelRfIdeal)
    ∧ quiescent_ReferenceRfIdeal (hReferenceRfIdeal := hReferenceRfIdeal)
    ∧ quiescent_KernelGf (hKernelGf := hKernelGf)
    ∧ quiescent_KernelGfIdeal (hKernelGfIdeal := hKernelGfIdeal)
    ∧ quiescent_ReferenceGfIdeal (hReferenceGfIdeal := hReferenceGfIdeal)
    ∧ quiescent_KernelTf (hKernelTf := hKernelTf)
    ∧ quiescent_KernelTfIdeal (hKernelTfIdeal := hKernelTfIdeal)
    ∧ quiescent_ReferenceTfIdeal (hReferenceTfIdeal := hReferenceTfIdeal)
    ∧ quiescent_KernelTb (hKernelTb := hKernelTb)
    ∧ quiescent_KernelTbIdeal (hKernelTbIdeal := hKernelTbIdeal)
    ∧ quiescent_ReferenceTbIdeal (hReferenceTbIdeal := hReferenceTbIdeal)
    ∧ preserves_KernelGate_KernelGateIdeal
    ∧ algebraic_KernelGateIdeal_ReferenceGateIdeal (hKernelGateIdeal := hKernelGateIdeal) (hReferenceGateIdeal := hReferenceGateIdeal)
    ∧ preserves_KernelRms_KernelRmsIdeal
    ∧ algebraic_KernelRmsIdeal_ReferenceRmsIdeal (hKernelRmsIdeal := hKernelRmsIdeal) (hReferenceRmsIdeal := hReferenceRmsIdeal)
    ∧ preserves_KernelPbx_KernelPbxIdeal
    ∧ algebraic_KernelPbxIdeal_ReferencePbxIdeal (hKernelPbxIdeal := hKernelPbxIdeal) (hReferencePbxIdeal := hReferencePbxIdeal)
    ∧ preserves_KernelPbw_KernelPbwIdeal
    ∧ algebraic_KernelPbwIdeal_ReferencePbwIdeal (hKernelPbwIdeal := hKernelPbwIdeal) (hReferencePbwIdeal := hReferencePbwIdeal)
    ∧ preserves_KernelWbx_KernelWbxIdeal
    ∧ algebraic_KernelWbxIdeal_ReferenceWbxIdeal (hKernelWbxIdeal := hKernelWbxIdeal) (hReferenceWbxIdeal := hReferenceWbxIdeal)
    ∧ preserves_KernelWbw_KernelWbwIdeal
    ∧ algebraic_KernelWbwIdeal_ReferenceWbwIdeal (hKernelWbwIdeal := hKernelWbwIdeal) (hReferenceWbwIdeal := hReferenceWbwIdeal)
    ∧ preserves_KernelAbx_KernelAbxIdeal
    ∧ algebraic_KernelAbxIdeal_ReferenceAbxIdeal (hKernelAbxIdeal := hKernelAbxIdeal) (hReferenceAbxIdeal := hReferenceAbxIdeal)
    ∧ preserves_KernelAbw_KernelAbwIdeal
    ∧ algebraic_KernelAbwIdeal_ReferenceAbwIdeal (hKernelAbwIdeal := hKernelAbwIdeal) (hReferenceAbwIdeal := hReferenceAbwIdeal)
    ∧ preserves_KernelBbx_KernelBbxIdeal
    ∧ algebraic_KernelBbxIdeal_ReferenceBbxIdeal (hKernelBbxIdeal := hKernelBbxIdeal) (hReferenceBbxIdeal := hReferenceBbxIdeal)
    ∧ preserves_KernelBbw_KernelBbwIdeal
    ∧ algebraic_KernelBbwIdeal_ReferenceBbwIdeal (hKernelBbwIdeal := hKernelBbwIdeal) (hReferenceBbwIdeal := hReferenceBbwIdeal)
    ∧ preserves_KernelPf_KernelPfIdeal
    ∧ algebraic_KernelPfIdeal_ReferencePfIdeal (hKernelPfIdeal := hKernelPfIdeal) (hReferencePfIdeal := hReferencePfIdeal)
    ∧ preserves_KernelWf_KernelWfIdeal
    ∧ algebraic_KernelWfIdeal_ReferenceWfIdeal (hKernelWfIdeal := hKernelWfIdeal) (hReferenceWfIdeal := hReferenceWfIdeal)
    ∧ preserves_KernelAf_KernelAfIdeal
    ∧ algebraic_KernelAfIdeal_ReferenceAfIdeal (hKernelAfIdeal := hKernelAfIdeal) (hReferenceAfIdeal := hReferenceAfIdeal)
    ∧ preserves_KernelBf_KernelBfIdeal
    ∧ algebraic_KernelBfIdeal_ReferenceBfIdeal (hKernelBfIdeal := hKernelBfIdeal) (hReferenceBfIdeal := hReferenceBfIdeal)
    ∧ preserves_KernelOw_KernelOwIdeal
    ∧ algebraic_KernelOwIdeal_ReferenceOwIdeal (hKernelOwIdeal := hKernelOwIdeal) (hReferenceOwIdeal := hReferenceOwIdeal)
    ∧ preserves_KernelOg_KernelOgIdeal
    ∧ algebraic_KernelOgIdeal_ReferenceOgIdeal (hKernelOgIdeal := hKernelOgIdeal) (hReferenceOgIdeal := hReferenceOgIdeal)
    ∧ preserves_KernelOa_KernelOaIdeal
    ∧ algebraic_KernelOaIdeal_ReferenceOaIdeal (hKernelOaIdeal := hKernelOaIdeal) (hReferenceOaIdeal := hReferenceOaIdeal)
    ∧ preserves_KernelOb_KernelObIdeal
    ∧ algebraic_KernelObIdeal_ReferenceObIdeal (hKernelObIdeal := hKernelObIdeal) (hReferenceObIdeal := hReferenceObIdeal)
    ∧ preserves_KernelOc_KernelOcIdeal
    ∧ algebraic_KernelOcIdeal_ReferenceOcIdeal (hKernelOcIdeal := hKernelOcIdeal) (hReferenceOcIdeal := hReferenceOcIdeal)
    ∧ preserves_KernelOo_KernelOoIdeal
    ∧ algebraic_KernelOoIdeal_ReferenceOoIdeal (hKernelOoIdeal := hKernelOoIdeal) (hReferenceOoIdeal := hReferenceOoIdeal)
    ∧ preserves_KernelSs_KernelSsIdeal
    ∧ algebraic_KernelSsIdeal_ReferenceSsIdeal (hKernelSsIdeal := hKernelSsIdeal) (hReferenceSsIdeal := hReferenceSsIdeal)
    ∧ preserves_KernelSa_KernelSaIdeal
    ∧ algebraic_KernelSaIdeal_ReferenceSaIdeal (hKernelSaIdeal := hKernelSaIdeal) (hReferenceSaIdeal := hReferenceSaIdeal)
    ∧ preserves_KernelLg_KernelLgIdeal
    ∧ algebraic_KernelLgIdeal_ReferenceLgIdeal (hKernelLgIdeal := hKernelLgIdeal) (hReferenceLgIdeal := hReferenceLgIdeal)
    ∧ preserves_KernelRf_KernelRfIdeal
    ∧ algebraic_KernelRfIdeal_ReferenceRfIdeal (hKernelRfIdeal := hKernelRfIdeal) (hReferenceRfIdeal := hReferenceRfIdeal)
    ∧ preserves_KernelGf_KernelGfIdeal
    ∧ algebraic_KernelGfIdeal_ReferenceGfIdeal (hKernelGfIdeal := hKernelGfIdeal) (hReferenceGfIdeal := hReferenceGfIdeal)
    ∧ preserves_KernelTf_KernelTfIdeal
    ∧ algebraic_KernelTfIdeal_ReferenceTfIdeal (hKernelTfIdeal := hKernelTfIdeal) (hReferenceTfIdeal := hReferenceTfIdeal)
    ∧ preserves_KernelTb_KernelTbIdeal
    ∧ algebraic_KernelTbIdeal_ReferenceTbIdeal (hKernelTbIdeal := hKernelTbIdeal) (hReferenceTbIdeal := hReferenceTbIdeal)
-- ==== KernelGate.lean ====
abbrev S8192x15360 : Shape := ⟨2, ![8192, 15360]⟩
abbrev S8192x2048 : Shape := ⟨2, ![8192, 2048]⟩
abbrev S128x2048 : Shape := ⟨2, ![128, 2048]⟩

abbrev nBuf : Space → Nat
  | .hbm => 11
  | .vmem => 26
  | .smem => 0
  | _ => 0

abbrev bufTy : (tb : Table) → Fin (tcTables nBuf tb) → BufTy
  | .hbm, ⟨0, _⟩ => ⟨S8192x15360, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S128x2048, .bf16⟩
  | .local _ .vmem, ⟨23, _⟩ => ⟨S128x2048, .bf16⟩
  | .local _ .vmem, ⟨24, _⟩ => ⟨S128x2048, .bf16⟩
  | .local _ .vmem, ⟨25, _⟩ => ⟨S128x2048, .bf16⟩
  | _, _ => ⟨S8192x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceGateIdeal.lean ====
abbrev S8192x15360 : Shape := ⟨2, ![8192, 15360]⟩
abbrev S8192x2048 : Shape := ⟨2, ![8192, 2048]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S8192x15360, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .bf16⟩
  | .hbm, ⟨60, _⟩ => ⟨S8192x2048, .bf16⟩
  | .hbm, ⟨61, _⟩ => ⟨S8192x2048, .bf16⟩
  | .hbm, ⟨62, _⟩ => ⟨S8192x2048, .bf16⟩
  | .hbm, ⟨63, _⟩ => ⟨S8192x2048, .bf16⟩
  | .hbm, ⟨64, _⟩ => ⟨S8192x2048, .bf16⟩
  | _, _ => ⟨S8192x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== KernelRms.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceRmsIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KernelPbx.lean ====
abbrev S8192x15360 : Shape := ⟨2, ![8192, 15360]⟩
abbrev S2048x15360 : Shape := ⟨2, ![2048, 15360]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x15360, .bf16⟩
  | .hbm, ⟨1, _⟩ => ⟨S2048x15360, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 15], ![false, false, false]⟩

def k0_cond2 (i : grid0.Coords) : BitVec 1 :=
  let arg2 : BitVec 32 := BitVec.ofNat 32 (i 2).val
  let c14_i32 : BitVec 32 := 14#32
  let v11 : BitVec 1 := Scalar.cmpi .eq arg2 c14_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferencePbxIdeal.lean ====
abbrev S8192x15360 : Shape := ⟨2, ![8192, 15360]⟩
abbrev S2048x15360 : Shape := ⟨2, ![2048, 15360]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x15360, .bf16⟩
  | .hbm, ⟨1, _⟩ => ⟨S2048x15360, .bf16⟩
  | .hbm, ⟨2, _⟩ => ⟨S_, .f32⟩
  | .hbm, ⟨3, _⟩ => ⟨S8192x2048, .f32⟩
  | .hbm, ⟨4, _⟩ => ⟨S2048x15360, .f32⟩
  | .hbm, ⟨5, _⟩ => ⟨S8192x15360, .f32⟩
  | .hbm, ⟨6, _⟩ => ⟨S8192x15360, .f32⟩
  | .hbm, ⟨7, _⟩ => ⟨S8192x2048, .f32⟩
  | _, _ => ⟨S8192x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelPbw.lean ====
abbrev S8192x2048 : Shape := ⟨2, ![8192, 2048]⟩
abbrev S8192x15360 : Shape := ⟨2, ![8192, 15360]⟩
abbrev S2048x15360 : Shape := ⟨2, ![2048, 15360]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x15360, .bf16⟩
  | .hbm, ⟨2, _⟩ => ⟨S2048x15360, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 15, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferencePbwIdeal.lean ====
abbrev S8192x2048 : Shape := ⟨2, ![8192, 2048]⟩
abbrev S8192x15360 : Shape := ⟨2, ![8192, 15360]⟩
abbrev S_ : Shape := ⟨0, ![]⟩
abbrev S2048x15360 : Shape := ⟨2, ![2048, 15360]⟩
abbrev S15360x2048 : Shape := ⟨2, ![15360, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x15360, .bf16⟩
  | .hbm, ⟨2, _⟩ => ⟨S_, .f32⟩
  | .hbm, ⟨3, _⟩ => ⟨S2048x15360, .f32⟩
  | .hbm, ⟨4, _⟩ => ⟨S8192x2048, .f32⟩
  | .hbm, ⟨5, _⟩ => ⟨S8192x15360, .f32⟩
  | .hbm, ⟨6, _⟩ => ⟨S8192x15360, .f32⟩
  | .hbm, ⟨7, _⟩ => ⟨S15360x2048, .f32⟩
  | .hbm, ⟨8, _⟩ => ⟨S2048x15360, .f32⟩
  | .hbm, ⟨9, _⟩ => ⟨S2048x15360, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelWbx.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWbxIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelWbw.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWbwIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelAbx.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAbxIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelAbw.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAbwIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelBbx.lean ====
abbrev S8192x2048 : Shape := ⟨2, ![8192, 2048]⟩
abbrev S768x2048 : Shape := ⟨2, ![768, 2048]⟩
abbrev S8192x768 : Shape := ⟨2, ![8192, 768]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S768x2048, .bf16⟩
  | .hbm, ⟨2, _⟩ => ⟨S8192x768, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBbxIdeal.lean ====
abbrev S8192x2048 : Shape := ⟨2, ![8192, 2048]⟩
abbrev S768x2048 : Shape := ⟨2, ![768, 2048]⟩
abbrev S_ : Shape := ⟨0, ![]⟩
abbrev S8192x768 : Shape := ⟨2, ![8192, 768]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S768x2048, .bf16⟩
  | .hbm, ⟨2, _⟩ => ⟨S_, .f32⟩
  | .hbm, ⟨3, _⟩ => ⟨S8192x768, .f32⟩
  | .hbm, ⟨4, _⟩ => ⟨S768x2048, .f32⟩
  | .hbm, ⟨5, _⟩ => ⟨S8192x2048, .f32⟩
  | .hbm, ⟨6, _⟩ => ⟨S8192x2048, .f32⟩
  | .hbm, ⟨7, _⟩ => ⟨S8192x768, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelBbw.lean ====
abbrev S8192x768 : Shape := ⟨2, ![8192, 768]⟩
abbrev S8192x2048 : Shape := ⟨2, ![8192, 2048]⟩
abbrev S768x2048 : Shape := ⟨2, ![768, 2048]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x768, .bf16⟩
  | .hbm, ⟨1, _⟩ => ⟨S8192x2048, .bf16⟩
  | .hbm, ⟨2, _⟩ => ⟨S768x2048, .bf16⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBbwIdeal.lean ====
abbrev S8192x768 : Shape := ⟨2, ![8192, 768]⟩
abbrev S8192x2048 : Shape := ⟨2, ![8192, 2048]⟩
abbrev S_ : Shape := ⟨0, ![]⟩
abbrev S768x2048 : Shape := ⟨2, ![768, 2048]⟩
abbrev S2048x768 : Shape := ⟨2, ![2048, 768]⟩

abbrev nBuf : Space → Nat
  | .hbm => 10
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x2048, .bf16⟩
  | .hbm, ⟨2, _⟩ => ⟨S_, .f32⟩
  | .hbm, ⟨3, _⟩ => ⟨S768x2048, .f32⟩
  | .hbm, ⟨4, _⟩ => ⟨S8192x768, .f32⟩
  | .hbm, ⟨5, _⟩ => ⟨S8192x2048, .f32⟩
  | .hbm, ⟨6, _⟩ => ⟨S8192x2048, .f32⟩
  | .hbm, ⟨7, _⟩ => ⟨S2048x768, .f32⟩
  | .hbm, ⟨8, _⟩ => ⟨S768x2048, .f32⟩
  | .hbm, ⟨9, _⟩ => ⟨S768x2048, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelPf.lean ====
abbrev S8192x2048 : Shape := ⟨2, ![8192, 2048]⟩
abbrev S2048x15360 : Shape := ⟨2, ![2048, 15360]⟩
abbrev S8192x15360 : Shape := ⟨2, ![8192, 15360]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x15360, .bf16⟩
  | .hbm, ⟨2, _⟩ => ⟨S8192x15360, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 15, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferencePfIdeal.lean ====
abbrev S8192x2048 : Shape := ⟨2, ![8192, 2048]⟩
abbrev S2048x15360 : Shape := ⟨2, ![2048, 15360]⟩
abbrev S8192x15360 : Shape := ⟨2, ![8192, 15360]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15360, .bf16⟩
  | .hbm, ⟨2, _⟩ => ⟨S8192x2048, .f32⟩
  | .hbm, ⟨3, _⟩ => ⟨S2048x15360, .f32⟩
  | .hbm, ⟨4, _⟩ => ⟨S8192x15360, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelWf.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceWfIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelAf.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAfIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelBf.lean ====
abbrev S8192x768 : Shape := ⟨2, ![8192, 768]⟩
abbrev S768x2048 : Shape := ⟨2, ![768, 2048]⟩
abbrev S8192x2048 : Shape := ⟨2, ![8192, 2048]⟩
abbrev S1024x768 : Shape := ⟨2, ![1024, 768]⟩
abbrev S768x1024 : Shape := ⟨2, ![768, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x768, .bf16⟩
  | .hbm, ⟨1, _⟩ => ⟨S768x2048, .bf16⟩
  | .hbm, ⟨2, _⟩ => ⟨S8192x2048, .f32⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBfIdeal.lean ====
abbrev S8192x768 : Shape := ⟨2, ![8192, 768]⟩
abbrev S768x2048 : Shape := ⟨2, ![768, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S768x2048, .bf16⟩
  | .hbm, ⟨2, _⟩ => ⟨S8192x768, .f32⟩
  | .hbm, ⟨3, _⟩ => ⟨S768x2048, .f32⟩
  | .hbm, ⟨4, _⟩ => ⟨S8192x2048, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelOw.lean ====
abbrev S8x2048x1860 : Shape := ⟨3, ![8, 2048, 1860]⟩
abbrev S4x2048x1860 : Shape := ⟨3, ![4, 2048, 1860]⟩
abbrev S8x64x1860 : Shape := ⟨3, ![8, 64, 1860]⟩
abbrev S1x64x1860 : Shape := ⟨3, ![1, 64, 1860]⟩
abbrev S64x1860 : Shape := ⟨2, ![64, 1860]⟩

abbrev nBuf : Space → Nat
  | .hbm => 11
  | .vmem => 22
  | .smem => 0
  | _ => 0

abbrev bufTy : (tb : Table) → Fin (tcTables nBuf tb) → BufTy
  | .hbm, ⟨0, _⟩ => ⟨S8x2048x1860, .bf16⟩
  | .hbm, ⟨1, _⟩ => ⟨S8x2048x1860, .bf16⟩
  | .hbm, ⟨2, _⟩ => ⟨S8x2048x1860, .bf16⟩
  | .hbm, ⟨3, _⟩ => ⟨S8x2048x1860, .bf16⟩
  | .hbm, ⟨4, _⟩ => ⟨S4x2048x1860, .f32⟩
  | .hbm, ⟨5, _⟩ => ⟨S4x2048x1860, .f32⟩
  | .hbm, ⟨6, _⟩ => ⟨S4x2048x1860, .f32⟩
  | .hbm, ⟨7, _⟩ => ⟨S4x2048x1860, .f32⟩
  | .hbm, ⟨8, _⟩ => ⟨S4x2048x1860, .f32⟩
  | .hbm, ⟨9, _⟩ => ⟨S4x2048x1860, .f32⟩
  | .hbm, ⟨10, _⟩ => ⟨S4x2048x1860, .f32⟩
  | .local _ .vmem, ⟨0, _⟩ => ⟨S8x64x1860, .bf16⟩
  | .local _ .vmem, ⟨1, _⟩ => ⟨S8x64x1860, .bf16⟩
  | .local _ .vmem, ⟨2, _⟩ => ⟨S8x64x1860, .bf16⟩
  | .local _ .vmem, ⟨3, _⟩ => ⟨S8x64x1860, .bf16⟩
  | .local _ .vmem, ⟨4, _⟩ => ⟨S8x64x1860, .bf16⟩
  | .local _ .vmem, ⟨5, _⟩ => ⟨S8x64x1860, .bf16⟩
  | .local _ .vmem, ⟨6, _⟩ => ⟨S8x64x1860, .bf16⟩
  | .local _ .vmem, ⟨7, _⟩ => ⟨S8x64x1860, .bf16⟩
  | .local _ .vmem, ⟨8, _⟩ => ⟨S1x64x1860, .f32⟩
  | .local _ .vmem, ⟨9, _⟩ => ⟨S1x64x1860, .f32⟩
  | .local _ .vmem, ⟨10, _⟩ => ⟨S1x64x1860, .f32⟩
  | .local _ .vmem, ⟨11, _⟩ => ⟨S1x64x1860, .f32⟩
  | .local _ .vmem, ⟨12, _⟩ => ⟨S1x64x1860, .f32⟩
  | .local _ .vmem, ⟨13, _⟩ => ⟨S1x64x1860, .f32⟩
  | .local _ .vmem, ⟨14, _⟩ => ⟨S1x64x1860, .f32⟩
  | .local _ .vmem, ⟨15, _⟩ => ⟨S1x64x1860, .f32⟩
  | .local _ .vmem, ⟨16, _⟩ => ⟨S1x64x1860, .f32⟩
  | .local _ .vmem, ⟨17, _⟩ => ⟨S1x64x1860, .f32⟩
  | .local _ .vmem, ⟨18, _⟩ => ⟨S1x64x1860, .f32⟩
  | .local _ .vmem, ⟨19, _⟩ => ⟨S1x64x1860, .f32⟩
  | .local _ .vmem, ⟨20, _⟩ => ⟨S1x64x1860, .f32⟩
  | .local _ .vmem, ⟨21, _⟩ => ⟨S1x64x1860, .f32⟩
  | _, _ => ⟨S8x2048x1860, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 32 := Scalar.addi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1860 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1860 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x1860 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x1860 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1860 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1860 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1860 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1860 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1860 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x1860 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x1860 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelOwIdeal.lean ====
abbrev S8x2048x1860 : Shape := ⟨3, ![8, 2048, 1860]⟩
abbrev S4x2048x1860 : Shape := ⟨3, ![4, 2048, 1860]⟩
abbrev S8x64x1860 : Shape := ⟨3, ![8, 64, 1860]⟩
abbrev S1x64x1860 : Shape := ⟨3, ![1, 64, 1860]⟩
abbrev S64x1860 : Shape := ⟨2, ![64, 1860]⟩

abbrev nBuf : Space → Nat
  | .hbm => 11
  | .vmem => 22
  | .smem => 0
  | _ => 0

abbrev bufTy : (tb : Table) → Fin (tcTables nBuf tb) → BufTy
  | .hbm, ⟨0, _⟩ => ⟨S8x2048x1860, .bf16⟩
  | .hbm, ⟨1, _⟩ => ⟨S8x2048x1860, .bf16⟩
  | .hbm, ⟨2, _⟩ => ⟨S8x2048x1860, .bf16⟩
  | .hbm, ⟨3, _⟩ => ⟨S8x2048x1860, .bf16⟩
  | .hbm, ⟨4, _⟩ => ⟨S4x2048x1860, .f32⟩
  | .hbm, ⟨5, _⟩ => ⟨S4x2048x1860, .f32⟩
  | .hbm, ⟨6, _⟩ => ⟨S4x2048x1860, .f32⟩
  | .hbm, ⟨7, _⟩ => ⟨S4x2048x1860, .f32⟩
  | .hbm, ⟨8, _⟩ => ⟨S4x2048x1860, .f32⟩
  | .hbm, ⟨9, _⟩ => ⟨S4x2048x1860, .f32⟩
  | .hbm, ⟨10, _⟩ => ⟨S4x2048x1860, .f32⟩
  | .local _ .vmem, ⟨0, _⟩ => ⟨S8x64x1860, .bf16⟩
  | .local _ .vmem, ⟨1, _⟩ => ⟨S8x64x1860, .bf16⟩
  | .local _ .vmem, ⟨2, _⟩ => ⟨S8x64x1860, .bf16⟩
  | .local _ .vmem, ⟨3, _⟩ => ⟨S8x64x1860, .bf16⟩
  | .local _ .vmem, ⟨4, _⟩ => ⟨S8x64x1860, .bf16⟩
  | .local _ .vmem, ⟨5, _⟩ => ⟨S8x64x1860, .bf16⟩
  | .local _ .vmem, ⟨6, _⟩ => ⟨S8x64x1860, .bf16⟩
  | .local _ .vmem, ⟨7, _⟩ => ⟨S8x64x1860, .bf16⟩
  | .local _ .vmem, ⟨8, _⟩ => ⟨S1x64x1860, .f32⟩
  | .local _ .vmem, ⟨9, _⟩ => ⟨S1x64x1860, .f32⟩
  | .local _ .vmem, ⟨10, _⟩ => ⟨S1x64x1860, .f32⟩
  | .local _ .vmem, ⟨11, _⟩ => ⟨S1x64x1860, .f32⟩
  | .local _ .vmem, ⟨12, _⟩ => ⟨S1x64x1860, .f32⟩
  | .local _ .vmem, ⟨13, _⟩ => ⟨S1x64x1860, .f32⟩
  | .local _ .vmem, ⟨14, _⟩ => ⟨S1x64x1860, .f32⟩
  | .local _ .vmem, ⟨15, _⟩ => ⟨S1x64x1860, .f32⟩
  | .local _ .vmem, ⟨16, _⟩ => ⟨S1x64x1860, .f32⟩
  | .local _ .vmem, ⟨17, _⟩ => ⟨S1x64x1860, .f32⟩
  | .local _ .vmem, ⟨18, _⟩ => ⟨S1x64x1860, .f32⟩
  | .local _ .vmem, ⟨19, _⟩ => ⟨S1x64x1860, .f32⟩
  | .local _ .vmem, ⟨20, _⟩ => ⟨S1x64x1860, .f32⟩
  | .local _ .vmem, ⟨21, _⟩ => ⟨S1x64x1860, .f32⟩
  | _, _ => ⟨S8x2048x1860, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 32 := Scalar.addi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1860 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1860 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x1860 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x1860 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1860 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1860 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1860 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1860 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1860 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x1860 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x1860 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceOwIdeal.lean ====
abbrev S8x2048x1860 : Shape := ⟨3, ![8, 2048, 1860]⟩
abbrev S4x2048x1860 : Shape := ⟨3, ![4, 2048, 1860]⟩
abbrev S_ : Shape := ⟨0, ![]⟩
abbrev S2048x1860 : Shape := ⟨2, ![2048, 1860]⟩
abbrev S1x2048x1860 : Shape := ⟨3, ![1, 2048, 1860]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x1860, .bf16⟩
  | .hbm, ⟨1, _⟩ => ⟨S8x2048x1860, .bf16⟩
  | .hbm, ⟨2, _⟩ => ⟨S8x2048x1860, .bf16⟩
  | .hbm, ⟨3, _⟩ => ⟨S8x2048x1860, .bf16⟩
  | .hbm, ⟨4, _⟩ => ⟨S4x2048x1860, .f32⟩
  | .hbm, ⟨5, _⟩ => ⟨S4x2048x1860, .f32⟩
  | .hbm, ⟨6, _⟩ => ⟨S4x2048x1860, .f32⟩
  | .hbm, ⟨7, _⟩ => ⟨S8x2048x1860, .f32⟩
  | .hbm, ⟨8, _⟩ => ⟨S_, .f32⟩
  | .hbm, ⟨9, _⟩ => ⟨S2048x1860, .f32⟩
  | .hbm, ⟨10, _⟩ => ⟨S8x2048x1860, .f32⟩
  | .hbm, ⟨11, _⟩ => ⟨S_, .f32⟩
  | .hbm, ⟨12, _⟩ => ⟨S2048x1860, .f32⟩
  | .hbm, ⟨13, _⟩ => ⟨S8x2048x1860, .f32⟩
  | .hbm, ⟨14, _⟩ => ⟨S_, .f32⟩
  | .hbm, ⟨15, _⟩ => ⟨S2048x1860, .f32⟩
  | .hbm, ⟨16, _⟩ => ⟨S8x2048x1860, .f32⟩
  | .hbm, ⟨17, _⟩ => ⟨S_, .f32⟩
  | .hbm, ⟨18, _⟩ => ⟨S2048x1860, .f32⟩
  | .hbm, ⟨19, _⟩ => ⟨S1x2048x1860, .f32⟩
  | .hbm, ⟨20, _⟩ => ⟨S1x2048x1860, .f32⟩
  | .hbm, ⟨21, _⟩ => ⟨S1x2048x1860, .f32⟩
  | .hbm, ⟨22, _⟩ => ⟨S1x2048x1860, .f32⟩
  | .hbm, ⟨23, _⟩ => ⟨S4x2048x1860, .f32⟩
  | .hbm, ⟨24, _⟩ => ⟨S_, .f32⟩
  | .hbm, ⟨25, _⟩ => ⟨S4x2048x1860, .f32⟩
  | .hbm, ⟨26, _⟩ => ⟨S4x2048x1860, .f32⟩
  | .hbm, ⟨27, _⟩ => ⟨S_, .f32⟩
  | .hbm, ⟨28, _⟩ => ⟨S4x2048x1860, .f32⟩
  | .hbm, ⟨29, _⟩ => ⟨S4x2048x1860, .f32⟩
  | .hbm, ⟨30, _⟩ => ⟨S4x2048x1860, .f32⟩
  | .hbm, ⟨31, _⟩ => ⟨S_, .f32⟩
  | .hbm, ⟨32, _⟩ => ⟨S4x2048x1860, .f32⟩
  | .hbm, ⟨33, _⟩ => ⟨S4x2048x1860, .f32⟩
  | .hbm, ⟨34, _⟩ => ⟨S4x2048x1860, .f32⟩
  | .hbm, ⟨35, _⟩ => ⟨S_, .f32⟩
  | .hbm, ⟨36, _⟩ => ⟨S4x2048x1860, .f32⟩
  | .hbm, ⟨37, _⟩ => ⟨S4x2048x1860, .f32⟩
  | .hbm, ⟨38, _⟩ => ⟨S4x2048x1860, .f32⟩
  | .hbm, ⟨39, _⟩ => ⟨S_, .f32⟩
  | .hbm, ⟨40, _⟩ => ⟨S4x2048x1860, .f32⟩
  | .hbm, ⟨41, _⟩ => ⟨S4x2048x1860, .f32⟩
  | .hbm, ⟨42, _⟩ => ⟨S_, .f32⟩
  | .hbm, ⟨43, _⟩ => ⟨S4x2048x1860, .f32⟩
  | .hbm, ⟨44, _⟩ => ⟨S4x2048x1860, .f32⟩
  | .hbm, ⟨45, _⟩ => ⟨S4x2048x1860, .f32⟩
  | .hbm, ⟨46, _⟩ => ⟨S_, .f32⟩
  | .hbm, ⟨47, _⟩ => ⟨S4x2048x1860, .f32⟩
  | .hbm, ⟨48, _⟩ => ⟨S4x2048x1860, .f32⟩
  | .hbm, ⟨49, _⟩ => ⟨S4x2048x1860, .f32⟩
  | .hbm, ⟨50, _⟩ => ⟨S_, .f32⟩
  | .hbm, ⟨51, _⟩ => ⟨S4x2048x1860, .f32⟩
  | .hbm, ⟨52, _⟩ => ⟨S4x2048x1860, .f32⟩
  | .hbm, ⟨53, _⟩ => ⟨S4x2048x1860, .f32⟩
  | .hbm, ⟨54, _⟩ => ⟨S_, .f32⟩
  | .hbm, ⟨55, _⟩ => ⟨S4x2048x1860, .f32⟩
  | .hbm, ⟨56, _⟩ => ⟨S4x2048x1860, .f32⟩
  | _, _ => ⟨S8x2048x1860, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== KernelOg.lean ====
abbrev S8x96x768 : Shape := ⟨3, ![8, 96, 768]⟩
abbrev S4x96x768 : Shape := ⟨3, ![4, 96, 768]⟩
abbrev S1x96x768 : Shape := ⟨3, ![1, 96, 768]⟩
abbrev S96x768 : Shape := ⟨2, ![96, 768]⟩

abbrev nBuf : Space → Nat
  | .hbm => 11
  | .vmem => 22
  | .smem => 0
  | _ => 0

abbrev bufTy : (tb : Table) → Fin (tcTables nBuf tb) → BufTy
  | .hbm, ⟨0, _⟩ => ⟨S8x96x768, .bf16⟩
  | .hbm, ⟨1, _⟩ => ⟨S8x96x768, .bf16⟩
  | .hbm, ⟨2, _⟩ => ⟨S8x96x768, .bf16⟩
  | .hbm, ⟨3, _⟩ => ⟨S8x96x768, .bf16⟩
  | .hbm, ⟨4, _⟩ => ⟨S4x96x768, .f32⟩
  | .hbm, ⟨5, _⟩ => ⟨S4x96x768, .f32⟩
  | .hbm, ⟨6, _⟩ => ⟨S4x96x768, .f32⟩
  | .hbm, ⟨7, _⟩ => ⟨S4x96x768, .f32⟩
  | .hbm, ⟨8, _⟩ => ⟨S4x96x768, .f32⟩
  | .hbm, ⟨9, _⟩ => ⟨S4x96x768, .f32⟩
  | .hbm, ⟨10, _⟩ => ⟨S4x96x768, .f32⟩
  | .local _ .vmem, ⟨0, _⟩ => ⟨S8x96x768, .bf16⟩
  | .local _ .vmem, ⟨1, _⟩ => ⟨S8x96x768, .bf16⟩
  | .local _ .vmem, ⟨2, _⟩ => ⟨S8x96x768, .bf16⟩
  | .local _ .vmem, ⟨3, _⟩ => ⟨S8x96x768, .bf16⟩
  | .local _ .vmem, ⟨4, _⟩ => ⟨S8x96x768, .bf16⟩
  | .local _ .vmem, ⟨5, _⟩ => ⟨S8x96x768, .bf16⟩
  | .local _ .vmem, ⟨6, _⟩ => ⟨S8x96x768, .bf16⟩
  | .local _ .vmem, ⟨7, _⟩ => ⟨S8x96x768, .bf16⟩
  | .local _ .vmem, ⟨8, _⟩ => ⟨S1x96x768, .f32⟩
  | .local _ .vmem, ⟨9, _⟩ => ⟨S1x96x768, .f32⟩
  | .local _ .vmem, ⟨10, _⟩ => ⟨S1x96x768, .f32⟩
  | .local _ .vmem, ⟨11, _⟩ => ⟨S1x96x768, .f32⟩
  | .local _ .vmem, ⟨12, _⟩ => ⟨S1x96x768, .f32⟩
  | .local _ .vmem, ⟨13, _⟩ => ⟨S1x96x768, .f32⟩
  | .local _ .vmem, ⟨14, _⟩ => ⟨S1x96x768, .f32⟩
  | .local _ .vmem, ⟨15, _⟩ => ⟨S1x96x768, .f32⟩
  | .local _ .vmem, ⟨16, _⟩ => ⟨S1x96x768, .f32⟩
  | .local _ .vmem, ⟨17, _⟩ => ⟨S1x96x768, .f32⟩
  | .local _ .vmem, ⟨18, _⟩ => ⟨S1x96x768, .f32⟩
  | .local _ .vmem, ⟨19, _⟩ => ⟨S1x96x768, .f32⟩
  | .local _ .vmem, ⟨20, _⟩ => ⟨S1x96x768, .f32⟩
  | .local _ .vmem, ⟨21, _⟩ => ⟨S1x96x768, .f32⟩
  | _, _ => ⟨S8x96x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 32 := Scalar.addi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x96x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x96x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x96x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x96x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x96x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x96x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x96x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x96x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x96x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x96x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelOgIdeal.lean ====
abbrev S8x96x768 : Shape := ⟨3, ![8, 96, 768]⟩
abbrev S4x96x768 : Shape := ⟨3, ![4, 96, 768]⟩
abbrev S1x96x768 : Shape := ⟨3, ![1, 96, 768]⟩
abbrev S96x768 : Shape := ⟨2, ![96, 768]⟩

abbrev nBuf : Space → Nat
  | .hbm => 11
  | .vmem => 22
  | .smem => 0
  | _ => 0

abbrev bufTy : (tb : Table) → Fin (tcTables nBuf tb) → BufTy
  | .hbm, ⟨0, _⟩ => ⟨S8x96x768, .bf16⟩
  | .hbm, ⟨1, _⟩ => ⟨S8x96x768, .bf16⟩
  | .hbm, ⟨2, _⟩ => ⟨S8x96x768, .bf16⟩
  | .hbm, ⟨3, _⟩ => ⟨S8x96x768, .bf16⟩
  | .hbm, ⟨4, _⟩ => ⟨S4x96x768, .f32⟩
  | .hbm, ⟨5, _⟩ => ⟨S4x96x768, .f32⟩
  | .hbm, ⟨6, _⟩ => ⟨S4x96x768, .f32⟩
  | .hbm, ⟨7, _⟩ => ⟨S4x96x768, .f32⟩
  | .hbm, ⟨8, _⟩ => ⟨S4x96x768, .f32⟩
  | .hbm, ⟨9, _⟩ => ⟨S4x96x768, .f32⟩
  | .hbm, ⟨10, _⟩ => ⟨S4x96x768, .f32⟩
  | .local _ .vmem, ⟨0, _⟩ => ⟨S8x96x768, .bf16⟩
  | .local _ .vmem, ⟨1, _⟩ => ⟨S8x96x768, .bf16⟩
  | .local _ .vmem, ⟨2, _⟩ => ⟨S8x96x768, .bf16⟩
  | .local _ .vmem, ⟨3, _⟩ => ⟨S8x96x768, .bf16⟩
  | .local _ .vmem, ⟨4, _⟩ => ⟨S8x96x768, .bf16⟩
  | .local _ .vmem, ⟨5, _⟩ => ⟨S8x96x768, .bf16⟩
  | .local _ .vmem, ⟨6, _⟩ => ⟨S8x96x768, .bf16⟩
  | .local _ .vmem, ⟨7, _⟩ => ⟨S8x96x768, .bf16⟩
  | .local _ .vmem, ⟨8, _⟩ => ⟨S1x96x768, .f32⟩
  | .local _ .vmem, ⟨9, _⟩ => ⟨S1x96x768, .f32⟩
  | .local _ .vmem, ⟨10, _⟩ => ⟨S1x96x768, .f32⟩
  | .local _ .vmem, ⟨11, _⟩ => ⟨S1x96x768, .f32⟩
  | .local _ .vmem, ⟨12, _⟩ => ⟨S1x96x768, .f32⟩
  | .local _ .vmem, ⟨13, _⟩ => ⟨S1x96x768, .f32⟩
  | .local _ .vmem, ⟨14, _⟩ => ⟨S1x96x768, .f32⟩
  | .local _ .vmem, ⟨15, _⟩ => ⟨S1x96x768, .f32⟩
  | .local _ .vmem, ⟨16, _⟩ => ⟨S1x96x768, .f32⟩
  | .local _ .vmem, ⟨17, _⟩ => ⟨S1x96x768, .f32⟩
  | .local _ .vmem, ⟨18, _⟩ => ⟨S1x96x768, .f32⟩
  | .local _ .vmem, ⟨19, _⟩ => ⟨S1x96x768, .f32⟩
  | .local _ .vmem, ⟨20, _⟩ => ⟨S1x96x768, .f32⟩
  | .local _ .vmem, ⟨21, _⟩ => ⟨S1x96x768, .f32⟩
  | _, _ => ⟨S8x96x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 32 := Scalar.addi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x96x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x96x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x96x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x96x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x96x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x96x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x96x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x96x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x96x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x96x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceOgIdeal.lean ====
abbrev S8x96x768 : Shape := ⟨3, ![8, 96, 768]⟩
abbrev S4x96x768 : Shape := ⟨3, ![4, 96, 768]⟩
abbrev S_ : Shape := ⟨0, ![]⟩
abbrev S96x768 : Shape := ⟨2, ![96, 768]⟩
abbrev S1x96x768 : Shape := ⟨3, ![1, 96, 768]⟩

abbrev nBuf : Space → Nat
  | .hbm => 57
  | .vmem => 0
  | .smem => 0
  | _ => 0

abbrev bufTy : (tb : Table) → Fin (tcTables nBuf tb) → BufTy
  | .hbm, ⟨0, _⟩ => ⟨S8x96x768, .bf16⟩
  | .hbm, ⟨1, _⟩ => ⟨S8x96x768, .bf16⟩
  | .hbm, ⟨2, _⟩ => ⟨S8x96x768, .bf16⟩
  | .hbm, ⟨3, _⟩ => ⟨S8x96x768, .bf16⟩
  | .hbm, ⟨4, _⟩ => ⟨S4x96x768, .f32⟩
  | .hbm, ⟨5, _⟩ => ⟨S4x96x768, .f32⟩
  | .hbm, ⟨6, _⟩ => ⟨S4x96x768, .f32⟩
  | .hbm, ⟨7, _⟩ => ⟨S8x96x768, .f32⟩
  | .hbm, ⟨8, _⟩ => ⟨S_, .f32⟩
  | .hbm, ⟨9, _⟩ => ⟨S96x768, .f32⟩
  | .hbm, ⟨10, _⟩ => ⟨S8x96x768, .f32⟩
  | .hbm, ⟨11, _⟩ => ⟨S_, .f32⟩
  | .hbm, ⟨12, _⟩ => ⟨S96x768, .f32⟩
  | .hbm, ⟨13, _⟩ => ⟨S8x96x768, .f32⟩
  | .hbm, ⟨14, _⟩ => ⟨S_, .f32⟩
  | .hbm, ⟨15, _⟩ => ⟨S96x768, .f32⟩
  | .hbm, ⟨16, _⟩ => ⟨S8x96x768, .f32⟩
  | .hbm, ⟨17, _⟩ => ⟨S_, .f32⟩
  | .hbm, ⟨18, _⟩ => ⟨S96x768, .f32⟩
  | .hbm, ⟨19, _⟩ => ⟨S1x96x768, .f32⟩
  | .hbm, ⟨20, _⟩ => ⟨S1x96x768, .f32⟩
  | .hbm, ⟨21, _⟩ => ⟨S1x96x768, .f32⟩
  | .hbm, ⟨22, _⟩ => ⟨S1x96x768, .f32⟩
  | .hbm, ⟨23, _⟩ => ⟨S4x96x768, .f32⟩
  | .hbm, ⟨24, _⟩ => ⟨S_, .f32⟩
  | .hbm, ⟨25, _⟩ => ⟨S4x96x768, .f32⟩
  | .hbm, ⟨26, _⟩ => ⟨S4x96x768, .f32⟩
  | .hbm, ⟨27, _⟩ => ⟨S_, .f32⟩
  | .hbm, ⟨28, _⟩ => ⟨S4x96x768, .f32⟩
  | .hbm, ⟨29, _⟩ => ⟨S4x96x768, .f32⟩
  | .hbm, ⟨30, _⟩ => ⟨S4x96x768, .f32⟩
  | .hbm, ⟨31, _⟩ => ⟨S_, .f32⟩
  | .hbm, ⟨32, _⟩ => ⟨S4x96x768, .f32⟩
  | .hbm, ⟨33, _⟩ => ⟨S4x96x768, .f32⟩
  | .hbm, ⟨34, _⟩ => ⟨S4x96x768, .f32⟩
  | .hbm, ⟨35, _⟩ => ⟨S_, .f32⟩
  | .hbm, ⟨36, _⟩ => ⟨S4x96x768, .f32⟩
  | .hbm, ⟨37, _⟩ => ⟨S4x96x768, .f32⟩
  | .hbm, ⟨38, _⟩ => ⟨S4x96x768, .f32⟩
  | .hbm, ⟨39, _⟩ => ⟨S_, .f32⟩
  | .hbm, ⟨40, _⟩ => ⟨S4x96x768, .f32⟩
  | .hbm, ⟨41, _⟩ => ⟨S4x96x768, .f32⟩
  | .hbm, ⟨42, _⟩ => ⟨S_, .f32⟩
  | .hbm, ⟨43, _⟩ => ⟨S4x96x768, .f32⟩
  | .hbm, ⟨44, _⟩ => ⟨S4x96x768, .f32⟩
  | .hbm, ⟨45, _⟩ => ⟨S4x96x768, .f32⟩
  | .hbm, ⟨46, _⟩ => ⟨S_, .f32⟩
  | .hbm, ⟨47, _⟩ => ⟨S4x96x768, .f32⟩
  | .hbm, ⟨48, _⟩ => ⟨S4x96x768, .f32⟩
  | .hbm, ⟨49, _⟩ => ⟨S4x96x768, .f32⟩
  | .hbm, ⟨50, _⟩ => ⟨S_, .f32⟩
  | .hbm, ⟨51, _⟩ => ⟨S4x96x768, .f32⟩
  | .hbm, ⟨52, _⟩ => ⟨S4x96x768, .f32⟩
  | .hbm, ⟨53, _⟩ => ⟨S4x96x768, .f32⟩
  | .hbm, ⟨54, _⟩ => ⟨S_, .f32⟩
  | .hbm, ⟨55, _⟩ => ⟨S4x96x768, .f32⟩
  | .hbm, ⟨56, _⟩ => ⟨S4x96x768, .f32⟩
  | _, _ => ⟨S8x96x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== KernelOa.lean ====
abbrev S8x2816x256 : Shape := ⟨3, ![8, 2816, 256]⟩
abbrev S4x1024x256 : Shape := ⟨3, ![4, 1024, 256]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 11
  | .vmem => 22
  | .smem => 0
  | _ => 0

abbrev bufTy : (tb : Table) → Fin (tcTables nBuf tb) → BufTy
  | .hbm, ⟨0, _⟩ => ⟨S8x2816x256, .bf16⟩
  | .hbm, ⟨1, _⟩ => ⟨S8x2816x256, .bf16⟩
  | .hbm, ⟨2, _⟩ => ⟨S8x2816x256, .bf16⟩
  | .hbm, ⟨3, _⟩ => ⟨S8x2816x256, .bf16⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S8x256x256, .bf16⟩
  | .local _ .vmem, ⟨5, _⟩ => ⟨S8x256x256, .bf16⟩
  | .local _ .vmem, ⟨6, _⟩ => ⟨S8x256x256, .bf16⟩
  | .local _ .vmem, ⟨7, _⟩ => ⟨S8x256x256, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | _, _ => ⟨S8x2816x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 32 := Scalar.addi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelOaIdeal.lean ====
abbrev S8x2816x256 : Shape := ⟨3, ![8, 2816, 256]⟩
abbrev S4x1024x256 : Shape := ⟨3, ![4, 1024, 256]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 11
  | .vmem => 22
  | .smem => 0
  | _ => 0

abbrev bufTy : (tb : Table) → Fin (tcTables nBuf tb) → BufTy
  | .hbm, ⟨0, _⟩ => ⟨S8x2816x256, .bf16⟩
  | .hbm, ⟨1, _⟩ => ⟨S8x2816x256, .bf16⟩
  | .hbm, ⟨2, _⟩ => ⟨S8x2816x256, .bf16⟩
  | .hbm, ⟨3, _⟩ => ⟨S8x2816x256, .bf16⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S8x256x256, .bf16⟩
  | .local _ .vmem, ⟨5, _⟩ => ⟨S8x256x256, .bf16⟩
  | .local _ .vmem, ⟨6, _⟩ => ⟨S8x256x256, .bf16⟩
  | .local _ .vmem, ⟨7, _⟩ => ⟨S8x256x256, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | _, _ => ⟨S8x2816x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 32 := Scalar.addi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceOaIdeal.lean ====
abbrev S8x2816x256 : Shape := ⟨3, ![8, 2816, 256]⟩
abbrev S4x1024x256 : Shape := ⟨3, ![4, 1024, 256]⟩
abbrev S8x1024x256 : Shape := ⟨3, ![8, 1024, 256]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 61
  | .vmem => 0
  | .smem => 0
  | _ => 0

abbrev bufTy : (tb : Table) → Fin (tcTables nBuf tb) → BufTy
  | .hbm, ⟨0, _⟩ => ⟨S8x2816x256, .bf16⟩
  | .hbm, ⟨1, _⟩ => ⟨S8x2816x256, .bf16⟩
  | .hbm, ⟨2, _⟩ => ⟨S8x2816x256, .bf16⟩
  | .hbm, ⟨3, _⟩ => ⟨S8x2816x256, .bf16⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S8x1024x256, .bf16⟩
  | .hbm, ⟨8, _⟩ => ⟨S8x1024x256, .f32⟩
  | .hbm, ⟨9, _⟩ => ⟨S_, .f32⟩
  | .hbm, ⟨10, _⟩ => ⟨S1024x256, .f32⟩
  | .hbm, ⟨11, _⟩ => ⟨S8x1024x256, .bf16⟩
  | .hbm, ⟨12, _⟩ => ⟨S8x1024x256, .f32⟩
  | .hbm, ⟨13, _⟩ => ⟨S_, .f32⟩
  | .hbm, ⟨14, _⟩ => ⟨S1024x256, .f32⟩
  | .hbm, ⟨15, _⟩ => ⟨S8x1024x256, .bf16⟩
  | .hbm, ⟨16, _⟩ => ⟨S8x1024x256, .f32⟩
  | .hbm, ⟨17, _⟩ => ⟨S_, .f32⟩
  | .hbm, ⟨18, _⟩ => ⟨S1024x256, .f32⟩
  | .hbm, ⟨19, _⟩ => ⟨S8x1024x256, .bf16⟩
  | .hbm, ⟨20, _⟩ => ⟨S8x1024x256, .f32⟩
  | .hbm, ⟨21, _⟩ => ⟨S_, .f32⟩
  | .hbm, ⟨22, _⟩ => ⟨S1024x256, .f32⟩
  | .hbm, ⟨23, _⟩ => ⟨S1x1024x256, .f32⟩
  | .hbm, ⟨24, _⟩ => ⟨S1x1024x256, .f32⟩
  | .hbm, ⟨25, _⟩ => ⟨S1x1024x256, .f32⟩
  | .hbm, ⟨26, _⟩ => ⟨S1x1024x256, .f32⟩
  | .hbm, ⟨27, _⟩ => ⟨S4x1024x256, .f32⟩
  | .hbm, ⟨28, _⟩ => ⟨S_, .f32⟩
  | .hbm, ⟨29, _⟩ => ⟨S4x1024x256, .f32⟩
  | .hbm, ⟨30, _⟩ => ⟨S4x1024x256, .f32⟩
  | .hbm, ⟨31, _⟩ => ⟨S_, .f32⟩
  | .hbm, ⟨32, _⟩ => ⟨S4x1024x256, .f32⟩
  | .hbm, ⟨33, _⟩ => ⟨S4x1024x256, .f32⟩
  | .hbm, ⟨34, _⟩ => ⟨S4x1024x256, .f32⟩
  | .hbm, ⟨35, _⟩ => ⟨S_, .f32⟩
  | .hbm, ⟨36, _⟩ => ⟨S4x1024x256, .f32⟩
  | .hbm, ⟨37, _⟩ => ⟨S4x1024x256, .f32⟩
  | .hbm, ⟨38, _⟩ => ⟨S4x1024x256, .f32⟩
  | .hbm, ⟨39, _⟩ => ⟨S_, .f32⟩
  | .hbm, ⟨40, _⟩ => ⟨S4x1024x256, .f32⟩
  | .hbm, ⟨41, _⟩ => ⟨S4x1024x256, .f32⟩
  | .hbm, ⟨42, _⟩ => ⟨S4x1024x256, .f32⟩
  | .hbm, ⟨43, _⟩ => ⟨S_, .f32⟩
  | .hbm, ⟨44, _⟩ => ⟨S4x1024x256, .f32⟩
  | .hbm, ⟨45, _⟩ => ⟨S4x1024x256, .f32⟩
  | .hbm, ⟨46, _⟩ => ⟨S_, .f32⟩
  | .hbm, ⟨47, _⟩ => ⟨S4x1024x256, .f32⟩
  | .hbm, ⟨48, _⟩ => ⟨S4x1024x256, .f32⟩
  | .hbm, ⟨49, _⟩ => ⟨S4x1024x256, .f32⟩
  | .hbm, ⟨50, _⟩ => ⟨S_, .f32⟩
  | .hbm, ⟨51, _⟩ => ⟨S4x1024x256, .f32⟩
  | .hbm, ⟨52, _⟩ => ⟨S4x1024x256, .f32⟩
  | .hbm, ⟨53, _⟩ => ⟨S4x1024x256, .f32⟩
  | .hbm, ⟨54, _⟩ => ⟨S_, .f32⟩
  | .hbm, ⟨55, _⟩ => ⟨S4x1024x256, .f32⟩
  | .hbm, ⟨56, _⟩ => ⟨S4x1024x256, .f32⟩
  | .hbm, ⟨57, _⟩ => ⟨S4x1024x256, .f32⟩
  | .hbm, ⟨58, _⟩ => ⟨S_, .f32⟩
  | .hbm, ⟨59, _⟩ => ⟨S4x1024x256, .f32⟩
  | .hbm, ⟨60, _⟩ => ⟨S4x1024x256, .f32⟩
  | _, _ => ⟨S8x2816x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== KernelOb.lean ====
abbrev S8x2816x256 : Shape := ⟨3, ![8, 2816, 256]⟩
abbrev S4x768x256 : Shape := ⟨3, ![4, 768, 256]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 11
  | .vmem => 22
  | .smem => 0
  | _ => 0

abbrev bufTy : (tb : Table) → Fin (tcTables nBuf tb) → BufTy
  | .hbm, ⟨0, _⟩ => ⟨S8x2816x256, .bf16⟩
  | .hbm, ⟨1, _⟩ => ⟨S8x2816x256, .bf16⟩
  | .hbm, ⟨2, _⟩ => ⟨S8x2816x256, .bf16⟩
  | .hbm, ⟨3, _⟩ => ⟨S8x2816x256, .bf16⟩
  | .hbm, ⟨4, _⟩ => ⟨S4x768x256, .f32⟩
  | .hbm, ⟨5, _⟩ => ⟨S4x768x256, .f32⟩
  | .hbm, ⟨6, _⟩ => ⟨S4x768x256, .f32⟩
  | .hbm, ⟨7, _⟩ => ⟨S4x768x256, .f32⟩
  | .hbm, ⟨8, _⟩ => ⟨S4x768x256, .f32⟩
  | .hbm, ⟨9, _⟩ => ⟨S4x768x256, .f32⟩
  | .hbm, ⟨10, _⟩ => ⟨S4x768x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S8x256x256, .bf16⟩
  | .local _ .vmem, ⟨5, _⟩ => ⟨S8x256x256, .bf16⟩
  | .local _ .vmem, ⟨6, _⟩ => ⟨S8x256x256, .bf16⟩
  | .local _ .vmem, ⟨7, _⟩ => ⟨S8x256x256, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | _, _ => ⟨S8x2816x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c4_i32 : BitVec 32 := 4#32
  let v2 : BitVec 32 := Scalar.addi c4_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c4_i32 : BitVec 32 := 4#32
  let v2 : BitVec 32 := Scalar.addi c4_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c4_i32 : BitVec 32 := 4#32
  let v2 : BitVec 32 := Scalar.addi c4_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c4_i32 : BitVec 32 := 4#32
  let v2 : BitVec 32 := Scalar.addi c4_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelObIdeal.lean ====
abbrev S8x2816x256 : Shape := ⟨3, ![8, 2816, 256]⟩
abbrev S4x768x256 : Shape := ⟨3, ![4, 768, 256]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 11
  | .vmem => 22
  | .smem => 0
  | _ => 0

abbrev bufTy : (tb : Table) → Fin (tcTables nBuf tb) → BufTy
  | .hbm, ⟨0, _⟩ => ⟨S8x2816x256, .bf16⟩
  | .hbm, ⟨1, _⟩ => ⟨S8x2816x256, .bf16⟩
  | .hbm, ⟨2, _⟩ => ⟨S8x2816x256, .bf16⟩
  | .hbm, ⟨3, _⟩ => ⟨S8x2816x256, .bf16⟩
  | .hbm, ⟨4, _⟩ => ⟨S4x768x256, .f32⟩
  | .hbm, ⟨5, _⟩ => ⟨S4x768x256, .f32⟩
  | .hbm, ⟨6, _⟩ => ⟨S4x768x256, .f32⟩
  | .hbm, ⟨7, _⟩ => ⟨S4x768x256, .f32⟩
  | .hbm, ⟨8, _⟩ => ⟨S4x768x256, .f32⟩
  | .hbm, ⟨9, _⟩ => ⟨S4x768x256, .f32⟩
  | .hbm, ⟨10, _⟩ => ⟨S4x768x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S8x256x256, .bf16⟩
  | .local _ .vmem, ⟨5, _⟩ => ⟨S8x256x256, .bf16⟩
  | .local _ .vmem, ⟨6, _⟩ => ⟨S8x256x256, .bf16⟩
  | .local _ .vmem, ⟨7, _⟩ => ⟨S8x256x256, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | _, _ => ⟨S8x2816x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c4_i32 : BitVec 32 := 4#32
  let v2 : BitVec 32 := Scalar.addi c4_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c4_i32 : BitVec 32 := 4#32
  let v2 : BitVec 32 := Scalar.addi c4_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c4_i32 : BitVec 32 := 4#32
  let v2 : BitVec 32 := Scalar.addi c4_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c4_i32 : BitVec 32 := 4#32
  let v2 : BitVec 32 := Scalar.addi c4_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceObIdeal.lean ====
abbrev S8x2816x256 : Shape := ⟨3, ![8, 2816, 256]⟩
abbrev S4x768x256 : Shape := ⟨3, ![4, 768, 256]⟩
abbrev S8x768x256 : Shape := ⟨3, ![8, 768, 256]⟩
abbrev S_ : Shape := ⟨0, ![]⟩
abbrev S768x256 : Shape := ⟨2, ![768, 256]⟩
abbrev S1x768x256 : Shape := ⟨3, ![1, 768, 256]⟩

abbrev nBuf : Space → Nat
  | .hbm => 61
  | .vmem => 0
  | .smem => 0
  | _ => 0

abbrev bufTy : (tb : Table) → Fin (tcTables nBuf tb) → BufTy
  | .hbm, ⟨0, _⟩ => ⟨S8x2816x256, .bf16⟩
  | .hbm, ⟨1, _⟩ => ⟨S8x2816x256, .bf16⟩
  | .hbm, ⟨2, _⟩ => ⟨S8x2816x256, .bf16⟩
  | .hbm, ⟨3, _⟩ => ⟨S8x2816x256, .bf16⟩
  | .hbm, ⟨4, _⟩ => ⟨S4x768x256, .f32⟩
  | .hbm, ⟨5, _⟩ => ⟨S4x768x256, .f32⟩
  | .hbm, ⟨6, _⟩ => ⟨S4x768x256, .f32⟩
  | .hbm, ⟨7, _⟩ => ⟨S8x768x256, .bf16⟩
  | .hbm, ⟨8, _⟩ => ⟨S8x768x256, .f32⟩
  | .hbm, ⟨9, _⟩ => ⟨S_, .f32⟩
  | .hbm, ⟨10, _⟩ => ⟨S768x256, .f32⟩
  | .hbm, ⟨11, _⟩ => ⟨S8x768x256, .bf16⟩
  | .hbm, ⟨12, _⟩ => ⟨S8x768x256, .f32⟩
  | .hbm, ⟨13, _⟩ => ⟨S_, .f32⟩
  | .hbm, ⟨14, _⟩ => ⟨S768x256, .f32⟩
  | .hbm, ⟨15, _⟩ => ⟨S8x768x256, .bf16⟩
  | .hbm, ⟨16, _⟩ => ⟨S8x768x256, .f32⟩
  | .hbm, ⟨17, _⟩ => ⟨S_, .f32⟩
  | .hbm, ⟨18, _⟩ => ⟨S768x256, .f32⟩
  | .hbm, ⟨19, _⟩ => ⟨S8x768x256, .bf16⟩
  | .hbm, ⟨20, _⟩ => ⟨S8x768x256, .f32⟩
  | .hbm, ⟨21, _⟩ => ⟨S_, .f32⟩
  | .hbm, ⟨22, _⟩ => ⟨S768x256, .f32⟩
  | .hbm, ⟨23, _⟩ => ⟨S1x768x256, .f32⟩
  | .hbm, ⟨24, _⟩ => ⟨S1x768x256, .f32⟩
  | .hbm, ⟨25, _⟩ => ⟨S1x768x256, .f32⟩
  | .hbm, ⟨26, _⟩ => ⟨S1x768x256, .f32⟩
  | .hbm, ⟨27, _⟩ => ⟨S4x768x256, .f32⟩
  | .hbm, ⟨28, _⟩ => ⟨S_, .f32⟩
  | .hbm, ⟨29, _⟩ => ⟨S4x768x256, .f32⟩
  | .hbm, ⟨30, _⟩ => ⟨S4x768x256, .f32⟩
  | .hbm, ⟨31, _⟩ => ⟨S_, .f32⟩
  | .hbm, ⟨32, _⟩ => ⟨S4x768x256, .f32⟩
  | .hbm, ⟨33, _⟩ => ⟨S4x768x256, .f32⟩
  | .hbm, ⟨34, _⟩ => ⟨S4x768x256, .f32⟩
  | .hbm, ⟨35, _⟩ => ⟨S_, .f32⟩
  | .hbm, ⟨36, _⟩ => ⟨S4x768x256, .f32⟩
  | .hbm, ⟨37, _⟩ => ⟨S4x768x256, .f32⟩
  | .hbm, ⟨38, _⟩ => ⟨S4x768x256, .f32⟩
  | .hbm, ⟨39, _⟩ => ⟨S_, .f32⟩
  | .hbm, ⟨40, _⟩ => ⟨S4x768x256, .f32⟩
  | .hbm, ⟨41, _⟩ => ⟨S4x768x256, .f32⟩
  | .hbm, ⟨42, _⟩ => ⟨S4x768x256, .f32⟩
  | .hbm, ⟨43, _⟩ => ⟨S_, .f32⟩
  | .hbm, ⟨44, _⟩ => ⟨S4x768x256, .f32⟩
  | .hbm, ⟨45, _⟩ => ⟨S4x768x256, .f32⟩
  | .hbm, ⟨46, _⟩ => ⟨S_, .f32⟩
  | .hbm, ⟨47, _⟩ => ⟨S4x768x256, .f32⟩
  | .hbm, ⟨48, _⟩ => ⟨S4x768x256, .f32⟩
  | .hbm, ⟨49, _⟩ => ⟨S4x768x256, .f32⟩
  | .hbm, ⟨50, _⟩ => ⟨S_, .f32⟩
  | .hbm, ⟨51, _⟩ => ⟨S4x768x256, .f32⟩
  | .hbm, ⟨52, _⟩ => ⟨S4x768x256, .f32⟩
  | .hbm, ⟨53, _⟩ => ⟨S4x768x256, .f32⟩
  | .hbm, ⟨54, _⟩ => ⟨S_, .f32⟩
  | .hbm, ⟨55, _⟩ => ⟨S4x768x256, .f32⟩
  | .hbm, ⟨56, _⟩ => ⟨S4x768x256, .f32⟩
  | .hbm, ⟨57, _⟩ => ⟨S4x768x256, .f32⟩
  | .hbm, ⟨58, _⟩ => ⟨S_, .f32⟩
  | .hbm, ⟨59, _⟩ => ⟨S4x768x256, .f32⟩
  | .hbm, ⟨60, _⟩ => ⟨S4x768x256, .f32⟩
  | _, _ => ⟨S8x2816x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== KernelOc.lean ====
abbrev S8x2816x256 : Shape := ⟨3, ![8, 2816, 256]⟩
abbrev S4x1024x256 : Shape := ⟨3, ![4, 1024, 256]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 11
  | .vmem => 22
  | .smem => 0
  | _ => 0

abbrev bufTy : (tb : Table) → Fin (tcTables nBuf tb) → BufTy
  | .hbm, ⟨0, _⟩ => ⟨S8x2816x256, .bf16⟩
  | .hbm, ⟨1, _⟩ => ⟨S8x2816x256, .bf16⟩
  | .hbm, ⟨2, _⟩ => ⟨S8x2816x256, .bf16⟩
  | .hbm, ⟨3, _⟩ => ⟨S8x2816x256, .bf16⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S8x256x256, .bf16⟩
  | .local _ .vmem, ⟨5, _⟩ => ⟨S8x256x256, .bf16⟩
  | .local _ .vmem, ⟨6, _⟩ => ⟨S8x256x256, .bf16⟩
  | .local _ .vmem, ⟨7, _⟩ => ⟨S8x256x256, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | _, _ => ⟨S8x2816x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c7_i32 : BitVec 32 := 7#32
  let v2 : BitVec 32 := Scalar.addi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c7_i32 : BitVec 32 := 7#32
  let v2 : BitVec 32 := Scalar.addi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c7_i32 : BitVec 32 := 7#32
  let v2 : BitVec 32 := Scalar.addi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c7_i32 : BitVec 32 := 7#32
  let v2 : BitVec 32 := Scalar.addi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelOcIdeal.lean ====
abbrev S8x2816x256 : Shape := ⟨3, ![8, 2816, 256]⟩
abbrev S4x1024x256 : Shape := ⟨3, ![4, 1024, 256]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 11
  | .vmem => 22
  | .smem => 0
  | _ => 0

abbrev bufTy : (tb : Table) → Fin (tcTables nBuf tb) → BufTy
  | .hbm, ⟨0, _⟩ => ⟨S8x2816x256, .bf16⟩
  | .hbm, ⟨1, _⟩ => ⟨S8x2816x256, .bf16⟩
  | .hbm, ⟨2, _⟩ => ⟨S8x2816x256, .bf16⟩
  | .hbm, ⟨3, _⟩ => ⟨S8x2816x256, .bf16⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S8x256x256, .bf16⟩
  | .local _ .vmem, ⟨5, _⟩ => ⟨S8x256x256, .bf16⟩
  | .local _ .vmem, ⟨6, _⟩ => ⟨S8x256x256, .bf16⟩
  | .local _ .vmem, ⟨7, _⟩ => ⟨S8x256x256, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | _, _ => ⟨S8x2816x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c7_i32 : BitVec 32 := 7#32
  let v2 : BitVec 32 := Scalar.addi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c7_i32 : BitVec 32 := 7#32
  let v2 : BitVec 32 := Scalar.addi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c7_i32 : BitVec 32 := 7#32
  let v2 : BitVec 32 := Scalar.addi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c7_i32 : BitVec 32 := 7#32
  let v2 : BitVec 32 := Scalar.addi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceOcIdeal.lean ====
abbrev S8x2816x256 : Shape := ⟨3, ![8, 2816, 256]⟩
abbrev S4x1024x256 : Shape := ⟨3, ![4, 1024, 256]⟩
abbrev S8x1024x256 : Shape := ⟨3, ![8, 1024, 256]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 61
  | .vmem => 0
  | .smem => 0
  | _ => 0

abbrev bufTy : (tb : Table) → Fin (tcTables nBuf tb) → BufTy
  | .hbm, ⟨0, _⟩ => ⟨S8x2816x256, .bf16⟩
  | .hbm, ⟨1, _⟩ => ⟨S8x2816x256, .bf16⟩
  | .hbm, ⟨2, _⟩ => ⟨S8x2816x256, .bf16⟩
  | .hbm, ⟨3, _⟩ => ⟨S8x2816x256, .bf16⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S8x1024x256, .bf16⟩
  | .hbm, ⟨8, _⟩ => ⟨S8x1024x256, .f32⟩
  | .hbm, ⟨9, _⟩ => ⟨S_, .f32⟩
  | .hbm, ⟨10, _⟩ => ⟨S1024x256, .f32⟩
  | .hbm, ⟨11, _⟩ => ⟨S8x1024x256, .bf16⟩
  | .hbm, ⟨12, _⟩ => ⟨S8x1024x256, .f32⟩
  | .hbm, ⟨13, _⟩ => ⟨S_, .f32⟩
  | .hbm, ⟨14, _⟩ => ⟨S1024x256, .f32⟩
  | .hbm, ⟨15, _⟩ => ⟨S8x1024x256, .bf16⟩
  | .hbm, ⟨16, _⟩ => ⟨S8x1024x256, .f32⟩
  | .hbm, ⟨17, _⟩ => ⟨S_, .f32⟩
  | .hbm, ⟨18, _⟩ => ⟨S1024x256, .f32⟩
  | .hbm, ⟨19, _⟩ => ⟨S8x1024x256, .bf16⟩
  | .hbm, ⟨20, _⟩ => ⟨S8x1024x256, .f32⟩
  | .hbm, ⟨21, _⟩ => ⟨S_, .f32⟩
  | .hbm, ⟨22, _⟩ => ⟨S1024x256, .f32⟩
  | .hbm, ⟨23, _⟩ => ⟨S1x1024x256, .f32⟩
  | .hbm, ⟨24, _⟩ => ⟨S1x1024x256, .f32⟩
  | .hbm, ⟨25, _⟩ => ⟨S1x1024x256, .f32⟩
  | .hbm, ⟨26, _⟩ => ⟨S1x1024x256, .f32⟩
  | .hbm, ⟨27, _⟩ => ⟨S4x1024x256, .f32⟩
  | .hbm, ⟨28, _⟩ => ⟨S_, .f32⟩
  | .hbm, ⟨29, _⟩ => ⟨S4x1024x256, .f32⟩
  | .hbm, ⟨30, _⟩ => ⟨S4x1024x256, .f32⟩
  | .hbm, ⟨31, _⟩ => ⟨S_, .f32⟩
  | .hbm, ⟨32, _⟩ => ⟨S4x1024x256, .f32⟩
  | .hbm, ⟨33, _⟩ => ⟨S4x1024x256, .f32⟩
  | .hbm, ⟨34, _⟩ => ⟨S4x1024x256, .f32⟩
  | .hbm, ⟨35, _⟩ => ⟨S_, .f32⟩
  | .hbm, ⟨36, _⟩ => ⟨S4x1024x256, .f32⟩
  | .hbm, ⟨37, _⟩ => ⟨S4x1024x256, .f32⟩
  | .hbm, ⟨38, _⟩ => ⟨S4x1024x256, .f32⟩
  | .hbm, ⟨39, _⟩ => ⟨S_, .f32⟩
  | .hbm, ⟨40, _⟩ => ⟨S4x1024x256, .f32⟩
  | .hbm, ⟨41, _⟩ => ⟨S4x1024x256, .f32⟩
  | .hbm, ⟨42, _⟩ => ⟨S4x1024x256, .f32⟩
  | .hbm, ⟨43, _⟩ => ⟨S_, .f32⟩
  | .hbm, ⟨44, _⟩ => ⟨S4x1024x256, .f32⟩
  | .hbm, ⟨45, _⟩ => ⟨S4x1024x256, .f32⟩
  | .hbm, ⟨46, _⟩ => ⟨S_, .f32⟩
  | .hbm, ⟨47, _⟩ => ⟨S4x1024x256, .f32⟩
  | .hbm, ⟨48, _⟩ => ⟨S4x1024x256, .f32⟩
  | .hbm, ⟨49, _⟩ => ⟨S4x1024x256, .f32⟩
  | .hbm, ⟨50, _⟩ => ⟨S_, .f32⟩
  | .hbm, ⟨51, _⟩ => ⟨S4x1024x256, .f32⟩
  | .hbm, ⟨52, _⟩ => ⟨S4x1024x256, .f32⟩
  | .hbm, ⟨53, _⟩ => ⟨S4x1024x256, .f32⟩
  | .hbm, ⟨54, _⟩ => ⟨S_, .f32⟩
  | .hbm, ⟨55, _⟩ => ⟨S4x1024x256, .f32⟩
  | .hbm, ⟨56, _⟩ => ⟨S4x1024x256, .f32⟩
  | .hbm, ⟨57, _⟩ => ⟨S4x1024x256, .f32⟩
  | .hbm, ⟨58, _⟩ => ⟨S_, .f32⟩
  | .hbm, ⟨59, _⟩ => ⟨S4x1024x256, .f32⟩
  | .hbm, ⟨60, _⟩ => ⟨S4x1024x256, .f32⟩
  | _, _ => ⟨S8x2816x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== KernelOo.lean ====
abbrev S8x256x2048 : Shape := ⟨3, ![8, 256, 2048]⟩
abbrev S4x256x2048 : Shape := ⟨3, ![4, 256, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 11
  | .vmem => 22
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S8x256x2048, .bf16⟩
  | .hbm, ⟨3, _⟩ => ⟨S8x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S8x64x2048, .bf16⟩
  | .local _ .vmem, ⟨5, _⟩ => ⟨S8x64x2048, .bf16⟩
  | .local _ .vmem, ⟨6, _⟩ => ⟨S8x64x2048, .bf16⟩
  | .local _ .vmem, ⟨7, _⟩ => ⟨S8x64x2048, .bf16⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 32 := Scalar.addi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceOoIdeal.lean ====
abbrev S8x256x2048 : Shape := ⟨3, ![8, 256, 2048]⟩
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S8x256x2048, .bf16⟩
  | .hbm, ⟨3, _⟩ => ⟨S8x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S8x256x2048, .f32⟩
  | .hbm, ⟨8, _⟩ => ⟨S_, .f32⟩
  | .hbm, ⟨9, _⟩ => ⟨S256x2048, .f32⟩
  | .hbm, ⟨10, _⟩ => ⟨S8x256x2048, .f32⟩
  | .hbm, ⟨11, _⟩ => ⟨S_, .f32⟩
  | .hbm, ⟨12, _⟩ => ⟨S256x2048, .f32⟩
  | .hbm, ⟨13, _⟩ => ⟨S8x256x2048, .f32⟩
  | .hbm, ⟨14, _⟩ => ⟨S_, .f32⟩
  | .hbm, ⟨15, _⟩ => ⟨S256x2048, .f32⟩
  | .hbm, ⟨16, _⟩ => ⟨S8x256x2048, .f32⟩
  | .hbm, ⟨17, _⟩ => ⟨S_, .f32⟩
  | .hbm, ⟨18, _⟩ => ⟨S256x2048, .f32⟩
  | .hbm, ⟨19, _⟩ => ⟨S1x256x2048, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S4x256x2048, .f32⟩
  | .hbm, ⟨24, _⟩ => ⟨S_, .f32⟩
  | .hbm, ⟨25, _⟩ => ⟨S4x256x2048, .f32⟩
  | .hbm, ⟨26, _⟩ => ⟨S4x256x2048, .f32⟩
  | .hbm, ⟨27, _⟩ => ⟨S_, .f32⟩
  | .hbm, ⟨28, _⟩ => ⟨S4x256x2048, .f32⟩
  | .hbm, ⟨29, _⟩ => ⟨S4x256x2048, .f32⟩
  | .hbm, ⟨30, _⟩ => ⟨S4x256x2048, .f32⟩
  | .hbm, ⟨31, _⟩ => ⟨S_, .f32⟩
  | .hbm, ⟨32, _⟩ => ⟨S4x256x2048, .f32⟩
  | .hbm, ⟨33, _⟩ => ⟨S4x256x2048, .f32⟩
  | .hbm, ⟨34, _⟩ => ⟨S4x256x2048, .f32⟩
  | .hbm, ⟨35, _⟩ => ⟨S_, .f32⟩
  | .hbm, ⟨36, _⟩ => ⟨S4x256x2048, .f32⟩
  | .hbm, ⟨37, _⟩ => ⟨S4x256x2048, .f32⟩
  | .hbm, ⟨38, _⟩ => ⟨S4x256x2048, .f32⟩
  | .hbm, ⟨39, _⟩ => ⟨S_, .f32⟩
  | .hbm, ⟨40, _⟩ => ⟨S4x256x2048, .f32⟩
  | .hbm, ⟨41, _⟩ => ⟨S4x256x2048, .f32⟩
  | .hbm, ⟨42, _⟩ => ⟨S_, .f32⟩
  | .hbm, ⟨43, _⟩ => ⟨S4x256x2048, .f32⟩
  | .hbm, ⟨44, _⟩ => ⟨S4x256x2048, .f32⟩
  | .hbm, ⟨45, _⟩ => ⟨S4x256x2048, .f32⟩
  | .hbm, ⟨46, _⟩ => ⟨S_, .f32⟩
  | .hbm, ⟨47, _⟩ => ⟨S4x256x2048, .f32⟩
  | .hbm, ⟨48, _⟩ => ⟨S4x256x2048, .f32⟩
  | .hbm, ⟨49, _⟩ => ⟨S4x256x2048, .f32⟩
  | .hbm, ⟨50, _⟩ => ⟨S_, .f32⟩
  | .hbm, ⟨51, _⟩ => ⟨S4x256x2048, .f32⟩
  | .hbm, ⟨52, _⟩ => ⟨S4x256x2048, .f32⟩
  | .hbm, ⟨53, _⟩ => ⟨S4x256x2048, .f32⟩
  | .hbm, ⟨54, _⟩ => ⟨S_, .f32⟩
  | .hbm, ⟨55, _⟩ => ⟨S4x256x2048, .f32⟩
  | .hbm, ⟨56, _⟩ => ⟨S4x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== KernelSs.lean ====
abbrev S_ : Shape := ⟨0, ![]⟩
abbrev S8x4x2048 : Shape := ⟨3, ![8, 4, 2048]⟩
abbrev S8x4x8 : Shape := ⟨3, ![8, 4, 8]⟩
abbrev S8x4x128 : Shape := ⟨3, ![8, 4, 128]⟩
abbrev S8x4x48x64 : Shape := ⟨4, ![8, 4, 48, 64]⟩
abbrev S8x4x48 : Shape := ⟨3, ![8, 4, 48]⟩
abbrev S8x4x48x64x16 : Shape := ⟨5, ![8, 4, 48, 64, 16]⟩
abbrev S8x4x48x16x64 : Shape := ⟨5, ![8, 4, 48, 16, 64]⟩
abbrev S8x4x48x16 : Shape := ⟨4, ![8, 4, 48, 16]⟩
abbrev S8x4x768 : Shape := ⟨3, ![8, 4, 768]⟩
abbrev S8x4x16 : Shape := ⟨3, ![8, 4, 16]⟩
abbrev S8x4x1024 : Shape := ⟨3, ![8, 4, 1024]⟩
abbrev S8x4x4x3072 : Shape := ⟨4, ![8, 4, 4, 3072]⟩
abbrev S8x4x4x2048 : Shape := ⟨4, ![8, 4, 4, 2048]⟩
abbrev S8x2048 : Shape := ⟨2, ![8, 2048]⟩
abbrev S8x8192 : Shape := ⟨2, ![8, 8192]⟩
abbrev S8x64x128 : Shape := ⟨3, ![8, 64, 128]⟩
abbrev S8x32 : Shape := ⟨2, ![8, 32]⟩
abbrev S992 : Shape := ⟨1, ![992]⟩
abbrev S8x992 : Shape := ⟨2, ![8, 992]⟩
abbrev S8x1024 : Shape := ⟨2, ![8, 1024]⟩
abbrev S8x8x128 : Shape := ⟨3, ![8, 8, 128]⟩
abbrev S8x512 : Shape := ⟨2, ![8, 512]⟩
abbrev S512 : Shape := ⟨1, ![512]⟩
abbrev S8x12288 : Shape := ⟨2, ![8, 12288]⟩
abbrev S8x96x128 : Shape := ⟨3, ![8, 96, 128]⟩
abbrev S8x192 : Shape := ⟨2, ![8, 192]⟩
abbrev S832 : Shape := ⟨1, ![832]⟩
abbrev S8x832 : Shape := ⟨2, ![8, 832]⟩
abbrev S8x196608 : Shape := ⟨2, ![8, 196608]⟩
abbrev S8x1536x128 : Shape := ⟨3, ![8, 1536, 128]⟩
abbrev S8x3072 : Shape := ⟨2, ![8, 3072]⟩
abbrev S8x24x128 : Shape := ⟨3, ![8, 24, 128]⟩
abbrev S8x64 : Shape := ⟨2, ![8, 64]⟩
abbrev S960 : Shape := ⟨1, ![960]⟩
abbrev S8x960 : Shape := ⟨2, ![8, 960]⟩
abbrev S8x4096 : Shape := ⟨2, ![8, 4096]⟩
abbrev S8x32x128 : Shape := ⟨3, ![8, 32, 128]⟩
abbrev S8x49152 : Shape := ⟨2, ![8, 49152]⟩
abbrev S8x384x128 : Shape := ⟨3, ![8, 384, 128]⟩
abbrev S8x32768 : Shape := ⟨2, ![8, 32768]⟩
abbrev S8x256x128 : Shape := ⟨3, ![8, 256, 128]⟩
abbrev S8x16x128 : Shape := ⟨3, ![8, 16, 128]⟩
abbrev S168x128 : Shape := ⟨2, ![168, 128]⟩
abbrev S8x168x128 : Shape := ⟨3, ![8, 168, 128]⟩
abbrev S8x6560x128 : Shape := ⟨3, ![8, 6560, 128]⟩
abbrev S8x864x128 : Shape := ⟨3, ![8, 864, 128]⟩
abbrev S8x7424x128 : Shape := ⟨3, ![8, 7424, 128]⟩
abbrev S7424x128 : Shape := ⟨2, ![7424, 128]⟩
abbrev S256x128 : Shape := ⟨2, ![256, 128]⟩
abbrev S1x256x128 : Shape := ⟨3, ![1, 256, 128]⟩
abbrev S64x128 : Shape := ⟨2, ![64, 128]⟩
abbrev S4x2048 : Shape := ⟨2, ![4, 2048]⟩
abbrev S8x128 : Shape := ⟨2, ![8, 128]⟩
abbrev S1024 : Shape := ⟨1, ![1024]⟩
abbrev S32 : Shape := ⟨1, ![32]⟩
abbrev S4x8 : Shape := ⟨2, ![4, 8]⟩
abbrev S4x128 : Shape := ⟨2, ![4, 128]⟩
abbrev S96x128 : Shape := ⟨2, ![96, 128]⟩
abbrev S4x48x64 : Shape := ⟨3, ![4, 48, 64]⟩
abbrev S192 : Shape := ⟨1, ![192]⟩
abbrev S4x48 : Shape := ⟨2, ![4, 48]⟩
abbrev S1536x128 : Shape := ⟨2, ![1536, 128]⟩
abbrev S4x48x64x16 : Shape := ⟨4, ![4, 48, 64, 16]⟩
abbrev S4x48x16x64 : Shape := ⟨4, ![4, 48, 16, 64]⟩
abbrev S24x128 : Shape := ⟨2, ![24, 128]⟩
abbrev S4x48x16 : Shape := ⟨3, ![4, 48, 16]⟩
abbrev S4x768 : Shape := ⟨2, ![4, 768]⟩
abbrev S64 : Shape := ⟨1, ![64]⟩
abbrev S4x16 : Shape := ⟨2, ![4, 16]⟩
abbrev S32x128 : Shape := ⟨2, ![32, 128]⟩
abbrev S4x1024 : Shape := ⟨2, ![4, 1024]⟩
abbrev S384x128 : Shape := ⟨2, ![384, 128]⟩
abbrev S4x4x3072 : Shape := ⟨3, ![4, 4, 3072]⟩
abbrev S4x4x2048 : Shape := ⟨3, ![4, 4, 2048]⟩
abbrev S16x128 : Shape := ⟨2, ![16, 128]⟩
abbrev S2048 : Shape := ⟨1, ![2048]⟩
abbrev S4x4x384 : Shape := ⟨3, ![4, 4, 384]⟩
abbrev S4x4x256 : Shape := ⟨3, ![4, 4, 256]⟩

abbrev nBuf : Space → Nat
  | .hbm => 174
  | .vmem => 4
  | .smem => 0
  | _ => 0

abbrev hbmTy0_0 (i : Nat) : BufTy := match i % 128 with
  | 0 => ⟨S_, .i32⟩
  | 1 => ⟨S8x4x2048, .f32⟩
  | 2 => ⟨S8x4x8, .f32⟩
  | 3 => ⟨S8x4x8, .f32⟩
  | 4 => ⟨S8x4x128, .f32⟩
  | 5 => ⟨S8x4x48x64, .f32⟩
  | 6 => ⟨S8x4x48x64, .f32⟩
  | 7 => ⟨S8x4x48, .f32⟩
  | 8 => ⟨S8x4x48x64x16, .f32⟩
  | 9 => ⟨S8x4x48x64x16, .f32⟩
  | 10 => ⟨S8x4x48x16x64, .f32⟩
  | 11 => ⟨S8x4x48x16x64, .f32⟩
  | 12 => ⟨S8x4x48x16, .f32⟩
  | 13 => ⟨S8x4x768, .f32⟩
  | 14 => ⟨S8x4x2048, .f32⟩
  | 15 => ⟨S8x4x16, .f32⟩
  | 16 => ⟨S8x4x16, .f32⟩
  | 17 => ⟨S8x4x16, .f32⟩
  | 18 => ⟨S8x4x1024, .f32⟩
  | 19 => ⟨S8x4x4x3072, .f32⟩
  | 20 => ⟨S8x4x4x2048, .f32⟩
  | 21 => ⟨S8x2048, .f32⟩
  | 22 => ⟨S8x8192, .f32⟩
  | 23 => ⟨S8x64x128, .f32⟩
  | 24 => ⟨S8x32, .f32⟩
  | 25 => ⟨S_, .f32⟩
  | 26 => ⟨S992, .f32⟩
  | 27 => ⟨S8x992, .f32⟩
  | 28 => ⟨S8x1024, .f32⟩
  | 29 => ⟨S8x8x128, .f32⟩
  | 30 => ⟨S8x32, .f32⟩
  | 31 => ⟨S_, .f32⟩
  | 32 => ⟨S992, .f32⟩
  | 33 => ⟨S8x992, .f32⟩
  | 34 => ⟨S8x1024, .f32⟩
  | 35 => ⟨S8x8x128, .f32⟩
  | 36 => ⟨S8x512, .f32⟩
  | 37 => ⟨S_, .f32⟩
  | 38 => ⟨S512, .f32⟩
  | 39 => ⟨S8x512, .f32⟩
  | 40 => ⟨S8x1024, .f32⟩
  | 41 => ⟨S8x8x128, .f32⟩
  | 42 => ⟨S8x12288, .f32⟩
  | 43 => ⟨S8x96x128, .f32⟩
  | 44 => ⟨S8x12288, .f32⟩
  | 45 => ⟨S8x96x128, .f32⟩
  | 46 => ⟨S8x192, .f32⟩
  | 47 => ⟨S_, .f32⟩
  | 48 => ⟨S832, .f32⟩
  | 49 => ⟨S8x832, .f32⟩
  | 50 => ⟨S8x1024, .f32⟩
  | 51 => ⟨S8x8x128, .f32⟩
  | 52 => ⟨S8x196608, .f32⟩
  | 53 => ⟨S8x1536x128, .f32⟩
  | 54 => ⟨S8x196608, .f32⟩
  | 55 => ⟨S8x1536x128, .f32⟩
  | 56 => ⟨S8x196608, .f32⟩
  | 57 => ⟨S8x1536x128, .f32⟩
  | 58 => ⟨S8x196608, .f32⟩
  | 59 => ⟨S8x1536x128, .f32⟩
  | 60 => ⟨S8x3072, .f32⟩
  | 61 => ⟨S8x24x128, .f32⟩
  | 62 => ⟨S8x3072, .f32⟩
  | 63 => ⟨S8x24x128, .f32⟩
  | 64 => ⟨S8x8192, .f32⟩
  | 65 => ⟨S8x64x128, .f32⟩
  | 66 => ⟨S8x64, .f32⟩
  | 67 => ⟨S_, .f32⟩
  | 68 => ⟨S960, .f32⟩
  | 69 => ⟨S8x960, .f32⟩
  | 70 => ⟨S8x1024, .f32⟩
  | 71 => ⟨S8x8x128, .f32⟩
  | 72 => ⟨S8x64, .f32⟩
  | 73 => ⟨S_, .f32⟩
  | 74 => ⟨S960, .f32⟩
  | 75 => ⟨S8x960, .f32⟩
  | 76 => ⟨S8x1024, .f32⟩
  | 77 => ⟨S8x8x128, .f32⟩
  | 78 => ⟨S8x64, .f32⟩
  | 79 => ⟨S_, .f32⟩
  | 80 => ⟨S960, .f32⟩
  | 81 => ⟨S8x960, .f32⟩
  | 82 => ⟨S8x1024, .f32⟩
  | 83 => ⟨S8x8x128, .f32⟩
  | 84 => ⟨S8x4096, .f32⟩
  | 85 => ⟨S8x32x128, .f32⟩
  | 86 => ⟨S8x49152, .f32⟩
  | 87 => ⟨S8x384x128, .f32⟩
  | 88 => ⟨S8x32768, .f32⟩
  | 89 => ⟨S8x256x128, .f32⟩
  | 90 => ⟨S8x16x128, .f32⟩
  | 91 => ⟨S_, .f32⟩
  | 92 => ⟨S168x128, .f32⟩
  | 93 => ⟨S8x168x128, .f32⟩
  | 94 => ⟨S8x6560x128, .f32⟩
  | 95 => ⟨S8x864x128, .f32⟩
  | 96 => ⟨S8x7424x128, .f32⟩
  | 97 => ⟨S7424x128, .f32⟩
  | 98 => ⟨S64x128, .f32⟩
  | 99 => ⟨S4x2048, .f32⟩
  | 100 => ⟨S8x128, .f32⟩
  | 101 => ⟨S1024, .f32⟩
  | 102 => ⟨S32, .f32⟩
  | 103 => ⟨S4x8, .f32⟩
  | 104 => ⟨S8x128, .f32⟩
  | 105 => ⟨S1024, .f32⟩
  | 106 => ⟨S32, .f32⟩
  | 107 => ⟨S4x8, .f32⟩
  | 108 => ⟨S8x128, .f32⟩
  | 109 => ⟨S1024, .f32⟩
  | 110 => ⟨S512, .f32⟩
  | 111 => ⟨S4x128, .f32⟩
  | 112 => ⟨S96x128, .f32⟩
  | 113 => ⟨S4x48x64, .f32⟩
  | 114 => ⟨S96x128, .f32⟩
  | 115 => ⟨S4x48x64, .f32⟩
  | 116 => ⟨S8x128, .f32⟩
  | 117 => ⟨S1024, .f32⟩
  | 118 => ⟨S192, .f32⟩
  | 119 => ⟨S4x48, .f32⟩
  | 120 => ⟨S1536x128, .f32⟩
  | 121 => ⟨S4x48x64x16, .f32⟩
  | 122 => ⟨S1536x128, .f32⟩
  | 123 => ⟨S4x48x64x16, .f32⟩
  | 124 => ⟨S1536x128, .f32⟩
  | 125 => ⟨S4x48x16x64, .f32⟩
  | 126 => ⟨S1536x128, .f32⟩
  | 127 => ⟨S4x48x16x64, .f32⟩
  | _ => ⟨S_, .i32⟩

abbrev hbmTy0_1 (i : Nat) : BufTy := match i % 128 with
  | 0 => ⟨S24x128, .f32⟩
  | 1 => ⟨S4x48x16, .f32⟩
  | 2 => ⟨S24x128, .f32⟩
  | 3 => ⟨S4x768, .f32⟩
  | 4 => ⟨S64x128, .f32⟩
  | 5 => ⟨S4x2048, .f32⟩
  | 6 => ⟨S8x128, .f32⟩
  | 7 => ⟨S1024, .f32⟩
  | 8 => ⟨S64, .f32⟩
  | 9 => ⟨S4x16, .f32⟩
  | 10 => ⟨S8x128, .f32⟩
  | 11 => ⟨S1024, .f32⟩
  | 12 => ⟨S64, .f32⟩
  | 13 => ⟨S4x16, .f32⟩
  | 14 => ⟨S8x128, .f32⟩
  | 15 => ⟨S1024, .f32⟩
  | 16 => ⟨S64, .f32⟩
  | 17 => ⟨S4x16, .f32⟩
  | 18 => ⟨S32x128, .f32⟩
  | 19 => ⟨S4x1024, .f32⟩
  | 20 => ⟨S384x128, .f32⟩
  | 21 => ⟨S4x4x3072, .f32⟩
  | 22 => ⟨S256x128, .f32⟩
  | 23 => ⟨S4x4x2048, .f32⟩
  | 24 => ⟨S16x128, .f32⟩
  | 25 => ⟨S2048, .f32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S4x4x384, .f32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S4x4x256, .f32⟩
  | _ => ⟨S_, .i32⟩

abbrev hbmTy (i : Nat) : BufTy := match i / 128 with
  | 0 => hbmTy0_0 i
  | 1 => hbmTy0_1 i
  | _ => ⟨S_, .i32⟩

abbrev bufTy : (tb : Table) → Fin (tcTables nBuf tb) → BufTy
  | .hbm, ⟨i, _⟩ => hbmTy i
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_3 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_5 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_6 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_c : Ref sig .tc := ⟨.hbm, 154, rfl⟩
abbrev main_v124 : Ref sig .tc := ⟨.hbm, 155, rfl⟩
abbrev main_c_7 : Ref sig .tc := ⟨.hbm, 156, rfl⟩
abbrev main_v125 : Ref sig .tc := ⟨.hbm, 157, rfl⟩
abbrev main_c_8 : Ref sig .tc := ⟨.hbm, 158, rfl⟩
abbrev main_v126 : Ref sig .tc := ⟨.hbm, 159, rfl⟩
abbrev main_v127 : Ref sig .tc := ⟨.hbm, 160, rfl⟩
abbrev main_c_9 : Ref sig .tc := ⟨.hbm, 161, rfl⟩
abbrev main_c_10 : Ref sig .tc := ⟨.hbm, 162, rfl⟩
abbrev main_v128 : Ref sig .tc := ⟨.hbm, 163, rfl⟩
abbrev main_c_11 : Ref sig .tc := ⟨.hbm, 164, rfl⟩
abbrev main_v129 : Ref sig .tc := ⟨.hbm, 165, rfl⟩
abbrev main_c_12 : Ref sig .tc := ⟨.hbm, 166, rfl⟩
abbrev main_v130 : Ref sig .tc := ⟨.hbm, 167, rfl⟩
abbrev main_c_13 : Ref sig .tc := ⟨.hbm, 168, rfl⟩
abbrev main_v131 : Ref sig .tc := ⟨.hbm, 169, rfl⟩
abbrev main_v132 : Ref sig .tc := ⟨.hbm, 170, rfl⟩
abbrev main_c_14 : Ref sig .tc := ⟨.hbm, 171, rfl⟩
abbrev main_c_15 : Ref sig .tc := ⟨.hbm, 172, rfl⟩
abbrev main_v133 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![29], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceSsIdeal.lean ====
abbrev S_ : Shape := ⟨0, ![]⟩
abbrev S8x4x2048 : Shape := ⟨3, ![8, 4, 2048]⟩
abbrev S8x4x8 : Shape := ⟨3, ![8, 4, 8]⟩
abbrev S8x4x128 : Shape := ⟨3, ![8, 4, 128]⟩
abbrev S8x4x48x64 : Shape := ⟨4, ![8, 4, 48, 64]⟩
abbrev S8x4x48 : Shape := ⟨3, ![8, 4, 48]⟩
abbrev S8x4x48x64x16 : Shape := ⟨5, ![8, 4, 48, 64, 16]⟩
abbrev S8x4x48x16x64 : Shape := ⟨5, ![8, 4, 48, 16, 64]⟩
abbrev S8x4x48x16 : Shape := ⟨4, ![8, 4, 48, 16]⟩
abbrev S8x4x768 : Shape := ⟨3, ![8, 4, 768]⟩
abbrev S8x4x16 : Shape := ⟨3, ![8, 4, 16]⟩
abbrev S8x4x1024 : Shape := ⟨3, ![8, 4, 1024]⟩
abbrev S8x4x4x3072 : Shape := ⟨4, ![8, 4, 4, 3072]⟩
abbrev S8x4x4x2048 : Shape := ⟨4, ![8, 4, 4, 2048]⟩
abbrev S8x2048 : Shape := ⟨2, ![8, 2048]⟩
abbrev S4x2048 : Shape := ⟨2, ![4, 2048]⟩
abbrev S4x8 : Shape := ⟨2, ![4, 8]⟩
abbrev S4x128 : Shape := ⟨2, ![4, 128]⟩
abbrev S4x48x64 : Shape := ⟨3, ![4, 48, 64]⟩
abbrev S4x48 : Shape := ⟨2, ![4, 48]⟩
abbrev S4x48x64x16 : Shape := ⟨4, ![4, 48, 64, 16]⟩
abbrev S4x48x16x64 : Shape := ⟨4, ![4, 48, 16, 64]⟩
abbrev S4x48x16 : Shape := ⟨3, ![4, 48, 16]⟩
abbrev S4x768 : Shape := ⟨2, ![4, 768]⟩
abbrev S4x16 : Shape := ⟨2, ![4, 16]⟩
abbrev S4x1024 : Shape := ⟨2, ![4, 1024]⟩
abbrev S4x4x3072 : Shape := ⟨3, ![4, 4, 3072]⟩
abbrev S4x4x2048 : Shape := ⟨3, ![4, 4, 2048]⟩
abbrev S2048 : Shape := ⟨1, ![2048]⟩
abbrev S4x4x384 : Shape := ⟨3, ![4, 4, 384]⟩
abbrev S4x4x256 : Shape := ⟨3, ![4, 4, 256]⟩

abbrev nBuf : Space → Nat
  | .hbm => 84
  | .vmem => 0
  | .smem => 0
  | _ => 0

abbrev bufTy : (tb : Table) → Fin (tcTables nBuf tb) → BufTy
  | .hbm, ⟨0, _⟩ => ⟨S_, .i32⟩
  | .hbm, ⟨1, _⟩ => ⟨S8x4x2048, .f32⟩
  | .hbm, ⟨2, _⟩ => ⟨S8x4x8, .f32⟩
  | .hbm, ⟨3, _⟩ => ⟨S8x4x8, .f32⟩
  | .hbm, ⟨4, _⟩ => ⟨S8x4x128, .f32⟩
  | .hbm, ⟨5, _⟩ => ⟨S8x4x48x64, .f32⟩
  | .hbm, ⟨6, _⟩ => ⟨S8x4x48x64, .f32⟩
  | .hbm, ⟨7, _⟩ => ⟨S8x4x48, .f32⟩
  | .hbm, ⟨8, _⟩ => ⟨S8x4x48x64x16, .f32⟩
  | .hbm, ⟨9, _⟩ => ⟨S8x4x48x64x16, .f32⟩
  | .hbm, ⟨10, _⟩ => ⟨S8x4x48x16x64, .f32⟩
  | .hbm, ⟨11, _⟩ => ⟨S8x4x48x16x64, .f32⟩
  | .hbm, ⟨12, _⟩ => ⟨S8x4x48x16, .f32⟩
  | .hbm, ⟨13, _⟩ => ⟨S8x4x768, .f32⟩
  | .hbm, ⟨14, _⟩ => ⟨S8x4x2048, .f32⟩
  | .hbm, ⟨15, _⟩ => ⟨S8x4x16, .f32⟩
  | .hbm, ⟨16, _⟩ => ⟨S8x4x16, .f32⟩
  | .hbm, ⟨17, _⟩ => ⟨S8x4x16, .f32⟩
  | .hbm, ⟨18, _⟩ => ⟨S8x4x1024, .f32⟩
  | .hbm, ⟨19, _⟩ => ⟨S8x4x4x3072, .f32⟩
  | .hbm, ⟨20, _⟩ => ⟨S8x4x4x2048, .f32⟩
  | .hbm, ⟨21, _⟩ => ⟨S8x2048, .f32⟩
  | .hbm, ⟨22, _⟩ => ⟨S_, .f32⟩
  | .hbm, ⟨23, _⟩ => ⟨S4x2048, .f32⟩
  | .hbm, ⟨24, _⟩ => ⟨S_, .f32⟩
  | .hbm, ⟨25, _⟩ => ⟨S4x8, .f32⟩
  | .hbm, ⟨26, _⟩ => ⟨S_, .f32⟩
  | .hbm, ⟨27, _⟩ => ⟨S4x8, .f32⟩
  | .hbm, ⟨28, _⟩ => ⟨S_, .f32⟩
  | .hbm, ⟨29, _⟩ => ⟨S4x128, .f32⟩
  | .hbm, ⟨30, _⟩ => ⟨S_, .f32⟩
  | .hbm, ⟨31, _⟩ => ⟨S4x48x64, .f32⟩
  | .hbm, ⟨32, _⟩ => ⟨S_, .f32⟩
  | .hbm, ⟨33, _⟩ => ⟨S4x48x64, .f32⟩
  | .hbm, ⟨34, _⟩ => ⟨S_, .f32⟩
  | .hbm, ⟨35, _⟩ => ⟨S4x48, .f32⟩
  | .hbm, ⟨36, _⟩ => ⟨S_, .f32⟩
  | .hbm, ⟨37, _⟩ => ⟨S4x48x64x16, .f32⟩
  | .hbm, ⟨38, _⟩ => ⟨S_, .f32⟩
  | .hbm, ⟨39, _⟩ => ⟨S4x48x64x16, .f32⟩
  | .hbm, ⟨40, _⟩ => ⟨S_, .f32⟩
  | .hbm, ⟨41, _⟩ => ⟨S4x48x16x64, .f32⟩
  | .hbm, ⟨42, _⟩ => ⟨S_, .f32⟩
  | .hbm, ⟨43, _⟩ => ⟨S4x48x16x64, .f32⟩
  | .hbm, ⟨44, _⟩ => ⟨S_, .f32⟩
  | .hbm, ⟨45, _⟩ => ⟨S4x48x16, .f32⟩
  | .hbm, ⟨46, _⟩ => ⟨S_, .f32⟩
  | .hbm, ⟨47, _⟩ => ⟨S4x768, .f32⟩
  | .hbm, ⟨48, _⟩ => ⟨S_, .f32⟩
  | .hbm, ⟨49, _⟩ => ⟨S4x2048, .f32⟩
  | .hbm, ⟨50, _⟩ => ⟨S_, .f32⟩
  | .hbm, ⟨51, _⟩ => ⟨S4x16, .f32⟩
  | .hbm, ⟨52, _⟩ => ⟨S_, .f32⟩
  | .hbm, ⟨53, _⟩ => ⟨S4x16, .f32⟩
  | .hbm, ⟨54, _⟩ => ⟨S_, .f32⟩
  | .hbm, ⟨55, _⟩ => ⟨S4x16, .f32⟩
  | .hbm, ⟨56, _⟩ => ⟨S_, .f32⟩
  | .hbm, ⟨57, _⟩ => ⟨S4x1024, .f32⟩
  | .hbm, ⟨58, _⟩ => ⟨S_, .f32⟩
  | .hbm, ⟨59, _⟩ => ⟨S4x4x3072, .f32⟩
  | .hbm, ⟨60, _⟩ => ⟨S_, .f32⟩
  | .hbm, ⟨61, _⟩ => ⟨S4x4x2048, .f32⟩
  | .hbm, ⟨62, _⟩ => ⟨S_, .f32⟩
  | .hbm, ⟨63, _⟩ => ⟨S2048, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S4x4x384, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S4x4x256, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_cst_1 : Ref sig .tc := ⟨.hbm, 26, rfl⟩
abbrev main_v2 : Ref sig .tc := ⟨.hbm, 27, rfl⟩
abbrev main_cst_2 : Ref sig .tc := ⟨.hbm, 28, rfl⟩
abbrev main_v3 : Ref sig .tc := ⟨.hbm, 29, rfl⟩
abbrev main_cst_3 : Ref sig .tc := ⟨.hbm, 30, rfl⟩
abbrev main_v4 : Ref sig .tc := ⟨.hbm, 31, rfl⟩
abbrev main_cst_4 : Ref sig .tc := ⟨.hbm, 32, rfl⟩
abbrev main_v5 : Ref sig .tc := ⟨.hbm, 33, rfl⟩
abbrev main_cst_5 : Ref sig .tc := ⟨.hbm, 34, rfl⟩
abbrev main_v6 : Ref sig .tc := ⟨.hbm, 35, rfl⟩
abbrev main_cst_6 : Ref sig .tc := ⟨.hbm, 36, rfl⟩
abbrev main_v7 : Ref sig .tc := ⟨.hbm, 37, rfl⟩
abbrev main_cst_7 : Ref sig .tc := ⟨.hbm, 38, rfl⟩
abbrev main_v8 : Ref sig .tc := ⟨.hbm, 39, rfl⟩
abbrev main_cst_8 : Ref sig .tc := ⟨.hbm, 40, rfl⟩
abbrev main_v9 : Ref sig .tc := ⟨.hbm, 41, rfl⟩
abbrev main_cst_9 : Ref sig .tc := ⟨.hbm, 42, rfl⟩
abbrev main_v10 : Ref sig .tc := ⟨.hbm, 43, rfl⟩
abbrev main_cst_10 : Ref sig .tc := ⟨.hbm, 44, rfl⟩
abbrev main_v11 : Ref sig .tc := ⟨.hbm, 45, rfl⟩
abbrev main_cst_11 : Ref sig .tc := ⟨.hbm, 46, rfl⟩
abbrev main_v12 : Ref sig .tc := ⟨.hbm, 47, rfl⟩
abbrev main_cst_12 : Ref sig .tc := ⟨.hbm, 48, rfl⟩
abbrev main_v13 : Ref sig .tc := ⟨.hbm, 49, rfl⟩
abbrev main_cst_13 : Ref sig .tc := ⟨.hbm, 50, rfl⟩
abbrev main_v14 : Ref sig .tc := ⟨.hbm, 51, rfl⟩
abbrev main_cst_14 : Ref sig .tc := ⟨.hbm, 52, rfl⟩
abbrev main_v15 : Ref sig .tc := ⟨.hbm, 53, rfl⟩
abbrev main_cst_15 : Ref sig .tc := ⟨.hbm, 54, rfl⟩
abbrev main_v16 : Ref sig .tc := ⟨.hbm, 55, rfl⟩
abbrev main_cst_16 : Ref sig .tc := ⟨.hbm, 56, rfl⟩
abbrev main_v17 : Ref sig .tc := ⟨.hbm, 57, rfl⟩
abbrev main_cst_17 : Ref sig .tc := ⟨.hbm, 58, rfl⟩
abbrev main_v18 : Ref sig .tc := ⟨.hbm, 59, rfl⟩
abbrev main_cst_18 : Ref sig .tc := ⟨.hbm, 60, rfl⟩
abbrev main_v19 : Ref sig .tc := ⟨.hbm, 61, rfl⟩
abbrev main_cst_19 : Ref sig .tc := ⟨.hbm, 62, rfl⟩
abbrev main_v20 : Ref sig .tc := ⟨.hbm, 63, rfl⟩
abbrev main_c : Ref sig .tc := ⟨.hbm, 64, rfl⟩
abbrev main_v21 : Ref sig .tc := ⟨.hbm, 65, rfl⟩
abbrev main_c_20 : Ref sig .tc := ⟨.hbm, 66, rfl⟩
abbrev main_v22 : Ref sig .tc := ⟨.hbm, 67, rfl⟩
abbrev main_c_21 : Ref sig .tc := ⟨.hbm, 68, rfl⟩
abbrev main_v23 : Ref sig .tc := ⟨.hbm, 69, rfl⟩
abbrev main_v24 : Ref sig .tc := ⟨.hbm, 70, rfl⟩
abbrev main_c_22 : Ref sig .tc := ⟨.hbm, 71, rfl⟩
abbrev main_c_23 : Ref sig .tc := ⟨.hbm, 72, rfl⟩
abbrev main_v25 : Ref sig .tc := ⟨.hbm, 73, rfl⟩
abbrev main_c_24 : Ref sig .tc := ⟨.hbm, 74, rfl⟩
abbrev main_v26 : Ref sig .tc := ⟨.hbm, 75, rfl⟩
abbrev main_c_25 : Ref sig .tc := ⟨.hbm, 76, rfl⟩
abbrev main_v27 : Ref sig .tc := ⟨.hbm, 77, rfl⟩
abbrev main_c_26 : Ref sig .tc := ⟨.hbm, 78, rfl⟩
abbrev main_v28 : Ref sig .tc := ⟨.hbm, 79, rfl⟩
abbrev main_v29 : Ref sig .tc := ⟨.hbm, 80, rfl⟩
abbrev main_c_27 : Ref sig .tc := ⟨.hbm, 81, rfl⟩
abbrev main_c_28 : Ref sig .tc := ⟨.hbm, 82, rfl⟩
abbrev main_v30 : Ref sig .tc := ⟨.hbm, 83, rfl⟩

abbrev nD : Nat := 1
abbrev τ : Topo := Topo.v7x

variable {F : FTy → Type} [FloatOps F]
-- ==== KernelSa.lean ====
abbrev S4x4x2048 : Shape := ⟨3, ![4, 4, 2048]⟩
abbrev S4x4x4x384 : Shape := ⟨4, ![4, 4, 4, 384]⟩
abbrev S4x4x8 : Shape := ⟨3, ![4, 4, 8]⟩
abbrev S4x4x128 : Shape := ⟨3, ![4, 4, 128]⟩
abbrev S4x4x48x64 : Shape := ⟨4, ![4, 4, 48, 64]⟩
abbrev S4x4x48 : Shape := ⟨3, ![4, 4, 48]⟩
abbrev S4x4x48x64x16 : Shape := ⟨5, ![4, 4, 48, 64, 16]⟩
abbrev S4x4x48x16x64 : Shape := ⟨5, ![4, 4, 48, 16, 64]⟩
abbrev S4x4x48x16 : Shape := ⟨4, ![4, 4, 48, 16]⟩
abbrev S4x4x768 : Shape := ⟨3, ![4, 4, 768]⟩
abbrev S4x4x4x256 : Shape := ⟨4, ![4, 4, 4, 256]⟩
abbrev S4x4x16 : Shape := ⟨3, ![4, 4, 16]⟩
abbrev S4x4x1024 : Shape := ⟨3, ![4, 4, 1024]⟩
abbrev S4x2048 : Shape := ⟨2, ![4, 2048]⟩
abbrev S4x8192 : Shape := ⟨2, ![4, 8192]⟩
abbrev S4x64x128 : Shape := ⟨3, ![4, 64, 128]⟩
abbrev S4x6144 : Shape := ⟨2, ![4, 6144]⟩
abbrev S4x48x128 : Shape := ⟨3, ![4, 48, 128]⟩
abbrev S4x32 : Shape := ⟨2, ![4, 32]⟩
abbrev S_ : Shape := ⟨0, ![]⟩
abbrev S992 : Shape := ⟨1, ![992]⟩
abbrev S4x992 : Shape := ⟨2, ![4, 992]⟩
abbrev S4x1024 : Shape := ⟨2, ![4, 1024]⟩
abbrev S4x8x128 : Shape := ⟨3, ![4, 8, 128]⟩
abbrev S4x512 : Shape := ⟨2, ![4, 512]⟩
abbrev S512 : Shape := ⟨1, ![512]⟩
abbrev S4x12288 : Shape := ⟨2, ![4, 12288]⟩
abbrev S4x96x128 : Shape := ⟨3, ![4, 96, 128]⟩
abbrev S4x192 : Shape := ⟨2, ![4, 192]⟩
abbrev S832 : Shape := ⟨1, ![832]⟩
abbrev S4x832 : Shape := ⟨2, ![4, 832]⟩
abbrev S4x196608 : Shape := ⟨2, ![4, 196608]⟩
abbrev S4x1536x128 : Shape := ⟨3, ![4, 1536, 128]⟩
abbrev S4x3072 : Shape := ⟨2, ![4, 3072]⟩
abbrev S4x24x128 : Shape := ⟨3, ![4, 24, 128]⟩
abbrev S4x4096 : Shape := ⟨2, ![4, 4096]⟩
abbrev S4x32x128 : Shape := ⟨3, ![4, 32, 128]⟩
abbrev S4x64 : Shape := ⟨2, ![4, 64]⟩
abbrev S960 : Shape := ⟨1, ![960]⟩
abbrev S4x960 : Shape := ⟨2, ![4, 960]⟩
abbrev S4x16x128 : Shape := ⟨3, ![4, 16, 128]⟩
abbrev S216x128 : Shape := ⟨2, ![216, 128]⟩
abbrev S4x216x128 : Shape := ⟨3, ![4, 216, 128]⟩
abbrev S4x6624x128 : Shape := ⟨3, ![4, 6624, 128]⟩
abbrev S4x288x128 : Shape := ⟨3, ![4, 288, 128]⟩
abbrev S4x6912x128 : Shape := ⟨3, ![4, 6912, 128]⟩
abbrev S1x6912x128 : Shape := ⟨3, ![1, 6912, 128]⟩
abbrev S6912x128 : Shape := ⟨2, ![6912, 128]⟩
abbrev S256x128 : Shape := ⟨2, ![256, 128]⟩
abbrev S64x128 : Shape := ⟨2, ![64, 128]⟩
abbrev S48x128 : Shape := ⟨2, ![48, 128]⟩
abbrev S4x4x384 : Shape := ⟨3, ![4, 4, 384]⟩
abbrev S8x128 : Shape := ⟨2, ![8, 128]⟩
abbrev S1024 : Shape := ⟨1, ![1024]⟩
abbrev S32 : Shape := ⟨1, ![32]⟩
abbrev S4x8 : Shape := ⟨2, ![4, 8]⟩
abbrev S4x128 : Shape := ⟨2, ![4, 128]⟩
abbrev S96x128 : Shape := ⟨2, ![96, 128]⟩
abbrev S4x48x64 : Shape := ⟨3, ![4, 48, 64]⟩
abbrev S192 : Shape := ⟨1, ![192]⟩
abbrev S4x48 : Shape := ⟨2, ![4, 48]⟩
abbrev S1536x128 : Shape := ⟨2, ![1536, 128]⟩
abbrev S4x48x64x16 : Shape := ⟨4, ![4, 48, 64, 16]⟩
abbrev S4x48x16x64 : Shape := ⟨4, ![4, 48, 16, 64]⟩
abbrev S24x128 : Shape := ⟨2, ![24, 128]⟩
abbrev S4x48x16 : Shape := ⟨3, ![4, 48, 16]⟩
abbrev S4x768 : Shape := ⟨2, ![4, 768]⟩
abbrev S32x128 : Shape := ⟨2, ![32, 128]⟩
abbrev S4x4x256 : Shape := ⟨3, ![4, 4, 256]⟩
abbrev S64 : Shape := ⟨1, ![64]⟩
abbrev S4x16 : Shape := ⟨2, ![4, 16]⟩
abbrev S16x128 : Shape := ⟨2, ![16, 128]⟩
abbrev S2048 : Shape := ⟨1, ![2048]⟩

abbrev nBuf : Space → Nat
  | .hbm => 275
  | .vmem => 14
  | .smem => 0
  | _ => 0

abbrev hbmTy0_0 (i : Nat) : BufTy := match i % 128 with
  | 0 => ⟨S4x4x2048, .f32⟩
  | 1 => ⟨S4x4x4x384, .f32⟩
  | 2 => ⟨S4x4x8, .f32⟩
  | 3 => ⟨S4x4x8, .f32⟩
  | 4 => ⟨S4x4x128, .f32⟩
  | 5 => ⟨S4x4x48x64, .f32⟩
  | 6 => ⟨S4x4x48x64, .f32⟩
  | 7 => ⟨S4x4x48, .f32⟩
  | 8 => ⟨S4x4x48x64x16, .f32⟩
  | 9 => ⟨S4x4x48x64x16, .f32⟩
  | 10 => ⟨S4x4x48x16x64, .f32⟩
  | 11 => ⟨S4x4x48x16x64, .f32⟩
  | 12 => ⟨S4x4x48x16, .f32⟩
  | 13 => ⟨S4x4x768, .f32⟩
  | 14 => ⟨S4x4x4x256, .f32⟩
  | 15 => ⟨S4x4x2048, .f32⟩
  | 16 => ⟨S4x4x16, .f32⟩
  | 17 => ⟨S4x4x16, .f32⟩
  | 18 => ⟨S4x4x16, .f32⟩
  | 19 => ⟨S4x4x1024, .f32⟩
  | 20 => ⟨S4x2048, .f32⟩
  | 21 => ⟨S4x8192, .f32⟩
  | 22 => ⟨S4x64x128, .f32⟩
  | 23 => ⟨S4x6144, .f32⟩
  | 24 => ⟨S4x48x128, .f32⟩
  | 25 => ⟨S4x32, .f32⟩
  | 26 => ⟨S_, .f32⟩
  | 27 => ⟨S992, .f32⟩
  | 28 => ⟨S4x992, .f32⟩
  | 29 => ⟨S4x1024, .f32⟩
  | 30 => ⟨S4x8x128, .f32⟩
  | 31 => ⟨S4x32, .f32⟩
  | 32 => ⟨S_, .f32⟩
  | 33 => ⟨S992, .f32⟩
  | 34 => ⟨S4x992, .f32⟩
  | 35 => ⟨S4x1024, .f32⟩
  | 36 => ⟨S4x8x128, .f32⟩
  | 37 => ⟨S4x512, .f32⟩
  | 38 => ⟨S_, .f32⟩
  | 39 => ⟨S512, .f32⟩
  | 40 => ⟨S4x512, .f32⟩
  | 41 => ⟨S4x1024, .f32⟩
  | 42 => ⟨S4x8x128, .f32⟩
  | 43 => ⟨S4x12288, .f32⟩
  | 44 => ⟨S4x96x128, .f32⟩
  | 45 => ⟨S4x12288, .f32⟩
  | 46 => ⟨S4x96x128, .f32⟩
  | 47 => ⟨S4x192, .f32⟩
  | 48 => ⟨S_, .f32⟩
  | 49 => ⟨S832, .f32⟩
  | 50 => ⟨S4x832, .f32⟩
  | 51 => ⟨S4x1024, .f32⟩
  | 52 => ⟨S4x8x128, .f32⟩
  | 53 => ⟨S4x196608, .f32⟩
  | 54 => ⟨S4x1536x128, .f32⟩
  | 55 => ⟨S4x196608, .f32⟩
  | 56 => ⟨S4x1536x128, .f32⟩
  | 57 => ⟨S4x196608, .f32⟩
  | 58 => ⟨S4x1536x128, .f32⟩
  | 59 => ⟨S4x196608, .f32⟩
  | 60 => ⟨S4x1536x128, .f32⟩
  | 61 => ⟨S4x3072, .f32⟩
  | 62 => ⟨S4x24x128, .f32⟩
  | 63 => ⟨S4x3072, .f32⟩
  | 64 => ⟨S4x24x128, .f32⟩
  | 65 => ⟨S4x4096, .f32⟩
  | 66 => ⟨S4x32x128, .f32⟩
  | 67 => ⟨S4x8192, .f32⟩
  | 68 => ⟨S4x64x128, .f32⟩
  | 69 => ⟨S4x64, .f32⟩
  | 70 => ⟨S_, .f32⟩
  | 71 => ⟨S960, .f32⟩
  | 72 => ⟨S4x960, .f32⟩
  | 73 => ⟨S4x1024, .f32⟩
  | 74 => ⟨S4x8x128, .f32⟩
  | 75 => ⟨S4x64, .f32⟩
  | 76 => ⟨S_, .f32⟩
  | 77 => ⟨S960, .f32⟩
  | 78 => ⟨S4x960, .f32⟩
  | 79 => ⟨S4x1024, .f32⟩
  | 80 => ⟨S4x8x128, .f32⟩
  | 81 => ⟨S4x64, .f32⟩
  | 82 => ⟨S_, .f32⟩
  | 83 => ⟨S960, .f32⟩
  | 84 => ⟨S4x960, .f32⟩
  | 85 => ⟨S4x1024, .f32⟩
  | 86 => ⟨S4x8x128, .f32⟩
  | 87 => ⟨S4x4096, .f32⟩
  | 88 => ⟨S4x32x128, .f32⟩
  | 89 => ⟨S4x16x128, .f32⟩
  | 90 => ⟨S_, .f32⟩
  | 91 => ⟨S216x128, .f32⟩
  | 92 => ⟨S4x216x128, .f32⟩
  | 93 => ⟨S4x6624x128, .f32⟩
  | 94 => ⟨S4x288x128, .f32⟩
  | 95 => ⟨S4x6912x128, .f32⟩
  | 96 => ⟨S1x6912x128, .f32⟩
  | 97 => ⟨S6912x128, .f32⟩
  | 98 => ⟨S1x6912x128, .f32⟩
  | 99 => ⟨S6912x128, .f32⟩
  | 100 => ⟨S1x6912x128, .f32⟩
  | 101 => ⟨S6912x128, .f32⟩
  | 102 => ⟨S1x6912x128, .f32⟩
  | 103 => ⟨S6912x128, .f32⟩
  | 104 => ⟨S6912x128, .f32⟩
  | 105 => ⟨S6912x128, .f32⟩
  | 106 => ⟨S6912x128, .f32⟩
  | 107 => ⟨S64x128, .f32⟩
  | 108 => ⟨S4x2048, .f32⟩
  | 109 => ⟨S48x128, .f32⟩
  | 110 => ⟨S4x4x384, .f32⟩
  | 111 => ⟨S8x128, .f32⟩
  | 112 => ⟨S1024, .f32⟩
  | 113 => ⟨S32, .f32⟩
  | 114 => ⟨S4x8, .f32⟩
  | 115 => ⟨S8x128, .f32⟩
  | 116 => ⟨S1024, .f32⟩
  | 117 => ⟨S32, .f32⟩
  | 118 => ⟨S4x8, .f32⟩
  | 119 => ⟨S8x128, .f32⟩
  | 120 => ⟨S1024, .f32⟩
  | 121 => ⟨S512, .f32⟩
  | 122 => ⟨S4x128, .f32⟩
  | 123 => ⟨S96x128, .f32⟩
  | 124 => ⟨S4x48x64, .f32⟩
  | 125 => ⟨S96x128, .f32⟩
  | 126 => ⟨S4x48x64, .f32⟩
  | 127 => ⟨S8x128, .f32⟩
  | _ => ⟨S4x4x2048, .f32⟩

abbrev hbmTy0_1 (i : Nat) : BufTy := match i % 128 with
  | 0 => ⟨S1024, .f32⟩
  | 1 => ⟨S192, .f32⟩
  | 2 => ⟨S4x48, .f32⟩
  | 3 => ⟨S1536x128, .f32⟩
  | 4 => ⟨S4x48x64x16, .f32⟩
  | 5 => ⟨S1536x128, .f32⟩
  | 6 => ⟨S4x48x64x16, .f32⟩
  | 7 => ⟨S1536x128, .f32⟩
  | 8 => ⟨S4x48x16x64, .f32⟩
  | 9 => ⟨S1536x128, .f32⟩
  | 10 => ⟨S4x48x16x64, .f32⟩
  | 11 => ⟨S24x128, .f32⟩
  | 12 => ⟨S4x48x16, .f32⟩
  | 13 => ⟨S24x128, .f32⟩
  | 14 => ⟨S4x768, .f32⟩
  | 15 => ⟨S32x128, .f32⟩
  | 16 => ⟨S4x4x256, .f32⟩
  | 17 => ⟨S64x128, .f32⟩
  | 18 => ⟨S4x2048, .f32⟩
  | 19 => ⟨S8x128, .f32⟩
  | 20 => ⟨S1024, .f32⟩
  | 21 => ⟨S64, .f32⟩
  | 22 => ⟨S4x16, .f32⟩
  | 23 => ⟨S8x128, .f32⟩
  | 24 => ⟨S1024, .f32⟩
  | 25 => ⟨S64, .f32⟩
  | 26 => ⟨S4x16, .f32⟩
  | 27 => ⟨S8x128, .f32⟩
  | 28 => ⟨S1024, .f32⟩
  | 29 => ⟨S64, .f32⟩
  | 30 => ⟨S4x16, .f32⟩
  | 31 => ⟨S32x128, .f32⟩
  | 32 => ⟨S4x1024, .f32⟩
  | 33 => ⟨S16x128, .f32⟩
  | 34 => ⟨S2048, .f32⟩
  | 35 => ⟨S64x128, .f32⟩
  | 36 => ⟨S4x2048, .f32⟩
  | 37 => ⟨S48x128, .f32⟩
  | 38 => ⟨S4x4x384, .f32⟩
  | 39 => ⟨S8x128, .f32⟩
  | 40 => ⟨S1024, .f32⟩
  | 41 => ⟨S32, .f32⟩
  | 42 => ⟨S4x8, .f32⟩
  | 43 => ⟨S8x128, .f32⟩
  | 44 => ⟨S1024, .f32⟩
  | 45 => ⟨S32, .f32⟩
  | 46 => ⟨S4x8, .f32⟩
  | 47 => ⟨S8x128, .f32⟩
  | 48 => ⟨S1024, .f32⟩
  | 49 => ⟨S512, .f32⟩
  | 50 => ⟨S4x128, .f32⟩
  | 51 => ⟨S96x128, .f32⟩
  | 52 => ⟨S4x48x64, .f32⟩
  | 53 => ⟨S96x128, .f32⟩
  | 54 => ⟨S4x48x64, .f32⟩
  | 55 => ⟨S8x128, .f32⟩
  | 56 => ⟨S1024, .f32⟩
  | 57 => ⟨S192, .f32⟩
  | 58 => ⟨S4x48, .f32⟩
  | 59 => ⟨S1536x128, .f32⟩
  | 60 => ⟨S4x48x64x16, .f32⟩
  | 61 => ⟨S1536x128, .f32⟩
  | 62 => ⟨S4x48x64x16, .f32⟩
  | 63 => ⟨S1536x128, .f32⟩
  | 64 => ⟨S4x48x16x64, .f32⟩
  | 65 => ⟨S1536x128, .f32⟩
  | 66 => ⟨S4x48x16x64, .f32⟩
  | 67 => ⟨S24x128, .f32⟩
  | 68 => ⟨S4x48x16, .f32⟩
  | 69 => ⟨S24x128, .f32⟩
  | 70 => ⟨S4x768, .f32⟩
  | 71 => ⟨S32x128, .f32⟩
  | 72 => ⟨S4x4x256, .f32⟩
  | 73 => ⟨S64x128, .f32⟩
  | 74 => ⟨S4x2048, .f32⟩
  | 75 => ⟨S8x128, .f32⟩
  | 76 => ⟨S1024, .f32⟩
  | 77 => ⟨S64, .f32⟩
  | 78 => ⟨S4x16, .f32⟩
  | 79 => ⟨S8x128, .f32⟩
  | 80 => ⟨S1024, .f32⟩
  | 81 => ⟨S64, .f32⟩
  | 82 => ⟨S4x16, .f32⟩
  | 83 => ⟨S8x128, .f32⟩
  | 84 => ⟨S1024, .f32⟩
  | 85 => ⟨S64, .f32⟩
  | 86 => ⟨S4x16, .f32⟩
  | 87 => ⟨S32x128, .f32⟩
  | 88 => ⟨S4x1024, .f32⟩
  | 89 => ⟨S16x128, .f32⟩
  | 90 => ⟨S2048, .f32⟩
  | 91 => ⟨S64x128, .f32⟩
  | 92 => ⟨S4x2048, .f32⟩
  | 93 => ⟨S48x128, .f32⟩
  | 94 => ⟨S4x4x384, .f32⟩
  | 95 => ⟨S8x128, .f32⟩
  | 96 => ⟨S1024, .f32⟩
  | 97 => ⟨S32, .f32⟩
  | 98 => ⟨S4x8, .f32⟩
  | 99 => ⟨S8x128, .f32⟩
  | 100 => ⟨S1024, .f32⟩
  | 101 => ⟨S32, .f32⟩
  | 102 => ⟨S4x8, .f32⟩
  | 103 => ⟨S8x128, .f32⟩
  | 104 => ⟨S1024, .f32⟩
  | 105 => ⟨S512, .f32⟩
  | 106 => ⟨S4x128, .f32⟩
  | 107 => ⟨S96x128, .f32⟩
  | 108 => ⟨S4x48x64, .f32⟩
  | 109 => ⟨S96x128, .f32⟩
  | 110 => ⟨S4x48x64, .f32⟩
  | 111 => ⟨S8x128, .f32⟩
  | 112 => ⟨S1024, .f32⟩
  | 113 => ⟨S192, .f32⟩
  | 114 => ⟨S4x48, .f32⟩
  | 115 => ⟨S1536x128, .f32⟩
  | 116 => ⟨S4x48x64x16, .f32⟩
  | 117 => ⟨S1536x128, .f32⟩
  | 118 => ⟨S4x48x64x16, .f32⟩
  | 119 => ⟨S1536x128, .f32⟩
  | 120 => ⟨S4x48x16x64, .f32⟩
  | 121 => ⟨S1536x128, .f32⟩
  | 122 => ⟨S4x48x16x64, .f32⟩
  | 123 => ⟨S24x128, .f32⟩
  | 124 => ⟨S4x48x16, .f32⟩
  | 125 => ⟨S24x128, .f32⟩
  | 126 => ⟨S4x768, .f32⟩
  | 127 => ⟨S32x128, .f32⟩
  | _ => ⟨S4x4x2048, .f32⟩

abbrev hbmTy0_2 (i : Nat) : BufTy := match i % 128 with
  | 0 => ⟨S4x4x256, .f32⟩
  | 1 => ⟨S64x128, .f32⟩
  | 2 => ⟨S4x2048, .f32⟩
  | 3 => ⟨S8x128, .f32⟩
  | 4 => ⟨S1024, .f32⟩
  | 5 => ⟨S64, .f32⟩
  | 6 => ⟨S4x16, .f32⟩
  | 7 => ⟨S8x128, .f32⟩
  | 8 => ⟨S1024, .f32⟩
  | 9 => ⟨S64, .f32⟩
  | 10 => ⟨S4x16, .f32⟩
  | 11 => ⟨S8x128, .f32⟩
  | 12 => ⟨S1024, .f32⟩
  | 13 => ⟨S64, .f32⟩
  | 14 => ⟨S4x16, .f32⟩
  | 15 => ⟨S32x128, .f32⟩
  | 16 => ⟨S4x1024, .f32⟩
  | 17 => ⟨S16x128, .f32⟩
  | 18 => ⟨S2048, .f32⟩
  | _ => ⟨S4x4x2048, .f32⟩

abbrev hbmTy (i : Nat) : BufTy := match i / 128 with
  | 0 => hbmTy0_0 i
  | 1 => hbmTy0_1 i
  | 2 => hbmTy0_2 i
  | _ => ⟨S4x4x2048, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_1 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_4 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_5 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_6 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75_0 : Ref sig .tc := ⟨.hbm, 104, rfl⟩
abbrev main_v75_1 : Ref sig .tc := ⟨.hbm, 105, rfl⟩
abbrev main_v75_2 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceSaIdeal.lean ====
abbrev S4x4x2048 : Shape := ⟨3, ![4, 4, 2048]⟩
abbrev S4x4x4x384 : Shape := ⟨4, ![4, 4, 4, 384]⟩
abbrev S4x4x8 : Shape := ⟨3, ![4, 4, 8]⟩
abbrev S4x4x128 : Shape := ⟨3, ![4, 4, 128]⟩
abbrev S4x4x48x64 : Shape := ⟨4, ![4, 4, 48, 64]⟩
abbrev S4x4x48 : Shape := ⟨3, ![4, 4, 48]⟩
abbrev S4x4x48x64x16 : Shape := ⟨5, ![4, 4, 48, 64, 16]⟩
abbrev S4x4x48x16x64 : Shape := ⟨5, ![4, 4, 48, 16, 64]⟩
abbrev S4x4x48x16 : Shape := ⟨4, ![4, 4, 48, 16]⟩
abbrev S4x4x768 : Shape := ⟨3, ![4, 4, 768]⟩
abbrev S4x4x4x256 : Shape := ⟨4, ![4, 4, 4, 256]⟩
abbrev S4x4x16 : Shape := ⟨3, ![4, 4, 16]⟩
abbrev S4x4x1024 : Shape := ⟨3, ![4, 4, 1024]⟩
abbrev S4x2048 : Shape := ⟨2, ![4, 2048]⟩
abbrev S1x4x2048 : Shape := ⟨3, ![1, 4, 2048]⟩
abbrev S_ : Shape := ⟨0, ![]⟩
abbrev S1x4x4x384 : Shape := ⟨4, ![1, 4, 4, 384]⟩
abbrev S4x4x384 : Shape := ⟨3, ![4, 4, 384]⟩
abbrev S1x4x8 : Shape := ⟨3, ![1, 4, 8]⟩
abbrev S4x8 : Shape := ⟨2, ![4, 8]⟩
abbrev S1x4x128 : Shape := ⟨3, ![1, 4, 128]⟩
abbrev S4x128 : Shape := ⟨2, ![4, 128]⟩
abbrev S1x4x48x64 : Shape := ⟨4, ![1, 4, 48, 64]⟩
abbrev S4x48x64 : Shape := ⟨3, ![4, 48, 64]⟩
abbrev S1x4x48 : Shape := ⟨3, ![1, 4, 48]⟩
abbrev S4x48 : Shape := ⟨2, ![4, 48]⟩
abbrev S1x4x48x64x16 : Shape := ⟨5, ![1, 4, 48, 64, 16]⟩
abbrev S4x48x64x16 : Shape := ⟨4, ![4, 48, 64, 16]⟩
abbrev S1x4x48x16x64 : Shape := ⟨5, ![1, 4, 48, 16, 64]⟩
abbrev S4x48x16x64 : Shape := ⟨4, ![4, 48, 16, 64]⟩
abbrev S1x4x48x16 : Shape := ⟨4, ![1, 4, 48, 16]⟩
abbrev S4x48x16 : Shape := ⟨3, ![4, 48, 16]⟩
abbrev S1x4x768 : Shape := ⟨3, ![1, 4, 768]⟩
abbrev S4x768 : Shape := ⟨2, ![4, 768]⟩
abbrev S1x4x4x256 : Shape := ⟨4, ![1, 4, 4, 256]⟩
abbrev S4x4x256 : Shape := ⟨3, ![4, 4, 256]⟩
abbrev S1x4x16 : Shape := ⟨3, ![1, 4, 16]⟩
abbrev S4x16 : Shape := ⟨2, ![4, 16]⟩
abbrev S1x4x1024 : Shape := ⟨3, ![1, 4, 1024]⟩
abbrev S4x1024 : Shape := ⟨2, ![4, 1024]⟩
abbrev S1x2048 : Shape := ⟨2, ![1, 2048]⟩
abbrev S2048 : Shape := ⟨1, ![2048]⟩

abbrev nBuf : Space → Nat
  | .hbm => 882
  | .vmem => 0
  | .smem => 0
  | _ => 0

abbrev hbmTy0_0 (i : Nat) : BufTy := match i % 128 with
  | 0 => ⟨S4x4x2048, .f32⟩
  | 1 => ⟨S4x4x4x384, .f32⟩
  | 2 => ⟨S4x4x8, .f32⟩
  | 3 => ⟨S4x4x8, .f32⟩
  | 4 => ⟨S4x4x128, .f32⟩
  | 5 => ⟨S4x4x48x64, .f32⟩
  | 6 => ⟨S4x4x48x64, .f32⟩
  | 7 => ⟨S4x4x48, .f32⟩
  | 8 => ⟨S4x4x48x64x16, .f32⟩
  | 9 => ⟨S4x4x48x64x16, .f32⟩
  | 10 => ⟨S4x4x48x16x64, .f32⟩
  | 11 => ⟨S4x4x48x16x64, .f32⟩
  | 12 => ⟨S4x4x48x16, .f32⟩
  | 13 => ⟨S4x4x768, .f32⟩
  | 14 => ⟨S4x4x4x256, .f32⟩
  | 15 => ⟨S4x4x2048, .f32⟩
  | 16 => ⟨S4x4x16, .f32⟩
  | 17 => ⟨S4x4x16, .f32⟩
  | 18 => ⟨S4x4x16, .f32⟩
  | 19 => ⟨S4x4x1024, .f32⟩
  | 20 => ⟨S4x2048, .f32⟩
  | 21 => ⟨S1x4x2048, .f32⟩
  | 22 => ⟨S4x2048, .f32⟩
  | 23 => ⟨S1x4x2048, .f32⟩
  | 24 => ⟨S4x2048, .f32⟩
  | 25 => ⟨S1x4x2048, .f32⟩
  | 26 => ⟨S4x2048, .f32⟩
  | 27 => ⟨S1x4x2048, .f32⟩
  | 28 => ⟨S4x2048, .f32⟩
  | 29 => ⟨S_, .f32⟩
  | 30 => ⟨S4x2048, .f32⟩
  | 31 => ⟨S4x2048, .f32⟩
  | 32 => ⟨S_, .f32⟩
  | 33 => ⟨S4x2048, .f32⟩
  | 34 => ⟨S4x2048, .f32⟩
  | 35 => ⟨S4x2048, .f32⟩
  | 36 => ⟨S_, .f32⟩
  | 37 => ⟨S4x2048, .f32⟩
  | 38 => ⟨S4x2048, .f32⟩
  | 39 => ⟨S4x2048, .f32⟩
  | 40 => ⟨S_, .f32⟩
  | 41 => ⟨S4x2048, .f32⟩
  | 42 => ⟨S4x2048, .f32⟩
  | 43 => ⟨S4x2048, .f32⟩
  | 44 => ⟨S_, .f32⟩
  | 45 => ⟨S4x2048, .f32⟩
  | 46 => ⟨S4x2048, .f32⟩
  | 47 => ⟨S_, .f32⟩
  | 48 => ⟨S4x2048, .f32⟩
  | 49 => ⟨S4x2048, .f32⟩
  | 50 => ⟨S4x2048, .f32⟩
  | 51 => ⟨S_, .f32⟩
  | 52 => ⟨S4x2048, .f32⟩
  | 53 => ⟨S4x2048, .f32⟩
  | 54 => ⟨S4x2048, .f32⟩
  | 55 => ⟨S_, .f32⟩
  | 56 => ⟨S4x2048, .f32⟩
  | 57 => ⟨S4x2048, .f32⟩
  | 58 => ⟨S4x2048, .f32⟩
  | 59 => ⟨S_, .f32⟩
  | 60 => ⟨S4x2048, .f32⟩
  | 61 => ⟨S4x2048, .f32⟩
  | 62 => ⟨S1x4x4x384, .f32⟩
  | 63 => ⟨S4x4x384, .f32⟩
  | 64 => ⟨S1x4x4x384, .f32⟩
  | 65 => ⟨S4x4x384, .f32⟩
  | 66 => ⟨S1x4x4x384, .f32⟩
  | 67 => ⟨S4x4x384, .f32⟩
  | 68 => ⟨S1x4x4x384, .f32⟩
  | 69 => ⟨S4x4x384, .f32⟩
  | 70 => ⟨S_, .f32⟩
  | 71 => ⟨S4x4x384, .f32⟩
  | 72 => ⟨S4x4x384, .f32⟩
  | 73 => ⟨S_, .f32⟩
  | 74 => ⟨S4x4x384, .f32⟩
  | 75 => ⟨S4x4x384, .f32⟩
  | 76 => ⟨S4x4x384, .f32⟩
  | 77 => ⟨S_, .f32⟩
  | 78 => ⟨S4x4x384, .f32⟩
  | 79 => ⟨S4x4x384, .f32⟩
  | 80 => ⟨S4x4x384, .f32⟩
  | 81 => ⟨S_, .f32⟩
  | 82 => ⟨S4x4x384, .f32⟩
  | 83 => ⟨S4x4x384, .f32⟩
  | 84 => ⟨S4x4x384, .f32⟩
  | 85 => ⟨S_, .f32⟩
  | 86 => ⟨S4x4x384, .f32⟩
  | 87 => ⟨S4x4x384, .f32⟩
  | 88 => ⟨S_, .f32⟩
  | 89 => ⟨S4x4x384, .f32⟩
  | 90 => ⟨S4x4x384, .f32⟩
  | 91 => ⟨S4x4x384, .f32⟩
  | 92 => ⟨S_, .f32⟩
  | 93 => ⟨S4x4x384, .f32⟩
  | 94 => ⟨S4x4x384, .f32⟩
  | 95 => ⟨S4x4x384, .f32⟩
  | 96 => ⟨S_, .f32⟩
  | 97 => ⟨S4x4x384, .f32⟩
  | 98 => ⟨S4x4x384, .f32⟩
  | 99 => ⟨S4x4x384, .f32⟩
  | 100 => ⟨S_, .f32⟩
  | 101 => ⟨S4x4x384, .f32⟩
  | 102 => ⟨S4x4x384, .f32⟩
  | 103 => ⟨S1x4x8, .f32⟩
  | 104 => ⟨S4x8, .f32⟩
  | 105 => ⟨S1x4x8, .f32⟩
  | 106 => ⟨S4x8, .f32⟩
  | 107 => ⟨S1x4x8, .f32⟩
  | 108 => ⟨S4x8, .f32⟩
  | 109 => ⟨S1x4x8, .f32⟩
  | 110 => ⟨S4x8, .f32⟩
  | 111 => ⟨S_, .f32⟩
  | 112 => ⟨S4x8, .f32⟩
  | 113 => ⟨S4x8, .f32⟩
  | 114 => ⟨S_, .f32⟩
  | 115 => ⟨S4x8, .f32⟩
  | 116 => ⟨S4x8, .f32⟩
  | 117 => ⟨S4x8, .f32⟩
  | 118 => ⟨S_, .f32⟩
  | 119 => ⟨S4x8, .f32⟩
  | 120 => ⟨S4x8, .f32⟩
  | 121 => ⟨S4x8, .f32⟩
  | 122 => ⟨S_, .f32⟩
  | 123 => ⟨S4x8, .f32⟩
  | 124 => ⟨S4x8, .f32⟩
  | 125 => ⟨S4x8, .f32⟩
  | 126 => ⟨S_, .f32⟩
  | 127 => ⟨S4x8, .f32⟩
  | _ => ⟨S4x4x2048, .f32⟩

abbrev hbmTy0_1 (i : Nat) : BufTy := match i % 128 with
  | 0 => ⟨S4x8, .f32⟩
  | 1 => ⟨S_, .f32⟩
  | 2 => ⟨S4x8, .f32⟩
  | 3 => ⟨S4x8, .f32⟩
  | 4 => ⟨S4x8, .f32⟩
  | 5 => ⟨S_, .f32⟩
  | 6 => ⟨S4x8, .f32⟩
  | 7 => ⟨S4x8, .f32⟩
  | 8 => ⟨S4x8, .f32⟩
  | 9 => ⟨S_, .f32⟩
  | 10 => ⟨S4x8, .f32⟩
  | 11 => ⟨S4x8, .f32⟩
  | 12 => ⟨S4x8, .f32⟩
  | 13 => ⟨S_, .f32⟩
  | 14 => ⟨S4x8, .f32⟩
  | 15 => ⟨S4x8, .f32⟩
  | 16 => ⟨S1x4x8, .f32⟩
  | 17 => ⟨S4x8, .f32⟩
  | 18 => ⟨S1x4x8, .f32⟩
  | 19 => ⟨S4x8, .f32⟩
  | 20 => ⟨S1x4x8, .f32⟩
  | 21 => ⟨S4x8, .f32⟩
  | 22 => ⟨S1x4x8, .f32⟩
  | 23 => ⟨S4x8, .f32⟩
  | 24 => ⟨S_, .f32⟩
  | 25 => ⟨S4x8, .f32⟩
  | 26 => ⟨S4x8, .f32⟩
  | 27 => ⟨S_, .f32⟩
  | 28 => ⟨S4x8, .f32⟩
  | 29 => ⟨S4x8, .f32⟩
  | 30 => ⟨S4x8, .f32⟩
  | 31 => ⟨S_, .f32⟩
  | 32 => ⟨S4x8, .f32⟩
  | 33 => ⟨S4x8, .f32⟩
  | 34 => ⟨S4x8, .f32⟩
  | 35 => ⟨S_, .f32⟩
  | 36 => ⟨S4x8, .f32⟩
  | 37 => ⟨S4x8, .f32⟩
  | 38 => ⟨S4x8, .f32⟩
  | 39 => ⟨S_, .f32⟩
  | 40 => ⟨S4x8, .f32⟩
  | 41 => ⟨S4x8, .f32⟩
  | 42 => ⟨S_, .f32⟩
  | 43 => ⟨S4x8, .f32⟩
  | 44 => ⟨S4x8, .f32⟩
  | 45 => ⟨S4x8, .f32⟩
  | 46 => ⟨S_, .f32⟩
  | 47 => ⟨S4x8, .f32⟩
  | 48 => ⟨S4x8, .f32⟩
  | 49 => ⟨S4x8, .f32⟩
  | 50 => ⟨S_, .f32⟩
  | 51 => ⟨S4x8, .f32⟩
  | 52 => ⟨S4x8, .f32⟩
  | 53 => ⟨S4x8, .f32⟩
  | 54 => ⟨S_, .f32⟩
  | 55 => ⟨S4x8, .f32⟩
  | 56 => ⟨S4x8, .f32⟩
  | 57 => ⟨S1x4x128, .f32⟩
  | 58 => ⟨S4x128, .f32⟩
  | 59 => ⟨S1x4x128, .f32⟩
  | 60 => ⟨S4x128, .f32⟩
  | 61 => ⟨S1x4x128, .f32⟩
  | 62 => ⟨S4x128, .f32⟩
  | 63 => ⟨S1x4x128, .f32⟩
  | 64 => ⟨S4x128, .f32⟩
  | 65 => ⟨S_, .f32⟩
  | 66 => ⟨S4x128, .f32⟩
  | 67 => ⟨S4x128, .f32⟩
  | 68 => ⟨S_, .f32⟩
  | 69 => ⟨S4x128, .f32⟩
  | 70 => ⟨S4x128, .f32⟩
  | 71 => ⟨S4x128, .f32⟩
  | 72 => ⟨S_, .f32⟩
  | 73 => ⟨S4x128, .f32⟩
  | 74 => ⟨S4x128, .f32⟩
  | 75 => ⟨S4x128, .f32⟩
  | 76 => ⟨S_, .f32⟩
  | 77 => ⟨S4x128, .f32⟩
  | 78 => ⟨S4x128, .f32⟩
  | 79 => ⟨S4x128, .f32⟩
  | 80 => ⟨S_, .f32⟩
  | 81 => ⟨S4x128, .f32⟩
  | 82 => ⟨S4x128, .f32⟩
  | 83 => ⟨S_, .f32⟩
  | 84 => ⟨S4x128, .f32⟩
  | 85 => ⟨S4x128, .f32⟩
  | 86 => ⟨S4x128, .f32⟩
  | 87 => ⟨S_, .f32⟩
  | 88 => ⟨S4x128, .f32⟩
  | 89 => ⟨S4x128, .f32⟩
  | 90 => ⟨S4x128, .f32⟩
  | 91 => ⟨S_, .f32⟩
  | 92 => ⟨S4x128, .f32⟩
  | 93 => ⟨S4x128, .f32⟩
  | 94 => ⟨S4x128, .f32⟩
  | 95 => ⟨S_, .f32⟩
  | 96 => ⟨S4x128, .f32⟩
  | 97 => ⟨S4x128, .f32⟩
  | 98 => ⟨S1x4x48x64, .f32⟩
  | 99 => ⟨S4x48x64, .f32⟩
  | 100 => ⟨S1x4x48x64, .f32⟩
  | 101 => ⟨S4x48x64, .f32⟩
  | 102 => ⟨S1x4x48x64, .f32⟩
  | 103 => ⟨S4x48x64, .f32⟩
  | 104 => ⟨S1x4x48x64, .f32⟩
  | 105 => ⟨S4x48x64, .f32⟩
  | 106 => ⟨S_, .f32⟩
  | 107 => ⟨S4x48x64, .f32⟩
  | 108 => ⟨S4x48x64, .f32⟩
  | 109 => ⟨S_, .f32⟩
  | 110 => ⟨S4x48x64, .f32⟩
  | 111 => ⟨S4x48x64, .f32⟩
  | 112 => ⟨S4x48x64, .f32⟩
  | 113 => ⟨S_, .f32⟩
  | 114 => ⟨S4x48x64, .f32⟩
  | 115 => ⟨S4x48x64, .f32⟩
  | 116 => ⟨S4x48x64, .f32⟩
  | 117 => ⟨S_, .f32⟩
  | 118 => ⟨S4x48x64, .f32⟩
  | 119 => ⟨S4x48x64, .f32⟩
  | 120 => ⟨S4x48x64, .f32⟩
  | 121 => ⟨S_, .f32⟩
  | 122 => ⟨S4x48x64, .f32⟩
  | 123 => ⟨S4x48x64, .f32⟩
  | 124 => ⟨S_, .f32⟩
  | 125 => ⟨S4x48x64, .f32⟩
  | 126 => ⟨S4x48x64, .f32⟩
  | 127 => ⟨S4x48x64, .f32⟩
  | _ => ⟨S4x4x2048, .f32⟩

abbrev hbmTy0_2 (i : Nat) : BufTy := match i % 128 with
  | 0 => ⟨S_, .f32⟩
  | 1 => ⟨S4x48x64, .f32⟩
  | 2 => ⟨S4x48x64, .f32⟩
  | 3 => ⟨S4x48x64, .f32⟩
  | 4 => ⟨S_, .f32⟩
  | 5 => ⟨S4x48x64, .f32⟩
  | 6 => ⟨S4x48x64, .f32⟩
  | 7 => ⟨S4x48x64, .f32⟩
  | 8 => ⟨S_, .f32⟩
  | 9 => ⟨S4x48x64, .f32⟩
  | 10 => ⟨S4x48x64, .f32⟩
  | 11 => ⟨S1x4x48x64, .f32⟩
  | 12 => ⟨S4x48x64, .f32⟩
  | 13 => ⟨S1x4x48x64, .f32⟩
  | 14 => ⟨S4x48x64, .f32⟩
  | 15 => ⟨S1x4x48x64, .f32⟩
  | 16 => ⟨S4x48x64, .f32⟩
  | 17 => ⟨S1x4x48x64, .f32⟩
  | 18 => ⟨S4x48x64, .f32⟩
  | 19 => ⟨S_, .f32⟩
  | 20 => ⟨S4x48x64, .f32⟩
  | 21 => ⟨S4x48x64, .f32⟩
  | 22 => ⟨S_, .f32⟩
  | 23 => ⟨S4x48x64, .f32⟩
  | 24 => ⟨S4x48x64, .f32⟩
  | 25 => ⟨S4x48x64, .f32⟩
  | 26 => ⟨S_, .f32⟩
  | 27 => ⟨S4x48x64, .f32⟩
  | 28 => ⟨S4x48x64, .f32⟩
  | 29 => ⟨S4x48x64, .f32⟩
  | 30 => ⟨S_, .f32⟩
  | 31 => ⟨S4x48x64, .f32⟩
  | 32 => ⟨S4x48x64, .f32⟩
  | 33 => ⟨S4x48x64, .f32⟩
  | 34 => ⟨S_, .f32⟩
  | 35 => ⟨S4x48x64, .f32⟩
  | 36 => ⟨S4x48x64, .f32⟩
  | 37 => ⟨S_, .f32⟩
  | 38 => ⟨S4x48x64, .f32⟩
  | 39 => ⟨S4x48x64, .f32⟩
  | 40 => ⟨S4x48x64, .f32⟩
  | 41 => ⟨S_, .f32⟩
  | 42 => ⟨S4x48x64, .f32⟩
  | 43 => ⟨S4x48x64, .f32⟩
  | 44 => ⟨S4x48x64, .f32⟩
  | 45 => ⟨S_, .f32⟩
  | 46 => ⟨S4x48x64, .f32⟩
  | 47 => ⟨S4x48x64, .f32⟩
  | 48 => ⟨S4x48x64, .f32⟩
  | 49 => ⟨S_, .f32⟩
  | 50 => ⟨S4x48x64, .f32⟩
  | 51 => ⟨S4x48x64, .f32⟩
  | 52 => ⟨S1x4x48, .f32⟩
  | 53 => ⟨S4x48, .f32⟩
  | 54 => ⟨S1x4x48, .f32⟩
  | 55 => ⟨S4x48, .f32⟩
  | 56 => ⟨S1x4x48, .f32⟩
  | 57 => ⟨S4x48, .f32⟩
  | 58 => ⟨S1x4x48, .f32⟩
  | 59 => ⟨S4x48, .f32⟩
  | 60 => ⟨S_, .f32⟩
  | 61 => ⟨S4x48, .f32⟩
  | 62 => ⟨S4x48, .f32⟩
  | 63 => ⟨S_, .f32⟩
  | 64 => ⟨S4x48, .f32⟩
  | 65 => ⟨S4x48, .f32⟩
  | 66 => ⟨S4x48, .f32⟩
  | 67 => ⟨S_, .f32⟩
  | 68 => ⟨S4x48, .f32⟩
  | 69 => ⟨S4x48, .f32⟩
  | 70 => ⟨S4x48, .f32⟩
  | 71 => ⟨S_, .f32⟩
  | 72 => ⟨S4x48, .f32⟩
  | 73 => ⟨S4x48, .f32⟩
  | 74 => ⟨S4x48, .f32⟩
  | 75 => ⟨S_, .f32⟩
  | 76 => ⟨S4x48, .f32⟩
  | 77 => ⟨S4x48, .f32⟩
  | 78 => ⟨S_, .f32⟩
  | 79 => ⟨S4x48, .f32⟩
  | 80 => ⟨S4x48, .f32⟩
  | 81 => ⟨S4x48, .f32⟩
  | 82 => ⟨S_, .f32⟩
  | 83 => ⟨S4x48, .f32⟩
  | 84 => ⟨S4x48, .f32⟩
  | 85 => ⟨S4x48, .f32⟩
  | 86 => ⟨S_, .f32⟩
  | 87 => ⟨S4x48, .f32⟩
  | 88 => ⟨S4x48, .f32⟩
  | 89 => ⟨S4x48, .f32⟩
  | 90 => ⟨S_, .f32⟩
  | 91 => ⟨S4x48, .f32⟩
  | 92 => ⟨S4x48, .f32⟩
  | 93 => ⟨S1x4x48x64x16, .f32⟩
  | 94 => ⟨S4x48x64x16, .f32⟩
  | 95 => ⟨S1x4x48x64x16, .f32⟩
  | 96 => ⟨S4x48x64x16, .f32⟩
  | 97 => ⟨S1x4x48x64x16, .f32⟩
  | 98 => ⟨S4x48x64x16, .f32⟩
  | 99 => ⟨S1x4x48x64x16, .f32⟩
  | 100 => ⟨S4x48x64x16, .f32⟩
  | 101 => ⟨S_, .f32⟩
  | 102 => ⟨S4x48x64x16, .f32⟩
  | 103 => ⟨S4x48x64x16, .f32⟩
  | 104 => ⟨S_, .f32⟩
  | 105 => ⟨S4x48x64x16, .f32⟩
  | 106 => ⟨S4x48x64x16, .f32⟩
  | 107 => ⟨S4x48x64x16, .f32⟩
  | 108 => ⟨S_, .f32⟩
  | 109 => ⟨S4x48x64x16, .f32⟩
  | 110 => ⟨S4x48x64x16, .f32⟩
  | 111 => ⟨S4x48x64x16, .f32⟩
  | 112 => ⟨S_, .f32⟩
  | 113 => ⟨S4x48x64x16, .f32⟩
  | 114 => ⟨S4x48x64x16, .f32⟩
  | 115 => ⟨S4x48x64x16, .f32⟩
  | 116 => ⟨S_, .f32⟩
  | 117 => ⟨S4x48x64x16, .f32⟩
  | 118 => ⟨S4x48x64x16, .f32⟩
  | 119 => ⟨S_, .f32⟩
  | 120 => ⟨S4x48x64x16, .f32⟩
  | 121 => ⟨S4x48x64x16, .f32⟩
  | 122 => ⟨S4x48x64x16, .f32⟩
  | 123 => ⟨S_, .f32⟩
  | 124 => ⟨S4x48x64x16, .f32⟩
  | 125 => ⟨S4x48x64x16, .f32⟩
  | 126 => ⟨S4x48x64x16, .f32⟩
  | 127 => ⟨S_, .f32⟩
  | _ => ⟨S4x4x2048, .f32⟩

abbrev hbmTy0_3 (i : Nat) : BufTy := match i % 128 with
  | 0 => ⟨S4x48x64x16, .f32⟩
  | 1 => ⟨S4x48x64x16, .f32⟩
  | 2 => ⟨S4x48x64x16, .f32⟩
  | 3 => ⟨S_, .f32⟩
  | 4 => ⟨S4x48x64x16, .f32⟩
  | 5 => ⟨S4x48x64x16, .f32⟩
  | 6 => ⟨S1x4x48x64x16, .f32⟩
  | 7 => ⟨S4x48x64x16, .f32⟩
  | 8 => ⟨S1x4x48x64x16, .f32⟩
  | 9 => ⟨S4x48x64x16, .f32⟩
  | 10 => ⟨S1x4x48x64x16, .f32⟩
  | 11 => ⟨S4x48x64x16, .f32⟩
  | 12 => ⟨S1x4x48x64x16, .f32⟩
  | 13 => ⟨S4x48x64x16, .f32⟩
  | 14 => ⟨S_, .f32⟩
  | 15 => ⟨S4x48x64x16, .f32⟩
  | 16 => ⟨S4x48x64x16, .f32⟩
  | 17 => ⟨S_, .f32⟩
  | 18 => ⟨S4x48x64x16, .f32⟩
  | 19 => ⟨S4x48x64x16, .f32⟩
  | 20 => ⟨S4x48x64x16, .f32⟩
  | 21 => ⟨S_, .f32⟩
  | 22 => ⟨S4x48x64x16, .f32⟩
  | 23 => ⟨S4x48x64x16, .f32⟩
  | 24 => ⟨S4x48x64x16, .f32⟩
  | 25 => ⟨S_, .f32⟩
  | 26 => ⟨S4x48x64x16, .f32⟩
  | 27 => ⟨S4x48x64x16, .f32⟩
  | 28 => ⟨S4x48x64x16, .f32⟩
  | 29 => ⟨S_, .f32⟩
  | 30 => ⟨S4x48x64x16, .f32⟩
  | 31 => ⟨S4x48x64x16, .f32⟩
  | 32 => ⟨S_, .f32⟩
  | 33 => ⟨S4x48x64x16, .f32⟩
  | 34 => ⟨S4x48x64x16, .f32⟩
  | 35 => ⟨S4x48x64x16, .f32⟩
  | 36 => ⟨S_, .f32⟩
  | 37 => ⟨S4x48x64x16, .f32⟩
  | 38 => ⟨S4x48x64x16, .f32⟩
  | 39 => ⟨S4x48x64x16, .f32⟩
  | 40 => ⟨S_, .f32⟩
  | 41 => ⟨S4x48x64x16, .f32⟩
  | 42 => ⟨S4x48x64x16, .f32⟩
  | 43 => ⟨S4x48x64x16, .f32⟩
  | 44 => ⟨S_, .f32⟩
  | 45 => ⟨S4x48x64x16, .f32⟩
  | 46 => ⟨S4x48x64x16, .f32⟩
  | 47 => ⟨S1x4x48x16x64, .f32⟩
  | 48 => ⟨S4x48x16x64, .f32⟩
  | 49 => ⟨S1x4x48x16x64, .f32⟩
  | 50 => ⟨S4x48x16x64, .f32⟩
  | 51 => ⟨S1x4x48x16x64, .f32⟩
  | 52 => ⟨S4x48x16x64, .f32⟩
  | 53 => ⟨S1x4x48x16x64, .f32⟩
  | 54 => ⟨S4x48x16x64, .f32⟩
  | 55 => ⟨S_, .f32⟩
  | 56 => ⟨S4x48x16x64, .f32⟩
  | 57 => ⟨S4x48x16x64, .f32⟩
  | 58 => ⟨S_, .f32⟩
  | 59 => ⟨S4x48x16x64, .f32⟩
  | 60 => ⟨S4x48x16x64, .f32⟩
  | 61 => ⟨S4x48x16x64, .f32⟩
  | 62 => ⟨S_, .f32⟩
  | 63 => ⟨S4x48x16x64, .f32⟩
  | 64 => ⟨S4x48x16x64, .f32⟩
  | 65 => ⟨S4x48x16x64, .f32⟩
  | 66 => ⟨S_, .f32⟩
  | 67 => ⟨S4x48x16x64, .f32⟩
  | 68 => ⟨S4x48x16x64, .f32⟩
  | 69 => ⟨S4x48x16x64, .f32⟩
  | 70 => ⟨S_, .f32⟩
  | 71 => ⟨S4x48x16x64, .f32⟩
  | 72 => ⟨S4x48x16x64, .f32⟩
  | 73 => ⟨S_, .f32⟩
  | 74 => ⟨S4x48x16x64, .f32⟩
  | 75 => ⟨S4x48x16x64, .f32⟩
  | 76 => ⟨S4x48x16x64, .f32⟩
  | 77 => ⟨S_, .f32⟩
  | 78 => ⟨S4x48x16x64, .f32⟩
  | 79 => ⟨S4x48x16x64, .f32⟩
  | 80 => ⟨S4x48x16x64, .f32⟩
  | 81 => ⟨S_, .f32⟩
  | 82 => ⟨S4x48x16x64, .f32⟩
  | 83 => ⟨S4x48x16x64, .f32⟩
  | 84 => ⟨S4x48x16x64, .f32⟩
  | 85 => ⟨S_, .f32⟩
  | 86 => ⟨S4x48x16x64, .f32⟩
  | 87 => ⟨S4x48x16x64, .f32⟩
  | 88 => ⟨S1x4x48x16x64, .f32⟩
  | 89 => ⟨S4x48x16x64, .f32⟩
  | 90 => ⟨S1x4x48x16x64, .f32⟩
  | 91 => ⟨S4x48x16x64, .f32⟩
  | 92 => ⟨S1x4x48x16x64, .f32⟩
  | 93 => ⟨S4x48x16x64, .f32⟩
  | 94 => ⟨S1x4x48x16x64, .f32⟩
  | 95 => ⟨S4x48x16x64, .f32⟩
  | 96 => ⟨S_, .f32⟩
  | 97 => ⟨S4x48x16x64, .f32⟩
  | 98 => ⟨S4x48x16x64, .f32⟩
  | 99 => ⟨S_, .f32⟩
  | 100 => ⟨S4x48x16x64, .f32⟩
  | 101 => ⟨S4x48x16x64, .f32⟩
  | 102 => ⟨S4x48x16x64, .f32⟩
  | 103 => ⟨S_, .f32⟩
  | 104 => ⟨S4x48x16x64, .f32⟩
  | 105 => ⟨S4x48x16x64, .f32⟩
  | 106 => ⟨S4x48x16x64, .f32⟩
  | 107 => ⟨S_, .f32⟩
  | 108 => ⟨S4x48x16x64, .f32⟩
  | 109 => ⟨S4x48x16x64, .f32⟩
  | 110 => ⟨S4x48x16x64, .f32⟩
  | 111 => ⟨S_, .f32⟩
  | 112 => ⟨S4x48x16x64, .f32⟩
  | 113 => ⟨S4x48x16x64, .f32⟩
  | 114 => ⟨S_, .f32⟩
  | 115 => ⟨S4x48x16x64, .f32⟩
  | 116 => ⟨S4x48x16x64, .f32⟩
  | 117 => ⟨S4x48x16x64, .f32⟩
  | 118 => ⟨S_, .f32⟩
  | 119 => ⟨S4x48x16x64, .f32⟩
  | 120 => ⟨S4x48x16x64, .f32⟩
  | 121 => ⟨S4x48x16x64, .f32⟩
  | 122 => ⟨S_, .f32⟩
  | 123 => ⟨S4x48x16x64, .f32⟩
  | 124 => ⟨S4x48x16x64, .f32⟩
  | 125 => ⟨S4x48x16x64, .f32⟩
  | 126 => ⟨S_, .f32⟩
  | 127 => ⟨S4x48x16x64, .f32⟩
  | _ => ⟨S4x4x2048, .f32⟩

abbrev hbmTy0_4 (i : Nat) : BufTy := match i % 128 with
  | 0 => ⟨S4x48x16x64, .f32⟩
  | 1 => ⟨S1x4x48x16, .f32⟩
  | 2 => ⟨S4x48x16, .f32⟩
  | 3 => ⟨S1x4x48x16, .f32⟩
  | 4 => ⟨S4x48x16, .f32⟩
  | 5 => ⟨S1x4x48x16, .f32⟩
  | 6 => ⟨S4x48x16, .f32⟩
  | 7 => ⟨S1x4x48x16, .f32⟩
  | 8 => ⟨S4x48x16, .f32⟩
  | 9 => ⟨S_, .f32⟩
  | 10 => ⟨S4x48x16, .f32⟩
  | 11 => ⟨S4x48x16, .f32⟩
  | 12 => ⟨S_, .f32⟩
  | 13 => ⟨S4x48x16, .f32⟩
  | 14 => ⟨S4x48x16, .f32⟩
  | 15 => ⟨S4x48x16, .f32⟩
  | 16 => ⟨S_, .f32⟩
  | 17 => ⟨S4x48x16, .f32⟩
  | 18 => ⟨S4x48x16, .f32⟩
  | 19 => ⟨S4x48x16, .f32⟩
  | 20 => ⟨S_, .f32⟩
  | 21 => ⟨S4x48x16, .f32⟩
  | 22 => ⟨S4x48x16, .f32⟩
  | 23 => ⟨S4x48x16, .f32⟩
  | 24 => ⟨S_, .f32⟩
  | 25 => ⟨S4x48x16, .f32⟩
  | 26 => ⟨S4x48x16, .f32⟩
  | 27 => ⟨S_, .f32⟩
  | 28 => ⟨S4x48x16, .f32⟩
  | 29 => ⟨S4x48x16, .f32⟩
  | 30 => ⟨S4x48x16, .f32⟩
  | 31 => ⟨S_, .f32⟩
  | 32 => ⟨S4x48x16, .f32⟩
  | 33 => ⟨S4x48x16, .f32⟩
  | 34 => ⟨S4x48x16, .f32⟩
  | 35 => ⟨S_, .f32⟩
  | 36 => ⟨S4x48x16, .f32⟩
  | 37 => ⟨S4x48x16, .f32⟩
  | 38 => ⟨S4x48x16, .f32⟩
  | 39 => ⟨S_, .f32⟩
  | 40 => ⟨S4x48x16, .f32⟩
  | 41 => ⟨S4x48x16, .f32⟩
  | 42 => ⟨S1x4x768, .f32⟩
  | 43 => ⟨S4x768, .f32⟩
  | 44 => ⟨S1x4x768, .f32⟩
  | 45 => ⟨S4x768, .f32⟩
  | 46 => ⟨S1x4x768, .f32⟩
  | 47 => ⟨S4x768, .f32⟩
  | 48 => ⟨S1x4x768, .f32⟩
  | 49 => ⟨S4x768, .f32⟩
  | 50 => ⟨S_, .f32⟩
  | 51 => ⟨S4x768, .f32⟩
  | 52 => ⟨S4x768, .f32⟩
  | 53 => ⟨S_, .f32⟩
  | 54 => ⟨S4x768, .f32⟩
  | 55 => ⟨S4x768, .f32⟩
  | 56 => ⟨S4x768, .f32⟩
  | 57 => ⟨S_, .f32⟩
  | 58 => ⟨S4x768, .f32⟩
  | 59 => ⟨S4x768, .f32⟩
  | 60 => ⟨S4x768, .f32⟩
  | 61 => ⟨S_, .f32⟩
  | 62 => ⟨S4x768, .f32⟩
  | 63 => ⟨S4x768, .f32⟩
  | 64 => ⟨S4x768, .f32⟩
  | 65 => ⟨S_, .f32⟩
  | 66 => ⟨S4x768, .f32⟩
  | 67 => ⟨S4x768, .f32⟩
  | 68 => ⟨S_, .f32⟩
  | 69 => ⟨S4x768, .f32⟩
  | 70 => ⟨S4x768, .f32⟩
  | 71 => ⟨S4x768, .f32⟩
  | 72 => ⟨S_, .f32⟩
  | 73 => ⟨S4x768, .f32⟩
  | 74 => ⟨S4x768, .f32⟩
  | 75 => ⟨S4x768, .f32⟩
  | 76 => ⟨S_, .f32⟩
  | 77 => ⟨S4x768, .f32⟩
  | 78 => ⟨S4x768, .f32⟩
  | 79 => ⟨S4x768, .f32⟩
  | 80 => ⟨S_, .f32⟩
  | 81 => ⟨S4x768, .f32⟩
  | 82 => ⟨S4x768, .f32⟩
  | 83 => ⟨S1x4x4x256, .f32⟩
  | 84 => ⟨S4x4x256, .f32⟩
  | 85 => ⟨S1x4x4x256, .f32⟩
  | 86 => ⟨S4x4x256, .f32⟩
  | 87 => ⟨S1x4x4x256, .f32⟩
  | 88 => ⟨S4x4x256, .f32⟩
  | 89 => ⟨S1x4x4x256, .f32⟩
  | 90 => ⟨S4x4x256, .f32⟩
  | 91 => ⟨S_, .f32⟩
  | 92 => ⟨S4x4x256, .f32⟩
  | 93 => ⟨S4x4x256, .f32⟩
  | 94 => ⟨S_, .f32⟩
  | 95 => ⟨S4x4x256, .f32⟩
  | 96 => ⟨S4x4x256, .f32⟩
  | 97 => ⟨S4x4x256, .f32⟩
  | 98 => ⟨S_, .f32⟩
  | 99 => ⟨S4x4x256, .f32⟩
  | 100 => ⟨S4x4x256, .f32⟩
  | 101 => ⟨S4x4x256, .f32⟩
  | 102 => ⟨S_, .f32⟩
  | 103 => ⟨S4x4x256, .f32⟩
  | 104 => ⟨S4x4x256, .f32⟩
  | 105 => ⟨S4x4x256, .f32⟩
  | 106 => ⟨S_, .f32⟩
  | 107 => ⟨S4x4x256, .f32⟩
  | 108 => ⟨S4x4x256, .f32⟩
  | 109 => ⟨S_, .f32⟩
  | 110 => ⟨S4x4x256, .f32⟩
  | 111 => ⟨S4x4x256, .f32⟩
  | 112 => ⟨S4x4x256, .f32⟩
  | 113 => ⟨S_, .f32⟩
  | 114 => ⟨S4x4x256, .f32⟩
  | 115 => ⟨S4x4x256, .f32⟩
  | 116 => ⟨S4x4x256, .f32⟩
  | 117 => ⟨S_, .f32⟩
  | 118 => ⟨S4x4x256, .f32⟩
  | 119 => ⟨S4x4x256, .f32⟩
  | 120 => ⟨S4x4x256, .f32⟩
  | 121 => ⟨S_, .f32⟩
  | 122 => ⟨S4x4x256, .f32⟩
  | 123 => ⟨S4x4x256, .f32⟩
  | 124 => ⟨S1x4x2048, .f32⟩
  | 125 => ⟨S4x2048, .f32⟩
  | 126 => ⟨S1x4x2048, .f32⟩
  | 127 => ⟨S4x2048, .f32⟩
  | _ => ⟨S4x4x2048, .f32⟩

abbrev hbmTy0_5 (i : Nat) : BufTy := match i % 128 with
  | 0 => ⟨S1x4x2048, .f32⟩
  | 1 => ⟨S4x2048, .f32⟩
  | 2 => ⟨S1x4x2048, .f32⟩
  | 3 => ⟨S4x2048, .f32⟩
  | 4 => ⟨S_, .f32⟩
  | 5 => ⟨S4x2048, .f32⟩
  | 6 => ⟨S4x2048, .f32⟩
  | 7 => ⟨S_, .f32⟩
  | 8 => ⟨S4x2048, .f32⟩
  | 9 => ⟨S4x2048, .f32⟩
  | 10 => ⟨S4x2048, .f32⟩
  | 11 => ⟨S_, .f32⟩
  | 12 => ⟨S4x2048, .f32⟩
  | 13 => ⟨S4x2048, .f32⟩
  | 14 => ⟨S4x2048, .f32⟩
  | 15 => ⟨S_, .f32⟩
  | 16 => ⟨S4x2048, .f32⟩
  | 17 => ⟨S4x2048, .f32⟩
  | 18 => ⟨S4x2048, .f32⟩
  | 19 => ⟨S_, .f32⟩
  | 20 => ⟨S4x2048, .f32⟩
  | 21 => ⟨S4x2048, .f32⟩
  | 22 => ⟨S_, .f32⟩
  | 23 => ⟨S4x2048, .f32⟩
  | 24 => ⟨S4x2048, .f32⟩
  | 25 => ⟨S4x2048, .f32⟩
  | 26 => ⟨S_, .f32⟩
  | 27 => ⟨S4x2048, .f32⟩
  | 28 => ⟨S4x2048, .f32⟩
  | 29 => ⟨S4x2048, .f32⟩
  | 30 => ⟨S_, .f32⟩
  | 31 => ⟨S4x2048, .f32⟩
  | 32 => ⟨S4x2048, .f32⟩
  | 33 => ⟨S4x2048, .f32⟩
  | 34 => ⟨S_, .f32⟩
  | 35 => ⟨S4x2048, .f32⟩
  | 36 => ⟨S4x2048, .f32⟩
  | 37 => ⟨S1x4x16, .f32⟩
  | 38 => ⟨S4x16, .f32⟩
  | 39 => ⟨S1x4x16, .f32⟩
  | 40 => ⟨S4x16, .f32⟩
  | 41 => ⟨S1x4x16, .f32⟩
  | 42 => ⟨S4x16, .f32⟩
  | 43 => ⟨S1x4x16, .f32⟩
  | 44 => ⟨S4x16, .f32⟩
  | 45 => ⟨S_, .f32⟩
  | 46 => ⟨S4x16, .f32⟩
  | 47 => ⟨S4x16, .f32⟩
  | 48 => ⟨S_, .f32⟩
  | 49 => ⟨S4x16, .f32⟩
  | 50 => ⟨S4x16, .f32⟩
  | 51 => ⟨S4x16, .f32⟩
  | 52 => ⟨S_, .f32⟩
  | 53 => ⟨S4x16, .f32⟩
  | 54 => ⟨S4x16, .f32⟩
  | 55 => ⟨S4x16, .f32⟩
  | 56 => ⟨S_, .f32⟩
  | 57 => ⟨S4x16, .f32⟩
  | 58 => ⟨S4x16, .f32⟩
  | 59 => ⟨S4x16, .f32⟩
  | 60 => ⟨S_, .f32⟩
  | 61 => ⟨S4x16, .f32⟩
  | 62 => ⟨S4x16, .f32⟩
  | 63 => ⟨S_, .f32⟩
  | 64 => ⟨S4x16, .f32⟩
  | 65 => ⟨S4x16, .f32⟩
  | 66 => ⟨S4x16, .f32⟩
  | 67 => ⟨S_, .f32⟩
  | 68 => ⟨S4x16, .f32⟩
  | 69 => ⟨S4x16, .f32⟩
  | 70 => ⟨S4x16, .f32⟩
  | 71 => ⟨S_, .f32⟩
  | 72 => ⟨S4x16, .f32⟩
  | 73 => ⟨S4x16, .f32⟩
  | 74 => ⟨S4x16, .f32⟩
  | 75 => ⟨S_, .f32⟩
  | 76 => ⟨S4x16, .f32⟩
  | 77 => ⟨S4x16, .f32⟩
  | 78 => ⟨S1x4x16, .f32⟩
  | 79 => ⟨S4x16, .f32⟩
  | 80 => ⟨S1x4x16, .f32⟩
  | 81 => ⟨S4x16, .f32⟩
  | 82 => ⟨S1x4x16, .f32⟩
  | 83 => ⟨S4x16, .f32⟩
  | 84 => ⟨S1x4x16, .f32⟩
  | 85 => ⟨S4x16, .f32⟩
  | 86 => ⟨S_, .f32⟩
  | 87 => ⟨S4x16, .f32⟩
  | 88 => ⟨S4x16, .f32⟩
  | 89 => ⟨S_, .f32⟩
  | 90 => ⟨S4x16, .f32⟩
  | 91 => ⟨S4x16, .f32⟩
  | 92 => ⟨S4x16, .f32⟩
  | 93 => ⟨S_, .f32⟩
  | 94 => ⟨S4x16, .f32⟩
  | 95 => ⟨S4x16, .f32⟩
  | 96 => ⟨S4x16, .f32⟩
  | 97 => ⟨S_, .f32⟩
  | 98 => ⟨S4x16, .f32⟩
  | 99 => ⟨S4x16, .f32⟩
  | 100 => ⟨S4x16, .f32⟩
  | 101 => ⟨S_, .f32⟩
  | 102 => ⟨S4x16, .f32⟩
  | 103 => ⟨S4x16, .f32⟩
  | 104 => ⟨S_, .f32⟩
  | 105 => ⟨S4x16, .f32⟩
  | 106 => ⟨S4x16, .f32⟩
  | 107 => ⟨S4x16, .f32⟩
  | 108 => ⟨S_, .f32⟩
  | 109 => ⟨S4x16, .f32⟩
  | 110 => ⟨S4x16, .f32⟩
  | 111 => ⟨S4x16, .f32⟩
  | 112 => ⟨S_, .f32⟩
  | 113 => ⟨S4x16, .f32⟩
  | 114 => ⟨S4x16, .f32⟩
  | 115 => ⟨S4x16, .f32⟩
  | 116 => ⟨S_, .f32⟩
  | 117 => ⟨S4x16, .f32⟩
  | 118 => ⟨S4x16, .f32⟩
  | 119 => ⟨S1x4x16, .f32⟩
  | 120 => ⟨S4x16, .f32⟩
  | 121 => ⟨S1x4x16, .f32⟩
  | 122 => ⟨S4x16, .f32⟩
  | 123 => ⟨S1x4x16, .f32⟩
  | 124 => ⟨S4x16, .f32⟩
  | 125 => ⟨S1x4x16, .f32⟩
  | 126 => ⟨S4x16, .f32⟩
  | 127 => ⟨S_, .f32⟩
  | _ => ⟨S4x4x2048, .f32⟩

abbrev hbmTy0_6 (i : Nat) : BufTy := match i % 128 with
  | 0 => ⟨S4x16, .f32⟩
  | 1 => ⟨S4x16, .f32⟩
  | 2 => ⟨S_, .f32⟩
  | 3 => ⟨S4x16, .f32⟩
  | 4 => ⟨S4x16, .f32⟩
  | 5 => ⟨S4x16, .f32⟩
  | 6 => ⟨S_, .f32⟩
  | 7 => ⟨S4x16, .f32⟩
  | 8 => ⟨S4x16, .f32⟩
  | 9 => ⟨S4x16, .f32⟩
  | 10 => ⟨S_, .f32⟩
  | 11 => ⟨S4x16, .f32⟩
  | 12 => ⟨S4x16, .f32⟩
  | 13 => ⟨S4x16, .f32⟩
  | 14 => ⟨S_, .f32⟩
  | 15 => ⟨S4x16, .f32⟩
  | 16 => ⟨S4x16, .f32⟩
  | 17 => ⟨S_, .f32⟩
  | 18 => ⟨S4x16, .f32⟩
  | 19 => ⟨S4x16, .f32⟩
  | 20 => ⟨S4x16, .f32⟩
  | 21 => ⟨S_, .f32⟩
  | 22 => ⟨S4x16, .f32⟩
  | 23 => ⟨S4x16, .f32⟩
  | 24 => ⟨S4x16, .f32⟩
  | 25 => ⟨S_, .f32⟩
  | 26 => ⟨S4x16, .f32⟩
  | 27 => ⟨S4x16, .f32⟩
  | 28 => ⟨S4x16, .f32⟩
  | 29 => ⟨S_, .f32⟩
  | 30 => ⟨S4x16, .f32⟩
  | 31 => ⟨S4x16, .f32⟩
  | 32 => ⟨S1x4x1024, .f32⟩
  | 33 => ⟨S4x1024, .f32⟩
  | 34 => ⟨S1x4x1024, .f32⟩
  | 35 => ⟨S4x1024, .f32⟩
  | 36 => ⟨S1x4x1024, .f32⟩
  | 37 => ⟨S4x1024, .f32⟩
  | 38 => ⟨S1x4x1024, .f32⟩
  | 39 => ⟨S4x1024, .f32⟩
  | 40 => ⟨S_, .f32⟩
  | 41 => ⟨S4x1024, .f32⟩
  | 42 => ⟨S4x1024, .f32⟩
  | 43 => ⟨S_, .f32⟩
  | 44 => ⟨S4x1024, .f32⟩
  | 45 => ⟨S4x1024, .f32⟩
  | 46 => ⟨S4x1024, .f32⟩
  | 47 => ⟨S_, .f32⟩
  | 48 => ⟨S4x1024, .f32⟩
  | 49 => ⟨S4x1024, .f32⟩
  | 50 => ⟨S4x1024, .f32⟩
  | 51 => ⟨S_, .f32⟩
  | 52 => ⟨S4x1024, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S_, .f32⟩
  | 59 => ⟨S4x1024, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S4x1024, .f32⟩
  | 66 => ⟨S_, .f32⟩
  | 67 => ⟨S4x1024, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S1x2048, .f32⟩
  | 74 => ⟨S2048, .f32⟩
  | 75 => ⟨S1x2048, .f32⟩
  | 76 => ⟨S2048, .f32⟩
  | 77 => ⟨S1x2048, .f32⟩
  | 78 => ⟨S2048, .f32⟩
  | 79 => ⟨S1x2048, .f32⟩
  | 80 => ⟨S2048, .f32⟩
  | 81 => ⟨S_, .f32⟩
  | 82 => ⟨S2048, .f32⟩
  | 83 => ⟨S2048, .f32⟩
  | 84 => ⟨S_, .f32⟩
  | 85 => ⟨S2048, .f32⟩
  | 86 => ⟨S2048, .f32⟩
  | 87 => ⟨S2048, .f32⟩
  | 88 => ⟨S_, .f32⟩
  | 89 => ⟨S2048, .f32⟩
  | 90 => ⟨S2048, .f32⟩
  | 91 => ⟨S2048, .f32⟩
  | 92 => ⟨S_, .f32⟩
  | 93 => ⟨S2048, .f32⟩
  | 94 => ⟨S2048, .f32⟩
  | 95 => ⟨S2048, .f32⟩
  | 96 => ⟨S_, .f32⟩
  | 97 => ⟨S2048, .f32⟩
  | 98 => ⟨S2048, .f32⟩
  | 99 => ⟨S_, .f32⟩
  | 100 => ⟨S2048, .f32⟩
  | 101 => ⟨S2048, .f32⟩
  | 102 => ⟨S2048, .f32⟩
  | 103 => ⟨S_, .f32⟩
  | 104 => ⟨S2048, .f32⟩
  | 105 => ⟨S2048, .f32⟩
  | 106 => ⟨S2048, .f32⟩
  | 107 => ⟨S_, .f32⟩
  | 108 => ⟨S2048, .f32⟩
  | 109 => ⟨S2048, .f32⟩
  | 110 => ⟨S2048, .f32⟩
  | 111 => ⟨S_, .f32⟩
  | 112 => ⟨S2048, .f32⟩
  | 113 => ⟨S2048, .f32⟩
  | _ => ⟨S4x4x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x4x2048, .f32⟩

abbrev bufTy : (tb : Table) → Fin (tcTables nBuf tb) → BufTy
  | .hbm, ⟨i, _⟩ => hbmTy i
  | _, _ => ⟨S4x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_1 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_3 : Ref sig .tc := ⟨.hbm, 44, rfl⟩
abbrev main_v19 : Ref sig .tc := ⟨.hbm, 45, rfl⟩
abbrev main_v20 : Ref sig .tc := ⟨.hbm, 46, rfl⟩
abbrev main_cst_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_10 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_11 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_12 : Ref sig .tc := ⟨.hbm, 85, rfl⟩
abbrev main_v51 : Ref sig .tc := ⟨.hbm, 86, rfl⟩
abbrev main_v52 : Ref sig .tc := ⟨.hbm, 87, rfl⟩
abbrev main_cst_13 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_14 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_15 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_16 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_17 : Ref sig .tc := ⟨.hbm, 111, rfl⟩
abbrev main_v72 : Ref sig .tc := ⟨.hbm, 112, rfl⟩
abbrev main_v73 : Ref sig .tc := ⟨.hbm, 113, rfl⟩
abbrev main_cst_18 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_19 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_20 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_21 : Ref sig .tc := ⟨.hbm, 126, rfl⟩
abbrev main_v83 : Ref sig .tc := ⟨.hbm, 127, rfl⟩
abbrev main_v84 : Ref sig .tc := ⟨.hbm, 128, rfl⟩
abbrev main_cst_22 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_23 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_24 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_25 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_26 : Ref sig .tc := ⟨.hbm, 152, rfl⟩
abbrev main_v104 : Ref sig .tc := ⟨.hbm, 153, rfl⟩
abbrev main_v105 : Ref sig .tc := ⟨.hbm, 154, rfl⟩
abbrev main_cst_27 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_28 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_29 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_30 : Ref sig .tc := ⟨.hbm, 167, rfl⟩
abbrev main_v115 : Ref sig .tc := ⟨.hbm, 168, rfl⟩
abbrev main_v116 : Ref sig .tc := ⟨.hbm, 169, rfl⟩
abbrev main_cst_31 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_32 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_33 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_34 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_35 : Ref sig .tc := ⟨.hbm, 193, rfl⟩
abbrev main_v136 : Ref sig .tc := ⟨.hbm, 194, rfl⟩
abbrev main_v137 : Ref sig .tc := ⟨.hbm, 195, rfl⟩
abbrev main_cst_36 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_37 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_cst_38 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_cst_39 : Ref sig .tc := ⟨.hbm, 208, rfl⟩
abbrev main_v147 : Ref sig .tc := ⟨.hbm, 209, rfl⟩
abbrev main_v148 : Ref sig .tc := ⟨.hbm, 210, rfl⟩
abbrev main_cst_40 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_cst_41 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_cst_42 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_cst_43 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_cst_44 : Ref sig .tc := ⟨.hbm, 234, rfl⟩
abbrev main_v168 : Ref sig .tc := ⟨.hbm, 235, rfl⟩
abbrev main_v169 : Ref sig .tc := ⟨.hbm, 236, rfl⟩
abbrev main_cst_45 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_cst_46 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_cst_47 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_cst_48 : Ref sig .tc := ⟨.hbm, 249, rfl⟩
abbrev main_v179 : Ref sig .tc := ⟨.hbm, 250, rfl⟩
abbrev main_v180 : Ref sig .tc := ⟨.hbm, 251, rfl⟩
abbrev main_cst_49 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_cst_50 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_cst_51 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_cst_52 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_cst_53 : Ref sig .tc := ⟨.hbm, 275, rfl⟩
abbrev main_v200 : Ref sig .tc := ⟨.hbm, 276, rfl⟩
abbrev main_v201 : Ref sig .tc := ⟨.hbm, 277, rfl⟩
abbrev main_cst_54 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_cst_55 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_cst_56 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_cst_57 : Ref sig .tc := ⟨.hbm, 290, rfl⟩
abbrev main_v211 : Ref sig .tc := ⟨.hbm, 291, rfl⟩
abbrev main_v212 : Ref sig .tc := ⟨.hbm, 292, rfl⟩
abbrev main_cst_58 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_cst_59 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_cst_60 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_cst_61 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_cst_62 : Ref sig .tc := ⟨.hbm, 316, rfl⟩
abbrev main_v232 : Ref sig .tc := ⟨.hbm, 317, rfl⟩
abbrev main_v233 : Ref sig .tc := ⟨.hbm, 318, rfl⟩
abbrev main_cst_63 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_cst_64 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_cst_65 : Ref sig .tc := ⟨.hbm, 327, rfl⟩
abbrev main_v240 : Ref sig .tc := ⟨.hbm, 328, rfl⟩
abbrev main_v241 : Ref sig .tc := ⟨.hbm, 329, rfl⟩
abbrev main_v242 : Ref sig .tc := ⟨.hbm, 330, rfl⟩
abbrev main_cst_66 : Ref sig .tc := ⟨.hbm, 331, rfl⟩
abbrev main_v243 : Ref sig .tc := ⟨.hbm, 332, rfl⟩
abbrev main_v244 : Ref sig .tc := ⟨.hbm, 333, rfl⟩
abbrev main_cst_67 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_cst_68 : Ref sig .tc := ⟨.hbm, 338, rfl⟩
abbrev main_v248 : Ref sig .tc := ⟨.hbm, 339, rfl⟩
abbrev main_v249 : Ref sig .tc := ⟨.hbm, 340, rfl⟩
abbrev main_v250 : Ref sig .tc := ⟨.hbm, 341, rfl⟩
abbrev main_cst_69 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_cst_70 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_v257 : Ref sig .tc := ⟨.hbm, 350, rfl⟩
abbrev main_v258 : Ref sig .tc := ⟨.hbm, 351, rfl⟩
abbrev main_v259 : Ref sig .tc := ⟨.hbm, 352, rfl⟩
abbrev main_v260 : Ref sig .tc := ⟨.hbm, 353, rfl⟩
abbrev main_v261 : Ref sig .tc := ⟨.hbm, 354, rfl⟩
abbrev main_v262 : Ref sig .tc := ⟨.hbm, 355, rfl⟩
abbrev main_v263 : Ref sig .tc := ⟨.hbm, 356, rfl⟩
abbrev main_cst_71 : Ref sig .tc := ⟨.hbm, 357, rfl⟩
abbrev main_v264 : Ref sig .tc := ⟨.hbm, 358, rfl⟩
abbrev main_v265 : Ref sig .tc := ⟨.hbm, 359, rfl⟩
abbrev main_cst_72 : Ref sig .tc := ⟨.hbm, 360, rfl⟩
abbrev main_v266 : Ref sig .tc := ⟨.hbm, 361, rfl⟩
abbrev main_v267 : Ref sig .tc := ⟨.hbm, 362, rfl⟩
abbrev main_v268 : Ref sig .tc := ⟨.hbm, 363, rfl⟩
abbrev main_cst_73 : Ref sig .tc := ⟨.hbm, 364, rfl⟩
abbrev main_v269 : Ref sig .tc := ⟨.hbm, 365, rfl⟩
abbrev main_v270 : Ref sig .tc := ⟨.hbm, 366, rfl⟩
abbrev main_v271 : Ref sig .tc := ⟨.hbm, 367, rfl⟩
abbrev main_cst_74 : Ref sig .tc := ⟨.hbm, 368, rfl⟩
abbrev main_v272 : Ref sig .tc := ⟨.hbm, 369, rfl⟩
abbrev main_v273 : Ref sig .tc := ⟨.hbm, 370, rfl⟩
abbrev main_v274 : Ref sig .tc := ⟨.hbm, 371, rfl⟩
abbrev main_cst_75 : Ref sig .tc := ⟨.hbm, 372, rfl⟩
abbrev main_v275 : Ref sig .tc := ⟨.hbm, 373, rfl⟩
abbrev main_v276 : Ref sig .tc := ⟨.hbm, 374, rfl⟩
abbrev main_cst_76 : Ref sig .tc := ⟨.hbm, 375, rfl⟩
abbrev main_v277 : Ref sig .tc := ⟨.hbm, 376, rfl⟩
abbrev main_v278 : Ref sig .tc := ⟨.hbm, 377, rfl⟩
abbrev main_v279 : Ref sig .tc := ⟨.hbm, 378, rfl⟩
abbrev main_cst_77 : Ref sig .tc := ⟨.hbm, 379, rfl⟩
abbrev main_v280 : Ref sig .tc := ⟨.hbm, 380, rfl⟩
abbrev main_v281 : Ref sig .tc := ⟨.hbm, 381, rfl⟩
abbrev main_v282 : Ref sig .tc := ⟨.hbm, 382, rfl⟩
abbrev main_cst_78 : Ref sig .tc := ⟨.hbm, 383, rfl⟩
abbrev main_v283 : Ref sig .tc := ⟨.hbm, 384, rfl⟩
abbrev main_v284 : Ref sig .tc := ⟨.hbm, 385, rfl⟩
abbrev main_v285 : Ref sig .tc := ⟨.hbm, 386, rfl⟩
abbrev main_cst_79 : Ref sig .tc := ⟨.hbm, 387, rfl⟩
abbrev main_v286 : Ref sig .tc := ⟨.hbm, 388, rfl⟩
abbrev main_v287 : Ref sig .tc := ⟨.hbm, 389, rfl⟩
abbrev main_v288 : Ref sig .tc := ⟨.hbm, 390, rfl⟩
abbrev main_v289 : Ref sig .tc := ⟨.hbm, 391, rfl⟩
abbrev main_v290 : Ref sig .tc := ⟨.hbm, 392, rfl⟩
abbrev main_v291 : Ref sig .tc := ⟨.hbm, 393, rfl⟩
abbrev main_v292 : Ref sig .tc := ⟨.hbm, 394, rfl⟩
abbrev main_v293 : Ref sig .tc := ⟨.hbm, 395, rfl⟩
abbrev main_v294 : Ref sig .tc := ⟨.hbm, 396, rfl⟩
abbrev main_v295 : Ref sig .tc := ⟨.hbm, 397, rfl⟩
abbrev main_cst_80 : Ref sig .tc := ⟨.hbm, 398, rfl⟩
abbrev main_v296 : Ref sig .tc := ⟨.hbm, 399, rfl⟩
abbrev main_v297 : Ref sig .tc := ⟨.hbm, 400, rfl⟩
abbrev main_cst_81 : Ref sig .tc := ⟨.hbm, 401, rfl⟩
abbrev main_v298 : Ref sig .tc := ⟨.hbm, 402, rfl⟩
abbrev main_v299 : Ref sig .tc := ⟨.hbm, 403, rfl⟩
abbrev main_v300 : Ref sig .tc := ⟨.hbm, 404, rfl⟩
abbrev main_cst_82 : Ref sig .tc := ⟨.hbm, 405, rfl⟩
abbrev main_v301 : Ref sig .tc := ⟨.hbm, 406, rfl⟩
abbrev main_v302 : Ref sig .tc := ⟨.hbm, 407, rfl⟩
abbrev main_v303 : Ref sig .tc := ⟨.hbm, 408, rfl⟩
abbrev main_cst_83 : Ref sig .tc := ⟨.hbm, 409, rfl⟩
abbrev main_v304 : Ref sig .tc := ⟨.hbm, 410, rfl⟩
abbrev main_v305 : Ref sig .tc := ⟨.hbm, 411, rfl⟩
abbrev main_v306 : Ref sig .tc := ⟨.hbm, 412, rfl⟩
abbrev main_cst_84 : Ref sig .tc := ⟨.hbm, 413, rfl⟩
abbrev main_v307 : Ref sig .tc := ⟨.hbm, 414, rfl⟩
abbrev main_v308 : Ref sig .tc := ⟨.hbm, 415, rfl⟩
abbrev main_cst_85 : Ref sig .tc := ⟨.hbm, 416, rfl⟩
abbrev main_v309 : Ref sig .tc := ⟨.hbm, 417, rfl⟩
abbrev main_v310 : Ref sig .tc := ⟨.hbm, 418, rfl⟩
abbrev main_v311 : Ref sig .tc := ⟨.hbm, 419, rfl⟩
abbrev main_cst_86 : Ref sig .tc := ⟨.hbm, 420, rfl⟩
abbrev main_v312 : Ref sig .tc := ⟨.hbm, 421, rfl⟩
abbrev main_v313 : Ref sig .tc := ⟨.hbm, 422, rfl⟩
abbrev main_v314 : Ref sig .tc := ⟨.hbm, 423, rfl⟩
abbrev main_cst_87 : Ref sig .tc := ⟨.hbm, 424, rfl⟩
abbrev main_v315 : Ref sig .tc := ⟨.hbm, 425, rfl⟩
abbrev main_v316 : Ref sig .tc := ⟨.hbm, 426, rfl⟩
abbrev main_v317 : Ref sig .tc := ⟨.hbm, 427, rfl⟩
abbrev main_cst_88 : Ref sig .tc := ⟨.hbm, 428, rfl⟩
abbrev main_v318 : Ref sig .tc := ⟨.hbm, 429, rfl⟩
abbrev main_v319 : Ref sig .tc := ⟨.hbm, 430, rfl⟩
abbrev main_v320 : Ref sig .tc := ⟨.hbm, 431, rfl⟩
abbrev main_v321 : Ref sig .tc := ⟨.hbm, 432, rfl⟩
abbrev main_v322 : Ref sig .tc := ⟨.hbm, 433, rfl⟩
abbrev main_v323 : Ref sig .tc := ⟨.hbm, 434, rfl⟩
abbrev main_v324 : Ref sig .tc := ⟨.hbm, 435, rfl⟩
abbrev main_v325 : Ref sig .tc := ⟨.hbm, 436, rfl⟩
abbrev main_v326 : Ref sig .tc := ⟨.hbm, 437, rfl⟩
abbrev main_v327 : Ref sig .tc := ⟨.hbm, 438, rfl⟩
abbrev main_cst_89 : Ref sig .tc := ⟨.hbm, 439, rfl⟩
abbrev main_v328 : Ref sig .tc := ⟨.hbm, 440, rfl⟩
abbrev main_v329 : Ref sig .tc := ⟨.hbm, 441, rfl⟩
abbrev main_cst_90 : Ref sig .tc := ⟨.hbm, 442, rfl⟩
abbrev main_v330 : Ref sig .tc := ⟨.hbm, 443, rfl⟩
abbrev main_v331 : Ref sig .tc := ⟨.hbm, 444, rfl⟩
abbrev main_v332 : Ref sig .tc := ⟨.hbm, 445, rfl⟩
abbrev main_cst_91 : Ref sig .tc := ⟨.hbm, 446, rfl⟩
abbrev main_v333 : Ref sig .tc := ⟨.hbm, 447, rfl⟩
abbrev main_v334 : Ref sig .tc := ⟨.hbm, 448, rfl⟩
abbrev main_v335 : Ref sig .tc := ⟨.hbm, 449, rfl⟩
abbrev main_cst_92 : Ref sig .tc := ⟨.hbm, 450, rfl⟩
abbrev main_v336 : Ref sig .tc := ⟨.hbm, 451, rfl⟩
abbrev main_v337 : Ref sig .tc := ⟨.hbm, 452, rfl⟩
abbrev main_v338 : Ref sig .tc := ⟨.hbm, 453, rfl⟩
abbrev main_cst_93 : Ref sig .tc := ⟨.hbm, 454, rfl⟩
abbrev main_v339 : Ref sig .tc := ⟨.hbm, 455, rfl⟩
abbrev main_v340 : Ref sig .tc := ⟨.hbm, 456, rfl⟩
abbrev main_cst_94 : Ref sig .tc := ⟨.hbm, 457, rfl⟩
abbrev main_v341 : Ref sig .tc := ⟨.hbm, 458, rfl⟩
abbrev main_v342 : Ref sig .tc := ⟨.hbm, 459, rfl⟩
abbrev main_v343 : Ref sig .tc := ⟨.hbm, 460, rfl⟩
abbrev main_cst_95 : Ref sig .tc := ⟨.hbm, 461, rfl⟩
abbrev main_v344 : Ref sig .tc := ⟨.hbm, 462, rfl⟩
abbrev main_v345 : Ref sig .tc := ⟨.hbm, 463, rfl⟩
abbrev main_v346 : Ref sig .tc := ⟨.hbm, 464, rfl⟩
abbrev main_cst_96 : Ref sig .tc := ⟨.hbm, 465, rfl⟩
abbrev main_v347 : Ref sig .tc := ⟨.hbm, 466, rfl⟩
abbrev main_v348 : Ref sig .tc := ⟨.hbm, 467, rfl⟩
abbrev main_v349 : Ref sig .tc := ⟨.hbm, 468, rfl⟩
abbrev main_cst_97 : Ref sig .tc := ⟨.hbm, 469, rfl⟩
abbrev main_v350 : Ref sig .tc := ⟨.hbm, 470, rfl⟩
abbrev main_v351 : Ref sig .tc := ⟨.hbm, 471, rfl⟩
abbrev main_v352 : Ref sig .tc := ⟨.hbm, 472, rfl⟩
abbrev main_v353 : Ref sig .tc := ⟨.hbm, 473, rfl⟩
abbrev main_v354 : Ref sig .tc := ⟨.hbm, 474, rfl⟩
abbrev main_v355 : Ref sig .tc := ⟨.hbm, 475, rfl⟩
abbrev main_v356 : Ref sig .tc := ⟨.hbm, 476, rfl⟩
abbrev main_v357 : Ref sig .tc := ⟨.hbm, 477, rfl⟩
abbrev main_v358 : Ref sig .tc := ⟨.hbm, 478, rfl⟩
abbrev main_v359 : Ref sig .tc := ⟨.hbm, 479, rfl⟩
abbrev main_cst_98 : Ref sig .tc := ⟨.hbm, 480, rfl⟩
abbrev main_v360 : Ref sig .tc := ⟨.hbm, 481, rfl⟩
abbrev main_v361 : Ref sig .tc := ⟨.hbm, 482, rfl⟩
abbrev main_cst_99 : Ref sig .tc := ⟨.hbm, 483, rfl⟩
abbrev main_v362 : Ref sig .tc := ⟨.hbm, 484, rfl⟩
abbrev main_v363 : Ref sig .tc := ⟨.hbm, 485, rfl⟩
abbrev main_v364 : Ref sig .tc := ⟨.hbm, 486, rfl⟩
abbrev main_cst_100 : Ref sig .tc := ⟨.hbm, 487, rfl⟩
abbrev main_v365 : Ref sig .tc := ⟨.hbm, 488, rfl⟩
abbrev main_v366 : Ref sig .tc := ⟨.hbm, 489, rfl⟩
abbrev main_v367 : Ref sig .tc := ⟨.hbm, 490, rfl⟩
abbrev main_cst_101 : Ref sig .tc := ⟨.hbm, 491, rfl⟩
abbrev main_v368 : Ref sig .tc := ⟨.hbm, 492, rfl⟩
abbrev main_v369 : Ref sig .tc := ⟨.hbm, 493, rfl⟩
abbrev main_v370 : Ref sig .tc := ⟨.hbm, 494, rfl⟩
abbrev main_cst_102 : Ref sig .tc := ⟨.hbm, 495, rfl⟩
abbrev main_v371 : Ref sig .tc := ⟨.hbm, 496, rfl⟩
abbrev main_v372 : Ref sig .tc := ⟨.hbm, 497, rfl⟩
abbrev main_cst_103 : Ref sig .tc := ⟨.hbm, 498, rfl⟩
abbrev main_v373 : Ref sig .tc := ⟨.hbm, 499, rfl⟩
abbrev main_v374 : Ref sig .tc := ⟨.hbm, 500, rfl⟩
abbrev main_v375 : Ref sig .tc := ⟨.hbm, 501, rfl⟩
abbrev main_cst_104 : Ref sig .tc := ⟨.hbm, 502, rfl⟩
abbrev main_v376 : Ref sig .tc := ⟨.hbm, 503, rfl⟩
abbrev main_v377 : Ref sig .tc := ⟨.hbm, 504, rfl⟩
abbrev main_v378 : Ref sig .tc := ⟨.hbm, 505, rfl⟩
abbrev main_cst_105 : Ref sig .tc := ⟨.hbm, 506, rfl⟩
abbrev main_v379 : Ref sig .tc := ⟨.hbm, 507, rfl⟩
abbrev main_v380 : Ref sig .tc := ⟨.hbm, 508, rfl⟩
abbrev main_v381 : Ref sig .tc := ⟨.hbm, 509, rfl⟩
abbrev main_cst_106 : Ref sig .tc := ⟨.hbm, 510, rfl⟩
abbrev main_v382 : Ref sig .tc := ⟨.hbm, 511, rfl⟩
abbrev main_v383 : Ref sig .tc := ⟨.hbm, 512, rfl⟩
abbrev main_v384 : Ref sig .tc := ⟨.hbm, 513, rfl⟩
abbrev main_v385 : Ref sig .tc := ⟨.hbm, 514, rfl⟩
abbrev main_v386 : Ref sig .tc := ⟨.hbm, 515, rfl⟩
abbrev main_v387 : Ref sig .tc := ⟨.hbm, 516, rfl⟩
abbrev main_v388 : Ref sig .tc := ⟨.hbm, 517, rfl⟩
abbrev main_v389 : Ref sig .tc := ⟨.hbm, 518, rfl⟩
abbrev main_v390 : Ref sig .tc := ⟨.hbm, 519, rfl⟩
abbrev main_v391 : Ref sig .tc := ⟨.hbm, 520, rfl⟩
abbrev main_cst_107 : Ref sig .tc := ⟨.hbm, 521, rfl⟩
abbrev main_v392 : Ref sig .tc := ⟨.hbm, 522, rfl⟩
abbrev main_v393 : Ref sig .tc := ⟨.hbm, 523, rfl⟩
abbrev main_cst_108 : Ref sig .tc := ⟨.hbm, 524, rfl⟩
abbrev main_v394 : Ref sig .tc := ⟨.hbm, 525, rfl⟩
abbrev main_v395 : Ref sig .tc := ⟨.hbm, 526, rfl⟩
abbrev main_v396 : Ref sig .tc := ⟨.hbm, 527, rfl⟩
abbrev main_cst_109 : Ref sig .tc := ⟨.hbm, 528, rfl⟩
abbrev main_v397 : Ref sig .tc := ⟨.hbm, 529, rfl⟩
abbrev main_v398 : Ref sig .tc := ⟨.hbm, 530, rfl⟩
abbrev main_v399 : Ref sig .tc := ⟨.hbm, 531, rfl⟩
abbrev main_cst_110 : Ref sig .tc := ⟨.hbm, 532, rfl⟩
abbrev main_v400 : Ref sig .tc := ⟨.hbm, 533, rfl⟩
abbrev main_v401 : Ref sig .tc := ⟨.hbm, 534, rfl⟩
abbrev main_v402 : Ref sig .tc := ⟨.hbm, 535, rfl⟩
abbrev main_cst_111 : Ref sig .tc := ⟨.hbm, 536, rfl⟩
abbrev main_v403 : Ref sig .tc := ⟨.hbm, 537, rfl⟩
abbrev main_v404 : Ref sig .tc := ⟨.hbm, 538, rfl⟩
abbrev main_cst_112 : Ref sig .tc := ⟨.hbm, 539, rfl⟩
abbrev main_v405 : Ref sig .tc := ⟨.hbm, 540, rfl⟩
abbrev main_v406 : Ref sig .tc := ⟨.hbm, 541, rfl⟩
abbrev main_v407 : Ref sig .tc := ⟨.hbm, 542, rfl⟩
abbrev main_cst_113 : Ref sig .tc := ⟨.hbm, 543, rfl⟩
abbrev main_v408 : Ref sig .tc := ⟨.hbm, 544, rfl⟩
abbrev main_v409 : Ref sig .tc := ⟨.hbm, 545, rfl⟩
abbrev main_v410 : Ref sig .tc := ⟨.hbm, 546, rfl⟩
abbrev main_cst_114 : Ref sig .tc := ⟨.hbm, 547, rfl⟩
abbrev main_v411 : Ref sig .tc := ⟨.hbm, 548, rfl⟩
abbrev main_v412 : Ref sig .tc := ⟨.hbm, 549, rfl⟩
abbrev main_v413 : Ref sig .tc := ⟨.hbm, 550, rfl⟩
abbrev main_cst_115 : Ref sig .tc := ⟨.hbm, 551, rfl⟩
abbrev main_v414 : Ref sig .tc := ⟨.hbm, 552, rfl⟩
abbrev main_v415 : Ref sig .tc := ⟨.hbm, 553, rfl⟩
abbrev main_v416 : Ref sig .tc := ⟨.hbm, 554, rfl⟩
abbrev main_v417 : Ref sig .tc := ⟨.hbm, 555, rfl⟩
abbrev main_v418 : Ref sig .tc := ⟨.hbm, 556, rfl⟩
abbrev main_v419 : Ref sig .tc := ⟨.hbm, 557, rfl⟩
abbrev main_v420 : Ref sig .tc := ⟨.hbm, 558, rfl⟩
abbrev main_v421 : Ref sig .tc := ⟨.hbm, 559, rfl⟩
abbrev main_v422 : Ref sig .tc := ⟨.hbm, 560, rfl⟩
abbrev main_v423 : Ref sig .tc := ⟨.hbm, 561, rfl⟩
abbrev main_cst_116 : Ref sig .tc := ⟨.hbm, 562, rfl⟩
abbrev main_v424 : Ref sig .tc := ⟨.hbm, 563, rfl⟩
abbrev main_v425 : Ref sig .tc := ⟨.hbm, 564, rfl⟩
abbrev main_cst_117 : Ref sig .tc := ⟨.hbm, 565, rfl⟩
abbrev main_v426 : Ref sig .tc := ⟨.hbm, 566, rfl⟩
abbrev main_v427 : Ref sig .tc := ⟨.hbm, 567, rfl⟩
abbrev main_v428 : Ref sig .tc := ⟨.hbm, 568, rfl⟩
abbrev main_cst_118 : Ref sig .tc := ⟨.hbm, 569, rfl⟩
abbrev main_v429 : Ref sig .tc := ⟨.hbm, 570, rfl⟩
abbrev main_v430 : Ref sig .tc := ⟨.hbm, 571, rfl⟩
abbrev main_v431 : Ref sig .tc := ⟨.hbm, 572, rfl⟩
abbrev main_cst_119 : Ref sig .tc := ⟨.hbm, 573, rfl⟩
abbrev main_v432 : Ref sig .tc := ⟨.hbm, 574, rfl⟩
abbrev main_v433 : Ref sig .tc := ⟨.hbm, 575, rfl⟩
abbrev main_v434 : Ref sig .tc := ⟨.hbm, 576, rfl⟩
abbrev main_cst_120 : Ref sig .tc := ⟨.hbm, 577, rfl⟩
abbrev main_v435 : Ref sig .tc := ⟨.hbm, 578, rfl⟩
abbrev main_v436 : Ref sig .tc := ⟨.hbm, 579, rfl⟩
abbrev main_cst_121 : Ref sig .tc := ⟨.hbm, 580, rfl⟩
abbrev main_v437 : Ref sig .tc := ⟨.hbm, 581, rfl⟩
abbrev main_v438 : Ref sig .tc := ⟨.hbm, 582, rfl⟩
abbrev main_v439 : Ref sig .tc := ⟨.hbm, 583, rfl⟩
abbrev main_cst_122 : Ref sig .tc := ⟨.hbm, 584, rfl⟩
abbrev main_v440 : Ref sig .tc := ⟨.hbm, 585, rfl⟩
abbrev main_v441 : Ref sig .tc := ⟨.hbm, 586, rfl⟩
abbrev main_v442 : Ref sig .tc := ⟨.hbm, 587, rfl⟩
abbrev main_cst_123 : Ref sig .tc := ⟨.hbm, 588, rfl⟩
abbrev main_v443 : Ref sig .tc := ⟨.hbm, 589, rfl⟩
abbrev main_v444 : Ref sig .tc := ⟨.hbm, 590, rfl⟩
abbrev main_v445 : Ref sig .tc := ⟨.hbm, 591, rfl⟩
abbrev main_cst_124 : Ref sig .tc := ⟨.hbm, 592, rfl⟩
abbrev main_v446 : Ref sig .tc := ⟨.hbm, 593, rfl⟩
abbrev main_v447 : Ref sig .tc := ⟨.hbm, 594, rfl⟩
abbrev main_v448 : Ref sig .tc := ⟨.hbm, 595, rfl⟩
abbrev main_v449 : Ref sig .tc := ⟨.hbm, 596, rfl⟩
abbrev main_v450 : Ref sig .tc := ⟨.hbm, 597, rfl⟩
abbrev main_v451 : Ref sig .tc := ⟨.hbm, 598, rfl⟩
abbrev main_v452 : Ref sig .tc := ⟨.hbm, 599, rfl⟩
abbrev main_v453 : Ref sig .tc := ⟨.hbm, 600, rfl⟩
abbrev main_v454 : Ref sig .tc := ⟨.hbm, 601, rfl⟩
abbrev main_v455 : Ref sig .tc := ⟨.hbm, 602, rfl⟩
abbrev main_cst_125 : Ref sig .tc := ⟨.hbm, 603, rfl⟩
abbrev main_v456 : Ref sig .tc := ⟨.hbm, 604, rfl⟩
abbrev main_v457 : Ref sig .tc := ⟨.hbm, 605, rfl⟩
abbrev main_cst_126 : Ref sig .tc := ⟨.hbm, 606, rfl⟩
abbrev main_v458 : Ref sig .tc := ⟨.hbm, 607, rfl⟩
abbrev main_v459 : Ref sig .tc := ⟨.hbm, 608, rfl⟩
abbrev main_v460 : Ref sig .tc := ⟨.hbm, 609, rfl⟩
abbrev main_cst_127 : Ref sig .tc := ⟨.hbm, 610, rfl⟩
abbrev main_v461 : Ref sig .tc := ⟨.hbm, 611, rfl⟩
abbrev main_v462 : Ref sig .tc := ⟨.hbm, 612, rfl⟩
abbrev main_v463 : Ref sig .tc := ⟨.hbm, 613, rfl⟩
abbrev main_cst_128 : Ref sig .tc := ⟨.hbm, 614, rfl⟩
abbrev main_v464 : Ref sig .tc := ⟨.hbm, 615, rfl⟩
abbrev main_v465 : Ref sig .tc := ⟨.hbm, 616, rfl⟩
abbrev main_v466 : Ref sig .tc := ⟨.hbm, 617, rfl⟩
abbrev main_cst_129 : Ref sig .tc := ⟨.hbm, 618, rfl⟩
abbrev main_v467 : Ref sig .tc := ⟨.hbm, 619, rfl⟩
abbrev main_v468 : Ref sig .tc := ⟨.hbm, 620, rfl⟩
abbrev main_cst_130 : Ref sig .tc := ⟨.hbm, 621, rfl⟩
abbrev main_v469 : Ref sig .tc := ⟨.hbm, 622, rfl⟩
abbrev main_v470 : Ref sig .tc := ⟨.hbm, 623, rfl⟩
abbrev main_v471 : Ref sig .tc := ⟨.hbm, 624, rfl⟩
abbrev main_cst_131 : Ref sig .tc := ⟨.hbm, 625, rfl⟩
abbrev main_v472 : Ref sig .tc := ⟨.hbm, 626, rfl⟩
abbrev main_v473 : Ref sig .tc := ⟨.hbm, 627, rfl⟩
abbrev main_v474 : Ref sig .tc := ⟨.hbm, 628, rfl⟩
abbrev main_cst_132 : Ref sig .tc := ⟨.hbm, 629, rfl⟩
abbrev main_v475 : Ref sig .tc := ⟨.hbm, 630, rfl⟩
abbrev main_v476 : Ref sig .tc := ⟨.hbm, 631, rfl⟩
abbrev main_v477 : Ref sig .tc := ⟨.hbm, 632, rfl⟩
abbrev main_cst_133 : Ref sig .tc := ⟨.hbm, 633, rfl⟩
abbrev main_v478 : Ref sig .tc := ⟨.hbm, 634, rfl⟩
abbrev main_v479 : Ref sig .tc := ⟨.hbm, 635, rfl⟩
abbrev main_v480 : Ref sig .tc := ⟨.hbm, 636, rfl⟩
abbrev main_v481 : Ref sig .tc := ⟨.hbm, 637, rfl⟩
abbrev main_v482 : Ref sig .tc := ⟨.hbm, 638, rfl⟩
abbrev main_v483 : Ref sig .tc := ⟨.hbm, 639, rfl⟩
abbrev main_v484 : Ref sig .tc := ⟨.hbm, 640, rfl⟩
abbrev main_v485 : Ref sig .tc := ⟨.hbm, 641, rfl⟩
abbrev main_v486 : Ref sig .tc := ⟨.hbm, 642, rfl⟩
abbrev main_v487 : Ref sig .tc := ⟨.hbm, 643, rfl⟩
abbrev main_cst_134 : Ref sig .tc := ⟨.hbm, 644, rfl⟩
abbrev main_v488 : Ref sig .tc := ⟨.hbm, 645, rfl⟩
abbrev main_v489 : Ref sig .tc := ⟨.hbm, 646, rfl⟩
abbrev main_cst_135 : Ref sig .tc := ⟨.hbm, 647, rfl⟩
abbrev main_v490 : Ref sig .tc := ⟨.hbm, 648, rfl⟩
abbrev main_v491 : Ref sig .tc := ⟨.hbm, 649, rfl⟩
abbrev main_v492 : Ref sig .tc := ⟨.hbm, 650, rfl⟩
abbrev main_cst_136 : Ref sig .tc := ⟨.hbm, 651, rfl⟩
abbrev main_v493 : Ref sig .tc := ⟨.hbm, 652, rfl⟩
abbrev main_v494 : Ref sig .tc := ⟨.hbm, 653, rfl⟩
abbrev main_v495 : Ref sig .tc := ⟨.hbm, 654, rfl⟩
abbrev main_cst_137 : Ref sig .tc := ⟨.hbm, 655, rfl⟩
abbrev main_v496 : Ref sig .tc := ⟨.hbm, 656, rfl⟩
abbrev main_v497 : Ref sig .tc := ⟨.hbm, 657, rfl⟩
abbrev main_v498 : Ref sig .tc := ⟨.hbm, 658, rfl⟩
abbrev main_cst_138 : Ref sig .tc := ⟨.hbm, 659, rfl⟩
abbrev main_v499 : Ref sig .tc := ⟨.hbm, 660, rfl⟩
abbrev main_v500 : Ref sig .tc := ⟨.hbm, 661, rfl⟩
abbrev main_cst_139 : Ref sig .tc := ⟨.hbm, 662, rfl⟩
abbrev main_v501 : Ref sig .tc := ⟨.hbm, 663, rfl⟩
abbrev main_v502 : Ref sig .tc := ⟨.hbm, 664, rfl⟩
abbrev main_v503 : Ref sig .tc := ⟨.hbm, 665, rfl⟩
abbrev main_cst_140 : Ref sig .tc := ⟨.hbm, 666, rfl⟩
abbrev main_v504 : Ref sig .tc := ⟨.hbm, 667, rfl⟩
abbrev main_v505 : Ref sig .tc := ⟨.hbm, 668, rfl⟩
abbrev main_v506 : Ref sig .tc := ⟨.hbm, 669, rfl⟩
abbrev main_cst_141 : Ref sig .tc := ⟨.hbm, 670, rfl⟩
abbrev main_v507 : Ref sig .tc := ⟨.hbm, 671, rfl⟩
abbrev main_v508 : Ref sig .tc := ⟨.hbm, 672, rfl⟩
abbrev main_v509 : Ref sig .tc := ⟨.hbm, 673, rfl⟩
abbrev main_cst_142 : Ref sig .tc := ⟨.hbm, 674, rfl⟩
abbrev main_v510 : Ref sig .tc := ⟨.hbm, 675, rfl⟩
abbrev main_v511 : Ref sig .tc := ⟨.hbm, 676, rfl⟩
abbrev main_v512 : Ref sig .tc := ⟨.hbm, 677, rfl⟩
abbrev main_v513 : Ref sig .tc := ⟨.hbm, 678, rfl⟩
abbrev main_v514 : Ref sig .tc := ⟨.hbm, 679, rfl⟩
abbrev main_v515 : Ref sig .tc := ⟨.hbm, 680, rfl⟩
abbrev main_v516 : Ref sig .tc := ⟨.hbm, 681, rfl⟩
abbrev main_v517 : Ref sig .tc := ⟨.hbm, 682, rfl⟩
abbrev main_v518 : Ref sig .tc := ⟨.hbm, 683, rfl⟩
abbrev main_v519 : Ref sig .tc := ⟨.hbm, 684, rfl⟩
abbrev main_cst_143 : Ref sig .tc := ⟨.hbm, 685, rfl⟩
abbrev main_v520 : Ref sig .tc := ⟨.hbm, 686, rfl⟩
abbrev main_v521 : Ref sig .tc := ⟨.hbm, 687, rfl⟩
abbrev main_cst_144 : Ref sig .tc := ⟨.hbm, 688, rfl⟩
abbrev main_v522 : Ref sig .tc := ⟨.hbm, 689, rfl⟩
abbrev main_v523 : Ref sig .tc := ⟨.hbm, 690, rfl⟩
abbrev main_v524 : Ref sig .tc := ⟨.hbm, 691, rfl⟩
abbrev main_cst_145 : Ref sig .tc := ⟨.hbm, 692, rfl⟩
abbrev main_v525 : Ref sig .tc := ⟨.hbm, 693, rfl⟩
abbrev main_v526 : Ref sig .tc := ⟨.hbm, 694, rfl⟩
abbrev main_v527 : Ref sig .tc := ⟨.hbm, 695, rfl⟩
abbrev main_cst_146 : Ref sig .tc := ⟨.hbm, 696, rfl⟩
abbrev main_v528 : Ref sig .tc := ⟨.hbm, 697, rfl⟩
abbrev main_v529 : Ref sig .tc := ⟨.hbm, 698, rfl⟩
abbrev main_v530 : Ref sig .tc := ⟨.hbm, 699, rfl⟩
abbrev main_cst_147 : Ref sig .tc := ⟨.hbm, 700, rfl⟩
abbrev main_v531 : Ref sig .tc := ⟨.hbm, 701, rfl⟩
abbrev main_v532 : Ref sig .tc := ⟨.hbm, 702, rfl⟩
abbrev main_cst_148 : Ref sig .tc := ⟨.hbm, 703, rfl⟩
abbrev main_v533 : Ref sig .tc := ⟨.hbm, 704, rfl⟩
abbrev main_v534 : Ref sig .tc := ⟨.hbm, 705, rfl⟩
abbrev main_v535 : Ref sig .tc := ⟨.hbm, 706, rfl⟩
abbrev main_cst_149 : Ref sig .tc := ⟨.hbm, 707, rfl⟩
abbrev main_v536 : Ref sig .tc := ⟨.hbm, 708, rfl⟩
abbrev main_v537 : Ref sig .tc := ⟨.hbm, 709, rfl⟩
abbrev main_v538 : Ref sig .tc := ⟨.hbm, 710, rfl⟩
abbrev main_cst_150 : Ref sig .tc := ⟨.hbm, 711, rfl⟩
abbrev main_v539 : Ref sig .tc := ⟨.hbm, 712, rfl⟩
abbrev main_v540 : Ref sig .tc := ⟨.hbm, 713, rfl⟩
abbrev main_v541 : Ref sig .tc := ⟨.hbm, 714, rfl⟩
abbrev main_cst_151 : Ref sig .tc := ⟨.hbm, 715, rfl⟩
abbrev main_v542 : Ref sig .tc := ⟨.hbm, 716, rfl⟩
abbrev main_v543 : Ref sig .tc := ⟨.hbm, 717, rfl⟩
abbrev main_v544 : Ref sig .tc := ⟨.hbm, 718, rfl⟩
abbrev main_v545 : Ref sig .tc := ⟨.hbm, 719, rfl⟩
abbrev main_v546 : Ref sig .tc := ⟨.hbm, 720, rfl⟩
abbrev main_v547 : Ref sig .tc := ⟨.hbm, 721, rfl⟩
abbrev main_v548 : Ref sig .tc := ⟨.hbm, 722, rfl⟩
abbrev main_v549 : Ref sig .tc := ⟨.hbm, 723, rfl⟩
abbrev main_v550 : Ref sig .tc := ⟨.hbm, 724, rfl⟩
abbrev main_v551 : Ref sig .tc := ⟨.hbm, 725, rfl⟩
abbrev main_cst_152 : Ref sig .tc := ⟨.hbm, 726, rfl⟩
abbrev main_v552 : Ref sig .tc := ⟨.hbm, 727, rfl⟩
abbrev main_v553 : Ref sig .tc := ⟨.hbm, 728, rfl⟩
abbrev main_cst_153 : Ref sig .tc := ⟨.hbm, 729, rfl⟩
abbrev main_v554 : Ref sig .tc := ⟨.hbm, 730, rfl⟩
abbrev main_v555 : Ref sig .tc := ⟨.hbm, 731, rfl⟩
abbrev main_v556 : Ref sig .tc := ⟨.hbm, 732, rfl⟩
abbrev main_cst_154 : Ref sig .tc := ⟨.hbm, 733, rfl⟩
abbrev main_v557 : Ref sig .tc := ⟨.hbm, 734, rfl⟩
abbrev main_v558 : Ref sig .tc := ⟨.hbm, 735, rfl⟩
abbrev main_v559 : Ref sig .tc := ⟨.hbm, 736, rfl⟩
abbrev main_cst_155 : Ref sig .tc := ⟨.hbm, 737, rfl⟩
abbrev main_v560 : Ref sig .tc := ⟨.hbm, 738, rfl⟩
abbrev main_v561 : Ref sig .tc := ⟨.hbm, 739, rfl⟩
abbrev main_v562 : Ref sig .tc := ⟨.hbm, 740, rfl⟩
abbrev main_cst_156 : Ref sig .tc := ⟨.hbm, 741, rfl⟩
abbrev main_v563 : Ref sig .tc := ⟨.hbm, 742, rfl⟩
abbrev main_v564 : Ref sig .tc := ⟨.hbm, 743, rfl⟩
abbrev main_cst_157 : Ref sig .tc := ⟨.hbm, 744, rfl⟩
abbrev main_v565 : Ref sig .tc := ⟨.hbm, 745, rfl⟩
abbrev main_v566 : Ref sig .tc := ⟨.hbm, 746, rfl⟩
abbrev main_v567 : Ref sig .tc := ⟨.hbm, 747, rfl⟩
abbrev main_cst_158 : Ref sig .tc := ⟨.hbm, 748, rfl⟩
abbrev main_v568 : Ref sig .tc := ⟨.hbm, 749, rfl⟩
abbrev main_v569 : Ref sig .tc := ⟨.hbm, 750, rfl⟩
abbrev main_v570 : Ref sig .tc := ⟨.hbm, 751, rfl⟩
abbrev main_cst_159 : Ref sig .tc := ⟨.hbm, 752, rfl⟩
abbrev main_v571 : Ref sig .tc := ⟨.hbm, 753, rfl⟩
abbrev main_v572 : Ref sig .tc := ⟨.hbm, 754, rfl⟩
abbrev main_v573 : Ref sig .tc := ⟨.hbm, 755, rfl⟩
abbrev main_cst_160 : Ref sig .tc := ⟨.hbm, 756, rfl⟩
abbrev main_v574 : Ref sig .tc := ⟨.hbm, 757, rfl⟩
abbrev main_v575 : Ref sig .tc := ⟨.hbm, 758, rfl⟩
abbrev main_v576 : Ref sig .tc := ⟨.hbm, 759, rfl⟩
abbrev main_v577 : Ref sig .tc := ⟨.hbm, 760, rfl⟩
abbrev main_v578 : Ref sig .tc := ⟨.hbm, 761, rfl⟩
abbrev main_v579 : Ref sig .tc := ⟨.hbm, 762, rfl⟩
abbrev main_v580 : Ref sig .tc := ⟨.hbm, 763, rfl⟩
abbrev main_v581 : Ref sig .tc := ⟨.hbm, 764, rfl⟩
abbrev main_v582 : Ref sig .tc := ⟨.hbm, 765, rfl⟩
abbrev main_v583 : Ref sig .tc := ⟨.hbm, 766, rfl⟩
abbrev main_cst_161 : Ref sig .tc := ⟨.hbm, 767, rfl⟩
abbrev main_v584 : Ref sig .tc := ⟨.hbm, 768, rfl⟩
abbrev main_v585 : Ref sig .tc := ⟨.hbm, 769, rfl⟩
abbrev main_cst_162 : Ref sig .tc := ⟨.hbm, 770, rfl⟩
abbrev main_v586 : Ref sig .tc := ⟨.hbm, 771, rfl⟩
abbrev main_v587 : Ref sig .tc := ⟨.hbm, 772, rfl⟩
abbrev main_v588 : Ref sig .tc := ⟨.hbm, 773, rfl⟩
abbrev main_cst_163 : Ref sig .tc := ⟨.hbm, 774, rfl⟩
abbrev main_v589 : Ref sig .tc := ⟨.hbm, 775, rfl⟩
abbrev main_v590 : Ref sig .tc := ⟨.hbm, 776, rfl⟩
abbrev main_v591 : Ref sig .tc := ⟨.hbm, 777, rfl⟩
abbrev main_cst_164 : Ref sig .tc := ⟨.hbm, 778, rfl⟩
abbrev main_v592 : Ref sig .tc := ⟨.hbm, 779, rfl⟩
abbrev main_v593 : Ref sig .tc := ⟨.hbm, 780, rfl⟩
abbrev main_v594 : Ref sig .tc := ⟨.hbm, 781, rfl⟩
abbrev main_cst_165 : Ref sig .tc := ⟨.hbm, 782, rfl⟩
abbrev main_v595 : Ref sig .tc := ⟨.hbm, 783, rfl⟩
abbrev main_v596 : Ref sig .tc := ⟨.hbm, 784, rfl⟩
abbrev main_cst_166 : Ref sig .tc := ⟨.hbm, 785, rfl⟩
abbrev main_v597 : Ref sig .tc := ⟨.hbm, 786, rfl⟩
abbrev main_v598 : Ref sig .tc := ⟨.hbm, 787, rfl⟩
abbrev main_v599 : Ref sig .tc := ⟨.hbm, 788, rfl⟩
abbrev main_cst_167 : Ref sig .tc := ⟨.hbm, 789, rfl⟩
abbrev main_v600 : Ref sig .tc := ⟨.hbm, 790, rfl⟩
abbrev main_v601 : Ref sig .tc := ⟨.hbm, 791, rfl⟩
abbrev main_v602 : Ref sig .tc := ⟨.hbm, 792, rfl⟩
abbrev main_cst_168 : Ref sig .tc := ⟨.hbm, 793, rfl⟩
abbrev main_v603 : Ref sig .tc := ⟨.hbm, 794, rfl⟩
abbrev main_v604 : Ref sig .tc := ⟨.hbm, 795, rfl⟩
abbrev main_v605 : Ref sig .tc := ⟨.hbm, 796, rfl⟩
abbrev main_cst_169 : Ref sig .tc := ⟨.hbm, 797, rfl⟩
abbrev main_v606 : Ref sig .tc := ⟨.hbm, 798, rfl⟩
abbrev main_v607 : Ref sig .tc := ⟨.hbm, 799, rfl⟩
abbrev main_v608 : Ref sig .tc := ⟨.hbm, 800, rfl⟩
abbrev main_v609 : Ref sig .tc := ⟨.hbm, 801, rfl⟩
abbrev main_v610 : Ref sig .tc := ⟨.hbm, 802, rfl⟩
abbrev main_v611 : Ref sig .tc := ⟨.hbm, 803, rfl⟩
abbrev main_v612 : Ref sig .tc := ⟨.hbm, 804, rfl⟩
abbrev main_v613 : Ref sig .tc := ⟨.hbm, 805, rfl⟩
abbrev main_v614 : Ref sig .tc := ⟨.hbm, 806, rfl⟩
abbrev main_v615 : Ref sig .tc := ⟨.hbm, 807, rfl⟩
abbrev main_cst_170 : Ref sig .tc := ⟨.hbm, 808, rfl⟩
abbrev main_v616 : Ref sig .tc := ⟨.hbm, 809, rfl⟩
abbrev main_v617 : Ref sig .tc := ⟨.hbm, 810, rfl⟩
abbrev main_cst_171 : Ref sig .tc := ⟨.hbm, 811, rfl⟩
abbrev main_v618 : Ref sig .tc := ⟨.hbm, 812, rfl⟩
abbrev main_v619 : Ref sig .tc := ⟨.hbm, 813, rfl⟩
abbrev main_v620 : Ref sig .tc := ⟨.hbm, 814, rfl⟩
abbrev main_cst_172 : Ref sig .tc := ⟨.hbm, 815, rfl⟩
abbrev main_v621 : Ref sig .tc := ⟨.hbm, 816, rfl⟩
abbrev main_v622 : Ref sig .tc := ⟨.hbm, 817, rfl⟩
abbrev main_v623 : Ref sig .tc := ⟨.hbm, 818, rfl⟩
abbrev main_cst_173 : Ref sig .tc := ⟨.hbm, 819, rfl⟩
abbrev main_v624 : Ref sig .tc := ⟨.hbm, 820, rfl⟩
abbrev main_v625 : Ref sig .tc := ⟨.hbm, 821, rfl⟩
abbrev main_v626 : Ref sig .tc := ⟨.hbm, 822, rfl⟩
abbrev main_cst_174 : Ref sig .tc := ⟨.hbm, 823, rfl⟩
abbrev main_v627 : Ref sig .tc := ⟨.hbm, 824, rfl⟩
abbrev main_v628 : Ref sig .tc := ⟨.hbm, 825, rfl⟩
abbrev main_cst_175 : Ref sig .tc := ⟨.hbm, 826, rfl⟩
abbrev main_v629 : Ref sig .tc := ⟨.hbm, 827, rfl⟩
abbrev main_v630 : Ref sig .tc := ⟨.hbm, 828, rfl⟩
abbrev main_v631 : Ref sig .tc := ⟨.hbm, 829, rfl⟩
abbrev main_cst_176 : Ref sig .tc := ⟨.hbm, 830, rfl⟩
abbrev main_v632 : Ref sig .tc := ⟨.hbm, 831, rfl⟩
abbrev main_v633 : Ref sig .tc := ⟨.hbm, 832, rfl⟩
abbrev main_v634 : Ref sig .tc := ⟨.hbm, 833, rfl⟩
abbrev main_cst_177 : Ref sig .tc := ⟨.hbm, 834, rfl⟩
abbrev main_v635 : Ref sig .tc := ⟨.hbm, 835, rfl⟩
abbrev main_v636 : Ref sig .tc := ⟨.hbm, 836, rfl⟩
abbrev main_v637 : Ref sig .tc := ⟨.hbm, 837, rfl⟩
abbrev main_cst_178 : Ref sig .tc := ⟨.hbm, 838, rfl⟩
abbrev main_v638 : Ref sig .tc := ⟨.hbm, 839, rfl⟩
abbrev main_v639 : Ref sig .tc := ⟨.hbm, 840, rfl⟩
abbrev main_v640 : Ref sig .tc := ⟨.hbm, 841, rfl⟩
abbrev main_v641 : Ref sig .tc := ⟨.hbm, 842, rfl⟩
abbrev main_v642 : Ref sig .tc := ⟨.hbm, 843, rfl⟩
abbrev main_v643 : Ref sig .tc := ⟨.hbm, 844, rfl⟩
abbrev main_v644 : Ref sig .tc := ⟨.hbm, 845, rfl⟩
abbrev main_v645 : Ref sig .tc := ⟨.hbm, 846, rfl⟩
abbrev main_v646 : Ref sig .tc := ⟨.hbm, 847, rfl⟩
abbrev main_v647 : Ref sig .tc := ⟨.hbm, 848, rfl⟩
abbrev main_cst_179 : Ref sig .tc := ⟨.hbm, 849, rfl⟩
abbrev main_v648 : Ref sig .tc := ⟨.hbm, 850, rfl⟩
abbrev main_v649 : Ref sig .tc := ⟨.hbm, 851, rfl⟩
abbrev main_cst_180 : Ref sig .tc := ⟨.hbm, 852, rfl⟩
abbrev main_v650 : Ref sig .tc := ⟨.hbm, 853, rfl⟩
abbrev main_v651 : Ref sig .tc := ⟨.hbm, 854, rfl⟩
abbrev main_v652 : Ref sig .tc := ⟨.hbm, 855, rfl⟩
abbrev main_cst_181 : Ref sig .tc := ⟨.hbm, 856, rfl⟩
abbrev main_v653 : Ref sig .tc := ⟨.hbm, 857, rfl⟩
abbrev main_v654 : Ref sig .tc := ⟨.hbm, 858, rfl⟩
abbrev main_v655 : Ref sig .tc := ⟨.hbm, 859, rfl⟩
abbrev main_cst_182 : Ref sig .tc := ⟨.hbm, 860, rfl⟩
abbrev main_v656 : Ref sig .tc := ⟨.hbm, 861, rfl⟩
abbrev main_v657 : Ref sig .tc := ⟨.hbm, 862, rfl⟩
abbrev main_v658 : Ref sig .tc := ⟨.hbm, 863, rfl⟩
abbrev main_cst_183 : Ref sig .tc := ⟨.hbm, 864, rfl⟩
abbrev main_v659 : Ref sig .tc := ⟨.hbm, 865, rfl⟩
abbrev main_v660 : Ref sig .tc := ⟨.hbm, 866, rfl⟩
abbrev main_cst_184 : Ref sig .tc := ⟨.hbm, 867, rfl⟩
abbrev main_v661 : Ref sig .tc := ⟨.hbm, 868, rfl⟩
abbrev main_v662 : Ref sig .tc := ⟨.hbm, 869, rfl⟩
abbrev main_v663 : Ref sig .tc := ⟨.hbm, 870, rfl⟩
abbrev main_cst_185 : Ref sig .tc := ⟨.hbm, 871, rfl⟩
abbrev main_v664 : Ref sig .tc := ⟨.hbm, 872, rfl⟩
abbrev main_v665 : Ref sig .tc := ⟨.hbm, 873, rfl⟩
abbrev main_v666 : Ref sig .tc := ⟨.hbm, 874, rfl⟩
abbrev main_cst_186 : Ref sig .tc := ⟨.hbm, 875, rfl⟩
abbrev main_v667 : Ref sig .tc := ⟨.hbm, 876, rfl⟩
abbrev main_v668 : Ref sig .tc := ⟨.hbm, 877, rfl⟩
abbrev main_v669 : Ref sig .tc := ⟨.hbm, 878, rfl⟩
abbrev main_cst_187 : Ref sig .tc := ⟨.hbm, 879, rfl⟩
abbrev main_v670 : Ref sig .tc := ⟨.hbm, 880, rfl⟩
abbrev main_v671 : Ref sig .tc := ⟨.hbm, 881, rfl⟩

abbrev nD : Nat := 1
abbrev τ : Topo := Topo.v7x

variable {F : FTy → Type} [FloatOps F]
-- ==== KernelLg.lean ====
abbrev S8192x2048 : Shape := ⟨2, ![8192, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S1x128, .f32⟩
  | .hbm, ⟨5, _⟩ => ⟨S8192x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLgIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S1x128, .f32⟩
  | .hbm, ⟨72, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== KernelRf.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRfIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelGf.lean ====
abbrev S8192x15360 : Shape := ⟨2, ![8192, 15360]⟩
abbrev S8192x2048 : Shape := ⟨2, ![8192, 2048]⟩
abbrev S128x2048 : Shape := ⟨2, ![128, 2048]⟩

abbrev nBuf : Space → Nat
  | .hbm => 5
  | .vmem => 14
  | .smem => 0
  | _ => 0

abbrev bufTy : (tb : Table) → Fin (tcTables nBuf tb) → BufTy
  | .hbm, ⟨0, _⟩ => ⟨S8192x15360, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .bf16⟩
  | .local _ .vmem, ⟨13, _⟩ => ⟨S128x2048, .bf16⟩
  | _, _ => ⟨S8192x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceGfIdeal.lean ====
abbrev S8192x15360 : Shape := ⟨2, ![8192, 15360]⟩
abbrev S8192x2048 : Shape := ⟨2, ![8192, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x15360, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | _, _ => ⟨S8192x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== KernelTf.lean ====
abbrev S8192x768 : Shape := ⟨2, ![8192, 768]⟩
abbrev S8192x15360 : Shape := ⟨2, ![8192, 15360]⟩
abbrev S768x768 : Shape := ⟨2, ![768, 768]⟩
abbrev S768 : Shape := ⟨1, ![768]⟩
abbrev S1x768 : Shape := ⟨2, ![1, 768]⟩
abbrev S256x768 : Shape := ⟨2, ![256, 768]⟩

abbrev nBuf : Space → Nat
  | .hbm => 6
  | .vmem => 8
  | .smem => 0
  | _ => 0

abbrev bufTy : (tb : Table) → Fin (tcTables nBuf tb) → BufTy
  | .hbm, ⟨0, _⟩ => ⟨S8192x768, .f32⟩
  | .hbm, ⟨1, _⟩ => ⟨S8192x15360, .f32⟩
  | .hbm, ⟨2, _⟩ => ⟨S768x768, .bf16⟩
  | .hbm, ⟨3, _⟩ => ⟨S768, .f32⟩
  | .hbm, ⟨4, _⟩ => ⟨S1x768, .f32⟩
  | .hbm, ⟨5, _⟩ => ⟨S8192x768, .bf16⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S768x768, .bf16⟩
  | .local _ .vmem, ⟨5, _⟩ => ⟨S1x768, .f32⟩
  | .local _ .vmem, ⟨6, _⟩ => ⟨S256x768, .bf16⟩
  | .local _ .vmem, ⟨7, _⟩ => ⟨S256x768, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceTfIdeal.lean ====
abbrev S8192x768 : Shape := ⟨2, ![8192, 768]⟩
abbrev S8192x15360 : Shape := ⟨2, ![8192, 15360]⟩
abbrev S768x768 : Shape := ⟨2, ![768, 768]⟩
abbrev S768 : Shape := ⟨1, ![768]⟩
abbrev S_ : Shape := ⟨0, ![]⟩
abbrev S1x768 : Shape := ⟨2, ![1, 768]⟩

abbrev nBuf : Space → Nat
  | .hbm => 47
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x15360, .f32⟩
  | .hbm, ⟨2, _⟩ => ⟨S768x768, .bf16⟩
  | .hbm, ⟨3, _⟩ => ⟨S768, .f32⟩
  | .hbm, ⟨4, _⟩ => ⟨S8192x768, .f32⟩
  | .hbm, ⟨5, _⟩ => ⟨S768x768, .f32⟩
  | .hbm, ⟨6, _⟩ => ⟨S8192x768, .f32⟩
  | .hbm, ⟨7, _⟩ => ⟨S8192x768, .f32⟩
  | .hbm, ⟨8, _⟩ => ⟨S_, .f32⟩
  | .hbm, ⟨9, _⟩ => ⟨S8192x768, .f32⟩
  | .hbm, ⟨10, _⟩ => ⟨S8192x768, .f32⟩
  | .hbm, ⟨11, _⟩ => ⟨S8192x768, .f32⟩
  | .hbm, ⟨12, _⟩ => ⟨S_, .f32⟩
  | .hbm, ⟨13, _⟩ => ⟨S8192x768, .f32⟩
  | .hbm, ⟨14, _⟩ => ⟨S8192x768, .f32⟩
  | .hbm, ⟨15, _⟩ => ⟨S8192x768, .f32⟩
  | .hbm, ⟨16, _⟩ => ⟨S_, .f32⟩
  | .hbm, ⟨17, _⟩ => ⟨S8192x768, .f32⟩
  | .hbm, ⟨18, _⟩ => ⟨S8192x768, .f32⟩
  | .hbm, ⟨19, _⟩ => ⟨S_, .f32⟩
  | .hbm, ⟨20, _⟩ => ⟨S8192x768, .f32⟩
  | .hbm, ⟨21, _⟩ => ⟨S8192x768, .f32⟩
  | .hbm, ⟨22, _⟩ => ⟨S8192x768, .f32⟩
  | .hbm, ⟨23, _⟩ => ⟨S8192x768, .f32⟩
  | .hbm, ⟨24, _⟩ => ⟨S1x768, .f32⟩
  | .hbm, ⟨25, _⟩ => ⟨S8192x768, .f32⟩
  | .hbm, ⟨26, _⟩ => ⟨S8192x768, .f32⟩
  | .hbm, ⟨27, _⟩ => ⟨S8192x768, .f32⟩
  | .hbm, ⟨28, _⟩ => ⟨S8192x768, .f32⟩
  | .hbm, ⟨29, _⟩ => ⟨S_, .f32⟩
  | .hbm, ⟨30, _⟩ => ⟨S8192x768, .f32⟩
  | .hbm, ⟨31, _⟩ => ⟨S8192x768, .f32⟩
  | .hbm, ⟨32, _⟩ => ⟨S_, .f32⟩
  | .hbm, ⟨33, _⟩ => ⟨S8192x768, .f32⟩
  | .hbm, ⟨34, _⟩ => ⟨S8192x768, .f32⟩
  | .hbm, ⟨35, _⟩ => ⟨S8192x768, .f32⟩
  | .hbm, ⟨36, _⟩ => ⟨S8192x768, .f32⟩
  | .hbm, ⟨37, _⟩ => ⟨S8192x768, .f32⟩
  | .hbm, ⟨38, _⟩ => ⟨S_, .f32⟩
  | .hbm, ⟨39, _⟩ => ⟨S8192x768, .f32⟩
  | .hbm, ⟨40, _⟩ => ⟨S8192x768, .f32⟩
  | .hbm, ⟨41, _⟩ => ⟨S_, .f32⟩
  | .hbm, ⟨42, _⟩ => ⟨S8192x768, .f32⟩
  | .hbm, ⟨43, _⟩ => ⟨S8192x768, .f32⟩
  | .hbm, ⟨44, _⟩ => ⟨S8192x768, .f32⟩
  | .hbm, ⟨45, _⟩ => ⟨S8192x768, .f32⟩
  | .hbm, ⟨46, _⟩ => ⟨S8192x768, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== KernelTb.lean ====
abbrev S8192x768 : Shape := ⟨2, ![8192, 768]⟩
abbrev S8192x15360 : Shape := ⟨2, ![8192, 15360]⟩
abbrev S768x768 : Shape := ⟨2, ![768, 768]⟩
abbrev S768 : Shape := ⟨1, ![768]⟩
abbrev S1x768 : Shape := ⟨2, ![1, 768]⟩
abbrev S256x768 : Shape := ⟨2, ![256, 768]⟩

abbrev nBuf : Space → Nat
  | .hbm => 10
  | .vmem => 14
  | .smem => 0
  | _ => 0

abbrev bufTy : (tb : Table) → Fin (tcTables nBuf tb) → BufTy
  | .hbm, ⟨0, _⟩ => ⟨S8192x768, .f32⟩
  | .hbm, ⟨1, _⟩ => ⟨S8192x15360, .f32⟩
  | .hbm, ⟨2, _⟩ => ⟨S768x768, .bf16⟩
  | .hbm, ⟨3, _⟩ => ⟨S768, .f32⟩
  | .hbm, ⟨4, _⟩ => ⟨S8192x768, .f32⟩
  | .hbm, ⟨5, _⟩ => ⟨S1x768, .f32⟩
  | .hbm, ⟨6, _⟩ => ⟨S8192x768, .f32⟩
  | .hbm, ⟨7, _⟩ => ⟨S8192x768, .bf16⟩
  | .hbm, ⟨8, _⟩ => ⟨S768x768, .f32⟩
  | .hbm, ⟨9, _⟩ => ⟨S1x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S768x768, .bf16⟩
  | .local _ .vmem, ⟨5, _⟩ => ⟨S1x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .bf16⟩
  | .local _ .vmem, ⟨11, _⟩ => ⟨S256x768, .bf16⟩
  | .local _ .vmem, ⟨12, _⟩ => ⟨S768x768, .f32⟩
  | .local _ .vmem, ⟨13, _⟩ => ⟨S1x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S768x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceTbIdeal.lean ====
abbrev S8192x768 : Shape := ⟨2, ![8192, 768]⟩
abbrev S8192x15360 : Shape := ⟨2, ![8192, 15360]⟩
abbrev S768x768 : Shape := ⟨2, ![768, 768]⟩
abbrev S768 : Shape := ⟨1, ![768]⟩
abbrev S_ : Shape := ⟨0, ![]⟩
abbrev S1x768 : Shape := ⟨2, ![1, 768]⟩

abbrev nBuf : Space → Nat
  | .hbm => 101
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x15360, .f32⟩
  | .hbm, ⟨2, _⟩ => ⟨S768x768, .bf16⟩
  | .hbm, ⟨3, _⟩ => ⟨S768, .f32⟩
  | .hbm, ⟨4, _⟩ => ⟨S8192x768, .f32⟩
  | .hbm, ⟨5, _⟩ => ⟨S8192x768, .f32⟩
  | .hbm, ⟨6, _⟩ => ⟨S768x768, .f32⟩
  | .hbm, ⟨7, _⟩ => ⟨S8192x768, .f32⟩
  | .hbm, ⟨8, _⟩ => ⟨S8192x768, .f32⟩
  | .hbm, ⟨9, _⟩ => ⟨S8192x768, .f32⟩
  | .hbm, ⟨10, _⟩ => ⟨S_, .f32⟩
  | .hbm, ⟨11, _⟩ => ⟨S8192x768, .f32⟩
  | .hbm, ⟨12, _⟩ => ⟨S8192x768, .f32⟩
  | .hbm, ⟨13, _⟩ => ⟨S_, .f32⟩
  | .hbm, ⟨14, _⟩ => ⟨S8192x768, .f32⟩
  | .hbm, ⟨15, _⟩ => ⟨S8192x768, .f32⟩
  | .hbm, ⟨16, _⟩ => ⟨S8192x768, .f32⟩
  | .hbm, ⟨17, _⟩ => ⟨S_, .f32⟩
  | .hbm, ⟨18, _⟩ => ⟨S8192x768, .f32⟩
  | .hbm, ⟨19, _⟩ => ⟨S8192x768, .f32⟩
  | .hbm, ⟨20, _⟩ => ⟨S8192x768, .f32⟩
  | .hbm, ⟨21, _⟩ => ⟨S_, .f32⟩
  | .hbm, ⟨22, _⟩ => ⟨S8192x768, .f32⟩
  | .hbm, ⟨23, _⟩ => ⟨S8192x768, .f32⟩
  | .hbm, ⟨24, _⟩ => ⟨S_, .f32⟩
  | .hbm, ⟨25, _⟩ => ⟨S8192x768, .f32⟩
  | .hbm, ⟨26, _⟩ => ⟨S8192x768, .f32⟩
  | .hbm, ⟨27, _⟩ => ⟨S8192x768, .f32⟩
  | .hbm, ⟨28, _⟩ => ⟨S_, .f32⟩
  | .hbm, ⟨29, _⟩ => ⟨S8192x768, .f32⟩
  | .hbm, ⟨30, _⟩ => ⟨S8192x768, .f32⟩
  | .hbm, ⟨31, _⟩ => ⟨S_, .f32⟩
  | .hbm, ⟨32, _⟩ => ⟨S8192x768, .f32⟩
  | .hbm, ⟨33, _⟩ => ⟨S8192x768, .f32⟩
  | .hbm, ⟨34, _⟩ => ⟨S8192x768, .f32⟩
  | .hbm, ⟨35, _⟩ => ⟨S8192x768, .f32⟩
  | .hbm, ⟨36, _⟩ => ⟨S1x768, .f32⟩
  | .hbm, ⟨37, _⟩ => ⟨S8192x768, .f32⟩
  | .hbm, ⟨38, _⟩ => ⟨S8192x768, .f32⟩
  | .hbm, ⟨39, _⟩ => ⟨S8192x768, .f32⟩
  | .hbm, ⟨40, _⟩ => ⟨S8192x768, .f32⟩
  | .hbm, ⟨41, _⟩ => ⟨S_, .f32⟩
  | .hbm, ⟨42, _⟩ => ⟨S8192x768, .f32⟩
  | .hbm, ⟨43, _⟩ => ⟨S8192x768, .f32⟩
  | .hbm, ⟨44, _⟩ => ⟨S_, .f32⟩
  | .hbm, ⟨45, _⟩ => ⟨S8192x768, .f32⟩
  | .hbm, ⟨46, _⟩ => ⟨S8192x768, .f32⟩
  | .hbm, ⟨47, _⟩ => ⟨S_, .f32⟩
  | .hbm, ⟨48, _⟩ => ⟨S8192x768, .f32⟩
  | .hbm, ⟨49, _⟩ => ⟨S8192x768, .f32⟩
  | .hbm, ⟨50, _⟩ => ⟨S8192x768, .f32⟩
  | .hbm, ⟨51, _⟩ => ⟨S8192x768, .f32⟩
  | .hbm, ⟨52, _⟩ => ⟨S8192x768, .f32⟩
  | .hbm, ⟨53, _⟩ => ⟨S8192x768, .f32⟩
  | .hbm, ⟨54, _⟩ => ⟨S_, .f32⟩
  | .hbm, ⟨55, _⟩ => ⟨S8192x768, .f32⟩
  | .hbm, ⟨56, _⟩ => ⟨S8192x768, .f32⟩
  | .hbm, ⟨57, _⟩ => ⟨S_, .f32⟩
  | .hbm, ⟨58, _⟩ => ⟨S8192x768, .f32⟩
  | .hbm, ⟨59, _⟩ => ⟨S8192x768, .f32⟩
  | .hbm, ⟨60, _⟩ => ⟨S_, .f32⟩
  | .hbm, ⟨61, _⟩ => ⟨S8192x768, .f32⟩
  | .hbm, ⟨62, _⟩ => ⟨S8192x768, .f32⟩
  | .hbm, ⟨63, _⟩ => ⟨S8192x768, .f32⟩
  | .hbm, ⟨64, _⟩ => ⟨S8192x768, .f32⟩
  | .hbm, ⟨65, _⟩ => ⟨S8192x768, .f32⟩
  | .hbm, ⟨66, _⟩ => ⟨S8192x768, .f32⟩
  | .hbm, ⟨67, _⟩ => ⟨S8192x768, .f32⟩
  | .hbm, ⟨68, _⟩ => ⟨S8192x768, .f32⟩
  | .hbm, ⟨69, _⟩ => ⟨S8192x768, .f32⟩
  | .hbm, ⟨70, _⟩ => ⟨S8192x768, .f32⟩
  | .hbm, ⟨71, _⟩ => ⟨S8192x768, .f32⟩
  | .hbm, ⟨72, _⟩ => ⟨S8192x768, .f32⟩
  | .hbm, ⟨73, _⟩ => ⟨S8192x768, .f32⟩
  | .hbm, ⟨74, _⟩ => ⟨S8192x768, .f32⟩
  | .hbm, ⟨75, _⟩ => ⟨S_, .f32⟩
  | .hbm, ⟨76, _⟩ => ⟨S768, .f32⟩
  | .hbm, ⟨77, _⟩ => ⟨S1x768, .f32⟩
  | .hbm, ⟨78, _⟩ => ⟨S_, .f32⟩
  | .hbm, ⟨79, _⟩ => ⟨S768, .f32⟩
  | .hbm, ⟨80, _⟩ => ⟨S768x768, .f32⟩
  | .hbm, ⟨81, _⟩ => ⟨S768x768, .f32⟩
  | .hbm, ⟨82, _⟩ => ⟨S8192x768, .f32⟩
  | .hbm, ⟨83, _⟩ => ⟨S8192x768, .f32⟩
  | .hbm, ⟨84, _⟩ => ⟨S8192x768, .f32⟩
  | .hbm, ⟨85, _⟩ => ⟨S8192x768, .f32⟩
  | .hbm, ⟨86, _⟩ => ⟨S_, .f32⟩
  | .hbm, ⟨87, _⟩ => ⟨S8192x768, .f32⟩
  | .hbm, ⟨88, _⟩ => ⟨S8192x768, .f32⟩
  | .hbm, ⟨89, _⟩ => ⟨S8192x768, .f32⟩
  | .hbm, ⟨90, _⟩ => ⟨S_, .f32⟩
  | .hbm, ⟨91, _⟩ => ⟨S8192x768, .f32⟩
  | .hbm, ⟨92, _⟩ => ⟨S8192x768, .f32⟩
  | .hbm, ⟨93, _⟩ => ⟨S8192x768, .f32⟩
  | .hbm, ⟨94, _⟩ => ⟨S_, .f32⟩
  | .hbm, ⟨95, _⟩ => ⟨S8192x768, .f32⟩
  | .hbm, ⟨96, _⟩ => ⟨S8192x768, .f32⟩
  | .hbm, ⟨97, _⟩ => ⟨S8192x768, .f32⟩
  | .hbm, ⟨98, _⟩ => ⟨S8192x768, .f32⟩
  | .hbm, ⟨99, _⟩ => ⟨S8192x768, .bf16⟩
  | .hbm, ⟨100, _⟩ => ⟨S1x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v37_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v37_1 : Ref sig .tc := ⟨.hbm, 63, rfl⟩
abbrev main_v37_0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_12 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩

abbrev nD : Nat := 1
abbrev τ : Topo := Topo.v7x

variable {F : FTy → Type} [FloatOps F]
-- ==== Proof.Products.lean ====
/-
  Matrix products over the extended reals, read at an index. `at2` reads an array of rank two at natural coordinates
  (zero outside the array), so that a block of the array is the same function at shifted coordinates. The three
  dimension-number records of the step's products (plain, right operand transposed, left operand transposed) are read
  as sums over one coordinate, and a sum over a long axis is the sum of the sums over its equal blocks.
-/
module

public import Idealize.ShloMosaic.PureOps.Ideal
public import Idealize.ShloMosaic.Lib.ValueIdx

@[expose] public section

noncomputable section

namespace Cert.Products

open Idealize.ShloMosaic Idealize.ShloMosaic.ValueIdx
open scoped BigOperators

/-- The array `A` of `a` rows and `b` columns at natural coordinates, zero outside. -/
def at2 {a b : Nat} (A : (⟨2, ![a, b]⟩ : Shape).Idx → EReal) (r c : ℕ) : EReal :=
  if h : r < a ∧ c < b then A (ix2 ⟨r, h.1⟩ ⟨c, h.2⟩) else 0

/-- At an index of the array, `at2` is the array. -/
theorem at2_idx {a b : Nat} (A : (⟨2, ![a, b]⟩ : Shape).Idx → EReal) (j : (⟨2, ![a, b]⟩ : Shape).Idx) (r c : ℕ)
    (hr : (j 0).val = r) (hc : (j 1).val = c) : A j = at2 A r c := by
  subst hr; subst hc
  rw [at2, dif_pos ⟨idx2_lt0 j, idx2_lt1 j⟩]
  exact congrArg A (eq_ix2 j)

/-- Where a block's index lands in its array: the block is `t` blocks of `n` rows down and `q` blocks of `w` columns across. -/
theorem emb_eq {a b : Nat} {i j : (⟨2, ![a, b]⟩ : Shape).Idx} {k0 k1 t q : ℕ} (n r w k : ℕ)
    (e : k0 = t ∧ k1 = q) (h : (j 0).val = k0 * n + 1 * r ∧ (j 1).val = k1 * w + 1 * k) (h0 : t * n + r = (i 0).val) (h1 : q * w + k = (i 1).val) : j = i := by
  obtain ⟨rfl, rfl⟩ := e
  rw [one_mul] at h
  exact funext fun x => Fin.ext (by fin_cases x; exacts [h.1.trans h0, (one_mul k ▸ h.2).trans h1])

/-- The array there. -/
theorem at2_emb {a b : Nat} (A : (⟨2, ![a, b]⟩ : Shape).Idx → EReal) {j : (⟨2, ![a, b]⟩ : Shape).Idx} {k0 k1 t q n r l : ℕ}
    (w k : ℕ) (e : k0 = t ∧ k1 = q) (h : (j 0).val = k0 * n + 1 * r ∧ (j 1).val = k1 * w + 1 * k) (hl : q * w + k = l) :
    A j = at2 A (t * n + r) l := by
  obtain ⟨rfl, rfl⟩ := e
  refine at2_idx A j _ _ (h.1.trans ?_) (h.2.trans ?_)
  · rw [one_mul]
  · rw [one_mul]; exact hl

/-- A sum over `n` blocks of `b` consecutive terms is the sum over all `n * b` terms. -/
theorem sum_blocks (n b : ℕ) (f : ℕ → EReal) :
    ∑ s ∈ Finset.range n, ∑ k : Fin b, f (s * b + k.val) = ∑ k : Fin (n * b), f k.val := by
  rw [Fin.sum_univ_eq_sum_range f (n * b)]
  induction n with
  | zero => simp
  | succ n ih =>
    rw [Finset.sum_range_succ, ih, Nat.succ_mul, Finset.sum_range_add,
      Fin.sum_univ_eq_sum_range (fun k => f (n * b + k)) b]

/-- What one point of a product's grid adds: with `gn` blocks of columns and `nk` blocks of the inner axis, point `n` of the
    grid sums the terms `f row column inner` over one inner block, at place `(r, c)` of its block of the result. -/
def tileSum (f : ℕ → ℕ → ℕ → EReal) (gn nk tm tn tk n r c : ℕ) : EReal :=
  ∑ k : Fin tk, f (n / (gn * nk) * tm + r) (n / nk % gn * tn + c) (n % nk * tk + k.val)

/-- The sums of the `nk` points that share a block of the result add up to the whole inner sum. -/
theorem sum_tiles (f : ℕ → ℕ → ℕ → EReal) (gn nk tm tn tk r c : ℕ) (hk : 0 < nk) (hn : 0 < tn) (hc : c < gn * tn) :
    ∑ s ∈ Finset.range nk, tileSum f gn nk tm tn tk (nk * (gn * (r / tm) + c / tn) + s) (r % tm) (c % tn)
      = ∑ k : Fin (nk * tk), f r c k.val := by
  rw [← sum_blocks nk tk (f r c)]
  refine Finset.sum_congr rfl fun s hs => Finset.sum_congr rfl fun k _ => ?_
  have hs' : s < nk := Finset.mem_range.mp hs
  have hcg : c / tn < gn := (Nat.div_lt_iff_lt_mul hn).mpr hc
  have hg : 0 < gn := lt_of_le_of_lt (Nat.zero_le _) hcg
  have e1 : (nk * (gn * (r / tm) + c / tn) + s) / nk = gn * (r / tm) + c / tn := by
    rw [Nat.mul_add_div hk, Nat.div_eq_of_lt hs', add_zero]
  have e0 : (nk * (gn * (r / tm) + c / tn) + s) / (gn * nk) = r / tm := by
    rw [mul_comm gn nk, ← Nat.div_div_eq_div_mul, e1, Nat.mul_add_div hg, Nat.div_eq_of_lt hcg, add_zero]
  have e2 : (nk * (gn * (r / tm) + c / tn) + s) % nk = s := by
    rw [Nat.mul_add_mod, Nat.mod_eq_of_lt hs']
  have e3 : (gn * (r / tm) + c / tn) % gn = c / tn := by
    rw [Nat.mul_add_mod, Nat.mod_eq_of_lt hcg]
  rw [e0, e1, e2, e3, mul_comm (r / tm) tm, Nat.div_add_mod, mul_comm (c / tn) tn, Nat.div_add_mod]

/-- The zero that a product's accumulator starts from. -/
theorem ofBits_zero : Ideal.ofBits .f32 0x00000000#32 = 0 := by simp [Ideal.ofBits, Ideal.ieee]

/-- The dimension numbers of a product whose left operand is contracted on its first axis. -/
def transposedLhs (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- Rows times columns: the sum over the inner coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ k : (DotDims.plain M K N).contr.Idx, A ((DotDims.plain M K N).lhsIdx j k) * B ((DotDims.plain M K N).rhsIdx j k)
      = ∑ k : Fin K, at2 A (j 0).val k.val * at2 B k.val (j 1).val := by
  rw [← Equiv.sum_comp (contrEquiv1 (DotDims.plain M K N) K rfl rfl).symm]
  refine Finset.sum_congr rfl fun k _ => ?_
  congr 1
  · refine at2_idx A _ _ _ ?_ ?_
    · simp [DotDims.lhsIdx, DotDims.plain]; rfl
    · rw [← contrEquiv1_symm_val (DotDims.plain M K N) K rfl rfl k]; simp [DotDims.lhsIdx, DotDims.plain]; rfl
  · refine at2_idx B _ _ _ ?_ ?_
    · rw [← contrEquiv1_symm_val (DotDims.plain M K N) K rfl rfl k]; simp [DotDims.rhsIdx, DotDims.plain]; rfl
    · simp [DotDims.rhsIdx, DotDims.plain]; rfl

/-- Rows times rows: the right operand is contracted on its last axis. -/
theorem sum_transposedRhs {M K N : Nat} (A : (⟨2, ![M, K]⟩ : Shape).Idx → EReal)
    (B : (⟨2, ![N, K]⟩ : Shape).Idx → EReal) (j : (⟨2, ![M, N]⟩ : Shape).Idx) :
    ∑ k : (DotDims.transposedRhs M K N).contr.Idx,
        A ((DotDims.transposedRhs M K N).lhsIdx j k) * B ((DotDims.transposedRhs M K N).rhsIdx j k)
      = ∑ k : Fin K, at2 A (j 0).val k.val * at2 B (j 1).val k.val := by
  rw [← Equiv.sum_comp (contrEquiv1 (DotDims.transposedRhs M K N) K rfl rfl).symm]
  refine Finset.sum_congr rfl fun k _ => ?_
  congr 1
  · refine at2_idx A _ _ _ ?_ ?_
    · simp [DotDims.lhsIdx, DotDims.transposedRhs]; rfl
    · rw [← contrEquiv1_symm_val (DotDims.transposedRhs M K N) K rfl rfl k]
      simp [DotDims.lhsIdx, DotDims.transposedRhs]; rfl
  · refine at2_idx B _ _ _ ?_ ?_
    · simp [DotDims.rhsIdx, DotDims.transposedRhs]; rfl
    · rw [← contrEquiv1_symm_val (DotDims.transposedRhs M K N) K rfl rfl k]
      simp [DotDims.rhsIdx, DotDims.transposedRhs]; rfl

/-- Columns times columns: both operands are contracted on their first axis. -/
theorem sum_transposedLhs {M K N : Nat} (A : (⟨2, ![K, M]⟩ : Shape).Idx → EReal)
    (B : (⟨2, ![K, N]⟩ : Shape).Idx → EReal) (j : (⟨2, ![M, N]⟩ : Shape).Idx) :
    ∑ k : (transposedLhs M K N).contr.Idx, A ((transposedLhs M K N).lhsIdx j k) * B ((transposedLhs M K N).rhsIdx j k)
      = ∑ k : Fin K, at2 A k.val (j 0).val * at2 B k.val (j 1).val := by
  rw [← Equiv.sum_comp (contrEquiv1 (transposedLhs M K N) K rfl rfl).symm]
  refine Finset.sum_congr rfl fun k _ => ?_
  congr 1
  · refine at2_idx A _ _ _ ?_ ?_
    · rw [← contrEquiv1_symm_val (transposedLhs M K N) K rfl rfl k]; simp [DotDims.lhsIdx, transposedLhs]; rfl
    · simp [DotDims.lhsIdx, transposedLhs]; rfl
  · refine at2_idx B _ _ _ ?_ ?_
    · rw [← contrEquiv1_symm_val (transposedLhs M K N) K rfl rfl k]; simp [DotDims.rhsIdx, transposedLhs]; rfl
    · simp [DotDims.rhsIdx, transposedLhs]; rfl

end Cert.Products

end
-- ==== Proof.GateValue.lean ====
/-
  The gradient of the step's gated merge: with `σ` the logistic function, the merged activation of a token and a channel
  is `σ(ga)·a + σ(gb)·b + σ(gc)·c`. The kernel walks 64 blocks of 128 tokens and writes, for each of the three branches,
  the gradient of its gate's logit and the gradient of the branch. What one block computes, what the six arrays hold, what
  the reference computes, and that they are the same six functions of the arguments.
-/
module

public import proofs.«01_k».proof.Defs
public import proofs.«01_k».proof.Proof.Products
public import proofs.«01_k».proof.Proof.Gen.KernelGateIdeal.Value
public import proofs.«01_k».proof.Proof.Gen.ReferenceGateIdeal.Run
public import Idealize.ShloMosaic.Lib.Pipeline.Value
public import Idealize.ShloMosaic.PureOps.Ideal

@[expose] public section

noncomputable section

namespace Cert.GateValue

open Idealize.ShloMosaic

/-- The gradient of a gate's logit `g`: the merged gradient `d` times the branch `v` times the logistic's slope. -/
def logitGrad (d v g : EReal) : EReal := d * v * (Ideal.logistic g * (1 - Ideal.logistic g))

/-- The gradient of a branch: its gate's value times the merged gradient. -/
def branchGrad (g d : EReal) : EReal := Ideal.logistic g * d

theorem ofBits_one : Ideal.ofBits .f32 0x3F800000#32 = 1 := by
  simp [Ideal.ofBits, Ideal.ieee]
  rw [← EReal.coe_mul]; norm_num

end Cert.GateValue

namespace Cert.KernelGateIdeal.Blocks

open Idealize.ShloMosaic Idealize.ShloMosaic.TcCoe Idealize.SL.Sem Idealize.ShloMosaic.ValueIdx
open Cert.KernelGateIdeal Cert.KernelGateIdeal.Gen Cert.Products Cert.GateValue

theorem hz : (![0, 0] : Fin 2 → Nat) = fun _ => 0 := funext fun a => by fin_cases a <;> rfl

section Bodies
variable (c : Dev nD) (i : grid0.Coords)
  (a1 : Memref sig .tc .vmem S128x2048 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S128x2048 .f32) (h6 : a6.IsWhole)
  (a7 : Memref sig .tc .vmem S128x2048 .bf16) (h7 : a7.IsWhole)
  (a8 : Memref sig .tc .vmem S128x2048 .bf16) (h8 : a8.IsWhole)
  (a9 : Memref sig .tc .vmem S128x2048 .bf16) (h9 : a9.IsWhole)
  (a10 : Memref sig .tc .vmem S128x2048 .bf16) (h10 : a10.IsWhole)
  (a11 : Memref sig .tc .vmem S128x2048 .bf16) (h11 : a11.IsWhole)
  (a12 : Memref sig .tc .vmem S128x2048 .bf16) (h12 : a12.IsWhole)
  (a13 : Memref sig .tc .vmem S128x2048 .bf16) (h13 : a13.IsWhole)
  (x0 x1 x2 x3 x4 x5 : Vec Ideal S128x2048 .f32) (x6 : Vec Ideal S128x2048 .bf16) (j : S128x2048.Idx)

/-! What the body leaves in each output's block, at an index: the three logits' gradients, then the three branches'. -/

theorem out7 :
    out0_A_7 c i a1 h1 a2 h2 a3 h3 a4 h4 a5 h5 a6 h6 a7 h7 a8 h8 a9 h9 a10 h10 a11 h11 a12 h12 a13 h13 x0 x1 x2 x3 x4 x5 x6 j = logitGrad (x6 j) (x3 j) (x0 j) := by
  unfold out0_A_7
  rw [View.read_writes_eq_canon _ _ _ (fun _ => cover0_A_7 ..)]
  unfold kernelRun0_A
  dsimp only
  sl_unfold_words
  rw [View.canon_unit_zero (S := S128x2048) hz]
  simp only [View.readAt_eq_ld, h1.read_unread, h2.read_unread, h3.read_unread, h4.read_unread, h5.read_unread,
    h6.read_unread, h7.read_unread, View.ld_unit_zero (S := S128x2048) hz]
  show _ * _ * (_ * (Ideal.ofBits .f32 0x3F800000#32 - _)) = _
  rw [ofBits_one]; rfl

theorem out8 :
    out0_A_8 c i a1 h1 a2 h2 a3 h3 a4 h4 a5 h5 a6 h6 a7 h7 a8 h8 a9 h9 a10 h10 a11 h11 a12 h12 a13 h13 x0 x1 x2 x3 x4 x5 x6 j = logitGrad (x6 j) (x4 j) (x1 j) := by
  unfold out0_A_8
  rw [View.read_writes_eq_canon _ _ _ (fun _ => cover0_A_8 ..)]
  unfold kernelRun0_A
  dsimp only
  sl_unfold_words
  rw [View.canon_unit_zero (S := S128x2048) hz]
  simp only [View.readAt_eq_ld, h1.read_unread, h2.read_unread, h3.read_unread, h4.read_unread, h5.read_unread,
    h6.read_unread, h7.read_unread, View.ld_unit_zero (S := S128x2048) hz]
  show _ * _ * (_ * (Ideal.ofBits .f32 0x3F800000#32 - _)) = _
  rw [ofBits_one]; rfl

theorem out9 :
    out0_A_9 c i a1 h1 a2 h2 a3 h3 a4 h4 a5 h5 a6 h6 a7 h7 a8 h8 a9 h9 a10 h10 a11 h11 a12 h12 a13 h13 x0 x1 x2 x3 x4 x5 x6 j = logitGrad (x6 j) (x5 j) (x2 j) := by
  unfold out0_A_9
  rw [View.read_writes_eq_canon _ _ _ (fun _ => cover0_A_9 ..)]
  unfold kernelRun0_A
  dsimp only
  sl_unfold_words
  rw [View.canon_unit_zero (S := S128x2048) hz]
  simp only [View.readAt_eq_ld, h1.read_unread, h2.read_unread, h3.read_unread, h4.read_unread, h5.read_unread,
    h6.read_unread, h7.read_unread, View.ld_unit_zero (S := S128x2048) hz]
  show _ * _ * (_ * (Ideal.ofBits .f32 0x3F800000#32 - _)) = _
  rw [ofBits_one]; rfl

theorem out10 :
    out0_A_10 c i a1 h1 a2 h2 a3 h3 a4 h4 a5 h5 a6 h6 a7 h7 a8 h8 a9 h9 a10 h10 a11 h11 a12 h12 a13 h13 x0 x1 x2 x3 x4 x5 x6 j = branchGrad (x0 j) (x6 j) := by
  unfold out0_A_10
  rw [View.read_writes_eq_canon _ _ _ (fun _ => cover0_A_10 ..)]
  unfold kernelRun0_A
  dsimp only
  sl_unfold_words
  rw [View.canon_unit_zero (S := S128x2048) hz]
  simp only [View.readAt_eq_ld, h1.read_unread, h2.read_unread, h3.read_unread, h4.read_unread, h5.read_unread,
    h6.read_unread, h7.read_unread, View.ld_unit_zero (S := S128x2048) hz]
  rfl

theorem out11 :
    out0_A_11 c i a1 h1 a2 h2 a3 h3 a4 h4 a5 h5 a6 h6 a7 h7 a8 h8 a9 h9 a10 h10 a11 h11 a12 h12 a13 h13 x0 x1 x2 x3 x4 x5 x6 j = branchGrad (x1 j) (x6 j) := by
  unfold out0_A_11
  rw [View.read_writes_eq_canon _ _ _ (fun _ => cover0_A_11 ..)]
  unfold kernelRun0_A
  dsimp only
  sl_unfold_words
  rw [View.canon_unit_zero (S := S128x2048) hz]
  simp only [View.readAt_eq_ld, h1.read_unread, h2.read_unread, h3.read_unread, h4.read_unread, h5.read_unread,
    h6.read_unread, h7.read_unread, View.ld_unit_zero (S := S128x2048) hz]
  rfl

theorem out12 :
    out0_A_12 c i a1 h1 a2 h2 a3 h3 a4 h4 a5 h5 a6 h6 a7 h7 a8 h8 a9 h9 a10 h10 a11 h11 a12 h12 a13 h13 x0 x1 x2 x3 x4 x5 x6 j = branchGrad (x2 j) (x6 j) := by
  unfold out0_A_12
  rw [View.read_writes_eq_canon _ _ _ (fun _ => cover0_A_12 ..)]
  unfold kernelRun0_A
  dsimp only
  sl_unfold_words
  rw [View.canon_unit_zero (S := S128x2048) hz]
  simp only [View.readAt_eq_ld, h1.read_unread, h2.read_unread, h3.read_unread, h4.read_unread, h5.read_unread,
    h6.read_unread, h7.read_unread, View.ld_unit_zero (S := S128x2048) hz]
  rfl

end Bodies

variable (m : (ℓ : Loc nD τ sig) → Buf (Elt Ideal) ℓ) (ρ : Dev nD → PrngReg)

/-! ## The arguments' blocks -/

/-- The projections, the three branches and the merged gradient. -/
abbrev proj (c : Dev nD) : S8192x15360.Idx → EReal := m ((c : Thread nD τ).loc main_arg0)
abbrev brA (c : Dev nD) : S8192x2048.Idx → EReal := m ((c : Thread nD τ).loc main_arg1)
abbrev brB (c : Dev nD) : S8192x2048.Idx → EReal := m ((c : Thread nD τ).loc main_arg2)
abbrev brC (c : Dev nD) : S8192x2048.Idx → EReal := m ((c : Thread nD τ).loc main_arg3)
abbrev dM (c : Dev nD) : S8192x2048.Idx → EReal := m ((c : Thread nD τ).loc main_arg4)

/-- The grid point whose block holds token row `i 0`, and the place of `i` in that block. -/
def pt (i : S8192x2048.Idx) : Fin cfg0.N :=
  ⟨(i 0).val / 128, by rw [show cfg0.N = 64 from N_0]; have h : (i 0).val < 8192 := (i 0).isLt; omega⟩
def loc (i : S8192x2048.Idx) : S128x2048.Idx := ix2 ⟨(i 0).val % 128, Nat.mod_lt _ (by decide)⟩ (i 1)

/-- Which block of each array a point reads or writes: its own rows; columns 0, 1, 2 of the projections for the gates. -/
theorem idx_all : ∀ t : Fin cfg0.N,
    (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = t.val ∧ win0_2.index t (1 : Fin 2) = 2) :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)

/-- The place of `loc i` in a window's block of the point `pt i` is `i`. -/
theorem place (i : S8192x2048.Idx) {s : Fin 2 → ℕ} (h : s 0 = (pt i).val ∧ s 1 = 0) {e : S8192x2048.Idx}
    (h0 : (e 0).val = s 0 * 128 + 1 * ((i 0).val % 128)) (h1 : (e 1).val = s 1 * 2048 + 1 * (i 1).val) : e = i := by
  refine Shape.idx_ext₂ ?_ ?_
  · rw [h0, h.1]; show (i 0).val / 128 * 128 + _ = _; omega
  · rw [h1, h.2]; omega

theorem gate0 (c : Dev nD) (i : S8192x2048.Idx) :
    X0_0 m c (pt i) (loc i) = at2 (proj m c) (i 0).val (0 + (i 1).val) := by
  obtain ⟨e0, e1⟩ := (idx_all (pt i)).1
  unfold X0_0 Pipeline.Window.fill
  rw [dif_pos (moved0_0 (pt i) (loc i))]
  refine at2_idx (proj m c) (((cfg0.win 0).blk (pt i)).view.emb _) _ _ ?_ ?_
  · show win0_0.index (pt i) (0 : Fin 2) * 128 + 1 * ((i 0).val % 128) = _
    rw [e0]; show (i 0).val / 128 * 128 + _ = _; omega
  · show win0_0.index (pt i) (1 : Fin 2) * 2048 + 1 * (i 1).val = _
    rw [e1]; omega

theorem gate1 (c : Dev nD) (i : S8192x2048.Idx) :
    X0_1 m c (pt i) (loc i) = at2 (proj m c) (i 0).val (2048 + (i 1).val) := by
  obtain ⟨e0, e1⟩ := (idx_all (pt i)).2.1
  unfold X0_1 Pipeline.Window.fill
  rw [dif_pos (moved0_1 (pt i) (loc i))]
  refine at2_idx (proj m c) (((cfg0.win 1).blk (pt i)).view.emb _) _ _ ?_ ?_
  · show win0_1.index (pt i) (0 : Fin 2) * 128 + 1 * ((i 0).val % 128) = _
    rw [e0]; show (i 0).val / 128 * 128 + _ = _; omega
  · show win0_1.index (pt i) (1 : Fin 2) * 2048 + 1 * (i 1).val = _
    rw [e1]; omega

theorem gate2 (c : Dev nD) (i : S8192x2048.Idx) :
    X0_2 m c (pt i) (loc i) = at2 (proj m c) (i 0).val (4096 + (i 1).val) := by
  obtain ⟨e0, e1⟩ := (idx_all (pt i)).2.2
  unfold X0_2 Pipeline.Window.fill
  rw [dif_pos (moved0_2 (pt i) (loc i))]
  refine at2_idx (proj m c) (((cfg0.win 2).blk (pt i)).view.emb _) _ _ ?_ ?_
  · show win0_2.index (pt i) (0 : Fin 2) * 128 + 1 * ((i 0).val % 128) = _
    rw [e0]; show (i 0).val / 128 * 128 + _ = _; omega
  · show win0_2.index (pt i) (1 : Fin 2) * 2048 + 1 * (i 1).val = _
    rw [e1]; omega

theorem in3 (c : Dev nD) (i : S8192x2048.Idx) : iblk m c 3 (pt i) (loc i) = brA m c i :=
  congrArg (brA m c) (place i (idx3 (pt i)) rfl rfl : ((cfg0.win 3).blk (pt i)).view.emb (loc i) = i)

theorem in4 (c : Dev nD) (i : S8192x2048.Idx) : iblk m c 4 (pt i) (loc i) = brB m c i :=
  congrArg (brB m c) (place i (idx4 (pt i)) rfl rfl : ((cfg0.win 4).blk (pt i)).view.emb (loc i) = i)

theorem in5 (c : Dev nD) (i : S8192x2048.Idx) : iblk m c 5 (pt i) (loc i) = brC m c i :=
  congrArg (brC m c) (place i (idx5 (pt i)) rfl rfl : ((cfg0.win 5).blk (pt i)).view.emb (loc i) = i)

theorem in6 (c : Dev nD) (i : S8192x2048.Idx) : iblk m c 6 (pt i) (loc i) = dM m c i :=
  congrArg (dM m c) (place i (idx6 (pt i)) rfl rfl : ((cfg0.win 6).blk (pt i)).view.emb (loc i) = i)

/-! ## The six arrays after the run -/

/-- The gate logit of branch `k` of an index: column `2048·k + i 1` of the projections. -/
abbrev logit (P : S8192x15360.Idx → EReal) (k : ℕ) (i : S8192x2048.Idx) : EReal := at2 P (i 0).val (2048 * k + (i 1).val)

theorem final7 (c : Dev nD) : (dats m 0 c).arrAt 7 cfg0.N = fun i => logitGrad (dM m c i) (brA m c i) (logit (proj m c) 0 i) := by
  funext i
  have hi : ((cfg0.win 7).blk (pt i)).view.emb (loc i) = i := place i (idx7 (pt i)) rfl rfl
  have hb := congrFun (Value.blocks7 m c (pt i) (flush0_7 (pt i))) (loc i)
  rw [Value.flushed7_A] at hb
  have hr : ((cfg0.win 7).blk (pt i)).view.read (Elt Ideal) ((dats m 0 c).arrAt 7 cfg0.N) (loc i)
      = (dats m 0 c).arrAt 7 cfg0.N i := congrArg ((dats m 0 c).arrAt 7 cfg0.N) hi
  refine hr.symm.trans (hb.trans ((out7 (j := loc i) ..).trans ?_))
  rw [gate0, in3, in6]

theorem final8 (c : Dev nD) : (dats m 0 c).arrAt 8 cfg0.N = fun i => logitGrad (dM m c i) (brB m c i) (logit (proj m c) 1 i) := by
  funext i
  have hi : ((cfg0.win 8).blk (pt i)).view.emb (loc i) = i := place i (idx8 (pt i)) rfl rfl
  have hb := congrFun (Value.blocks8 m c (pt i) (flush0_8 (pt i))) (loc i)
  rw [Value.flushed8_A] at hb
  have hr : ((cfg0.win 8).blk (pt i)).view.read (Elt Ideal) ((dats m 0 c).arrAt 8 cfg0.N) (loc i)
      = (dats m 0 c).arrAt 8 cfg0.N i := congrArg ((dats m 0 c).arrAt 8 cfg0.N) hi
  refine hr.symm.trans (hb.trans ((out8 (j := loc i) ..).trans ?_))
  rw [gate1, in4, in6]

theorem final9 (c : Dev nD) : (dats m 0 c).arrAt 9 cfg0.N = fun i => logitGrad (dM m c i) (brC m c i) (logit (proj m c) 2 i) := by
  funext i
  have hi : ((cfg0.win 9).blk (pt i)).view.emb (loc i) = i := place i (idx9 (pt i)) rfl rfl
  have hb := congrFun (Value.blocks9 m c (pt i) (flush0_9 (pt i))) (loc i)
  rw [Value.flushed9_A] at hb
  have hr : ((cfg0.win 9).blk (pt i)).view.read (Elt Ideal) ((dats m 0 c).arrAt 9 cfg0.N) (loc i)
      = (dats m 0 c).arrAt 9 cfg0.N i := congrArg ((dats m 0 c).arrAt 9 cfg0.N) hi
  refine hr.symm.trans (hb.trans ((out9 (j := loc i) ..).trans ?_))
  rw [gate2, in5, in6]

theorem final10 (c : Dev nD) : (dats m 0 c).arrAt 10 cfg0.N = fun i => branchGrad (logit (proj m c) 0 i) (dM m c i) := by
  funext i
  have hi : ((cfg0.win 10).blk (pt i)).view.emb (loc i) = i := place i (idx10 (pt i)) rfl rfl
  have hb := congrFun (Value.blocks10 m c (pt i) (flush0_10 (pt i))) (loc i)
  rw [Value.flushed10_A] at hb
  have hr : ((cfg0.win 10).blk (pt i)).view.read (Elt Ideal) ((dats m 0 c).arrAt 10 cfg0.N) (loc i)
      = (dats m 0 c).arrAt 10 cfg0.N i := congrArg ((dats m 0 c).arrAt 10 cfg0.N) hi
  refine hr.symm.trans (hb.trans ((out10 (j := loc i) ..).trans ?_))
  rw [gate0, in6]

theorem final11 (c : Dev nD) : (dats m 0 c).arrAt 11 cfg0.N = fun i => branchGrad (logit (proj m c) 1 i) (dM m c i) := by
  funext i
  have hi : ((cfg0.win 11).blk (pt i)).view.emb (loc i) = i := place i (idx11 (pt i)) rfl rfl
  have hb := congrFun (Value.blocks11 m c (pt i) (flush0_11 (pt i))) (loc i)
  rw [Value.flushed11_A] at hb
  have hr : ((cfg0.win 11).blk (pt i)).view.read (Elt Ideal) ((dats m 0 c).arrAt 11 cfg0.N) (loc i)
      = (dats m 0 c).arrAt 11 cfg0.N i := congrArg ((dats m 0 c).arrAt 11 cfg0.N) hi
  refine hr.symm.trans (hb.trans ((out11 (j := loc i) ..).trans ?_))
  rw [gate1, in6]

theorem final12 (c : Dev nD) : (dats m 0 c).arrAt 12 cfg0.N = fun i => branchGrad (logit (proj m c) 2 i) (dM m c i) := by
  funext i
  have hi : ((cfg0.win 12).blk (pt i)).view.emb (loc i) = i := place i (idx12 (pt i)) rfl rfl
  have hb := congrFun (Value.blocks12 m c (pt i) (flush0_12 (pt i))) (loc i)
  rw [Value.flushed12_A] at hb
  have hr : ((cfg0.win 12).blk (pt i)).view.read (Elt Ideal) ((dats m 0 c).arrAt 12 cfg0.N) (loc i)
      = (dats m 0 c).arrAt 12 cfg0.N i := congrArg ((dats m 0 c).arrAt 12 cfg0.N) hi
  refine hr.symm.trans (hb.trans ((out12 (j := loc i) ..).trans ?_))
  rw [gate2, in6]

end Cert.KernelGateIdeal.Blocks

namespace Cert.ReferenceGateIdeal.Merge

open Idealize.ShloMosaic Idealize.ShloMosaic.TcCoe Idealize.SL.Sem
open Cert.ReferenceGateIdeal Cert.ReferenceGateIdeal.Gen Cert.Products Cert.GateValue

/-- The reference's gate of a logit array, at an index: the logistic function. -/
abbrev gate (g : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf g)))

theorem gate_apply (g : FVec Ideal S8192x2048 .f32) (i : S8192x2048.Idx) : gate g i = Ideal.logistic (g i) := by
  show Ideal.div (Ideal.ofBits .f32 0x3F800000#32) (Ideal.ofBits .f32 0x3F800000#32 + Ideal.exp (-(g i))) = _
  rw [ofBits_one]; rfl

/-- Slicing the logits of branch `k` out of the projections reads column `2048·k + i 1`. -/
theorem slice0 (P : S8192x15360.Idx → EReal) (i : S8192x2048.Idx) :
    extractStridedSlice S8192x2048 ![0, 0] P slices_S8192x15360_S8192x2048_0_0 i
      = at2 P (i 0).val (2048 * 0 + (i 1).val) :=
  at2_idx P (fun a => ⟨(![0, 0] : Fin 2 → ℕ) a + (i a).val, _⟩) _ _ (by simp) (by simp)
theorem slice1 (P : S8192x15360.Idx → EReal) (i : S8192x2048.Idx) :
    extractStridedSlice S8192x2048 ![0, 2048] P slices_S8192x15360_S8192x2048_0_2048 i
      = at2 P (i 0).val (2048 * 1 + (i 1).val) :=
  at2_idx P (fun a => ⟨(![0, 2048] : Fin 2 → ℕ) a + (i a).val, _⟩) _ _ (by simp) (by simp)
theorem slice2 (P : S8192x15360.Idx → EReal) (i : S8192x2048.Idx) :
    extractStridedSlice S8192x2048 ![0, 4096] P slices_S8192x15360_S8192x2048_0_4096 i
      = at2 P (i 0).val (2048 * 2 + (i 1).val) :=
  at2_idx P (fun a => ⟨(![0, 4096] : Fin 2 → ℕ) a + (i a).val, _⟩) _ _ (by simp) (by simp)

/-- The reference's gradient of a logit, at an index. -/
theorem logit_apply (d : FVec Ideal S8192x2048 .bf16) (v g : FVec Ideal S8192x2048 .f32) (i : S8192x2048.Idx) :
    (truncf .bf16 (mulf (mulf (extf .f32 d bitsLt_bf16_f32) v) (mulf (gate g)
      (subf (broadcastInDim S8192x2048 ![] bcast_S_S8192x2048 (constant S_ .f32 0x3F800000#32)) (gate g)))) bitsLt_bf16_f32) i
      = logitGrad (d i) (v i) (g i) := by
  show d i * v i * (gate g i * (Ideal.ofBits .f32 0x3F800000#32 - gate g i)) = _
  rw [gate_apply, ofBits_one]; rfl

/-- The reference's gradient of a branch, at an index. -/
theorem branch_apply (d : FVec Ideal S8192x2048 .bf16) (g : FVec Ideal S8192x2048 .f32) (i : S8192x2048.Idx) :
    (truncf .bf16 (mulf (gate g) (extf .f32 d bitsLt_bf16_f32)) bitsLt_bf16_f32) i = branchGrad (g i) (d i) := by
  show gate g i * d i = _
  rw [gate_apply]; rfl

end Cert.ReferenceGateIdeal.Merge

namespace Cert.GateValue

open Idealize.ShloMosaic Idealize.ShloMosaic.TcCoe Idealize.SL.Sem
open Cert.KernelGateIdeal.Blocks Cert.ReferenceGateIdeal.Merge

/-- The gradient of the gated merge: the kernel's six arrays are the reference's. -/
theorem algebraic : Cert.algebraic_KernelGateIdeal_ReferenceGateIdeal (hKernelGateIdeal := Cert.KernelGateIdeal.Gen.facts)
    (hReferenceGateIdeal := Cert.ReferenceGateIdeal.Gen.facts) :=
  fun m ρ m' ρ' _ hag => ⟨fun c i => logitGrad (dM m c i) (brA m c i) (logit (proj m c) 0 i),
    fun c i => logitGrad (dM m c i) (brB m c i) (logit (proj m c) 1 i),
    fun c i => logitGrad (dM m c i) (brC m c i) (logit (proj m c) 2 i),
    fun c i => branchGrad (logit (proj m c) 0 i) (dM m c i),
    fun c i => branchGrad (logit (proj m c) 1 i) (dM m c i),
    fun c i => branchGrad (logit (proj m c) 2 i) (dM m c i),
    (θ_run _ _ _).mono (fun _ h c => by
      obtain ⟨h0, h1, h2, h3, h4, h5, hr⟩ := h c
      exact ⟨h0.trans (final7 m c), h1.trans (final8 m c), h2.trans (final9 m c), h3.trans (final10 m c),
        h4.trans (final11 m c), h5.trans (final12 m c), hr⟩)
      (Cert.KernelGateIdeal.Value.run_blocks m ρ),
    (θ_run _ _ _).mono (fun _ h c => by
      obtain ⟨h0, h1, h2, h3, h4, h5, hr⟩ := h c
      obtain ⟨a0, a1, a2, a3, a4⟩ := hag c
      rw [a0, a1, a4] at h0
      rw [a0, a2, a4] at h1
      rw [a0, a3, a4] at h2
      rw [a0, a4] at h3 h4 h5
      refine ⟨h0.trans ?_, h1.trans ?_, h2.trans ?_, h3.trans ?_, h4.trans ?_, h5.trans ?_, hr⟩
      · funext i; refine (logit_apply _ _ _ i).trans ?_; rw [slice0]
      · funext i; refine (logit_apply _ _ _ i).trans ?_; rw [slice1]
      · funext i; refine (logit_apply _ _ _ i).trans ?_; rw [slice2]
      · funext i; refine (branch_apply _ _ i).trans ?_; rw [slice0]
      · funext i; refine (branch_apply _ _ i).trans ?_; rw [slice1]
      · funext i; refine (branch_apply _ _ i).trans ?_; rw [slice2])
      (Cert.ReferenceGateIdeal.Value.run m' ρ')⟩

/-- The reference runs, leaves its arguments as they were, and ends with every counter at zero. -/
theorem reference_frame : Cert.quiescent_ReferenceGateIdeal (hReferenceGateIdeal := Cert.ReferenceGateIdeal.Gen.facts) :=
  fun m ρ _ => (θ_run _ _ _).mono (fun r h => ⟨fun c => (h c).2.2.2.2.2.2, sem_eq_zero_of_no_sems (by decide) r.2⟩)
    (Cert.ReferenceGateIdeal.Value.run m ρ)

end Cert.GateValue

end
-- ==== Proof.RmsValue.lean ====
/-
  The gradient of the norm, added to the residual branch's gradient.
-/
module

public import proofs.«01_k».proof.Defs
public import proofs.«01_k».proof.Proof.Products
public import proofs.«01_k».proof.Proof.Gen.KernelRmsIdeal.Value
public import proofs.«01_k».proof.Proof.Gen.ReferenceRmsIdeal.Run
public import Idealize.ShloMosaic.Lib.Pipeline.Value
public import Idealize.ShloMosaic.Lib.Pointwise

@[expose] public section

noncomputable section

namespace Cert.RmsValue

open Idealize.ShloMosaic
open scoped BigOperators

/-- The norm's denominator before the square root: the row's mean square plus epsilon. -/
def den (x : Fin 2048 → EReal) : EReal :=
  Ideal.div (∑ k, x k * x k) (Ideal.ofBits .f32 0x45000000#32) + Ideal.ofBits .f32 0x358637BD#32

/-- What the row's mean square receives back, for each of its 2048 terms. -/
def back (x w g : Fin 2048 → EReal) : EReal :=
  Ideal.div ((∑ k, x k * (g k * w k))
    * (Ideal.ofBits .f32 0xBF000000#32 * Ideal.div (Ideal.rsqrt (den x)) (den x))) (Ideal.ofBits .f32 0x45000000#32)

/-- The gradient of a row's entry, with the residual's gradient `n` added. -/
def entryGrad (x w g n : Fin 2048 → EReal) (k : Fin 2048) : EReal :=
  g k * w k * Ideal.rsqrt (den x) + x k * back x w g + back x w g * x k + n k

/-- Row `r` of an array. -/
def row {n : Nat} (A : (⟨2, ![n, 2048]⟩ : Shape).Idx → EReal) (r : ℕ) : Fin 2048 → EReal :=
  fun k => Cert.Products.at2 A r k.val

theorem row_val {n : Nat} (A : (⟨2, ![n, 2048]⟩ : Shape).Idx → EReal) (r : Fin n) (k : Fin 2048) :
    row A r.val k = A (ix2 r k) := (Cert.Products.at2_idx A (ix2 r k) _ _ rfl rfl).symm

/-- The reference adds the same four terms in another order. -/
theorem sum_order (a b c d : EReal) : a + b + c + d = d + a + b + c := by ac_rfl

/-- What row `r` adds to the gradient of the norm's weight. -/
def weightTerm {n : Nat} (A G : (⟨2, ![n, 2048]⟩ : Shape).Idx → EReal) (r : ℕ) (l : Fin 2048) : EReal :=
  row A r l * Ideal.rsqrt (den (row A r)) * row G r l

/-- The gradient of the norm's weight: every row's term. -/
def weightGrad (A G : (⟨2, ![8192, 2048]⟩ : Shape).Idx → EReal) (l : Fin 2048) : EReal :=
  ∑ r : Fin 8192, weightTerm A G r.val l

theorem row_eq {n : Nat} (A : (⟨2, ![n, 2048]⟩ : Shape).Idx → EReal) (r : Fin n) :
    row A r.val = fun k => A (ix2 r k) := funext (row_val A r)

theorem weightGrad_eq (A G : (⟨2, ![8192, 2048]⟩ : Shape).Idx → EReal) (l : Fin 2048) :
    weightGrad A G l = ∑ r : Fin 8192, A (ix2 r l) * Ideal.rsqrt (den (fun k => A (ix2 r k))) * G (ix2 r l) :=
  Finset.sum_congr rfl fun r _ => by
    unfold weightTerm
    rw [row_eq, row_eq]

end Cert.RmsValue

namespace Cert.KernelRmsIdeal.Blocks

open Idealize.ShloMosaic Idealize.ShloMosaic.TcCoe Idealize.SL.Sem
open Cert.KernelRmsIdeal Cert.KernelRmsIdeal.Gen Cert.Products Cert.RmsValue
open scoped BigOperators

theorem hz : (![0, 0] : Fin 2 → Nat) = fun _ => 0 := funext fun a => by fin_cases a <;> rfl

theorem pay6_apply (x : Vec Ideal S256x2048 .f32) (w : Vec Ideal S1x2048 .f32) (g n : Vec Ideal S256x2048 .f32)
    (r : Fin 256) (l : Fin 2048) :
    k0_pay6 x w g n (ix2 r l)
      = entryGrad (fun k => x (ix2 r k)) (fun k => w (ix2 0 k)) (fun k => g (ix2 r k)) (fun k => n (ix2 r k)) l := by
  pointwise [k0_pay6, k0_pay4, k0_pay3, entryGrad, back, den]
  simp only [Finset.univ_unique, Finset.sum_singleton]

theorem pay5_apply (x g : Vec Ideal S256x2048 .f32) (l : Fin 2048) :
    k0_pay5 x g (ix2 0 l) = ∑ r : Fin 256, x (ix2 r l) * Ideal.rsqrt (den fun k => x (ix2 r k)) * g (ix2 r l) := by
  pointwise [k0_pay5, k0_pay4, k0_pay3, den]

section Bodies
variable (c : Dev nD) (i : grid0.Coords)
  (a1 : Memref sig .tc .vmem S256x2048 .f32) (h1 : a1.IsWhole) (a2 : Memref sig .tc .vmem S1x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S256x2048 .f32) (h5 : a5.IsWhole) (a6 : Memref sig .tc .vmem S1x2048 .f32) (h6 : a6.IsWhole)
  (x : Vec Ideal S256x2048 .f32) (w : Vec Ideal S1x2048 .f32) (g n : Vec Ideal S256x2048 .f32) (acc : Vec Ideal S1x2048 .f32)

/-! What the body leaves in the two outputs' blocks: at the first point the weight's gradient starts from zero. -/

theorem outA4 (hc : cond0_0 i) : out0_A_4 c i a1 h1 a2 h2 a3 h3 a4 h4 a5 h5 a6 h6 hc x w g n = k0_pay6 x w g n := by
  unfold out0_A_4
  rw [View.read_writes_eq_canon _ _ _ (cover0_A_4 c i a1 h1 a2 h2 a3 h3 a4 h4 a5 h5 a6 h6 hc x w g n)]
  unfold kernelRun0_A
  dsimp only
  sl_unfold_words
  rw [View.canon_unit_zero (S := S256x2048) hz]
  simp only [View.readAt_eq_ld, h1.read_unread, h2.read_unread, h3.read_unread, h4.read_unread,
    View.ld_unit_zero (S := S256x2048) hz, View.ld_unit_zero (S := S1x2048) hz]

theorem outB4 (hc : ¬cond0_0 i) :
    out0_B_4 c i a1 h1 a2 h2 a3 h3 a4 h4 a5 h5 a6 h6 hc x w g n acc = k0_pay6 x w g n := by
  unfold out0_B_4
  rw [View.read_writes_eq_canon _ _ _ (cover0_B_4 c i a1 h1 a2 h2 a3 h3 a4 h4 a5 h5 a6 h6 hc x w g n acc)]
  unfold kernelRun0_B
  dsimp only
  sl_unfold_words
  rw [View.canon_unit_zero (S := S256x2048) hz]
  simp only [View.readAt_eq_ld, h1.read_unread, h2.read_unread, h3.read_unread, h4.read_unread,
    View.ld_unit_zero (S := S256x2048) hz, View.ld_unit_zero (S := S1x2048) hz]

theorem outA5 (hc : cond0_0 i) :
    out0_A_5 c i a1 h1 a2 h2 a3 h3 a4 h4 a5 h5 a6 h6 hc x w g n = k0_pay2 (F := Ideal) (k0_pay5 x g) (k0_pay1 (F := Ideal)) := by
  unfold out0_A_5
  rw [View.read_writes_eq_canon _ _ _ (cover0_A_5 c i a1 h1 a2 h2 a3 h3 a4 h4 a5 h5 a6 h6 hc x w g n)]
  unfold kernelRun0_A
  dsimp only
  sl_unfold_words
  rw [View.canon_cons_unit_zero (S := S1x2048) hz, View.readCov_unit_zero (S := S1x2048) _ hz]
  simp only [View.readAt_eq_ld, h1.read_unread, h3.read_unread, View.ld_unit_zero (S := S256x2048) hz]

theorem outB5 (hc : ¬cond0_0 i) :
    out0_B_5 c i a1 h1 a2 h2 a3 h3 a4 h4 a5 h5 a6 h6 hc x w g n acc = k0_pay2 (k0_pay5 x g) acc := by
  unfold out0_B_5
  rw [View.read_writes_eq_canon _ _ _ (cover0_B_5 c i a1 h1 a2 h2 a3 h3 a4 h4 a5 h5 a6 h6 hc x w g n acc)]
  unfold kernelRun0_B
  dsimp only
  sl_unfold_words
  rw [View.canon_unit_zero (S := S1x2048) hz]
  simp only [View.readAt_eq_ld, h1.read_unread, h3.read_unread, h6.read_unread,
    View.ld_unit_zero (S := S256x2048) hz, View.ld_unit_zero (S := S1x2048) hz]

end Bodies

variable (m : (ℓ : Loc nD τ sig) → Buf (Elt Ideal) ℓ) (ρ : Dev nD → PrngReg)

/-- The arguments: the activations, the weight, the norm's incoming gradient and the residual's. -/
abbrev argX (c : Dev nD) : S8192x2048.Idx → EReal := m ((c : Thread nD τ).loc main_arg0)
abbrev argW (c : Dev nD) : S2048.Idx → EReal := m ((c : Thread nD τ).loc main_arg1)
abbrev argG (c : Dev nD) : S8192x2048.Idx → EReal := m ((c : Thread nD τ).loc main_arg2)
abbrev argN (c : Dev nD) : S8192x2048.Idx → EReal := m ((c : Thread nD τ).loc main_arg3)

/-- The weight's row, that the host makes of the weight. -/
theorem V_main_v0 (c : Dev nD) : V m c main_v0 = shapeCast S1x2048 (argW m c) shapeCasts_S2048_S1x2048 := by
  unfold V hostOps0; after_results; rfl

/-- Which block of each array a point reads or writes: its own 256 rows, and the weight whole. -/
theorem idx_all : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0) :=
  (by decide +kernel : ∀ t : Fin grid0.N, _)

theorem blkX (c : Dev nD) (t : Fin cfg0.N) (r : Fin 256) (k : Fin 2048) :
    iblk m c 0 t (ix2 r k) = row (argX m c) (t.val * 256 + r.val) k := by
  obtain ⟨⟨e0, e1⟩, -⟩ := idx_all t
  refine at2_idx (argX m c) (((cfg0.win 0).blk t).view.emb (ix2 r k)) _ _ ?_ ?_
  · show win0_0.index t (0 : Fin 2) * 256 + 1 * r.val = _
    rw [e0]; omega
  · show win0_0.index t (1 : Fin 2) * 2048 + 1 * k.val = _
    rw [e1]; omega

theorem blkG (c : Dev nD) (t : Fin cfg0.N) (r : Fin 256) (k : Fin 2048) :
    iblk m c 2 t (ix2 r k) = row (argG m c) (t.val * 256 + r.val) k := by
  obtain ⟨-, -, ⟨e0, e1⟩, -⟩ := idx_all t
  refine at2_idx (argG m c) (((cfg0.win 2).blk t).view.emb (ix2 r k)) _ _ ?_ ?_
  · show win0_2.index t (0 : Fin 2) * 256 + 1 * r.val = _
    rw [e0]; omega
  · show win0_2.index t (1 : Fin 2) * 2048 + 1 * k.val = _
    rw [e1]; omega

theorem blkN (c : Dev nD) (t : Fin cfg0.N) (r : Fin 256) (k : Fin 2048) :
    iblk m c 3 t (ix2 r k) = row (argN m c) (t.val * 256 + r.val) k := by
  obtain ⟨-, -, -, ⟨e0, e1⟩, -⟩ := idx_all t
  refine at2_idx (argN m c) (((cfg0.win 3).blk t).view.emb (ix2 r k)) _ _ ?_ ?_
  · show win0_3.index t (0 : Fin 2) * 256 + 1 * r.val = _
    rw [e0]; omega
  · show win0_3.index t (1 : Fin 2) * 2048 + 1 * k.val = _
    rw [e1]; omega

theorem blkW (c : Dev nD) (t : Fin cfg0.N) (k : Fin 2048) : iblk m c 1 t (ix2 0 k) = argW m c (ix1 k) := by
  obtain ⟨-, ⟨e0, e1⟩, -⟩ := idx_all t
  have hi : ((cfg0.win 1).blk t).view.emb (ix2 (0 : Fin 1) k) = (ix2 (0 : Fin 1) k : S1x2048.Idx) := by
    refine Shape.idx_ext₂ ?_ ?_
    · show win0_1.index t (0 : Fin 2) * 1 + 1 * 0 = 0
      rw [e0]
    · show win0_1.index t (1 : Fin 2) * 2048 + 1 * k.val = k.val
      rw [e1]; omega
  have h : iblk m c 1 t (ix2 (0 : Fin 1) k) = V m c main_v0 (ix2 (0 : Fin 1) k) := congrArg (V m c main_v0) hi
  rw [h, V_main_v0]
  pointwise []

/-- The grid point whose block holds an index's row, and the index's place in that block. -/
def pt (i : S8192x2048.Idx) : Fin cfg0.N :=
  ⟨(i 0).val / 256, by rw [show cfg0.N = 32 from N_0]; have h : (i 0).val < 8192 := (i 0).isLt; omega⟩
def loc (i : S8192x2048.Idx) : S256x2048.Idx := ix2 ⟨(i 0).val % 256, Nat.mod_lt _ (by decide)⟩ (i 1)

/-- The first output's array after the run. -/
theorem final4 (c : Dev nD) : (dats m 0 c).arrAt 4 cfg0.N = fun i =>
    entryGrad (row (argX m c) (i 0).val) (fun k => argW m c (ix1 k)) (row (argG m c) (i 0).val) (row (argN m c) (i 0).val) (i 1) := by
  funext i
  have hi0 : (i 0).val < 8192 := (i 0).isLt
  obtain ⟨-, -, -, -, ⟨e0, e1⟩, -⟩ := idx_all (pt i)
  have hi : ((cfg0.win 4).blk (pt i)).view.emb (loc i) = i := by
    refine Shape.idx_ext₂ ?_ ?_
    · show win0_4.index (pt i) (0 : Fin 2) * 256 + 1 * ((i 0).val % 256) = _
      rw [e0]; show (i 0).val / 256 * 256 + _ = _; omega
    · show win0_4.index (pt i) (1 : Fin 2) * 2048 + 1 * (i 1).val = _
      rw [e1]; omega
  have hb := congrFun (Value.blocks4 m c (pt i) (flush0_4 (pt i))) (loc i)
  have hr : ((cfg0.win 4).blk (pt i)).view.read (Elt Ideal) ((dats m 0 c).arrAt 4 cfg0.N) (loc i)
      = (dats m 0 c).arrAt 4 cfg0.N i := congrArg ((dats m 0 c).arrAt 4 cfg0.N) hi
  have hf : (dats m 0 c).flushed 4 (pt i)
      = (cfg0.win 4).cut (grid0.coords (pt i)) (k0_pay6 (iblk m c 0 (pt i)) (iblk m c 1 (pt i)) (iblk m c 2 (pt i)) (iblk m c 3 (pt i))) := by
    by_cases h0 : (pt i).val % 32 = 0
    · rw [Value.flushed4_A m c (pt i) h0, outA4]
    · rw [Value.flushed4_B m c (pt i) h0, outB4]
  rw [hf] at hb
  refine hr.symm.trans (hb.trans ((pay6_apply _ _ _ _ _ _).trans ?_))
  have ep : (pt i).val * 256 + (i 0).val % 256 = (i 0).val := by
    show (i 0).val / 256 * 256 + _ = _; omega
  simp only [blkX, blkG, blkN, blkW, ep]

/-- What point `t` adds to the weight's gradient: its rows' terms. -/
theorem pay5_blk (c : Dev nD) (t : Fin cfg0.N) (l : Fin 2048) :
    k0_pay5 (iblk m c 0 t) (iblk m c 2 t) (ix2 0 l)
      = ∑ r : Fin 256, weightTerm (argX m c) (argG m c) (t.val * 256 + r.val) l := by
  refine (pay5_apply _ _ l).trans (Finset.sum_congr rfl fun r _ => ?_)
  simp only [blkX, blkG, weightTerm]

theorem pay2_apply (v a : Vec Ideal S1x2048 .f32) (j : S1x2048.Idx) : k0_pay2 v a j = (a j : EReal) + v j := by
  unfold k0_pay2; rw [shapeCast_self]; rfl

/-- After point `n` the weight's gradient holds the terms of the rows up to there. -/
theorem carried (c : Dev nD) (l : Fin 2048) : ∀ (n : ℕ) (h : n < cfg0.N), (outsAt0 m c n h).2 (ix2 0 l)
    = ∑ s ∈ Finset.range (n + 1), ∑ r : Fin 256, weightTerm (argX m c) (argG m c) (s * 256 + r.val) l
  | 0, h => by
    rw [outsAt0_A m c ⟨0, h⟩ rfl]
    dsimp only
    rw [outA5, pay2_apply, pay5_blk, Finset.sum_range_one]
    refine (congrArg (· + _) ?_).trans (zero_add _)
    exact ofBits_zero
  | n + 1, h => by
    have hN : n + 1 < 32 := lt_of_lt_of_eq h (show cfg0.N = 32 from N_0)
    rw [outsAt0_B m c ⟨n + 1, h⟩ (by dsimp only; omega)]
    dsimp only
    rw [outB5, pay2_apply, pay5_blk, Finset.sum_range_succ]
    exact congrArg (· + _) (carried c l n (Nat.lt_of_succ_lt h))

/-- The weight's gradient after the run: every row's term. -/
theorem final5 (c : Dev nD) : (dats m 0 c).arrAt 5 cfg0.N = fun i : S1x2048.Idx =>
    weightGrad (argX m c) (argG m c) (i 1) := by
  funext i
  have hN : cfg0.N = 32 := N_0
  have hl : 31 < cfg0.N := by rw [hN]; decide
  obtain ⟨-, -, -, -, -, ⟨e0, e1⟩⟩ := idx_all ⟨31, hl⟩
  have i0 : (i 0).val < 1 := (i 0).isLt
  have hi : ((cfg0.win 5).blk ⟨31, hl⟩).view.emb (ix2 (0 : Fin 1) (i 1)) = i := by
    refine Shape.idx_ext₂ ?_ ?_
    · show win0_5.index ⟨31, hl⟩ (0 : Fin 2) * 1 + 1 * 0 = (i 0).val
      rw [e0]; omega
    · show win0_5.index ⟨31, hl⟩ (1 : Fin 2) * 2048 + 1 * (i 1).val = _
      rw [e1]; omega
  have last : ∀ t : Fin cfg0.N, (cfg0.win 5).flush t = true → t.val = 31 := fun t h => by
    have h1 := (flush0_5 t).mp h
    have h2 := lt_of_lt_of_eq t.isLt hN
    omega
  have hb := congrFun ((dats m 0 c).read_blk_arrAt_eq_flushed 5
    (fun t t' h h' hne => absurd (Fin.ext ((last t h).trans (last t' h').symm)) hne) cfg0.N ⟨31, hl⟩ hl
    ((flush0_5 ⟨31, hl⟩).mpr rfl)) (ix2 (0 : Fin 1) (i 1))
  have hr : ((cfg0.win 5).blk ⟨31, hl⟩).view.read (Elt Ideal) ((dats m 0 c).arrAt 5 cfg0.N) (ix2 (0 : Fin 1) (i 1))
      = (dats m 0 c).arrAt 5 cfg0.N i := congrArg ((dats m 0 c).arrAt 5 cfg0.N) hi
  rw [Value.flushed5] at hb
  refine hr.symm.trans (hb.trans ((carried m c (i 1) 31 hl).trans ?_))
  exact sum_blocks 32 256 (fun r => weightTerm (argX m c) (argG m c) r (i 1))

end Cert.KernelRmsIdeal.Blocks

namespace Cert.RmsValue

open Idealize.ShloMosaic Idealize.ShloMosaic.TcCoe Idealize.SL.Sem
open Cert.KernelRmsIdeal.Blocks Cert.Products
open scoped BigOperators

/-- The gradient of the norm and of its weight: the kernel's two arrays are the reference's. -/
theorem algebraic : Cert.algebraic_KernelRmsIdeal_ReferenceRmsIdeal (hKernelRmsIdeal := Cert.KernelRmsIdeal.Gen.facts)
    (hReferenceRmsIdeal := Cert.ReferenceRmsIdeal.Gen.facts) :=
  fun m ρ m' ρ' _ hag => ⟨fun c i => entryGrad (row (argX m c) (i 0).val) (fun k => argW m c (ix1 k))
      (row (argG m c) (i 0).val) (row (argN m c) (i 0).val) (i 1),
    fun c i => weightGrad (argX m c) (argG m c) (i 1),
    (θ_run _ _ _).mono (fun _ h c => ⟨(h c).1.trans (final4 m c), (h c).2.1.trans (final5 m c), (h c).2.2⟩)
      (Cert.KernelRmsIdeal.Value.run_blocks m ρ),
    (θ_run _ _ _).mono (fun _ h c => by
      obtain ⟨h0, h1, hr⟩ := h c
      obtain ⟨a0, a1, a2, a3⟩ := hag c
      rw [a0, a1, a2, a3] at h0
      rw [a0, a2] at h1
      refine ⟨h0.trans ?_, h1.trans ?_, hr⟩ <;> clear h0 h1 hr a0 a1 a2 a3
      · funext i
        obtain ⟨r, l, rfl⟩ : ∃ (r : Fin 8192) (l : Fin 2048), i = ix2 r l := ⟨i 0, i 1, eq_ix2 i⟩
        show _ = entryGrad (row (argX m c) r.val) (fun k => argW m c (ix1 k)) (row (argG m c) r.val) (row (argN m c) r.val) l
        rw [row_eq, row_eq, row_eq]
        refine Eq.trans ?_ (sum_order _ _ _ _).symm
        pointwise [back, den]
        simp only [Finset.univ_unique, Finset.sum_singleton]
      · funext i
        obtain ⟨o, l, rfl⟩ : ∃ (o : Fin 1) (l : Fin 2048), i = ix2 o l := ⟨i 0, i 1, eq_ix2 i⟩
        show _ = weightGrad (argX m c) (argG m c) l
        rw [weightGrad_eq]
        pointwise [den]
        simp only [Finset.univ_unique, Finset.sum_singleton])
      (Cert.ReferenceRmsIdeal.Value.run m' ρ')⟩

/-- The reference runs, leaves its arguments as they were, and ends with every counter at zero. -/
theorem reference_frame : Cert.quiescent_ReferenceRmsIdeal (hReferenceRmsIdeal := Cert.ReferenceRmsIdeal.Gen.facts) :=
  fun m ρ _ => (θ_run _ _ _).mono (fun r h => ⟨fun c => (h c).2.2, sem_eq_zero_of_no_sems (by decide) r.2⟩)
    (Cert.ReferenceRmsIdeal.Value.run m ρ)

end Cert.RmsValue

end
-- ==== Proof.PbxValue.lean ====
/-
  The gradient of the combined input projection with respect to its input: `dproj · w_inᵀ`.
  Each block of the result is accumulated over 15 blocks of the inner axis.
  What one point adds, what the array holds after the run, and that this is the reference's array.
-/
module

public import proofs.«01_k».proof.Defs
public import proofs.«01_k».proof.Proof.Products
public import proofs.«01_k».proof.Proof.Gen.KernelPbxIdeal.Value
public import proofs.«01_k».proof.Proof.Gen.ReferencePbxIdeal.Run
public import Idealize.ShloMosaic.Lib.Pipeline.Value
public import Idealize.ShloMosaic.PureOps.Ideal

@[expose] public section

noncomputable section

namespace Cert.KernelPbxIdeal.Product

open Idealize.ShloMosaic Idealize.ShloMosaic.TcCoe Idealize.SL.Sem Idealize.ShloMosaic.ValueIdx
open Cert.KernelPbxIdeal Cert.KernelPbxIdeal.Gen Cert.Products
open scoped BigOperators

theorem hz : (![0, 0] : Fin 2 → Nat) = fun _ => 0 := funext fun a => by fin_cases a <;> rfl

/-- What one point adds: the sum over its 1024 inner coordinates. -/
abbrev blockSum (x0 : Vec Ideal S1024x1024 .bf16) (x1 : Vec Ideal S1024x1024 .bf16) (j : S1024x1024.Idx) : EReal :=
  ∑ k : Fin 1024, at2 x0 (j 0).val k.val * at2 x1 (j 1).val k.val

/-- The body's product added to what it read, at an index. -/
theorem pay2_apply (acc : Vec Ideal S1024x1024 .f32) (x0 : Vec Ideal S1024x1024 .bf16) (x1 : Vec Ideal S1024x1024 .bf16) (j : S1024x1024.Idx) :
    k0_pay2 acc x0 x1 j = (acc j : EReal) + blockSum x0 x1 j := by
  unfold k0_pay2
  simp only [shapeCast_self, addf, matmul, constant, Ideal.addf_def, Ideal.matmul_def, Ideal.matmul]
  show (acc j : EReal) + (Ideal.ofBits .f32 0x00000000#32 + _) = _
  rw [ofBits_zero, zero_add]
  exact congrArg _ (sum_transposedRhs (M := 1024) (K := 1024) (N := 1024) x0 x1 j)

section Bodies
variable (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole)
  (a6 : Memref sig .tc .vmem S1024x1024 .f32) (h6 : a6.IsWhole)
  (x0 : Vec Ideal S1024x1024 .bf16) (x1 : Vec Ideal S1024x1024 .bf16) (acc : Vec Ideal S1024x1024 .f32)

/-- The first of a block's 15 points stores zero plus its product. -/
theorem soutA (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A point in the middle adds its product to what the point before left. -/
theorem soutB (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero (S := S1024x1024) hz]
  simp only [View.readAt_eq_ld, h3.read_unread, h4.read_unread, h6.read_unread,
    View.ld_unit_zero (S := S1024x1024) hz]

/-- The last point adds its product to what the point before left, -/
theorem soutC (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero (S := S1024x1024) hz]
  simp only [View.readAt_eq_ld, h3.read_unread, h4.read_unread, h6.read_unread,
    View.ld_unit_zero (S := S1024x1024) hz]

/-- and hands the sum to the block of the result. -/
theorem outLast (hc0 : ¬cond0_0 i) (hc1 : cond0_1 i) :
    out0_C_2 c i a3 h3 a4 h4 a5 h5 a6 h6 hc0 hc1 x0 x1 acc = k0_pay2 acc x0 x1 := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread,
    View.ld_unit_zero (S := S1024x1024) hz]

end Bodies

variable (m : (ℓ : Loc nD τ sig) → Buf (Elt Ideal) ℓ) (ρ : Dev nD → PrngReg)

/-- The operands, and one term of their product. -/
abbrev opA (c : Dev nD) : S8192x15360.Idx → EReal := m ((c : Thread nD τ).loc main_arg0)
abbrev opB (c : Dev nD) : S2048x15360.Idx → EReal := m ((c : Thread nD τ).loc main_arg1)
abbrev term (c : Dev nD) (r c' k : ℕ) : EReal := at2 (opA m c) r k * at2 (opB m c) c' k

/-- Which block of each operand a point reads. -/
theorem idx_in : ∀ t : Fin cfg0.N, win0_0.index t (0 : Fin 2) = t.val / (2 * 15) ∧ win0_0.index t (1 : Fin 2) = t.val % 15
    ∧ win0_1.index t (0 : Fin 2) = t.val / 15 % 2 ∧ win0_1.index t (1 : Fin 2) = t.val % 15 :=
  (by decide +kernel : ∀ t : Fin grid0.N, _)

/-- The left block, read at natural coordinates. -/
theorem blkA (c : Dev nD) (t : Fin cfg0.N) (r k : ℕ) (hr : r < 1024) (hk : k < 1024) :
    at2 (a := 1024) (b := 1024) (iblk m c 0 t) r k = at2 (opA m c) (t.val / (2 * 15) * 1024 + r) (t.val % 15 * 1024 + k) := by
  obtain ⟨e0, e1, -, -⟩ := idx_in t
  rw [at2, dif_pos ⟨hr, hk⟩]
  refine at2_idx (opA m c) (((cfg0.win 0).blk t).view.emb (ix2 ⟨r, hr⟩ ⟨k, hk⟩)) _ _ ?_ ?_
  · show win0_0.index t (0 : Fin 2) * 1024 + 1 * r = _
    rw [e0]; omega
  · show win0_0.index t (1 : Fin 2) * 1024 + 1 * k = _
    rw [e1]; omega

/-- The right block, read at natural coordinates. -/
theorem blkB (c : Dev nD) (t : Fin cfg0.N) (r k : ℕ) (hr : r < 1024) (hk : k < 1024) :
    at2 (a := 1024) (b := 1024) (iblk m c 1 t) r k = at2 (opB m c) (t.val / 15 % 2 * 1024 + r) (t.val % 15 * 1024 + k) := by
  obtain ⟨-, -, e0, e1⟩ := idx_in t
  rw [at2, dif_pos ⟨hr, hk⟩]
  refine at2_idx (opB m c) (((cfg0.win 1).blk t).view.emb (ix2 ⟨r, hr⟩ ⟨k, hk⟩)) _ _ ?_ ?_
  · show win0_1.index t (0 : Fin 2) * 1024 + 1 * r = _
    rw [e0]; omega
  · show win0_1.index t (1 : Fin 2) * 1024 + 1 * k = _
    rw [e1]; omega

theorem blockSum_eq (c : Dev nD) (t : Fin cfg0.N) (j : S1024x1024.Idx) :
    blockSum (iblk m c 0 t) (iblk m c 1 t) j
      = tileSum (term m c) 2 15 1024 1024 1024 t.val (j 0).val (j 1).val := by
  refine Finset.sum_congr rfl fun k _ => ?_
  rw [blkA m c t _ _ (idx2_lt0 j) k.isLt, blkB m c t _ _ (idx2_lt1 j) k.isLt]

/-- What the carried block holds after the last point of a run: the sum of what the run's points add. -/
theorem carried (c : Dev nD) (t : Fin cfg0.N) (ht : t.val % 15 = 14) (j : S1024x1024.Idx) :
    (outsAt0 m c t.val t.isLt).2 j
      = ∑ s ∈ Finset.range 15, tileSum (term m c) 2 15 1024 1024 1024 (15 * (t.val / 15) + s) (j 0).val (j 1).val := by
  have hN := lt_of_lt_of_eq t.isLt (show cfg0.N = 240 from N_0)
  rw [Value.soutsAt0_0_eq]
  have key := Pipeline.accAt_add_apply (β := EReal)
    (fun n h => Value.scAt0_0 m c n h (VS0_0.read (Elt Ideal) VS0_0.junk)) (Value.scAt0_0 m c)
    (fun _ => 0) (fun n (j : S1024x1024.Idx) => tileSum (term m c) 2 15 1024 1024 1024 n (j 0).val (j 1).val) (15 * (t.val / 15)) 14
    (fun h i => by
      have h0 : 15 * (t.val / 15) % 15 = 0 := by omega
      have h1 : ¬15 * (t.val / 15) % 15 = 14 := by omega
      unfold Value.scAt0_0
      rw [dif_pos h0, dif_neg h1, soutA, pay2_apply, blockSum_eq m c ⟨15 * (t.val / 15), h⟩ i]
      congr 1
      unfold k0_pay1
      simp only [shapeCast_self, broadcast]
      exact ofBits_zero)
    (fun n h acc i hn1 hn2 => by
      have h0 : ¬n % 15 = 0 := by omega
      unfold Value.scAt0_0
      rw [dif_neg h0]
      split
      · rw [soutC, pay2_apply, blockSum_eq m c ⟨n, h⟩ i]
      · rw [soutB, pay2_apply, blockSum_eq m c ⟨n, h⟩ i])
    (t.val % 15) (by omega) (by have := Nat.div_add_mod t.val 15; omega) j
  rw [key, zero_add, ht]

/-- The whole product at an index. -/
def product (c : Dev nD) : S8192x2048.Idx → EReal := fun i => ∑ k : Fin 15360, term m c (i 0).val (i 1).val k.val

/-- The array after the run is the whole product. -/
theorem final (c : Dev nD) : Value.G2 m c = product m c := by
  funext i
  have hi0 : (i 0).val < 8192 := (i 0).isLt
  have hi1 : (i 1).val < 2048 := (i 1).isLt
  have hp : Value.pt2Of i < cfg0.N := by
    rw [show cfg0.N = 240 from N_0]
    show (15 * (2 * ((i 0).val / 1024 - 0) + 1 * ((i 1).val / 1024 - 0)) + 14) < 240
    omega
  have hm : Value.pt2Of i % 15 = 14 := by
    show (15 * (2 * ((i 0).val / 1024 - 0) + 1 * ((i 1).val / 1024 - 0)) + 14) % 15 = 14
    omega
  have hd : Value.pt2Of i / 15 = 2 * ((i 0).val / 1024) + (i 1).val / 1024 := by
    show (15 * (2 * ((i 0).val / 1024 - 0) + 1 * ((i 1).val / 1024 - 0)) + 14) / 15 = _
    omega
  have key : (outsAt0 m c (Value.pt2Of i) hp).2 (Value.loc2Of i) = ∑ k : Fin 15360, term m c (i 0).val (i 1).val k.val := by
    refine (carried m c ⟨Value.pt2Of i, hp⟩ hm _).trans ?_
    dsimp only
    rw [hd]
    exact sum_tiles (term m c) 2 15 1024 1024 1024 (i 0).val (i 1).val (by decide) (by decide) hi1
  unfold Value.G2
  rw [dif_pos hp, ← Value.outsAt0_sweep m c _ hp]
  have hC := outsAt0_C m c ⟨Value.pt2Of i, hp⟩ (by dsimp only; omega) hm
  dsimp only at hC
  rw [hC] at key ⊢
  dsimp only at key ⊢
  rw [soutC] at key
  rw [outLast]
  exact key

end Cert.KernelPbxIdeal.Product

namespace Cert.ReferencePbxIdeal.Product

open Idealize.ShloMosaic Idealize.ShloMosaic.TcCoe Idealize.SL.Sem
open Cert.ReferencePbxIdeal Cert.ReferencePbxIdeal.Gen Cert.Products
open scoped BigOperators

/-- The reference's array at an index. -/
theorem dot_apply (A : S8192x15360.Idx → EReal) (B : S2048x15360.Idx → EReal) :
    Host.dotGeneral (F := Ideal) (φ₁ := .f32) (φ₂ := .f32) dot_S8192x15360_S2048x15360_S8192x2048_1_1_0_0_n_n none
      (extf .f32 (A : FVec Ideal S8192x15360 .bf16) bitsLt_bf16_f32)
      (extf .f32 (B : FVec Ideal S2048x15360 .bf16) bitsLt_bf16_f32)
      = fun i => ∑ k : Fin 15360, at2 A (i 0).val k.val * at2 B (i 1).val k.val := by
  funext i
  simp only [Host.dotGeneral, Ideal.dotGeneral_def, Ideal.matmul, zero_add]
  exact sum_transposedRhs (M := 8192) (K := 15360) (N := 2048) A B i

end Cert.ReferencePbxIdeal.Product

namespace Cert.PbxValue

open Idealize.ShloMosaic Idealize.ShloMosaic.TcCoe Idealize.SL.Sem

/-- The gradient of the combined input projection with respect to its input: the kernel's array is the reference's. -/
theorem algebraic : Cert.algebraic_KernelPbxIdeal_ReferencePbxIdeal (hKernelPbxIdeal := Cert.KernelPbxIdeal.Gen.facts)
    (hReferencePbxIdeal := Cert.ReferencePbxIdeal.Gen.facts) :=
  fun m ρ m' ρ' _ hag => ⟨fun c => Cert.KernelPbxIdeal.Product.product m c,
    (θ_run _ _ _).mono (fun _ h c => ⟨(h c).1.trans (Cert.KernelPbxIdeal.Product.final m c), (h c).2⟩)
      (Cert.KernelPbxIdeal.Value.run m ρ),
    (θ_run _ _ _).mono (fun _ h c => ⟨(h c).1.trans (by
      rw [(hag c).1, (hag c).2]
      exact Cert.ReferencePbxIdeal.Product.dot_apply _ _), (h c).2⟩) (Cert.ReferencePbxIdeal.Value.run m' ρ')⟩

/-- The reference runs, leaves its arguments as they were, and ends with every counter at zero. -/
theorem reference_frame : Cert.quiescent_ReferencePbxIdeal (hReferencePbxIdeal := Cert.ReferencePbxIdeal.Gen.facts) :=
  fun m ρ _ => (θ_run _ _ _).mono (fun r h => ⟨fun c => (h c).2, sem_eq_zero_of_no_sems (by decide) r.2⟩)
    (Cert.ReferencePbxIdeal.Value.run m ρ)

end Cert.PbxValue

end
-- ==== Proof.PbwValue.lean ====
/-
  The gradient of the combined input projection's weight: `hᵀ · dproj`.
  Each block of the result is accumulated over 8 blocks of the inner axis.
  What one point adds, what the array holds after the run, and that this is the reference's array.
-/
module

public import proofs.«01_k».proof.Defs
public import proofs.«01_k».proof.Proof.Products
public import proofs.«01_k».proof.Proof.Gen.KernelPbwIdeal.Value
public import proofs.«01_k».proof.Proof.Gen.ReferencePbwIdeal.Run
public import Idealize.ShloMosaic.Lib.Pipeline.Value
public import Idealize.ShloMosaic.PureOps.Ideal

@[expose] public section

noncomputable section

namespace Cert.KernelPbwIdeal.Product

open Idealize.ShloMosaic Idealize.ShloMosaic.TcCoe Idealize.SL.Sem Idealize.ShloMosaic.ValueIdx
open Cert.KernelPbwIdeal Cert.KernelPbwIdeal.Gen Cert.Products
open scoped BigOperators

theorem hz : (![0, 0] : Fin 2 → Nat) = fun _ => 0 := funext fun a => by fin_cases a <;> rfl

/-- What one point adds: the sum over its 1024 inner coordinates. -/
abbrev blockSum (x0 : Vec Ideal S1024x1024 .bf16) (x1 : Vec Ideal S1024x1024 .bf16) (j : S1024x1024.Idx) : EReal :=
  ∑ k : Fin 1024, at2 x0 k.val (j 0).val * at2 x1 k.val (j 1).val

/-- The body's product added to what it read, at an index. -/
theorem pay2_apply (acc : Vec Ideal S1024x1024 .f32) (x0 : Vec Ideal S1024x1024 .bf16) (x1 : Vec Ideal S1024x1024 .bf16) (j : S1024x1024.Idx) :
    k0_pay2 acc x0 x1 j = (acc j : EReal) + blockSum x0 x1 j := by
  unfold k0_pay2
  simp only [shapeCast_self, addf, matmul, constant, Ideal.addf_def, Ideal.matmul_def, Ideal.matmul]
  show (acc j : EReal) + (Ideal.ofBits .f32 0x00000000#32 + _) = _
  rw [ofBits_zero, zero_add]
  exact congrArg _ (sum_transposedLhs (M := 1024) (K := 1024) (N := 1024) x0 x1 j)

section Bodies
variable (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole)
  (a6 : Memref sig .tc .vmem S1024x1024 .f32) (h6 : a6.IsWhole)
  (x0 : Vec Ideal S1024x1024 .bf16) (x1 : Vec Ideal S1024x1024 .bf16) (acc : Vec Ideal S1024x1024 .f32)

/-- The first of a block's 8 points stores zero plus its product. -/
theorem soutA (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A point in the middle adds its product to what the point before left. -/
theorem soutB (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero (S := S1024x1024) hz]
  simp only [View.readAt_eq_ld, h3.read_unread, h4.read_unread, h6.read_unread,
    View.ld_unit_zero (S := S1024x1024) hz]

/-- The last point adds its product to what the point before left, -/
theorem soutC (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero (S := S1024x1024) hz]
  simp only [View.readAt_eq_ld, h3.read_unread, h4.read_unread, h6.read_unread,
    View.ld_unit_zero (S := S1024x1024) hz]

/-- and hands the sum to the block of the result. -/
theorem outLast (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread,
    View.ld_unit_zero (S := S1024x1024) hz]

end Bodies

variable (m : (ℓ : Loc nD τ sig) → Buf (Elt Ideal) ℓ) (ρ : Dev nD → PrngReg)

/-- The operands, and one term of their product. -/
abbrev opA (c : Dev nD) : S8192x2048.Idx → EReal := m ((c : Thread nD τ).loc main_arg0)
abbrev opB (c : Dev nD) : S8192x15360.Idx → EReal := m ((c : Thread nD τ).loc main_arg1)
abbrev term (c : Dev nD) (r c' k : ℕ) : EReal := at2 (opA m c) k r * at2 (opB m c) k c'

/-- Which block of each operand a point reads. -/
theorem idx_in : ∀ t : Fin cfg0.N, win0_0.index t (0 : Fin 2) = t.val % 8 ∧ win0_0.index t (1 : Fin 2) = t.val / (15 * 8)
    ∧ win0_1.index t (0 : Fin 2) = t.val % 8 ∧ win0_1.index t (1 : Fin 2) = t.val / 8 % 15 :=
  (by decide +kernel : ∀ t : Fin grid0.N, _)

/-- The left block, read at natural coordinates. -/
theorem blkA (c : Dev nD) (t : Fin cfg0.N) (r k : ℕ) (hr : r < 1024) (hk : k < 1024) :
    at2 (a := 1024) (b := 1024) (iblk m c 0 t) r k = at2 (opA m c) (t.val % 8 * 1024 + r) (t.val / (15 * 8) * 1024 + k) := by
  obtain ⟨e0, e1, -, -⟩ := idx_in t
  rw [at2, dif_pos ⟨hr, hk⟩]
  refine at2_idx (opA m c) (((cfg0.win 0).blk t).view.emb (ix2 ⟨r, hr⟩ ⟨k, hk⟩)) _ _ ?_ ?_
  · show win0_0.index t (0 : Fin 2) * 1024 + 1 * r = _
    rw [e0]; omega
  · show win0_0.index t (1 : Fin 2) * 1024 + 1 * k = _
    rw [e1]; omega

/-- The right block, read at natural coordinates. -/
theorem blkB (c : Dev nD) (t : Fin cfg0.N) (r k : ℕ) (hr : r < 1024) (hk : k < 1024) :
    at2 (a := 1024) (b := 1024) (iblk m c 1 t) r k = at2 (opB m c) (t.val % 8 * 1024 + r) (t.val / 8 % 15 * 1024 + k) := by
  obtain ⟨-, -, e0, e1⟩ := idx_in t
  rw [at2, dif_pos ⟨hr, hk⟩]
  refine at2_idx (opB m c) (((cfg0.win 1).blk t).view.emb (ix2 ⟨r, hr⟩ ⟨k, hk⟩)) _ _ ?_ ?_
  · show win0_1.index t (0 : Fin 2) * 1024 + 1 * r = _
    rw [e0]; omega
  · show win0_1.index t (1 : Fin 2) * 1024 + 1 * k = _
    rw [e1]; omega

theorem blockSum_eq (c : Dev nD) (t : Fin cfg0.N) (j : S1024x1024.Idx) :
    blockSum (iblk m c 0 t) (iblk m c 1 t) j
      = tileSum (term m c) 15 8 1024 1024 1024 t.val (j 0).val (j 1).val := by
  refine Finset.sum_congr rfl fun k _ => ?_
  rw [blkA m c t _ _ k.isLt (idx2_lt0 j), blkB m c t _ _ k.isLt (idx2_lt1 j)]

/-- What the carried block holds after the last point of a run: the sum of what the run's points add. -/
theorem carried (c : Dev nD) (t : Fin cfg0.N) (ht : t.val % 8 = 7) (j : S1024x1024.Idx) :
    (outsAt0 m c t.val t.isLt).2 j
      = ∑ s ∈ Finset.range 8, tileSum (term m c) 15 8 1024 1024 1024 (8 * (t.val / 8) + s) (j 0).val (j 1).val := by
  have hN := lt_of_lt_of_eq t.isLt (show cfg0.N = 240 from N_0)
  rw [Value.soutsAt0_0_eq]
  have key := Pipeline.accAt_add_apply (β := EReal)
    (fun n h => Value.scAt0_0 m c n h (VS0_0.read (Elt Ideal) VS0_0.junk)) (Value.scAt0_0 m c)
    (fun _ => 0) (fun n (j : S1024x1024.Idx) => tileSum (term m c) 15 8 1024 1024 1024 n (j 0).val (j 1).val) (8 * (t.val / 8)) 7
    (fun h i => by
      have h0 : 8 * (t.val / 8) % 8 = 0 := by omega
      have h1 : ¬8 * (t.val / 8) % 8 = 7 := by omega
      unfold Value.scAt0_0
      rw [dif_pos h0, dif_neg h1, soutA, pay2_apply, blockSum_eq m c ⟨8 * (t.val / 8), h⟩ i]
      congr 1
      unfold k0_pay1
      simp only [shapeCast_self, broadcast]
      exact ofBits_zero)
    (fun n h acc i hn1 hn2 => by
      have h0 : ¬n % 8 = 0 := by omega
      unfold Value.scAt0_0
      rw [dif_neg h0]
      split
      · rw [soutC, pay2_apply, blockSum_eq m c ⟨n, h⟩ i]
      · rw [soutB, pay2_apply, blockSum_eq m c ⟨n, h⟩ i])
    (t.val % 8) (by omega) (by have := Nat.div_add_mod t.val 8; omega) j
  rw [key, zero_add, ht]

/-- The whole product at an index. -/
def product (c : Dev nD) : S2048x15360.Idx → EReal := fun i => ∑ k : Fin 8192, term m c (i 0).val (i 1).val k.val

/-- The array after the run is the whole product. -/
theorem final (c : Dev nD) : Value.G2 m c = product m c := by
  funext i
  have hi0 : (i 0).val < 2048 := (i 0).isLt
  have hi1 : (i 1).val < 15360 := (i 1).isLt
  have hp : Value.pt2Of i < cfg0.N := by
    rw [show cfg0.N = 240 from N_0]
    show (8 * (15 * ((i 0).val / 1024 - 0) + 1 * ((i 1).val / 1024 - 0)) + 7) < 240
    omega
  have hm : Value.pt2Of i % 8 = 7 := by
    show (8 * (15 * ((i 0).val / 1024 - 0) + 1 * ((i 1).val / 1024 - 0)) + 7) % 8 = 7
    omega
  have hd : Value.pt2Of i / 8 = 15 * ((i 0).val / 1024) + (i 1).val / 1024 := by
    show (8 * (15 * ((i 0).val / 1024 - 0) + 1 * ((i 1).val / 1024 - 0)) + 7) / 8 = _
    omega
  have key : (outsAt0 m c (Value.pt2Of i) hp).2 (Value.loc2Of i) = ∑ k : Fin 8192, term m c (i 0).val (i 1).val k.val := by
    refine (carried m c ⟨Value.pt2Of i, hp⟩ hm _).trans ?_
    dsimp only
    rw [hd]
    exact sum_tiles (term m c) 15 8 1024 1024 1024 (i 0).val (i 1).val (by decide) (by decide) hi1
  unfold Value.G2
  rw [dif_pos hp, ← Value.outsAt0_sweep m c _ hp]
  have hC := outsAt0_C m c ⟨Value.pt2Of i, hp⟩ (by dsimp only; omega) hm
  dsimp only at hC
  rw [hC] at key ⊢
  dsimp only at key ⊢
  rw [soutC] at key
  rw [outLast]
  exact key

end Cert.KernelPbwIdeal.Product

namespace Cert.ReferencePbwIdeal.Product

open Idealize.ShloMosaic Idealize.ShloMosaic.TcCoe Idealize.SL.Sem
open Cert.ReferencePbwIdeal Cert.ReferencePbwIdeal.Gen Cert.Products
open scoped BigOperators

/-- The reference's array at an index. -/
theorem dot_apply (A : S8192x2048.Idx → EReal) (B : S8192x15360.Idx → EReal) :
    truncf .bf16 (transpose S2048x15360 [1, 0] (Host.dotGeneral (F := Ideal) (φ₁ := .f32) (φ₂ := .f32) dot_S8192x15360_S8192x2048_S15360x2048_0_0_1_1_n_n none
      (extf .f32 (B : FVec Ideal S8192x15360 .bf16) bitsLt_bf16_f32)
      (extf .f32 (A : FVec Ideal S8192x2048 .bf16) bitsLt_bf16_f32)) transposes_S15360x2048_S2048x15360_1_0) bitsLt_bf16_f32
      = fun i => ∑ k : Fin 8192, at2 A k.val (i 0).val * at2 B k.val (i 1).val := by
  funext i
  simp only [truncf, transpose, Host.dotGeneral, Ideal.truncf_def, Ideal.dotGeneral_def, Ideal.matmul, zero_add]
  refine (sum_transposedLhs (M := 15360) (K := 8192) (N := 2048) B A _).trans ?_
  refine Finset.sum_congr rfl fun k _ => ?_
  have e0 : ((transposes_S15360x2048_S2048x15360_1_0.src i) 0 : ℕ) = i 1 := by simp [Shape.Transposes.src]; rfl
  have e1 : ((transposes_S15360x2048_S2048x15360_1_0.src i) 1 : ℕ) = i 0 := by simp [Shape.Transposes.src]; rfl
  rw [e0, e1]
  exact mul_comm _ _

end Cert.ReferencePbwIdeal.Product

namespace Cert.PbwValue

open Idealize.ShloMosaic Idealize.ShloMosaic.TcCoe Idealize.SL.Sem

/-- The gradient of the combined input projection's weight: the kernel's array is the reference's. -/
theorem algebraic : Cert.algebraic_KernelPbwIdeal_ReferencePbwIdeal (hKernelPbwIdeal := Cert.KernelPbwIdeal.Gen.facts)
    (hReferencePbwIdeal := Cert.ReferencePbwIdeal.Gen.facts) :=
  fun m ρ m' ρ' _ hag => ⟨fun c => Cert.KernelPbwIdeal.Product.product m c,
    (θ_run _ _ _).mono (fun _ h c => ⟨(h c).1.trans (Cert.KernelPbwIdeal.Product.final m c), (h c).2⟩)
      (Cert.KernelPbwIdeal.Value.run m ρ),
    (θ_run _ _ _).mono (fun _ h c => ⟨(h c).1.trans (by
      rw [(hag c).1, (hag c).2]
      exact Cert.ReferencePbwIdeal.Product.dot_apply _ _), (h c).2⟩) (Cert.ReferencePbwIdeal.Value.run m' ρ')⟩

/-- The reference runs, leaves its arguments as they were, and ends with every counter at zero. -/
theorem reference_frame : Cert.quiescent_ReferencePbwIdeal (hReferencePbwIdeal := Cert.ReferencePbwIdeal.Gen.facts) :=
  fun m ρ _ => (θ_run _ _ _).mono (fun r h => ⟨fun c => (h c).2, sem_eq_zero_of_no_sems (by decide) r.2⟩)
    (Cert.ReferencePbwIdeal.Value.run m ρ)

end Cert.PbwValue

end
-- ==== Proof.WbxValue.lean ====
/-
  The gradient of the output projection with respect to its input: `dx_next · w_outᵀ`.
  Each block of the result is accumulated over 2 blocks of the inner axis.
  What one point adds, what the array holds after the run, and that this is the reference's array.
-/
module

public import proofs.«01_k».proof.Defs
public import proofs.«01_k».proof.Proof.Products
public import proofs.«01_k».proof.Proof.Gen.KernelWbxIdeal.Value
public import proofs.«01_k».proof.Proof.Gen.ReferenceWbxIdeal.Run
public import Idealize.ShloMosaic.Lib.Pipeline.Value
public import Idealize.ShloMosaic.PureOps.Ideal

@[expose] public section

noncomputable section

namespace Cert.KernelWbxIdeal.Product

open Idealize.ShloMosaic Idealize.ShloMosaic.TcCoe Idealize.SL.Sem Idealize.ShloMosaic.ValueIdx
open Cert.KernelWbxIdeal Cert.KernelWbxIdeal.Gen Cert.Products
open scoped BigOperators

theorem hz : (![0, 0] : Fin 2 → Nat) = fun _ => 0 := funext fun a => by fin_cases a <;> rfl

/-- What one point adds: the sum over its 1024 inner coordinates. -/
abbrev blockSum (x0 : Vec Ideal S1024x1024 .f32) (x1 : Vec Ideal S1024x1024 .bf16) (j : S1024x1024.Idx) : EReal :=
  ∑ k : Fin 1024, at2 x0 (j 0).val k.val * at2 x1 (j 1).val k.val

/-- The body's product added to what it read, at an index. -/
theorem pay2_apply (acc : Vec Ideal S1024x1024 .f32) (x0 : Vec Ideal S1024x1024 .f32) (x1 : Vec Ideal S1024x1024 .bf16) (j : S1024x1024.Idx) :
    k0_pay2 acc x0 x1 j = (acc j : EReal) + blockSum x0 x1 j := by
  unfold k0_pay2
  simp only [shapeCast_self, addf, matmul, constant, Ideal.addf_def, Ideal.matmul_def, Ideal.matmul]
  show (acc j : EReal) + (Ideal.ofBits .f32 0x00000000#32 + _) = _
  rw [ofBits_zero, zero_add]
  exact congrArg _ (sum_transposedRhs (M := 1024) (K := 1024) (N := 1024) x0 x1 j)

section Bodies
variable (c : Dev nD) (i : grid0.Coords)
  (a3 : Memref sig .tc .vmem S1024x1024 .f32) (h3 : a3.IsWhole) (a4 : Memref sig .tc .vmem S1024x1024 .bf16) (h4 : a4.IsWhole)
  (a5 : Memref sig .tc .vmem S1024x1024 .bf16) (h5 : a5.IsWhole)
  (a6 : Memref sig .tc .vmem S1024x1024 .f32) (h6 : a6.IsWhole)
  (x0 : Vec Ideal S1024x1024 .f32) (x1 : Vec Ideal S1024x1024 .bf16) (acc : Vec Ideal S1024x1024 .f32)

/-- The first of a block's 2 points stores zero plus its product. -/
theorem soutA (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- The last point adds its product to what the point before left, -/
theorem soutB (hc0 : ¬cond0_0 i) (hc1 : cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero (S := S1024x1024) hz]
  simp only [View.readAt_eq_ld, h3.read_unread, h4.read_unread, h6.read_unread,
    View.ld_unit_zero (S := S1024x1024) hz]

/-- and hands the sum to the block of the result. -/
theorem outLast (hc0 : ¬cond0_0 i) (hc1 : cond0_1 i) :
    out0_B_2 c i a3 h3 a4 h4 a5 h5 a6 h6 hc0 hc1 x0 x1 acc = k0_pay3 (k0_pay2 acc x0 x1) := by
  unfold out0_B_2
  rw [View.read_writes_eq_canon _ _ _ (cover0_B_2 c i a3 h3 a4 h4 a5 h5 a6 h6 hc0 hc1 x0 x1 acc)]
  unfold kernelRun0_B
  dsimp only
  sl_unfold_words
  rw [View.canon_unit_zero (S := S1024x1024) hz, View.readCov_unit_zero (S := S1024x1024) _ hz]
  simp only [View.readAt_eq_ld, h3.read_unread, h4.read_unread, h6.read_unread,
    View.ld_unit_zero (S := S1024x1024) hz]

end Bodies

variable (m : (ℓ : Loc nD τ sig) → Buf (Elt Ideal) ℓ) (ρ : Dev nD → PrngReg)

/-- The operands, and one term of their product. -/
abbrev opA (c : Dev nD) : S8192x2048.Idx → EReal := m ((c : Thread nD τ).loc main_arg0)
abbrev opB (c : Dev nD) : S2048x2048.Idx → EReal := m ((c : Thread nD τ).loc main_arg1)
abbrev term (c : Dev nD) (r c' k : ℕ) : EReal := at2 (opA m c) r k * at2 (opB m c) c' k

/-- Which block of each operand a point reads. -/
theorem idx_in : ∀ t : Fin cfg0.N, win0_0.index t (0 : Fin 2) = t.val / (2 * 2) ∧ win0_0.index t (1 : Fin 2) = t.val % 2
    ∧ win0_1.index t (0 : Fin 2) = t.val / 2 % 2 ∧ win0_1.index t (1 : Fin 2) = t.val % 2 :=
  (by decide +kernel : ∀ t : Fin grid0.N, _)

/-- The left block, read at natural coordinates. -/
theorem blkA (c : Dev nD) (t : Fin cfg0.N) (r k : ℕ) (hr : r < 1024) (hk : k < 1024) :
    at2 (a := 1024) (b := 1024) (iblk m c 0 t) r k = at2 (opA m c) (t.val / (2 * 2) * 1024 + r) (t.val % 2 * 1024 + k) := by
  obtain ⟨e0, e1, -, -⟩ := idx_in t
  rw [at2, dif_pos ⟨hr, hk⟩]
  refine at2_idx (opA m c) (((cfg0.win 0).blk t).view.emb (ix2 ⟨r, hr⟩ ⟨k, hk⟩)) _ _ ?_ ?_
  · show win0_0.index t (0 : Fin 2) * 1024 + 1 * r = _
    rw [e0]; omega
  · show win0_0.index t (1 : Fin 2) * 1024 + 1 * k = _
    rw [e1]; omega

/-- The right block, read at natural coordinates. -/
theorem blkB (c : Dev nD) (t : Fin cfg0.N) (r k : ℕ) (hr : r < 1024) (hk : k < 1024) :
    at2 (a := 1024) (b := 1024) (iblk m c 1 t) r k = at2 (opB m c) (t.val / 2 % 2 * 1024 + r) (t.val % 2 * 1024 + k) := by
  obtain ⟨-, -, e0, e1⟩ := idx_in t
  rw [at2, dif_pos ⟨hr, hk⟩]
  refine at2_idx (opB m c) (((cfg0.win 1).blk t).view.emb (ix2 ⟨r, hr⟩ ⟨k, hk⟩)) _ _ ?_ ?_
  · show win0_1.index t (0 : Fin 2) * 1024 + 1 * r = _
    rw [e0]; omega
  · show win0_1.index t (1 : Fin 2) * 1024 + 1 * k = _
    rw [e1]; omega

theorem blockSum_eq (c : Dev nD) (t : Fin cfg0.N) (j : S1024x1024.Idx) :
    blockSum (iblk m c 0 t) (iblk m c 1 t) j
      = tileSum (term m c) 2 2 1024 1024 1024 t.val (j 0).val (j 1).val := by
  refine Finset.sum_congr rfl fun k _ => ?_
  rw [blkA m c t _ _ (idx2_lt0 j) k.isLt, blkB m c t _ _ (idx2_lt1 j) k.isLt]

/-- What the carried block holds after the last point of a run: the sum of what the run's points add. -/
theorem carried (c : Dev nD) (t : Fin cfg0.N) (ht : t.val % 2 = 1) (j : S1024x1024.Idx) :
    (outsAt0 m c t.val t.isLt).2 j
      = ∑ s ∈ Finset.range 2, tileSum (term m c) 2 2 1024 1024 1024 (2 * (t.val / 2) + s) (j 0).val (j 1).val := by
  have hN := lt_of_lt_of_eq t.isLt (show cfg0.N = 32 from N_0)
  rw [Value.soutsAt0_0_eq]
  have key := Pipeline.accAt_add_apply (β := EReal)
    (fun n h => Value.scAt0_0 m c n h (VS0_0.read (Elt Ideal) VS0_0.junk)) (Value.scAt0_0 m c)
    (fun _ => 0) (fun n (j : S1024x1024.Idx) => tileSum (term m c) 2 2 1024 1024 1024 n (j 0).val (j 1).val) (2 * (t.val / 2)) 1
    (fun h i => by
      have h0 : 2 * (t.val / 2) % 2 = 0 := by omega
      have h1 : ¬2 * (t.val / 2) % 2 = 1 := by omega
      unfold Value.scAt0_0
      rw [dif_pos h0, dif_neg h1, soutA, pay2_apply, blockSum_eq m c ⟨2 * (t.val / 2), h⟩ i]
      congr 1
      unfold k0_pay1
      simp only [shapeCast_self, broadcast]
      exact ofBits_zero)
    (fun n h acc i hn1 hn2 => by
      have h0 : ¬n % 2 = 0 := by omega
      have h1 : n % 2 = 1 := by omega
      unfold Value.scAt0_0
      rw [dif_neg h0, dif_pos h1, soutB, pay2_apply, blockSum_eq m c ⟨n, h⟩ i])
    (t.val % 2) (by omega) (by have := Nat.div_add_mod t.val 2; omega) j
  rw [key, zero_add, ht]

/-- The whole product at an index. -/
def product (c : Dev nD) : S8192x2048.Idx → EReal := fun i => ∑ k : Fin 2048, term m c (i 0).val (i 1).val k.val

/-- The array after the run is the whole product. -/
theorem final (c : Dev nD) : Value.G2 m c = product m c := by
  funext i
  have hi0 : (i 0).val < 8192 := (i 0).isLt
  have hi1 : (i 1).val < 2048 := (i 1).isLt
  have hp : Value.pt2Of i < cfg0.N := by
    rw [show cfg0.N = 32 from N_0]
    show (2 * (2 * ((i 0).val / 1024 - 0) + 1 * ((i 1).val / 1024 - 0)) + 1) < 32
    omega
  have hm : Value.pt2Of i % 2 = 1 := by
    show (2 * (2 * ((i 0).val / 1024 - 0) + 1 * ((i 1).val / 1024 - 0)) + 1) % 2 = 1
    omega
  have hd : Value.pt2Of i / 2 = 2 * ((i 0).val / 1024) + (i 1).val / 1024 := by
    show (2 * (2 * ((i 0).val / 1024 - 0) + 1 * ((i 1).val / 1024 - 0)) + 1) / 2 = _
    omega
  have key : (outsAt0 m c (Value.pt2Of i) hp).2 (Value.loc2Of i) = ∑ k : Fin 2048, term m c (i 0).val (i 1).val k.val := by
    refine (carried m c ⟨Value.pt2Of i, hp⟩ hm _).trans ?_
    dsimp only
    rw [hd]
    exact sum_tiles (term m c) 2 2 1024 1024 1024 (i 0).val (i 1).val (by decide) (by decide) hi1
  unfold Value.G2
  rw [dif_pos hp, ← Value.outsAt0_sweep m c _ hp]
  have hC := outsAt0_B m c ⟨Value.pt2Of i, hp⟩ (by dsimp only; omega) hm
  dsimp only at hC
  rw [hC] at key ⊢
  dsimp only at key ⊢
  rw [soutB] at key
  rw [outLast]
  exact key

end Cert.KernelWbxIdeal.Product

namespace Cert.ReferenceWbxIdeal.Product

open Idealize.ShloMosaic Idealize.ShloMosaic.TcCoe Idealize.SL.Sem
open Cert.ReferenceWbxIdeal Cert.ReferenceWbxIdeal.Gen Cert.Products
open scoped BigOperators

/-- The reference's array at an index. -/
theorem dot_apply (A : S8192x2048.Idx → EReal) (B : S2048x2048.Idx → EReal) :
    truncf .bf16 (Host.dotGeneral (F := Ideal) (φ₁ := .f32) (φ₂ := .f32) dot_S8192x2048_S2048x2048_S8192x2048_1_1_0_0_n_n none
      (A : FVec Ideal S8192x2048 .f32)
      (extf .f32 (B : FVec Ideal S2048x2048 .bf16) bitsLt_bf16_f32)) bitsLt_bf16_f32
      = fun i => ∑ k : Fin 2048, at2 A (i 0).val k.val * at2 B (i 1).val k.val := by
  funext i
  simp only [truncf, Ideal.truncf_def, Host.dotGeneral, Ideal.dotGeneral_def, Ideal.matmul, zero_add]
  exact sum_transposedRhs (M := 8192) (K := 2048) (N := 2048) A B i

end Cert.ReferenceWbxIdeal.Product

namespace Cert.WbxValue

open Idealize.ShloMosaic Idealize.ShloMosaic.TcCoe Idealize.SL.Sem

/-- The gradient of the output projection with respect to its input: the kernel's array is the reference's. -/
theorem algebraic : Cert.algebraic_KernelWbxIdeal_ReferenceWbxIdeal (hKernelWbxIdeal := Cert.KernelWbxIdeal.Gen.facts)
    (hReferenceWbxIdeal := Cert.ReferenceWbxIdeal.Gen.facts) :=
  fun m ρ m' ρ' _ hag => ⟨fun c => Cert.KernelWbxIdeal.Product.product m c,
    (θ_run _ _ _).mono (fun _ h c => ⟨(h c).1.trans (Cert.KernelWbxIdeal.Product.final m c), (h c).2⟩)
      (Cert.KernelWbxIdeal.Value.run m ρ),
    (θ_run _ _ _).mono (fun _ h c => ⟨(h c).1.trans (by
      rw [(hag c).1, (hag c).2]
      exact Cert.ReferenceWbxIdeal.Product.dot_apply _ _), (h c).2⟩) (Cert.ReferenceWbxIdeal.Value.run m' ρ')⟩

/-- The reference runs, leaves its arguments as they were, and ends with every counter at zero. -/
theorem reference_frame : Cert.quiescent_ReferenceWbxIdeal (hReferenceWbxIdeal := Cert.ReferenceWbxIdeal.Gen.facts) :=
  fun m ρ _ => (θ_run _ _ _).mono (fun r h => ⟨fun c => (h c).2, sem_eq_zero_of_no_sems (by decide) r.2⟩)
    (Cert.ReferenceWbxIdeal.Value.run m ρ)

end Cert.WbxValue

end
-- ==== Proof.WbwValue.lean ====
/-
  The gradient of the output projection's weight: `mergedᵀ · dx_next`.
  Each block of the result is accumulated over 8 blocks of the inner axis.
  What one point adds, what the array holds after the run, and that this is the reference's array.
-/
module

public import proofs.«01_k».proof.Defs
public import proofs.«01_k».proof.Proof.Products
public import proofs.«01_k».proof.Proof.Gen.KernelWbwIdeal.Value
public import proofs.«01_k».proof.Proof.Gen.ReferenceWbwIdeal.Run
public import Idealize.ShloMosaic.Lib.Pipeline.Value
public import Idealize.ShloMosaic.PureOps.Ideal

@[expose] public section

noncomputable section

namespace Cert.KernelWbwIdeal.Product

open Idealize.ShloMosaic Idealize.ShloMosaic.TcCoe Idealize.SL.Sem Idealize.ShloMosaic.ValueIdx
open Cert.KernelWbwIdeal Cert.KernelWbwIdeal.Gen Cert.Products
open scoped BigOperators

theorem hz : (![0, 0] : Fin 2 → Nat) = fun _ => 0 := funext fun a => by fin_cases a <;> rfl

/-- What one point adds: the sum over its 1024 inner coordinates. -/
abbrev blockSum (x0 : Vec Ideal S1024x1024 .bf16) (x1 : Vec Ideal S1024x1024 .f32) (j : S1024x1024.Idx) : EReal :=
  ∑ k : Fin 1024, at2 x0 k.val (j 0).val * at2 x1 k.val (j 1).val

/-- The body's product added to what it read, at an index. -/
theorem pay2_apply (acc : Vec Ideal S1024x1024 .f32) (x0 : Vec Ideal S1024x1024 .bf16) (x1 : Vec Ideal S1024x1024 .f32) (j : S1024x1024.Idx) :
    k0_pay2 acc x0 x1 j = (acc j : EReal) + blockSum x0 x1 j := by
  unfold k0_pay2
  simp only [shapeCast_self, addf, matmul, constant, Ideal.addf_def, Ideal.matmul_def, Ideal.matmul]
  show (acc j : EReal) + (Ideal.ofBits .f32 0x00000000#32 + _) = _
  rw [ofBits_zero, zero_add]
  exact congrArg _ (sum_transposedLhs (M := 1024) (K := 1024) (N := 1024) x0 x1 j)

section Bodies
variable (c : Dev nD) (i : grid0.Coords)
  (a3 : Memref sig .tc .vmem S1024x1024 .bf16) (h3 : a3.IsWhole) (a4 : Memref sig .tc .vmem S1024x1024 .f32) (h4 : a4.IsWhole)
  (a5 : Memref sig .tc .vmem S1024x1024 .bf16) (h5 : a5.IsWhole)
  (a6 : Memref sig .tc .vmem S1024x1024 .f32) (h6 : a6.IsWhole)
  (x0 : Vec Ideal S1024x1024 .bf16) (x1 : Vec Ideal S1024x1024 .f32) (acc : Vec Ideal S1024x1024 .f32)

/-- The first of a block's 8 points stores zero plus its product. -/
theorem soutA (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A point in the middle adds its product to what the point before left. -/
theorem soutB (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero (S := S1024x1024) hz]
  simp only [View.readAt_eq_ld, h3.read_unread, h4.read_unread, h6.read_unread,
    View.ld_unit_zero (S := S1024x1024) hz]

/-- The last point adds its product to what the point before left, -/
theorem soutC (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero (S := S1024x1024) hz]
  simp only [View.readAt_eq_ld, h3.read_unread, h4.read_unread, h6.read_unread,
    View.ld_unit_zero (S := S1024x1024) hz]

/-- and hands the sum to the block of the result. -/
theorem outLast (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread,
    View.ld_unit_zero (S := S1024x1024) hz]

end Bodies

variable (m : (ℓ : Loc nD τ sig) → Buf (Elt Ideal) ℓ) (ρ : Dev nD → PrngReg)

/-- The operands, and one term of their product. -/
abbrev opA (c : Dev nD) : S8192x2048.Idx → EReal := m ((c : Thread nD τ).loc main_arg0)
abbrev opB (c : Dev nD) : S8192x2048.Idx → EReal := m ((c : Thread nD τ).loc main_arg1)
abbrev term (c : Dev nD) (r c' k : ℕ) : EReal := at2 (opA m c) k r * at2 (opB m c) k c'

/-- Which block of each operand a point reads. -/
theorem idx_in : ∀ t : Fin cfg0.N, win0_0.index t (0 : Fin 2) = t.val % 8 ∧ win0_0.index t (1 : Fin 2) = t.val / (2 * 8)
    ∧ win0_1.index t (0 : Fin 2) = t.val % 8 ∧ win0_1.index t (1 : Fin 2) = t.val / 8 % 2 :=
  (by decide +kernel : ∀ t : Fin grid0.N, _)

/-- The left block, read at natural coordinates. -/
theorem blkA (c : Dev nD) (t : Fin cfg0.N) (r k : ℕ) (hr : r < 1024) (hk : k < 1024) :
    at2 (a := 1024) (b := 1024) (iblk m c 0 t) r k = at2 (opA m c) (t.val % 8 * 1024 + r) (t.val / (2 * 8) * 1024 + k) := by
  obtain ⟨e0, e1, -, -⟩ := idx_in t
  rw [at2, dif_pos ⟨hr, hk⟩]
  refine at2_idx (opA m c) (((cfg0.win 0).blk t).view.emb (ix2 ⟨r, hr⟩ ⟨k, hk⟩)) _ _ ?_ ?_
  · show win0_0.index t (0 : Fin 2) * 1024 + 1 * r = _
    rw [e0]; omega
  · show win0_0.index t (1 : Fin 2) * 1024 + 1 * k = _
    rw [e1]; omega

/-- The right block, read at natural coordinates. -/
theorem blkB (c : Dev nD) (t : Fin cfg0.N) (r k : ℕ) (hr : r < 1024) (hk : k < 1024) :
    at2 (a := 1024) (b := 1024) (iblk m c 1 t) r k = at2 (opB m c) (t.val % 8 * 1024 + r) (t.val / 8 % 2 * 1024 + k) := by
  obtain ⟨-, -, e0, e1⟩ := idx_in t
  rw [at2, dif_pos ⟨hr, hk⟩]
  refine at2_idx (opB m c) (((cfg0.win 1).blk t).view.emb (ix2 ⟨r, hr⟩ ⟨k, hk⟩)) _ _ ?_ ?_
  · show win0_1.index t (0 : Fin 2) * 1024 + 1 * r = _
    rw [e0]; omega
  · show win0_1.index t (1 : Fin 2) * 1024 + 1 * k = _
    rw [e1]; omega

theorem blockSum_eq (c : Dev nD) (t : Fin cfg0.N) (j : S1024x1024.Idx) :
    blockSum (iblk m c 0 t) (iblk m c 1 t) j
      = tileSum (term m c) 2 8 1024 1024 1024 t.val (j 0).val (j 1).val := by
  refine Finset.sum_congr rfl fun k _ => ?_
  rw [blkA m c t _ _ k.isLt (idx2_lt0 j), blkB m c t _ _ k.isLt (idx2_lt1 j)]

/-- What the carried block holds after the last point of a run: the sum of what the run's points add. -/
theorem carried (c : Dev nD) (t : Fin cfg0.N) (ht : t.val % 8 = 7) (j : S1024x1024.Idx) :
    (outsAt0 m c t.val t.isLt).2 j
      = ∑ s ∈ Finset.range 8, tileSum (term m c) 2 8 1024 1024 1024 (8 * (t.val / 8) + s) (j 0).val (j 1).val := by
  have hN := lt_of_lt_of_eq t.isLt (show cfg0.N = 32 from N_0)
  rw [Value.soutsAt0_0_eq]
  have key := Pipeline.accAt_add_apply (β := EReal)
    (fun n h => Value.scAt0_0 m c n h (VS0_0.read (Elt Ideal) VS0_0.junk)) (Value.scAt0_0 m c)
    (fun _ => 0) (fun n (j : S1024x1024.Idx) => tileSum (term m c) 2 8 1024 1024 1024 n (j 0).val (j 1).val) (8 * (t.val / 8)) 7
    (fun h i => by
      have h0 : 8 * (t.val / 8) % 8 = 0 := by omega
      have h1 : ¬8 * (t.val / 8) % 8 = 7 := by omega
      unfold Value.scAt0_0
      rw [dif_pos h0, dif_neg h1, soutA, pay2_apply, blockSum_eq m c ⟨8 * (t.val / 8), h⟩ i]
      congr 1
      unfold k0_pay1
      simp only [shapeCast_self, broadcast]
      exact ofBits_zero)
    (fun n h acc i hn1 hn2 => by
      have h0 : ¬n % 8 = 0 := by omega
      unfold Value.scAt0_0
      rw [dif_neg h0]
      split
      · rw [soutC, pay2_apply, blockSum_eq m c ⟨n, h⟩ i]
      · rw [soutB, pay2_apply, blockSum_eq m c ⟨n, h⟩ i])
    (t.val % 8) (by omega) (by have := Nat.div_add_mod t.val 8; omega) j
  rw [key, zero_add, ht]

/-- The whole product at an index. -/
def product (c : Dev nD) : S2048x2048.Idx → EReal := fun i => ∑ k : Fin 8192, term m c (i 0).val (i 1).val k.val

/-- The array after the run is the whole product. -/
theorem final (c : Dev nD) : Value.G2 m c = product m c := by
  funext i
  have hi0 : (i 0).val < 2048 := (i 0).isLt
  have hi1 : (i 1).val < 2048 := (i 1).isLt
  have hp : Value.pt2Of i < cfg0.N := by
    rw [show cfg0.N = 32 from N_0]
    show (8 * (2 * ((i 0).val / 1024 - 0) + 1 * ((i 1).val / 1024 - 0)) + 7) < 32
    omega
  have hm : Value.pt2Of i % 8 = 7 := by
    show (8 * (2 * ((i 0).val / 1024 - 0) + 1 * ((i 1).val / 1024 - 0)) + 7) % 8 = 7
    omega
  have hd : Value.pt2Of i / 8 = 2 * ((i 0).val / 1024) + (i 1).val / 1024 := by
    show (8 * (2 * ((i 0).val / 1024 - 0) + 1 * ((i 1).val / 1024 - 0)) + 7) / 8 = _
    omega
  have key : (outsAt0 m c (Value.pt2Of i) hp).2 (Value.loc2Of i) = ∑ k : Fin 8192, term m c (i 0).val (i 1).val k.val := by
    refine (carried m c ⟨Value.pt2Of i, hp⟩ hm _).trans ?_
    dsimp only
    rw [hd]
    exact sum_tiles (term m c) 2 8 1024 1024 1024 (i 0).val (i 1).val (by decide) (by decide) hi1
  unfold Value.G2
  rw [dif_pos hp, ← Value.outsAt0_sweep m c _ hp]
  have hC := outsAt0_C m c ⟨Value.pt2Of i, hp⟩ (by dsimp only; omega) hm
  dsimp only at hC
  rw [hC] at key ⊢
  dsimp only at key ⊢
  rw [soutC] at key
  rw [outLast]
  exact key

end Cert.KernelWbwIdeal.Product

namespace Cert.ReferenceWbwIdeal.Product

open Idealize.ShloMosaic Idealize.ShloMosaic.TcCoe Idealize.SL.Sem
open Cert.ReferenceWbwIdeal Cert.ReferenceWbwIdeal.Gen Cert.Products
open scoped BigOperators

/-- The reference's array at an index. -/
theorem dot_apply (A : S8192x2048.Idx → EReal) (B : S8192x2048.Idx → EReal) :
    truncf .bf16 (transpose S2048x2048 [1, 0] (Host.dotGeneral (F := Ideal) (φ₁ := .f32) (φ₂ := .f32) dot_S8192x2048_S8192x2048_S2048x2048_0_0_1_1_n_n none
      (B : FVec Ideal S8192x2048 .f32)
      (extf .f32 (A : FVec Ideal S8192x2048 .bf16) bitsLt_bf16_f32)) transposes_S2048x2048_S2048x2048_1_0) bitsLt_bf16_f32
      = fun i => ∑ k : Fin 8192, at2 A k.val (i 0).val * at2 B k.val (i 1).val := by
  funext i
  simp only [truncf, transpose, Host.dotGeneral, Ideal.truncf_def, Ideal.dotGeneral_def, Ideal.matmul, zero_add]
  refine (sum_transposedLhs (M := 2048) (K := 8192) (N := 2048) B A _).trans ?_
  refine Finset.sum_congr rfl fun k _ => ?_
  have e0 : ((transposes_S2048x2048_S2048x2048_1_0.src i) 0 : ℕ) = i 1 := by simp [Shape.Transposes.src]; rfl
  have e1 : ((transposes_S2048x2048_S2048x2048_1_0.src i) 1 : ℕ) = i 0 := by simp [Shape.Transposes.src]; rfl
  rw [e0, e1]
  exact mul_comm _ _

end Cert.ReferenceWbwIdeal.Product

namespace Cert.WbwValue

open Idealize.ShloMosaic Idealize.ShloMosaic.TcCoe Idealize.SL.Sem

/-- The gradient of the output projection's weight: the kernel's array is the reference's. -/
theorem algebraic : Cert.algebraic_KernelWbwIdeal_ReferenceWbwIdeal (hKernelWbwIdeal := Cert.KernelWbwIdeal.Gen.facts)
    (hReferenceWbwIdeal := Cert.ReferenceWbwIdeal.Gen.facts) :=
  fun m ρ m' ρ' _ hag => ⟨fun c => Cert.KernelWbwIdeal.Product.product m c,
    (θ_run _ _ _).mono (fun _ h c => ⟨(h c).1.trans (Cert.KernelWbwIdeal.Product.final m c), (h c).2⟩)
      (Cert.KernelWbwIdeal.Value.run m ρ),
    (θ_run _ _ _).mono (fun _ h c => ⟨(h c).1.trans (by
      rw [(hag c).1, (hag c).2]
      exact Cert.ReferenceWbwIdeal.Product.dot_apply _ _), (h c).2⟩) (Cert.ReferenceWbwIdeal.Value.run m' ρ')⟩

/-- The reference runs, leaves its arguments as they were, and ends with every counter at zero. -/
theorem reference_frame : Cert.quiescent_ReferenceWbwIdeal (hReferenceWbwIdeal := Cert.ReferenceWbwIdeal.Gen.facts) :=
  fun m ρ _ => (θ_run _ _ _).mono (fun r h => ⟨fun c => (h c).2, sem_eq_zero_of_no_sems (by decide) r.2⟩)
    (Cert.ReferenceWbwIdeal.Value.run m ρ)

end Cert.WbwValue

end
-- ==== Proof.AbxValue.lean ====
/-
  The gradient of the first branch's projection with respect to its input: `dpa · proj_aᵀ`.
  Each block of the result is accumulated over 2 blocks of the inner axis.
  What one point adds, what the array holds after the run, and that this is the reference's array.
-/
module

public import proofs.«01_k».proof.Defs
public import proofs.«01_k».proof.Proof.Products
public import proofs.«01_k».proof.Proof.Gen.KernelAbxIdeal.Value
public import proofs.«01_k».proof.Proof.Gen.ReferenceAbxIdeal.Run
public import Idealize.ShloMosaic.Lib.Pipeline.Value
public import Idealize.ShloMosaic.PureOps.Ideal

@[expose] public section

noncomputable section

namespace Cert.KernelAbxIdeal.Product

open Idealize.ShloMosaic Idealize.ShloMosaic.TcCoe Idealize.SL.Sem Idealize.ShloMosaic.ValueIdx
open Cert.KernelAbxIdeal Cert.KernelAbxIdeal.Gen Cert.Products
open scoped BigOperators

theorem hz : (![0, 0] : Fin 2 → Nat) = fun _ => 0 := funext fun a => by fin_cases a <;> rfl

/-- What one point adds: the sum over its 1024 inner coordinates. -/
abbrev blockSum (x0 : Vec Ideal S1024x1024 .bf16) (x1 : Vec Ideal S1024x1024 .bf16) (j : S1024x1024.Idx) : EReal :=
  ∑ k : Fin 1024, at2 x0 (j 0).val k.val * at2 x1 (j 1).val k.val

/-- The body's product added to what it read, at an index. -/
theorem pay2_apply (acc : Vec Ideal S1024x1024 .f32) (x0 : Vec Ideal S1024x1024 .bf16) (x1 : Vec Ideal S1024x1024 .bf16) (j : S1024x1024.Idx) :
    k0_pay2 acc x0 x1 j = (acc j : EReal) + blockSum x0 x1 j := by
  unfold k0_pay2
  simp only [shapeCast_self, addf, matmul, constant, Ideal.addf_def, Ideal.matmul_def, Ideal.matmul]
  show (acc j : EReal) + (Ideal.ofBits .f32 0x00000000#32 + _) = _
  rw [ofBits_zero, zero_add]
  exact congrArg _ (sum_transposedRhs (M := 1024) (K := 1024) (N := 1024) x0 x1 j)

section Bodies
variable (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole)
  (a6 : Memref sig .tc .vmem S1024x1024 .f32) (h6 : a6.IsWhole)
  (x0 : Vec Ideal S1024x1024 .bf16) (x1 : Vec Ideal S1024x1024 .bf16) (acc : Vec Ideal S1024x1024 .f32)

/-- The first of a block's 2 points stores zero plus its product. -/
theorem soutA (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- The last point adds its product to what the point before left, -/
theorem soutB (hc0 : ¬cond0_0 i) (hc1 : cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero (S := S1024x1024) hz]
  simp only [View.readAt_eq_ld, h3.read_unread, h4.read_unread, h6.read_unread,
    View.ld_unit_zero (S := S1024x1024) hz]

/-- and hands the sum to the block of the result. -/
theorem outLast (hc0 : ¬cond0_0 i) (hc1 : cond0_1 i) :
    out0_B_2 c i a3 h3 a4 h4 a5 h5 a6 h6 hc0 hc1 x0 x1 acc = k0_pay3 (k0_pay2 acc x0 x1) := by
  unfold out0_B_2
  rw [View.read_writes_eq_canon _ _ _ (cover0_B_2 c i a3 h3 a4 h4 a5 h5 a6 h6 hc0 hc1 x0 x1 acc)]
  unfold kernelRun0_B
  dsimp only
  sl_unfold_words
  rw [View.canon_unit_zero (S := S1024x1024) hz, View.readCov_unit_zero (S := S1024x1024) _ hz]
  simp only [View.readAt_eq_ld, h3.read_unread, h4.read_unread, h6.read_unread,
    View.ld_unit_zero (S := S1024x1024) hz]

end Bodies

variable (m : (ℓ : Loc nD τ sig) → Buf (Elt Ideal) ℓ) (ρ : Dev nD → PrngReg)

/-- The operands, and one term of their product. -/
abbrev opA (c : Dev nD) : S8192x2048.Idx → EReal := m ((c : Thread nD τ).loc main_arg0)
abbrev opB (c : Dev nD) : S1024x2048.Idx → EReal := m ((c : Thread nD τ).loc main_arg1)
abbrev term (c : Dev nD) (r c' k : ℕ) : EReal := at2 (opA m c) r k * at2 (opB m c) c' k

/-- Which block of each operand a point reads. -/
theorem idx_in : ∀ t : Fin cfg0.N, win0_0.index t (0 : Fin 2) = t.val / (1 * 2) ∧ win0_0.index t (1 : Fin 2) = t.val % 2
    ∧ win0_1.index t (0 : Fin 2) = t.val / 2 % 1 ∧ win0_1.index t (1 : Fin 2) = t.val % 2 :=
  (by decide +kernel : ∀ t : Fin grid0.N, _)

/-- The left block, read at natural coordinates. -/
theorem blkA (c : Dev nD) (t : Fin cfg0.N) (r k : ℕ) (hr : r < 1024) (hk : k < 1024) :
    at2 (a := 1024) (b := 1024) (iblk m c 0 t) r k = at2 (opA m c) (t.val / (1 * 2) * 1024 + r) (t.val % 2 * 1024 + k) := by
  obtain ⟨e0, e1, -, -⟩ := idx_in t
  rw [at2, dif_pos ⟨hr, hk⟩]
  refine at2_idx (opA m c) (((cfg0.win 0).blk t).view.emb (ix2 ⟨r, hr⟩ ⟨k, hk⟩)) _ _ ?_ ?_
  · show win0_0.index t (0 : Fin 2) * 1024 + 1 * r = _
    rw [e0]; omega
  · show win0_0.index t (1 : Fin 2) * 1024 + 1 * k = _
    rw [e1]; omega

/-- The right block, read at natural coordinates. -/
theorem blkB (c : Dev nD) (t : Fin cfg0.N) (r k : ℕ) (hr : r < 1024) (hk : k < 1024) :
    at2 (a := 1024) (b := 1024) (iblk m c 1 t) r k = at2 (opB m c) (t.val / 2 % 1 * 1024 + r) (t.val % 2 * 1024 + k) := by
  obtain ⟨-, -, e0, e1⟩ := idx_in t
  rw [at2, dif_pos ⟨hr, hk⟩]
  refine at2_idx (opB m c) (((cfg0.win 1).blk t).view.emb (ix2 ⟨r, hr⟩ ⟨k, hk⟩)) _ _ ?_ ?_
  · show win0_1.index t (0 : Fin 2) * 1024 + 1 * r = _
    rw [e0]; omega
  · show win0_1.index t (1 : Fin 2) * 1024 + 1 * k = _
    rw [e1]; omega

theorem blockSum_eq (c : Dev nD) (t : Fin cfg0.N) (j : S1024x1024.Idx) :
    blockSum (iblk m c 0 t) (iblk m c 1 t) j
      = tileSum (term m c) 1 2 1024 1024 1024 t.val (j 0).val (j 1).val := by
  refine Finset.sum_congr rfl fun k _ => ?_
  rw [blkA m c t _ _ (idx2_lt0 j) k.isLt, blkB m c t _ _ (idx2_lt1 j) k.isLt]

/-- What the carried block holds after the last point of a run: the sum of what the run's points add. -/
theorem carried (c : Dev nD) (t : Fin cfg0.N) (ht : t.val % 2 = 1) (j : S1024x1024.Idx) :
    (outsAt0 m c t.val t.isLt).2 j
      = ∑ s ∈ Finset.range 2, tileSum (term m c) 1 2 1024 1024 1024 (2 * (t.val / 2) + s) (j 0).val (j 1).val := by
  have hN := lt_of_lt_of_eq t.isLt (show cfg0.N = 16 from N_0)
  rw [Value.soutsAt0_0_eq]
  have key := Pipeline.accAt_add_apply (β := EReal)
    (fun n h => Value.scAt0_0 m c n h (VS0_0.read (Elt Ideal) VS0_0.junk)) (Value.scAt0_0 m c)
    (fun _ => 0) (fun n (j : S1024x1024.Idx) => tileSum (term m c) 1 2 1024 1024 1024 n (j 0).val (j 1).val) (2 * (t.val / 2)) 1
    (fun h i => by
      have h0 : 2 * (t.val / 2) % 2 = 0 := by omega
      have h1 : ¬2 * (t.val / 2) % 2 = 1 := by omega
      unfold Value.scAt0_0
      rw [dif_pos h0, dif_neg h1, soutA, pay2_apply, blockSum_eq m c ⟨2 * (t.val / 2), h⟩ i]
      congr 1
      unfold k0_pay1
      simp only [shapeCast_self, broadcast]
      exact ofBits_zero)
    (fun n h acc i hn1 hn2 => by
      have h0 : ¬n % 2 = 0 := by omega
      have h1 : n % 2 = 1 := by omega
      unfold Value.scAt0_0
      rw [dif_neg h0, dif_pos h1, soutB, pay2_apply, blockSum_eq m c ⟨n, h⟩ i])
    (t.val % 2) (by omega) (by have := Nat.div_add_mod t.val 2; omega) j
  rw [key, zero_add, ht]

/-- The whole product at an index. -/
def product (c : Dev nD) : S8192x1024.Idx → EReal := fun i => ∑ k : Fin 2048, term m c (i 0).val (i 1).val k.val

/-- The array after the run is the whole product. -/
theorem final (c : Dev nD) : Value.G2 m c = product m c := by
  funext i
  have hi0 : (i 0).val < 8192 := (i 0).isLt
  have hi1 : (i 1).val < 1024 := (i 1).isLt
  have hp : Value.pt2Of i < cfg0.N := by
    rw [show cfg0.N = 16 from N_0]
    show (2 * (1 * ((i 0).val / 1024 - 0) + 1 * ((i 1).val / 1024 - 0)) + 1) < 16
    omega
  have hm : Value.pt2Of i % 2 = 1 := by
    show (2 * (1 * ((i 0).val / 1024 - 0) + 1 * ((i 1).val / 1024 - 0)) + 1) % 2 = 1
    omega
  have hd : Value.pt2Of i / 2 = 1 * ((i 0).val / 1024) + (i 1).val / 1024 := by
    show (2 * (1 * ((i 0).val / 1024 - 0) + 1 * ((i 1).val / 1024 - 0)) + 1) / 2 = _
    omega
  have key : (outsAt0 m c (Value.pt2Of i) hp).2 (Value.loc2Of i) = ∑ k : Fin 2048, term m c (i 0).val (i 1).val k.val := by
    refine (carried m c ⟨Value.pt2Of i, hp⟩ hm _).trans ?_
    dsimp only
    rw [hd]
    exact sum_tiles (term m c) 1 2 1024 1024 1024 (i 0).val (i 1).val (by decide) (by decide) hi1
  unfold Value.G2
  rw [dif_pos hp, ← Value.outsAt0_sweep m c _ hp]
  have hC := outsAt0_B m c ⟨Value.pt2Of i, hp⟩ (by dsimp only; omega) hm
  dsimp only at hC
  rw [hC] at key ⊢
  dsimp only at key ⊢
  rw [soutB] at key
  rw [outLast]
  exact key

end Cert.KernelAbxIdeal.Product

namespace Cert.ReferenceAbxIdeal.Product

open Idealize.ShloMosaic Idealize.ShloMosaic.TcCoe Idealize.SL.Sem
open Cert.ReferenceAbxIdeal Cert.ReferenceAbxIdeal.Gen Cert.Products
open scoped BigOperators

/-- The reference's array at an index. -/
theorem dot_apply (A : S8192x2048.Idx → EReal) (B : S1024x2048.Idx → EReal) :
    truncf .bf16 (Host.dotGeneral (F := Ideal) (φ₁ := .f32) (φ₂ := .f32) dot_S8192x2048_S1024x2048_S8192x1024_1_1_0_0_n_n none
      (extf .f32 (A : FVec Ideal S8192x2048 .bf16) bitsLt_bf16_f32)
      (extf .f32 (B : FVec Ideal S1024x2048 .bf16) bitsLt_bf16_f32)) bitsLt_bf16_f32
      = fun i => ∑ k : Fin 2048, at2 A (i 0).val k.val * at2 B (i 1).val k.val := by
  funext i
  simp only [truncf, Ideal.truncf_def, Host.dotGeneral, Ideal.dotGeneral_def, Ideal.matmul, zero_add]
  exact sum_transposedRhs (M := 8192) (K := 2048) (N := 1024) A B i

end Cert.ReferenceAbxIdeal.Product

namespace Cert.AbxValue

open Idealize.ShloMosaic Idealize.ShloMosaic.TcCoe Idealize.SL.Sem

/-- The gradient of the first branch's projection with respect to its input: the kernel's array is the reference's. -/
theorem algebraic : Cert.algebraic_KernelAbxIdeal_ReferenceAbxIdeal (hKernelAbxIdeal := Cert.KernelAbxIdeal.Gen.facts)
    (hReferenceAbxIdeal := Cert.ReferenceAbxIdeal.Gen.facts) :=
  fun m ρ m' ρ' _ hag => ⟨fun c => Cert.KernelAbxIdeal.Product.product m c,
    (θ_run _ _ _).mono (fun _ h c => ⟨(h c).1.trans (Cert.KernelAbxIdeal.Product.final m c), (h c).2⟩)
      (Cert.KernelAbxIdeal.Value.run m ρ),
    (θ_run _ _ _).mono (fun _ h c => ⟨(h c).1.trans (by
      rw [(hag c).1, (hag c).2]
      exact Cert.ReferenceAbxIdeal.Product.dot_apply _ _), (h c).2⟩) (Cert.ReferenceAbxIdeal.Value.run m' ρ')⟩

/-- The reference runs, leaves its arguments as they were, and ends with every counter at zero. -/
theorem reference_frame : Cert.quiescent_ReferenceAbxIdeal (hReferenceAbxIdeal := Cert.ReferenceAbxIdeal.Gen.facts) :=
  fun m ρ _ => (θ_run _ _ _).mono (fun r h => ⟨fun c => (h c).2, sem_eq_zero_of_no_sems (by decide) r.2⟩)
    (Cert.ReferenceAbxIdeal.Value.run m ρ)

end Cert.AbxValue

end
-- ==== Proof.AbwValue.lean ====
/-
  The gradient of the first branch's projection weight: `y_aᵀ · dpa`.
  Each block of the result is accumulated over 8 blocks of the inner axis.
  What one point adds, what the array holds after the run, and that this is the reference's array.
-/
module

public import proofs.«01_k».proof.Defs
public import proofs.«01_k».proof.Proof.Products
public import proofs.«01_k».proof.Proof.Gen.KernelAbwIdeal.Value
public import proofs.«01_k».proof.Proof.Gen.ReferenceAbwIdeal.Run
public import Idealize.ShloMosaic.Lib.Pipeline.Value
public import Idealize.ShloMosaic.PureOps.Ideal

@[expose] public section

noncomputable section

namespace Cert.KernelAbwIdeal.Product

open Idealize.ShloMosaic Idealize.ShloMosaic.TcCoe Idealize.SL.Sem Idealize.ShloMosaic.ValueIdx
open Cert.KernelAbwIdeal Cert.KernelAbwIdeal.Gen Cert.Products
open scoped BigOperators

theorem hz : (![0, 0] : Fin 2 → Nat) = fun _ => 0 := funext fun a => by fin_cases a <;> rfl

/-- What one point adds: the sum over its 1024 inner coordinates. -/
abbrev blockSum (x0 : Vec Ideal S1024x1024 .bf16) (x1 : Vec Ideal S1024x1024 .bf16) (j : S1024x1024.Idx) : EReal :=
  ∑ k : Fin 1024, at2 x0 k.val (j 0).val * at2 x1 k.val (j 1).val

/-- The body's product added to what it read, at an index. -/
theorem pay2_apply (acc : Vec Ideal S1024x1024 .f32) (x0 : Vec Ideal S1024x1024 .bf16) (x1 : Vec Ideal S1024x1024 .bf16) (j : S1024x1024.Idx) :
    k0_pay2 acc x0 x1 j = (acc j : EReal) + blockSum x0 x1 j := by
  unfold k0_pay2
  simp only [shapeCast_self, addf, matmul, constant, Ideal.addf_def, Ideal.matmul_def, Ideal.matmul]
  show (acc j : EReal) + (Ideal.ofBits .f32 0x00000000#32 + _) = _
  rw [ofBits_zero, zero_add]
  exact congrArg _ (sum_transposedLhs (M := 1024) (K := 1024) (N := 1024) x0 x1 j)

section Bodies
variable (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole)
  (a6 : Memref sig .tc .vmem S1024x1024 .f32) (h6 : a6.IsWhole)
  (x0 : Vec Ideal S1024x1024 .bf16) (x1 : Vec Ideal S1024x1024 .bf16) (acc : Vec Ideal S1024x1024 .f32)

/-- The first of a block's 8 points stores zero plus its product. -/
theorem soutA (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A point in the middle adds its product to what the point before left. -/
theorem soutB (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero (S := S1024x1024) hz]
  simp only [View.readAt_eq_ld, h3.read_unread, h4.read_unread, h6.read_unread,
    View.ld_unit_zero (S := S1024x1024) hz]

/-- The last point adds its product to what the point before left, -/
theorem soutC (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero (S := S1024x1024) hz]
  simp only [View.readAt_eq_ld, h3.read_unread, h4.read_unread, h6.read_unread,
    View.ld_unit_zero (S := S1024x1024) hz]

/-- and hands the sum to the block of the result. -/
theorem outLast (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread,
    View.ld_unit_zero (S := S1024x1024) hz]

end Bodies

variable (m : (ℓ : Loc nD τ sig) → Buf (Elt Ideal) ℓ) (ρ : Dev nD → PrngReg)

/-- The operands, and one term of their product. -/
abbrev opA (c : Dev nD) : S8192x1024.Idx → EReal := m ((c : Thread nD τ).loc main_arg0)
abbrev opB (c : Dev nD) : S8192x2048.Idx → EReal := m ((c : Thread nD τ).loc main_arg1)
abbrev term (c : Dev nD) (r c' k : ℕ) : EReal := at2 (opA m c) k r * at2 (opB m c) k c'

/-- Which block of each operand a point reads. -/
theorem idx_in : ∀ t : Fin cfg0.N, win0_0.index t (0 : Fin 2) = t.val % 8 ∧ win0_0.index t (1 : Fin 2) = t.val / (2 * 8)
    ∧ win0_1.index t (0 : Fin 2) = t.val % 8 ∧ win0_1.index t (1 : Fin 2) = t.val / 8 % 2 :=
  (by decide +kernel : ∀ t : Fin grid0.N, _)

/-- The left block, read at natural coordinates. -/
theorem blkA (c : Dev nD) (t : Fin cfg0.N) (r k : ℕ) (hr : r < 1024) (hk : k < 1024) :
    at2 (a := 1024) (b := 1024) (iblk m c 0 t) r k = at2 (opA m c) (t.val % 8 * 1024 + r) (t.val / (2 * 8) * 1024 + k) := by
  obtain ⟨e0, e1, -, -⟩ := idx_in t
  rw [at2, dif_pos ⟨hr, hk⟩]
  refine at2_idx (opA m c) (((cfg0.win 0).blk t).view.emb (ix2 ⟨r, hr⟩ ⟨k, hk⟩)) _ _ ?_ ?_
  · show win0_0.index t (0 : Fin 2) * 1024 + 1 * r = _
    rw [e0]; omega
  · show win0_0.index t (1 : Fin 2) * 1024 + 1 * k = _
    rw [e1]; omega

/-- The right block, read at natural coordinates. -/
theorem blkB (c : Dev nD) (t : Fin cfg0.N) (r k : ℕ) (hr : r < 1024) (hk : k < 1024) :
    at2 (a := 1024) (b := 1024) (iblk m c 1 t) r k = at2 (opB m c) (t.val % 8 * 1024 + r) (t.val / 8 % 2 * 1024 + k) := by
  obtain ⟨-, -, e0, e1⟩ := idx_in t
  rw [at2, dif_pos ⟨hr, hk⟩]
  refine at2_idx (opB m c) (((cfg0.win 1).blk t).view.emb (ix2 ⟨r, hr⟩ ⟨k, hk⟩)) _ _ ?_ ?_
  · show win0_1.index t (0 : Fin 2) * 1024 + 1 * r = _
    rw [e0]; omega
  · show win0_1.index t (1 : Fin 2) * 1024 + 1 * k = _
    rw [e1]; omega

theorem blockSum_eq (c : Dev nD) (t : Fin cfg0.N) (j : S1024x1024.Idx) :
    blockSum (iblk m c 0 t) (iblk m c 1 t) j
      = tileSum (term m c) 2 8 1024 1024 1024 t.val (j 0).val (j 1).val := by
  refine Finset.sum_congr rfl fun k _ => ?_
  rw [blkA m c t _ _ k.isLt (idx2_lt0 j), blkB m c t _ _ k.isLt (idx2_lt1 j)]

/-- What the carried block holds after the last point of a run: the sum of what the run's points add. -/
theorem carried (c : Dev nD) (t : Fin cfg0.N) (ht : t.val % 8 = 7) (j : S1024x1024.Idx) :
    (outsAt0 m c t.val t.isLt).2 j
      = ∑ s ∈ Finset.range 8, tileSum (term m c) 2 8 1024 1024 1024 (8 * (t.val / 8) + s) (j 0).val (j 1).val := by
  have hN := lt_of_lt_of_eq t.isLt (show cfg0.N = 16 from N_0)
  rw [Value.soutsAt0_0_eq]
  have key := Pipeline.accAt_add_apply (β := EReal)
    (fun n h => Value.scAt0_0 m c n h (VS0_0.read (Elt Ideal) VS0_0.junk)) (Value.scAt0_0 m c)
    (fun _ => 0) (fun n (j : S1024x1024.Idx) => tileSum (term m c) 2 8 1024 1024 1024 n (j 0).val (j 1).val) (8 * (t.val / 8)) 7
    (fun h i => by
      have h0 : 8 * (t.val / 8) % 8 = 0 := by omega
      have h1 : ¬8 * (t.val / 8) % 8 = 7 := by omega
      unfold Value.scAt0_0
      rw [dif_pos h0, dif_neg h1, soutA, pay2_apply, blockSum_eq m c ⟨8 * (t.val / 8), h⟩ i]
      congr 1
      unfold k0_pay1
      simp only [shapeCast_self, broadcast]
      exact ofBits_zero)
    (fun n h acc i hn1 hn2 => by
      have h0 : ¬n % 8 = 0 := by omega
      unfold Value.scAt0_0
      rw [dif_neg h0]
      split
      · rw [soutC, pay2_apply, blockSum_eq m c ⟨n, h⟩ i]
      · rw [soutB, pay2_apply, blockSum_eq m c ⟨n, h⟩ i])
    (t.val % 8) (by omega) (by have := Nat.div_add_mod t.val 8; omega) j
  rw [key, zero_add, ht]

/-- The whole product at an index. -/
def product (c : Dev nD) : S1024x2048.Idx → EReal := fun i => ∑ k : Fin 8192, term m c (i 0).val (i 1).val k.val

/-- The array after the run is the whole product. -/
theorem final (c : Dev nD) : Value.G2 m c = product m c := by
  funext i
  have hi0 : (i 0).val < 1024 := (i 0).isLt
  have hi1 : (i 1).val < 2048 := (i 1).isLt
  have hp : Value.pt2Of i < cfg0.N := by
    rw [show cfg0.N = 16 from N_0]
    show (8 * (2 * ((i 0).val / 1024 - 0) + 1 * ((i 1).val / 1024 - 0)) + 7) < 16
    omega
  have hm : Value.pt2Of i % 8 = 7 := by
    show (8 * (2 * ((i 0).val / 1024 - 0) + 1 * ((i 1).val / 1024 - 0)) + 7) % 8 = 7
    omega
  have hd : Value.pt2Of i / 8 = 2 * ((i 0).val / 1024) + (i 1).val / 1024 := by
    show (8 * (2 * ((i 0).val / 1024 - 0) + 1 * ((i 1).val / 1024 - 0)) + 7) / 8 = _
    omega
  have key : (outsAt0 m c (Value.pt2Of i) hp).2 (Value.loc2Of i) = ∑ k : Fin 8192, term m c (i 0).val (i 1).val k.val := by
    refine (carried m c ⟨Value.pt2Of i, hp⟩ hm _).trans ?_
    dsimp only
    rw [hd]
    exact sum_tiles (term m c) 2 8 1024 1024 1024 (i 0).val (i 1).val (by decide) (by decide) hi1
  unfold Value.G2
  rw [dif_pos hp, ← Value.outsAt0_sweep m c _ hp]
  have hC := outsAt0_C m c ⟨Value.pt2Of i, hp⟩ (by dsimp only; omega) hm
  dsimp only at hC
  rw [hC] at key ⊢
  dsimp only at key ⊢
  rw [soutC] at key
  rw [outLast]
  exact key

end Cert.KernelAbwIdeal.Product

namespace Cert.ReferenceAbwIdeal.Product

open Idealize.ShloMosaic Idealize.ShloMosaic.TcCoe Idealize.SL.Sem
open Cert.ReferenceAbwIdeal Cert.ReferenceAbwIdeal.Gen Cert.Products
open scoped BigOperators

/-- The reference's array at an index. -/
theorem dot_apply (A : S8192x1024.Idx → EReal) (B : S8192x2048.Idx → EReal) :
    truncf .bf16 (transpose S1024x2048 [1, 0] (Host.dotGeneral (F := Ideal) (φ₁ := .f32) (φ₂ := .f32) dot_S8192x2048_S8192x1024_S2048x1024_0_0_1_1_n_n none
      (extf .f32 (B : FVec Ideal S8192x2048 .bf16) bitsLt_bf16_f32)
      (extf .f32 (A : FVec Ideal S8192x1024 .bf16) bitsLt_bf16_f32)) transposes_S2048x1024_S1024x2048_1_0) bitsLt_bf16_f32
      = fun i => ∑ k : Fin 8192, at2 A k.val (i 0).val * at2 B k.val (i 1).val := by
  funext i
  simp only [truncf, transpose, Host.dotGeneral, Ideal.truncf_def, Ideal.dotGeneral_def, Ideal.matmul, zero_add]
  refine (sum_transposedLhs (M := 2048) (K := 8192) (N := 1024) B A _).trans ?_
  refine Finset.sum_congr rfl fun k _ => ?_
  have e0 : ((transposes_S2048x1024_S1024x2048_1_0.src i) 0 : ℕ) = i 1 := by simp [Shape.Transposes.src]; rfl
  have e1 : ((transposes_S2048x1024_S1024x2048_1_0.src i) 1 : ℕ) = i 0 := by simp [Shape.Transposes.src]; rfl
  rw [e0, e1]
  exact mul_comm _ _

end Cert.ReferenceAbwIdeal.Product

namespace Cert.AbwValue

open Idealize.ShloMosaic Idealize.ShloMosaic.TcCoe Idealize.SL.Sem

/-- The gradient of the first branch's projection weight: the kernel's array is the reference's. -/
theorem algebraic : Cert.algebraic_KernelAbwIdeal_ReferenceAbwIdeal (hKernelAbwIdeal := Cert.KernelAbwIdeal.Gen.facts)
    (hReferenceAbwIdeal := Cert.ReferenceAbwIdeal.Gen.facts) :=
  fun m ρ m' ρ' _ hag => ⟨fun c => Cert.KernelAbwIdeal.Product.product m c,
    (θ_run _ _ _).mono (fun _ h c => ⟨(h c).1.trans (Cert.KernelAbwIdeal.Product.final m c), (h c).2⟩)
      (Cert.KernelAbwIdeal.Value.run m ρ),
    (θ_run _ _ _).mono (fun _ h c => ⟨(h c).1.trans (by
      rw [(hag c).1, (hag c).2]
      exact Cert.ReferenceAbwIdeal.Product.dot_apply _ _), (h c).2⟩) (Cert.ReferenceAbwIdeal.Value.run m' ρ')⟩

/-- The reference runs, leaves its arguments as they were, and ends with every counter at zero. -/
theorem reference_frame : Cert.quiescent_ReferenceAbwIdeal (hReferenceAbwIdeal := Cert.ReferenceAbwIdeal.Gen.facts) :=
  fun m ρ _ => (θ_run _ _ _).mono (fun r h => ⟨fun c => (h c).2, sem_eq_zero_of_no_sems (by decide) r.2⟩)
    (Cert.ReferenceAbwIdeal.Value.run m ρ)

end Cert.AbwValue

end
-- ==== Proof.BbxValue.lean ====
/-
  The gradient of the second branch's projection with respect to its input: `dpb · proj_bᵀ`.
  Each block of the result is accumulated over 2 blocks of the inner axis.
  What one point adds, what the array holds after the run, and that this is the reference's array.
-/
module

public import proofs.«01_k».proof.Defs
public import proofs.«01_k».proof.Proof.Products
public import proofs.«01_k».proof.Proof.Gen.KernelBbxIdeal.Value
public import proofs.«01_k».proof.Proof.Gen.ReferenceBbxIdeal.Run
public import Idealize.ShloMosaic.Lib.Pipeline.Value
public import Idealize.ShloMosaic.PureOps.Ideal

@[expose] public section

noncomputable section

namespace Cert.KernelBbxIdeal.Product

open Idealize.ShloMosaic Idealize.ShloMosaic.TcCoe Idealize.SL.Sem Idealize.ShloMosaic.ValueIdx
open Cert.KernelBbxIdeal Cert.KernelBbxIdeal.Gen Cert.Products
open scoped BigOperators

theorem hz : (![0, 0] : Fin 2 → Nat) = fun _ => 0 := funext fun a => by fin_cases a <;> rfl

/-- What one point adds: the sum over its 1024 inner coordinates. -/
abbrev blockSum (x0 : Vec Ideal S1024x1024 .bf16) (x1 : Vec Ideal S768x1024 .bf16) (j : S1024x768.Idx) : EReal :=
  ∑ k : Fin 1024, at2 x0 (j 0).val k.val * at2 x1 (j 1).val k.val

/-- The body's product added to what it read, at an index. -/
theorem pay2_apply (acc : Vec Ideal S1024x768 .f32) (x0 : Vec Ideal S1024x1024 .bf16) (x1 : Vec Ideal S768x1024 .bf16) (j : S1024x768.Idx) :
    k0_pay2 acc x0 x1 j = (acc j : EReal) + blockSum x0 x1 j := by
  unfold k0_pay2
  simp only [shapeCast_self, addf, matmul, constant, Ideal.addf_def, Ideal.matmul_def, Ideal.matmul]
  show (acc j : EReal) + (Ideal.ofBits .f32 0x00000000#32 + _) = _
  rw [ofBits_zero, zero_add]
  exact congrArg _ (sum_transposedRhs (M := 1024) (K := 1024) (N := 768) x0 x1 j)

section Bodies
variable (c : Dev nD) (i : grid0.Coords)
  (a3 : Memref sig .tc .vmem S1024x1024 .bf16) (h3 : a3.IsWhole) (a4 : Memref sig .tc .vmem S768x1024 .bf16) (h4 : a4.IsWhole)
  (a5 : Memref sig .tc .vmem S1024x768 .f32) (h5 : a5.IsWhole)
  (a6 : Memref sig .tc .vmem S1024x768 .f32) (h6 : a6.IsWhole)
  (x0 : Vec Ideal S1024x1024 .bf16) (x1 : Vec Ideal S768x1024 .bf16) (acc : Vec Ideal S1024x768 .f32)

/-- The first of a block's 2 points stores zero plus its product. -/
theorem soutA (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x768) hz, View.readCov_unit_zero (S := S1024x768) _ hz]
  simp only [View.readAt_eq_ld, h3.read_unread, h4.read_unread, View.ld_unit_zero (S := S1024x1024) hz, View.ld_unit_zero (S := S768x1024) hz, View.ld_unit_zero (S := S1024x768) hz]

/-- The last point adds its product to what the point before left, -/
theorem soutB (hc0 : ¬cond0_0 i) (hc1 : cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero (S := S1024x768) hz]
  simp only [View.readAt_eq_ld, h3.read_unread, h4.read_unread, h6.read_unread,
    View.ld_unit_zero (S := S1024x1024) hz, View.ld_unit_zero (S := S768x1024) hz, View.ld_unit_zero (S := S1024x768) hz]

/-- and hands the sum to the block of the result. -/
theorem outLast (hc0 : ¬cond0_0 i) (hc1 : cond0_1 i) :
    out0_B_2 c i a3 h3 a4 h4 a5 h5 a6 h6 hc0 hc1 x0 x1 acc = k0_pay2 acc x0 x1 := by
  unfold out0_B_2
  rw [View.read_writes_eq_canon _ _ _ (cover0_B_2 c i a3 h3 a4 h4 a5 h5 a6 h6 hc0 hc1 x0 x1 acc)]
  unfold kernelRun0_B
  dsimp only
  sl_unfold_words
  rw [View.canon_unit_zero (S := S1024x768) hz, View.readCov_unit_zero (S := S1024x768) _ hz]
  simp only [View.readAt_eq_ld, h3.read_unread, h4.read_unread, h6.read_unread,
    View.ld_unit_zero (S := S1024x1024) hz, View.ld_unit_zero (S := S768x1024) hz, View.ld_unit_zero (S := S1024x768) hz]

end Bodies

variable (m : (ℓ : Loc nD τ sig) → Buf (Elt Ideal) ℓ) (ρ : Dev nD → PrngReg)

/-- The operands, and one term of their product. -/
abbrev opA (c : Dev nD) : S8192x2048.Idx → EReal := m ((c : Thread nD τ).loc main_arg0)
abbrev opB (c : Dev nD) : S768x2048.Idx → EReal := m ((c : Thread nD τ).loc main_arg1)
abbrev term (c : Dev nD) (r c' k : ℕ) : EReal := at2 (opA m c) r k * at2 (opB m c) c' k

/-- Which block of each operand a point reads. -/
theorem idx_in : ∀ t : Fin cfg0.N, win0_0.index t (0 : Fin 2) = t.val / (1 * 2) ∧ win0_0.index t (1 : Fin 2) = t.val % 2
    ∧ win0_1.index t (0 : Fin 2) = t.val / 2 % 1 ∧ win0_1.index t (1 : Fin 2) = t.val % 2 :=
  (by decide +kernel : ∀ t : Fin grid0.N, _)

/-- The left block, read at natural coordinates. -/
theorem blkA (c : Dev nD) (t : Fin cfg0.N) (r k : ℕ) (hr : r < 1024) (hk : k < 1024) :
    at2 (a := 1024) (b := 1024) (iblk m c 0 t) r k = at2 (opA m c) (t.val / (1 * 2) * 1024 + r) (t.val % 2 * 1024 + k) := by
  obtain ⟨e0, e1, -, -⟩ := idx_in t
  rw [at2, dif_pos ⟨hr, hk⟩]
  refine at2_idx (opA m c) (((cfg0.win 0).blk t).view.emb (ix2 ⟨r, hr⟩ ⟨k, hk⟩)) _ _ ?_ ?_
  · show win0_0.index t (0 : Fin 2) * 1024 + 1 * r = _
    rw [e0]; omega
  · show win0_0.index t (1 : Fin 2) * 1024 + 1 * k = _
    rw [e1]; omega

/-- The right block, read at natural coordinates. -/
theorem blkB (c : Dev nD) (t : Fin cfg0.N) (r k : ℕ) (hr : r < 768) (hk : k < 1024) :
    at2 (a := 768) (b := 1024) (iblk m c 1 t) r k = at2 (opB m c) (t.val / 2 % 1 * 768 + r) (t.val % 2 * 1024 + k) := by
  obtain ⟨-, -, e0, e1⟩ := idx_in t
  rw [at2, dif_pos ⟨hr, hk⟩]
  refine at2_idx (opB m c) (((cfg0.win 1).blk t).view.emb (ix2 ⟨r, hr⟩ ⟨k, hk⟩)) _ _ ?_ ?_
  · show win0_1.index t (0 : Fin 2) * 768 + 1 * r = _
    rw [e0]; omega
  · show win0_1.index t (1 : Fin 2) * 1024 + 1 * k = _
    rw [e1]; omega

theorem blockSum_eq (c : Dev nD) (t : Fin cfg0.N) (j : S1024x768.Idx) :
    blockSum (iblk m c 0 t) (iblk m c 1 t) j
      = tileSum (term m c) 1 2 1024 768 1024 t.val (j 0).val (j 1).val := by
  refine Finset.sum_congr rfl fun k _ => ?_
  rw [blkA m c t _ _ (idx2_lt0 j) k.isLt, blkB m c t _ _ (idx2_lt1 j) k.isLt]

/-- What the carried block holds after the last point of a run: the sum of what the run's points add. -/
theorem carried (c : Dev nD) (t : Fin cfg0.N) (ht : t.val % 2 = 1) (j : S1024x768.Idx) :
    (outsAt0 m c t.val t.isLt).2 j
      = ∑ s ∈ Finset.range 2, tileSum (term m c) 1 2 1024 768 1024 (2 * (t.val / 2) + s) (j 0).val (j 1).val := by
  have hN := lt_of_lt_of_eq t.isLt (show cfg0.N = 16 from N_0)
  rw [Value.soutsAt0_0_eq]
  have key := Pipeline.accAt_add_apply (β := EReal)
    (fun n h => Value.scAt0_0 m c n h (VS0_0.read (Elt Ideal) VS0_0.junk)) (Value.scAt0_0 m c)
    (fun _ => 0) (fun n (j : S1024x768.Idx) => tileSum (term m c) 1 2 1024 768 1024 n (j 0).val (j 1).val) (2 * (t.val / 2)) 1
    (fun h i => by
      have h0 : 2 * (t.val / 2) % 2 = 0 := by omega
      have h1 : ¬2 * (t.val / 2) % 2 = 1 := by omega
      unfold Value.scAt0_0
      rw [dif_pos h0, dif_neg h1, soutA, pay2_apply, blockSum_eq m c ⟨2 * (t.val / 2), h⟩ i]
      congr 1
      unfold k0_pay1
      simp only [shapeCast_self, broadcast]
      exact ofBits_zero)
    (fun n h acc i hn1 hn2 => by
      have h0 : ¬n % 2 = 0 := by omega
      have h1 : n % 2 = 1 := by omega
      unfold Value.scAt0_0
      rw [dif_neg h0, dif_pos h1, soutB, pay2_apply, blockSum_eq m c ⟨n, h⟩ i])
    (t.val % 2) (by omega) (by have := Nat.div_add_mod t.val 2; omega) j
  rw [key, zero_add, ht]

/-- The whole product at an index. -/
def product (c : Dev nD) : S8192x768.Idx → EReal := fun i => ∑ k : Fin 2048, term m c (i 0).val (i 1).val k.val

/-- The array after the run is the whole product. -/
theorem final (c : Dev nD) : Value.G2 m c = product m c := by
  funext i
  have hi0 : (i 0).val < 8192 := (i 0).isLt
  have hi1 : (i 1).val < 768 := (i 1).isLt
  have hp : Value.pt2Of i < cfg0.N := by
    rw [show cfg0.N = 16 from N_0]
    show (2 * (1 * ((i 0).val / 1024 - 0) + 1 * ((i 1).val / 768 - 0)) + 1) < 16
    omega
  have hm : Value.pt2Of i % 2 = 1 := by
    show (2 * (1 * ((i 0).val / 1024 - 0) + 1 * ((i 1).val / 768 - 0)) + 1) % 2 = 1
    omega
  have hd : Value.pt2Of i / 2 = 1 * ((i 0).val / 1024) + (i 1).val / 768 := by
    show (2 * (1 * ((i 0).val / 1024 - 0) + 1 * ((i 1).val / 768 - 0)) + 1) / 2 = _
    omega
  have key : (outsAt0 m c (Value.pt2Of i) hp).2 (Value.loc2Of i) = ∑ k : Fin 2048, term m c (i 0).val (i 1).val k.val := by
    refine (carried m c ⟨Value.pt2Of i, hp⟩ hm _).trans ?_
    dsimp only
    rw [hd]
    exact sum_tiles (term m c) 1 2 1024 768 1024 (i 0).val (i 1).val (by decide) (by decide) hi1
  unfold Value.G2
  rw [dif_pos hp, ← Value.outsAt0_sweep m c _ hp]
  have hC := outsAt0_B m c ⟨Value.pt2Of i, hp⟩ (by dsimp only; omega) hm
  dsimp only at hC
  rw [hC] at key ⊢
  dsimp only at key ⊢
  rw [soutB] at key
  rw [outLast]
  exact key

end Cert.KernelBbxIdeal.Product

namespace Cert.ReferenceBbxIdeal.Product

open Idealize.ShloMosaic Idealize.ShloMosaic.TcCoe Idealize.SL.Sem
open Cert.ReferenceBbxIdeal Cert.ReferenceBbxIdeal.Gen Cert.Products
open scoped BigOperators

/-- The reference's array at an index. -/
theorem dot_apply (A : S8192x2048.Idx → EReal) (B : S768x2048.Idx → EReal) :
    Host.dotGeneral (F := Ideal) (φ₁ := .f32) (φ₂ := .f32) dot_S8192x2048_S768x2048_S8192x768_1_1_0_0_n_n none
      (extf .f32 (A : FVec Ideal S8192x2048 .bf16) bitsLt_bf16_f32)
      (extf .f32 (B : FVec Ideal S768x2048 .bf16) bitsLt_bf16_f32)
      = fun i => ∑ k : Fin 2048, at2 A (i 0).val k.val * at2 B (i 1).val k.val := by
  funext i
  simp only [Host.dotGeneral, Ideal.dotGeneral_def, Ideal.matmul, zero_add]
  exact sum_transposedRhs (M := 8192) (K := 2048) (N := 768) A B i

end Cert.ReferenceBbxIdeal.Product

namespace Cert.BbxValue

open Idealize.ShloMosaic Idealize.ShloMosaic.TcCoe Idealize.SL.Sem

/-- The gradient of the second branch's projection with respect to its input: the kernel's array is the reference's. -/
theorem algebraic : Cert.algebraic_KernelBbxIdeal_ReferenceBbxIdeal (hKernelBbxIdeal := Cert.KernelBbxIdeal.Gen.facts)
    (hReferenceBbxIdeal := Cert.ReferenceBbxIdeal.Gen.facts) :=
  fun m ρ m' ρ' _ hag => ⟨fun c => Cert.KernelBbxIdeal.Product.product m c,
    (θ_run _ _ _).mono (fun _ h c => ⟨(h c).1.trans (Cert.KernelBbxIdeal.Product.final m c), (h c).2⟩)
      (Cert.KernelBbxIdeal.Value.run m ρ),
    (θ_run _ _ _).mono (fun _ h c => ⟨(h c).1.trans (by
      rw [(hag c).1, (hag c).2]
      exact Cert.ReferenceBbxIdeal.Product.dot_apply _ _), (h c).2⟩) (Cert.ReferenceBbxIdeal.Value.run m' ρ')⟩

/-- The reference runs, leaves its arguments as they were, and ends with every counter at zero. -/
theorem reference_frame : Cert.quiescent_ReferenceBbxIdeal (hReferenceBbxIdeal := Cert.ReferenceBbxIdeal.Gen.facts) :=
  fun m ρ _ => (θ_run _ _ _).mono (fun r h => ⟨fun c => (h c).2, sem_eq_zero_of_no_sems (by decide) r.2⟩)
    (Cert.ReferenceBbxIdeal.Value.run m ρ)

end Cert.BbxValue

end
-- ==== Proof.BbwValue.lean ====
/-
  The gradient of the second branch's projection weight: `y_bᵀ · dpb`.
  Each block of the result is accumulated over 8 blocks of the inner axis.
  What one point adds, what the array holds after the run, and that this is the reference's array.
-/
module

public import proofs.«01_k».proof.Defs
public import proofs.«01_k».proof.Proof.Products
public import proofs.«01_k».proof.Proof.Gen.KernelBbwIdeal.Value
public import proofs.«01_k».proof.Proof.Gen.ReferenceBbwIdeal.Run
public import Idealize.ShloMosaic.Lib.Pipeline.Value
public import Idealize.ShloMosaic.PureOps.Ideal

@[expose] public section

noncomputable section

namespace Cert.KernelBbwIdeal.Product

open Idealize.ShloMosaic Idealize.ShloMosaic.TcCoe Idealize.SL.Sem Idealize.ShloMosaic.ValueIdx
open Cert.KernelBbwIdeal Cert.KernelBbwIdeal.Gen Cert.Products
open scoped BigOperators

theorem hz : (![0, 0] : Fin 2 → Nat) = fun _ => 0 := funext fun a => by fin_cases a <;> rfl

/-- What one point adds: the sum over its 1024 inner coordinates. -/
abbrev blockSum (x0 : Vec Ideal S1024x768 .bf16) (x1 : Vec Ideal S1024x1024 .bf16) (j : S768x1024.Idx) : EReal :=
  ∑ k : Fin 1024, at2 x0 k.val (j 0).val * at2 x1 k.val (j 1).val

/-- The body's product added to what it read, at an index. -/
theorem pay2_apply (acc : Vec Ideal S768x1024 .f32) (x0 : Vec Ideal S1024x768 .bf16) (x1 : Vec Ideal S1024x1024 .bf16) (j : S768x1024.Idx) :
    k0_pay2 acc x0 x1 j = (acc j : EReal) + blockSum x0 x1 j := by
  unfold k0_pay2
  simp only [shapeCast_self, addf, matmul, constant, Ideal.addf_def, Ideal.matmul_def, Ideal.matmul]
  show (acc j : EReal) + (Ideal.ofBits .f32 0x00000000#32 + _) = _
  rw [ofBits_zero, zero_add]
  exact congrArg _ (sum_transposedLhs (M := 768) (K := 1024) (N := 1024) x0 x1 j)

section Bodies
variable (c : Dev nD) (i : grid0.Coords)
  (a3 : Memref sig .tc .vmem S1024x768 .bf16) (h3 : a3.IsWhole) (a4 : Memref sig .tc .vmem S1024x1024 .bf16) (h4 : a4.IsWhole)
  (a5 : Memref sig .tc .vmem S768x1024 .bf16) (h5 : a5.IsWhole)
  (a6 : Memref sig .tc .vmem S768x1024 .f32) (h6 : a6.IsWhole)
  (x0 : Vec Ideal S1024x768 .bf16) (x1 : Vec Ideal S1024x1024 .bf16) (acc : Vec Ideal S768x1024 .f32)

/-- The first of a block's 8 points stores zero plus its product. -/
theorem soutA (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S768x1024) hz, View.readCov_unit_zero (S := S768x1024) _ hz]
  simp only [View.readAt_eq_ld, h3.read_unread, h4.read_unread, View.ld_unit_zero (S := S1024x768) hz, View.ld_unit_zero (S := S1024x1024) hz, View.ld_unit_zero (S := S768x1024) hz]

/-- A point in the middle adds its product to what the point before left. -/
theorem soutB (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero (S := S768x1024) hz]
  simp only [View.readAt_eq_ld, h3.read_unread, h4.read_unread, h6.read_unread,
    View.ld_unit_zero (S := S1024x768) hz, View.ld_unit_zero (S := S1024x1024) hz, View.ld_unit_zero (S := S768x1024) hz]

/-- The last point adds its product to what the point before left, -/
theorem soutC (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero (S := S768x1024) hz]
  simp only [View.readAt_eq_ld, h3.read_unread, h4.read_unread, h6.read_unread,
    View.ld_unit_zero (S := S1024x768) hz, View.ld_unit_zero (S := S1024x1024) hz, View.ld_unit_zero (S := S768x1024) hz]

/-- and hands the sum to the block of the result. -/
theorem outLast (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero (S := S768x1024) hz, View.readCov_unit_zero (S := S768x1024) _ hz]
  simp only [View.readAt_eq_ld, h3.read_unread, h4.read_unread, h6.read_unread,
    View.ld_unit_zero (S := S1024x768) hz, View.ld_unit_zero (S := S1024x1024) hz, View.ld_unit_zero (S := S768x1024) hz]

end Bodies

variable (m : (ℓ : Loc nD τ sig) → Buf (Elt Ideal) ℓ) (ρ : Dev nD → PrngReg)

/-- The operands, and one term of their product. -/
abbrev opA (c : Dev nD) : S8192x768.Idx → EReal := m ((c : Thread nD τ).loc main_arg0)
abbrev opB (c : Dev nD) : S8192x2048.Idx → EReal := m ((c : Thread nD τ).loc main_arg1)
abbrev term (c : Dev nD) (r c' k : ℕ) : EReal := at2 (opA m c) k r * at2 (opB m c) k c'

/-- Which block of each operand a point reads. -/
theorem idx_in : ∀ t : Fin cfg0.N, win0_0.index t (0 : Fin 2) = t.val % 8 ∧ win0_0.index t (1 : Fin 2) = t.val / (2 * 8)
    ∧ win0_1.index t (0 : Fin 2) = t.val % 8 ∧ win0_1.index t (1 : Fin 2) = t.val / 8 % 2 :=
  (by decide +kernel : ∀ t : Fin grid0.N, _)

/-- The left block, read at natural coordinates. -/
theorem blkA (c : Dev nD) (t : Fin cfg0.N) (r k : ℕ) (hr : r < 1024) (hk : k < 768) :
    at2 (a := 1024) (b := 768) (iblk m c 0 t) r k = at2 (opA m c) (t.val % 8 * 1024 + r) (t.val / (2 * 8) * 768 + k) := by
  obtain ⟨e0, e1, -, -⟩ := idx_in t
  rw [at2, dif_pos ⟨hr, hk⟩]
  refine at2_idx (opA m c) (((cfg0.win 0).blk t).view.emb (ix2 ⟨r, hr⟩ ⟨k, hk⟩)) _ _ ?_ ?_
  · show win0_0.index t (0 : Fin 2) * 1024 + 1 * r = _
    rw [e0]; omega
  · show win0_0.index t (1 : Fin 2) * 768 + 1 * k = _
    rw [e1]; omega

/-- The right block, read at natural coordinates. -/
theorem blkB (c : Dev nD) (t : Fin cfg0.N) (r k : ℕ) (hr : r < 1024) (hk : k < 1024) :
    at2 (a := 1024) (b := 1024) (iblk m c 1 t) r k = at2 (opB m c) (t.val % 8 * 1024 + r) (t.val / 8 % 2 * 1024 + k) := by
  obtain ⟨-, -, e0, e1⟩ := idx_in t
  rw [at2, dif_pos ⟨hr, hk⟩]
  refine at2_idx (opB m c) (((cfg0.win 1).blk t).view.emb (ix2 ⟨r, hr⟩ ⟨k, hk⟩)) _ _ ?_ ?_
  · show win0_1.index t (0 : Fin 2) * 1024 + 1 * r = _
    rw [e0]; omega
  · show win0_1.index t (1 : Fin 2) * 1024 + 1 * k = _
    rw [e1]; omega

theorem blockSum_eq (c : Dev nD) (t : Fin cfg0.N) (j : S768x1024.Idx) :
    blockSum (iblk m c 0 t) (iblk m c 1 t) j
      = tileSum (term m c) 2 8 768 1024 1024 t.val (j 0).val (j 1).val := by
  refine Finset.sum_congr rfl fun k _ => ?_
  rw [blkA m c t _ _ k.isLt (idx2_lt0 j), blkB m c t _ _ k.isLt (idx2_lt1 j)]

/-- What the carried block holds after the last point of a run: the sum of what the run's points add. -/
theorem carried (c : Dev nD) (t : Fin cfg0.N) (ht : t.val % 8 = 7) (j : S768x1024.Idx) :
    (outsAt0 m c t.val t.isLt).2 j
      = ∑ s ∈ Finset.range 8, tileSum (term m c) 2 8 768 1024 1024 (8 * (t.val / 8) + s) (j 0).val (j 1).val := by
  have hN := lt_of_lt_of_eq t.isLt (show cfg0.N = 16 from N_0)
  rw [Value.soutsAt0_0_eq]
  have key := Pipeline.accAt_add_apply (β := EReal)
    (fun n h => Value.scAt0_0 m c n h (VS0_0.read (Elt Ideal) VS0_0.junk)) (Value.scAt0_0 m c)
    (fun _ => 0) (fun n (j : S768x1024.Idx) => tileSum (term m c) 2 8 768 1024 1024 n (j 0).val (j 1).val) (8 * (t.val / 8)) 7
    (fun h i => by
      have h0 : 8 * (t.val / 8) % 8 = 0 := by omega
      have h1 : ¬8 * (t.val / 8) % 8 = 7 := by omega
      unfold Value.scAt0_0
      rw [dif_pos h0, dif_neg h1, soutA, pay2_apply, blockSum_eq m c ⟨8 * (t.val / 8), h⟩ i]
      congr 1
      unfold k0_pay1
      simp only [shapeCast_self, broadcast]
      exact ofBits_zero)
    (fun n h acc i hn1 hn2 => by
      have h0 : ¬n % 8 = 0 := by omega
      unfold Value.scAt0_0
      rw [dif_neg h0]
      split
      · rw [soutC, pay2_apply, blockSum_eq m c ⟨n, h⟩ i]
      · rw [soutB, pay2_apply, blockSum_eq m c ⟨n, h⟩ i])
    (t.val % 8) (by omega) (by have := Nat.div_add_mod t.val 8; omega) j
  rw [key, zero_add, ht]

/-- The whole product at an index. -/
def product (c : Dev nD) : S768x2048.Idx → EReal := fun i => ∑ k : Fin 8192, term m c (i 0).val (i 1).val k.val

/-- The array after the run is the whole product. -/
theorem final (c : Dev nD) : Value.G2 m c = product m c := by
  funext i
  have hi0 : (i 0).val < 768 := (i 0).isLt
  have hi1 : (i 1).val < 2048 := (i 1).isLt
  have hp : Value.pt2Of i < cfg0.N := by
    rw [show cfg0.N = 16 from N_0]
    show (8 * (2 * ((i 0).val / 768 - 0) + 1 * ((i 1).val / 1024 - 0)) + 7) < 16
    omega
  have hm : Value.pt2Of i % 8 = 7 := by
    show (8 * (2 * ((i 0).val / 768 - 0) + 1 * ((i 1).val / 1024 - 0)) + 7) % 8 = 7
    omega
  have hd : Value.pt2Of i / 8 = 2 * ((i 0).val / 768) + (i 1).val / 1024 := by
    show (8 * (2 * ((i 0).val / 768 - 0) + 1 * ((i 1).val / 1024 - 0)) + 7) / 8 = _
    omega
  have key : (outsAt0 m c (Value.pt2Of i) hp).2 (Value.loc2Of i) = ∑ k : Fin 8192, term m c (i 0).val (i 1).val k.val := by
    refine (carried m c ⟨Value.pt2Of i, hp⟩ hm _).trans ?_
    dsimp only
    rw [hd]
    exact sum_tiles (term m c) 2 8 768 1024 1024 (i 0).val (i 1).val (by decide) (by decide) hi1
  unfold Value.G2
  rw [dif_pos hp, ← Value.outsAt0_sweep m c _ hp]
  have hC := outsAt0_C m c ⟨Value.pt2Of i, hp⟩ (by dsimp only; omega) hm
  dsimp only at hC
  rw [hC] at key ⊢
  dsimp only at key ⊢
  rw [soutC] at key
  rw [outLast]
  exact key

end Cert.KernelBbwIdeal.Product

namespace Cert.ReferenceBbwIdeal.Product

open Idealize.ShloMosaic Idealize.ShloMosaic.TcCoe Idealize.SL.Sem
open Cert.ReferenceBbwIdeal Cert.ReferenceBbwIdeal.Gen Cert.Products
open scoped BigOperators

/-- The reference's array at an index. -/
theorem dot_apply (A : S8192x768.Idx → EReal) (B : S8192x2048.Idx → EReal) :
    truncf .bf16 (transpose S768x2048 [1, 0] (Host.dotGeneral (F := Ideal) (φ₁ := .f32) (φ₂ := .f32) dot_S8192x2048_S8192x768_S2048x768_0_0_1_1_n_n none
      (extf .f32 (B : FVec Ideal S8192x2048 .bf16) bitsLt_bf16_f32)
      (extf .f32 (A : FVec Ideal S8192x768 .bf16) bitsLt_bf16_f32)) transposes_S2048x768_S768x2048_1_0) bitsLt_bf16_f32
      = fun i => ∑ k : Fin 8192, at2 A k.val (i 0).val * at2 B k.val (i 1).val := by
  funext i
  simp only [truncf, transpose, Host.dotGeneral, Ideal.truncf_def, Ideal.dotGeneral_def, Ideal.matmul, zero_add]
  refine (sum_transposedLhs (M := 2048) (K := 8192) (N := 768) B A _).trans ?_
  refine Finset.sum_congr rfl fun k _ => ?_
  have e0 : ((transposes_S2048x768_S768x2048_1_0.src i) 0 : ℕ) = i 1 := by simp [Shape.Transposes.src]; rfl
  have e1 : ((transposes_S2048x768_S768x2048_1_0.src i) 1 : ℕ) = i 0 := by simp [Shape.Transposes.src]; rfl
  rw [e0, e1]
  exact mul_comm _ _

end Cert.ReferenceBbwIdeal.Product

namespace Cert.BbwValue

open Idealize.ShloMosaic Idealize.ShloMosaic.TcCoe Idealize.SL.Sem

/-- The gradient of the second branch's projection weight: the kernel's array is the reference's. -/
theorem algebraic : Cert.algebraic_KernelBbwIdeal_ReferenceBbwIdeal (hKernelBbwIdeal := Cert.KernelBbwIdeal.Gen.facts)
    (hReferenceBbwIdeal := Cert.ReferenceBbwIdeal.Gen.facts) :=
  fun m ρ m' ρ' _ hag => ⟨fun c => Cert.KernelBbwIdeal.Product.product m c,
    (θ_run _ _ _).mono (fun _ h c => ⟨(h c).1.trans (Cert.KernelBbwIdeal.Product.final m c), (h c).2⟩)
      (Cert.KernelBbwIdeal.Value.run m ρ),
    (θ_run _ _ _).mono (fun _ h c => ⟨(h c).1.trans (by
      rw [(hag c).1, (hag c).2]
      exact Cert.ReferenceBbwIdeal.Product.dot_apply _ _), (h c).2⟩) (Cert.ReferenceBbwIdeal.Value.run m' ρ')⟩

/-- The reference runs, leaves its arguments as they were, and ends with every counter at zero. -/
theorem reference_frame : Cert.quiescent_ReferenceBbwIdeal (hReferenceBbwIdeal := Cert.ReferenceBbwIdeal.Gen.facts) :=
  fun m ρ _ => (θ_run _ _ _).mono (fun r h => ⟨fun c => (h c).2, sem_eq_zero_of_no_sems (by decide) r.2⟩)
    (Cert.ReferenceBbwIdeal.Value.run m ρ)

end Cert.BbwValue

end
-- ==== Proof.PfValue.lean ====
/-
  The combined input projection: `h · w_in`.
  One point of the grid computes a whole block of the result.
  What one point adds, what the array holds after the run, and that this is the reference's array.
-/
module

public import proofs.«01_k».proof.Defs
public import proofs.«01_k».proof.Proof.Products
public import proofs.«01_k».proof.Proof.Gen.KernelPfIdeal.Value
public import proofs.«01_k».proof.Proof.Gen.ReferencePfIdeal.Run
public import Idealize.ShloMosaic.Lib.Pipeline.Value
public import Idealize.ShloMosaic.PureOps.Ideal

@[expose] public section

noncomputable section

namespace Cert.KernelPfIdeal.Product

open Idealize.ShloMosaic Idealize.ShloMosaic.TcCoe Idealize.SL.Sem Idealize.ShloMosaic.ValueIdx
open Cert.KernelPfIdeal Cert.KernelPfIdeal.Gen Cert.Products
open scoped BigOperators

theorem hz : (![0, 0] : Fin 2 → Nat) = fun _ => 0 := funext fun a => by fin_cases a <;> rfl

/-- What one point adds: the sum over its 2048 inner coordinates. -/
abbrev blockSum (x0 : Vec Ideal S1024x2048 .bf16) (x1 : Vec Ideal S2048x1024 .bf16) (j : S1024x1024.Idx) : EReal :=
  ∑ k : Fin 2048, at2 x0 (j 0).val k.val * at2 x1 k.val (j 1).val

/-- The block that one point writes, at an index. -/
theorem out_apply (x0 : Vec Ideal S1024x2048 .bf16) (x1 : Vec Ideal S2048x1024 .bf16) (j : S1024x1024.Idx) :
    out0_2 x0 x1 j = blockSum x0 x1 j := by
  unfold out0_2 k0_pay1
  rw [View.canon_unit_zero (S := S1024x1024) hz]
  simp only [View.ld_unit_zero (S := S1024x2048) hz, View.ld_unit_zero (S := S2048x1024) hz, matmul, constant, Ideal.matmul_def, Ideal.matmul]
  show (Ideal.ofBits .f32 0x00000000#32 + _ : EReal) = _
  rw [ofBits_zero, zero_add]
  exact sum_plain (M := 1024) (K := 2048) (N := 1024) x0 x1 j

variable (m : (ℓ : Loc nD τ sig) → Buf (Elt Ideal) ℓ) (ρ : Dev nD → PrngReg)

/-- The operands, and one term of their product. -/
abbrev opA (c : Dev nD) : S8192x2048.Idx → EReal := m ((c : Thread nD τ).loc main_arg0)
abbrev opB (c : Dev nD) : S2048x15360.Idx → EReal := m ((c : Thread nD τ).loc main_arg1)
abbrev term (c : Dev nD) (r c' k : ℕ) : EReal := at2 (opA m c) r k * at2 (opB m c) k c'

/-- Which block of each operand a point reads. -/
theorem idx_in : ∀ t : Fin cfg0.N, win0_0.index t (0 : Fin 2) = t.val / (15 * 1) ∧ win0_0.index t (1 : Fin 2) = t.val % 1
    ∧ win0_1.index t (0 : Fin 2) = t.val % 1 ∧ win0_1.index t (1 : Fin 2) = t.val / 1 % 15 :=
  (by decide +kernel : ∀ t : Fin grid0.N, _)

/-- The left block, read at natural coordinates. -/
theorem blkA (c : Dev nD) (t : Fin cfg0.N) (r k : ℕ) (hr : r < 1024) (hk : k < 2048) :
    at2 (a := 1024) (b := 2048) (iblk m c 0 t) r k = at2 (opA m c) (t.val / (15 * 1) * 1024 + r) (t.val % 1 * 2048 + k) := by
  obtain ⟨e0, e1, -, -⟩ := idx_in t
  rw [at2, dif_pos ⟨hr, hk⟩]
  refine at2_idx (opA m c) (((cfg0.win 0).blk t).view.emb (ix2 ⟨r, hr⟩ ⟨k, hk⟩)) _ _ ?_ ?_
  · show win0_0.index t (0 : Fin 2) * 1024 + 1 * r = _
    rw [e0]; omega
  · show win0_0.index t (1 : Fin 2) * 2048 + 1 * k = _
    rw [e1]; omega

/-- The right block, read at natural coordinates. -/
theorem blkB (c : Dev nD) (t : Fin cfg0.N) (r k : ℕ) (hr : r < 2048) (hk : k < 1024) :
    at2 (a := 2048) (b := 1024) (iblk m c 1 t) r k = at2 (opB m c) (t.val % 1 * 2048 + r) (t.val / 1 % 15 * 1024 + k) := by
  obtain ⟨-, -, e0, e1⟩ := idx_in t
  rw [at2, dif_pos ⟨hr, hk⟩]
  refine at2_idx (opB m c) (((cfg0.win 1).blk t).view.emb (ix2 ⟨r, hr⟩ ⟨k, hk⟩)) _ _ ?_ ?_
  · show win0_1.index t (0 : Fin 2) * 2048 + 1 * r = _
    rw [e0]; omega
  · show win0_1.index t (1 : Fin 2) * 1024 + 1 * k = _
    rw [e1]; omega

theorem blockSum_eq (c : Dev nD) (t : Fin cfg0.N) (j : S1024x1024.Idx) :
    blockSum (iblk m c 0 t) (iblk m c 1 t) j
      = tileSum (term m c) 15 1 1024 1024 2048 t.val (j 0).val (j 1).val := by
  refine Finset.sum_congr rfl fun k _ => ?_
  rw [blkA m c t _ _ (idx2_lt0 j) k.isLt, blkB m c t _ _ k.isLt (idx2_lt1 j)]

/-- The grid point whose block holds an index, and the index's place in that block. -/
def pt (i : S8192x15360.Idx) : Fin cfg0.N :=
  ⟨15 * ((i 0).val / 1024) + (i 1).val / 1024, by
    rw [show cfg0.N = 120 from N_0]
    have h0 : (i 0).val < 8192 := (i 0).isLt
    have h1 : (i 1).val < 15360 := (i 1).isLt
    omega⟩
def loc (i : S8192x15360.Idx) : S1024x1024.Idx := ix2 ⟨(i 0).val % 1024, Nat.mod_lt _ (by decide)⟩ ⟨(i 1).val % 1024, Nat.mod_lt _ (by decide)⟩

theorem idx_out : ∀ t : Fin cfg0.N, win0_2.index t (0 : Fin 2) = t.val / 15 ∧ win0_2.index t (1 : Fin 2) = t.val % 15 :=
  (by decide +kernel : ∀ t : Fin grid0.N, _)

/-- The whole product at an index. -/
def product (c : Dev nD) : S8192x15360.Idx → EReal := fun i => ∑ k : Fin 2048, term m c (i 0).val (i 1).val k.val

/-- The array after the run is the whole product. -/
theorem final (c : Dev nD) : (dats m 0 c).arrAt 2 cfg0.N = product m c := by
  funext i
  have hi0 : (i 0).val < 8192 := (i 0).isLt
  have hi1 : (i 1).val < 15360 := (i 1).isLt
  obtain ⟨e0, e1⟩ := idx_out (pt i)
  have hi : ((cfg0.win 2).blk (pt i)).view.emb (loc i) = i := by
    refine Shape.idx_ext₂ ?_ ?_
    · show win0_2.index (pt i) (0 : Fin 2) * 1024 + 1 * ((i 0).val % 1024) = _
      rw [e0]; show (15 * ((i 0).val / 1024) + (i 1).val / 1024) / 15 * 1024 + _ = _; omega
    · show win0_2.index (pt i) (1 : Fin 2) * 1024 + 1 * ((i 1).val % 1024) = _
      rw [e1]; show (15 * ((i 0).val / 1024) + (i 1).val / 1024) % 15 * 1024 + _ = _; omega
  have hb := congrFun (Value.blocks2 m c (pt i) (flush0_2 (pt i))) (loc i)
  rw [Value.flushed2] at hb
  have hr : ((cfg0.win 2).blk (pt i)).view.read (Elt Ideal) ((dats m 0 c).arrAt 2 cfg0.N) (loc i)
      = (dats m 0 c).arrAt 2 cfg0.N i := congrArg ((dats m 0 c).arrAt 2 cfg0.N) hi
  refine hr.symm.trans (hb.trans ((out_apply _ _ (loc i)).trans ((blockSum_eq m c (pt i) (loc i)).trans ?_)))
  have h := sum_tiles (term m c) 15 1 1024 1024 2048 (i 0).val (i 1).val (by decide) (by decide) hi1
  rw [Finset.sum_range_one] at h
  refine Eq.trans ?_ h
  show tileSum _ _ _ _ _ _ (15 * ((i 0).val / 1024) + (i 1).val / 1024) _ _ = _
  rw [one_mul, add_zero]; rfl

end Cert.KernelPfIdeal.Product

namespace Cert.ReferencePfIdeal.Product

open Idealize.ShloMosaic Idealize.ShloMosaic.TcCoe Idealize.SL.Sem
open Cert.ReferencePfIdeal Cert.ReferencePfIdeal.Gen Cert.Products
open scoped BigOperators

/-- The reference's array at an index. -/
theorem dot_apply (A : S8192x2048.Idx → EReal) (B : S2048x15360.Idx → EReal) :
    Host.dotGeneral (F := Ideal) (φ₁ := .f32) (φ₂ := .f32) dot_S8192x2048_S2048x15360_S8192x15360_1_0_0_1_n_n none
      (extf .f32 (A : FVec Ideal S8192x2048 .bf16) bitsLt_bf16_f32)
      (extf .f32 (B : FVec Ideal S2048x15360 .bf16) bitsLt_bf16_f32)
      = fun i => ∑ k : Fin 2048, at2 A (i 0).val k.val * at2 B k.val (i 1).val := by
  funext i
  simp only [Host.dotGeneral, Ideal.dotGeneral_def, Ideal.matmul, zero_add]
  exact sum_plain (M := 8192) (K := 2048) (N := 15360) A B i

end Cert.ReferencePfIdeal.Product

namespace Cert.PfValue

open Idealize.ShloMosaic Idealize.ShloMosaic.TcCoe Idealize.SL.Sem

/-- The combined input projection: the kernel's array is the reference's. -/
theorem algebraic : Cert.algebraic_KernelPfIdeal_ReferencePfIdeal (hKernelPfIdeal := Cert.KernelPfIdeal.Gen.facts)
    (hReferencePfIdeal := Cert.ReferencePfIdeal.Gen.facts) :=
  fun m ρ m' ρ' _ hag => ⟨fun c => Cert.KernelPfIdeal.Product.product m c,
    (θ_run _ _ _).mono (fun _ h c => ⟨(h c).1.trans (Cert.KernelPfIdeal.Product.final m c), (h c).2⟩)
      (Cert.KernelPfIdeal.Value.run_blocks m ρ),
    (θ_run _ _ _).mono (fun _ h c => ⟨(h c).1.trans (by
      rw [(hag c).1, (hag c).2]
      exact Cert.ReferencePfIdeal.Product.dot_apply _ _), (h c).2⟩) (Cert.ReferencePfIdeal.Value.run m' ρ')⟩

/-- The reference runs, leaves its arguments as they were, and ends with every counter at zero. -/
theorem reference_frame : Cert.quiescent_ReferencePfIdeal (hReferencePfIdeal := Cert.ReferencePfIdeal.Gen.facts) :=
  fun m ρ _ => (θ_run _ _ _).mono (fun r h => ⟨fun c => (h c).2, sem_eq_zero_of_no_sems (by decide) r.2⟩)
    (Cert.ReferencePfIdeal.Value.run m ρ)

end Cert.PfValue

end
-- ==== Proof.WfValue.lean ====
/-
  The output projection with the residual: `merged · w_out + x`.
  Each block of the result is accumulated over 2 blocks of the inner axis.
  What one point adds, what the array holds after the run, and that this is the reference's array.
-/
module

public import proofs.«01_k».proof.Defs
public import proofs.«01_k».proof.Proof.Products
public import proofs.«01_k».proof.Proof.Gen.KernelWfIdeal.Value
public import proofs.«01_k».proof.Proof.Gen.ReferenceWfIdeal.Run
public import Idealize.ShloMosaic.Lib.Pipeline.Value
public import Idealize.ShloMosaic.PureOps.Ideal

@[expose] public section

noncomputable section

namespace Cert.KernelWfIdeal.Product

open Idealize.ShloMosaic Idealize.ShloMosaic.TcCoe Idealize.SL.Sem Idealize.ShloMosaic.ValueIdx
open Cert.KernelWfIdeal Cert.KernelWfIdeal.Gen Cert.Products
open scoped BigOperators

theorem hz : (![0, 0] : Fin 2 → Nat) = fun _ => 0 := funext fun a => by fin_cases a <;> rfl

/-- What one point adds: the sum over its 1024 inner coordinates. -/
abbrev blockSum (x0 : Vec Ideal S1024x1024 .bf16) (x1 : Vec Ideal S1024x1024 .bf16) (j : S1024x1024.Idx) : EReal :=
  ∑ k : Fin 1024, at2 x0 (j 0).val k.val * at2 x1 k.val (j 1).val

/-- The body's product added to what it read, at an index. -/
theorem pay2_apply (acc : Vec Ideal S1024x1024 .f32) (x0 : Vec Ideal S1024x1024 .bf16) (x1 : Vec Ideal S1024x1024 .bf16) (j : S1024x1024.Idx) :
    k0_pay2 acc x0 x1 j = (acc j : EReal) + blockSum x0 x1 j := by
  unfold k0_pay2
  simp only [shapeCast_self, addf, matmul, constant, Ideal.addf_def, Ideal.matmul_def, Ideal.matmul]
  show (acc j : EReal) + (Ideal.ofBits .f32 0x00000000#32 + _) = _
  rw [ofBits_zero, zero_add]
  exact congrArg _ (sum_plain (M := 1024) (K := 1024) (N := 1024) x0 x1 j)

section Bodies
variable (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1024x1024 .f32) (h7 : a7.IsWhole)
  (x0 : Vec Ideal S1024x1024 .bf16) (x1 : Vec Ideal S1024x1024 .bf16) (x2 : Vec Ideal S1024x1024 .f32) (acc : Vec Ideal S1024x1024 .f32)

/-- The first of a block's 2 points stores zero plus its product. -/
theorem soutA (hc0 : cond0_0 i) (hc1 : ¬cond0_1 i) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- The last point adds its product to what the point before left, -/
theorem soutB (hc0 : ¬cond0_0 i) (hc1 : cond0_1 i) :
    sout0_B_0 c i a3 h3 a4 h4 a5 h5 a6 h6 a7 h7 hc0 hc1 x0 x1 x2 acc = k0_pay2 acc x0 x1 := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero (S := S1024x1024) hz]
  simp only [View.readAt_eq_ld, h3.read_unread, h4.read_unread, h7.read_unread,
    View.ld_unit_zero (S := S1024x1024) hz]

/-- and hands the sum with the residual to the block of the result. -/
theorem outLast (hc0 : ¬cond0_0 i) (hc1 : cond0_1 i) :
    out0_B_3 c i a3 h3 a4 h4 a5 h5 a6 h6 a7 h7 hc0 hc1 x0 x1 x2 acc = k0_pay3 (k0_pay2 acc x0 x1) x2 := by
  unfold out0_B_3
  rw [View.read_writes_eq_canon _ _ _ (cover0_B_3 c i a3 h3 a4 h4 a5 h5 a6 h6 a7 h7 hc0 hc1 x0 x1 x2 acc)]
  unfold kernelRun0_B
  dsimp only
  sl_unfold_words
  rw [View.canon_unit_zero (S := S1024x1024) hz, View.readCov_unit_zero (S := S1024x1024) _ hz]
  simp only [View.readAt_eq_ld, h3.read_unread, h4.read_unread, h5.read_unread, h7.read_unread,
    View.ld_unit_zero (S := S1024x1024) hz]

end Bodies

variable (m : (ℓ : Loc nD τ sig) → Buf (Elt Ideal) ℓ) (ρ : Dev nD → PrngReg)

/-- The operands, and one term of their product. -/
abbrev opA (c : Dev nD) : S8192x2048.Idx → EReal := m ((c : Thread nD τ).loc main_arg0)
abbrev opB (c : Dev nD) : S2048x2048.Idx → EReal := m ((c : Thread nD τ).loc main_arg1)
abbrev opC (c : Dev nD) : S8192x2048.Idx → EReal := m ((c : Thread nD τ).loc main_arg2)
abbrev term (c : Dev nD) (r c' k : ℕ) : EReal := at2 (opA m c) r k * at2 (opB m c) k c'

/-- Which block of each operand a point reads. -/
theorem idx_in : ∀ t : Fin cfg0.N, win0_0.index t (0 : Fin 2) = t.val / (2 * 2) ∧ win0_0.index t (1 : Fin 2) = t.val % 2
    ∧ win0_1.index t (0 : Fin 2) = t.val % 2 ∧ win0_1.index t (1 : Fin 2) = t.val / 2 % 2 :=
  (by decide +kernel : ∀ t : Fin grid0.N, _)

/-- The left block, read at natural coordinates. -/
theorem blkA (c : Dev nD) (t : Fin cfg0.N) (r k : ℕ) (hr : r < 1024) (hk : k < 1024) :
    at2 (a := 1024) (b := 1024) (iblk m c 0 t) r k = at2 (opA m c) (t.val / (2 * 2) * 1024 + r) (t.val % 2 * 1024 + k) := by
  obtain ⟨e0, e1, -, -⟩ := idx_in t
  rw [at2, dif_pos ⟨hr, hk⟩]
  refine at2_idx (opA m c) (((cfg0.win 0).blk t).view.emb (ix2 ⟨r, hr⟩ ⟨k, hk⟩)) _ _ ?_ ?_
  · show win0_0.index t (0 : Fin 2) * 1024 + 1 * r = _
    rw [e0]; omega
  · show win0_0.index t (1 : Fin 2) * 1024 + 1 * k = _
    rw [e1]; omega

/-- The right block, read at natural coordinates. -/
theorem blkB (c : Dev nD) (t : Fin cfg0.N) (r k : ℕ) (hr : r < 1024) (hk : k < 1024) :
    at2 (a := 1024) (b := 1024) (iblk m c 1 t) r k = at2 (opB m c) (t.val % 2 * 1024 + r) (t.val / 2 % 2 * 1024 + k) := by
  obtain ⟨-, -, e0, e1⟩ := idx_in t
  rw [at2, dif_pos ⟨hr, hk⟩]
  refine at2_idx (opB m c) (((cfg0.win 1).blk t).view.emb (ix2 ⟨r, hr⟩ ⟨k, hk⟩)) _ _ ?_ ?_
  · show win0_1.index t (0 : Fin 2) * 1024 + 1 * r = _
    rw [e0]; omega
  · show win0_1.index t (1 : Fin 2) * 1024 + 1 * k = _
    rw [e1]; omega

theorem blockSum_eq (c : Dev nD) (t : Fin cfg0.N) (j : S1024x1024.Idx) :
    blockSum (iblk m c 0 t) (iblk m c 1 t) j
      = tileSum (term m c) 2 2 1024 1024 1024 t.val (j 0).val (j 1).val := by
  refine Finset.sum_congr rfl fun k _ => ?_
  rw [blkA m c t _ _ (idx2_lt0 j) k.isLt, blkB m c t _ _ k.isLt (idx2_lt1 j)]

/-- What the carried block holds after the last point of a run: the sum of what the run's points add. -/
theorem carried (c : Dev nD) (t : Fin cfg0.N) (ht : t.val % 2 = 1) (j : S1024x1024.Idx) :
    (outsAt0 m c t.val t.isLt).2 j
      = ∑ s ∈ Finset.range 2, tileSum (term m c) 2 2 1024 1024 1024 (2 * (t.val / 2) + s) (j 0).val (j 1).val := by
  have hN := lt_of_lt_of_eq t.isLt (show cfg0.N = 32 from N_0)
  rw [Value.soutsAt0_0_eq]
  have key := Pipeline.accAt_add_apply (β := EReal)
    (fun n h => Value.scAt0_0 m c n h (VS0_0.read (Elt Ideal) VS0_0.junk)) (Value.scAt0_0 m c)
    (fun _ => 0) (fun n (j : S1024x1024.Idx) => tileSum (term m c) 2 2 1024 1024 1024 n (j 0).val (j 1).val) (2 * (t.val / 2)) 1
    (fun h i => by
      have h0 : 2 * (t.val / 2) % 2 = 0 := by omega
      have h1 : ¬2 * (t.val / 2) % 2 = 1 := by omega
      unfold Value.scAt0_0
      rw [dif_pos h0, dif_neg h1, soutA, pay2_apply, blockSum_eq m c ⟨2 * (t.val / 2), h⟩ i]
      congr 1
      unfold k0_pay1
      simp only [shapeCast_self, broadcast]
      exact ofBits_zero)
    (fun n h acc i hn1 hn2 => by
      have h0 : ¬n % 2 = 0 := by omega
      have h1 : n % 2 = 1 := by omega
      unfold Value.scAt0_0
      rw [dif_neg h0, dif_pos h1, soutB, pay2_apply, blockSum_eq m c ⟨n, h⟩ i])
    (t.val % 2) (by omega) (by have := Nat.div_add_mod t.val 2; omega) j
  rw [key, zero_add, ht]

/-- The residual's block is the block of the result. -/
theorem idx_res : ∀ t : Fin cfg0.N, win0_2.index t (0 : Fin 2) = t.val / (2 * 2) ∧ win0_2.index t (1 : Fin 2) = t.val / 2 % 2 :=
  (by decide +kernel : ∀ t : Fin grid0.N, _)

/-- The residual's block at an index's place is the residual at the index. -/
theorem residual (c : Dev nD) (i : S8192x2048.Idx) (hp : Value.pt3Of i < cfg0.N) :
    iblk m c 2 ⟨Value.pt3Of i, hp⟩ (Value.loc3Of i) = opC m c i := by
  have hi0 : (i 0).val < 8192 := (i 0).isLt
  have hi1 : (i 1).val < 2048 := (i 1).isLt
  obtain ⟨e0, e1⟩ := idx_res ⟨Value.pt3Of i, hp⟩
  refine congrArg (opC m c) (a₁ := ((cfg0.win 2).blk ⟨Value.pt3Of i, hp⟩).view.emb (Value.loc3Of i)) (Shape.idx_ext₂ ?_ ?_)
  · show win0_2.index ⟨Value.pt3Of i, hp⟩ (0 : Fin 2) * 1024 + 1 * ((i 0).val % 1024) = _
    rw [e0]
    show (2 * (2 * ((i 0).val / 1024 - 0) + 1 * ((i 1).val / 1024 - 0)) + 1) / (2 * 2) * 1024 + _ = _
    omega
  · show win0_2.index ⟨Value.pt3Of i, hp⟩ (1 : Fin 2) * 1024 + 1 * ((i 1).val % 1024) = _
    rw [e1]
    show (2 * (2 * ((i 0).val / 1024 - 0) + 1 * ((i 1).val / 1024 - 0)) + 1) / 2 % 2 * 1024 + _ = _
    omega

/-- The whole product at an index, and the residual. -/
def product (c : Dev nD) : S8192x2048.Idx → EReal := fun i => (∑ k : Fin 2048, term m c (i 0).val (i 1).val k.val) + opC m c i

/-- The array after the run is the whole product. -/
theorem final (c : Dev nD) : Value.G3 m c = product m c := by
  funext i
  have hi0 : (i 0).val < 8192 := (i 0).isLt
  have hi1 : (i 1).val < 2048 := (i 1).isLt
  have hp : Value.pt3Of i < cfg0.N := by
    rw [show cfg0.N = 32 from N_0]
    show (2 * (2 * ((i 0).val / 1024 - 0) + 1 * ((i 1).val / 1024 - 0)) + 1) < 32
    omega
  have hm : Value.pt3Of i % 2 = 1 := by
    show (2 * (2 * ((i 0).val / 1024 - 0) + 1 * ((i 1).val / 1024 - 0)) + 1) % 2 = 1
    omega
  have hd : Value.pt3Of i / 2 = 2 * ((i 0).val / 1024) + (i 1).val / 1024 := by
    show (2 * (2 * ((i 0).val / 1024 - 0) + 1 * ((i 1).val / 1024 - 0)) + 1) / 2 = _
    omega
  have key : (outsAt0 m c (Value.pt3Of i) hp).2 (Value.loc3Of i) = ∑ k : Fin 2048, term m c (i 0).val (i 1).val k.val := by
    refine (carried m c ⟨Value.pt3Of i, hp⟩ hm _).trans ?_
    dsimp only
    rw [hd]
    exact sum_tiles (term m c) 2 2 1024 1024 1024 (i 0).val (i 1).val (by decide) (by decide) hi1
  unfold Value.G3
  rw [dif_pos hp, ← Value.outsAt0_sweep m c _ hp]
  have hC := outsAt0_B m c ⟨Value.pt3Of i, hp⟩ (by dsimp only; omega) hm
  dsimp only at hC
  rw [hC] at key ⊢
  dsimp only at key ⊢
  rw [soutB] at key
  rw [outLast]
  exact congrArg₂ (· + ·) key (residual m c i hp)

end Cert.KernelWfIdeal.Product

namespace Cert.ReferenceWfIdeal.Product

open Idealize.ShloMosaic Idealize.ShloMosaic.TcCoe Idealize.SL.Sem
open Cert.ReferenceWfIdeal Cert.ReferenceWfIdeal.Gen Cert.Products
open scoped BigOperators

/-- The reference's array at an index. -/
theorem dot_apply (A : S8192x2048.Idx → EReal) (B : S2048x2048.Idx → EReal) (C : S8192x2048.Idx → EReal) :
    addf (C : FVec Ideal S8192x2048 .f32) (Host.dotGeneral (F := Ideal) (φ₁ := .f32) (φ₂ := .f32) dot_S8192x2048_S2048x2048_S8192x2048_1_0_0_1_n_n none
      (extf .f32 (A : FVec Ideal S8192x2048 .bf16) bitsLt_bf16_f32)
      (extf .f32 (B : FVec Ideal S2048x2048 .bf16) bitsLt_bf16_f32))
      = fun i => (∑ k : Fin 2048, at2 A (i 0).val k.val * at2 B k.val (i 1).val) + C i := by
  funext i
  simp only [addf, Host.dotGeneral, Ideal.addf_def, Ideal.dotGeneral_def, Ideal.matmul, zero_add]
  rw [add_comm]
  exact congrArg (· + C i) (sum_plain (M := 8192) (K := 2048) (N := 2048) A B i)

end Cert.ReferenceWfIdeal.Product

namespace Cert.WfValue

open Idealize.ShloMosaic Idealize.ShloMosaic.TcCoe Idealize.SL.Sem

/-- The output projection with the residual: the kernel's array is the reference's. -/
theorem algebraic : Cert.algebraic_KernelWfIdeal_ReferenceWfIdeal (hKernelWfIdeal := Cert.KernelWfIdeal.Gen.facts)
    (hReferenceWfIdeal := Cert.ReferenceWfIdeal.Gen.facts) :=
  fun m ρ m' ρ' _ hag => ⟨fun c => Cert.KernelWfIdeal.Product.product m c,
    (θ_run _ _ _).mono (fun _ h c => ⟨(h c).1.trans (Cert.KernelWfIdeal.Product.final m c), (h c).2⟩)
      (Cert.KernelWfIdeal.Value.run m ρ),
    (θ_run _ _ _).mono (fun _ h c => ⟨(h c).1.trans (by
      rw [(hag c).1, (hag c).2.1, (hag c).2.2]
      exact Cert.ReferenceWfIdeal.Product.dot_apply _ _ _), (h c).2⟩) (Cert.ReferenceWfIdeal.Value.run m' ρ')⟩

/-- The reference runs, leaves its arguments as they were, and ends with every counter at zero. -/
theorem reference_frame : Cert.quiescent_ReferenceWfIdeal (hReferenceWfIdeal := Cert.ReferenceWfIdeal.Gen.facts) :=
  fun m ρ _ => (θ_run _ _ _).mono (fun r h => ⟨fun c => (h c).2, sem_eq_zero_of_no_sems (by decide) r.2⟩)
    (Cert.ReferenceWfIdeal.Value.run m ρ)

end Cert.WfValue

end
-- ==== Proof.AfValue.lean ====
/-
  The first branch's projection: `y_a · proj_a`.
  One point of the grid computes a whole block of the result.
  What one point adds, what the array holds after the run, and that this is the reference's array.
-/
module

public import proofs.«01_k».proof.Defs
public import proofs.«01_k».proof.Proof.Products
public import proofs.«01_k».proof.Proof.Gen.KernelAfIdeal.Value
public import proofs.«01_k».proof.Proof.Gen.ReferenceAfIdeal.Run
public import Idealize.ShloMosaic.Lib.Pipeline.Value
public import Idealize.ShloMosaic.PureOps.Ideal

@[expose] public section

noncomputable section

namespace Cert.KernelAfIdeal.Product

open Idealize.ShloMosaic Idealize.ShloMosaic.TcCoe Idealize.SL.Sem Idealize.ShloMosaic.ValueIdx
open Cert.KernelAfIdeal Cert.KernelAfIdeal.Gen Cert.Products
open scoped BigOperators

theorem hz : (![0, 0] : Fin 2 → Nat) = fun _ => 0 := funext fun a => by fin_cases a <;> rfl

/-- What one point adds: the sum over its 1024 inner coordinates. -/
abbrev blockSum (x0 : Vec Ideal S1024x1024 .bf16) (x1 : Vec Ideal S1024x1024 .bf16) (j : S1024x1024.Idx) : EReal :=
  ∑ k : Fin 1024, at2 x0 (j 0).val k.val * at2 x1 k.val (j 1).val

/-- The block that one point writes, at an index. -/
theorem out_apply (x0 : Vec Ideal S1024x1024 .bf16) (x1 : Vec Ideal S1024x1024 .bf16) (j : S1024x1024.Idx) :
    out0_2 x0 x1 j = blockSum x0 x1 j := by
  unfold out0_2 k0_pay1
  rw [View.canon_unit_zero (S := S1024x1024) hz]
  simp only [View.ld_unit_zero (S := S1024x1024) hz, matmul, constant, Ideal.matmul_def, Ideal.matmul]
  show (Ideal.ofBits .f32 0x00000000#32 + _ : EReal) = _
  rw [ofBits_zero, zero_add]
  exact sum_plain (M := 1024) (K := 1024) (N := 1024) x0 x1 j

variable (m : (ℓ : Loc nD τ sig) → Buf (Elt Ideal) ℓ) (ρ : Dev nD → PrngReg)

/-- The operands, and one term of their product. -/
abbrev opA (c : Dev nD) : S8192x1024.Idx → EReal := m ((c : Thread nD τ).loc main_arg0)
abbrev opB (c : Dev nD) : S1024x2048.Idx → EReal := m ((c : Thread nD τ).loc main_arg1)
abbrev term (c : Dev nD) (r c' k : ℕ) : EReal := at2 (opA m c) r k * at2 (opB m c) k c'

/-- Which block of each operand a point reads. -/
theorem idx_in : ∀ t : Fin cfg0.N, win0_0.index t (0 : Fin 2) = t.val / (2 * 1) ∧ win0_0.index t (1 : Fin 2) = t.val % 1
    ∧ win0_1.index t (0 : Fin 2) = t.val % 1 ∧ win0_1.index t (1 : Fin 2) = t.val / 1 % 2 :=
  (by decide +kernel : ∀ t : Fin grid0.N, _)

/-- The left block, read at natural coordinates. -/
theorem blkA (c : Dev nD) (t : Fin cfg0.N) (r k : ℕ) (hr : r < 1024) (hk : k < 1024) :
    at2 (a := 1024) (b := 1024) (iblk m c 0 t) r k = at2 (opA m c) (t.val / (2 * 1) * 1024 + r) (t.val % 1 * 1024 + k) := by
  obtain ⟨e0, e1, -, -⟩ := idx_in t
  rw [at2, dif_pos ⟨hr, hk⟩]
  refine at2_idx (opA m c) (((cfg0.win 0).blk t).view.emb (ix2 ⟨r, hr⟩ ⟨k, hk⟩)) _ _ ?_ ?_
  · show win0_0.index t (0 : Fin 2) * 1024 + 1 * r = _
    rw [e0]; omega
  · show win0_0.index t (1 : Fin 2) * 1024 + 1 * k = _
    rw [e1]; omega

/-- The right block, read at natural coordinates. -/
theorem blkB (c : Dev nD) (t : Fin cfg0.N) (r k : ℕ) (hr : r < 1024) (hk : k < 1024) :
    at2 (a := 1024) (b := 1024) (iblk m c 1 t) r k = at2 (opB m c) (t.val % 1 * 1024 + r) (t.val / 1 % 2 * 1024 + k) := by
  obtain ⟨-, -, e0, e1⟩ := idx_in t
  rw [at2, dif_pos ⟨hr, hk⟩]
  refine at2_idx (opB m c) (((cfg0.win 1).blk t).view.emb (ix2 ⟨r, hr⟩ ⟨k, hk⟩)) _ _ ?_ ?_
  · show win0_1.index t (0 : Fin 2) * 1024 + 1 * r = _
    rw [e0]; omega
  · show win0_1.index t (1 : Fin 2) * 1024 + 1 * k = _
    rw [e1]; omega

theorem blockSum_eq (c : Dev nD) (t : Fin cfg0.N) (j : S1024x1024.Idx) :
    blockSum (iblk m c 0 t) (iblk m c 1 t) j
      = tileSum (term m c) 2 1 1024 1024 1024 t.val (j 0).val (j 1).val := by
  refine Finset.sum_congr rfl fun k _ => ?_
  rw [blkA m c t _ _ (idx2_lt0 j) k.isLt, blkB m c t _ _ k.isLt (idx2_lt1 j)]

/-- The grid point whose block holds an index, and the index's place in that block. -/
def pt (i : S8192x2048.Idx) : Fin cfg0.N :=
  ⟨2 * ((i 0).val / 1024) + (i 1).val / 1024, by
    rw [show cfg0.N = 16 from N_0]
    have h0 : (i 0).val < 8192 := (i 0).isLt
    have h1 : (i 1).val < 2048 := (i 1).isLt
    omega⟩
def loc (i : S8192x2048.Idx) : S1024x1024.Idx := ix2 ⟨(i 0).val % 1024, Nat.mod_lt _ (by decide)⟩ ⟨(i 1).val % 1024, Nat.mod_lt _ (by decide)⟩

theorem idx_out : ∀ t : Fin cfg0.N, win0_2.index t (0 : Fin 2) = t.val / 2 ∧ win0_2.index t (1 : Fin 2) = t.val % 2 :=
  (by decide +kernel : ∀ t : Fin grid0.N, _)

/-- The whole product at an index. -/
def product (c : Dev nD) : S8192x2048.Idx → EReal := fun i => ∑ k : Fin 1024, term m c (i 0).val (i 1).val k.val

/-- The array after the run is the whole product. -/
theorem final (c : Dev nD) : (dats m 0 c).arrAt 2 cfg0.N = product m c := by
  funext i
  have hi0 : (i 0).val < 8192 := (i 0).isLt
  have hi1 : (i 1).val < 2048 := (i 1).isLt
  obtain ⟨e0, e1⟩ := idx_out (pt i)
  have hi : ((cfg0.win 2).blk (pt i)).view.emb (loc i) = i := by
    refine Shape.idx_ext₂ ?_ ?_
    · show win0_2.index (pt i) (0 : Fin 2) * 1024 + 1 * ((i 0).val % 1024) = _
      rw [e0]; show (2 * ((i 0).val / 1024) + (i 1).val / 1024) / 2 * 1024 + _ = _; omega
    · show win0_2.index (pt i) (1 : Fin 2) * 1024 + 1 * ((i 1).val % 1024) = _
      rw [e1]; show (2 * ((i 0).val / 1024) + (i 1).val / 1024) % 2 * 1024 + _ = _; omega
  have hb := congrFun (Value.blocks2 m c (pt i) (flush0_2 (pt i))) (loc i)
  rw [Value.flushed2] at hb
  have hr : ((cfg0.win 2).blk (pt i)).view.read (Elt Ideal) ((dats m 0 c).arrAt 2 cfg0.N) (loc i)
      = (dats m 0 c).arrAt 2 cfg0.N i := congrArg ((dats m 0 c).arrAt 2 cfg0.N) hi
  refine hr.symm.trans (hb.trans ((out_apply _ _ (loc i)).trans ((blockSum_eq m c (pt i) (loc i)).trans ?_)))
  have h := sum_tiles (term m c) 2 1 1024 1024 1024 (i 0).val (i 1).val (by decide) (by decide) hi1
  rw [Finset.sum_range_one] at h
  refine Eq.trans ?_ h
  show tileSum _ _ _ _ _ _ (2 * ((i 0).val / 1024) + (i 1).val / 1024) _ _ = _
  rw [one_mul, add_zero]; rfl

end Cert.KernelAfIdeal.Product

namespace Cert.ReferenceAfIdeal.Product

open Idealize.ShloMosaic Idealize.ShloMosaic.TcCoe Idealize.SL.Sem
open Cert.ReferenceAfIdeal Cert.ReferenceAfIdeal.Gen Cert.Products
open scoped BigOperators

/-- The reference's array at an index. -/
theorem dot_apply (A : S8192x1024.Idx → EReal) (B : S1024x2048.Idx → EReal) :
    Host.dotGeneral (F := Ideal) (φ₁ := .f32) (φ₂ := .f32) dot_S8192x1024_S1024x2048_S8192x2048_1_0_0_1_n_n none
      (extf .f32 (A : FVec Ideal S8192x1024 .bf16) bitsLt_bf16_f32)
      (extf .f32 (B : FVec Ideal S1024x2048 .bf16) bitsLt_bf16_f32)
      = fun i => ∑ k : Fin 1024, at2 A (i 0).val k.val * at2 B k.val (i 1).val := by
  funext i
  simp only [Host.dotGeneral, Ideal.dotGeneral_def, Ideal.matmul, zero_add]
  exact sum_plain (M := 8192) (K := 1024) (N := 2048) A B i

end Cert.ReferenceAfIdeal.Product

namespace Cert.AfValue

open Idealize.ShloMosaic Idealize.ShloMosaic.TcCoe Idealize.SL.Sem

/-- The first branch's projection: the kernel's array is the reference's. -/
theorem algebraic : Cert.algebraic_KernelAfIdeal_ReferenceAfIdeal (hKernelAfIdeal := Cert.KernelAfIdeal.Gen.facts)
    (hReferenceAfIdeal := Cert.ReferenceAfIdeal.Gen.facts) :=
  fun m ρ m' ρ' _ hag => ⟨fun c => Cert.KernelAfIdeal.Product.product m c,
    (θ_run _ _ _).mono (fun _ h c => ⟨(h c).1.trans (Cert.KernelAfIdeal.Product.final m c), (h c).2⟩)
      (Cert.KernelAfIdeal.Value.run_blocks m ρ),
    (θ_run _ _ _).mono (fun _ h c => ⟨(h c).1.trans (by
      rw [(hag c).1, (hag c).2]
      exact Cert.ReferenceAfIdeal.Product.dot_apply _ _), (h c).2⟩) (Cert.ReferenceAfIdeal.Value.run m' ρ')⟩

/-- The reference runs, leaves its arguments as they were, and ends with every counter at zero. -/
theorem reference_frame : Cert.quiescent_ReferenceAfIdeal (hReferenceAfIdeal := Cert.ReferenceAfIdeal.Gen.facts) :=
  fun m ρ _ => (θ_run _ _ _).mono (fun r h => ⟨fun c => (h c).2, sem_eq_zero_of_no_sems (by decide) r.2⟩)
    (Cert.ReferenceAfIdeal.Value.run m ρ)

end Cert.AfValue

end
-- ==== Proof.BfValue.lean ====
/-
  The second branch's projection: `y_b · proj_b`.
  One point of the grid computes a whole block of the result.
  What one point adds, what the array holds after the run, and that this is the reference's array.
-/
module

public import proofs.«01_k».proof.Defs
public import proofs.«01_k».proof.Proof.Products
public import proofs.«01_k».proof.Proof.Gen.KernelBfIdeal.Value
public import proofs.«01_k».proof.Proof.Gen.ReferenceBfIdeal.Run
public import Idealize.ShloMosaic.Lib.Pipeline.Value
public import Idealize.ShloMosaic.PureOps.Ideal

@[expose] public section

noncomputable section

namespace Cert.KernelBfIdeal.Product

open Idealize.ShloMosaic Idealize.ShloMosaic.TcCoe Idealize.SL.Sem Idealize.ShloMosaic.ValueIdx
open Cert.KernelBfIdeal Cert.KernelBfIdeal.Gen Cert.Products
open scoped BigOperators

theorem hz : (![0, 0] : Fin 2 → Nat) = fun _ => 0 := funext fun a => by fin_cases a <;> rfl

/-- What one point adds: the sum over its 768 inner coordinates. -/
abbrev blockSum (x0 : Vec Ideal S1024x768 .bf16) (x1 : Vec Ideal S768x1024 .bf16) (j : S1024x1024.Idx) : EReal :=
  ∑ k : Fin 768, at2 x0 (j 0).val k.val * at2 x1 k.val (j 1).val

/-- The block that one point writes, at an index. -/
theorem out_apply (x0 : Vec Ideal S1024x768 .bf16) (x1 : Vec Ideal S768x1024 .bf16) (j : S1024x1024.Idx) :
    out0_2 x0 x1 j = blockSum x0 x1 j := by
  unfold out0_2 k0_pay1
  rw [View.canon_unit_zero (S := S1024x1024) hz]
  simp only [View.ld_unit_zero (S := S1024x768) hz, View.ld_unit_zero (S := S768x1024) hz, matmul, constant, Ideal.matmul_def, Ideal.matmul]
  show (Ideal.ofBits .f32 0x00000000#32 + _ : EReal) = _
  rw [ofBits_zero, zero_add]
  exact sum_plain (M := 1024) (K := 768) (N := 1024) x0 x1 j

variable (m : (ℓ : Loc nD τ sig) → Buf (Elt Ideal) ℓ) (ρ : Dev nD → PrngReg)

/-- The operands, and one term of their product. -/
abbrev opA (c : Dev nD) : S8192x768.Idx → EReal := m ((c : Thread nD τ).loc main_arg0)
abbrev opB (c : Dev nD) : S768x2048.Idx → EReal := m ((c : Thread nD τ).loc main_arg1)
abbrev term (c : Dev nD) (r c' k : ℕ) : EReal := at2 (opA m c) r k * at2 (opB m c) k c'

/-- Which block of each operand a point reads. -/
theorem idx_in : ∀ t : Fin cfg0.N, win0_0.index t (0 : Fin 2) = t.val / (2 * 1) ∧ win0_0.index t (1 : Fin 2) = t.val % 1
    ∧ win0_1.index t (0 : Fin 2) = t.val % 1 ∧ win0_1.index t (1 : Fin 2) = t.val / 1 % 2 :=
  (by decide +kernel : ∀ t : Fin grid0.N, _)

/-- The left block, read at natural coordinates. -/
theorem blkA (c : Dev nD) (t : Fin cfg0.N) (r k : ℕ) (hr : r < 1024) (hk : k < 768) :
    at2 (a := 1024) (b := 768) (iblk m c 0 t) r k = at2 (opA m c) (t.val / (2 * 1) * 1024 + r) (t.val % 1 * 768 + k) := by
  obtain ⟨e0, e1, -, -⟩ := idx_in t
  rw [at2, dif_pos ⟨hr, hk⟩]
  refine at2_idx (opA m c) (((cfg0.win 0).blk t).view.emb (ix2 ⟨r, hr⟩ ⟨k, hk⟩)) _ _ ?_ ?_
  · show win0_0.index t (0 : Fin 2) * 1024 + 1 * r = _
    rw [e0]; omega
  · show win0_0.index t (1 : Fin 2) * 768 + 1 * k = _
    rw [e1]; omega

/-- The right block, read at natural coordinates. -/
theorem blkB (c : Dev nD) (t : Fin cfg0.N) (r k : ℕ) (hr : r < 768) (hk : k < 1024) :
    at2 (a := 768) (b := 1024) (iblk m c 1 t) r k = at2 (opB m c) (t.val % 1 * 768 + r) (t.val / 1 % 2 * 1024 + k) := by
  obtain ⟨-, -, e0, e1⟩ := idx_in t
  rw [at2, dif_pos ⟨hr, hk⟩]
  refine at2_idx (opB m c) (((cfg0.win 1).blk t).view.emb (ix2 ⟨r, hr⟩ ⟨k, hk⟩)) _ _ ?_ ?_
  · show win0_1.index t (0 : Fin 2) * 768 + 1 * r = _
    rw [e0]; omega
  · show win0_1.index t (1 : Fin 2) * 1024 + 1 * k = _
    rw [e1]; omega

theorem blockSum_eq (c : Dev nD) (t : Fin cfg0.N) (j : S1024x1024.Idx) :
    blockSum (iblk m c 0 t) (iblk m c 1 t) j
      = tileSum (term m c) 2 1 1024 1024 768 t.val (j 0).val (j 1).val := by
  refine Finset.sum_congr rfl fun k _ => ?_
  rw [blkA m c t _ _ (idx2_lt0 j) k.isLt, blkB m c t _ _ k.isLt (idx2_lt1 j)]

/-- The grid point whose block holds an index, and the index's place in that block. -/
def pt (i : S8192x2048.Idx) : Fin cfg0.N :=
  ⟨2 * ((i 0).val / 1024) + (i 1).val / 1024, by
    rw [show cfg0.N = 16 from N_0]
    have h0 : (i 0).val < 8192 := (i 0).isLt
    have h1 : (i 1).val < 2048 := (i 1).isLt
    omega⟩
def loc (i : S8192x2048.Idx) : S1024x1024.Idx := ix2 ⟨(i 0).val % 1024, Nat.mod_lt _ (by decide)⟩ ⟨(i 1).val % 1024, Nat.mod_lt _ (by decide)⟩

theorem idx_out : ∀ t : Fin cfg0.N, win0_2.index t (0 : Fin 2) = t.val / 2 ∧ win0_2.index t (1 : Fin 2) = t.val % 2 :=
  (by decide +kernel : ∀ t : Fin grid0.N, _)

/-- The whole product at an index. -/
def product (c : Dev nD) : S8192x2048.Idx → EReal := fun i => ∑ k : Fin 768, term m c (i 0).val (i 1).val k.val

/-- The array after the run is the whole product. -/
theorem final (c : Dev nD) : (dats m 0 c).arrAt 2 cfg0.N = product m c := by
  funext i
  have hi0 : (i 0).val < 8192 := (i 0).isLt
  have hi1 : (i 1).val < 2048 := (i 1).isLt
  obtain ⟨e0, e1⟩ := idx_out (pt i)
  have hi : ((cfg0.win 2).blk (pt i)).view.emb (loc i) = i := by
    refine Shape.idx_ext₂ ?_ ?_
    · show win0_2.index (pt i) (0 : Fin 2) * 1024 + 1 * ((i 0).val % 1024) = _
      rw [e0]; show (2 * ((i 0).val / 1024) + (i 1).val / 1024) / 2 * 1024 + _ = _; omega
    · show win0_2.index (pt i) (1 : Fin 2) * 1024 + 1 * ((i 1).val % 1024) = _
      rw [e1]; show (2 * ((i 0).val / 1024) + (i 1).val / 1024) % 2 * 1024 + _ = _; omega
  have hb := congrFun (Value.blocks2 m c (pt i) (flush0_2 (pt i))) (loc i)
  rw [Value.flushed2] at hb
  have hr : ((cfg0.win 2).blk (pt i)).view.read (Elt Ideal) ((dats m 0 c).arrAt 2 cfg0.N) (loc i)
      = (dats m 0 c).arrAt 2 cfg0.N i := congrArg ((dats m 0 c).arrAt 2 cfg0.N) hi
  refine hr.symm.trans (hb.trans ((out_apply _ _ (loc i)).trans ((blockSum_eq m c (pt i) (loc i)).trans ?_)))
  have h := sum_tiles (term m c) 2 1 1024 1024 768 (i 0).val (i 1).val (by decide) (by decide) hi1
  rw [Finset.sum_range_one] at h
  refine Eq.trans ?_ h
  show tileSum _ _ _ _ _ _ (2 * ((i 0).val / 1024) + (i 1).val / 1024) _ _ = _
  rw [one_mul, add_zero]; rfl

end Cert.KernelBfIdeal.Product

namespace Cert.ReferenceBfIdeal.Product

open Idealize.ShloMosaic Idealize.ShloMosaic.TcCoe Idealize.SL.Sem
open Cert.ReferenceBfIdeal Cert.ReferenceBfIdeal.Gen Cert.Products
open scoped BigOperators

/-- The reference's array at an index. -/
theorem dot_apply (A : S8192x768.Idx → EReal) (B : S768x2048.Idx → EReal) :
    Host.dotGeneral (F := Ideal) (φ₁ := .f32) (φ₂ := .f32) dot_S8192x768_S768x2048_S8192x2048_1_0_0_1_n_n none
      (extf .f32 (A : FVec Ideal S8192x768 .bf16) bitsLt_bf16_f32)
      (extf .f32 (B : FVec Ideal S768x2048 .bf16) bitsLt_bf16_f32)
      = fun i => ∑ k : Fin 768, at2 A (i 0).val k.val * at2 B k.val (i 1).val := by
  funext i
  simp only [Host.dotGeneral, Ideal.dotGeneral_def, Ideal.matmul, zero_add]
  exact sum_plain (M := 8192) (K := 768) (N := 2048) A B i

end Cert.ReferenceBfIdeal.Product

namespace Cert.BfValue

open Idealize.ShloMosaic Idealize.ShloMosaic.TcCoe Idealize.SL.Sem

/-- The second branch's projection: the kernel's array is the reference's. -/
theorem algebraic : Cert.algebraic_KernelBfIdeal_ReferenceBfIdeal (hKernelBfIdeal := Cert.KernelBfIdeal.Gen.facts)
    (hReferenceBfIdeal := Cert.ReferenceBfIdeal.Gen.facts) :=
  fun m ρ m' ρ' _ hag => ⟨fun c => Cert.KernelBfIdeal.Product.product m c,
    (θ_run _ _ _).mono (fun _ h c => ⟨(h c).1.trans (Cert.KernelBfIdeal.Product.final m c), (h c).2⟩)
      (Cert.KernelBfIdeal.Value.run_blocks m ρ),
    (θ_run _ _ _).mono (fun _ h c => ⟨(h c).1.trans (by
      rw [(hag c).1, (hag c).2]
      exact Cert.ReferenceBfIdeal.Product.dot_apply _ _), (h c).2⟩) (Cert.ReferenceBfIdeal.Value.run m' ρ')⟩

/-- The reference runs, leaves its arguments as they were, and ends with every counter at zero. -/
theorem reference_frame : Cert.quiescent_ReferenceBfIdeal (hReferenceBfIdeal := Cert.ReferenceBfIdeal.Gen.facts) :=
  fun m ρ _ => (θ_run _ _ _).mono (fun r h => ⟨fun c => (h c).2, sem_eq_zero_of_no_sems (by decide) r.2⟩)
    (Cert.ReferenceBfIdeal.Value.run m ρ)

end Cert.BfValue

end
-- ==== Proof.Optimiser.lean ====
/-
  AdamW's step on one weight, with the tenth step's bias corrections: shared by the optimiser's calls.
  The constants are the float32 words both programs carry.
-/
module

public import Idealize.ShloMosaic.PureOps.Ideal

@[expose] public section

noncomputable section

namespace Cert.Optimiser

open Idealize.ShloMosaic

/-- The new first moment: `0.9 m + 0.1 g`. -/
def moment (g m : EReal) : EReal := Ideal.ofBits .f32 0x3F666666#32 * m + Ideal.ofBits .f32 0x3DCCCCCD#32 * g

/-- The new second moment: `0.999 v + 0.001 g²`. -/
def square (g v : EReal) : EReal := Ideal.ofBits .f32 0x3F7FBE77#32 * v + Ideal.ofBits .f32 0x3A83126F#32 * (g * g)

/-- The change of the weight: `-0.001 (m̂ / (√v̂ + 1e-8) + 0.01 w)`, where `m̂ = m / (1 - 0.9¹⁰)` and
    `v̂ = v / (1 - 0.999¹⁰)` of the new moments. -/
def step (w g m v : EReal) : EReal :=
  Ideal.ofBits .f32 0xBA83126F#32 *
    (Ideal.div (Ideal.div (moment g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

end Cert.Optimiser

end
-- ==== Proof.OwValue.lean ====
/-
  The optimiser's step on the weight of the combined input projection: the sum of the gradients the eight devices sent, and AdamW's
  step with it. What one point stores, what the four arrays hold after the run, and that these are the reference's arrays.
-/
module

public import proofs.«01_k».proof.Defs
public import proofs.«01_k».proof.Proof.Optimiser
public import proofs.«01_k».proof.Proof.Gen.KernelOwIdeal.Value
public import proofs.«01_k».proof.Proof.Gen.ReferenceOwIdeal.Run
public import Idealize.ShloMosaic.Lib.Pipeline.Value
public import Idealize.ShloMosaic.Lib.Pointwise
public import Idealize.ShloMosaic.PureOps.Ideal

@[expose] public section

noncomputable section

namespace Cert.KernelOwIdeal.Slots

open Idealize.ShloMosaic Idealize.ShloMosaic.TcCoe Idealize.SL.Sem
open Cert.KernelOwIdeal Cert.KernelOwIdeal.Gen Cert.Optimiser
open scoped BigOperators

theorem hz : (![0, 0, 0] : Fin 3 → Nat) = fun _ => 0 := funext fun a => by fin_cases a <;> rfl

/-- The gradients the eight devices sent for one block of rows, added as the body adds them. -/
def slotSum (x : Vec Ideal S8x64x1860 .bf16) : FVec Ideal S64x1860 .f32 :=
  k0_pay9
    (View.ld x (Rect.unit _ _ inb_S8x64x1860_S1x64x1860_0_0_0))
    (View.ld x (Rect.unit _ _ inb_S8x64x1860_S1x64x1860_1_0_0))
    (View.ld x (Rect.unit _ _ inb_S8x64x1860_S1x64x1860_2_0_0))
    (View.ld x (Rect.unit _ _ inb_S8x64x1860_S1x64x1860_3_0_0))
    (View.ld x (Rect.unit _ _ inb_S8x64x1860_S1x64x1860_4_0_0))
    (View.ld x (Rect.unit _ _ inb_S8x64x1860_S1x64x1860_5_0_0))
    (View.ld x (Rect.unit _ _ inb_S8x64x1860_S1x64x1860_6_0_0))
    (View.ld x (Rect.unit _ _ inb_S8x64x1860_S1x64x1860_7_0_0))

/-- That sum, at an index. -/
theorem slotSum_apply (x : Vec Ideal S8x64x1860 .bf16) (r : Fin 64) (l : Fin 1860) :
    slotSum x (ix2 r l) = ∑ s : Fin 8, (x (ix3 s r l) : EReal) := by
  unfold slotSum
  pointwise [k0_pay9]
  exact (Fin.sum_univ_eight fun s => (x (ix3 s r l) : EReal)).symm

/-! What the four outputs' blocks get from the sum, the weight and the moments. -/

theorem pay13_apply (g : FVec Ideal S64x1860 .f32) (r : Fin 64) (l : Fin 1860) : k0_pay13 g (ix3 0 r l) = g (ix2 r l) := by
  pointwise [k0_pay13]

theorem pay1_apply (g : FVec Ideal S64x1860 .f32) (x : Vec Ideal S1x64x1860 .f32) (r : Fin 64) (l : Fin 1860) :
    k0_pay1 (k0_pay11 g x) (ix3 0 r l) = moment (g (ix2 r l)) (x (ix3 0 r l)) := by
  unfold moment
  pointwise [k0_pay1, k0_pay11]

theorem pay2_apply (g : FVec Ideal S64x1860 .f32) (x : Vec Ideal S1x64x1860 .f32) (r : Fin 64) (l : Fin 1860) :
    k0_pay2 (k0_pay12 g x) (ix3 0 r l) = square (g (ix2 r l)) (x (ix3 0 r l)) := by
  unfold square
  pointwise [k0_pay2, k0_pay12]

theorem pay14_apply (g : FVec Ideal S64x1860 .f32) (w m v : Vec Ideal S1x64x1860 .f32) (r : Fin 64) (l : Fin 1860) :
    k0_pay14 g (k0_pay10 w) m v (ix3 0 r l) = step (w (ix3 0 r l)) (g (ix2 r l)) (m (ix3 0 r l)) (v (ix3 0 r l)) := by
  unfold step moment square
  pointwise [k0_pay14, k0_pay10, k0_pay11, k0_pay12]

section Bodies
variable (c : Dev nD) (i : grid0.Coords)
  (a2 a3 a4 a5 : Memref sig .tc .vmem S8x64x1860 .bf16) (a6 a7 a8 a9 a10 a11 a12 : Memref sig .tc .vmem S1x64x1860 .f32)
  (h2 : a2.IsWhole) (h3 : a3.IsWhole) (h4 : a4.IsWhole) (h5 : a5.IsWhole) (h6 : a6.IsWhole) (h7 : a7.IsWhole) (h8 : a8.IsWhole)
  (h9 : a9.IsWhole) (h10 : a10.IsWhole) (h11 : a11.IsWhole) (h12 : a12.IsWhole)
  (x0 x1 x2 x3 : Vec Ideal S8x64x1860 .bf16) (x4 x5 x6 : Vec Ideal S1x64x1860 .f32)

/-! What the body stores at a point of each layer: the layer's own received block is the one it sums. -/

theorem outA (hc0 : cond0_0 i) (hc1 : ¬cond0_1 i) (hc2 : ¬cond0_2 i) (hc3 : ¬cond0_3 i) :
    out0_A_7 c i a2 h2 a3 h3 a4 h4 a5 h5 a6 h6 a7 h7 a8 h8 a9 h9 a10 h10 a11 h11 a12 h12 hc0 hc1 hc2 hc3 x0 x1 x2 x3 x4 x5 x6 = k0_pay13 (slotSum x0)
    ∧ out0_A_8 c i a2 h2 a3 h3 a4 h4 a5 h5 a6 h6 a7 h7 a8 h8 a9 h9 a10 h10 a11 h11 a12 h12 hc0 hc1 hc2 hc3 x0 x1 x2 x3 x4 x5 x6 = k0_pay14 (slotSum x0) (k0_pay10 x4) x5 x6
    ∧ out0_A_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x0) x5)
    ∧ out0_A_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x0) x6) := by
  refine ⟨(View.read_writes_eq_canon _ _ _ (fun _ => cover0_A_7 ..)).trans ?_,
    (View.read_writes_eq_canon _ _ _ (fun _ => cover0_A_8 ..)).trans ?_,
    (View.read_writes_eq_canon _ _ _ (fun _ => cover0_A_9 ..)).trans ?_,
    (View.read_writes_eq_canon _ _ _ (fun _ => cover0_A_10 ..)).trans ?_⟩
  all_goals
    unfold kernelRun0_A
    dsimp only
    sl_unfold_words
    rw [View.canon_unit_zero (S := S1x64x1860) hz]
    simp only [View.readAt_eq_ld, h2.read_unread, h6.read_unread, h7.read_unread, h8.read_unread, View.ld_unit_zero (S := S1x64x1860) hz]
    rfl

theorem outB (hc0 : ¬cond0_0 i) (hc1 : cond0_1 i) (hc2 : ¬cond0_2 i) (hc3 : ¬cond0_3 i) :
    out0_B_7 c i a2 h2 a3 h3 a4 h4 a5 h5 a6 h6 a7 h7 a8 h8 a9 h9 a10 h10 a11 h11 a12 h12 hc0 hc1 hc2 hc3 x0 x1 x2 x3 x4 x5 x6 = k0_pay13 (slotSum x1)
    ∧ out0_B_8 c i a2 h2 a3 h3 a4 h4 a5 h5 a6 h6 a7 h7 a8 h8 a9 h9 a10 h10 a11 h11 a12 h12 hc0 hc1 hc2 hc3 x0 x1 x2 x3 x4 x5 x6 = k0_pay14 (slotSum x1) (k0_pay10 x4) x5 x6
    ∧ out0_B_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x1) x5)
    ∧ out0_B_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x1) x6) := by
  refine ⟨(View.read_writes_eq_canon _ _ _ (fun _ => cover0_B_7 ..)).trans ?_,
    (View.read_writes_eq_canon _ _ _ (fun _ => cover0_B_8 ..)).trans ?_,
    (View.read_writes_eq_canon _ _ _ (fun _ => cover0_B_9 ..)).trans ?_,
    (View.read_writes_eq_canon _ _ _ (fun _ => cover0_B_10 ..)).trans ?_⟩
  all_goals
    unfold kernelRun0_B
    dsimp only
    sl_unfold_words
    rw [View.canon_unit_zero (S := S1x64x1860) hz]
    simp only [View.readAt_eq_ld, h3.read_unread, h6.read_unread, h7.read_unread, h8.read_unread, View.ld_unit_zero (S := S1x64x1860) hz]
    rfl

theorem outC (hc0 : ¬cond0_0 i) (hc1 : ¬cond0_1 i) (hc2 : cond0_2 i) (hc3 : ¬cond0_3 i) :
    out0_C_7 c i a2 h2 a3 h3 a4 h4 a5 h5 a6 h6 a7 h7 a8 h8 a9 h9 a10 h10 a11 h11 a12 h12 hc0 hc1 hc2 hc3 x0 x1 x2 x3 x4 x5 x6 = k0_pay13 (slotSum x2)
    ∧ out0_C_8 c i a2 h2 a3 h3 a4 h4 a5 h5 a6 h6 a7 h7 a8 h8 a9 h9 a10 h10 a11 h11 a12 h12 hc0 hc1 hc2 hc3 x0 x1 x2 x3 x4 x5 x6 = k0_pay14 (slotSum x2) (k0_pay10 x4) x5 x6
    ∧ out0_C_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x2) x5)
    ∧ out0_C_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x2) x6) := by
  refine ⟨(View.read_writes_eq_canon _ _ _ (fun _ => cover0_C_7 ..)).trans ?_,
    (View.read_writes_eq_canon _ _ _ (fun _ => cover0_C_8 ..)).trans ?_,
    (View.read_writes_eq_canon _ _ _ (fun _ => cover0_C_9 ..)).trans ?_,
    (View.read_writes_eq_canon _ _ _ (fun _ => cover0_C_10 ..)).trans ?_⟩
  all_goals
    unfold kernelRun0_C
    dsimp only
    sl_unfold_words
    rw [View.canon_unit_zero (S := S1x64x1860) hz]
    simp only [View.readAt_eq_ld, h4.read_unread, h6.read_unread, h7.read_unread, h8.read_unread, View.ld_unit_zero (S := S1x64x1860) hz]
    rfl

theorem outD (hc0 : ¬cond0_0 i) (hc1 : ¬cond0_1 i) (hc2 : ¬cond0_2 i) (hc3 : cond0_3 i) :
    out0_D_7 c i a2 h2 a3 h3 a4 h4 a5 h5 a6 h6 a7 h7 a8 h8 a9 h9 a10 h10 a11 h11 a12 h12 hc0 hc1 hc2 hc3 x0 x1 x2 x3 x4 x5 x6 = k0_pay13 (slotSum x3)
    ∧ out0_D_8 c i a2 h2 a3 h3 a4 h4 a5 h5 a6 h6 a7 h7 a8 h8 a9 h9 a10 h10 a11 h11 a12 h12 hc0 hc1 hc2 hc3 x0 x1 x2 x3 x4 x5 x6 = k0_pay14 (slotSum x3) (k0_pay10 x4) x5 x6
    ∧ out0_D_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x3) x5)
    ∧ out0_D_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x3) x6) := by
  refine ⟨(View.read_writes_eq_canon _ _ _ (fun _ => cover0_D_7 ..)).trans ?_,
    (View.read_writes_eq_canon _ _ _ (fun _ => cover0_D_8 ..)).trans ?_,
    (View.read_writes_eq_canon _ _ _ (fun _ => cover0_D_9 ..)).trans ?_,
    (View.read_writes_eq_canon _ _ _ (fun _ => cover0_D_10 ..)).trans ?_⟩
  all_goals
    unfold kernelRun0_D
    dsimp only
    sl_unfold_words
    rw [View.canon_unit_zero (S := S1x64x1860) hz]
    simp only [View.readAt_eq_ld, h5.read_unread, h6.read_unread, h7.read_unread, h8.read_unread, View.ld_unit_zero (S := S1x64x1860) hz]
    rfl

end Bodies

variable (m : (ℓ : Loc nD τ sig) → Buf (Elt Ideal) ℓ) (ρ : Dev nD → PrngReg)

/-! ## The arguments and their blocks -/

/-- What the eight devices sent for each layer, and the layers' weights and moments. -/
abbrev recv0 (c : Dev nD) : S8x2048x1860.Idx → EReal := m ((c : Thread nD τ).loc main_arg0)
abbrev recv1 (c : Dev nD) : S8x2048x1860.Idx → EReal := m ((c : Thread nD τ).loc main_arg1)
abbrev recv2 (c : Dev nD) : S8x2048x1860.Idx → EReal := m ((c : Thread nD τ).loc main_arg2)
abbrev recv3 (c : Dev nD) : S8x2048x1860.Idx → EReal := m ((c : Thread nD τ).loc main_arg3)
abbrev weight (c : Dev nD) : S4x2048x1860.Idx → EReal := m ((c : Thread nD τ).loc main_arg4)
abbrev moment1 (c : Dev nD) : S4x2048x1860.Idx → EReal := m ((c : Thread nD τ).loc main_arg5)
abbrev moment2 (c : Dev nD) : S4x2048x1860.Idx → EReal := m ((c : Thread nD τ).loc main_arg6)

/-- The gradient of a weight: the sum over the devices of what they sent for its layer. -/
def gradient (x0 x1 x2 x3 : S8x2048x1860.Idx → EReal) (i : S4x2048x1860.Idx) : EReal :=
  rowSum (if (i 0).val = 0 then x0 else if (i 0).val = 1 then x1 else if (i 0).val = 2 then x2 else x3) i
where
  /-- The sum over the devices at a row of their rows. -/
  rowSum (x : S8x2048x1860.Idx → EReal) (i : S4x2048x1860.Idx) : EReal :=
    ∑ s : Fin 8, x (ix3 s ⟨0 + (i 1).val, by have h : (i 1).val < 2048 := (i 1).isLt; omega⟩ (i 2))

/-- The gradient that the devices' arrays on device `c` give. -/
abbrev grad (c : Dev nD) : S4x2048x1860.Idx → EReal := gradient (recv0 m c) (recv1 m c) (recv2 m c) (recv3 m c)

/-- The grid point that computes an index, and the place of the index in its block. -/
def pt (i : S4x2048x1860.Idx) : Fin cfg0.N :=
  ⟨(i 0).val * 32 + (i 1).val / 64, by
    rw [show cfg0.N = 128 from N_0]
    have h0 : (i 0).val < 4 := (i 0).isLt
    have h1 : (i 1).val < 2048 := (i 1).isLt
    omega⟩
def loc (i : S4x2048x1860.Idx) : S1x64x1860.Idx := ix3 0 ⟨(i 1).val % 64, Nat.mod_lt _ (by decide)⟩ (i 2)

theorem idx_ext {a b c : ℕ} {i j : (⟨3, ![a, b, c]⟩ : Shape).Idx} (h0 : (i 0).val = (j 0).val) (h1 : (i 1).val = (j 1).val)
    (h2 : (i 2).val = (j 2).val) : i = j :=
  funext fun k => Fin.ext (by fin_cases k <;> assumption)

/-- The place of the block of layers and rows that point `t` computes, and of the received block of layer `d`. -/
abbrev Own (t : ℕ) (k : Fin 3 → ℕ) : Prop := k 0 = t / 32 ∧ k 1 = t % 32 ∧ k 2 = 0
abbrev Got (d t : ℕ) (k : Fin 3 → ℕ) : Prop := k 0 = 0 ∧ k 1 = 0 + (if t / 32 = d then t % 32 else 0) ∧ k 2 = 0

/-- Which block of each array a point reads or writes: the layer and the rows it computes. -/
theorem idx0 : ∀ t : Fin cfg0.N, Got 0 t.val (win0_0.index t) :=
  (by decide +kernel : ∀ t : Fin grid0.N, _)
theorem idx1 : ∀ t : Fin cfg0.N, Got 1 t.val (win0_1.index t) :=
  (by decide +kernel : ∀ t : Fin grid0.N, _)
theorem idx2 : ∀ t : Fin cfg0.N, Got 2 t.val (win0_2.index t) :=
  (by decide +kernel : ∀ t : Fin grid0.N, _)
theorem idx3 : ∀ t : Fin cfg0.N, Got 3 t.val (win0_3.index t) :=
  (by decide +kernel : ∀ t : Fin grid0.N, _)
theorem idx4 : ∀ t : Fin cfg0.N, Own t.val (win0_4.index t) :=
  (by decide +kernel : ∀ t : Fin grid0.N, _)
theorem idx5 : ∀ t : Fin cfg0.N, Own t.val (win0_5.index t) :=
  (by decide +kernel : ∀ t : Fin grid0.N, _)
theorem idx6 : ∀ t : Fin cfg0.N, Own t.val (win0_6.index t) :=
  (by decide +kernel : ∀ t : Fin grid0.N, _)
theorem idx7 : ∀ t : Fin cfg0.N, Own t.val (win0_7.index t) :=
  (by decide +kernel : ∀ t : Fin grid0.N, _)
theorem idx8 : ∀ t : Fin cfg0.N, Own t.val (win0_8.index t) :=
  (by decide +kernel : ∀ t : Fin grid0.N, _)
theorem idx9 : ∀ t : Fin cfg0.N, Own t.val (win0_9.index t) :=
  (by decide +kernel : ∀ t : Fin grid0.N, _)
theorem idx10 : ∀ t : Fin cfg0.N, Own t.val (win0_10.index t) :=
  (by decide +kernel : ∀ t : Fin grid0.N, _)

/-- The sum of a received block of rows at the point of `i`, a block whose places in `A` are `f`. -/
theorem sumAt (A : S8x2048x1860.Idx → EReal) (f : S8x64x1860.Idx → S8x2048x1860.Idx) (i : S4x2048x1860.Idx) {d : ℕ} {k : Fin 3 → ℕ} (h : (i 0).val = d)
    (e : Got d (pt i).val k)
    (hf : ∀ s r l, (f (ix3 s r l) 0).val = k 0 * 8 + 1 * s.val ∧ (f (ix3 s r l) 1).val = k 1 * 64 + 1 * r.val
      ∧ (f (ix3 s r l) 2).val = k 2 * 1860 + 1 * l.val) :
    slotSum (fun j => A (f j)) (ix2 ⟨(i 1).val % 64, Nat.mod_lt _ (by decide)⟩ (i 2)) = gradient.rowSum A i := by
  have h1 : (i 1).val < 2048 := (i 1).isLt
  have hp : (pt i).val = d * 32 + (i 1).val / 64 := by show (i 0).val * 32 + _ = _; rw [h]
  obtain ⟨e0, e1, e2⟩ := e
  rw [if_pos (by omega)] at e1
  refine (slotSum_apply _ _ _).trans (Finset.sum_congr rfl fun s _ => congrArg A ?_)
  obtain ⟨f0, f1, f2⟩ := hf s ⟨(i 1).val % 64, Nat.mod_lt _ (by decide)⟩ (i 2)
  refine idx_ext (f0.trans ?_) (f1.trans ?_) (f2.trans ?_)
  · show _ = s.val
    rw [e0]; omega
  · show k 1 * 64 + 1 * ((i 1).val % 64) = 0 + (i 1).val
    rw [e1]; omega
  · show _ = (i 2).val
    rw [e2]; omega

theorem sum0 (c : Dev nD) (i : S4x2048x1860.Idx) (h : (i 0).val = 0) :
    slotSum (iblk m c 0 (pt i)) (ix2 ⟨(i 1).val % 64, Nat.mod_lt _ (by decide)⟩ (i 2)) = grad m c i :=
  (sumAt (recv0 m c) ((cfg0.win 0).blk (pt i)).view.emb i h (idx0 (pt i)) fun _ _ _ => ⟨rfl, rfl, rfl⟩).trans
    (by unfold grad gradient; simp only [h]; rfl)
theorem sum1 (c : Dev nD) (i : S4x2048x1860.Idx) (h : (i 0).val = 1) :
    slotSum (iblk m c 1 (pt i)) (ix2 ⟨(i 1).val % 64, Nat.mod_lt _ (by decide)⟩ (i 2)) = grad m c i :=
  (sumAt (recv1 m c) ((cfg0.win 1).blk (pt i)).view.emb i h (idx1 (pt i)) fun _ _ _ => ⟨rfl, rfl, rfl⟩).trans
    (by unfold grad gradient; simp only [h]; rfl)
theorem sum2 (c : Dev nD) (i : S4x2048x1860.Idx) (h : (i 0).val = 2) :
    slotSum (iblk m c 2 (pt i)) (ix2 ⟨(i 1).val % 64, Nat.mod_lt _ (by decide)⟩ (i 2)) = grad m c i :=
  (sumAt (recv2 m c) ((cfg0.win 2).blk (pt i)).view.emb i h (idx2 (pt i)) fun _ _ _ => ⟨rfl, rfl, rfl⟩).trans
    (by unfold grad gradient; simp only [h]; rfl)
theorem sum3 (c : Dev nD) (i : S4x2048x1860.Idx) (h : (i 0).val = 3) :
    slotSum (iblk m c 3 (pt i)) (ix2 ⟨(i 1).val % 64, Nat.mod_lt _ (by decide)⟩ (i 2)) = grad m c i :=
  (sumAt (recv3 m c) ((cfg0.win 3).blk (pt i)).view.emb i h (idx3 (pt i)) fun _ _ _ => ⟨rfl, rfl, rfl⟩).trans
    (by unfold grad gradient; simp only [h]; rfl)

/-- The place of an index in its block of layers and rows is the index. -/
theorem place {i j : S4x2048x1860.Idx} {k : Fin 3 → ℕ} (e : Own (pt i).val k) (h : (j 0).val = k 0 * 1 + 1 * 0
    ∧ (j 1).val = k 1 * 64 + 1 * ((i 1).val % 64) ∧ (j 2).val = k 2 * 1860 + 1 * (i 2).val) : j = i := by
  have h0 : (i 0).val < 4 := (i 0).isLt
  have h1 : (i 1).val < 2048 := (i 1).isLt
  have hp : (pt i).val = (i 0).val * 32 + (i 1).val / 64 := rfl
  obtain ⟨e0, e1, e2⟩ := e
  obtain ⟨j0, j1, j2⟩ := h
  refine idx_ext ?_ ?_ ?_ <;> omega

theorem emb4 (i : S4x2048x1860.Idx) : ((cfg0.win 4).blk (pt i)).view.emb (loc i) = i := place (idx4 (pt i)) ⟨rfl, rfl, rfl⟩
theorem emb5 (i : S4x2048x1860.Idx) : ((cfg0.win 5).blk (pt i)).view.emb (loc i) = i := place (idx5 (pt i)) ⟨rfl, rfl, rfl⟩
theorem emb6 (i : S4x2048x1860.Idx) : ((cfg0.win 6).blk (pt i)).view.emb (loc i) = i := place (idx6 (pt i)) ⟨rfl, rfl, rfl⟩
theorem emb7 (i : S4x2048x1860.Idx) : ((cfg0.win 7).blk (pt i)).view.emb (loc i) = i := place (idx7 (pt i)) ⟨rfl, rfl, rfl⟩
theorem emb8 (i : S4x2048x1860.Idx) : ((cfg0.win 8).blk (pt i)).view.emb (loc i) = i := place (idx8 (pt i)) ⟨rfl, rfl, rfl⟩
theorem emb9 (i : S4x2048x1860.Idx) : ((cfg0.win 9).blk (pt i)).view.emb (loc i) = i := place (idx9 (pt i)) ⟨rfl, rfl, rfl⟩
theorem emb10 (i : S4x2048x1860.Idx) : ((cfg0.win 10).blk (pt i)).view.emb (loc i) = i := place (idx10 (pt i)) ⟨rfl, rfl, rfl⟩

/-- What the point of an index leaves there, once its received block's sum is known: the gradient, the weight's change and
    the new moments. -/
structure Left (c : Dev nD) (i : S4x2048x1860.Idx) (g : EReal) : Prop where
  grad : (dats m 0 c).flushed 7 (pt i) (loc i) = g
  change : (dats m 0 c).flushed 8 (pt i) (loc i) = step (weight m c i) g (moment1 m c i) (moment2 m c i)
  first : (dats m 0 c).flushed 9 (pt i) (loc i) = moment g (moment1 m c i)
  second : (dats m 0 c).flushed 10 (pt i) (loc i) = square g (moment2 m c i)

/-- The body's four stores at an index, for a sum `g` of the received block. -/
theorem stores (c : Dev nD) (i : S4x2048x1860.Idx) (X : FVec Ideal S64x1860 .f32) (g : EReal)
    (h : X (ix2 ⟨(i 1).val % 64, Nat.mod_lt _ (by decide)⟩ (i 2)) = g)
    (h7 : (dats m 0 c).flushed 7 (pt i) = k0_pay13 X)
    (h8 : (dats m 0 c).flushed 8 (pt i) = k0_pay14 X (k0_pay10 (iblk m c 4 (pt i))) (iblk m c 5 (pt i)) (iblk m c 6 (pt i)))
    (h9 : (dats m 0 c).flushed 9 (pt i) = k0_pay1 (k0_pay11 X (iblk m c 5 (pt i))))
    (h10 : (dats m 0 c).flushed 10 (pt i) = k0_pay2 (k0_pay12 X (iblk m c 6 (pt i)))) : Left m c i g := by
  have w4 : iblk m c 4 (pt i) (loc i) = weight m c i := congrArg (weight m c) (emb4 i)
  have w5 : iblk m c 5 (pt i) (loc i) = moment1 m c i := congrArg (moment1 m c) (emb5 i)
  have w6 : iblk m c 6 (pt i) (loc i) = moment2 m c i := congrArg (moment2 m c) (emb6 i)
  refine ⟨(congrFun h7 _).trans ?_, (congrFun h8 _).trans ?_, (congrFun h9 _).trans ?_, (congrFun h10 _).trans ?_⟩
  · exact (pay13_apply X _ _).trans h
  · refine (pay14_apply X _ _ _ _ _).trans ?_
    rw [h]; exact congr (congr (congrArg (fun x => step x g) w4) w5) w6
  · refine (pay1_apply X _ _ _).trans ?_
    rw [h]; exact congrArg (moment g) w5
  · refine (pay2_apply X _ _ _).trans ?_
    rw [h]; exact congrArg (square g) w6

/-- Every index is left as the optimiser's step says. -/
theorem left (c : Dev nD) (i : S4x2048x1860.Idx) :
    Left m c i (grad m c i) := by
  have h1 : (i 1).val < 2048 := (i 1).isLt
  have h0 : (i 0).val = 0 ∨ (i 0).val = 1 ∨ (i 0).val = 2 ∨ (i 0).val = 3 := by have h : (i 0).val < 4 := (i 0).isLt; omega
  have hp : (pt i).val = (i 0).val * 32 + (i 1).val / 64 := rfl
  rcases h0 with h | h | h | h
  · refine stores m c i _ _ (sum0 m c i h) ((Value.flushed7_A m c (pt i) ?_ ?_ ?_ ?_).trans (outA ..).1)
      ((Value.flushed8_A m c (pt i) ?_ ?_ ?_ ?_).trans (outA ..).2.1) ((Value.flushed9_A m c (pt i) ?_ ?_ ?_ ?_).trans (outA ..).2.2.1)
      ((Value.flushed10_A m c (pt i) ?_ ?_ ?_ ?_).trans (outA ..).2.2.2) <;> omega
  · refine stores m c i _ _ (sum1 m c i h) ((Value.flushed7_B m c (pt i) ?_ ?_ ?_ ?_).trans (outB ..).1)
      ((Value.flushed8_B m c (pt i) ?_ ?_ ?_ ?_).trans (outB ..).2.1) ((Value.flushed9_B m c (pt i) ?_ ?_ ?_ ?_).trans (outB ..).2.2.1)
      ((Value.flushed10_B m c (pt i) ?_ ?_ ?_ ?_).trans (outB ..).2.2.2) <;> omega
  · refine stores m c i _ _ (sum2 m c i h) ((Value.flushed7_C m c (pt i) ?_ ?_ ?_ ?_).trans (outC ..).1)
      ((Value.flushed8_C m c (pt i) ?_ ?_ ?_ ?_).trans (outC ..).2.1) ((Value.flushed9_C m c (pt i) ?_ ?_ ?_ ?_).trans (outC ..).2.2.1)
      ((Value.flushed10_C m c (pt i) ?_ ?_ ?_ ?_).trans (outC ..).2.2.2) <;> omega
  · refine stores m c i _ _ (sum3 m c i h) ((Value.flushed7_D m c (pt i) ?_ ?_ ?_ ?_).trans (outD ..).1)
      ((Value.flushed8_D m c (pt i) ?_ ?_ ?_ ?_).trans (outD ..).2.1) ((Value.flushed9_D m c (pt i) ?_ ?_ ?_ ?_).trans (outD ..).2.2.1)
      ((Value.flushed10_D m c (pt i) ?_ ?_ ?_ ?_).trans (outD ..).2.2.2) <;> omega

/-! ## The four arrays after the run -/

theorem final7 (c : Dev nD) : (dats m 0 c).arrAt 7 cfg0.N = grad m c :=
  funext fun i => (congrArg ((dats m 0 c).arrAt 7 cfg0.N) (emb7 i)).symm.trans
    ((congrFun (Value.blocks7 m c (pt i) (flush0_7 (pt i))) (loc i)).trans (left m c i).grad)

theorem final8 (c : Dev nD) : (dats m 0 c).arrAt 8 cfg0.N = fun i => step (weight m c i) (grad m c i) (moment1 m c i) (moment2 m c i) :=
  funext fun i => (congrArg ((dats m 0 c).arrAt 8 cfg0.N) (emb8 i)).symm.trans
    ((congrFun (Value.blocks8 m c (pt i) (flush0_8 (pt i))) (loc i)).trans (left m c i).change)

theorem final9 (c : Dev nD) : (dats m 0 c).arrAt 9 cfg0.N = fun i => moment (grad m c i) (moment1 m c i) :=
  funext fun i => (congrArg ((dats m 0 c).arrAt 9 cfg0.N) (emb9 i)).symm.trans
    ((congrFun (Value.blocks9 m c (pt i) (flush0_9 (pt i))) (loc i)).trans (left m c i).first)

theorem final10 (c : Dev nD) : (dats m 0 c).arrAt 10 cfg0.N = fun i => square (grad m c i) (moment2 m c i) :=
  funext fun i => (congrArg ((dats m 0 c).arrAt 10 cfg0.N) (emb10 i)).symm.trans
    ((congrFun (Value.blocks10 m c (pt i) (flush0_10 (pt i))) (loc i)).trans (left m c i).second)

end Cert.KernelOwIdeal.Slots

namespace Cert.ReferenceOwIdeal.Slots

open Idealize.ShloMosaic Idealize.ShloMosaic.TcCoe Idealize.SL.Sem
open Cert.ReferenceOwIdeal Cert.ReferenceOwIdeal.Gen Cert.Optimiser
open Cert.KernelOwIdeal.Slots (gradient)
open scoped BigOperators

/-- The reference's sum over the devices of what they sent for one layer. -/
def layerGrad (x : FVec Ideal S8x2048x1860 .bf16) : FVec Ideal S2048x1860 .f32 :=
  Host.reduceAdd (extf .f32 x bitsLt_bf16_f32) (constant S_ .f32 0x00000000#32) reducesTo_S8x2048x1860_S2048x1860_d0 h_S_

theorem layerGrad_apply (x : FVec Ideal S8x2048x1860 .bf16) (r : Fin 2048) (l : Fin 1860) :
    layerGrad x (ix2 r l) = ∑ s : Fin 8, (x (ix3 s ⟨0 + r.val, by omega⟩ l) : EReal) := by
  unfold layerGrad
  pointwise []
  done

/-- The four layers' sums, stacked. -/
def grads (x0 x1 x2 x3 : FVec Ideal S8x2048x1860 .bf16) : FVec Ideal S4x2048x1860 .f32 :=
  concatenate S4x2048x1860 0 [⟨S1x2048x1860, broadcastInDim S1x2048x1860 ![1, 2] bcast_S2048x1860_S1x2048x1860_1_2 (layerGrad x0)⟩,
    ⟨S1x2048x1860, broadcastInDim S1x2048x1860 ![1, 2] bcast_S2048x1860_S1x2048x1860_1_2 (layerGrad x1)⟩,
    ⟨S1x2048x1860, broadcastInDim S1x2048x1860 ![1, 2] bcast_S2048x1860_S1x2048x1860_1_2 (layerGrad x2)⟩,
    ⟨S1x2048x1860, broadcastInDim S1x2048x1860 ![1, 2] bcast_S2048x1860_S1x2048x1860_1_2 (layerGrad x3)⟩] concatenates_S1x2048x1860_S1x2048x1860_S1x2048x1860_S1x2048x1860_S4x2048x1860_d0

theorem grads_apply (x0 x1 x2 x3 : FVec Ideal S8x2048x1860 .bf16) (i : S4x2048x1860.Idx) : grads x0 x1 x2 x3 i = gradient x0 x1 x2 x3 i := by
  obtain ⟨d, r, l, rfl⟩ : ∃ (d : Fin 4) (r : Fin 2048) (l : Fin 1860), i = ix3 d r l := ⟨i 0, i 1, i 2, eq_ix3 i⟩
  unfold grads
  fin_cases d
  · show _ = ∑ s : Fin 8, x0 (ix3 s ⟨0 + r.val, by omega⟩ l)
    pointwise [layerGrad_apply]
  · show _ = ∑ s : Fin 8, x1 (ix3 s ⟨0 + r.val, by omega⟩ l)
    pointwise [layerGrad_apply]
  · show _ = ∑ s : Fin 8, x2 (ix3 s ⟨0 + r.val, by omega⟩ l)
    pointwise [layerGrad_apply]
  · show _ = ∑ s : Fin 8, x3 (ix3 s ⟨0 + r.val, by omega⟩ l)
    pointwise [layerGrad_apply]

/-- An array of one constant. -/
abbrev all (w : BitVec 32) : FVec Ideal S4x2048x1860 .f32 := broadcastInDim S4x2048x1860 ![] bcast_S_S4x2048x1860 (constant S_ .f32 w)

/-- The reference's AdamW, operation by operation. -/
def newFirst (g m : FVec Ideal S4x2048x1860 .f32) : FVec Ideal S4x2048x1860 .f32 :=
  addf (mulf (all 0x3F666666#32) m)
    (mulf (all 0x3DCCCCCD#32) g)
def newSecond (g v : FVec Ideal S4x2048x1860 .f32) : FVec Ideal S4x2048x1860 .f32 :=
  addf (mulf (all 0x3F7FBE77#32) v)
    (mulf (all 0x3A83126F#32) (mulf g g))
def change (w g m v : FVec Ideal S4x2048x1860 .f32) : FVec Ideal S4x2048x1860 .f32 :=
  mulf (all 0xBA83126F#32)
    (addf (Host.divf (Host.divf (newFirst g m) (all 0x3F26BD02#32))
        (addf (Host.sqrt (Host.divf (newSecond g v) (all 0x3C231ACC#32)))
          (all 0x322BCC77#32)))
      (mulf (all 0x3C23D70A#32) w))

theorem newFirst_apply (g m : FVec Ideal S4x2048x1860 .f32) (i : S4x2048x1860.Idx) : newFirst g m i = moment (g i) (m i) := rfl
theorem newSecond_apply (g v : FVec Ideal S4x2048x1860 .f32) (i : S4x2048x1860.Idx) : newSecond g v i = square (g i) (v i) := rfl
theorem change_apply (w g m v : FVec Ideal S4x2048x1860 .f32) (i : S4x2048x1860.Idx) : change w g m v i = step (w i) (g i) (m i) (v i) := rfl

end Cert.ReferenceOwIdeal.Slots

namespace Cert.OwValue

open Idealize.ShloMosaic Idealize.ShloMosaic.TcCoe Idealize.SL.Sem
open Cert.KernelOwIdeal.Slots Cert.ReferenceOwIdeal.Slots Cert.Optimiser

/-- The optimiser's step on the weight: the kernel's gradient, change and moments are the reference's. -/
theorem algebraic : Cert.algebraic_KernelOwIdeal_ReferenceOwIdeal (hKernelOwIdeal := Cert.KernelOwIdeal.Gen.facts)
    (hReferenceOwIdeal := Cert.ReferenceOwIdeal.Gen.facts) :=
  fun m ρ m' ρ' _ hag => ⟨fun c => grad m c,
    fun c i => step (weight m c i) (grad m c i) (moment1 m c i) (moment2 m c i),
    fun c i => moment (grad m c i) (moment1 m c i),
    fun c i => square (grad m c i) (moment2 m c i),
    (θ_run _ _ _).mono (fun _ h c => by
      obtain ⟨h0, h1, h2, h3, hr⟩ := h c
      exact ⟨h0.trans (final7 m c), h1.trans (final8 m c), h2.trans (final9 m c), h3.trans (final10 m c), hr⟩)
      (Cert.KernelOwIdeal.Value.run_blocks m ρ),
    (θ_run _ _ _).mono (fun _ h c => by
      obtain ⟨h0, h1, h2, h3, hr⟩ := h c
      obtain ⟨a0, a1, a2, a3, a4, a5, a6⟩ := hag c
      unfold Cert.ReferenceOwIdeal.Value.res_main_v36 at h1
      rw [a0, a1, a2, a3] at h0 h1 h2 h3
      rw [a4, a5, a6] at h1
      rw [a5] at h2
      rw [a6] at h3
      refine ⟨h0.trans (funext fun i => grads_apply _ _ _ _ i), h1.trans (funext fun i => ?_), h2.trans (funext fun i => ?_),
        h3.trans (funext fun i => ?_), hr⟩
      · refine (change_apply _ (grads _ _ _ _) _ _ i).trans ?_; rw [grads_apply]
      · refine (newFirst_apply (grads _ _ _ _) _ i).trans ?_; rw [grads_apply]
      · refine (newSecond_apply (grads _ _ _ _) _ i).trans ?_; rw [grads_apply])
      (Cert.ReferenceOwIdeal.Value.run m' ρ')⟩

/-- The reference runs, leaves its arguments as they were, and ends with every counter at zero. -/
theorem reference_frame : Cert.quiescent_ReferenceOwIdeal (hReferenceOwIdeal := Cert.ReferenceOwIdeal.Gen.facts) :=
  fun m ρ _ => (θ_run _ _ _).mono (fun r h => ⟨fun c => (h c).2.2.2.2, sem_eq_zero_of_no_sems (by decide) r.2⟩)
    (Cert.ReferenceOwIdeal.Value.run m ρ)

end Cert.OwValue

end
-- ==== Proof.OgValue.lean ====
/-
  The optimiser's step on the weight of the S5 layer's output gate: the sum of the gradients the eight devices sent, and AdamW's
  step with it. What one point stores, what the four arrays hold after the run, and that these are the reference's arrays.
-/
module

public import proofs.«01_k».proof.Defs
public import proofs.«01_k».proof.Proof.Optimiser
public import proofs.«01_k».proof.Proof.Gen.KernelOgIdeal.Value
public import proofs.«01_k».proof.Proof.Gen.ReferenceOgIdeal.Run
public import Idealize.ShloMosaic.Lib.Pipeline.Value
public import Idealize.ShloMosaic.Lib.Pointwise
public import Idealize.ShloMosaic.PureOps.Ideal

@[expose] public section

noncomputable section

namespace Cert.KernelOgIdeal.Slots

open Idealize.ShloMosaic Idealize.ShloMosaic.TcCoe Idealize.SL.Sem
open Cert.KernelOgIdeal Cert.KernelOgIdeal.Gen Cert.Optimiser
open scoped BigOperators

theorem hz : (![0, 0, 0] : Fin 3 → Nat) = fun _ => 0 := funext fun a => by fin_cases a <;> rfl

/-- The gradients the eight devices sent for one block of rows, added as the body adds them. -/
def slotSum (x : Vec Ideal S8x96x768 .bf16) : FVec Ideal S96x768 .f32 :=
  k0_pay9
    (View.ld x (Rect.unit _ _ inb_S8x96x768_S1x96x768_0_0_0))
    (View.ld x (Rect.unit _ _ inb_S8x96x768_S1x96x768_1_0_0))
    (View.ld x (Rect.unit _ _ inb_S8x96x768_S1x96x768_2_0_0))
    (View.ld x (Rect.unit _ _ inb_S8x96x768_S1x96x768_3_0_0))
    (View.ld x (Rect.unit _ _ inb_S8x96x768_S1x96x768_4_0_0))
    (View.ld x (Rect.unit _ _ inb_S8x96x768_S1x96x768_5_0_0))
    (View.ld x (Rect.unit _ _ inb_S8x96x768_S1x96x768_6_0_0))
    (View.ld x (Rect.unit _ _ inb_S8x96x768_S1x96x768_7_0_0))

/-- That sum, at an index. -/
theorem slotSum_apply (x : Vec Ideal S8x96x768 .bf16) (r : Fin 96) (l : Fin 768) :
    slotSum x (ix2 r l) = ∑ s : Fin 8, (x (ix3 s r l) : EReal) := by
  unfold slotSum
  pointwise [k0_pay9]
  exact (Fin.sum_univ_eight fun s => (x (ix3 s r l) : EReal)).symm

/-! What the four outputs' blocks get from the sum, the weight and the moments. -/

theorem pay13_apply (g : FVec Ideal S96x768 .f32) (r : Fin 96) (l : Fin 768) : k0_pay13 g (ix3 0 r l) = g (ix2 r l) := by
  pointwise [k0_pay13]

theorem pay1_apply (g : FVec Ideal S96x768 .f32) (x : Vec Ideal S1x96x768 .f32) (r : Fin 96) (l : Fin 768) :
    k0_pay1 (k0_pay11 g x) (ix3 0 r l) = moment (g (ix2 r l)) (x (ix3 0 r l)) := by
  unfold moment
  pointwise [k0_pay1, k0_pay11]

theorem pay2_apply (g : FVec Ideal S96x768 .f32) (x : Vec Ideal S1x96x768 .f32) (r : Fin 96) (l : Fin 768) :
    k0_pay2 (k0_pay12 g x) (ix3 0 r l) = square (g (ix2 r l)) (x (ix3 0 r l)) := by
  unfold square
  pointwise [k0_pay2, k0_pay12]

theorem pay14_apply (g : FVec Ideal S96x768 .f32) (w m v : Vec Ideal S1x96x768 .f32) (r : Fin 96) (l : Fin 768) :
    k0_pay14 g (k0_pay10 w) m v (ix3 0 r l) = step (w (ix3 0 r l)) (g (ix2 r l)) (m (ix3 0 r l)) (v (ix3 0 r l)) := by
  unfold step moment square
  pointwise [k0_pay14, k0_pay10, k0_pay11, k0_pay12]

section Bodies
variable (c : Dev nD) (i : grid0.Coords)
  (a2 a3 a4 a5 : Memref sig .tc .vmem S8x96x768 .bf16) (a6 a7 a8 a9 a10 a11 a12 : Memref sig .tc .vmem S1x96x768 .f32)
  (h2 : a2.IsWhole) (h3 : a3.IsWhole) (h4 : a4.IsWhole) (h5 : a5.IsWhole) (h6 : a6.IsWhole) (h7 : a7.IsWhole) (h8 : a8.IsWhole)
  (h9 : a9.IsWhole) (h10 : a10.IsWhole) (h11 : a11.IsWhole) (h12 : a12.IsWhole)
  (x0 x1 x2 x3 : Vec Ideal S8x96x768 .bf16) (x4 x5 x6 : Vec Ideal S1x96x768 .f32)

/-! What the body stores at a point of each layer: the layer's own received block is the one it sums. -/

theorem outA (hc0 : cond0_0 i) (hc1 : ¬cond0_1 i) (hc2 : ¬cond0_2 i) (hc3 : ¬cond0_3 i) :
    out0_A_7 c i a2 h2 a3 h3 a4 h4 a5 h5 a6 h6 a7 h7 a8 h8 a9 h9 a10 h10 a11 h11 a12 h12 hc0 hc1 hc2 hc3 x0 x1 x2 x3 x4 x5 x6 = k0_pay13 (slotSum x0)
    ∧ out0_A_8 c i a2 h2 a3 h3 a4 h4 a5 h5 a6 h6 a7 h7 a8 h8 a9 h9 a10 h10 a11 h11 a12 h12 hc0 hc1 hc2 hc3 x0 x1 x2 x3 x4 x5 x6 = k0_pay14 (slotSum x0) (k0_pay10 x4) x5 x6
    ∧ out0_A_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x0) x5)
    ∧ out0_A_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x0) x6) := by
  refine ⟨(View.read_writes_eq_canon _ _ _ (fun _ => cover0_A_7 ..)).trans ?_,
    (View.read_writes_eq_canon _ _ _ (fun _ => cover0_A_8 ..)).trans ?_,
    (View.read_writes_eq_canon _ _ _ (fun _ => cover0_A_9 ..)).trans ?_,
    (View.read_writes_eq_canon _ _ _ (fun _ => cover0_A_10 ..)).trans ?_⟩
  all_goals
    unfold kernelRun0_A
    dsimp only
    sl_unfold_words
    rw [View.canon_unit_zero (S := S1x96x768) hz]
    simp only [View.readAt_eq_ld, h2.read_unread, h6.read_unread, h7.read_unread, h8.read_unread, View.ld_unit_zero (S := S1x96x768) hz]
    rfl

theorem outB (hc0 : ¬cond0_0 i) (hc1 : cond0_1 i) (hc2 : ¬cond0_2 i) (hc3 : ¬cond0_3 i) :
    out0_B_7 c i a2 h2 a3 h3 a4 h4 a5 h5 a6 h6 a7 h7 a8 h8 a9 h9 a10 h10 a11 h11 a12 h12 hc0 hc1 hc2 hc3 x0 x1 x2 x3 x4 x5 x6 = k0_pay13 (slotSum x1)
    ∧ out0_B_8 c i a2 h2 a3 h3 a4 h4 a5 h5 a6 h6 a7 h7 a8 h8 a9 h9 a10 h10 a11 h11 a12 h12 hc0 hc1 hc2 hc3 x0 x1 x2 x3 x4 x5 x6 = k0_pay14 (slotSum x1) (k0_pay10 x4) x5 x6
    ∧ out0_B_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x1) x5)
    ∧ out0_B_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x1) x6) := by
  refine ⟨(View.read_writes_eq_canon _ _ _ (fun _ => cover0_B_7 ..)).trans ?_,
    (View.read_writes_eq_canon _ _ _ (fun _ => cover0_B_8 ..)).trans ?_,
    (View.read_writes_eq_canon _ _ _ (fun _ => cover0_B_9 ..)).trans ?_,
    (View.read_writes_eq_canon _ _ _ (fun _ => cover0_B_10 ..)).trans ?_⟩
  all_goals
    unfold kernelRun0_B
    dsimp only
    sl_unfold_words
    rw [View.canon_unit_zero (S := S1x96x768) hz]
    simp only [View.readAt_eq_ld, h3.read_unread, h6.read_unread, h7.read_unread, h8.read_unread, View.ld_unit_zero (S := S1x96x768) hz]
    rfl

theorem outC (hc0 : ¬cond0_0 i) (hc1 : ¬cond0_1 i) (hc2 : cond0_2 i) (hc3 : ¬cond0_3 i) :
    out0_C_7 c i a2 h2 a3 h3 a4 h4 a5 h5 a6 h6 a7 h7 a8 h8 a9 h9 a10 h10 a11 h11 a12 h12 hc0 hc1 hc2 hc3 x0 x1 x2 x3 x4 x5 x6 = k0_pay13 (slotSum x2)
    ∧ out0_C_8 c i a2 h2 a3 h3 a4 h4 a5 h5 a6 h6 a7 h7 a8 h8 a9 h9 a10 h10 a11 h11 a12 h12 hc0 hc1 hc2 hc3 x0 x1 x2 x3 x4 x5 x6 = k0_pay14 (slotSum x2) (k0_pay10 x4) x5 x6
    ∧ out0_C_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x2) x5)
    ∧ out0_C_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x2) x6) := by
  refine ⟨(View.read_writes_eq_canon _ _ _ (fun _ => cover0_C_7 ..)).trans ?_,
    (View.read_writes_eq_canon _ _ _ (fun _ => cover0_C_8 ..)).trans ?_,
    (View.read_writes_eq_canon _ _ _ (fun _ => cover0_C_9 ..)).trans ?_,
    (View.read_writes_eq_canon _ _ _ (fun _ => cover0_C_10 ..)).trans ?_⟩
  all_goals
    unfold kernelRun0_C
    dsimp only
    sl_unfold_words
    rw [View.canon_unit_zero (S := S1x96x768) hz]
    simp only [View.readAt_eq_ld, h4.read_unread, h6.read_unread, h7.read_unread, h8.read_unread, View.ld_unit_zero (S := S1x96x768) hz]
    rfl

theorem outD (hc0 : ¬cond0_0 i) (hc1 : ¬cond0_1 i) (hc2 : ¬cond0_2 i) (hc3 : cond0_3 i) :
    out0_D_7 c i a2 h2 a3 h3 a4 h4 a5 h5 a6 h6 a7 h7 a8 h8 a9 h9 a10 h10 a11 h11 a12 h12 hc0 hc1 hc2 hc3 x0 x1 x2 x3 x4 x5 x6 = k0_pay13 (slotSum x3)
    ∧ out0_D_8 c i a2 h2 a3 h3 a4 h4 a5 h5 a6 h6 a7 h7 a8 h8 a9 h9 a10 h10 a11 h11 a12 h12 hc0 hc1 hc2 hc3 x0 x1 x2 x3 x4 x5 x6 = k0_pay14 (slotSum x3) (k0_pay10 x4) x5 x6
    ∧ out0_D_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x3) x5)
    ∧ out0_D_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x3) x6) := by
  refine ⟨(View.read_writes_eq_canon _ _ _ (fun _ => cover0_D_7 ..)).trans ?_,
    (View.read_writes_eq_canon _ _ _ (fun _ => cover0_D_8 ..)).trans ?_,
    (View.read_writes_eq_canon _ _ _ (fun _ => cover0_D_9 ..)).trans ?_,
    (View.read_writes_eq_canon _ _ _ (fun _ => cover0_D_10 ..)).trans ?_⟩
  all_goals
    unfold kernelRun0_D
    dsimp only
    sl_unfold_words
    rw [View.canon_unit_zero (S := S1x96x768) hz]
    simp only [View.readAt_eq_ld, h5.read_unread, h6.read_unread, h7.read_unread, h8.read_unread, View.ld_unit_zero (S := S1x96x768) hz]
    rfl

end Bodies

variable (m : (ℓ : Loc nD τ sig) → Buf (Elt Ideal) ℓ) (ρ : Dev nD → PrngReg)

/-! ## The arguments and their blocks -/

/-- What the eight devices sent for each layer, and the layers' weights and moments. -/
abbrev recv0 (c : Dev nD) : S8x96x768.Idx → EReal := m ((c : Thread nD τ).loc main_arg0)
abbrev recv1 (c : Dev nD) : S8x96x768.Idx → EReal := m ((c : Thread nD τ).loc main_arg1)
abbrev recv2 (c : Dev nD) : S8x96x768.Idx → EReal := m ((c : Thread nD τ).loc main_arg2)
abbrev recv3 (c : Dev nD) : S8x96x768.Idx → EReal := m ((c : Thread nD τ).loc main_arg3)
abbrev weight (c : Dev nD) : S4x96x768.Idx → EReal := m ((c : Thread nD τ).loc main_arg4)
abbrev moment1 (c : Dev nD) : S4x96x768.Idx → EReal := m ((c : Thread nD τ).loc main_arg5)
abbrev moment2 (c : Dev nD) : S4x96x768.Idx → EReal := m ((c : Thread nD τ).loc main_arg6)

/-- The gradient of a weight: the sum over the devices of what they sent for its layer. -/
def gradient (x0 x1 x2 x3 : S8x96x768.Idx → EReal) (i : S4x96x768.Idx) : EReal :=
  rowSum (if (i 0).val = 0 then x0 else if (i 0).val = 1 then x1 else if (i 0).val = 2 then x2 else x3) i
where
  /-- The sum over the devices at a row of their rows. -/
  rowSum (x : S8x96x768.Idx → EReal) (i : S4x96x768.Idx) : EReal :=
    ∑ s : Fin 8, x (ix3 s ⟨0 + (i 1).val, by have h : (i 1).val < 96 := (i 1).isLt; omega⟩ (i 2))

/-- The gradient that the devices' arrays on device `c` give. -/
abbrev grad (c : Dev nD) : S4x96x768.Idx → EReal := gradient (recv0 m c) (recv1 m c) (recv2 m c) (recv3 m c)

/-- The grid point that computes an index, and the place of the index in its block. -/
def pt (i : S4x96x768.Idx) : Fin cfg0.N :=
  ⟨(i 0).val * 1 + (i 1).val / 96, by
    rw [show cfg0.N = 4 from N_0]
    have h0 : (i 0).val < 4 := (i 0).isLt
    have h1 : (i 1).val < 96 := (i 1).isLt
    omega⟩
def loc (i : S4x96x768.Idx) : S1x96x768.Idx := ix3 0 ⟨(i 1).val % 96, Nat.mod_lt _ (by decide)⟩ (i 2)

theorem idx_ext {a b c : ℕ} {i j : (⟨3, ![a, b, c]⟩ : Shape).Idx} (h0 : (i 0).val = (j 0).val) (h1 : (i 1).val = (j 1).val)
    (h2 : (i 2).val = (j 2).val) : i = j :=
  funext fun k => Fin.ext (by fin_cases k <;> assumption)

/-- The place of the block of layers and rows that point `t` computes, and of the received block of layer `d`. -/
abbrev Own (t : ℕ) (k : Fin 3 → ℕ) : Prop := k 0 = t / 1 ∧ k 1 = t % 1 ∧ k 2 = 0
abbrev Got (d t : ℕ) (k : Fin 3 → ℕ) : Prop := k 0 = 0 ∧ k 1 = 0 + (if t / 1 = d then t % 1 else 0) ∧ k 2 = 0

/-- Which block of each array a point reads or writes: the layer and the rows it computes. -/
theorem idx0 : ∀ t : Fin cfg0.N, Got 0 t.val (win0_0.index t) :=
  (by decide +kernel : ∀ t : Fin grid0.N, _)
theorem idx1 : ∀ t : Fin cfg0.N, Got 1 t.val (win0_1.index t) :=
  (by decide +kernel : ∀ t : Fin grid0.N, _)
theorem idx2 : ∀ t : Fin cfg0.N, Got 2 t.val (win0_2.index t) :=
  (by decide +kernel : ∀ t : Fin grid0.N, _)
theorem idx3 : ∀ t : Fin cfg0.N, Got 3 t.val (win0_3.index t) :=
  (by decide +kernel : ∀ t : Fin grid0.N, _)
theorem idx4 : ∀ t : Fin cfg0.N, Own t.val (win0_4.index t) :=
  (by decide +kernel : ∀ t : Fin grid0.N, _)
theorem idx5 : ∀ t : Fin cfg0.N, Own t.val (win0_5.index t) :=
  (by decide +kernel : ∀ t : Fin grid0.N, _)
theorem idx6 : ∀ t : Fin cfg0.N, Own t.val (win0_6.index t) :=
  (by decide +kernel : ∀ t : Fin grid0.N, _)
theorem idx7 : ∀ t : Fin cfg0.N, Own t.val (win0_7.index t) :=
  (by decide +kernel : ∀ t : Fin grid0.N, _)
theorem idx8 : ∀ t : Fin cfg0.N, Own t.val (win0_8.index t) :=
  (by decide +kernel : ∀ t : Fin grid0.N, _)
theorem idx9 : ∀ t : Fin cfg0.N, Own t.val (win0_9.index t) :=
  (by decide +kernel : ∀ t : Fin grid0.N, _)
theorem idx10 : ∀ t : Fin cfg0.N, Own t.val (win0_10.index t) :=
  (by decide +kernel : ∀ t : Fin grid0.N, _)

/-- The sum of a received block of rows at the point of `i`, a block whose places in `A` are `f`. -/
theorem sumAt (A : S8x96x768.Idx → EReal) (f : S8x96x768.Idx → S8x96x768.Idx) (i : S4x96x768.Idx) {d : ℕ} {k : Fin 3 → ℕ} (h : (i 0).val = d)
    (e : Got d (pt i).val k)
    (hf : ∀ s r l, (f (ix3 s r l) 0).val = k 0 * 8 + 1 * s.val ∧ (f (ix3 s r l) 1).val = k 1 * 96 + 1 * r.val
      ∧ (f (ix3 s r l) 2).val = k 2 * 768 + 1 * l.val) :
    slotSum (fun j => A (f j)) (ix2 ⟨(i 1).val % 96, Nat.mod_lt _ (by decide)⟩ (i 2)) = gradient.rowSum A i := by
  have h1 : (i 1).val < 96 := (i 1).isLt
  have hp : (pt i).val = d * 1 + (i 1).val / 96 := by show (i 0).val * 1 + _ = _; rw [h]
  obtain ⟨e0, e1, e2⟩ := e
  rw [if_pos (by omega)] at e1
  refine (slotSum_apply _ _ _).trans (Finset.sum_congr rfl fun s _ => congrArg A ?_)
  obtain ⟨f0, f1, f2⟩ := hf s ⟨(i 1).val % 96, Nat.mod_lt _ (by decide)⟩ (i 2)
  refine idx_ext (f0.trans ?_) (f1.trans ?_) (f2.trans ?_)
  · show _ = s.val
    rw [e0]; omega
  · show k 1 * 96 + 1 * ((i 1).val % 96) = 0 + (i 1).val
    rw [e1]; omega
  · show _ = (i 2).val
    rw [e2]; omega

theorem sum0 (c : Dev nD) (i : S4x96x768.Idx) (h : (i 0).val = 0) :
    slotSum (iblk m c 0 (pt i)) (ix2 ⟨(i 1).val % 96, Nat.mod_lt _ (by decide)⟩ (i 2)) = grad m c i :=
  (sumAt (recv0 m c) ((cfg0.win 0).blk (pt i)).view.emb i h (idx0 (pt i)) fun _ _ _ => ⟨rfl, rfl, rfl⟩).trans
    (by unfold grad gradient; simp only [h]; rfl)
theorem sum1 (c : Dev nD) (i : S4x96x768.Idx) (h : (i 0).val = 1) :
    slotSum (iblk m c 1 (pt i)) (ix2 ⟨(i 1).val % 96, Nat.mod_lt _ (by decide)⟩ (i 2)) = grad m c i :=
  (sumAt (recv1 m c) ((cfg0.win 1).blk (pt i)).view.emb i h (idx1 (pt i)) fun _ _ _ => ⟨rfl, rfl, rfl⟩).trans
    (by unfold grad gradient; simp only [h]; rfl)
theorem sum2 (c : Dev nD) (i : S4x96x768.Idx) (h : (i 0).val = 2) :
    slotSum (iblk m c 2 (pt i)) (ix2 ⟨(i 1).val % 96, Nat.mod_lt _ (by decide)⟩ (i 2)) = grad m c i :=
  (sumAt (recv2 m c) ((cfg0.win 2).blk (pt i)).view.emb i h (idx2 (pt i)) fun _ _ _ => ⟨rfl, rfl, rfl⟩).trans
    (by unfold grad gradient; simp only [h]; rfl)
theorem sum3 (c : Dev nD) (i : S4x96x768.Idx) (h : (i 0).val = 3) :
    slotSum (iblk m c 3 (pt i)) (ix2 ⟨(i 1).val % 96, Nat.mod_lt _ (by decide)⟩ (i 2)) = grad m c i :=
  (sumAt (recv3 m c) ((cfg0.win 3).blk (pt i)).view.emb i h (idx3 (pt i)) fun _ _ _ => ⟨rfl, rfl, rfl⟩).trans
    (by unfold grad gradient; simp only [h]; rfl)

/-- The place of an index in its block of layers and rows is the index. -/
theorem place {i j : S4x96x768.Idx} {k : Fin 3 → ℕ} (e : Own (pt i).val k) (h : (j 0).val = k 0 * 1 + 1 * 0
    ∧ (j 1).val = k 1 * 96 + 1 * ((i 1).val % 96) ∧ (j 2).val = k 2 * 768 + 1 * (i 2).val) : j = i := by
  have h0 : (i 0).val < 4 := (i 0).isLt
  have h1 : (i 1).val < 96 := (i 1).isLt
  have hp : (pt i).val = (i 0).val * 1 + (i 1).val / 96 := rfl
  obtain ⟨e0, e1, e2⟩ := e
  obtain ⟨j0, j1, j2⟩ := h
  refine idx_ext ?_ ?_ ?_ <;> omega

theorem emb4 (i : S4x96x768.Idx) : ((cfg0.win 4).blk (pt i)).view.emb (loc i) = i := place (idx4 (pt i)) ⟨rfl, rfl, rfl⟩
theorem emb5 (i : S4x96x768.Idx) : ((cfg0.win 5).blk (pt i)).view.emb (loc i) = i := place (idx5 (pt i)) ⟨rfl, rfl, rfl⟩
theorem emb6 (i : S4x96x768.Idx) : ((cfg0.win 6).blk (pt i)).view.emb (loc i) = i := place (idx6 (pt i)) ⟨rfl, rfl, rfl⟩
theorem emb7 (i : S4x96x768.Idx) : ((cfg0.win 7).blk (pt i)).view.emb (loc i) = i := place (idx7 (pt i)) ⟨rfl, rfl, rfl⟩
theorem emb8 (i : S4x96x768.Idx) : ((cfg0.win 8).blk (pt i)).view.emb (loc i) = i := place (idx8 (pt i)) ⟨rfl, rfl, rfl⟩
theorem emb9 (i : S4x96x768.Idx) : ((cfg0.win 9).blk (pt i)).view.emb (loc i) = i := place (idx9 (pt i)) ⟨rfl, rfl, rfl⟩
theorem emb10 (i : S4x96x768.Idx) : ((cfg0.win 10).blk (pt i)).view.emb (loc i) = i := place (idx10 (pt i)) ⟨rfl, rfl, rfl⟩

/-- What the point of an index leaves there, once its received block's sum is known: the gradient, the weight's change and
    the new moments. -/
structure Left (c : Dev nD) (i : S4x96x768.Idx) (g : EReal) : Prop where
  grad : (dats m 0 c).flushed 7 (pt i) (loc i) = g
  change : (dats m 0 c).flushed 8 (pt i) (loc i) = step (weight m c i) g (moment1 m c i) (moment2 m c i)
  first : (dats m 0 c).flushed 9 (pt i) (loc i) = moment g (moment1 m c i)
  second : (dats m 0 c).flushed 10 (pt i) (loc i) = square g (moment2 m c i)

/-- The body's four stores at an index, for a sum `g` of the received block. -/
theorem stores (c : Dev nD) (i : S4x96x768.Idx) (X : FVec Ideal S96x768 .f32) (g : EReal)
    (h : X (ix2 ⟨(i 1).val % 96, Nat.mod_lt _ (by decide)⟩ (i 2)) = g)
    (h7 : (dats m 0 c).flushed 7 (pt i) = k0_pay13 X)
    (h8 : (dats m 0 c).flushed 8 (pt i) = k0_pay14 X (k0_pay10 (iblk m c 4 (pt i))) (iblk m c 5 (pt i)) (iblk m c 6 (pt i)))
    (h9 : (dats m 0 c).flushed 9 (pt i) = k0_pay1 (k0_pay11 X (iblk m c 5 (pt i))))
    (h10 : (dats m 0 c).flushed 10 (pt i) = k0_pay2 (k0_pay12 X (iblk m c 6 (pt i)))) : Left m c i g := by
  have w4 : iblk m c 4 (pt i) (loc i) = weight m c i := congrArg (weight m c) (emb4 i)
  have w5 : iblk m c 5 (pt i) (loc i) = moment1 m c i := congrArg (moment1 m c) (emb5 i)
  have w6 : iblk m c 6 (pt i) (loc i) = moment2 m c i := congrArg (moment2 m c) (emb6 i)
  refine ⟨(congrFun h7 _).trans ?_, (congrFun h8 _).trans ?_, (congrFun h9 _).trans ?_, (congrFun h10 _).trans ?_⟩
  · exact (pay13_apply X _ _).trans h
  · refine (pay14_apply X _ _ _ _ _).trans ?_
    rw [h]; exact congr (congr (congrArg (fun x => step x g) w4) w5) w6
  · refine (pay1_apply X _ _ _).trans ?_
    rw [h]; exact congrArg (moment g) w5
  · refine (pay2_apply X _ _ _).trans ?_
    rw [h]; exact congrArg (square g) w6

/-- Every index is left as the optimiser's step says. -/
theorem left (c : Dev nD) (i : S4x96x768.Idx) :
    Left m c i (grad m c i) := by
  have h1 : (i 1).val < 96 := (i 1).isLt
  have h0 : (i 0).val = 0 ∨ (i 0).val = 1 ∨ (i 0).val = 2 ∨ (i 0).val = 3 := by have h : (i 0).val < 4 := (i 0).isLt; omega
  have hp : (pt i).val = (i 0).val * 1 + (i 1).val / 96 := rfl
  rcases h0 with h | h | h | h
  · refine stores m c i _ _ (sum0 m c i h) ((Value.flushed7_A m c (pt i) ?_ ?_ ?_ ?_).trans (outA ..).1)
      ((Value.flushed8_A m c (pt i) ?_ ?_ ?_ ?_).trans (outA ..).2.1) ((Value.flushed9_A m c (pt i) ?_ ?_ ?_ ?_).trans (outA ..).2.2.1)
      ((Value.flushed10_A m c (pt i) ?_ ?_ ?_ ?_).trans (outA ..).2.2.2) <;> omega
  · refine stores m c i _ _ (sum1 m c i h) ((Value.flushed7_B m c (pt i) ?_ ?_ ?_ ?_).trans (outB ..).1)
      ((Value.flushed8_B m c (pt i) ?_ ?_ ?_ ?_).trans (outB ..).2.1) ((Value.flushed9_B m c (pt i) ?_ ?_ ?_ ?_).trans (outB ..).2.2.1)
      ((Value.flushed10_B m c (pt i) ?_ ?_ ?_ ?_).trans (outB ..).2.2.2) <;> omega
  · refine stores m c i _ _ (sum2 m c i h) ((Value.flushed7_C m c (pt i) ?_ ?_ ?_ ?_).trans (outC ..).1)
      ((Value.flushed8_C m c (pt i) ?_ ?_ ?_ ?_).trans (outC ..).2.1) ((Value.flushed9_C m c (pt i) ?_ ?_ ?_ ?_).trans (outC ..).2.2.1)
      ((Value.flushed10_C m c (pt i) ?_ ?_ ?_ ?_).trans (outC ..).2.2.2) <;> omega
  · refine stores m c i _ _ (sum3 m c i h) ((Value.flushed7_D m c (pt i) ?_ ?_ ?_ ?_).trans (outD ..).1)
      ((Value.flushed8_D m c (pt i) ?_ ?_ ?_ ?_).trans (outD ..).2.1) ((Value.flushed9_D m c (pt i) ?_ ?_ ?_ ?_).trans (outD ..).2.2.1)
      ((Value.flushed10_D m c (pt i) ?_ ?_ ?_ ?_).trans (outD ..).2.2.2) <;> omega

/-! ## The four arrays after the run -/

theorem final7 (c : Dev nD) : (dats m 0 c).arrAt 7 cfg0.N = grad m c :=
  funext fun i => (congrArg ((dats m 0 c).arrAt 7 cfg0.N) (emb7 i)).symm.trans
    ((congrFun (Value.blocks7 m c (pt i) (flush0_7 (pt i))) (loc i)).trans (left m c i).grad)

theorem final8 (c : Dev nD) : (dats m 0 c).arrAt 8 cfg0.N = fun i => step (weight m c i) (grad m c i) (moment1 m c i) (moment2 m c i) :=
  funext fun i => (congrArg ((dats m 0 c).arrAt 8 cfg0.N) (emb8 i)).symm.trans
    ((congrFun (Value.blocks8 m c (pt i) (flush0_8 (pt i))) (loc i)).trans (left m c i).change)

theorem final9 (c : Dev nD) : (dats m 0 c).arrAt 9 cfg0.N = fun i => moment (grad m c i) (moment1 m c i) :=
  funext fun i => (congrArg ((dats m 0 c).arrAt 9 cfg0.N) (emb9 i)).symm.trans
    ((congrFun (Value.blocks9 m c (pt i) (flush0_9 (pt i))) (loc i)).trans (left m c i).first)

theorem final10 (c : Dev nD) : (dats m 0 c).arrAt 10 cfg0.N = fun i => square (grad m c i) (moment2 m c i) :=
  funext fun i => (congrArg ((dats m 0 c).arrAt 10 cfg0.N) (emb10 i)).symm.trans
    ((congrFun (Value.blocks10 m c (pt i) (flush0_10 (pt i))) (loc i)).trans (left m c i).second)

end Cert.KernelOgIdeal.Slots

namespace Cert.ReferenceOgIdeal.Slots

open Idealize.ShloMosaic Idealize.ShloMosaic.TcCoe Idealize.SL.Sem
open Cert.ReferenceOgIdeal Cert.ReferenceOgIdeal.Gen Cert.Optimiser
open Cert.KernelOgIdeal.Slots (gradient)
open scoped BigOperators

/-- The reference's sum over the devices of what they sent for one layer. -/
def layerGrad (x : FVec Ideal S8x96x768 .bf16) : FVec Ideal S96x768 .f32 :=
  Host.reduceAdd (extf .f32 x bitsLt_bf16_f32) (constant S_ .f32 0x00000000#32) reducesTo_S8x96x768_S96x768_d0 h_S_

theorem layerGrad_apply (x : FVec Ideal S8x96x768 .bf16) (r : Fin 96) (l : Fin 768) :
    layerGrad x (ix2 r l) = ∑ s : Fin 8, (x (ix3 s ⟨0 + r.val, by omega⟩ l) : EReal) := by
  unfold layerGrad
  pointwise []
  done

/-- The four layers' sums, stacked. -/
def grads (x0 x1 x2 x3 : FVec Ideal S8x96x768 .bf16) : FVec Ideal S4x96x768 .f32 :=
  concatenate S4x96x768 0 [⟨S1x96x768, broadcastInDim S1x96x768 ![1, 2] bcast_S96x768_S1x96x768_1_2 (layerGrad x0)⟩,
    ⟨S1x96x768, broadcastInDim S1x96x768 ![1, 2] bcast_S96x768_S1x96x768_1_2 (layerGrad x1)⟩,
    ⟨S1x96x768, broadcastInDim S1x96x768 ![1, 2] bcast_S96x768_S1x96x768_1_2 (layerGrad x2)⟩,
    ⟨S1x96x768, broadcastInDim S1x96x768 ![1, 2] bcast_S96x768_S1x96x768_1_2 (layerGrad x3)⟩] concatenates_S1x96x768_S1x96x768_S1x96x768_S1x96x768_S4x96x768_d0

theorem grads_apply (x0 x1 x2 x3 : FVec Ideal S8x96x768 .bf16) (i : S4x96x768.Idx) : grads x0 x1 x2 x3 i = gradient x0 x1 x2 x3 i := by
  obtain ⟨d, r, l, rfl⟩ : ∃ (d : Fin 4) (r : Fin 96) (l : Fin 768), i = ix3 d r l := ⟨i 0, i 1, i 2, eq_ix3 i⟩
  unfold grads
  fin_cases d
  · show _ = ∑ s : Fin 8, x0 (ix3 s ⟨0 + r.val, by omega⟩ l)
    pointwise [layerGrad_apply]
  · show _ = ∑ s : Fin 8, x1 (ix3 s ⟨0 + r.val, by omega⟩ l)
    pointwise [layerGrad_apply]
  · show _ = ∑ s : Fin 8, x2 (ix3 s ⟨0 + r.val, by omega⟩ l)
    pointwise [layerGrad_apply]
  · show _ = ∑ s : Fin 8, x3 (ix3 s ⟨0 + r.val, by omega⟩ l)
    pointwise [layerGrad_apply]

/-- An array of one constant. -/
abbrev all (w : BitVec 32) : FVec Ideal S4x96x768 .f32 := broadcastInDim S4x96x768 ![] bcast_S_S4x96x768 (constant S_ .f32 w)

/-- The reference's AdamW, operation by operation. -/
def newFirst (g m : FVec Ideal S4x96x768 .f32) : FVec Ideal S4x96x768 .f32 :=
  addf (mulf (all 0x3F666666#32) m)
    (mulf (all 0x3DCCCCCD#32) g)
def newSecond (g v : FVec Ideal S4x96x768 .f32) : FVec Ideal S4x96x768 .f32 :=
  addf (mulf (all 0x3F7FBE77#32) v)
    (mulf (all 0x3A83126F#32) (mulf g g))
def change (w g m v : FVec Ideal S4x96x768 .f32) : FVec Ideal S4x96x768 .f32 :=
  mulf (all 0xBA83126F#32)
    (addf (Host.divf (Host.divf (newFirst g m) (all 0x3F26BD02#32))
        (addf (Host.sqrt (Host.divf (newSecond g v) (all 0x3C231ACC#32)))
          (all 0x322BCC77#32)))
      (mulf (all 0x3C23D70A#32) w))

theorem newFirst_apply (g m : FVec Ideal S4x96x768 .f32) (i : S4x96x768.Idx) : newFirst g m i = moment (g i) (m i) := rfl
theorem newSecond_apply (g v : FVec Ideal S4x96x768 .f32) (i : S4x96x768.Idx) : newSecond g v i = square (g i) (v i) := rfl
theorem change_apply (w g m v : FVec Ideal S4x96x768 .f32) (i : S4x96x768.Idx) : change w g m v i = step (w i) (g i) (m i) (v i) := rfl

end Cert.ReferenceOgIdeal.Slots

namespace Cert.OgValue

open Idealize.ShloMosaic Idealize.ShloMosaic.TcCoe Idealize.SL.Sem
open Cert.KernelOgIdeal.Slots Cert.ReferenceOgIdeal.Slots Cert.Optimiser

/-- The optimiser's step on the weight: the kernel's gradient, change and moments are the reference's. -/
theorem algebraic : Cert.algebraic_KernelOgIdeal_ReferenceOgIdeal (hKernelOgIdeal := Cert.KernelOgIdeal.Gen.facts)
    (hReferenceOgIdeal := Cert.ReferenceOgIdeal.Gen.facts) :=
  fun m ρ m' ρ' _ hag => ⟨fun c => grad m c,
    fun c i => step (weight m c i) (grad m c i) (moment1 m c i) (moment2 m c i),
    fun c i => moment (grad m c i) (moment1 m c i),
    fun c i => square (grad m c i) (moment2 m c i),
    (θ_run _ _ _).mono (fun _ h c => by
      obtain ⟨h0, h1, h2, h3, hr⟩ := h c
      exact ⟨h0.trans (final7 m c), h1.trans (final8 m c), h2.trans (final9 m c), h3.trans (final10 m c), hr⟩)
      (Cert.KernelOgIdeal.Value.run_blocks m ρ),
    (θ_run _ _ _).mono (fun _ h c => by
      obtain ⟨h0, h1, h2, h3, hr⟩ := h c
      obtain ⟨a0, a1, a2, a3, a4, a5, a6⟩ := hag c
      unfold Cert.ReferenceOgIdeal.Value.res_main_v36 at h1
      rw [a0, a1, a2, a3] at h0 h1 h2 h3
      rw [a4, a5, a6] at h1
      rw [a5] at h2
      rw [a6] at h3
      refine ⟨h0.trans (funext fun i => grads_apply _ _ _ _ i), h1.trans (funext fun i => ?_), h2.trans (funext fun i => ?_),
        h3.trans (funext fun i => ?_), hr⟩
      · refine (change_apply _ (grads _ _ _ _) _ _ i).trans ?_; rw [grads_apply]
      · refine (newFirst_apply (grads _ _ _ _) _ i).trans ?_; rw [grads_apply]
      · refine (newSecond_apply (grads _ _ _ _) _ i).trans ?_; rw [grads_apply])
      (Cert.ReferenceOgIdeal.Value.run m' ρ')⟩

/-- The reference runs, leaves its arguments as they were, and ends with every counter at zero. -/
theorem reference_frame : Cert.quiescent_ReferenceOgIdeal (hReferenceOgIdeal := Cert.ReferenceOgIdeal.Gen.facts) :=
  fun m ρ _ => (θ_run _ _ _).mono (fun r h => ⟨fun c => (h c).2.2.2.2, sem_eq_zero_of_no_sems (by decide) r.2⟩)
    (Cert.ReferenceOgIdeal.Value.run m ρ)

end Cert.OgValue

end
-- ==== Proof.OaValue.lean ====
/-
  The optimiser's step on the weight of the delta-rule branch's projection: the sum of the gradients the eight devices sent, and AdamW's
  step with it. What one point stores, what the four arrays hold after the run, and that these are the reference's arrays.
-/
module

public import proofs.«01_k».proof.Defs
public import proofs.«01_k».proof.Proof.Optimiser
public import proofs.«01_k».proof.Proof.Gen.KernelOaIdeal.Value
public import proofs.«01_k».proof.Proof.Gen.ReferenceOaIdeal.Run
public import Idealize.ShloMosaic.Lib.Pipeline.Value
public import Idealize.ShloMosaic.Lib.Pointwise
public import Idealize.ShloMosaic.PureOps.Ideal

@[expose] public section

noncomputable section

namespace Cert.KernelOaIdeal.Slots

open Idealize.ShloMosaic Idealize.ShloMosaic.TcCoe Idealize.SL.Sem
open Cert.KernelOaIdeal Cert.KernelOaIdeal.Gen Cert.Optimiser
open scoped BigOperators

theorem hz : (![0, 0, 0] : Fin 3 → Nat) = fun _ => 0 := funext fun a => by fin_cases a <;> rfl

/-- The gradients the eight devices sent for one block of rows, added as the body adds them. -/
def slotSum (x : Vec Ideal S8x256x256 .bf16) : FVec Ideal S256x256 .f32 :=
  k0_pay9
    (View.ld x (Rect.unit _ _ inb_S8x256x256_S1x256x256_0_0_0))
    (View.ld x (Rect.unit _ _ inb_S8x256x256_S1x256x256_1_0_0))
    (View.ld x (Rect.unit _ _ inb_S8x256x256_S1x256x256_2_0_0))
    (View.ld x (Rect.unit _ _ inb_S8x256x256_S1x256x256_3_0_0))
    (View.ld x (Rect.unit _ _ inb_S8x256x256_S1x256x256_4_0_0))
    (View.ld x (Rect.unit _ _ inb_S8x256x256_S1x256x256_5_0_0))
    (View.ld x (Rect.unit _ _ inb_S8x256x256_S1x256x256_6_0_0))
    (View.ld x (Rect.unit _ _ inb_S8x256x256_S1x256x256_7_0_0))

/-- That sum, at an index. -/
theorem slotSum_apply (x : Vec Ideal S8x256x256 .bf16) (r : Fin 256) (l : Fin 256) :
    slotSum x (ix2 r l) = ∑ s : Fin 8, (x (ix3 s r l) : EReal) := by
  unfold slotSum
  pointwise [k0_pay9]
  exact (Fin.sum_univ_eight fun s => (x (ix3 s r l) : EReal)).symm

/-! What the four outputs' blocks get from the sum, the weight and the moments. -/

theorem pay13_apply (g : FVec Ideal S256x256 .f32) (r : Fin 256) (l : Fin 256) : k0_pay13 g (ix3 0 r l) = g (ix2 r l) := by
  pointwise [k0_pay13]

theorem pay1_apply (g : FVec Ideal S256x256 .f32) (x : Vec Ideal S1x256x256 .f32) (r : Fin 256) (l : Fin 256) :
    k0_pay1 (k0_pay11 g x) (ix3 0 r l) = moment (g (ix2 r l)) (x (ix3 0 r l)) := by
  unfold moment
  pointwise [k0_pay1, k0_pay11]

theorem pay2_apply (g : FVec Ideal S256x256 .f32) (x : Vec Ideal S1x256x256 .f32) (r : Fin 256) (l : Fin 256) :
    k0_pay2 (k0_pay12 g x) (ix3 0 r l) = square (g (ix2 r l)) (x (ix3 0 r l)) := by
  unfold square
  pointwise [k0_pay2, k0_pay12]

theorem pay14_apply (g : FVec Ideal S256x256 .f32) (w m v : Vec Ideal S1x256x256 .f32) (r : Fin 256) (l : Fin 256) :
    k0_pay14 g (k0_pay10 w) m v (ix3 0 r l) = step (w (ix3 0 r l)) (g (ix2 r l)) (m (ix3 0 r l)) (v (ix3 0 r l)) := by
  unfold step moment square
  pointwise [k0_pay14, k0_pay10, k0_pay11, k0_pay12]

section Bodies
variable (c : Dev nD) (i : grid0.Coords)
  (a2 a3 a4 a5 : Memref sig .tc .vmem S8x256x256 .bf16) (a6 a7 a8 a9 a10 a11 a12 : Memref sig .tc .vmem S1x256x256 .f32)
  (h2 : a2.IsWhole) (h3 : a3.IsWhole) (h4 : a4.IsWhole) (h5 : a5.IsWhole) (h6 : a6.IsWhole) (h7 : a7.IsWhole) (h8 : a8.IsWhole)
  (h9 : a9.IsWhole) (h10 : a10.IsWhole) (h11 : a11.IsWhole) (h12 : a12.IsWhole)
  (x0 x1 x2 x3 : Vec Ideal S8x256x256 .bf16) (x4 x5 x6 : Vec Ideal S1x256x256 .f32)

/-! What the body stores at a point of each layer: the layer's own received block is the one it sums. -/

theorem outA (hc0 : cond0_0 i) (hc1 : ¬cond0_1 i) (hc2 : ¬cond0_2 i) (hc3 : ¬cond0_3 i) :
    out0_A_7 c i a2 h2 a3 h3 a4 h4 a5 h5 a6 h6 a7 h7 a8 h8 a9 h9 a10 h10 a11 h11 a12 h12 hc0 hc1 hc2 hc3 x0 x1 x2 x3 x4 x5 x6 = k0_pay13 (slotSum x0)
    ∧ out0_A_8 c i a2 h2 a3 h3 a4 h4 a5 h5 a6 h6 a7 h7 a8 h8 a9 h9 a10 h10 a11 h11 a12 h12 hc0 hc1 hc2 hc3 x0 x1 x2 x3 x4 x5 x6 = k0_pay14 (slotSum x0) (k0_pay10 x4) x5 x6
    ∧ out0_A_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x0) x5)
    ∧ out0_A_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x0) x6) := by
  refine ⟨(View.read_writes_eq_canon _ _ _ (fun _ => cover0_A_7 ..)).trans ?_,
    (View.read_writes_eq_canon _ _ _ (fun _ => cover0_A_8 ..)).trans ?_,
    (View.read_writes_eq_canon _ _ _ (fun _ => cover0_A_9 ..)).trans ?_,
    (View.read_writes_eq_canon _ _ _ (fun _ => cover0_A_10 ..)).trans ?_⟩
  all_goals
    unfold kernelRun0_A
    dsimp only
    sl_unfold_words
    rw [View.canon_unit_zero (S := S1x256x256) hz]
    simp only [View.readAt_eq_ld, h2.read_unread, h6.read_unread, h7.read_unread, h8.read_unread, View.ld_unit_zero (S := S1x256x256) hz]
    rfl

theorem outB (hc0 : ¬cond0_0 i) (hc1 : cond0_1 i) (hc2 : ¬cond0_2 i) (hc3 : ¬cond0_3 i) :
    out0_B_7 c i a2 h2 a3 h3 a4 h4 a5 h5 a6 h6 a7 h7 a8 h8 a9 h9 a10 h10 a11 h11 a12 h12 hc0 hc1 hc2 hc3 x0 x1 x2 x3 x4 x5 x6 = k0_pay13 (slotSum x1)
    ∧ out0_B_8 c i a2 h2 a3 h3 a4 h4 a5 h5 a6 h6 a7 h7 a8 h8 a9 h9 a10 h10 a11 h11 a12 h12 hc0 hc1 hc2 hc3 x0 x1 x2 x3 x4 x5 x6 = k0_pay14 (slotSum x1) (k0_pay10 x4) x5 x6
    ∧ out0_B_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x1) x5)
    ∧ out0_B_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x1) x6) := by
  refine ⟨(View.read_writes_eq_canon _ _ _ (fun _ => cover0_B_7 ..)).trans ?_,
    (View.read_writes_eq_canon _ _ _ (fun _ => cover0_B_8 ..)).trans ?_,
    (View.read_writes_eq_canon _ _ _ (fun _ => cover0_B_9 ..)).trans ?_,
    (View.read_writes_eq_canon _ _ _ (fun _ => cover0_B_10 ..)).trans ?_⟩
  all_goals
    unfold kernelRun0_B
    dsimp only
    sl_unfold_words
    rw [View.canon_unit_zero (S := S1x256x256) hz]
    simp only [View.readAt_eq_ld, h3.read_unread, h6.read_unread, h7.read_unread, h8.read_unread, View.ld_unit_zero (S := S1x256x256) hz]
    rfl

theorem outC (hc0 : ¬cond0_0 i) (hc1 : ¬cond0_1 i) (hc2 : cond0_2 i) (hc3 : ¬cond0_3 i) :
    out0_C_7 c i a2 h2 a3 h3 a4 h4 a5 h5 a6 h6 a7 h7 a8 h8 a9 h9 a10 h10 a11 h11 a12 h12 hc0 hc1 hc2 hc3 x0 x1 x2 x3 x4 x5 x6 = k0_pay13 (slotSum x2)
    ∧ out0_C_8 c i a2 h2 a3 h3 a4 h4 a5 h5 a6 h6 a7 h7 a8 h8 a9 h9 a10 h10 a11 h11 a12 h12 hc0 hc1 hc2 hc3 x0 x1 x2 x3 x4 x5 x6 = k0_pay14 (slotSum x2) (k0_pay10 x4) x5 x6
    ∧ out0_C_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x2) x5)
    ∧ out0_C_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x2) x6) := by
  refine ⟨(View.read_writes_eq_canon _ _ _ (fun _ => cover0_C_7 ..)).trans ?_,
    (View.read_writes_eq_canon _ _ _ (fun _ => cover0_C_8 ..)).trans ?_,
    (View.read_writes_eq_canon _ _ _ (fun _ => cover0_C_9 ..)).trans ?_,
    (View.read_writes_eq_canon _ _ _ (fun _ => cover0_C_10 ..)).trans ?_⟩
  all_goals
    unfold kernelRun0_C
    dsimp only
    sl_unfold_words
    rw [View.canon_unit_zero (S := S1x256x256) hz]
    simp only [View.readAt_eq_ld, h4.read_unread, h6.read_unread, h7.read_unread, h8.read_unread, View.ld_unit_zero (S := S1x256x256) hz]
    rfl

theorem outD (hc0 : ¬cond0_0 i) (hc1 : ¬cond0_1 i) (hc2 : ¬cond0_2 i) (hc3 : cond0_3 i) :
    out0_D_7 c i a2 h2 a3 h3 a4 h4 a5 h5 a6 h6 a7 h7 a8 h8 a9 h9 a10 h10 a11 h11 a12 h12 hc0 hc1 hc2 hc3 x0 x1 x2 x3 x4 x5 x6 = k0_pay13 (slotSum x3)
    ∧ out0_D_8 c i a2 h2 a3 h3 a4 h4 a5 h5 a6 h6 a7 h7 a8 h8 a9 h9 a10 h10 a11 h11 a12 h12 hc0 hc1 hc2 hc3 x0 x1 x2 x3 x4 x5 x6 = k0_pay14 (slotSum x3) (k0_pay10 x4) x5 x6
    ∧ out0_D_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x3) x5)
    ∧ out0_D_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x3) x6) := by
  refine ⟨(View.read_writes_eq_canon _ _ _ (fun _ => cover0_D_7 ..)).trans ?_,
    (View.read_writes_eq_canon _ _ _ (fun _ => cover0_D_8 ..)).trans ?_,
    (View.read_writes_eq_canon _ _ _ (fun _ => cover0_D_9 ..)).trans ?_,
    (View.read_writes_eq_canon _ _ _ (fun _ => cover0_D_10 ..)).trans ?_⟩
  all_goals
    unfold kernelRun0_D
    dsimp only
    sl_unfold_words
    rw [View.canon_unit_zero (S := S1x256x256) hz]
    simp only [View.readAt_eq_ld, h5.read_unread, h6.read_unread, h7.read_unread, h8.read_unread, View.ld_unit_zero (S := S1x256x256) hz]
    rfl

end Bodies

variable (m : (ℓ : Loc nD τ sig) → Buf (Elt Ideal) ℓ) (ρ : Dev nD → PrngReg)

/-! ## The arguments and their blocks -/

/-- What the eight devices sent for each layer, and the layers' weights and moments. -/
abbrev recv0 (c : Dev nD) : S8x2816x256.Idx → EReal := m ((c : Thread nD τ).loc main_arg0)
abbrev recv1 (c : Dev nD) : S8x2816x256.Idx → EReal := m ((c : Thread nD τ).loc main_arg1)
abbrev recv2 (c : Dev nD) : S8x2816x256.Idx → EReal := m ((c : Thread nD τ).loc main_arg2)
abbrev recv3 (c : Dev nD) : S8x2816x256.Idx → EReal := m ((c : Thread nD τ).loc main_arg3)
abbrev weight (c : Dev nD) : S4x1024x256.Idx → EReal := m ((c : Thread nD τ).loc main_arg4)
abbrev moment1 (c : Dev nD) : S4x1024x256.Idx → EReal := m ((c : Thread nD τ).loc main_arg5)
abbrev moment2 (c : Dev nD) : S4x1024x256.Idx → EReal := m ((c : Thread nD τ).loc main_arg6)

/-- The gradient of a weight: the sum over the devices of what they sent for its layer. -/
def gradient (x0 x1 x2 x3 : S8x2816x256.Idx → EReal) (i : S4x1024x256.Idx) : EReal :=
  rowSum (if (i 0).val = 0 then x0 else if (i 0).val = 1 then x1 else if (i 0).val = 2 then x2 else x3) i
where
  /-- The sum over the devices at a row of their rows. -/
  rowSum (x : S8x2816x256.Idx → EReal) (i : S4x1024x256.Idx) : EReal :=
    ∑ s : Fin 8, x (ix3 s ⟨0 + (i 1).val, by have h : (i 1).val < 1024 := (i 1).isLt; omega⟩ (i 2))

/-- The gradient that the devices' arrays on device `c` give. -/
abbrev grad (c : Dev nD) : S4x1024x256.Idx → EReal := gradient (recv0 m c) (recv1 m c) (recv2 m c) (recv3 m c)

/-- The grid point that computes an index, and the place of the index in its block. -/
def pt (i : S4x1024x256.Idx) : Fin cfg0.N :=
  ⟨(i 0).val * 4 + (i 1).val / 256, by
    rw [show cfg0.N = 16 from N_0]
    have h0 : (i 0).val < 4 := (i 0).isLt
    have h1 : (i 1).val < 1024 := (i 1).isLt
    omega⟩
def loc (i : S4x1024x256.Idx) : S1x256x256.Idx := ix3 0 ⟨(i 1).val % 256, Nat.mod_lt _ (by decide)⟩ (i 2)

theorem idx_ext {a b c : ℕ} {i j : (⟨3, ![a, b, c]⟩ : Shape).Idx} (h0 : (i 0).val = (j 0).val) (h1 : (i 1).val = (j 1).val)
    (h2 : (i 2).val = (j 2).val) : i = j :=
  funext fun k => Fin.ext (by fin_cases k <;> assumption)

/-- The place of the block of layers and rows that point `t` computes, and of the received block of layer `d`. -/
abbrev Own (t : ℕ) (k : Fin 3 → ℕ) : Prop := k 0 = t / 4 ∧ k 1 = t % 4 ∧ k 2 = 0
abbrev Got (d t : ℕ) (k : Fin 3 → ℕ) : Prop := k 0 = 0 ∧ k 1 = 0 + (if t / 4 = d then t % 4 else 0) ∧ k 2 = 0

/-- Which block of each array a point reads or writes: the layer and the rows it computes. -/
theorem idx0 : ∀ t : Fin cfg0.N, Got 0 t.val (win0_0.index t) :=
  (by decide +kernel : ∀ t : Fin grid0.N, _)
theorem idx1 : ∀ t : Fin cfg0.N, Got 1 t.val (win0_1.index t) :=
  (by decide +kernel : ∀ t : Fin grid0.N, _)
theorem idx2 : ∀ t : Fin cfg0.N, Got 2 t.val (win0_2.index t) :=
  (by decide +kernel : ∀ t : Fin grid0.N, _)
theorem idx3 : ∀ t : Fin cfg0.N, Got 3 t.val (win0_3.index t) :=
  (by decide +kernel : ∀ t : Fin grid0.N, _)
theorem idx4 : ∀ t : Fin cfg0.N, Own t.val (win0_4.index t) :=
  (by decide +kernel : ∀ t : Fin grid0.N, _)
theorem idx5 : ∀ t : Fin cfg0.N, Own t.val (win0_5.index t) :=
  (by decide +kernel : ∀ t : Fin grid0.N, _)
theorem idx6 : ∀ t : Fin cfg0.N, Own t.val (win0_6.index t) :=
  (by decide +kernel : ∀ t : Fin grid0.N, _)
theorem idx7 : ∀ t : Fin cfg0.N, Own t.val (win0_7.index t) :=
  (by decide +kernel : ∀ t : Fin grid0.N, _)
theorem idx8 : ∀ t : Fin cfg0.N, Own t.val (win0_8.index t) :=
  (by decide +kernel : ∀ t : Fin grid0.N, _)
theorem idx9 : ∀ t : Fin cfg0.N, Own t.val (win0_9.index t) :=
  (by decide +kernel : ∀ t : Fin grid0.N, _)
theorem idx10 : ∀ t : Fin cfg0.N, Own t.val (win0_10.index t) :=
  (by decide +kernel : ∀ t : Fin grid0.N, _)

/-- The sum of a received block of rows at the point of `i`, a block whose places in `A` are `f`. -/
theorem sumAt (A : S8x2816x256.Idx → EReal) (f : S8x256x256.Idx → S8x2816x256.Idx) (i : S4x1024x256.Idx) {d : ℕ} {k : Fin 3 → ℕ} (h : (i 0).val = d)
    (e : Got d (pt i).val k)
    (hf : ∀ s r l, (f (ix3 s r l) 0).val = k 0 * 8 + 1 * s.val ∧ (f (ix3 s r l) 1).val = k 1 * 256 + 1 * r.val
      ∧ (f (ix3 s r l) 2).val = k 2 * 256 + 1 * l.val) :
    slotSum (fun j => A (f j)) (ix2 ⟨(i 1).val % 256, Nat.mod_lt _ (by decide)⟩ (i 2)) = gradient.rowSum A i := by
  have h1 : (i 1).val < 1024 := (i 1).isLt
  have hp : (pt i).val = d * 4 + (i 1).val / 256 := by show (i 0).val * 4 + _ = _; rw [h]
  obtain ⟨e0, e1, e2⟩ := e
  rw [if_pos (by omega)] at e1
  refine (slotSum_apply _ _ _).trans (Finset.sum_congr rfl fun s _ => congrArg A ?_)
  obtain ⟨f0, f1, f2⟩ := hf s ⟨(i 1).val % 256, Nat.mod_lt _ (by decide)⟩ (i 2)
  refine idx_ext (f0.trans ?_) (f1.trans ?_) (f2.trans ?_)
  · show _ = s.val
    rw [e0]; omega
  · show k 1 * 256 + 1 * ((i 1).val % 256) = 0 + (i 1).val
    rw [e1]; omega
  · show _ = (i 2).val
    rw [e2]; omega

theorem sum0 (c : Dev nD) (i : S4x1024x256.Idx) (h : (i 0).val = 0) :
    slotSum (iblk m c 0 (pt i)) (ix2 ⟨(i 1).val % 256, Nat.mod_lt _ (by decide)⟩ (i 2)) = grad m c i :=
  (sumAt (recv0 m c) ((cfg0.win 0).blk (pt i)).view.emb i h (idx0 (pt i)) fun _ _ _ => ⟨rfl, rfl, rfl⟩).trans
    (by unfold grad gradient; simp only [h]; rfl)
theorem sum1 (c : Dev nD) (i : S4x1024x256.Idx) (h : (i 0).val = 1) :
    slotSum (iblk m c 1 (pt i)) (ix2 ⟨(i 1).val % 256, Nat.mod_lt _ (by decide)⟩ (i 2)) = grad m c i :=
  (sumAt (recv1 m c) ((cfg0.win 1).blk (pt i)).view.emb i h (idx1 (pt i)) fun _ _ _ => ⟨rfl, rfl, rfl⟩).trans
    (by unfold grad gradient; simp only [h]; rfl)
theorem sum2 (c : Dev nD) (i : S4x1024x256.Idx) (h : (i 0).val = 2) :
    slotSum (iblk m c 2 (pt i)) (ix2 ⟨(i 1).val % 256, Nat.mod_lt _ (by decide)⟩ (i 2)) = grad m c i :=
  (sumAt (recv2 m c) ((cfg0.win 2).blk (pt i)).view.emb i h (idx2 (pt i)) fun _ _ _ => ⟨rfl, rfl, rfl⟩).trans
    (by unfold grad gradient; simp only [h]; rfl)
theorem sum3 (c : Dev nD) (i : S4x1024x256.Idx) (h : (i 0).val = 3) :
    slotSum (iblk m c 3 (pt i)) (ix2 ⟨(i 1).val % 256, Nat.mod_lt _ (by decide)⟩ (i 2)) = grad m c i :=
  (sumAt (recv3 m c) ((cfg0.win 3).blk (pt i)).view.emb i h (idx3 (pt i)) fun _ _ _ => ⟨rfl, rfl, rfl⟩).trans
    (by unfold grad gradient; simp only [h]; rfl)

/-- The place of an index in its block of layers and rows is the index. -/
theorem place {i j : S4x1024x256.Idx} {k : Fin 3 → ℕ} (e : Own (pt i).val k) (h : (j 0).val = k 0 * 1 + 1 * 0
    ∧ (j 1).val = k 1 * 256 + 1 * ((i 1).val % 256) ∧ (j 2).val = k 2 * 256 + 1 * (i 2).val) : j = i := by
  have h0 : (i 0).val < 4 := (i 0).isLt
  have h1 : (i 1).val < 1024 := (i 1).isLt
  have hp : (pt i).val = (i 0).val * 4 + (i 1).val / 256 := rfl
  obtain ⟨e0, e1, e2⟩ := e
  obtain ⟨j0, j1, j2⟩ := h
  refine idx_ext ?_ ?_ ?_ <;> omega

theorem emb4 (i : S4x1024x256.Idx) : ((cfg0.win 4).blk (pt i)).view.emb (loc i) = i := place (idx4 (pt i)) ⟨rfl, rfl, rfl⟩
theorem emb5 (i : S4x1024x256.Idx) : ((cfg0.win 5).blk (pt i)).view.emb (loc i) = i := place (idx5 (pt i)) ⟨rfl, rfl, rfl⟩
theorem emb6 (i : S4x1024x256.Idx) : ((cfg0.win 6).blk (pt i)).view.emb (loc i) = i := place (idx6 (pt i)) ⟨rfl, rfl, rfl⟩
theorem emb7 (i : S4x1024x256.Idx) : ((cfg0.win 7).blk (pt i)).view.emb (loc i) = i := place (idx7 (pt i)) ⟨rfl, rfl, rfl⟩
theorem emb8 (i : S4x1024x256.Idx) : ((cfg0.win 8).blk (pt i)).view.emb (loc i) = i := place (idx8 (pt i)) ⟨rfl, rfl, rfl⟩
theorem emb9 (i : S4x1024x256.Idx) : ((cfg0.win 9).blk (pt i)).view.emb (loc i) = i := place (idx9 (pt i)) ⟨rfl, rfl, rfl⟩
theorem emb10 (i : S4x1024x256.Idx) : ((cfg0.win 10).blk (pt i)).view.emb (loc i) = i := place (idx10 (pt i)) ⟨rfl, rfl, rfl⟩

/-- What the point of an index leaves there, once its received block's sum is known: the gradient, the weight's change and
    the new moments. -/
structure Left (c : Dev nD) (i : S4x1024x256.Idx) (g : EReal) : Prop where
  grad : (dats m 0 c).flushed 7 (pt i) (loc i) = g
  change : (dats m 0 c).flushed 8 (pt i) (loc i) = step (weight m c i) g (moment1 m c i) (moment2 m c i)
  first : (dats m 0 c).flushed 9 (pt i) (loc i) = moment g (moment1 m c i)
  second : (dats m 0 c).flushed 10 (pt i) (loc i) = square g (moment2 m c i)

/-- The body's four stores at an index, for a sum `g` of the received block. -/
theorem stores (c : Dev nD) (i : S4x1024x256.Idx) (X : FVec Ideal S256x256 .f32) (g : EReal)
    (h : X (ix2 ⟨(i 1).val % 256, Nat.mod_lt _ (by decide)⟩ (i 2)) = g)
    (h7 : (dats m 0 c).flushed 7 (pt i) = k0_pay13 X)
    (h8 : (dats m 0 c).flushed 8 (pt i) = k0_pay14 X (k0_pay10 (iblk m c 4 (pt i))) (iblk m c 5 (pt i)) (iblk m c 6 (pt i)))
    (h9 : (dats m 0 c).flushed 9 (pt i) = k0_pay1 (k0_pay11 X (iblk m c 5 (pt i))))
    (h10 : (dats m 0 c).flushed 10 (pt i) = k0_pay2 (k0_pay12 X (iblk m c 6 (pt i)))) : Left m c i g := by
  have w4 : iblk m c 4 (pt i) (loc i) = weight m c i := congrArg (weight m c) (emb4 i)
  have w5 : iblk m c 5 (pt i) (loc i) = moment1 m c i := congrArg (moment1 m c) (emb5 i)
  have w6 : iblk m c 6 (pt i) (loc i) = moment2 m c i := congrArg (moment2 m c) (emb6 i)
  refine ⟨(congrFun h7 _).trans ?_, (congrFun h8 _).trans ?_, (congrFun h9 _).trans ?_, (congrFun h10 _).trans ?_⟩
  · exact (pay13_apply X _ _).trans h
  · refine (pay14_apply X _ _ _ _ _).trans ?_
    rw [h]; exact congr (congr (congrArg (fun x => step x g) w4) w5) w6
  · refine (pay1_apply X _ _ _).trans ?_
    rw [h]; exact congrArg (moment g) w5
  · refine (pay2_apply X _ _ _).trans ?_
    rw [h]; exact congrArg (square g) w6

/-- Every index is left as the optimiser's step says. -/
theorem left (c : Dev nD) (i : S4x1024x256.Idx) :
    Left m c i (grad m c i) := by
  have h1 : (i 1).val < 1024 := (i 1).isLt
  have h0 : (i 0).val = 0 ∨ (i 0).val = 1 ∨ (i 0).val = 2 ∨ (i 0).val = 3 := by have h : (i 0).val < 4 := (i 0).isLt; omega
  have hp : (pt i).val = (i 0).val * 4 + (i 1).val / 256 := rfl
  rcases h0 with h | h | h | h
  · refine stores m c i _ _ (sum0 m c i h) ((Value.flushed7_A m c (pt i) ?_ ?_ ?_ ?_).trans (outA ..).1)
      ((Value.flushed8_A m c (pt i) ?_ ?_ ?_ ?_).trans (outA ..).2.1) ((Value.flushed9_A m c (pt i) ?_ ?_ ?_ ?_).trans (outA ..).2.2.1)
      ((Value.flushed10_A m c (pt i) ?_ ?_ ?_ ?_).trans (outA ..).2.2.2) <;> omega
  · refine stores m c i _ _ (sum1 m c i h) ((Value.flushed7_B m c (pt i) ?_ ?_ ?_ ?_).trans (outB ..).1)
      ((Value.flushed8_B m c (pt i) ?_ ?_ ?_ ?_).trans (outB ..).2.1) ((Value.flushed9_B m c (pt i) ?_ ?_ ?_ ?_).trans (outB ..).2.2.1)
      ((Value.flushed10_B m c (pt i) ?_ ?_ ?_ ?_).trans (outB ..).2.2.2) <;> omega
  · refine stores m c i _ _ (sum2 m c i h) ((Value.flushed7_C m c (pt i) ?_ ?_ ?_ ?_).trans (outC ..).1)
      ((Value.flushed8_C m c (pt i) ?_ ?_ ?_ ?_).trans (outC ..).2.1) ((Value.flushed9_C m c (pt i) ?_ ?_ ?_ ?_).trans (outC ..).2.2.1)
      ((Value.flushed10_C m c (pt i) ?_ ?_ ?_ ?_).trans (outC ..).2.2.2) <;> omega
  · refine stores m c i _ _ (sum3 m c i h) ((Value.flushed7_D m c (pt i) ?_ ?_ ?_ ?_).trans (outD ..).1)
      ((Value.flushed8_D m c (pt i) ?_ ?_ ?_ ?_).trans (outD ..).2.1) ((Value.flushed9_D m c (pt i) ?_ ?_ ?_ ?_).trans (outD ..).2.2.1)
      ((Value.flushed10_D m c (pt i) ?_ ?_ ?_ ?_).trans (outD ..).2.2.2) <;> omega

/-! ## The four arrays after the run -/

theorem final7 (c : Dev nD) : (dats m 0 c).arrAt 7 cfg0.N = grad m c :=
  funext fun i => (congrArg ((dats m 0 c).arrAt 7 cfg0.N) (emb7 i)).symm.trans
    ((congrFun (Value.blocks7 m c (pt i) (flush0_7 (pt i))) (loc i)).trans (left m c i).grad)

theorem final8 (c : Dev nD) : (dats m 0 c).arrAt 8 cfg0.N = fun i => step (weight m c i) (grad m c i) (moment1 m c i) (moment2 m c i) :=
  funext fun i => (congrArg ((dats m 0 c).arrAt 8 cfg0.N) (emb8 i)).symm.trans
    ((congrFun (Value.blocks8 m c (pt i) (flush0_8 (pt i))) (loc i)).trans (left m c i).change)

theorem final9 (c : Dev nD) : (dats m 0 c).arrAt 9 cfg0.N = fun i => moment (grad m c i) (moment1 m c i) :=
  funext fun i => (congrArg ((dats m 0 c).arrAt 9 cfg0.N) (emb9 i)).symm.trans
    ((congrFun (Value.blocks9 m c (pt i) (flush0_9 (pt i))) (loc i)).trans (left m c i).first)

theorem final10 (c : Dev nD) : (dats m 0 c).arrAt 10 cfg0.N = fun i => square (grad m c i) (moment2 m c i) :=
  funext fun i => (congrArg ((dats m 0 c).arrAt 10 cfg0.N) (emb10 i)).symm.trans
    ((congrFun (Value.blocks10 m c (pt i) (flush0_10 (pt i))) (loc i)).trans (left m c i).second)

end Cert.KernelOaIdeal.Slots

namespace Cert.ReferenceOaIdeal.Slots

open Idealize.ShloMosaic Idealize.ShloMosaic.TcCoe Idealize.SL.Sem
open Cert.ReferenceOaIdeal Cert.ReferenceOaIdeal.Gen Cert.Optimiser
open Cert.KernelOaIdeal.Slots (gradient)
open scoped BigOperators

/-- The reference's sum over the devices of what they sent for one layer. -/
def layerGrad (x : FVec Ideal S8x2816x256 .bf16) : FVec Ideal S1024x256 .f32 :=
  Host.reduceAdd (extf .f32 (extractStridedSlice S8x1024x256 ![0, 0, 0] x slices_S8x2816x256_S8x1024x256_0_0_0) bitsLt_bf16_f32) (constant S_ .f32 0x00000000#32) reducesTo_S8x1024x256_S1024x256_d0 h_S_

theorem layerGrad_apply (x : FVec Ideal S8x2816x256 .bf16) (r : Fin 1024) (l : Fin 256) :
    layerGrad x (ix2 r l) = ∑ s : Fin 8, (x (ix3 s ⟨0 + r.val, by omega⟩ l) : EReal) := by
  unfold layerGrad
  pointwise []
  done

/-- The four layers' sums, stacked. -/
def grads (x0 x1 x2 x3 : FVec Ideal S8x2816x256 .bf16) : FVec Ideal S4x1024x256 .f32 :=
  concatenate S4x1024x256 0 [⟨S1x1024x256, broadcastInDim S1x1024x256 ![1, 2] bcast_S1024x256_S1x1024x256_1_2 (layerGrad x0)⟩,
    ⟨S1x1024x256, broadcastInDim S1x1024x256 ![1, 2] bcast_S1024x256_S1x1024x256_1_2 (layerGrad x1)⟩,
    ⟨S1x1024x256, broadcastInDim S1x1024x256 ![1, 2] bcast_S1024x256_S1x1024x256_1_2 (layerGrad x2)⟩,
    ⟨S1x1024x256, broadcastInDim S1x1024x256 ![1, 2] bcast_S1024x256_S1x1024x256_1_2 (layerGrad x3)⟩] concatenates_S1x1024x256_S1x1024x256_S1x1024x256_S1x1024x256_S4x1024x256_d0

theorem grads_apply (x0 x1 x2 x3 : FVec Ideal S8x2816x256 .bf16) (i : S4x1024x256.Idx) : grads x0 x1 x2 x3 i = gradient x0 x1 x2 x3 i := by
  obtain ⟨d, r, l, rfl⟩ : ∃ (d : Fin 4) (r : Fin 1024) (l : Fin 256), i = ix3 d r l := ⟨i 0, i 1, i 2, eq_ix3 i⟩
  unfold grads
  fin_cases d
  · show _ = ∑ s : Fin 8, x0 (ix3 s ⟨0 + r.val, by omega⟩ l)
    pointwise [layerGrad_apply]
  · show _ = ∑ s : Fin 8, x1 (ix3 s ⟨0 + r.val, by omega⟩ l)
    pointwise [layerGrad_apply]
  · show _ = ∑ s : Fin 8, x2 (ix3 s ⟨0 + r.val, by omega⟩ l)
    pointwise [layerGrad_apply]
  · show _ = ∑ s : Fin 8, x3 (ix3 s ⟨0 + r.val, by omega⟩ l)
    pointwise [layerGrad_apply]

/-- An array of one constant. -/
abbrev all (w : BitVec 32) : FVec Ideal S4x1024x256 .f32 := broadcastInDim S4x1024x256 ![] bcast_S_S4x1024x256 (constant S_ .f32 w)

/-- The reference's AdamW, operation by operation. -/
def newFirst (g m : FVec Ideal S4x1024x256 .f32) : FVec Ideal S4x1024x256 .f32 :=
  addf (mulf (all 0x3F666666#32) m)
    (mulf (all 0x3DCCCCCD#32) g)
def newSecond (g v : FVec Ideal S4x1024x256 .f32) : FVec Ideal S4x1024x256 .f32 :=
  addf (mulf (all 0x3F7FBE77#32) v)
    (mulf (all 0x3A83126F#32) (mulf g g))
def change (w g m v : FVec Ideal S4x1024x256 .f32) : FVec Ideal S4x1024x256 .f32 :=
  mulf (all 0xBA83126F#32)
    (addf (Host.divf (Host.divf (newFirst g m) (all 0x3F26BD02#32))
        (addf (Host.sqrt (Host.divf (newSecond g v) (all 0x3C231ACC#32)))
          (all 0x322BCC77#32)))
      (mulf (all 0x3C23D70A#32) w))

theorem newFirst_apply (g m : FVec Ideal S4x1024x256 .f32) (i : S4x1024x256.Idx) : newFirst g m i = moment (g i) (m i) := rfl
theorem newSecond_apply (g v : FVec Ideal S4x1024x256 .f32) (i : S4x1024x256.Idx) : newSecond g v i = square (g i) (v i) := rfl
theorem change_apply (w g m v : FVec Ideal S4x1024x256 .f32) (i : S4x1024x256.Idx) : change w g m v i = step (w i) (g i) (m i) (v i) := rfl

end Cert.ReferenceOaIdeal.Slots

namespace Cert.OaValue

open Idealize.ShloMosaic Idealize.ShloMosaic.TcCoe Idealize.SL.Sem
open Cert.KernelOaIdeal.Slots Cert.ReferenceOaIdeal.Slots Cert.Optimiser

/-- The optimiser's step on the weight: the kernel's gradient, change and moments are the reference's. -/
theorem algebraic : Cert.algebraic_KernelOaIdeal_ReferenceOaIdeal (hKernelOaIdeal := Cert.KernelOaIdeal.Gen.facts)
    (hReferenceOaIdeal := Cert.ReferenceOaIdeal.Gen.facts) :=
  fun m ρ m' ρ' _ hag => ⟨fun c => grad m c,
    fun c i => step (weight m c i) (grad m c i) (moment1 m c i) (moment2 m c i),
    fun c i => moment (grad m c i) (moment1 m c i),
    fun c i => square (grad m c i) (moment2 m c i),
    (θ_run _ _ _).mono (fun _ h c => by
      obtain ⟨h0, h1, h2, h3, hr⟩ := h c
      exact ⟨h0.trans (final7 m c), h1.trans (final8 m c), h2.trans (final9 m c), h3.trans (final10 m c), hr⟩)
      (Cert.KernelOaIdeal.Value.run_blocks m ρ),
    (θ_run _ _ _).mono (fun _ h c => by
      obtain ⟨h0, h1, h2, h3, hr⟩ := h c
      obtain ⟨a0, a1, a2, a3, a4, a5, a6⟩ := hag c
      unfold Cert.ReferenceOaIdeal.Value.res_main_v40 at h1
      rw [a0, a1, a2, a3] at h0 h1 h2 h3
      rw [a4, a5, a6] at h1
      rw [a5] at h2
      rw [a6] at h3
      refine ⟨h0.trans (funext fun i => grads_apply _ _ _ _ i), h1.trans (funext fun i => ?_), h2.trans (funext fun i => ?_),
        h3.trans (funext fun i => ?_), hr⟩
      · refine (change_apply _ (grads _ _ _ _) _ _ i).trans ?_; rw [grads_apply]
      · refine (newFirst_apply (grads _ _ _ _) _ i).trans ?_; rw [grads_apply]
      · refine (newSecond_apply (grads _ _ _ _) _ i).trans ?_; rw [grads_apply])
      (Cert.ReferenceOaIdeal.Value.run m' ρ')⟩

/-- The reference runs, leaves its arguments as they were, and ends with every counter at zero. -/
theorem reference_frame : Cert.quiescent_ReferenceOaIdeal (hReferenceOaIdeal := Cert.ReferenceOaIdeal.Gen.facts) :=
  fun m ρ _ => (θ_run _ _ _).mono (fun r h => ⟨fun c => (h c).2.2.2.2, sem_eq_zero_of_no_sems (by decide) r.2⟩)
    (Cert.ReferenceOaIdeal.Value.run m ρ)

end Cert.OaValue

end
-- ==== Proof.ObValue.lean ====
/-
  The optimiser's step on the weight of the S5 branch's projection: the sum of the gradients the eight devices sent, and AdamW's
  step with it. What one point stores, what the four arrays hold after the run, and that these are the reference's arrays.
-/
module

public import proofs.«01_k».proof.Defs
public import proofs.«01_k».proof.Proof.Optimiser
public import proofs.«01_k».proof.Proof.Gen.KernelObIdeal.Value
public import proofs.«01_k».proof.Proof.Gen.ReferenceObIdeal.Run
public import Idealize.ShloMosaic.Lib.Pipeline.Value
public import Idealize.ShloMosaic.Lib.Pointwise
public import Idealize.ShloMosaic.PureOps.Ideal

@[expose] public section

noncomputable section

namespace Cert.KernelObIdeal.Slots

open Idealize.ShloMosaic Idealize.ShloMosaic.TcCoe Idealize.SL.Sem
open Cert.KernelObIdeal Cert.KernelObIdeal.Gen Cert.Optimiser
open scoped BigOperators

theorem hz : (![0, 0, 0] : Fin 3 → Nat) = fun _ => 0 := funext fun a => by fin_cases a <;> rfl

/-- The gradients the eight devices sent for one block of rows, added as the body adds them. -/
def slotSum (x : Vec Ideal S8x256x256 .bf16) : FVec Ideal S256x256 .f32 :=
  k0_pay9
    (View.ld x (Rect.unit _ _ inb_S8x256x256_S1x256x256_0_0_0))
    (View.ld x (Rect.unit _ _ inb_S8x256x256_S1x256x256_1_0_0))
    (View.ld x (Rect.unit _ _ inb_S8x256x256_S1x256x256_2_0_0))
    (View.ld x (Rect.unit _ _ inb_S8x256x256_S1x256x256_3_0_0))
    (View.ld x (Rect.unit _ _ inb_S8x256x256_S1x256x256_4_0_0))
    (View.ld x (Rect.unit _ _ inb_S8x256x256_S1x256x256_5_0_0))
    (View.ld x (Rect.unit _ _ inb_S8x256x256_S1x256x256_6_0_0))
    (View.ld x (Rect.unit _ _ inb_S8x256x256_S1x256x256_7_0_0))

/-- That sum, at an index. -/
theorem slotSum_apply (x : Vec Ideal S8x256x256 .bf16) (r : Fin 256) (l : Fin 256) :
    slotSum x (ix2 r l) = ∑ s : Fin 8, (x (ix3 s r l) : EReal) := by
  unfold slotSum
  pointwise [k0_pay9]
  exact (Fin.sum_univ_eight fun s => (x (ix3 s r l) : EReal)).symm

/-! What the four outputs' blocks get from the sum, the weight and the moments. -/

theorem pay13_apply (g : FVec Ideal S256x256 .f32) (r : Fin 256) (l : Fin 256) : k0_pay13 g (ix3 0 r l) = g (ix2 r l) := by
  pointwise [k0_pay13]

theorem pay1_apply (g : FVec Ideal S256x256 .f32) (x : Vec Ideal S1x256x256 .f32) (r : Fin 256) (l : Fin 256) :
    k0_pay1 (k0_pay11 g x) (ix3 0 r l) = moment (g (ix2 r l)) (x (ix3 0 r l)) := by
  unfold moment
  pointwise [k0_pay1, k0_pay11]

theorem pay2_apply (g : FVec Ideal S256x256 .f32) (x : Vec Ideal S1x256x256 .f32) (r : Fin 256) (l : Fin 256) :
    k0_pay2 (k0_pay12 g x) (ix3 0 r l) = square (g (ix2 r l)) (x (ix3 0 r l)) := by
  unfold square
  pointwise [k0_pay2, k0_pay12]

theorem pay14_apply (g : FVec Ideal S256x256 .f32) (w m v : Vec Ideal S1x256x256 .f32) (r : Fin 256) (l : Fin 256) :
    k0_pay14 g (k0_pay10 w) m v (ix3 0 r l) = step (w (ix3 0 r l)) (g (ix2 r l)) (m (ix3 0 r l)) (v (ix3 0 r l)) := by
  unfold step moment square
  pointwise [k0_pay14, k0_pay10, k0_pay11, k0_pay12]

section Bodies
variable (c : Dev nD) (i : grid0.Coords)
  (a2 a3 a4 a5 : Memref sig .tc .vmem S8x256x256 .bf16) (a6 a7 a8 a9 a10 a11 a12 : Memref sig .tc .vmem S1x256x256 .f32)
  (h2 : a2.IsWhole) (h3 : a3.IsWhole) (h4 : a4.IsWhole) (h5 : a5.IsWhole) (h6 : a6.IsWhole) (h7 : a7.IsWhole) (h8 : a8.IsWhole)
  (h9 : a9.IsWhole) (h10 : a10.IsWhole) (h11 : a11.IsWhole) (h12 : a12.IsWhole)
  (x0 x1 x2 x3 : Vec Ideal S8x256x256 .bf16) (x4 x5 x6 : Vec Ideal S1x256x256 .f32)

/-! What the body stores at a point of each layer: the layer's own received block is the one it sums. -/

theorem outA (hc0 : cond0_0 i) (hc1 : ¬cond0_1 i) (hc2 : ¬cond0_2 i) (hc3 : ¬cond0_3 i) :
    out0_A_7 c i a2 h2 a3 h3 a4 h4 a5 h5 a6 h6 a7 h7 a8 h8 a9 h9 a10 h10 a11 h11 a12 h12 hc0 hc1 hc2 hc3 x0 x1 x2 x3 x4 x5 x6 = k0_pay13 (slotSum x0)
    ∧ out0_A_8 c i a2 h2 a3 h3 a4 h4 a5 h5 a6 h6 a7 h7 a8 h8 a9 h9 a10 h10 a11 h11 a12 h12 hc0 hc1 hc2 hc3 x0 x1 x2 x3 x4 x5 x6 = k0_pay14 (slotSum x0) (k0_pay10 x4) x5 x6
    ∧ out0_A_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x0) x5)
    ∧ out0_A_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x0) x6) := by
  refine ⟨(View.read_writes_eq_canon _ _ _ (fun _ => cover0_A_7 ..)).trans ?_,
    (View.read_writes_eq_canon _ _ _ (fun _ => cover0_A_8 ..)).trans ?_,
    (View.read_writes_eq_canon _ _ _ (fun _ => cover0_A_9 ..)).trans ?_,
    (View.read_writes_eq_canon _ _ _ (fun _ => cover0_A_10 ..)).trans ?_⟩
  all_goals
    unfold kernelRun0_A
    dsimp only
    sl_unfold_words
    rw [View.canon_unit_zero (S := S1x256x256) hz]
    simp only [View.readAt_eq_ld, h2.read_unread, h6.read_unread, h7.read_unread, h8.read_unread, View.ld_unit_zero (S := S1x256x256) hz]
    rfl

theorem outB (hc0 : ¬cond0_0 i) (hc1 : cond0_1 i) (hc2 : ¬cond0_2 i) (hc3 : ¬cond0_3 i) :
    out0_B_7 c i a2 h2 a3 h3 a4 h4 a5 h5 a6 h6 a7 h7 a8 h8 a9 h9 a10 h10 a11 h11 a12 h12 hc0 hc1 hc2 hc3 x0 x1 x2 x3 x4 x5 x6 = k0_pay13 (slotSum x1)
    ∧ out0_B_8 c i a2 h2 a3 h3 a4 h4 a5 h5 a6 h6 a7 h7 a8 h8 a9 h9 a10 h10 a11 h11 a12 h12 hc0 hc1 hc2 hc3 x0 x1 x2 x3 x4 x5 x6 = k0_pay14 (slotSum x1) (k0_pay10 x4) x5 x6
    ∧ out0_B_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x1) x5)
    ∧ out0_B_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x1) x6) := by
  refine ⟨(View.read_writes_eq_canon _ _ _ (fun _ => cover0_B_7 ..)).trans ?_,
    (View.read_writes_eq_canon _ _ _ (fun _ => cover0_B_8 ..)).trans ?_,
    (View.read_writes_eq_canon _ _ _ (fun _ => cover0_B_9 ..)).trans ?_,
    (View.read_writes_eq_canon _ _ _ (fun _ => cover0_B_10 ..)).trans ?_⟩
  all_goals
    unfold kernelRun0_B
    dsimp only
    sl_unfold_words
    rw [View.canon_unit_zero (S := S1x256x256) hz]
    simp only [View.readAt_eq_ld, h3.read_unread, h6.read_unread, h7.read_unread, h8.read_unread, View.ld_unit_zero (S := S1x256x256) hz]
    rfl

theorem outC (hc0 : ¬cond0_0 i) (hc1 : ¬cond0_1 i) (hc2 : cond0_2 i) (hc3 : ¬cond0_3 i) :
    out0_C_7 c i a2 h2 a3 h3 a4 h4 a5 h5 a6 h6 a7 h7 a8 h8 a9 h9 a10 h10 a11 h11 a12 h12 hc0 hc1 hc2 hc3 x0 x1 x2 x3 x4 x5 x6 = k0_pay13 (slotSum x2)
    ∧ out0_C_8 c i a2 h2 a3 h3 a4 h4 a5 h5 a6 h6 a7 h7 a8 h8 a9 h9 a10 h10 a11 h11 a12 h12 hc0 hc1 hc2 hc3 x0 x1 x2 x3 x4 x5 x6 = k0_pay14 (slotSum x2) (k0_pay10 x4) x5 x6
    ∧ out0_C_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x2) x5)
    ∧ out0_C_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x2) x6) := by
  refine ⟨(View.read_writes_eq_canon _ _ _ (fun _ => cover0_C_7 ..)).trans ?_,
    (View.read_writes_eq_canon _ _ _ (fun _ => cover0_C_8 ..)).trans ?_,
    (View.read_writes_eq_canon _ _ _ (fun _ => cover0_C_9 ..)).trans ?_,
    (View.read_writes_eq_canon _ _ _ (fun _ => cover0_C_10 ..)).trans ?_⟩
  all_goals
    unfold kernelRun0_C
    dsimp only
    sl_unfold_words
    rw [View.canon_unit_zero (S := S1x256x256) hz]
    simp only [View.readAt_eq_ld, h4.read_unread, h6.read_unread, h7.read_unread, h8.read_unread, View.ld_unit_zero (S := S1x256x256) hz]
    rfl

theorem outD (hc0 : ¬cond0_0 i) (hc1 : ¬cond0_1 i) (hc2 : ¬cond0_2 i) (hc3 : cond0_3 i) :
    out0_D_7 c i a2 h2 a3 h3 a4 h4 a5 h5 a6 h6 a7 h7 a8 h8 a9 h9 a10 h10 a11 h11 a12 h12 hc0 hc1 hc2 hc3 x0 x1 x2 x3 x4 x5 x6 = k0_pay13 (slotSum x3)
    ∧ out0_D_8 c i a2 h2 a3 h3 a4 h4 a5 h5 a6 h6 a7 h7 a8 h8 a9 h9 a10 h10 a11 h11 a12 h12 hc0 hc1 hc2 hc3 x0 x1 x2 x3 x4 x5 x6 = k0_pay14 (slotSum x3) (k0_pay10 x4) x5 x6
    ∧ out0_D_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x3) x5)
    ∧ out0_D_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x3) x6) := by
  refine ⟨(View.read_writes_eq_canon _ _ _ (fun _ => cover0_D_7 ..)).trans ?_,
    (View.read_writes_eq_canon _ _ _ (fun _ => cover0_D_8 ..)).trans ?_,
    (View.read_writes_eq_canon _ _ _ (fun _ => cover0_D_9 ..)).trans ?_,
    (View.read_writes_eq_canon _ _ _ (fun _ => cover0_D_10 ..)).trans ?_⟩
  all_goals
    unfold kernelRun0_D
    dsimp only
    sl_unfold_words
    rw [View.canon_unit_zero (S := S1x256x256) hz]
    simp only [View.readAt_eq_ld, h5.read_unread, h6.read_unread, h7.read_unread, h8.read_unread, View.ld_unit_zero (S := S1x256x256) hz]
    rfl

end Bodies

variable (m : (ℓ : Loc nD τ sig) → Buf (Elt Ideal) ℓ) (ρ : Dev nD → PrngReg)

/-! ## The arguments and their blocks -/

/-- What the eight devices sent for each layer, and the layers' weights and moments. -/
abbrev recv0 (c : Dev nD) : S8x2816x256.Idx → EReal := m ((c : Thread nD τ).loc main_arg0)
abbrev recv1 (c : Dev nD) : S8x2816x256.Idx → EReal := m ((c : Thread nD τ).loc main_arg1)
abbrev recv2 (c : Dev nD) : S8x2816x256.Idx → EReal := m ((c : Thread nD τ).loc main_arg2)
abbrev recv3 (c : Dev nD) : S8x2816x256.Idx → EReal := m ((c : Thread nD τ).loc main_arg3)
abbrev weight (c : Dev nD) : S4x768x256.Idx → EReal := m ((c : Thread nD τ).loc main_arg4)
abbrev moment1 (c : Dev nD) : S4x768x256.Idx → EReal := m ((c : Thread nD τ).loc main_arg5)
abbrev moment2 (c : Dev nD) : S4x768x256.Idx → EReal := m ((c : Thread nD τ).loc main_arg6)

/-- The gradient of a weight: the sum over the devices of what they sent for its layer. -/
def gradient (x0 x1 x2 x3 : S8x2816x256.Idx → EReal) (i : S4x768x256.Idx) : EReal :=
  rowSum (if (i 0).val = 0 then x0 else if (i 0).val = 1 then x1 else if (i 0).val = 2 then x2 else x3) i
where
  /-- The sum over the devices at a row of their rows. -/
  rowSum (x : S8x2816x256.Idx → EReal) (i : S4x768x256.Idx) : EReal :=
    ∑ s : Fin 8, x (ix3 s ⟨1024 + (i 1).val, by have h : (i 1).val < 768 := (i 1).isLt; omega⟩ (i 2))

/-- The gradient that the devices' arrays on device `c` give. -/
abbrev grad (c : Dev nD) : S4x768x256.Idx → EReal := gradient (recv0 m c) (recv1 m c) (recv2 m c) (recv3 m c)

/-- The grid point that computes an index, and the place of the index in its block. -/
def pt (i : S4x768x256.Idx) : Fin cfg0.N :=
  ⟨(i 0).val * 3 + (i 1).val / 256, by
    rw [show cfg0.N = 12 from N_0]
    have h0 : (i 0).val < 4 := (i 0).isLt
    have h1 : (i 1).val < 768 := (i 1).isLt
    omega⟩
def loc (i : S4x768x256.Idx) : S1x256x256.Idx := ix3 0 ⟨(i 1).val % 256, Nat.mod_lt _ (by decide)⟩ (i 2)

theorem idx_ext {a b c : ℕ} {i j : (⟨3, ![a, b, c]⟩ : Shape).Idx} (h0 : (i 0).val = (j 0).val) (h1 : (i 1).val = (j 1).val)
    (h2 : (i 2).val = (j 2).val) : i = j :=
  funext fun k => Fin.ext (by fin_cases k <;> assumption)

/-- The place of the block of layers and rows that point `t` computes, and of the received block of layer `d`. -/
abbrev Own (t : ℕ) (k : Fin 3 → ℕ) : Prop := k 0 = t / 3 ∧ k 1 = t % 3 ∧ k 2 = 0
abbrev Got (d t : ℕ) (k : Fin 3 → ℕ) : Prop := k 0 = 0 ∧ k 1 = 4 + (if t / 3 = d then t % 3 else 0) ∧ k 2 = 0

/-- Which block of each array a point reads or writes: the layer and the rows it computes. -/
theorem idx0 : ∀ t : Fin cfg0.N, Got 0 t.val (win0_0.index t) :=
  (by decide +kernel : ∀ t : Fin grid0.N, _)
theorem idx1 : ∀ t : Fin cfg0.N, Got 1 t.val (win0_1.index t) :=
  (by decide +kernel : ∀ t : Fin grid0.N, _)
theorem idx2 : ∀ t : Fin cfg0.N, Got 2 t.val (win0_2.index t) :=
  (by decide +kernel : ∀ t : Fin grid0.N, _)
theorem idx3 : ∀ t : Fin cfg0.N, Got 3 t.val (win0_3.index t) :=
  (by decide +kernel : ∀ t : Fin grid0.N, _)
theorem idx4 : ∀ t : Fin cfg0.N, Own t.val (win0_4.index t) :=
  (by decide +kernel : ∀ t : Fin grid0.N, _)
theorem idx5 : ∀ t : Fin cfg0.N, Own t.val (win0_5.index t) :=
  (by decide +kernel : ∀ t : Fin grid0.N, _)
theorem idx6 : ∀ t : Fin cfg0.N, Own t.val (win0_6.index t) :=
  (by decide +kernel : ∀ t : Fin grid0.N, _)
theorem idx7 : ∀ t : Fin cfg0.N, Own t.val (win0_7.index t) :=
  (by decide +kernel : ∀ t : Fin grid0.N, _)
theorem idx8 : ∀ t : Fin cfg0.N, Own t.val (win0_8.index t) :=
  (by decide +kernel : ∀ t : Fin grid0.N, _)
theorem idx9 : ∀ t : Fin cfg0.N, Own t.val (win0_9.index t) :=
  (by decide +kernel : ∀ t : Fin grid0.N, _)
theorem idx10 : ∀ t : Fin cfg0.N, Own t.val (win0_10.index t) :=
  (by decide +kernel : ∀ t : Fin grid0.N, _)

/-- The sum of a received block of rows at the point of `i`, a block whose places in `A` are `f`. -/
theorem sumAt (A : S8x2816x256.Idx → EReal) (f : S8x256x256.Idx → S8x2816x256.Idx) (i : S4x768x256.Idx) {d : ℕ} {k : Fin 3 → ℕ} (h : (i 0).val = d)
    (e : Got d (pt i).val k)
    (hf : ∀ s r l, (f (ix3 s r l) 0).val = k 0 * 8 + 1 * s.val ∧ (f (ix3 s r l) 1).val = k 1 * 256 + 1 * r.val
      ∧ (f (ix3 s r l) 2).val = k 2 * 256 + 1 * l.val) :
    slotSum (fun j => A (f j)) (ix2 ⟨(i 1).val % 256, Nat.mod_lt _ (by decide)⟩ (i 2)) = gradient.rowSum A i := by
  have h1 : (i 1).val < 768 := (i 1).isLt
  have hp : (pt i).val = d * 3 + (i 1).val / 256 := by show (i 0).val * 3 + _ = _; rw [h]
  obtain ⟨e0, e1, e2⟩ := e
  rw [if_pos (by omega)] at e1
  refine (slotSum_apply _ _ _).trans (Finset.sum_congr rfl fun s _ => congrArg A ?_)
  obtain ⟨f0, f1, f2⟩ := hf s ⟨(i 1).val % 256, Nat.mod_lt _ (by decide)⟩ (i 2)
  refine idx_ext (f0.trans ?_) (f1.trans ?_) (f2.trans ?_)
  · show _ = s.val
    rw [e0]; omega
  · show k 1 * 256 + 1 * ((i 1).val % 256) = 1024 + (i 1).val
    rw [e1]; omega
  · show _ = (i 2).val
    rw [e2]; omega

theorem sum0 (c : Dev nD) (i : S4x768x256.Idx) (h : (i 0).val = 0) :
    slotSum (iblk m c 0 (pt i)) (ix2 ⟨(i 1).val % 256, Nat.mod_lt _ (by decide)⟩ (i 2)) = grad m c i :=
  (sumAt (recv0 m c) ((cfg0.win 0).blk (pt i)).view.emb i h (idx0 (pt i)) fun _ _ _ => ⟨rfl, rfl, rfl⟩).trans
    (by unfold grad gradient; simp only [h]; rfl)
theorem sum1 (c : Dev nD) (i : S4x768x256.Idx) (h : (i 0).val = 1) :
    slotSum (iblk m c 1 (pt i)) (ix2 ⟨(i 1).val % 256, Nat.mod_lt _ (by decide)⟩ (i 2)) = grad m c i :=
  (sumAt (recv1 m c) ((cfg0.win 1).blk (pt i)).view.emb i h (idx1 (pt i)) fun _ _ _ => ⟨rfl, rfl, rfl⟩).trans
    (by unfold grad gradient; simp only [h]; rfl)
theorem sum2 (c : Dev nD) (i : S4x768x256.Idx) (h : (i 0).val = 2) :
    slotSum (iblk m c 2 (pt i)) (ix2 ⟨(i 1).val % 256, Nat.mod_lt _ (by decide)⟩ (i 2)) = grad m c i :=
  (sumAt (recv2 m c) ((cfg0.win 2).blk (pt i)).view.emb i h (idx2 (pt i)) fun _ _ _ => ⟨rfl, rfl, rfl⟩).trans
    (by unfold grad gradient; simp only [h]; rfl)
theorem sum3 (c : Dev nD) (i : S4x768x256.Idx) (h : (i 0).val = 3) :
    slotSum (iblk m c 3 (pt i)) (ix2 ⟨(i 1).val % 256, Nat.mod_lt _ (by decide)⟩ (i 2)) = grad m c i :=
  (sumAt (recv3 m c) ((cfg0.win 3).blk (pt i)).view.emb i h (idx3 (pt i)) fun _ _ _ => ⟨rfl, rfl, rfl⟩).trans
    (by unfold grad gradient; simp only [h]; rfl)

/-- The place of an index in its block of layers and rows is the index. -/
theorem place {i j : S4x768x256.Idx} {k : Fin 3 → ℕ} (e : Own (pt i).val k) (h : (j 0).val = k 0 * 1 + 1 * 0
    ∧ (j 1).val = k 1 * 256 + 1 * ((i 1).val % 256) ∧ (j 2).val = k 2 * 256 + 1 * (i 2).val) : j = i := by
  have h0 : (i 0).val < 4 := (i 0).isLt
  have h1 : (i 1).val < 768 := (i 1).isLt
  have hp : (pt i).val = (i 0).val * 3 + (i 1).val / 256 := rfl
  obtain ⟨e0, e1, e2⟩ := e
  obtain ⟨j0, j1, j2⟩ := h
  refine idx_ext ?_ ?_ ?_ <;> omega

theorem emb4 (i : S4x768x256.Idx) : ((cfg0.win 4).blk (pt i)).view.emb (loc i) = i := place (idx4 (pt i)) ⟨rfl, rfl, rfl⟩
theorem emb5 (i : S4x768x256.Idx) : ((cfg0.win 5).blk (pt i)).view.emb (loc i) = i := place (idx5 (pt i)) ⟨rfl, rfl, rfl⟩
theorem emb6 (i : S4x768x256.Idx) : ((cfg0.win 6).blk (pt i)).view.emb (loc i) = i := place (idx6 (pt i)) ⟨rfl, rfl, rfl⟩
theorem emb7 (i : S4x768x256.Idx) : ((cfg0.win 7).blk (pt i)).view.emb (loc i) = i := place (idx7 (pt i)) ⟨rfl, rfl, rfl⟩
theorem emb8 (i : S4x768x256.Idx) : ((cfg0.win 8).blk (pt i)).view.emb (loc i) = i := place (idx8 (pt i)) ⟨rfl, rfl, rfl⟩
theorem emb9 (i : S4x768x256.Idx) : ((cfg0.win 9).blk (pt i)).view.emb (loc i) = i := place (idx9 (pt i)) ⟨rfl, rfl, rfl⟩
theorem emb10 (i : S4x768x256.Idx) : ((cfg0.win 10).blk (pt i)).view.emb (loc i) = i := place (idx10 (pt i)) ⟨rfl, rfl, rfl⟩

/-- What the point of an index leaves there, once its received block's sum is known: the gradient, the weight's change and
    the new moments. -/
structure Left (c : Dev nD) (i : S4x768x256.Idx) (g : EReal) : Prop where
  grad : (dats m 0 c).flushed 7 (pt i) (loc i) = g
  change : (dats m 0 c).flushed 8 (pt i) (loc i) = step (weight m c i) g (moment1 m c i) (moment2 m c i)
  first : (dats m 0 c).flushed 9 (pt i) (loc i) = moment g (moment1 m c i)
  second : (dats m 0 c).flushed 10 (pt i) (loc i) = square g (moment2 m c i)

/-- The body's four stores at an index, for a sum `g` of the received block. -/
theorem stores (c : Dev nD) (i : S4x768x256.Idx) (X : FVec Ideal S256x256 .f32) (g : EReal)
    (h : X (ix2 ⟨(i 1).val % 256, Nat.mod_lt _ (by decide)⟩ (i 2)) = g)
    (h7 : (dats m 0 c).flushed 7 (pt i) = k0_pay13 X)
    (h8 : (dats m 0 c).flushed 8 (pt i) = k0_pay14 X (k0_pay10 (iblk m c 4 (pt i))) (iblk m c 5 (pt i)) (iblk m c 6 (pt i)))
    (h9 : (dats m 0 c).flushed 9 (pt i) = k0_pay1 (k0_pay11 X (iblk m c 5 (pt i))))
    (h10 : (dats m 0 c).flushed 10 (pt i) = k0_pay2 (k0_pay12 X (iblk m c 6 (pt i)))) : Left m c i g := by
  have w4 : iblk m c 4 (pt i) (loc i) = weight m c i := congrArg (weight m c) (emb4 i)
  have w5 : iblk m c 5 (pt i) (loc i) = moment1 m c i := congrArg (moment1 m c) (emb5 i)
  have w6 : iblk m c 6 (pt i) (loc i) = moment2 m c i := congrArg (moment2 m c) (emb6 i)
  refine ⟨(congrFun h7 _).trans ?_, (congrFun h8 _).trans ?_, (congrFun h9 _).trans ?_, (congrFun h10 _).trans ?_⟩
  · exact (pay13_apply X _ _).trans h
  · refine (pay14_apply X _ _ _ _ _).trans ?_
    rw [h]; exact congr (congr (congrArg (fun x => step x g) w4) w5) w6
  · refine (pay1_apply X _ _ _).trans ?_
    rw [h]; exact congrArg (moment g) w5
  · refine (pay2_apply X _ _ _).trans ?_
    rw [h]; exact congrArg (square g) w6

/-- Every index is left as the optimiser's step says. -/
theorem left (c : Dev nD) (i : S4x768x256.Idx) :
    Left m c i (grad m c i) := by
  have h1 : (i 1).val < 768 := (i 1).isLt
  have h0 : (i 0).val = 0 ∨ (i 0).val = 1 ∨ (i 0).val = 2 ∨ (i 0).val = 3 := by have h : (i 0).val < 4 := (i 0).isLt; omega
  have hp : (pt i).val = (i 0).val * 3 + (i 1).val / 256 := rfl
  rcases h0 with h | h | h | h
  · refine stores m c i _ _ (sum0 m c i h) ((Value.flushed7_A m c (pt i) ?_ ?_ ?_ ?_).trans (outA ..).1)
      ((Value.flushed8_A m c (pt i) ?_ ?_ ?_ ?_).trans (outA ..).2.1) ((Value.flushed9_A m c (pt i) ?_ ?_ ?_ ?_).trans (outA ..).2.2.1)
      ((Value.flushed10_A m c (pt i) ?_ ?_ ?_ ?_).trans (outA ..).2.2.2) <;> omega
  · refine stores m c i _ _ (sum1 m c i h) ((Value.flushed7_B m c (pt i) ?_ ?_ ?_ ?_).trans (outB ..).1)
      ((Value.flushed8_B m c (pt i) ?_ ?_ ?_ ?_).trans (outB ..).2.1) ((Value.flushed9_B m c (pt i) ?_ ?_ ?_ ?_).trans (outB ..).2.2.1)
      ((Value.flushed10_B m c (pt i) ?_ ?_ ?_ ?_).trans (outB ..).2.2.2) <;> omega
  · refine stores m c i _ _ (sum2 m c i h) ((Value.flushed7_C m c (pt i) ?_ ?_ ?_ ?_).trans (outC ..).1)
      ((Value.flushed8_C m c (pt i) ?_ ?_ ?_ ?_).trans (outC ..).2.1) ((Value.flushed9_C m c (pt i) ?_ ?_ ?_ ?_).trans (outC ..).2.2.1)
      ((Value.flushed10_C m c (pt i) ?_ ?_ ?_ ?_).trans (outC ..).2.2.2) <;> omega
  · refine stores m c i _ _ (sum3 m c i h) ((Value.flushed7_D m c (pt i) ?_ ?_ ?_ ?_).trans (outD ..).1)
      ((Value.flushed8_D m c (pt i) ?_ ?_ ?_ ?_).trans (outD ..).2.1) ((Value.flushed9_D m c (pt i) ?_ ?_ ?_ ?_).trans (outD ..).2.2.1)
      ((Value.flushed10_D m c (pt i) ?_ ?_ ?_ ?_).trans (outD ..).2.2.2) <;> omega

/-! ## The four arrays after the run -/

theorem final7 (c : Dev nD) : (dats m 0 c).arrAt 7 cfg0.N = grad m c :=
  funext fun i => (congrArg ((dats m 0 c).arrAt 7 cfg0.N) (emb7 i)).symm.trans
    ((congrFun (Value.blocks7 m c (pt i) (flush0_7 (pt i))) (loc i)).trans (left m c i).grad)

theorem final8 (c : Dev nD) : (dats m 0 c).arrAt 8 cfg0.N = fun i => step (weight m c i) (grad m c i) (moment1 m c i) (moment2 m c i) :=
  funext fun i => (congrArg ((dats m 0 c).arrAt 8 cfg0.N) (emb8 i)).symm.trans
    ((congrFun (Value.blocks8 m c (pt i) (flush0_8 (pt i))) (loc i)).trans (left m c i).change)

theorem final9 (c : Dev nD) : (dats m 0 c).arrAt 9 cfg0.N = fun i => moment (grad m c i) (moment1 m c i) :=
  funext fun i => (congrArg ((dats m 0 c).arrAt 9 cfg0.N) (emb9 i)).symm.trans
    ((congrFun (Value.blocks9 m c (pt i) (flush0_9 (pt i))) (loc i)).trans (left m c i).first)

theorem final10 (c : Dev nD) : (dats m 0 c).arrAt 10 cfg0.N = fun i => square (grad m c i) (moment2 m c i) :=
  funext fun i => (congrArg ((dats m 0 c).arrAt 10 cfg0.N) (emb10 i)).symm.trans
    ((congrFun (Value.blocks10 m c (pt i) (flush0_10 (pt i))) (loc i)).trans (left m c i).second)

end Cert.KernelObIdeal.Slots

namespace Cert.ReferenceObIdeal.Slots

open Idealize.ShloMosaic Idealize.ShloMosaic.TcCoe Idealize.SL.Sem
open Cert.ReferenceObIdeal Cert.ReferenceObIdeal.Gen Cert.Optimiser
open Cert.KernelObIdeal.Slots (gradient)
open scoped BigOperators

/-- The reference's sum over the devices of what they sent for one layer. -/
def layerGrad (x : FVec Ideal S8x2816x256 .bf16) : FVec Ideal S768x256 .f32 :=
  Host.reduceAdd (extf .f32 (extractStridedSlice S8x768x256 ![0, 1024, 0] x slices_S8x2816x256_S8x768x256_0_1024_0) bitsLt_bf16_f32) (constant S_ .f32 0x00000000#32) reducesTo_S8x768x256_S768x256_d0 h_S_

theorem layerGrad_apply (x : FVec Ideal S8x2816x256 .bf16) (r : Fin 768) (l : Fin 256) :
    layerGrad x (ix2 r l) = ∑ s : Fin 8, (x (ix3 s ⟨1024 + r.val, by omega⟩ l) : EReal) := by
  unfold layerGrad
  pointwise []
  done

/-- The four layers' sums, stacked. -/
def grads (x0 x1 x2 x3 : FVec Ideal S8x2816x256 .bf16) : FVec Ideal S4x768x256 .f32 :=
  concatenate S4x768x256 0 [⟨S1x768x256, broadcastInDim S1x768x256 ![1, 2] bcast_S768x256_S1x768x256_1_2 (layerGrad x0)⟩,
    ⟨S1x768x256, broadcastInDim S1x768x256 ![1, 2] bcast_S768x256_S1x768x256_1_2 (layerGrad x1)⟩,
    ⟨S1x768x256, broadcastInDim S1x768x256 ![1, 2] bcast_S768x256_S1x768x256_1_2 (layerGrad x2)⟩,
    ⟨S1x768x256, broadcastInDim S1x768x256 ![1, 2] bcast_S768x256_S1x768x256_1_2 (layerGrad x3)⟩] concatenates_S1x768x256_S1x768x256_S1x768x256_S1x768x256_S4x768x256_d0

theorem grads_apply (x0 x1 x2 x3 : FVec Ideal S8x2816x256 .bf16) (i : S4x768x256.Idx) : grads x0 x1 x2 x3 i = gradient x0 x1 x2 x3 i := by
  obtain ⟨d, r, l, rfl⟩ : ∃ (d : Fin 4) (r : Fin 768) (l : Fin 256), i = ix3 d r l := ⟨i 0, i 1, i 2, eq_ix3 i⟩
  unfold grads
  fin_cases d
  · show _ = ∑ s : Fin 8, x0 (ix3 s ⟨1024 + r.val, by omega⟩ l)
    pointwise [layerGrad_apply]
  · show _ = ∑ s : Fin 8, x1 (ix3 s ⟨1024 + r.val, by omega⟩ l)
    pointwise [layerGrad_apply]
  · show _ = ∑ s : Fin 8, x2 (ix3 s ⟨1024 + r.val, by omega⟩ l)
    pointwise [layerGrad_apply]
  · show _ = ∑ s : Fin 8, x3 (ix3 s ⟨1024 + r.val, by omega⟩ l)
    pointwise [layerGrad_apply]

/-- An array of one constant. -/
abbrev all (w : BitVec 32) : FVec Ideal S4x768x256 .f32 := broadcastInDim S4x768x256 ![] bcast_S_S4x768x256 (constant S_ .f32 w)

/-- The reference's AdamW, operation by operation. -/
def newFirst (g m : FVec Ideal S4x768x256 .f32) : FVec Ideal S4x768x256 .f32 :=
  addf (mulf (all 0x3F666666#32) m)
    (mulf (all 0x3DCCCCCD#32) g)
def newSecond (g v : FVec Ideal S4x768x256 .f32) : FVec Ideal S4x768x256 .f32 :=
  addf (mulf (all 0x3F7FBE77#32) v)
    (mulf (all 0x3A83126F#32) (mulf g g))
def change (w g m v : FVec Ideal S4x768x256 .f32) : FVec Ideal S4x768x256 .f32 :=
  mulf (all 0xBA83126F#32)
    (addf (Host.divf (Host.divf (newFirst g m) (all 0x3F26BD02#32))
        (addf (Host.sqrt (Host.divf (newSecond g v) (all 0x3C231ACC#32)))
          (all 0x322BCC77#32)))
      (mulf (all 0x3C23D70A#32) w))

theorem newFirst_apply (g m : FVec Ideal S4x768x256 .f32) (i : S4x768x256.Idx) : newFirst g m i = moment (g i) (m i) := rfl
theorem newSecond_apply (g v : FVec Ideal S4x768x256 .f32) (i : S4x768x256.Idx) : newSecond g v i = square (g i) (v i) := rfl
theorem change_apply (w g m v : FVec Ideal S4x768x256 .f32) (i : S4x768x256.Idx) : change w g m v i = step (w i) (g i) (m i) (v i) := rfl

end Cert.ReferenceObIdeal.Slots

namespace Cert.ObValue

open Idealize.ShloMosaic Idealize.ShloMosaic.TcCoe Idealize.SL.Sem
open Cert.KernelObIdeal.Slots Cert.ReferenceObIdeal.Slots Cert.Optimiser

/-- The optimiser's step on the weight: the kernel's gradient, change and moments are the reference's. -/
theorem algebraic : Cert.algebraic_KernelObIdeal_ReferenceObIdeal (hKernelObIdeal := Cert.KernelObIdeal.Gen.facts)
    (hReferenceObIdeal := Cert.ReferenceObIdeal.Gen.facts) :=
  fun m ρ m' ρ' _ hag => ⟨fun c => grad m c,
    fun c i => step (weight m c i) (grad m c i) (moment1 m c i) (moment2 m c i),
    fun c i => moment (grad m c i) (moment1 m c i),
    fun c i => square (grad m c i) (moment2 m c i),
    (θ_run _ _ _).mono (fun _ h c => by
      obtain ⟨h0, h1, h2, h3, hr⟩ := h c
      exact ⟨h0.trans (final7 m c), h1.trans (final8 m c), h2.trans (final9 m c), h3.trans (final10 m c), hr⟩)
      (Cert.KernelObIdeal.Value.run_blocks m ρ),
    (θ_run _ _ _).mono (fun _ h c => by
      obtain ⟨h0, h1, h2, h3, hr⟩ := h c
      obtain ⟨a0, a1, a2, a3, a4, a5, a6⟩ := hag c
      unfold Cert.ReferenceObIdeal.Value.res_main_v40 at h1
      rw [a0, a1, a2, a3] at h0 h1 h2 h3
      rw [a4, a5, a6] at h1
      rw [a5] at h2
      rw [a6] at h3
      refine ⟨h0.trans (funext fun i => grads_apply _ _ _ _ i), h1.trans (funext fun i => ?_), h2.trans (funext fun i => ?_),
        h3.trans (funext fun i => ?_), hr⟩
      · refine (change_apply _ (grads _ _ _ _) _ _ i).trans ?_; rw [grads_apply]
      · refine (newFirst_apply (grads _ _ _ _) _ i).trans ?_; rw [grads_apply]
      · refine (newSecond_apply (grads _ _ _ _) _ i).trans ?_; rw [grads_apply])
      (Cert.ReferenceObIdeal.Value.run m' ρ')⟩

/-- The reference runs, leaves its arguments as they were, and ends with every counter at zero. -/
theorem reference_frame : Cert.quiescent_ReferenceObIdeal (hReferenceObIdeal := Cert.ReferenceObIdeal.Gen.facts) :=
  fun m ρ _ => (θ_run _ _ _).mono (fun r h => ⟨fun c => (h c).2.2.2.2, sem_eq_zero_of_no_sems (by decide) r.2⟩)
    (Cert.ReferenceObIdeal.Value.run m ρ)

end Cert.ObValue

end
-- ==== Proof.OcValue.lean ====
/-
  The optimiser's step on the weight of the Mamba branch's projection: the sum of the gradients the eight devices sent, and AdamW's
  step with it. What one point stores, what the four arrays hold after the run, and that these are the reference's arrays.
-/
module

public import proofs.«01_k».proof.Defs
public import proofs.«01_k».proof.Proof.Optimiser
public import proofs.«01_k».proof.Proof.Gen.KernelOcIdeal.Value
public import proofs.«01_k».proof.Proof.Gen.ReferenceOcIdeal.Run
public import Idealize.ShloMosaic.Lib.Pipeline.Value
public import Idealize.ShloMosaic.Lib.Pointwise
public import Idealize.ShloMosaic.PureOps.Ideal

@[expose] public section

noncomputable section

namespace Cert.KernelOcIdeal.Slots

open Idealize.ShloMosaic Idealize.ShloMosaic.TcCoe Idealize.SL.Sem
open Cert.KernelOcIdeal Cert.KernelOcIdeal.Gen Cert.Optimiser
open scoped BigOperators

theorem hz : (![0, 0, 0] : Fin 3 → Nat) = fun _ => 0 := funext fun a => by fin_cases a <;> rfl

/-- The gradients the eight devices sent for one block of rows, added as the body adds them. -/
def slotSum (x : Vec Ideal S8x256x256 .bf16) : FVec Ideal S256x256 .f32 :=
  k0_pay9
    (View.ld x (Rect.unit _ _ inb_S8x256x256_S1x256x256_0_0_0))
    (View.ld x (Rect.unit _ _ inb_S8x256x256_S1x256x256_1_0_0))
    (View.ld x (Rect.unit _ _ inb_S8x256x256_S1x256x256_2_0_0))
    (View.ld x (Rect.unit _ _ inb_S8x256x256_S1x256x256_3_0_0))
    (View.ld x (Rect.unit _ _ inb_S8x256x256_S1x256x256_4_0_0))
    (View.ld x (Rect.unit _ _ inb_S8x256x256_S1x256x256_5_0_0))
    (View.ld x (Rect.unit _ _ inb_S8x256x256_S1x256x256_6_0_0))
    (View.ld x (Rect.unit _ _ inb_S8x256x256_S1x256x256_7_0_0))

/-- That sum, at an index. -/
theorem slotSum_apply (x : Vec Ideal S8x256x256 .bf16) (r : Fin 256) (l : Fin 256) :
    slotSum x (ix2 r l) = ∑ s : Fin 8, (x (ix3 s r l) : EReal) := by
  unfold slotSum
  pointwise [k0_pay9]
  exact (Fin.sum_univ_eight fun s => (x (ix3 s r l) : EReal)).symm

/-! What the four outputs' blocks get from the sum, the weight and the moments. -/

theorem pay13_apply (g : FVec Ideal S256x256 .f32) (r : Fin 256) (l : Fin 256) : k0_pay13 g (ix3 0 r l) = g (ix2 r l) := by
  pointwise [k0_pay13]

theorem pay1_apply (g : FVec Ideal S256x256 .f32) (x : Vec Ideal S1x256x256 .f32) (r : Fin 256) (l : Fin 256) :
    k0_pay1 (k0_pay11 g x) (ix3 0 r l) = moment (g (ix2 r l)) (x (ix3 0 r l)) := by
  unfold moment
  pointwise [k0_pay1, k0_pay11]

theorem pay2_apply (g : FVec Ideal S256x256 .f32) (x : Vec Ideal S1x256x256 .f32) (r : Fin 256) (l : Fin 256) :
    k0_pay2 (k0_pay12 g x) (ix3 0 r l) = square (g (ix2 r l)) (x (ix3 0 r l)) := by
  unfold square
  pointwise [k0_pay2, k0_pay12]

theorem pay14_apply (g : FVec Ideal S256x256 .f32) (w m v : Vec Ideal S1x256x256 .f32) (r : Fin 256) (l : Fin 256) :
    k0_pay14 g (k0_pay10 w) m v (ix3 0 r l) = step (w (ix3 0 r l)) (g (ix2 r l)) (m (ix3 0 r l)) (v (ix3 0 r l)) := by
  unfold step moment square
  pointwise [k0_pay14, k0_pay10, k0_pay11, k0_pay12]

section Bodies
variable (c : Dev nD) (i : grid0.Coords)
  (a2 a3 a4 a5 : Memref sig .tc .vmem S8x256x256 .bf16) (a6 a7 a8 a9 a10 a11 a12 : Memref sig .tc .vmem S1x256x256 .f32)
  (h2 : a2.IsWhole) (h3 : a3.IsWhole) (h4 : a4.IsWhole) (h5 : a5.IsWhole) (h6 : a6.IsWhole) (h7 : a7.IsWhole) (h8 : a8.IsWhole)
  (h9 : a9.IsWhole) (h10 : a10.IsWhole) (h11 : a11.IsWhole) (h12 : a12.IsWhole)
  (x0 x1 x2 x3 : Vec Ideal S8x256x256 .bf16) (x4 x5 x6 : Vec Ideal S1x256x256 .f32)

/-! What the body stores at a point of each layer: the layer's own received block is the one it sums. -/

theorem outA (hc0 : cond0_0 i) (hc1 : ¬cond0_1 i) (hc2 : ¬cond0_2 i) (hc3 : ¬cond0_3 i) :
    out0_A_7 c i a2 h2 a3 h3 a4 h4 a5 h5 a6 h6 a7 h7 a8 h8 a9 h9 a10 h10 a11 h11 a12 h12 hc0 hc1 hc2 hc3 x0 x1 x2 x3 x4 x5 x6 = k0_pay13 (slotSum x0)
    ∧ out0_A_8 c i a2 h2 a3 h3 a4 h4 a5 h5 a6 h6 a7 h7 a8 h8 a9 h9 a10 h10 a11 h11 a12 h12 hc0 hc1 hc2 hc3 x0 x1 x2 x3 x4 x5 x6 = k0_pay14 (slotSum x0) (k0_pay10 x4) x5 x6
    ∧ out0_A_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x0) x5)
    ∧ out0_A_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x0) x6) := by
  refine ⟨(View.read_writes_eq_canon _ _ _ (fun _ => cover0_A_7 ..)).trans ?_,
    (View.read_writes_eq_canon _ _ _ (fun _ => cover0_A_8 ..)).trans ?_,
    (View.read_writes_eq_canon _ _ _ (fun _ => cover0_A_9 ..)).trans ?_,
    (View.read_writes_eq_canon _ _ _ (fun _ => cover0_A_10 ..)).trans ?_⟩
  all_goals
    unfold kernelRun0_A
    dsimp only
    sl_unfold_words
    rw [View.canon_unit_zero (S := S1x256x256) hz]
    simp only [View.readAt_eq_ld, h2.read_unread, h6.read_unread, h7.read_unread, h8.read_unread, View.ld_unit_zero (S := S1x256x256) hz]
    rfl

theorem outB (hc0 : ¬cond0_0 i) (hc1 : cond0_1 i) (hc2 : ¬cond0_2 i) (hc3 : ¬cond0_3 i) :
    out0_B_7 c i a2 h2 a3 h3 a4 h4 a5 h5 a6 h6 a7 h7 a8 h8 a9 h9 a10 h10 a11 h11 a12 h12 hc0 hc1 hc2 hc3 x0 x1 x2 x3 x4 x5 x6 = k0_pay13 (slotSum x1)
    ∧ out0_B_8 c i a2 h2 a3 h3 a4 h4 a5 h5 a6 h6 a7 h7 a8 h8 a9 h9 a10 h10 a11 h11 a12 h12 hc0 hc1 hc2 hc3 x0 x1 x2 x3 x4 x5 x6 = k0_pay14 (slotSum x1) (k0_pay10 x4) x5 x6
    ∧ out0_B_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x1) x5)
    ∧ out0_B_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x1) x6) := by
  refine ⟨(View.read_writes_eq_canon _ _ _ (fun _ => cover0_B_7 ..)).trans ?_,
    (View.read_writes_eq_canon _ _ _ (fun _ => cover0_B_8 ..)).trans ?_,
    (View.read_writes_eq_canon _ _ _ (fun _ => cover0_B_9 ..)).trans ?_,
    (View.read_writes_eq_canon _ _ _ (fun _ => cover0_B_10 ..)).trans ?_⟩
  all_goals
    unfold kernelRun0_B
    dsimp only
    sl_unfold_words
    rw [View.canon_unit_zero (S := S1x256x256) hz]
    simp only [View.readAt_eq_ld, h3.read_unread, h6.read_unread, h7.read_unread, h8.read_unread, View.ld_unit_zero (S := S1x256x256) hz]
    rfl

theorem outC (hc0 : ¬cond0_0 i) (hc1 : ¬cond0_1 i) (hc2 : cond0_2 i) (hc3 : ¬cond0_3 i) :
    out0_C_7 c i a2 h2 a3 h3 a4 h4 a5 h5 a6 h6 a7 h7 a8 h8 a9 h9 a10 h10 a11 h11 a12 h12 hc0 hc1 hc2 hc3 x0 x1 x2 x3 x4 x5 x6 = k0_pay13 (slotSum x2)
    ∧ out0_C_8 c i a2 h2 a3 h3 a4 h4 a5 h5 a6 h6 a7 h7 a8 h8 a9 h9 a10 h10 a11 h11 a12 h12 hc0 hc1 hc2 hc3 x0 x1 x2 x3 x4 x5 x6 = k0_pay14 (slotSum x2) (k0_pay10 x4) x5 x6
    ∧ out0_C_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x2) x5)
    ∧ out0_C_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x2) x6) := by
  refine ⟨(View.read_writes_eq_canon _ _ _ (fun _ => cover0_C_7 ..)).trans ?_,
    (View.read_writes_eq_canon _ _ _ (fun _ => cover0_C_8 ..)).trans ?_,
    (View.read_writes_eq_canon _ _ _ (fun _ => cover0_C_9 ..)).trans ?_,
    (View.read_writes_eq_canon _ _ _ (fun _ => cover0_C_10 ..)).trans ?_⟩
  all_goals
    unfold kernelRun0_C
    dsimp only
    sl_unfold_words
    rw [View.canon_unit_zero (S := S1x256x256) hz]
    simp only [View.readAt_eq_ld, h4.read_unread, h6.read_unread, h7.read_unread, h8.read_unread, View.ld_unit_zero (S := S1x256x256) hz]
    rfl

theorem outD (hc0 : ¬cond0_0 i) (hc1 : ¬cond0_1 i) (hc2 : ¬cond0_2 i) (hc3 : cond0_3 i) :
    out0_D_7 c i a2 h2 a3 h3 a4 h4 a5 h5 a6 h6 a7 h7 a8 h8 a9 h9 a10 h10 a11 h11 a12 h12 hc0 hc1 hc2 hc3 x0 x1 x2 x3 x4 x5 x6 = k0_pay13 (slotSum x3)
    ∧ out0_D_8 c i a2 h2 a3 h3 a4 h4 a5 h5 a6 h6 a7 h7 a8 h8 a9 h9 a10 h10 a11 h11 a12 h12 hc0 hc1 hc2 hc3 x0 x1 x2 x3 x4 x5 x6 = k0_pay14 (slotSum x3) (k0_pay10 x4) x5 x6
    ∧ out0_D_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x3) x5)
    ∧ out0_D_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x3) x6) := by
  refine ⟨(View.read_writes_eq_canon _ _ _ (fun _ => cover0_D_7 ..)).trans ?_,
    (View.read_writes_eq_canon _ _ _ (fun _ => cover0_D_8 ..)).trans ?_,
    (View.read_writes_eq_canon _ _ _ (fun _ => cover0_D_9 ..)).trans ?_,
    (View.read_writes_eq_canon _ _ _ (fun _ => cover0_D_10 ..)).trans ?_⟩
  all_goals
    unfold kernelRun0_D
    dsimp only
    sl_unfold_words
    rw [View.canon_unit_zero (S := S1x256x256) hz]
    simp only [View.readAt_eq_ld, h5.read_unread, h6.read_unread, h7.read_unread, h8.read_unread, View.ld_unit_zero (S := S1x256x256) hz]
    rfl

end Bodies

variable (m : (ℓ : Loc nD τ sig) → Buf (Elt Ideal) ℓ) (ρ : Dev nD → PrngReg)

/-! ## The arguments and their blocks -/

/-- What the eight devices sent for each layer, and the layers' weights and moments. -/
abbrev recv0 (c : Dev nD) : S8x2816x256.Idx → EReal := m ((c : Thread nD τ).loc main_arg0)
abbrev recv1 (c : Dev nD) : S8x2816x256.Idx → EReal := m ((c : Thread nD τ).loc main_arg1)
abbrev recv2 (c : Dev nD) : S8x2816x256.Idx → EReal := m ((c : Thread nD τ).loc main_arg2)
abbrev recv3 (c : Dev nD) : S8x2816x256.Idx → EReal := m ((c : Thread nD τ).loc main_arg3)
abbrev weight (c : Dev nD) : S4x1024x256.Idx → EReal := m ((c : Thread nD τ).loc main_arg4)
abbrev moment1 (c : Dev nD) : S4x1024x256.Idx → EReal := m ((c : Thread nD τ).loc main_arg5)
abbrev moment2 (c : Dev nD) : S4x1024x256.Idx → EReal := m ((c : Thread nD τ).loc main_arg6)

/-- The gradient of a weight: the sum over the devices of what they sent for its layer. -/
def gradient (x0 x1 x2 x3 : S8x2816x256.Idx → EReal) (i : S4x1024x256.Idx) : EReal :=
  rowSum (if (i 0).val = 0 then x0 else if (i 0).val = 1 then x1 else if (i 0).val = 2 then x2 else x3) i
where
  /-- The sum over the devices at a row of their rows. -/
  rowSum (x : S8x2816x256.Idx → EReal) (i : S4x1024x256.Idx) : EReal :=
    ∑ s : Fin 8, x (ix3 s ⟨1792 + (i 1).val, by have h : (i 1).val < 1024 := (i 1).isLt; omega⟩ (i 2))

/-- The gradient that the devices' arrays on device `c` give. -/
abbrev grad (c : Dev nD) : S4x1024x256.Idx → EReal := gradient (recv0 m c) (recv1 m c) (recv2 m c) (recv3 m c)

/-- The grid point that computes an index, and the place of the index in its block. -/
def pt (i : S4x1024x256.Idx) : Fin cfg0.N :=
  ⟨(i 0).val * 4 + (i 1).val / 256, by
    rw [show cfg0.N = 16 from N_0]
    have h0 : (i 0).val < 4 := (i 0).isLt
    have h1 : (i 1).val < 1024 := (i 1).isLt
    omega⟩
def loc (i : S4x1024x256.Idx) : S1x256x256.Idx := ix3 0 ⟨(i 1).val % 256, Nat.mod_lt _ (by decide)⟩ (i 2)

theorem idx_ext {a b c : ℕ} {i j : (⟨3, ![a, b, c]⟩ : Shape).Idx} (h0 : (i 0).val = (j 0).val) (h1 : (i 1).val = (j 1).val)
    (h2 : (i 2).val = (j 2).val) : i = j :=
  funext fun k => Fin.ext (by fin_cases k <;> assumption)

/-- The place of the block of layers and rows that point `t` computes, and of the received block of layer `d`. -/
abbrev Own (t : ℕ) (k : Fin 3 → ℕ) : Prop := k 0 = t / 4 ∧ k 1 = t % 4 ∧ k 2 = 0
abbrev Got (d t : ℕ) (k : Fin 3 → ℕ) : Prop := k 0 = 0 ∧ k 1 = 7 + (if t / 4 = d then t % 4 else 0) ∧ k 2 = 0

/-- Which block of each array a point reads or writes: the layer and the rows it computes. -/
theorem idx0 : ∀ t : Fin cfg0.N, Got 0 t.val (win0_0.index t) :=
  (by decide +kernel : ∀ t : Fin grid0.N, _)
theorem idx1 : ∀ t : Fin cfg0.N, Got 1 t.val (win0_1.index t) :=
  (by decide +kernel : ∀ t : Fin grid0.N, _)
theorem idx2 : ∀ t : Fin cfg0.N, Got 2 t.val (win0_2.index t) :=
  (by decide +kernel : ∀ t : Fin grid0.N, _)
theorem idx3 : ∀ t : Fin cfg0.N, Got 3 t.val (win0_3.index t) :=
  (by decide +kernel : ∀ t : Fin grid0.N, _)
theorem idx4 : ∀ t : Fin cfg0.N, Own t.val (win0_4.index t) :=
  (by decide +kernel : ∀ t : Fin grid0.N, _)
theorem idx5 : ∀ t : Fin cfg0.N, Own t.val (win0_5.index t) :=
  (by decide +kernel : ∀ t : Fin grid0.N, _)
theorem idx6 : ∀ t : Fin cfg0.N, Own t.val (win0_6.index t) :=
  (by decide +kernel : ∀ t : Fin grid0.N, _)
theorem idx7 : ∀ t : Fin cfg0.N, Own t.val (win0_7.index t) :=
  (by decide +kernel : ∀ t : Fin grid0.N, _)
theorem idx8 : ∀ t : Fin cfg0.N, Own t.val (win0_8.index t) :=
  (by decide +kernel : ∀ t : Fin grid0.N, _)
theorem idx9 : ∀ t : Fin cfg0.N, Own t.val (win0_9.index t) :=
  (by decide +kernel : ∀ t : Fin grid0.N, _)
theorem idx10 : ∀ t : Fin cfg0.N, Own t.val (win0_10.index t) :=
  (by decide +kernel : ∀ t : Fin grid0.N, _)

/-- The sum of a received block of rows at the point of `i`, a block whose places in `A` are `f`. -/
theorem sumAt (A : S8x2816x256.Idx → EReal) (f : S8x256x256.Idx → S8x2816x256.Idx) (i : S4x1024x256.Idx) {d : ℕ} {k : Fin 3 → ℕ} (h : (i 0).val = d)
    (e : Got d (pt i).val k)
    (hf : ∀ s r l, (f (ix3 s r l) 0).val = k 0 * 8 + 1 * s.val ∧ (f (ix3 s r l) 1).val = k 1 * 256 + 1 * r.val
      ∧ (f (ix3 s r l) 2).val = k 2 * 256 + 1 * l.val) :
    slotSum (fun j => A (f j)) (ix2 ⟨(i 1).val % 256, Nat.mod_lt _ (by decide)⟩ (i 2)) = gradient.rowSum A i := by
  have h1 : (i 1).val < 1024 := (i 1).isLt
  have hp : (pt i).val = d * 4 + (i 1).val / 256 := by show (i 0).val * 4 + _ = _; rw [h]
  obtain ⟨e0, e1, e2⟩ := e
  rw [if_pos (by omega)] at e1
  refine (slotSum_apply _ _ _).trans (Finset.sum_congr rfl fun s _ => congrArg A ?_)
  obtain ⟨f0, f1, f2⟩ := hf s ⟨(i 1).val % 256, Nat.mod_lt _ (by decide)⟩ (i 2)
  refine idx_ext (f0.trans ?_) (f1.trans ?_) (f2.trans ?_)
  · show _ = s.val
    rw [e0]; omega
  · show k 1 * 256 + 1 * ((i 1).val % 256) = 1792 + (i 1).val
    rw [e1]; omega
  · show _ = (i 2).val
    rw [e2]; omega

theorem sum0 (c : Dev nD) (i : S4x1024x256.Idx) (h : (i 0).val = 0) :
    slotSum (iblk m c 0 (pt i)) (ix2 ⟨(i 1).val % 256, Nat.mod_lt _ (by decide)⟩ (i 2)) = grad m c i :=
  (sumAt (recv0 m c) ((cfg0.win 0).blk (pt i)).view.emb i h (idx0 (pt i)) fun _ _ _ => ⟨rfl, rfl, rfl⟩).trans
    (by unfold grad gradient; simp only [h]; rfl)
theorem sum1 (c : Dev nD) (i : S4x1024x256.Idx) (h : (i 0).val = 1) :
    slotSum (iblk m c 1 (pt i)) (ix2 ⟨(i 1).val % 256, Nat.mod_lt _ (by decide)⟩ (i 2)) = grad m c i :=
  (sumAt (recv1 m c) ((cfg0.win 1).blk (pt i)).view.emb i h (idx1 (pt i)) fun _ _ _ => ⟨rfl, rfl, rfl⟩).trans
    (by unfold grad gradient; simp only [h]; rfl)
theorem sum2 (c : Dev nD) (i : S4x1024x256.Idx) (h : (i 0).val = 2) :
    slotSum (iblk m c 2 (pt i)) (ix2 ⟨(i 1).val % 256, Nat.mod_lt _ (by decide)⟩ (i 2)) = grad m c i :=
  (sumAt (recv2 m c) ((cfg0.win 2).blk (pt i)).view.emb i h (idx2 (pt i)) fun _ _ _ => ⟨rfl, rfl, rfl⟩).trans
    (by unfold grad gradient; simp only [h]; rfl)
theorem sum3 (c : Dev nD) (i : S4x1024x256.Idx) (h : (i 0).val = 3) :
    slotSum (iblk m c 3 (pt i)) (ix2 ⟨(i 1).val % 256, Nat.mod_lt _ (by decide)⟩ (i 2)) = grad m c i :=
  (sumAt (recv3 m c) ((cfg0.win 3).blk (pt i)).view.emb i h (idx3 (pt i)) fun _ _ _ => ⟨rfl, rfl, rfl⟩).trans
    (by unfold grad gradient; simp only [h]; rfl)

/-- The place of an index in its block of layers and rows is the index. -/
theorem place {i j : S4x1024x256.Idx} {k : Fin 3 → ℕ} (e : Own (pt i).val k) (h : (j 0).val = k 0 * 1 + 1 * 0
    ∧ (j 1).val = k 1 * 256 + 1 * ((i 1).val % 256) ∧ (j 2).val = k 2 * 256 + 1 * (i 2).val) : j = i := by
  have h0 : (i 0).val < 4 := (i 0).isLt
  have h1 : (i 1).val < 1024 := (i 1).isLt
  have hp : (pt i).val = (i 0).val * 4 + (i 1).val / 256 := rfl
  obtain ⟨e0, e1, e2⟩ := e
  obtain ⟨j0, j1, j2⟩ := h
  refine idx_ext ?_ ?_ ?_ <;> omega

theorem emb4 (i : S4x1024x256.Idx) : ((cfg0.win 4).blk (pt i)).view.emb (loc i) = i := place (idx4 (pt i)) ⟨rfl, rfl, rfl⟩
theorem emb5 (i : S4x1024x256.Idx) : ((cfg0.win 5).blk (pt i)).view.emb (loc i) = i := place (idx5 (pt i)) ⟨rfl, rfl, rfl⟩
theorem emb6 (i : S4x1024x256.Idx) : ((cfg0.win 6).blk (pt i)).view.emb (loc i) = i := place (idx6 (pt i)) ⟨rfl, rfl, rfl⟩
theorem emb7 (i : S4x1024x256.Idx) : ((cfg0.win 7).blk (pt i)).view.emb (loc i) = i := place (idx7 (pt i)) ⟨rfl, rfl, rfl⟩
theorem emb8 (i : S4x1024x256.Idx) : ((cfg0.win 8).blk (pt i)).view.emb (loc i) = i := place (idx8 (pt i)) ⟨rfl, rfl, rfl⟩
theorem emb9 (i : S4x1024x256.Idx) : ((cfg0.win 9).blk (pt i)).view.emb (loc i) = i := place (idx9 (pt i)) ⟨rfl, rfl, rfl⟩
theorem emb10 (i : S4x1024x256.Idx) : ((cfg0.win 10).blk (pt i)).view.emb (loc i) = i := place (idx10 (pt i)) ⟨rfl, rfl, rfl⟩

/-- What the point of an index leaves there, once its received block's sum is known: the gradient, the weight's change and
    the new moments. -/
structure Left (c : Dev nD) (i : S4x1024x256.Idx) (g : EReal) : Prop where
  grad : (dats m 0 c).flushed 7 (pt i) (loc i) = g
  change : (dats m 0 c).flushed 8 (pt i) (loc i) = step (weight m c i) g (moment1 m c i) (moment2 m c i)
  first : (dats m 0 c).flushed 9 (pt i) (loc i) = moment g (moment1 m c i)
  second : (dats m 0 c).flushed 10 (pt i) (loc i) = square g (moment2 m c i)

/-- The body's four stores at an index, for a sum `g` of the received block. -/
theorem stores (c : Dev nD) (i : S4x1024x256.Idx) (X : FVec Ideal S256x256 .f32) (g : EReal)
    (h : X (ix2 ⟨(i 1).val % 256, Nat.mod_lt _ (by decide)⟩ (i 2)) = g)
    (h7 : (dats m 0 c).flushed 7 (pt i) = k0_pay13 X)
    (h8 : (dats m 0 c).flushed 8 (pt i) = k0_pay14 X (k0_pay10 (iblk m c 4 (pt i))) (iblk m c 5 (pt i)) (iblk m c 6 (pt i)))
    (h9 : (dats m 0 c).flushed 9 (pt i) = k0_pay1 (k0_pay11 X (iblk m c 5 (pt i))))
    (h10 : (dats m 0 c).flushed 10 (pt i) = k0_pay2 (k0_pay12 X (iblk m c 6 (pt i)))) : Left m c i g := by
  have w4 : iblk m c 4 (pt i) (loc i) = weight m c i := congrArg (weight m c) (emb4 i)
  have w5 : iblk m c 5 (pt i) (loc i) = moment1 m c i := congrArg (moment1 m c) (emb5 i)
  have w6 : iblk m c 6 (pt i) (loc i) = moment2 m c i := congrArg (moment2 m c) (emb6 i)
  refine ⟨(congrFun h7 _).trans ?_, (congrFun h8 _).trans ?_, (congrFun h9 _).trans ?_, (congrFun h10 _).trans ?_⟩
  · exact (pay13_apply X _ _).trans h
  · refine (pay14_apply X _ _ _ _ _).trans ?_
    rw [h]; exact congr (congr (congrArg (fun x => step x g) w4) w5) w6
  · refine (pay1_apply X _ _ _).trans ?_
    rw [h]; exact congrArg (moment g) w5
  · refine (pay2_apply X _ _ _).trans ?_
    rw [h]; exact congrArg (square g) w6

/-- Every index is left as the optimiser's step says. -/
theorem left (c : Dev nD) (i : S4x1024x256.Idx) :
    Left m c i (grad m c i) := by
  have h1 : (i 1).val < 1024 := (i 1).isLt
  have h0 : (i 0).val = 0 ∨ (i 0).val = 1 ∨ (i 0).val = 2 ∨ (i 0).val = 3 := by have h : (i 0).val < 4 := (i 0).isLt; omega
  have hp : (pt i).val = (i 0).val * 4 + (i 1).val / 256 := rfl
  rcases h0 with h | h | h | h
  · refine stores m c i _ _ (sum0 m c i h) ((Value.flushed7_A m c (pt i) ?_ ?_ ?_ ?_).trans (outA ..).1)
      ((Value.flushed8_A m c (pt i) ?_ ?_ ?_ ?_).trans (outA ..).2.1) ((Value.flushed9_A m c (pt i) ?_ ?_ ?_ ?_).trans (outA ..).2.2.1)
      ((Value.flushed10_A m c (pt i) ?_ ?_ ?_ ?_).trans (outA ..).2.2.2) <;> omega
  · refine stores m c i _ _ (sum1 m c i h) ((Value.flushed7_B m c (pt i) ?_ ?_ ?_ ?_).trans (outB ..).1)
      ((Value.flushed8_B m c (pt i) ?_ ?_ ?_ ?_).trans (outB ..).2.1) ((Value.flushed9_B m c (pt i) ?_ ?_ ?_ ?_).trans (outB ..).2.2.1)
      ((Value.flushed10_B m c (pt i) ?_ ?_ ?_ ?_).trans (outB ..).2.2.2) <;> omega
  · refine stores m c i _ _ (sum2 m c i h) ((Value.flushed7_C m c (pt i) ?_ ?_ ?_ ?_).trans (outC ..).1)
      ((Value.flushed8_C m c (pt i) ?_ ?_ ?_ ?_).trans (outC ..).2.1) ((Value.flushed9_C m c (pt i) ?_ ?_ ?_ ?_).trans (outC ..).2.2.1)
      ((Value.flushed10_C m c (pt i) ?_ ?_ ?_ ?_).trans (outC ..).2.2.2) <;> omega
  · refine stores m c i _ _ (sum3 m c i h) ((Value.flushed7_D m c (pt i) ?_ ?_ ?_ ?_).trans (outD ..).1)
      ((Value.flushed8_D m c (pt i) ?_ ?_ ?_ ?_).trans (outD ..).2.1) ((Value.flushed9_D m c (pt i) ?_ ?_ ?_ ?_).trans (outD ..).2.2.1)
      ((Value.flushed10_D m c (pt i) ?_ ?_ ?_ ?_).trans (outD ..).2.2.2) <;> omega

/-! ## The four arrays after the run -/

theorem final7 (c : Dev nD) : (dats m 0 c).arrAt 7 cfg0.N = grad m c :=
  funext fun i => (congrArg ((dats m 0 c).arrAt 7 cfg0.N) (emb7 i)).symm.trans
    ((congrFun (Value.blocks7 m c (pt i) (flush0_7 (pt i))) (loc i)).trans (left m c i).grad)

theorem final8 (c : Dev nD) : (dats m 0 c).arrAt 8 cfg0.N = fun i => step (weight m c i) (grad m c i) (moment1 m c i) (moment2 m c i) :=
  funext fun i => (congrArg ((dats m 0 c).arrAt 8 cfg0.N) (emb8 i)).symm.trans
    ((congrFun (Value.blocks8 m c (pt i) (flush0_8 (pt i))) (loc i)).trans (left m c i).change)

theorem final9 (c : Dev nD) : (dats m 0 c).arrAt 9 cfg0.N = fun i => moment (grad m c i) (moment1 m c i) :=
  funext fun i => (congrArg ((dats m 0 c).arrAt 9 cfg0.N) (emb9 i)).symm.trans
    ((congrFun (Value.blocks9 m c (pt i) (flush0_9 (pt i))) (loc i)).trans (left m c i).first)

theorem final10 (c : Dev nD) : (dats m 0 c).arrAt 10 cfg0.N = fun i => square (grad m c i) (moment2 m c i) :=
  funext fun i => (congrArg ((dats m 0 c).arrAt 10 cfg0.N) (emb10 i)).symm.trans
    ((congrFun (Value.blocks10 m c (pt i) (flush0_10 (pt i))) (loc i)).trans (left m c i).second)

end Cert.KernelOcIdeal.Slots

namespace Cert.ReferenceOcIdeal.Slots

open Idealize.ShloMosaic Idealize.ShloMosaic.TcCoe Idealize.SL.Sem
open Cert.ReferenceOcIdeal Cert.ReferenceOcIdeal.Gen Cert.Optimiser
open Cert.KernelOcIdeal.Slots (gradient)
open scoped BigOperators

/-- The reference's sum over the devices of what they sent for one layer. -/
def layerGrad (x : FVec Ideal S8x2816x256 .bf16) : FVec Ideal S1024x256 .f32 :=
  Host.reduceAdd (extf .f32 (extractStridedSlice S8x1024x256 ![0, 1792, 0] x slices_S8x2816x256_S8x1024x256_0_1792_0) bitsLt_bf16_f32) (constant S_ .f32 0x00000000#32) reducesTo_S8x1024x256_S1024x256_d0 h_S_

theorem layerGrad_apply (x : FVec Ideal S8x2816x256 .bf16) (r : Fin 1024) (l : Fin 256) :
    layerGrad x (ix2 r l) = ∑ s : Fin 8, (x (ix3 s ⟨1792 + r.val, by omega⟩ l) : EReal) := by
  unfold layerGrad
  pointwise []
  done

/-- The four layers' sums, stacked. -/
def grads (x0 x1 x2 x3 : FVec Ideal S8x2816x256 .bf16) : FVec Ideal S4x1024x256 .f32 :=
  concatenate S4x1024x256 0 [⟨S1x1024x256, broadcastInDim S1x1024x256 ![1, 2] bcast_S1024x256_S1x1024x256_1_2 (layerGrad x0)⟩,
    ⟨S1x1024x256, broadcastInDim S1x1024x256 ![1, 2] bcast_S1024x256_S1x1024x256_1_2 (layerGrad x1)⟩,
    ⟨S1x1024x256, broadcastInDim S1x1024x256 ![1, 2] bcast_S1024x256_S1x1024x256_1_2 (layerGrad x2)⟩,
    ⟨S1x1024x256, broadcastInDim S1x1024x256 ![1, 2] bcast_S1024x256_S1x1024x256_1_2 (layerGrad x3)⟩] concatenates_S1x1024x256_S1x1024x256_S1x1024x256_S1x1024x256_S4x1024x256_d0

theorem grads_apply (x0 x1 x2 x3 : FVec Ideal S8x2816x256 .bf16) (i : S4x1024x256.Idx) : grads x0 x1 x2 x3 i = gradient x0 x1 x2 x3 i := by
  obtain ⟨d, r, l, rfl⟩ : ∃ (d : Fin 4) (r : Fin 1024) (l : Fin 256), i = ix3 d r l := ⟨i 0, i 1, i 2, eq_ix3 i⟩
  unfold grads
  fin_cases d
  · show _ = ∑ s : Fin 8, x0 (ix3 s ⟨1792 + r.val, by omega⟩ l)
    pointwise [layerGrad_apply]
  · show _ = ∑ s : Fin 8, x1 (ix3 s ⟨1792 + r.val, by omega⟩ l)
    pointwise [layerGrad_apply]
  · show _ = ∑ s : Fin 8, x2 (ix3 s ⟨1792 + r.val, by omega⟩ l)
    pointwise [layerGrad_apply]
  · show _ = ∑ s : Fin 8, x3 (ix3 s ⟨1792 + r.val, by omega⟩ l)
    pointwise [layerGrad_apply]

/-- An array of one constant. -/
abbrev all (w : BitVec 32) : FVec Ideal S4x1024x256 .f32 := broadcastInDim S4x1024x256 ![] bcast_S_S4x1024x256 (constant S_ .f32 w)

/-- The reference's AdamW, operation by operation. -/
def newFirst (g m : FVec Ideal S4x1024x256 .f32) : FVec Ideal S4x1024x256 .f32 :=
  addf (mulf (all 0x3F666666#32) m)
    (mulf (all 0x3DCCCCCD#32) g)
def newSecond (g v : FVec Ideal S4x1024x256 .f32) : FVec Ideal S4x1024x256 .f32 :=
  addf (mulf (all 0x3F7FBE77#32) v)
    (mulf (all 0x3A83126F#32) (mulf g g))
def change (w g m v : FVec Ideal S4x1024x256 .f32) : FVec Ideal S4x1024x256 .f32 :=
  mulf (all 0xBA83126F#32)
    (addf (Host.divf (Host.divf (newFirst g m) (all 0x3F26BD02#32))
        (addf (Host.sqrt (Host.divf (newSecond g v) (all 0x3C231ACC#32)))
          (all 0x322BCC77#32)))
      (mulf (all 0x3C23D70A#32) w))

theorem newFirst_apply (g m : FVec Ideal S4x1024x256 .f32) (i : S4x1024x256.Idx) : newFirst g m i = moment (g i) (m i) := rfl
theorem newSecond_apply (g v : FVec Ideal S4x1024x256 .f32) (i : S4x1024x256.Idx) : newSecond g v i = square (g i) (v i) := rfl
theorem change_apply (w g m v : FVec Ideal S4x1024x256 .f32) (i : S4x1024x256.Idx) : change w g m v i = step (w i) (g i) (m i) (v i) := rfl

end Cert.ReferenceOcIdeal.Slots

namespace Cert.OcValue

open Idealize.ShloMosaic Idealize.ShloMosaic.TcCoe Idealize.SL.Sem
open Cert.KernelOcIdeal.Slots Cert.ReferenceOcIdeal.Slots Cert.Optimiser

/-- The optimiser's step on the weight: the kernel's gradient, change and moments are the reference's. -/
theorem algebraic : Cert.algebraic_KernelOcIdeal_ReferenceOcIdeal (hKernelOcIdeal := Cert.KernelOcIdeal.Gen.facts)
    (hReferenceOcIdeal := Cert.ReferenceOcIdeal.Gen.facts) :=
  fun m ρ m' ρ' _ hag => ⟨fun c => grad m c,
    fun c i => step (weight m c i) (grad m c i) (moment1 m c i) (moment2 m c i),
    fun c i => moment (grad m c i) (moment1 m c i),
    fun c i => square (grad m c i) (moment2 m c i),
    (θ_run _ _ _).mono (fun _ h c => by
      obtain ⟨h0, h1, h2, h3, hr⟩ := h c
      exact ⟨h0.trans (final7 m c), h1.trans (final8 m c), h2.trans (final9 m c), h3.trans (final10 m c), hr⟩)
      (Cert.KernelOcIdeal.Value.run_blocks m ρ),
    (θ_run _ _ _).mono (fun _ h c => by
      obtain ⟨h0, h1, h2, h3, hr⟩ := h c
      obtain ⟨a0, a1, a2, a3, a4, a5, a6⟩ := hag c
      unfold Cert.ReferenceOcIdeal.Value.res_main_v40 at h1
      rw [a0, a1, a2, a3] at h0 h1 h2 h3
      rw [a4, a5, a6] at h1
      rw [a5] at h2
      rw [a6] at h3
      refine ⟨h0.trans (funext fun i => grads_apply _ _ _ _ i), h1.trans (funext fun i => ?_), h2.trans (funext fun i => ?_),
        h3.trans (funext fun i => ?_), hr⟩
      · refine (change_apply _ (grads _ _ _ _) _ _ i).trans ?_; rw [grads_apply]
      · refine (newFirst_apply (grads _ _ _ _) _ i).trans ?_; rw [grads_apply]
      · refine (newSecond_apply (grads _ _ _ _) _ i).trans ?_; rw [grads_apply])
      (Cert.ReferenceOcIdeal.Value.run m' ρ')⟩

/-- The reference runs, leaves its arguments as they were, and ends with every counter at zero. -/
theorem reference_frame : Cert.quiescent_ReferenceOcIdeal (hReferenceOcIdeal := Cert.ReferenceOcIdeal.Gen.facts) :=
  fun m ρ _ => (θ_run _ _ _).mono (fun r h => ⟨fun c => (h c).2.2.2.2, sem_eq_zero_of_no_sems (by decide) r.2⟩)
    (Cert.ReferenceOcIdeal.Value.run m ρ)

end Cert.OcValue

end
-- ==== Proof.OoValue.lean ====
/-
  The optimiser's step on the weight of the output projection: the sum of the gradients the eight devices sent, and AdamW's
  step with it. What one point stores, what the four arrays hold after the run, and that these are the reference's arrays.
-/
module

public import proofs.«01_k».proof.Defs
public import proofs.«01_k».proof.Proof.Optimiser
public import proofs.«01_k».proof.Proof.Gen.KernelOoIdeal.Value
public import proofs.«01_k».proof.Proof.Gen.ReferenceOoIdeal.Run
public import Idealize.ShloMosaic.Lib.Pipeline.Value
public import Idealize.ShloMosaic.Lib.Pointwise
public import Idealize.ShloMosaic.PureOps.Ideal

@[expose] public section

noncomputable section

namespace Cert.KernelOoIdeal.Slots

open Idealize.ShloMosaic Idealize.ShloMosaic.TcCoe Idealize.SL.Sem
open Cert.KernelOoIdeal Cert.KernelOoIdeal.Gen Cert.Optimiser
open scoped BigOperators

theorem hz : (![0, 0, 0] : Fin 3 → Nat) = fun _ => 0 := funext fun a => by fin_cases a <;> rfl

/-- The gradients the eight devices sent for one block of rows, added as the body adds them. -/
def slotSum (x : Vec Ideal S8x64x2048 .bf16) : FVec Ideal S64x2048 .f32 :=
  k0_pay9
    (View.ld x (Rect.unit _ _ inb_S8x64x2048_S1x64x2048_0_0_0))
    (View.ld x (Rect.unit _ _ inb_S8x64x2048_S1x64x2048_1_0_0))
    (View.ld x (Rect.unit _ _ inb_S8x64x2048_S1x64x2048_2_0_0))
    (View.ld x (Rect.unit _ _ inb_S8x64x2048_S1x64x2048_3_0_0))
    (View.ld x (Rect.unit _ _ inb_S8x64x2048_S1x64x2048_4_0_0))
    (View.ld x (Rect.unit _ _ inb_S8x64x2048_S1x64x2048_5_0_0))
    (View.ld x (Rect.unit _ _ inb_S8x64x2048_S1x64x2048_6_0_0))
    (View.ld x (Rect.unit _ _ inb_S8x64x2048_S1x64x2048_7_0_0))

/-- That sum, at an index. -/
theorem slotSum_apply (x : Vec Ideal S8x64x2048 .bf16) (r : Fin 64) (l : Fin 2048) :
    slotSum x (ix2 r l) = ∑ s : Fin 8, (x (ix3 s r l) : EReal) := by
  unfold slotSum
  pointwise [k0_pay9]
  exact (Fin.sum_univ_eight fun s => (x (ix3 s r l) : EReal)).symm

/-! What the four outputs' blocks get from the sum, the weight and the moments. -/

theorem pay13_apply (g : FVec Ideal S64x2048 .f32) (r : Fin 64) (l : Fin 2048) : k0_pay13 g (ix3 0 r l) = g (ix2 r l) := by
  pointwise [k0_pay13]

theorem pay1_apply (g : FVec Ideal S64x2048 .f32) (x : Vec Ideal S1x64x2048 .f32) (r : Fin 64) (l : Fin 2048) :
    k0_pay1 (k0_pay11 g x) (ix3 0 r l) = moment (g (ix2 r l)) (x (ix3 0 r l)) := by
  unfold moment
  pointwise [k0_pay1, k0_pay11]

theorem pay2_apply (g : FVec Ideal S64x2048 .f32) (x : Vec Ideal S1x64x2048 .f32) (r : Fin 64) (l : Fin 2048) :
    k0_pay2 (k0_pay12 g x) (ix3 0 r l) = square (g (ix2 r l)) (x (ix3 0 r l)) := by
  unfold square
  pointwise [k0_pay2, k0_pay12]

theorem pay14_apply (g : FVec Ideal S64x2048 .f32) (w m v : Vec Ideal S1x64x2048 .f32) (r : Fin 64) (l : Fin 2048) :
    k0_pay14 g (k0_pay10 w) m v (ix3 0 r l) = step (w (ix3 0 r l)) (g (ix2 r l)) (m (ix3 0 r l)) (v (ix3 0 r l)) := by
  unfold step moment square
  pointwise [k0_pay14, k0_pay10, k0_pay11, k0_pay12]

section Bodies
variable (c : Dev nD) (i : grid0.Coords)
  (a2 a3 a4 a5 : Memref sig .tc .vmem S8x64x2048 .bf16) (a6 a7 a8 a9 a10 a11 a12 : Memref sig .tc .vmem S1x64x2048 .f32)
  (h2 : a2.IsWhole) (h3 : a3.IsWhole) (h4 : a4.IsWhole) (h5 : a5.IsWhole) (h6 : a6.IsWhole) (h7 : a7.IsWhole) (h8 : a8.IsWhole)
  (h9 : a9.IsWhole) (h10 : a10.IsWhole) (h11 : a11.IsWhole) (h12 : a12.IsWhole)
  (x0 x1 x2 x3 : Vec Ideal S8x64x2048 .bf16) (x4 x5 x6 : Vec Ideal S1x64x2048 .f32)

/-! What the body stores at a point of each layer: the layer's own received block is the one it sums. -/

theorem outA (hc0 : cond0_0 i) (hc1 : ¬cond0_1 i) (hc2 : ¬cond0_2 i) (hc3 : ¬cond0_3 i) :
    out0_A_7 c i a2 h2 a3 h3 a4 h4 a5 h5 a6 h6 a7 h7 a8 h8 a9 h9 a10 h10 a11 h11 a12 h12 hc0 hc1 hc2 hc3 x0 x1 x2 x3 x4 x5 x6 = k0_pay13 (slotSum x0)
    ∧ out0_A_8 c i a2 h2 a3 h3 a4 h4 a5 h5 a6 h6 a7 h7 a8 h8 a9 h9 a10 h10 a11 h11 a12 h12 hc0 hc1 hc2 hc3 x0 x1 x2 x3 x4 x5 x6 = k0_pay14 (slotSum x0) (k0_pay10 x4) x5 x6
    ∧ out0_A_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x0) x5)
    ∧ out0_A_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x0) x6) := by
  refine ⟨(View.read_writes_eq_canon _ _ _ (fun _ => cover0_A_7 ..)).trans ?_,
    (View.read_writes_eq_canon _ _ _ (fun _ => cover0_A_8 ..)).trans ?_,
    (View.read_writes_eq_canon _ _ _ (fun _ => cover0_A_9 ..)).trans ?_,
    (View.read_writes_eq_canon _ _ _ (fun _ => cover0_A_10 ..)).trans ?_⟩
  all_goals
    unfold kernelRun0_A
    dsimp only
    sl_unfold_words
    rw [View.canon_unit_zero (S := S1x64x2048) hz]
    simp only [View.readAt_eq_ld, h2.read_unread, h6.read_unread, h7.read_unread, h8.read_unread, View.ld_unit_zero (S := S1x64x2048) hz]
    rfl

theorem outB (hc0 : ¬cond0_0 i) (hc1 : cond0_1 i) (hc2 : ¬cond0_2 i) (hc3 : ¬cond0_3 i) :
    out0_B_7 c i a2 h2 a3 h3 a4 h4 a5 h5 a6 h6 a7 h7 a8 h8 a9 h9 a10 h10 a11 h11 a12 h12 hc0 hc1 hc2 hc3 x0 x1 x2 x3 x4 x5 x6 = k0_pay13 (slotSum x1)
    ∧ out0_B_8 c i a2 h2 a3 h3 a4 h4 a5 h5 a6 h6 a7 h7 a8 h8 a9 h9 a10 h10 a11 h11 a12 h12 hc0 hc1 hc2 hc3 x0 x1 x2 x3 x4 x5 x6 = k0_pay14 (slotSum x1) (k0_pay10 x4) x5 x6
    ∧ out0_B_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x1) x5)
    ∧ out0_B_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x1) x6) := by
  refine ⟨(View.read_writes_eq_canon _ _ _ (fun _ => cover0_B_7 ..)).trans ?_,
    (View.read_writes_eq_canon _ _ _ (fun _ => cover0_B_8 ..)).trans ?_,
    (View.read_writes_eq_canon _ _ _ (fun _ => cover0_B_9 ..)).trans ?_,
    (View.read_writes_eq_canon _ _ _ (fun _ => cover0_B_10 ..)).trans ?_⟩
  all_goals
    unfold kernelRun0_B
    dsimp only
    sl_unfold_words
    rw [View.canon_unit_zero (S := S1x64x2048) hz]
    simp only [View.readAt_eq_ld, h3.read_unread, h6.read_unread, h7.read_unread, h8.read_unread, View.ld_unit_zero (S := S1x64x2048) hz]
    rfl

theorem outC (hc0 : ¬cond0_0 i) (hc1 : ¬cond0_1 i) (hc2 : cond0_2 i) (hc3 : ¬cond0_3 i) :
    out0_C_7 c i a2 h2 a3 h3 a4 h4 a5 h5 a6 h6 a7 h7 a8 h8 a9 h9 a10 h10 a11 h11 a12 h12 hc0 hc1 hc2 hc3 x0 x1 x2 x3 x4 x5 x6 = k0_pay13 (slotSum x2)
    ∧ out0_C_8 c i a2 h2 a3 h3 a4 h4 a5 h5 a6 h6 a7 h7 a8 h8 a9 h9 a10 h10 a11 h11 a12 h12 hc0 hc1 hc2 hc3 x0 x1 x2 x3 x4 x5 x6 = k0_pay14 (slotSum x2) (k0_pay10 x4) x5 x6
    ∧ out0_C_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x2) x5)
    ∧ out0_C_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x2) x6) := by
  refine ⟨(View.read_writes_eq_canon _ _ _ (fun _ => cover0_C_7 ..)).trans ?_,
    (View.read_writes_eq_canon _ _ _ (fun _ => cover0_C_8 ..)).trans ?_,
    (View.read_writes_eq_canon _ _ _ (fun _ => cover0_C_9 ..)).trans ?_,
    (View.read_writes_eq_canon _ _ _ (fun _ => cover0_C_10 ..)).trans ?_⟩
  all_goals
    unfold kernelRun0_C
    dsimp only
    sl_unfold_words
    rw [View.canon_unit_zero (S := S1x64x2048) hz]
    simp only [View.readAt_eq_ld, h4.read_unread, h6.read_unread, h7.read_unread, h8.read_unread, View.ld_unit_zero (S := S1x64x2048) hz]
    rfl

theorem outD (hc0 : ¬cond0_0 i) (hc1 : ¬cond0_1 i) (hc2 : ¬cond0_2 i) (hc3 : cond0_3 i) :
    out0_D_7 c i a2 h2 a3 h3 a4 h4 a5 h5 a6 h6 a7 h7 a8 h8 a9 h9 a10 h10 a11 h11 a12 h12 hc0 hc1 hc2 hc3 x0 x1 x2 x3 x4 x5 x6 = k0_pay13 (slotSum x3)
    ∧ out0_D_8 c i a2 h2 a3 h3 a4 h4 a5 h5 a6 h6 a7 h7 a8 h8 a9 h9 a10 h10 a11 h11 a12 h12 hc0 hc1 hc2 hc3 x0 x1 x2 x3 x4 x5 x6 = k0_pay14 (slotSum x3) (k0_pay10 x4) x5 x6
    ∧ out0_D_9 c i a2 h2 a3 h3 a4 h4 a5 h5 a6 h6 a7 h7 a8 h8 a9 h9 a10 h10 a11 h11 a12 h12 hc0 hc1 hc2 hc3 x0 x1 x2 x3 x4 x5 x6 = k0_pay1 (k0_pay11 (slotSum x3) x5)
    ∧ out0_D_10 c i a2 h2 a3 h3 a4 h4 a5 h5 a6 h6 a7 h7 a8 h8 a9 h9 a10 h10 a11 h11 a12 h12 hc0 hc1 hc2 hc3 x0 x1 x2 x3 x4 x5 x6 = k0_pay2 (k0_pay12 (slotSum x3) x6) := by
  refine ⟨(View.read_writes_eq_canon _ _ _ (fun _ => cover0_D_7 ..)).trans ?_,
    (View.read_writes_eq_canon _ _ _ (fun _ => cover0_D_8 ..)).trans ?_,
    (View.read_writes_eq_canon _ _ _ (fun _ => cover0_D_9 ..)).trans ?_,
    (View.read_writes_eq_canon _ _ _ (fun _ => cover0_D_10 ..)).trans ?_⟩
  all_goals
    unfold kernelRun0_D
    dsimp only
    sl_unfold_words
    rw [View.canon_unit_zero (S := S1x64x2048) hz]
    simp only [View.readAt_eq_ld, h5.read_unread, h6.read_unread, h7.read_unread, h8.read_unread, View.ld_unit_zero (S := S1x64x2048) hz]
    rfl

end Bodies

variable (m : (ℓ : Loc nD τ sig) → Buf (Elt Ideal) ℓ) (ρ : Dev nD → PrngReg)

/-! ## The arguments and their blocks -/

/-- What the eight devices sent for each layer, and the layers' weights and moments. -/
abbrev recv0 (c : Dev nD) : S8x256x2048.Idx → EReal := m ((c : Thread nD τ).loc main_arg0)
abbrev recv1 (c : Dev nD) : S8x256x2048.Idx → EReal := m ((c : Thread nD τ).loc main_arg1)
abbrev recv2 (c : Dev nD) : S8x256x2048.Idx → EReal := m ((c : Thread nD τ).loc main_arg2)
abbrev recv3 (c : Dev nD) : S8x256x2048.Idx → EReal := m ((c : Thread nD τ).loc main_arg3)
abbrev weight (c : Dev nD) : S4x256x2048.Idx → EReal := m ((c : Thread nD τ).loc main_arg4)
abbrev moment1 (c : Dev nD) : S4x256x2048.Idx → EReal := m ((c : Thread nD τ).loc main_arg5)
abbrev moment2 (c : Dev nD) : S4x256x2048.Idx → EReal := m ((c : Thread nD τ).loc main_arg6)

/-- The gradient of a weight: the sum over the devices of what they sent for its layer. -/
def gradient (x0 x1 x2 x3 : S8x256x2048.Idx → EReal) (i : S4x256x2048.Idx) : EReal :=
  rowSum (if (i 0).val = 0 then x0 else if (i 0).val = 1 then x1 else if (i 0).val = 2 then x2 else x3) i
where
  /-- The sum over the devices at a row of their rows. -/
  rowSum (x : S8x256x2048.Idx → EReal) (i : S4x256x2048.Idx) : EReal :=
    ∑ s : Fin 8, x (ix3 s ⟨0 + (i 1).val, by have h : (i 1).val < 256 := (i 1).isLt; omega⟩ (i 2))

/-- The gradient that the devices' arrays on device `c` give. -/
abbrev grad (c : Dev nD) : S4x256x2048.Idx → EReal := gradient (recv0 m c) (recv1 m c) (recv2 m c) (recv3 m c)

/-- The grid point that computes an index, and the place of the index in its block. -/
def pt (i : S4x256x2048.Idx) : Fin cfg0.N :=
  ⟨(i 0).val * 4 + (i 1).val / 64, by
    rw [show cfg0.N = 16 from N_0]
    have h0 : (i 0).val < 4 := (i 0).isLt
    have h1 : (i 1).val < 256 := (i 1).isLt
    omega⟩
def loc (i : S4x256x2048.Idx) : S1x64x2048.Idx := ix3 0 ⟨(i 1).val % 64, Nat.mod_lt _ (by decide)⟩ (i 2)

theorem idx_ext {a b c : ℕ} {i j : (⟨3, ![a, b, c]⟩ : Shape).Idx} (h0 : (i 0).val = (j 0).val) (h1 : (i 1).val = (j 1).val)
    (h2 : (i 2).val = (j 2).val) : i = j :=
  funext fun k => Fin.ext (by fin_cases k <;> assumption)

/-- The place of the block of layers and rows that point `t` computes, and of the received block of layer `d`. -/
abbrev Own (t : ℕ) (k : Fin 3 → ℕ) : Prop := k 0 = t / 4 ∧ k 1 = t % 4 ∧ k 2 = 0
abbrev Got (d t : ℕ) (k : Fin 3 → ℕ) : Prop := k 0 = 0 ∧ k 1 = 0 + (if t / 4 = d then t % 4 else 0) ∧ k 2 = 0

/-- Which block of each array a point reads or writes: the layer and the rows it computes. -/
theorem idx0 : ∀ t : Fin cfg0.N, Got 0 t.val (win0_0.index t) :=
  (by decide +kernel : ∀ t : Fin grid0.N, _)
theorem idx1 : ∀ t : Fin cfg0.N, Got 1 t.val (win0_1.index t) :=
  (by decide +kernel : ∀ t : Fin grid0.N, _)
theorem idx2 : ∀ t : Fin cfg0.N, Got 2 t.val (win0_2.index t) :=
  (by decide +kernel : ∀ t : Fin grid0.N, _)
theorem idx3 : ∀ t : Fin cfg0.N, Got 3 t.val (win0_3.index t) :=
  (by decide +kernel : ∀ t : Fin grid0.N, _)
theorem idx4 : ∀ t : Fin cfg0.N, Own t.val (win0_4.index t) :=
  (by decide +kernel : ∀ t : Fin grid0.N, _)
theorem idx5 : ∀ t : Fin cfg0.N, Own t.val (win0_5.index t) :=
  (by decide +kernel : ∀ t : Fin grid0.N, _)
theorem idx6 : ∀ t : Fin cfg0.N, Own t.val (win0_6.index t) :=
  (by decide +kernel : ∀ t : Fin grid0.N, _)
theorem idx7 : ∀ t : Fin cfg0.N, Own t.val (win0_7.index t) :=
  (by decide +kernel : ∀ t : Fin grid0.N, _)
theorem idx8 : ∀ t : Fin cfg0.N, Own t.val (win0_8.index t) :=
  (by decide +kernel : ∀ t : Fin grid0.N, _)
theorem idx9 : ∀ t : Fin cfg0.N, Own t.val (win0_9.index t) :=
  (by decide +kernel : ∀ t : Fin grid0.N, _)
theorem idx10 : ∀ t : Fin cfg0.N, Own t.val (win0_10.index t) :=
  (by decide +kernel : ∀ t : Fin grid0.N, _)

/-- The sum of a received block of rows at the point of `i`, a block whose places in `A` are `f`. -/
theorem sumAt (A : S8x256x2048.Idx → EReal) (f : S8x64x2048.Idx → S8x256x2048.Idx) (i : S4x256x2048.Idx) {d : ℕ} {k : Fin 3 → ℕ} (h : (i 0).val = d)
    (e : Got d (pt i).val k)
    (hf : ∀ s r l, (f (ix3 s r l) 0).val = k 0 * 8 + 1 * s.val ∧ (f (ix3 s r l) 1).val = k 1 * 64 + 1 * r.val
      ∧ (f (ix3 s r l) 2).val = k 2 * 2048 + 1 * l.val) :
    slotSum (fun j => A (f j)) (ix2 ⟨(i 1).val % 64, Nat.mod_lt _ (by decide)⟩ (i 2)) = gradient.rowSum A i := by
  have h1 : (i 1).val < 256 := (i 1).isLt
  have hp : (pt i).val = d * 4 + (i 1).val / 64 := by show (i 0).val * 4 + _ = _; rw [h]
  obtain ⟨e0, e1, e2⟩ := e
  rw [if_pos (by omega)] at e1
  refine (slotSum_apply _ _ _).trans (Finset.sum_congr rfl fun s _ => congrArg A ?_)
  obtain ⟨f0, f1, f2⟩ := hf s ⟨(i 1).val % 64, Nat.mod_lt _ (by decide)⟩ (i 2)
  refine idx_ext (f0.trans ?_) (f1.trans ?_) (f2.trans ?_)
  · show _ = s.val
    rw [e0]; omega
  · show k 1 * 64 + 1 * ((i 1).val % 64) = 0 + (i 1).val
    rw [e1]; omega
  · show _ = (i 2).val
    rw [e2]; omega

theorem sum0 (c : Dev nD) (i : S4x256x2048.Idx) (h : (i 0).val = 0) :
    slotSum (iblk m c 0 (pt i)) (ix2 ⟨(i 1).val % 64, Nat.mod_lt _ (by decide)⟩ (i 2)) = grad m c i :=
  (sumAt (recv0 m c) ((cfg0.win 0).blk (pt i)).view.emb i h (idx0 (pt i)) fun _ _ _ => ⟨rfl, rfl, rfl⟩).trans
    (by unfold grad gradient; simp only [h]; rfl)
theorem sum1 (c : Dev nD) (i : S4x256x2048.Idx) (h : (i 0).val = 1) :
    slotSum (iblk m c 1 (pt i)) (ix2 ⟨(i 1).val % 64, Nat.mod_lt _ (by decide)⟩ (i 2)) = grad m c i :=
  (sumAt (recv1 m c) ((cfg0.win 1).blk (pt i)).view.emb i h (idx1 (pt i)) fun _ _ _ => ⟨rfl, rfl, rfl⟩).trans
    (by unfold grad gradient; simp only [h]; rfl)
theorem sum2 (c : Dev nD) (i : S4x256x2048.Idx) (h : (i 0).val = 2) :
    slotSum (iblk m c 2 (pt i)) (ix2 ⟨(i 1).val % 64, Nat.mod_lt _ (by decide)⟩ (i 2)) = grad m c i :=
  (sumAt (recv2 m c) ((cfg0.win 2).blk (pt i)).view.emb i h (idx2 (pt i)) fun _ _ _ => ⟨rfl, rfl, rfl⟩).trans
    (by unfold grad gradient; simp only [h]; rfl)
theorem sum3 (c : Dev nD) (i : S4x256x2048.Idx) (h : (i 0).val = 3) :
    slotSum (iblk m c 3 (pt i)) (ix2 ⟨(i 1).val % 64, Nat.mod_lt _ (by decide)⟩ (i 2)) = grad m c i :=
  (sumAt (recv3 m c) ((cfg0.win 3).blk (pt i)).view.emb i h (idx3 (pt i)) fun _ _ _ => ⟨rfl, rfl, rfl⟩).trans
    (by unfold grad gradient; simp only [h]; rfl)

/-- The place of an index in its block of layers and rows is the index. -/
theorem place {i j : S4x256x2048.Idx} {k : Fin 3 → ℕ} (e : Own (pt i).val k) (h : (j 0).val = k 0 * 1 + 1 * 0
    ∧ (j 1).val = k 1 * 64 + 1 * ((i 1).val % 64) ∧ (j 2).val = k 2 * 2048 + 1 * (i 2).val) : j = i := by
  have h0 : (i 0).val < 4 := (i 0).isLt
  have h1 : (i 1).val < 256 := (i 1).isLt
  have hp : (pt i).val = (i 0).val * 4 + (i 1).val / 64 := rfl
  obtain ⟨e0, e1, e2⟩ := e
  obtain ⟨j0, j1, j2⟩ := h
  refine idx_ext ?_ ?_ ?_ <;> omega

theorem emb4 (i : S4x256x2048.Idx) : ((cfg0.win 4).blk (pt i)).view.emb (loc i) = i := place (idx4 (pt i)) ⟨rfl, rfl, rfl⟩
theorem emb5 (i : S4x256x2048.Idx) : ((cfg0.win 5).blk (pt i)).view.emb (loc i) = i := place (idx5 (pt i)) ⟨rfl, rfl, rfl⟩
theorem emb6 (i : S4x256x2048.Idx) : ((cfg0.win 6).blk (pt i)).view.emb (loc i) = i := place (idx6 (pt i)) ⟨rfl, rfl, rfl⟩
theorem emb7 (i : S4x256x2048.Idx) : ((cfg0.win 7).blk (pt i)).view.emb (loc i) = i := place (idx7 (pt i)) ⟨rfl, rfl, rfl⟩
theorem emb8 (i : S4x256x2048.Idx) : ((cfg0.win 8).blk (pt i)).view.emb (loc i) = i := place (idx8 (pt i)) ⟨rfl, rfl, rfl⟩
theorem emb9 (i : S4x256x2048.Idx) : ((cfg0.win 9).blk (pt i)).view.emb (loc i) = i := place (idx9 (pt i)) ⟨rfl, rfl, rfl⟩
theorem emb10 (i : S4x256x2048.Idx) : ((cfg0.win 10).blk (pt i)).view.emb (loc i) = i := place (idx10 (pt i)) ⟨rfl, rfl, rfl⟩

/-- What the point of an index leaves there, once its received block's sum is known: the gradient, the weight's change and
    the new moments. -/
structure Left (c : Dev nD) (i : S4x256x2048.Idx) (g : EReal) : Prop where
  grad : (dats m 0 c).flushed 7 (pt i) (loc i) = g
  change : (dats m 0 c).flushed 8 (pt i) (loc i) = step (weight m c i) g (moment1 m c i) (moment2 m c i)
  first : (dats m 0 c).flushed 9 (pt i) (loc i) = moment g (moment1 m c i)
  second : (dats m 0 c).flushed 10 (pt i) (loc i) = square g (moment2 m c i)

/-- The body's four stores at an index, for a sum `g` of the received block. -/
theorem stores (c : Dev nD) (i : S4x256x2048.Idx) (X : FVec Ideal S64x2048 .f32) (g : EReal)
    (h : X (ix2 ⟨(i 1).val % 64, Nat.mod_lt _ (by decide)⟩ (i 2)) = g)
    (h7 : (dats m 0 c).flushed 7 (pt i) = k0_pay13 X)
    (h8 : (dats m 0 c).flushed 8 (pt i) = k0_pay14 X (k0_pay10 (iblk m c 4 (pt i))) (iblk m c 5 (pt i)) (iblk m c 6 (pt i)))
    (h9 : (dats m 0 c).flushed 9 (pt i) = k0_pay1 (k0_pay11 X (iblk m c 5 (pt i))))
    (h10 : (dats m 0 c).flushed 10 (pt i) = k0_pay2 (k0_pay12 X (iblk m c 6 (pt i)))) : Left m c i g := by
  have w4 : iblk m c 4 (pt i) (loc i) = weight m c i := congrArg (weight m c) (emb4 i)
  have w5 : iblk m c 5 (pt i) (loc i) = moment1 m c i := congrArg (moment1 m c) (emb5 i)
  have w6 : iblk m c 6 (pt i) (loc i) = moment2 m c i := congrArg (moment2 m c) (emb6 i)
  refine ⟨(congrFun h7 _).trans ?_, (congrFun h8 _).trans ?_, (congrFun h9 _).trans ?_, (congrFun h10 _).trans ?_⟩
  · exact (pay13_apply X _ _).trans h
  · refine (pay14_apply X _ _ _ _ _).trans ?_
    rw [h]; exact congr (congr (congrArg (fun x => step x g) w4) w5) w6
  · refine (pay1_apply X _ _ _).trans ?_
    rw [h]; exact congrArg (moment g) w5
  · refine (pay2_apply X _ _ _).trans ?_
    rw [h]; exact congrArg (square g) w6

/-- Every index is left as the optimiser's step says. -/
theorem left (c : Dev nD) (i : S4x256x2048.Idx) :
    Left m c i (grad m c i) := by
  have h1 : (i 1).val < 256 := (i 1).isLt
  have h0 : (i 0).val = 0 ∨ (i 0).val = 1 ∨ (i 0).val = 2 ∨ (i 0).val = 3 := by have h : (i 0).val < 4 := (i 0).isLt; omega
  have hp : (pt i).val = (i 0).val * 4 + (i 1).val / 64 := rfl
  rcases h0 with h | h | h | h
  · refine stores m c i _ _ (sum0 m c i h) ((Value.flushed7_A m c (pt i) ?_ ?_ ?_ ?_).trans (outA ..).1)
      ((Value.flushed8_A m c (pt i) ?_ ?_ ?_ ?_).trans (outA ..).2.1) ((Value.flushed9_A m c (pt i) ?_ ?_ ?_ ?_).trans (outA ..).2.2.1)
      ((Value.flushed10_A m c (pt i) ?_ ?_ ?_ ?_).trans (outA ..).2.2.2) <;> omega
  · refine stores m c i _ _ (sum1 m c i h) ((Value.flushed7_B m c (pt i) ?_ ?_ ?_ ?_).trans (outB ..).1)
      ((Value.flushed8_B m c (pt i) ?_ ?_ ?_ ?_).trans (outB ..).2.1) ((Value.flushed9_B m c (pt i) ?_ ?_ ?_ ?_).trans (outB ..).2.2.1)
      ((Value.flushed10_B m c (pt i) ?_ ?_ ?_ ?_).trans (outB ..).2.2.2) <;> omega
  · refine stores m c i _ _ (sum2 m c i h) ((Value.flushed7_C m c (pt i) ?_ ?_ ?_ ?_).trans (outC ..).1)
      ((Value.flushed8_C m c (pt i) ?_ ?_ ?_ ?_).trans (outC ..).2.1) ((Value.flushed9_C m c (pt i) ?_ ?_ ?_ ?_).trans (outC ..).2.2.1)
      ((Value.flushed10_C m c (pt i) ?_ ?_ ?_ ?_).trans (outC ..).2.2.2) <;> omega
  · refine stores m c i _ _ (sum3 m c i h) ((Value.flushed7_D m c (pt i) ?_ ?_ ?_ ?_).trans (outD ..).1)
      ((Value.flushed8_D m c (pt i) ?_ ?_ ?_ ?_).trans (outD ..).2.1) ((Value.flushed9_D m c (pt i) ?_ ?_ ?_ ?_).trans (outD ..).2.2.1)
      ((Value.flushed10_D m c (pt i) ?_ ?_ ?_ ?_).trans (outD ..).2.2.2) <;> omega

/-! ## The four arrays after the run -/

theorem final7 (c : Dev nD) : (dats m 0 c).arrAt 7 cfg0.N = grad m c :=
  funext fun i => (congrArg ((dats m 0 c).arrAt 7 cfg0.N) (emb7 i)).symm.trans
    ((congrFun (Value.blocks7 m c (pt i) (flush0_7 (pt i))) (loc i)).trans (left m c i).grad)

theorem final8 (c : Dev nD) : (dats m 0 c).arrAt 8 cfg0.N = fun i => step (weight m c i) (grad m c i) (moment1 m c i) (moment2 m c i) :=
  funext fun i => (congrArg ((dats m 0 c).arrAt 8 cfg0.N) (emb8 i)).symm.trans
    ((congrFun (Value.blocks8 m c (pt i) (flush0_8 (pt i))) (loc i)).trans (left m c i).change)

theorem final9 (c : Dev nD) : (dats m 0 c).arrAt 9 cfg0.N = fun i => moment (grad m c i) (moment1 m c i) :=
  funext fun i => (congrArg ((dats m 0 c).arrAt 9 cfg0.N) (emb9 i)).symm.trans
    ((congrFun (Value.blocks9 m c (pt i) (flush0_9 (pt i))) (loc i)).trans (left m c i).first)

theorem final10 (c : Dev nD) : (dats m 0 c).arrAt 10 cfg0.N = fun i => square (grad m c i) (moment2 m c i) :=
  funext fun i => (congrArg ((dats m 0 c).arrAt 10 cfg0.N) (emb10 i)).symm.trans
    ((congrFun (Value.blocks10 m c (pt i) (flush0_10 (pt i))) (loc i)).trans (left m c i).second)

end Cert.KernelOoIdeal.Slots

namespace Cert.ReferenceOoIdeal.Slots

open Idealize.ShloMosaic Idealize.ShloMosaic.TcCoe Idealize.SL.Sem
open Cert.ReferenceOoIdeal Cert.ReferenceOoIdeal.Gen Cert.Optimiser
open Cert.KernelOoIdeal.Slots (gradient)
open scoped BigOperators

/-- The reference's sum over the devices of what they sent for one layer. -/
def layerGrad (x : FVec Ideal S8x256x2048 .bf16) : FVec Ideal S256x2048 .f32 :=
  Host.reduceAdd (extf .f32 x bitsLt_bf16_f32) (constant S_ .f32 0x00000000#32) reducesTo_S8x256x2048_S256x2048_d0 h_S_

theorem layerGrad_apply (x : FVec Ideal S8x256x2048 .bf16) (r : Fin 256) (l : Fin 2048) :
    layerGrad x (ix2 r l) = ∑ s : Fin 8, (x (ix3 s ⟨0 + r.val, by omega⟩ l) : EReal) := by
  unfold layerGrad
  pointwise []
  done

/-- The four layers' sums, stacked. -/
def grads (x0 x1 x2 x3 : FVec Ideal S8x256x2048 .bf16) : FVec Ideal S4x256x2048 .f32 :=
  concatenate S4x256x2048 0 [⟨S1x256x2048, broadcastInDim S1x256x2048 ![1, 2] bcast_S256x2048_S1x256x2048_1_2 (layerGrad x0)⟩,
    ⟨S1x256x2048, broadcastInDim S1x256x2048 ![1, 2] bcast_S256x2048_S1x256x2048_1_2 (layerGrad x1)⟩,
    ⟨S1x256x2048, broadcastInDim S1x256x2048 ![1, 2] bcast_S256x2048_S1x256x2048_1_2 (layerGrad x2)⟩,
    ⟨S1x256x2048, broadcastInDim S1x256x2048 ![1, 2] bcast_S256x2048_S1x256x2048_1_2 (layerGrad x3)⟩] concatenates_S1x256x2048_S1x256x2048_S1x256x2048_S1x256x2048_S4x256x2048_d0

theorem grads_apply (x0 x1 x2 x3 : FVec Ideal S8x256x2048 .bf16) (i : S4x256x2048.Idx) : grads x0 x1 x2 x3 i = gradient x0 x1 x2 x3 i := by
  obtain ⟨d, r, l, rfl⟩ : ∃ (d : Fin 4) (r : Fin 256) (l : Fin 2048), i = ix3 d r l := ⟨i 0, i 1, i 2, eq_ix3 i⟩
  unfold grads
  fin_cases d
  · show _ = ∑ s : Fin 8, x0 (ix3 s ⟨0 + r.val, by omega⟩ l)
    pointwise [layerGrad_apply]
  · show _ = ∑ s : Fin 8, x1 (ix3 s ⟨0 + r.val, by omega⟩ l)
    pointwise [layerGrad_apply]
  · show _ = ∑ s : Fin 8, x2 (ix3 s ⟨0 + r.val, by omega⟩ l)
    pointwise [layerGrad_apply]
  · show _ = ∑ s : Fin 8, x3 (ix3 s ⟨0 + r.val, by omega⟩ l)
    pointwise [layerGrad_apply]

/-- An array of one constant. -/
abbrev all (w : BitVec 32) : FVec Ideal S4x256x2048 .f32 := broadcastInDim S4x256x2048 ![] bcast_S_S4x256x2048 (constant S_ .f32 w)

/-- The reference's AdamW, operation by operation. -/
def newFirst (g m : FVec Ideal S4x256x2048 .f32) : FVec Ideal S4x256x2048 .f32 :=
  addf (mulf (all 0x3F666666#32) m)
    (mulf (all 0x3DCCCCCD#32) g)
def newSecond (g v : FVec Ideal S4x256x2048 .f32) : FVec Ideal S4x256x2048 .f32 :=
  addf (mulf (all 0x3F7FBE77#32) v)
    (mulf (all 0x3A83126F#32) (mulf g g))
def change (w g m v : FVec Ideal S4x256x2048 .f32) : FVec Ideal S4x256x2048 .f32 :=
  mulf (all 0xBA83126F#32)
    (addf (Host.divf (Host.divf (newFirst g m) (all 0x3F26BD02#32))
        (addf (Host.sqrt (Host.divf (newSecond g v) (all 0x3C231ACC#32)))
          (all 0x322BCC77#32)))
      (mulf (all 0x3C23D70A#32) w))

theorem newFirst_apply (g m : FVec Ideal S4x256x2048 .f32) (i : S4x256x2048.Idx) : newFirst g m i = moment (g i) (m i) := rfl
theorem newSecond_apply (g v : FVec Ideal S4x256x2048 .f32) (i : S4x256x2048.Idx) : newSecond g v i = square (g i) (v i) := rfl
theorem change_apply (w g m v : FVec Ideal S4x256x2048 .f32) (i : S4x256x2048.Idx) : change w g m v i = step (w i) (g i) (m i) (v i) := rfl

end Cert.ReferenceOoIdeal.Slots

namespace Cert.OoValue

open Idealize.ShloMosaic Idealize.ShloMosaic.TcCoe Idealize.SL.Sem
open Cert.KernelOoIdeal.Slots Cert.ReferenceOoIdeal.Slots Cert.Optimiser

/-- The optimiser's step on the weight: the kernel's gradient, change and moments are the reference's. -/
theorem algebraic : Cert.algebraic_KernelOoIdeal_ReferenceOoIdeal (hKernelOoIdeal := Cert.KernelOoIdeal.Gen.facts)
    (hReferenceOoIdeal := Cert.ReferenceOoIdeal.Gen.facts) :=
  fun m ρ m' ρ' _ hag => ⟨fun c => grad m c,
    fun c i => step (weight m c i) (grad m c i) (moment1 m c i) (moment2 m c i),
    fun c i => moment (grad m c i) (moment1 m c i),
    fun c i => square (grad m c i) (moment2 m c i),
    (θ_run _ _ _).mono (fun _ h c => by
      obtain ⟨h0, h1, h2, h3, hr⟩ := h c
      exact ⟨h0.trans (final7 m c), h1.trans (final8 m c), h2.trans (final9 m c), h3.trans (final10 m c), hr⟩)
      (Cert.KernelOoIdeal.Value.run_blocks m ρ),
    (θ_run _ _ _).mono (fun _ h c => by
      obtain ⟨h0, h1, h2, h3, hr⟩ := h c
      obtain ⟨a0, a1, a2, a3, a4, a5, a6⟩ := hag c
      unfold Cert.ReferenceOoIdeal.Value.res_main_v36 at h1
      rw [a0, a1, a2, a3] at h0 h1 h2 h3
      rw [a4, a5, a6] at h1
      rw [a5] at h2
      rw [a6] at h3
      refine ⟨h0.trans (funext fun i => grads_apply _ _ _ _ i), h1.trans (funext fun i => ?_), h2.trans (funext fun i => ?_),
        h3.trans (funext fun i => ?_), hr⟩
      · refine (change_apply _ (grads _ _ _ _) _ _ i).trans ?_; rw [grads_apply]
      · refine (newFirst_apply (grads _ _ _ _) _ i).trans ?_; rw [grads_apply]
      · refine (newSecond_apply (grads _ _ _ _) _ i).trans ?_; rw [grads_apply])
      (Cert.ReferenceOoIdeal.Value.run m' ρ')⟩

/-- The reference runs, leaves its arguments as they were, and ends with every counter at zero. -/
theorem reference_frame : Cert.quiescent_ReferenceOoIdeal (hReferenceOoIdeal := Cert.ReferenceOoIdeal.Gen.facts) :=
  fun m ρ _ => (θ_run _ _ _).mono (fun r h => ⟨fun c => (h c).2.2.2.2, sem_eq_zero_of_no_sems (by decide) r.2⟩)
    (Cert.ReferenceOoIdeal.Value.run m ρ)

end Cert.OoValue

end
-- ==== Proof.Packing.lean ====
/-
  Packing arrays of several shapes into one buffer of rows of 128 numbers, and taking them out again: every array is read in
  row-major order, so a reshape changes nothing, a row range of a buffer is a range of positions, and a piece of a
  concatenation lies at the offset of its first row.
-/
module

public import Idealize.ShloMosaic.Lib.Pipeline.Value
public import Idealize.ShloMosaic.Lib.Pointwise
public import Idealize.ShloMosaic.PureOps.Ideal

@[expose] public section

noncomputable section

namespace Cert.Packing

open Idealize.ShloMosaic Idealize.ShloMosaic.TcCoe Idealize.SL.Sem
open scoped BigOperators

/-- The number at position `n` of an array read in row-major order (zero beyond its end). -/
def flat {S : Shape} (x : S.Idx → EReal) (n : ℕ) : EReal :=
  if h : n < S.numel then x (S.rowMajor.symm ⟨n, h⟩) else 0

/-- At the position of an index, that is the array at the index. -/
theorem flat_rowMajor {S : Shape} (x : S.Idx → EReal) (i : S.Idx) : flat x (S.rowMajor i).val = x i := by
  unfold flat
  rw [dif_pos (S.rowMajor i).isLt]
  exact congrArg x (S.rowMajor.symm_apply_apply i)

theorem flat_of {S : Shape} (x : S.Idx → EReal) (i : S.Idx) (n : ℕ) (h : (S.rowMajor i).val = n) : flat x n = x i :=
  h ▸ flat_rowMajor x i

/-- A reshape keeps the order of the numbers. -/
theorem flat_shapeCast {S T : Shape} (x : S.Idx → EReal) (h : S.ShapeCasts T) (n : ℕ) : flat (shapeCast T x h) n = flat x n := by
  have e : T.numel = S.numel := h
  unfold flat
  by_cases hn : n < T.numel
  · rw [dif_pos hn, dif_pos (e ▸ hn)]
    refine congrArg x (Shape.reshapeEquiv_eq_of_rowMajor _ ?_)
    simp only [Equiv.apply_symm_apply]
  · rw [dif_neg hn, dif_neg (e ▸ hn)]

/-- Two arrays of one shape with the same numbers in order are equal. -/
theorem flat_ext {S : Shape} {x y : S.Idx → EReal} (h : ∀ n, n < S.numel → flat x n = flat y n) : x = y :=
  funext fun i => (flat_rowMajor x i).symm.trans ((h _ (S.rowMajor i).isLt).trans (flat_rowMajor y i))

theorem flat_ix1 {a : ℕ} (x : (⟨1, ![a]⟩ : Shape).Idx → EReal) (r : Fin a) : flat x r.val = x (ix1 r) :=
  flat_of x _ _ (Shape.rowMajor_val_one _)

theorem flat_ix2 {a b : ℕ} (x : (⟨2, ![a, b]⟩ : Shape).Idx → EReal) (r : Fin a) (l : Fin b) :
    flat x (r.val * b + l.val) = x (ix2 r l) :=
  flat_of x _ _ (Shape.rowMajor_val_two _)

theorem flat_ix3 {a b c : ℕ} (x : (⟨3, ![a, b, c]⟩ : Shape).Idx → EReal) (s : Fin a) (r : Fin b) (l : Fin c) :
    flat x ((s.val * b + r.val) * c + l.val) = x (ix3 s r l) :=
  flat_of x _ _ (Shape.rowMajor_val_three _)

/-- Rows of 128: position `p` is column `p % 128` of row `p / 128`. -/
theorem flat_row {a : ℕ} (x : (⟨2, ![a, 128]⟩ : Shape).Idx → EReal) (p : ℕ) (h : p < a * 128) :
    flat x p = x (ix2 ⟨p / 128, by omega⟩ ⟨p % 128, by omega⟩) := by
  refine Eq.trans (congrArg (flat x) ?_) (flat_ix2 x _ _)
  show p = p / 128 * 128 + p % 128
  omega

/-- The same with a slot in front. -/
theorem flat_slot {q a : ℕ} (x : (⟨3, ![q, a, 128]⟩ : Shape).Idx → EReal) (s : Fin q) (p : ℕ) (h : p < a * 128) :
    flat x (s.val * (a * 128) + p) = x (ix3 s ⟨p / 128, by omega⟩ ⟨p % 128, by omega⟩) := by
  refine Eq.trans (congrArg (flat x) ?_) (flat_ix3 x _ _ _)
  show s.val * (a * 128) + p = (s.val * a + p / 128) * 128 + p % 128
  have := Nat.div_add_mod p 128
  rw [Nat.add_mul, Nat.mul_assoc]
  omega

/-! ## Pieces of a buffer -/

/-- The first piece of a row: position `p` of what is padded is position `p` of the array. -/
theorem flat_padded {n k t : ℕ} (x : (⟨1, ![n]⟩ : Shape).Idx → EReal) (y : (⟨1, ![k]⟩ : Shape).Idx → EReal)
    (h : Shape.Concatenates [(⟨1, ![n]⟩ : Shape), ⟨1, ![k]⟩] ⟨1, ![t]⟩ 0) (hn : n ≤ t) (p : ℕ) (hp : p < n) :
    flat (concatenate ⟨1, ![t]⟩ 0 [⟨⟨1, ![n]⟩, x⟩, ⟨⟨1, ![k]⟩, y⟩] h) p = flat x p := by
  refine (flat_ix1 _ ⟨p, by omega⟩).trans ?_
  rw [concatenate_apply_piece (t := ⟨1, ![t]⟩) 0 [⟨⟨1, ![n]⟩, x⟩, ⟨⟨1, ![k]⟩, y⟩] h _ 0 (by simp) ⟨1, ![n]⟩ x rfl rfl 0 rfl (ix1 ⟨p, hp⟩)
    (fun b hb => absurd (Fin.fin_one_eq_zero _) hb) (Nat.zero_add _)]
  exact (flat_ix1 x ⟨p, hp⟩).symm

/-- The same, slot by slot. -/
theorem flat_paddedSlots {q n k t : ℕ} (x : (⟨2, ![q, n]⟩ : Shape).Idx → EReal) (y : (⟨2, ![q, k]⟩ : Shape).Idx → EReal)
    (h : Shape.Concatenates [(⟨2, ![q, n]⟩ : Shape), ⟨2, ![q, k]⟩] ⟨2, ![q, t]⟩ 1) (hn : n ≤ t)
    (s : Fin q) (p : ℕ) (hp : p < n) :
    flat (concatenate ⟨2, ![q, t]⟩ 1 [⟨⟨2, ![q, n]⟩, x⟩, ⟨⟨2, ![q, k]⟩, y⟩] h) (s.val * t + p) = flat x (s.val * n + p) := by
  refine (flat_ix2 _ s ⟨p, by omega⟩).trans ?_
  rw [concatenate_apply_piece (t := ⟨2, ![q, t]⟩) 1 [⟨⟨2, ![q, n]⟩, x⟩, ⟨⟨2, ![q, k]⟩, y⟩] h _ 0 (by simp) ⟨2, ![q, n]⟩ x rfl rfl 0 rfl (ix2 s ⟨p, hp⟩)
    (fun b hb => by fin_cases b; · rfl
                    · exact absurd rfl hb) (Nat.zero_add _)]
  exact (flat_ix2 x s ⟨p, hp⟩).symm

/-- A piece of `r` rows whose first row is row `pre` of the buffer. -/
theorem flat_piece {T r : ℕ} (xs : List ((s : Shape) × (s.Idx → EReal)))
    (h : Shape.Concatenates (xs.map (·.1)) ⟨2, ![T, 128]⟩ 0) (k : ℕ) (hk : k < xs.length)
    (x : (⟨2, ![r, 128]⟩ : Shape).Idx → EReal) (hx : xs[k] = ⟨⟨2, ![r, 128]⟩, x⟩) (pre : ℕ)
    (ss : List Shape) (hs : xs.map (·.1) = ss)
    (hpre : ((ss.take k).map fun s => if h : s.rank = 2 then s.size ((0 : Fin 2).cast h.symm) else 0).sum = pre)
    (hT : pre + r ≤ T) (p : ℕ) (hp : p < r * 128) :
    flat (concatenate ⟨2, ![T, 128]⟩ 0 xs h) (pre * 128 + p) = flat x p := by
  rw [flat_row _ (pre * 128 + p) (by omega), flat_row x p hp]
  refine concatenate_apply_piece (t := ⟨2, ![T, 128]⟩) 0 xs h _ k hk _ x hx rfl pre (by subst hs; rw [← List.map_take] at hpre; exact hpre) _ (fun b hb => ?_) ?_
  · fin_cases b
    · exact absurd rfl hb
    · show p % 128 = (pre * 128 + p) % 128
      omega
  · show pre + p / 128 = (pre * 128 + p) / 128
    omega

/-- The same, slot by slot. -/
theorem flat_pieceSlots {q T r : ℕ} (xs : List ((s : Shape) × (s.Idx → EReal)))
    (h : Shape.Concatenates (xs.map (·.1)) ⟨3, ![q, T, 128]⟩ 1) (k : ℕ) (hk : k < xs.length)
    (x : (⟨3, ![q, r, 128]⟩ : Shape).Idx → EReal) (hx : xs[k] = ⟨⟨3, ![q, r, 128]⟩, x⟩) (pre : ℕ)
    (ss : List Shape) (hs : xs.map (·.1) = ss)
    (hpre : ((ss.take k).map fun s => if h : s.rank = 3 then s.size ((1 : Fin 3).cast h.symm) else 0).sum = pre)
    (hT : pre + r ≤ T) (s : Fin q) (p : ℕ) (hp : p < r * 128) :
    flat (concatenate ⟨3, ![q, T, 128]⟩ 1 xs h) (s.val * (T * 128) + (pre * 128 + p)) = flat x (s.val * (r * 128) + p) := by
  rw [flat_slot _ s (pre * 128 + p) (by omega), flat_slot x s p hp]
  refine concatenate_apply_piece (t := ⟨3, ![q, T, 128]⟩) 1 xs h _ k hk _ x hx rfl pre (by subst hs; rw [← List.map_take] at hpre; exact hpre) _ (fun b hb => ?_) ?_
  · fin_cases b
    · rfl
    · exact absurd rfl hb
    · show p % 128 = (pre * 128 + p) % 128
      omega
  · show pre + p / 128 = (pre * 128 + p) / 128
    omega

/-! ## Taking an array out of a buffer -/

/-- A range of rows is a range of positions. -/
theorem flat_rows {T r o : ℕ} (x : (⟨2, ![T, 128]⟩ : Shape).Idx → EReal) (h : (⟨2, ![T, 128]⟩ : Shape).Slices ![o, 0] ⟨2, ![r, 128]⟩)
    (hT : o + r ≤ T) (p : ℕ) (hp : p < r * 128) :
    flat (extractStridedSlice ⟨2, ![r, 128]⟩ ![o, 0] x h) p = flat x (o * 128 + p) := by
  rw [flat_row _ p hp, flat_row x (o * 128 + p) (by omega)]
  unfold extractStridedSlice
  refine congrArg x (funext fun a => Fin.ext ?_)
  fin_cases a
  · show o + p / 128 = (o * 128 + p) / 128
    omega
  · show 0 + p % 128 = (o * 128 + p) % 128
    omega

/-- The first `n` numbers of a row. -/
theorem flat_front {T n : ℕ} (x : (⟨1, ![T]⟩ : Shape).Idx → EReal) (h : (⟨1, ![T]⟩ : Shape).Slices ![0] ⟨1, ![n]⟩)
    (hT : n ≤ T) (p : ℕ) (hp : p < n) : flat (extractStridedSlice ⟨1, ![n]⟩ ![0] x h) p = flat x p := by
  refine (flat_ix1 _ ⟨p, hp⟩).trans ?_
  refine Eq.trans ?_ (flat_ix1 x ⟨p, by omega⟩).symm
  unfold extractStridedSlice
  refine congrArg x (funext fun a => Fin.ext ?_)
  fin_cases a
  exact Nat.zero_add p

/-! ## One array of a stack -/

theorem part1 {q k a : ℕ} (x : (⟨2, ![q, a]⟩ : Shape).Idx → EReal)
    (h : (⟨2, ![q, a]⟩ : Shape).Slices ![k, 0] ⟨2, ![1, a]⟩) (p : ℕ) (hp : p < a) :
    flat (extractStridedSlice ⟨2, ![1, a]⟩ ![k, 0] x h) p = flat x (k * (a) + p) := by
  have hn : p < (⟨2, ![1, a]⟩ : Shape).numel := by
    simpa [Shape.numel, Fin.prod_univ_succ] using hp
  obtain ⟨j, hj⟩ := (⟨2, ![1, a]⟩ : Shape).rowMajor.surjective ⟨p, hn⟩
  have hv : ((⟨2, ![1, a]⟩ : Shape).rowMajor j).val = p := congrArg Fin.val hj
  rw [flat_of _ j p hv]
  unfold extractStridedSlice
  refine (flat_of x _ _ ?_).symm
  rw [Shape.rowMajor_val_two] at hv ⊢
  have h0 : (j 0).val = 0 := Nat.lt_one_iff.mp (j 0).isLt
  replace hv : ((j 0).val) * a + (j 1).val = p := hv
  show (k + (j 0).val) * a + (0 + (j 1).val) = k * (a) + p
  rw [h0] at hv ⊢
  rw [← hv]
  ring

theorem part2 {q k a b : ℕ} (x : (⟨3, ![q, a, b]⟩ : Shape).Idx → EReal)
    (h : (⟨3, ![q, a, b]⟩ : Shape).Slices ![k, 0, 0] ⟨3, ![1, a, b]⟩) (p : ℕ) (hp : p < a * b) :
    flat (extractStridedSlice ⟨3, ![1, a, b]⟩ ![k, 0, 0] x h) p = flat x (k * (a * b) + p) := by
  have hn : p < (⟨3, ![1, a, b]⟩ : Shape).numel := by
    simpa [Shape.numel, Fin.prod_univ_succ] using hp
  obtain ⟨j, hj⟩ := (⟨3, ![1, a, b]⟩ : Shape).rowMajor.surjective ⟨p, hn⟩
  have hv : ((⟨3, ![1, a, b]⟩ : Shape).rowMajor j).val = p := congrArg Fin.val hj
  rw [flat_of _ j p hv]
  unfold extractStridedSlice
  refine (flat_of x _ _ ?_).symm
  rw [Shape.rowMajor_val_three] at hv ⊢
  have h0 : (j 0).val = 0 := Nat.lt_one_iff.mp (j 0).isLt
  replace hv : (((j 0).val) * a + (j 1).val) * b + (j 2).val = p := hv
  show ((k + (j 0).val) * a + (0 + (j 1).val)) * b + (0 + (j 2).val) = k * (a * b) + p
  rw [h0] at hv ⊢
  rw [← hv]
  ring

theorem part3 {q k a b c : ℕ} (x : (⟨4, ![q, a, b, c]⟩ : Shape).Idx → EReal)
    (h : (⟨4, ![q, a, b, c]⟩ : Shape).Slices ![k, 0, 0, 0] ⟨4, ![1, a, b, c]⟩) (p : ℕ) (hp : p < a * (b * c)) :
    flat (extractStridedSlice ⟨4, ![1, a, b, c]⟩ ![k, 0, 0, 0] x h) p = flat x (k * (a * (b * c)) + p) := by
  have hn : p < (⟨4, ![1, a, b, c]⟩ : Shape).numel := by
    simpa [Shape.numel, Fin.prod_univ_succ] using hp
  obtain ⟨j, hj⟩ := (⟨4, ![1, a, b, c]⟩ : Shape).rowMajor.surjective ⟨p, hn⟩
  have hv : ((⟨4, ![1, a, b, c]⟩ : Shape).rowMajor j).val = p := congrArg Fin.val hj
  rw [flat_of _ j p hv]
  unfold extractStridedSlice
  refine (flat_of x _ _ ?_).symm
  rw [Shape.rowMajor_val_four] at hv ⊢
  have h0 : (j 0).val = 0 := Nat.lt_one_iff.mp (j 0).isLt
  replace hv : ((((j 0).val) * a + (j 1).val) * b + (j 2).val) * c + (j 3).val = p := hv
  show (((k + (j 0).val) * a + (0 + (j 1).val)) * b + (0 + (j 2).val)) * c + (0 + (j 3).val) = k * (a * (b * c)) + p
  rw [h0] at hv ⊢
  rw [← hv]
  ring

theorem part4 {q k a b c d : ℕ} (x : (⟨5, ![q, a, b, c, d]⟩ : Shape).Idx → EReal)
    (h : (⟨5, ![q, a, b, c, d]⟩ : Shape).Slices ![k, 0, 0, 0, 0] ⟨5, ![1, a, b, c, d]⟩) (p : ℕ) (hp : p < a * (b * (c * d))) :
    flat (extractStridedSlice ⟨5, ![1, a, b, c, d]⟩ ![k, 0, 0, 0, 0] x h) p = flat x (k * (a * (b * (c * d))) + p) := by
  have hn : p < (⟨5, ![1, a, b, c, d]⟩ : Shape).numel := by
    simpa [Shape.numel, Fin.prod_univ_succ] using hp
  obtain ⟨j, hj⟩ := (⟨5, ![1, a, b, c, d]⟩ : Shape).rowMajor.surjective ⟨p, hn⟩
  have hv : ((⟨5, ![1, a, b, c, d]⟩ : Shape).rowMajor j).val = p := congrArg Fin.val hj
  rw [flat_of _ j p hv]
  unfold extractStridedSlice
  refine (flat_of x _ _ ?_).symm
  rw [Shape.rowMajor_val_five] at hv ⊢
  have h0 : (j 0).val = 0 := Nat.lt_one_iff.mp (j 0).isLt
  replace hv : (((((j 0).val) * a + (j 1).val) * b + (j 2).val) * c + (j 3).val) * d + (j 4).val = p := hv
  show ((((k + (j 0).val) * a + (0 + (j 1).val)) * b + (0 + (j 2).val)) * c + (0 + (j 3).val)) * d + (0 + (j 4).val) = k * (a * (b * (c * d))) + p
  rw [h0] at hv ⊢
  rw [← hv]
  ring

/-! ## The sum over eight slots -/

/-- The sum over the eight slots, at a position. -/
def overSlots {S : Shape} (x : S.Idx → EReal) (len p : ℕ) : EReal := ∑ s : Fin 8, flat x (s.val * len + p)

theorem sum1 {a : ℕ} {e : Shape} (x : (⟨2, ![8, a]⟩ : Shape).Idx → EReal) (h : (⟨2, ![8, a]⟩ : Shape).ReducesTo [0] ⟨1, ![a]⟩)
    (he : 0 < e.numel) (i : (⟨1, ![a]⟩ : Shape).Idx) :
    Host.reduceAdd (F := Ideal) (φ := .f32) x (constant e .f32 0x00000000#32) h he i = overSlots x (a) ((⟨1, ![a]⟩ : Shape).rowMajor i).val := by
  unfold overSlots
  pointwise
  refine Finset.sum_congr rfl fun s _ => (flat_of x _ _ ?_).symm
  rw [Shape.rowMajor_val_one, Shape.rowMajor_val_two]
  show s.val * a + (i 0).val = s.val * a + (i 0).val
  ring

theorem sum2 {a b : ℕ} {e : Shape} (x : (⟨3, ![8, a, b]⟩ : Shape).Idx → EReal) (h : (⟨3, ![8, a, b]⟩ : Shape).ReducesTo [0] ⟨2, ![a, b]⟩)
    (he : 0 < e.numel) (i : (⟨2, ![a, b]⟩ : Shape).Idx) :
    Host.reduceAdd (F := Ideal) (φ := .f32) x (constant e .f32 0x00000000#32) h he i = overSlots x (a * b) ((⟨2, ![a, b]⟩ : Shape).rowMajor i).val := by
  unfold overSlots
  pointwise
  refine Finset.sum_congr rfl fun s _ => (flat_of x _ _ ?_).symm
  rw [Shape.rowMajor_val_two, Shape.rowMajor_val_three]
  show (s.val * a + (i 0).val) * b + (i 1).val = s.val * (a * b) + ((i 0).val * b + (i 1).val)
  ring

theorem sum3 {a b c : ℕ} {e : Shape} (x : (⟨4, ![8, a, b, c]⟩ : Shape).Idx → EReal) (h : (⟨4, ![8, a, b, c]⟩ : Shape).ReducesTo [0] ⟨3, ![a, b, c]⟩)
    (he : 0 < e.numel) (i : (⟨3, ![a, b, c]⟩ : Shape).Idx) :
    Host.reduceAdd (F := Ideal) (φ := .f32) x (constant e .f32 0x00000000#32) h he i = overSlots x (a * (b * c)) ((⟨3, ![a, b, c]⟩ : Shape).rowMajor i).val := by
  unfold overSlots
  pointwise
  refine Finset.sum_congr rfl fun s _ => (flat_of x _ _ ?_).symm
  rw [Shape.rowMajor_val_three, Shape.rowMajor_val_four]
  show ((s.val * a + (i 0).val) * b + (i 1).val) * c + (i 2).val = s.val * (a * (b * c)) + (((i 0).val * b + (i 1).val) * c + (i 2).val)
  ring

theorem sum4 {a b c d : ℕ} {e : Shape} (x : (⟨5, ![8, a, b, c, d]⟩ : Shape).Idx → EReal) (h : (⟨5, ![8, a, b, c, d]⟩ : Shape).ReducesTo [0] ⟨4, ![a, b, c, d]⟩)
    (he : 0 < e.numel) (i : (⟨4, ![a, b, c, d]⟩ : Shape).Idx) :
    Host.reduceAdd (F := Ideal) (φ := .f32) x (constant e .f32 0x00000000#32) h he i = overSlots x (a * (b * (c * d))) ((⟨4, ![a, b, c, d]⟩ : Shape).rowMajor i).val := by
  unfold overSlots
  pointwise
  refine Finset.sum_congr rfl fun s _ => (flat_of x _ _ ?_).symm
  rw [Shape.rowMajor_val_four, Shape.rowMajor_val_five]
  show (((s.val * a + (i 0).val) * b + (i 1).val) * c + (i 2).val) * d + (i 3).val = s.val * (a * (b * (c * d))) + ((((i 0).val * b + (i 1).val) * c + (i 2).val) * d + (i 3).val)
  ring

end Cert.Packing

end
-- ==== Proof.SsBody.lean ====
/-
  The sum of the small weights' gradients over the eight devices: what one grid point stores, and what the array of sums
  holds after the run.
-/
module

public import proofs.«01_k».proof.Defs
public import proofs.«01_k».proof.Proof.Packing
public import proofs.«01_k».proof.Proof.Gen.KernelSsIdeal.Frame
public import Idealize.ShloMosaic.Lib.Pipeline.Value
public import Idealize.ShloMosaic.Lib.Pointwise
public import Idealize.ShloMosaic.PureOps.Ideal

@[expose] public section

noncomputable section

namespace Cert.KernelSsIdeal.Small

open Idealize.ShloMosaic Idealize.ShloMosaic.TcCoe Idealize.SL.Sem
open Cert.KernelSsIdeal Cert.KernelSsIdeal.Gen Cert.Packing
open scoped BigOperators

theorem hz : (![0, 0] : Fin 2 → Nat) = fun _ => 0 := funext fun a => by fin_cases a <;> rfl

/-- What a point stores: the sum of its block over the eight slots. -/
theorem block_apply (x : Vec Ideal S8x256x128 .f32) (r : Fin 256) (l : Fin 128) :
    out0_1 x (ix2 r l) = ∑ s : Fin 8, (x (ix3 s r l) : EReal) := by
  unfold out0_1
  rw [View.canon_unit_zero (S := S256x128) hz]
  pointwise [k0_pay1]
  exact (Fin.sum_univ_eight fun s => (x (ix3 s r l) : EReal)).symm

variable (m : (ℓ : Loc nD τ sig) → Buf (Elt Ideal) ℓ)

/-- The buffer the region reads. -/
def packed (c : Dev nD) : S8x7424x128.Idx → EReal := V m c main_v66

/-- The array the region leaves. -/
def sums (c : Dev nD) : S7424x128.Idx → EReal := (dats m 0 c).arrAt 1 cfg0.N

/-- The grid point that computes an index, and the place of the index in its block. -/
def pt (i : S7424x128.Idx) : Fin cfg0.N :=
  ⟨(i 0).val / 256, by
    rw [show cfg0.N = 29 from N_0]
    have h0 : (i 0).val < 7424 := (i 0).isLt
    omega⟩
def loc (i : S7424x128.Idx) : S256x128.Idx := ix2 ⟨(i 0).val % 256, Nat.mod_lt _ (by decide)⟩ (i 1)

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx1_inj : ∀ t t' : Fin cfg0.N, win0_1.index t = win0_1.index t' → t = t' :=
  (by decide +kernel : ∀ t t' : Fin grid0.N, win0_1.index t = win0_1.index t' → t = t')
theorem writes : ∀ t : Fin cfg0.N, (cfg0.win 1).flush t = true :=
  (by decide +kernel : ∀ t : Fin grid0.N, _)

theorem emb1 (i : S7424x128.Idx) : ((cfg0.win 1).blk (pt i)).view.emb (loc i) = i := by
  obtain ⟨e0, e1⟩ := idx1 (pt i)
  have hp : (pt i).val = (i 0).val / 256 := rfl
  refine funext fun a => Fin.ext ?_
  fin_cases a
  · show win0_1.index (pt i) (0 : Fin 2) * 256 + 1 * ((i 0).val % 256) = (i 0).val
    rw [e0]; omega
  · show win0_1.index (pt i) (1 : Fin 2) * 128 + 1 * (i 1).val = (i 1).val
    rw [e1]; omega

theorem read0 (c : Dev nD) (i : S7424x128.Idx) (s : Fin 8) :
    iblk m c 0 (pt i) (ix3 s ⟨(i 0).val % 256, Nat.mod_lt _ (by decide)⟩ (i 1)) = packed m c (ix3 s (i 0) (i 1)) := by
  obtain ⟨e0, e1, e2⟩ := idx0 (pt i)
  have hp : (pt i).val = (i 0).val / 256 := rfl
  refine congrArg (packed m c) (funext fun a => Fin.ext ?_)
  fin_cases a
  · show win0_0.index (pt i) (0 : Fin 3) * 8 + 1 * s.val = s.val
    rw [e0]; omega
  · show win0_0.index (pt i) (1 : Fin 3) * 256 + 1 * ((i 0).val % 256) = (i 0).val
    rw [e1]; omega
  · show win0_0.index (pt i) (2 : Fin 3) * 128 + 1 * (i 1).val = (i 1).val
    rw [e2]; omega

/-- The array of sums, at an index: the eight slots' numbers there, added. -/
theorem sums_apply (c : Dev nD) (i : S7424x128.Idx) : sums m c i = ∑ s : Fin 8, packed m c (ix3 s (i 0) (i 1)) := by
  have hr : ((cfg0.win 1).blk (pt i)).view.read (Elt Ideal) ((dats m 0 c).arrAt 1 cfg0.N) (loc i) = sums m c i :=
    congrArg ((dats m 0 c).arrAt 1 cfg0.N) (emb1 i)
  have hd : ∀ t t' : Fin cfg0.N, (cfg0.win 1).flush t = true → (cfg0.win 1).flush t' = true → t ≠ t' →
      Disjoint ((cfg0.win 1).blk t).view.set ((cfg0.win 1).blk t').view.set :=
    fun t t' _ _ hne => (cfg0.win 1).disjoint_blk fun h => hne (idx1_inj t t' h)
  refine hr.symm.trans ((congrFun ((dats m 0 c).read_blk_arrAt_eq_flushed 1 hd cfg0.N (pt i) (pt i).isLt (writes (pt i))) (loc i)).trans ?_)
  show (cfg0.win 1).cut (grid0.coords (pt i)) ((dats m 0 c).after 1 (pt i)) (loc i) = _
  rw [after0_1]
  refine (block_apply _ _ _).trans (Finset.sum_congr rfl fun s _ => read0 m c i s)

/-- The same in row-major order. -/
theorem sums_flat (c : Dev nD) (p : ℕ) (hp : p < 7424 * 128) : flat (sums m c) p = overSlots (packed m c) (7424 * 128) p := by
  unfold overSlots
  rw [flat_row _ p hp, sums_apply]
  exact Finset.sum_congr rfl fun s _ => (flat_slot _ s p hp).symm

end Cert.KernelSsIdeal.Small

end
-- ==== Proof.SsPack.lean ====
/-
  The buffer of the small weights' gradients: each array is padded to whole rows of 128 numbers and the pieces are laid one
  below the other, slot by slot. Where each array's numbers lie, and what the lines before the region put in the buffer.
-/
module

public import proofs.«01_k».proof.Proof.SsBody

@[expose] public section

noncomputable section

namespace Cert.KernelSsIdeal.Small

open Idealize.ShloMosaic Idealize.ShloMosaic.TcCoe Idealize.SL.Sem
open Cert.KernelSsIdeal Cert.KernelSsIdeal.Gen Cert.Packing
open scoped BigOperators

/-- The gradients of the twenty-one small weights, from eight devices each. -/
structure Parts where
  a1 : S8x4x2048.Idx → EReal
  a2 : S8x4x8.Idx → EReal
  a3 : S8x4x8.Idx → EReal
  a4 : S8x4x128.Idx → EReal
  a5 : S8x4x48x64.Idx → EReal
  a6 : S8x4x48x64.Idx → EReal
  a7 : S8x4x48.Idx → EReal
  a8 : S8x4x48x64x16.Idx → EReal
  a9 : S8x4x48x64x16.Idx → EReal
  a10 : S8x4x48x16x64.Idx → EReal
  a11 : S8x4x48x16x64.Idx → EReal
  a12 : S8x4x48x16.Idx → EReal
  a13 : S8x4x768.Idx → EReal
  a14 : S8x4x2048.Idx → EReal
  a15 : S8x4x16.Idx → EReal
  a16 : S8x4x16.Idx → EReal
  a17 : S8x4x16.Idx → EReal
  a18 : S8x4x1024.Idx → EReal
  a19 : S8x4x4x3072.Idx → EReal
  a20 : S8x4x4x2048.Idx → EReal
  a21 : S8x2048.Idx → EReal

/-- The first sixteen pieces, below one another. -/
def upper (x : Parts) : S8x6560x128.Idx → EReal :=
  concatenate S8x6560x128 1 [⟨S8x64x128, (shapeCast S8x64x128 (shapeCast S8x8192 x.a1 shapeCasts_S8x4x2048_S8x8192) shapeCasts_S8x8192_S8x64x128)⟩,
    ⟨S8x8x128, (shapeCast S8x8x128 (concatenate S8x1024 1 [⟨S8x32, (shapeCast S8x32 x.a2 shapeCasts_S8x4x8_S8x32)⟩,
    ⟨S8x992, (broadcastInDim S8x992 ![1] bcast_S992_S8x992_1 (broadcastInDim S992 ![] bcast_S_S992 (constant (F := Ideal) S_ .f32 0x00000000#32)))⟩] concatenates_S8x32_S8x992_S8x1024_d1) shapeCasts_S8x1024_S8x8x128)⟩,
    ⟨S8x8x128, (shapeCast S8x8x128 (concatenate S8x1024 1 [⟨S8x32, (shapeCast S8x32 x.a3 shapeCasts_S8x4x8_S8x32)⟩,
    ⟨S8x992, (broadcastInDim S8x992 ![1] bcast_S992_S8x992_1 (broadcastInDim S992 ![] bcast_S_S992 (constant (F := Ideal) S_ .f32 0x00000000#32)))⟩] concatenates_S8x32_S8x992_S8x1024_d1) shapeCasts_S8x1024_S8x8x128)⟩,
    ⟨S8x8x128, (shapeCast S8x8x128 (concatenate S8x1024 1 [⟨S8x512, (shapeCast S8x512 x.a4 shapeCasts_S8x4x128_S8x512)⟩,
    ⟨S8x512, (broadcastInDim S8x512 ![1] bcast_S512_S8x512_1 (broadcastInDim S512 ![] bcast_S_S512 (constant (F := Ideal) S_ .f32 0x00000000#32)))⟩] concatenates_S8x512_S8x512_S8x1024_d1) shapeCasts_S8x1024_S8x8x128)⟩,
    ⟨S8x96x128, (shapeCast S8x96x128 (shapeCast S8x12288 x.a5 shapeCasts_S8x4x48x64_S8x12288) shapeCasts_S8x12288_S8x96x128)⟩,
    ⟨S8x96x128, (shapeCast S8x96x128 (shapeCast S8x12288 x.a6 shapeCasts_S8x4x48x64_S8x12288) shapeCasts_S8x12288_S8x96x128)⟩,
    ⟨S8x8x128, (shapeCast S8x8x128 (concatenate S8x1024 1 [⟨S8x192, (shapeCast S8x192 x.a7 shapeCasts_S8x4x48_S8x192)⟩,
    ⟨S8x832, (broadcastInDim S8x832 ![1] bcast_S832_S8x832_1 (broadcastInDim S832 ![] bcast_S_S832 (constant (F := Ideal) S_ .f32 0x00000000#32)))⟩] concatenates_S8x192_S8x832_S8x1024_d1) shapeCasts_S8x1024_S8x8x128)⟩,
    ⟨S8x1536x128, (shapeCast S8x1536x128 (shapeCast S8x196608 x.a8 shapeCasts_S8x4x48x64x16_S8x196608) shapeCasts_S8x196608_S8x1536x128)⟩,
    ⟨S8x1536x128, (shapeCast S8x1536x128 (shapeCast S8x196608 x.a9 shapeCasts_S8x4x48x64x16_S8x196608) shapeCasts_S8x196608_S8x1536x128)⟩,
    ⟨S8x1536x128, (shapeCast S8x1536x128 (shapeCast S8x196608 x.a10 shapeCasts_S8x4x48x16x64_S8x196608) shapeCasts_S8x196608_S8x1536x128)⟩,
    ⟨S8x1536x128, (shapeCast S8x1536x128 (shapeCast S8x196608 x.a11 shapeCasts_S8x4x48x16x64_S8x196608) shapeCasts_S8x196608_S8x1536x128)⟩,
    ⟨S8x24x128, (shapeCast S8x24x128 (shapeCast S8x3072 x.a12 shapeCasts_S8x4x48x16_S8x3072) shapeCasts_S8x3072_S8x24x128)⟩,
    ⟨S8x24x128, (shapeCast S8x24x128 (shapeCast S8x3072 x.a13 shapeCasts_S8x4x768_S8x3072) shapeCasts_S8x3072_S8x24x128)⟩,
    ⟨S8x64x128, (shapeCast S8x64x128 (shapeCast S8x8192 x.a14 shapeCasts_S8x4x2048_S8x8192) shapeCasts_S8x8192_S8x64x128)⟩,
    ⟨S8x8x128, (shapeCast S8x8x128 (concatenate S8x1024 1 [⟨S8x64, (shapeCast S8x64 x.a15 shapeCasts_S8x4x16_S8x64)⟩,
    ⟨S8x960, (broadcastInDim S8x960 ![1] bcast_S960_S8x960_1 (broadcastInDim S960 ![] bcast_S_S960 (constant (F := Ideal) S_ .f32 0x00000000#32)))⟩] concatenates_S8x64_S8x960_S8x1024_d1) shapeCasts_S8x1024_S8x8x128)⟩,
    ⟨S8x8x128, (shapeCast S8x8x128 (concatenate S8x1024 1 [⟨S8x64, (shapeCast S8x64 x.a16 shapeCasts_S8x4x16_S8x64)⟩,
    ⟨S8x960, (broadcastInDim S8x960 ![1] bcast_S960_S8x960_1 (broadcastInDim S960 ![] bcast_S_S960 (constant (F := Ideal) S_ .f32 0x00000000#32)))⟩] concatenates_S8x64_S8x960_S8x1024_d1) shapeCasts_S8x1024_S8x8x128)⟩] concatenates_S8x64x128_S8x8x128_S8x8x128_S8x8x128_S8x96x128_S8x96x128_S8x8x128_S8x1536x128_S8x1536x128_S8x1536x128_S8x1536x128_S8x24x128_S8x24x128_S8x64x128_S8x8x128_S8x8x128_S8x6560x128_d1

/-- The other five, and the rows of zeros that fill the last tile. -/
def lower (x : Parts) : S8x864x128.Idx → EReal :=
  concatenate S8x864x128 1 [⟨S8x8x128, (shapeCast S8x8x128 (concatenate S8x1024 1 [⟨S8x64, (shapeCast S8x64 x.a17 shapeCasts_S8x4x16_S8x64)⟩,
    ⟨S8x960, (broadcastInDim S8x960 ![1] bcast_S960_S8x960_1 (broadcastInDim S960 ![] bcast_S_S960 (constant (F := Ideal) S_ .f32 0x00000000#32)))⟩] concatenates_S8x64_S8x960_S8x1024_d1) shapeCasts_S8x1024_S8x8x128)⟩,
    ⟨S8x32x128, (shapeCast S8x32x128 (shapeCast S8x4096 x.a18 shapeCasts_S8x4x1024_S8x4096) shapeCasts_S8x4096_S8x32x128)⟩,
    ⟨S8x384x128, (shapeCast S8x384x128 (shapeCast S8x49152 x.a19 shapeCasts_S8x4x4x3072_S8x49152) shapeCasts_S8x49152_S8x384x128)⟩,
    ⟨S8x256x128, (shapeCast S8x256x128 (shapeCast S8x32768 x.a20 shapeCasts_S8x4x4x2048_S8x32768) shapeCasts_S8x32768_S8x256x128)⟩,
    ⟨S8x16x128, (shapeCast S8x16x128 x.a21 shapeCasts_S8x2048_S8x16x128)⟩,
    ⟨S8x168x128, (broadcastInDim S8x168x128 ![1, 2] bcast_S168x128_S8x168x128_1_2 (broadcastInDim S168x128 ![] bcast_S_S168x128 (constant (F := Ideal) S_ .f32 0x00000000#32)))⟩] concatenates_S8x8x128_S8x32x128_S8x384x128_S8x256x128_S8x16x128_S8x168x128_S8x864x128_d1

/-- The buffer. -/
def buffer (x : Parts) : S8x7424x128.Idx → EReal :=
  concatenate S8x7424x128 1 [⟨S8x6560x128, (upper x)⟩,
    ⟨S8x864x128, (lower x)⟩] concatenates_S8x6560x128_S8x864x128_S8x7424x128_d1

theorem at_upper (x : Parts) (s : Fin 8) (p : ℕ) (hp : p < 6560 * 128) :
    flat (buffer x) (s.val * (7424 * 128) + p) = flat (upper x) (s.val * (6560 * 128) + p) := by
  have h := flat_pieceSlots [⟨S8x6560x128, upper x⟩, ⟨S8x864x128, lower x⟩] concatenates_S8x6560x128_S8x864x128_S8x7424x128_d1
    0 (by simp) (upper x) rfl 0 [S8x6560x128, S8x864x128] rfl rfl (by decide) s p hp
  rwa [Nat.zero_mul, Nat.zero_add] at h

theorem at_lower (x : Parts) (s : Fin 8) (p : ℕ) (hp : p < 864 * 128) :
    flat (buffer x) (s.val * (7424 * 128) + (6560 * 128 + p)) = flat (lower x) (s.val * (864 * 128) + p) :=
  flat_pieceSlots [⟨S8x6560x128, upper x⟩, ⟨S8x864x128, lower x⟩] concatenates_S8x6560x128_S8x864x128_S8x7424x128_d1
    1 (by simp) (lower x) rfl 6560 [S8x6560x128, S8x864x128] rfl rfl (by decide) s p hp

/-- The shapes of the pieces. -/
def upperShapes : List Shape := [S8x64x128, S8x8x128, S8x8x128, S8x8x128, S8x96x128, S8x96x128, S8x8x128, S8x1536x128, S8x1536x128, S8x1536x128, S8x1536x128, S8x24x128, S8x24x128, S8x64x128, S8x8x128, S8x8x128]
def lowerShapes : List Shape := [S8x8x128, S8x32x128, S8x384x128, S8x256x128, S8x16x128, S8x168x128]

/-- An array of `n` numbers a slot lies in the buffer from row `off` on. -/
def Lies (x : Parts) (off n : ℕ) {S : Shape} (a : S.Idx → EReal) : Prop :=
  ∀ (s : Fin 8) (p : ℕ), p < n → flat (buffer x) (s.val * (7424 * 128) + (off * 128 + p)) = flat a (s.val * n + p)

/-! The place of each array. -/

theorem lies1 (x : Parts) : Lies x 0 8192 x.a1 := fun s p hp => by
  refine (at_upper x s _ (by omega)).trans ?_
  unfold upper
  refine (flat_pieceSlots (T := 6560) (r := 64) _ _ 0 (by simp) _ rfl 0 upperShapes rfl (by decide +kernel) (by decide) s p (by omega)).trans ?_
  refine (flat_shapeCast _ _ _).trans (flat_shapeCast _ _ _)

theorem lies2 (x : Parts) : Lies x 64 32 x.a2 := fun s p hp => by
  refine (at_upper x s _ (by omega)).trans ?_
  unfold upper
  refine (flat_pieceSlots (T := 6560) (r := 8) _ _ 1 (by simp) _ rfl 64 upperShapes rfl (by decide +kernel) (by decide) s p (by omega)).trans ?_
  refine (flat_shapeCast _ _ _).trans ?_
  exact (flat_paddedSlots (t := 1024) _ _ _ (by decide) s p hp).trans (flat_shapeCast _ _ _)

theorem lies3 (x : Parts) : Lies x 72 32 x.a3 := fun s p hp => by
  refine (at_upper x s _ (by omega)).trans ?_
  unfold upper
  refine (flat_pieceSlots (T := 6560) (r := 8) _ _ 2 (by simp) _ rfl 72 upperShapes rfl (by decide +kernel) (by decide) s p (by omega)).trans ?_
  refine (flat_shapeCast _ _ _).trans ?_
  exact (flat_paddedSlots (t := 1024) _ _ _ (by decide) s p hp).trans (flat_shapeCast _ _ _)

theorem lies4 (x : Parts) : Lies x 80 512 x.a4 := fun s p hp => by
  refine (at_upper x s _ (by omega)).trans ?_
  unfold upper
  refine (flat_pieceSlots (T := 6560) (r := 8) _ _ 3 (by simp) _ rfl 80 upperShapes rfl (by decide +kernel) (by decide) s p (by omega)).trans ?_
  refine (flat_shapeCast _ _ _).trans ?_
  exact (flat_paddedSlots (t := 1024) _ _ _ (by decide) s p hp).trans (flat_shapeCast _ _ _)

theorem lies5 (x : Parts) : Lies x 88 12288 x.a5 := fun s p hp => by
  refine (at_upper x s _ (by omega)).trans ?_
  unfold upper
  refine (flat_pieceSlots (T := 6560) (r := 96) _ _ 4 (by simp) _ rfl 88 upperShapes rfl (by decide +kernel) (by decide) s p (by omega)).trans ?_
  refine (flat_shapeCast _ _ _).trans (flat_shapeCast _ _ _)

theorem lies6 (x : Parts) : Lies x 184 12288 x.a6 := fun s p hp => by
  refine (at_upper x s _ (by omega)).trans ?_
  unfold upper
  refine (flat_pieceSlots (T := 6560) (r := 96) _ _ 5 (by simp) _ rfl 184 upperShapes rfl (by decide +kernel) (by decide) s p (by omega)).trans ?_
  refine (flat_shapeCast _ _ _).trans (flat_shapeCast _ _ _)

theorem lies7 (x : Parts) : Lies x 280 192 x.a7 := fun s p hp => by
  refine (at_upper x s _ (by omega)).trans ?_
  unfold upper
  refine (flat_pieceSlots (T := 6560) (r := 8) _ _ 6 (by simp) _ rfl 280 upperShapes rfl (by decide +kernel) (by decide) s p (by omega)).trans ?_
  refine (flat_shapeCast _ _ _).trans ?_
  exact (flat_paddedSlots (t := 1024) _ _ _ (by decide) s p hp).trans (flat_shapeCast _ _ _)

theorem lies8 (x : Parts) : Lies x 288 196608 x.a8 := fun s p hp => by
  refine (at_upper x s _ (by omega)).trans ?_
  unfold upper
  refine (flat_pieceSlots (T := 6560) (r := 1536) _ _ 7 (by simp) _ rfl 288 upperShapes rfl (by decide +kernel) (by decide) s p (by omega)).trans ?_
  refine (flat_shapeCast _ _ _).trans (flat_shapeCast _ _ _)

theorem lies9 (x : Parts) : Lies x 1824 196608 x.a9 := fun s p hp => by
  refine (at_upper x s _ (by omega)).trans ?_
  unfold upper
  refine (flat_pieceSlots (T := 6560) (r := 1536) _ _ 8 (by simp) _ rfl 1824 upperShapes rfl (by decide +kernel) (by decide) s p (by omega)).trans ?_
  refine (flat_shapeCast _ _ _).trans (flat_shapeCast _ _ _)

theorem lies10 (x : Parts) : Lies x 3360 196608 x.a10 := fun s p hp => by
  refine (at_upper x s _ (by omega)).trans ?_
  unfold upper
  refine (flat_pieceSlots (T := 6560) (r := 1536) _ _ 9 (by simp) _ rfl 3360 upperShapes rfl (by decide +kernel) (by decide) s p (by omega)).trans ?_
  refine (flat_shapeCast _ _ _).trans (flat_shapeCast _ _ _)

theorem lies11 (x : Parts) : Lies x 4896 196608 x.a11 := fun s p hp => by
  refine (at_upper x s _ (by omega)).trans ?_
  unfold upper
  refine (flat_pieceSlots (T := 6560) (r := 1536) _ _ 10 (by simp) _ rfl 4896 upperShapes rfl (by decide +kernel) (by decide) s p (by omega)).trans ?_
  refine (flat_shapeCast _ _ _).trans (flat_shapeCast _ _ _)

theorem lies12 (x : Parts) : Lies x 6432 3072 x.a12 := fun s p hp => by
  refine (at_upper x s _ (by omega)).trans ?_
  unfold upper
  refine (flat_pieceSlots (T := 6560) (r := 24) _ _ 11 (by simp) _ rfl 6432 upperShapes rfl (by decide +kernel) (by decide) s p (by omega)).trans ?_
  refine (flat_shapeCast _ _ _).trans (flat_shapeCast _ _ _)

theorem lies13 (x : Parts) : Lies x 6456 3072 x.a13 := fun s p hp => by
  refine (at_upper x s _ (by omega)).trans ?_
  unfold upper
  refine (flat_pieceSlots (T := 6560) (r := 24) _ _ 12 (by simp) _ rfl 6456 upperShapes rfl (by decide +kernel) (by decide) s p (by omega)).trans ?_
  refine (flat_shapeCast _ _ _).trans (flat_shapeCast _ _ _)

theorem lies14 (x : Parts) : Lies x 6480 8192 x.a14 := fun s p hp => by
  refine (at_upper x s _ (by omega)).trans ?_
  unfold upper
  refine (flat_pieceSlots (T := 6560) (r := 64) _ _ 13 (by simp) _ rfl 6480 upperShapes rfl (by decide +kernel) (by decide) s p (by omega)).trans ?_
  refine (flat_shapeCast _ _ _).trans (flat_shapeCast _ _ _)

theorem lies15 (x : Parts) : Lies x 6544 64 x.a15 := fun s p hp => by
  refine (at_upper x s _ (by omega)).trans ?_
  unfold upper
  refine (flat_pieceSlots (T := 6560) (r := 8) _ _ 14 (by simp) _ rfl 6544 upperShapes rfl (by decide +kernel) (by decide) s p (by omega)).trans ?_
  refine (flat_shapeCast _ _ _).trans ?_
  exact (flat_paddedSlots (t := 1024) _ _ _ (by decide) s p hp).trans (flat_shapeCast _ _ _)

theorem lies16 (x : Parts) : Lies x 6552 64 x.a16 := fun s p hp => by
  refine (at_upper x s _ (by omega)).trans ?_
  unfold upper
  refine (flat_pieceSlots (T := 6560) (r := 8) _ _ 15 (by simp) _ rfl 6552 upperShapes rfl (by decide +kernel) (by decide) s p (by omega)).trans ?_
  refine (flat_shapeCast _ _ _).trans ?_
  exact (flat_paddedSlots (t := 1024) _ _ _ (by decide) s p hp).trans (flat_shapeCast _ _ _)

theorem lies17 (x : Parts) : Lies x 6560 64 x.a17 := fun s p hp => by
  refine (congrArg (fun q => flat (buffer x) (s.val * (7424 * 128) + q)) (by omega : 6560 * 128 + p = 6560 * 128 + (0 * 128 + p))).trans ?_
  refine (at_lower x s _ (by omega)).trans ?_
  unfold lower
  refine (flat_pieceSlots (T := 864) (r := 8) _ _ 0 (by simp) _ rfl 0 lowerShapes rfl (by decide +kernel) (by decide) s p (by omega)).trans ?_
  refine (flat_shapeCast _ _ _).trans ?_
  exact (flat_paddedSlots (t := 1024) _ _ _ (by decide) s p hp).trans (flat_shapeCast _ _ _)

theorem lies18 (x : Parts) : Lies x 6568 4096 x.a18 := fun s p hp => by
  refine (congrArg (fun q => flat (buffer x) (s.val * (7424 * 128) + q)) (by omega : 6568 * 128 + p = 6560 * 128 + (8 * 128 + p))).trans ?_
  refine (at_lower x s _ (by omega)).trans ?_
  unfold lower
  refine (flat_pieceSlots (T := 864) (r := 32) _ _ 1 (by simp) _ rfl 8 lowerShapes rfl (by decide +kernel) (by decide) s p (by omega)).trans ?_
  refine (flat_shapeCast _ _ _).trans (flat_shapeCast _ _ _)

theorem lies19 (x : Parts) : Lies x 6600 49152 x.a19 := fun s p hp => by
  refine (congrArg (fun q => flat (buffer x) (s.val * (7424 * 128) + q)) (by omega : 6600 * 128 + p = 6560 * 128 + (40 * 128 + p))).trans ?_
  refine (at_lower x s _ (by omega)).trans ?_
  unfold lower
  refine (flat_pieceSlots (T := 864) (r := 384) _ _ 2 (by simp) _ rfl 40 lowerShapes rfl (by decide +kernel) (by decide) s p (by omega)).trans ?_
  refine (flat_shapeCast _ _ _).trans (flat_shapeCast _ _ _)

theorem lies20 (x : Parts) : Lies x 6984 32768 x.a20 := fun s p hp => by
  refine (congrArg (fun q => flat (buffer x) (s.val * (7424 * 128) + q)) (by omega : 6984 * 128 + p = 6560 * 128 + (424 * 128 + p))).trans ?_
  refine (at_lower x s _ (by omega)).trans ?_
  unfold lower
  refine (flat_pieceSlots (T := 864) (r := 256) _ _ 3 (by simp) _ rfl 424 lowerShapes rfl (by decide +kernel) (by decide) s p (by omega)).trans ?_
  refine (flat_shapeCast _ _ _).trans (flat_shapeCast _ _ _)

theorem lies21 (x : Parts) : Lies x 7240 2048 x.a21 := fun s p hp => by
  refine (congrArg (fun q => flat (buffer x) (s.val * (7424 * 128) + q)) (by omega : 7240 * 128 + p = 6560 * 128 + (680 * 128 + p))).trans ?_
  refine (at_lower x s _ (by omega)).trans ?_
  unfold lower
  refine (flat_pieceSlots (T := 864) (r := 16) _ _ 4 (by simp) _ rfl 680 lowerShapes rfl (by decide +kernel) (by decide) s p (by omega)).trans ?_
  refine (flat_shapeCast _ _ _).trans rfl

variable (m : (ℓ : Loc nD τ sig) → Buf (Elt Ideal) ℓ)

/-- The arguments the run starts with. -/
def parts (c : Dev nD) : Parts where
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)
  a17 := m ((c : Thread nD τ).loc main_arg17)
  a18 := m ((c : Thread nD τ).loc main_arg18)
  a19 := m ((c : Thread nD τ).loc main_arg19)
  a20 := m ((c : Thread nD τ).loc main_arg20)
  a21 := m ((c : Thread nD τ).loc main_arg21)

set_option maxHeartbeats 8000000 in
/-- The lines before the region leave the buffer of the arguments. -/
theorem packed_eq (c : Dev nD) : packed m c = buffer (parts m c) := by
  unfold packed V V0
  simp only [hostOps0, List.flatten_cons, List.flatten_nil, List.append_nil, List.cons_append, List.nil_append]
  after_results_simp
  rfl

end Cert.KernelSsIdeal.Small

end
-- ==== Proof.SsUnpack.lean ====
/-
  The sums of the small weights' gradients taken out of the array of sums: each weight's rows are cut out and given their
  shape again, and of the convolutions a device keeps its own columns.
-/
module

public import proofs.«01_k».proof.Proof.SsPack

@[expose] public section

noncomputable section

namespace Cert.KernelSsIdeal.Small

open Idealize.ShloMosaic Idealize.ShloMosaic.TcCoe Idealize.SL.Sem
open Cert.KernelSsIdeal Cert.KernelSsIdeal.Gen Cert.Packing
open scoped BigOperators

/-- The sums over the eight devices of an array's gradients. -/
def total {S : Shape} (n : ℕ) (T : Shape) (a : S.Idx → EReal) : T.Idx → EReal := fun i => overSlots a n (T.rowMajor i).val

/-- A device's index, as the host holds it. -/
abbrev Index := (⟨S_, .i32⟩ : BufTy).Contents (Elt Ideal)

/-- The first column of a device's own `w` columns of `all`. -/
def firstColumn (w all : BitVec 32) (me : Index) : Index :=
  select (cmpi .slt (muli me (constantI S_ 32 w)) (constantI S_ 32 0#32)) (addi (muli me (constantI S_ 32 w)) (constantI S_ 32 all))
    (muli me (constantI S_ 32 w))

/-- A device's own columns of the two convolutions' gradients. -/
def own18 (me : Index) (x : S4x4x3072.Idx → EReal) : S4x4x384.Idx → EReal :=
  Host.dynamicSlice S4x4x384 (x : (⟨S4x4x3072, .f32⟩ : BufTy).Contents (Elt Ideal))
    (fun k => (((![constantI S_ 32 0#32, constantI S_ 32 0#32, firstColumn 384#32 3072#32 me] : Fin 3 → Index) k) (Shape.Idx.first h_S_)).toInt)
    sliceFits_S4x4x3072_S4x4x384
def own19 (me : Index) (x : S4x4x2048.Idx → EReal) : S4x4x256.Idx → EReal :=
  Host.dynamicSlice S4x4x256 (x : (⟨S4x4x2048, .f32⟩ : BufTy).Contents (Elt Ideal))
    (fun k => (((![constantI S_ 32 0#32, constantI S_ 32 0#32, firstColumn 256#32 2048#32 me] : Fin 3 → Index) k) (Shape.Idx.first h_S_)).toInt)
    sliceFits_S4x4x2048_S4x4x256

/-! Each weight's rows of an array of 7424 rows, in the weight's shape, and where its numbers come from. -/

def cut1 (y : S7424x128.Idx → EReal) : S4x2048.Idx → EReal :=
  shapeCast S4x2048 (extractStridedSlice S64x128 ![0, 0] y slices_S7424x128_S64x128_0_0) shapeCasts_S64x128_S4x2048
theorem cut1_flat (y : S7424x128.Idx → EReal) (p : ℕ) (hp : p < 8192) : flat (cut1 y) p = flat y (0 * 128 + p) := by
  unfold cut1
  exact (flat_shapeCast _ _ _).trans (flat_rows y _ (by omega) p (by omega))

def cut2 (y : S7424x128.Idx → EReal) : S4x8.Idx → EReal :=
  shapeCast S4x8 (extractStridedSlice S32 ![0] (shapeCast S1024 (extractStridedSlice S8x128 ![64, 0] y slices_S7424x128_S8x128_64_0) shapeCasts_S8x128_S1024) slices_S1024_S32_0) shapeCasts_S32_S4x8
theorem cut2_flat (y : S7424x128.Idx → EReal) (p : ℕ) (hp : p < 32) : flat (cut2 y) p = flat y (64 * 128 + p) := by
  unfold cut2
  exact (flat_shapeCast _ _ _).trans ((flat_front _ _ (by omega) p (by omega)).trans ((flat_shapeCast _ _ _).trans
    (flat_rows y _ (by omega) p (by omega))))

def cut3 (y : S7424x128.Idx → EReal) : S4x8.Idx → EReal :=
  shapeCast S4x8 (extractStridedSlice S32 ![0] (shapeCast S1024 (extractStridedSlice S8x128 ![72, 0] y slices_S7424x128_S8x128_72_0) shapeCasts_S8x128_S1024) slices_S1024_S32_0) shapeCasts_S32_S4x8
theorem cut3_flat (y : S7424x128.Idx → EReal) (p : ℕ) (hp : p < 32) : flat (cut3 y) p = flat y (72 * 128 + p) := by
  unfold cut3
  exact (flat_shapeCast _ _ _).trans ((flat_front _ _ (by omega) p (by omega)).trans ((flat_shapeCast _ _ _).trans
    (flat_rows y _ (by omega) p (by omega))))

def cut4 (y : S7424x128.Idx → EReal) : S4x128.Idx → EReal :=
  shapeCast S4x128 (extractStridedSlice S512 ![0] (shapeCast S1024 (extractStridedSlice S8x128 ![80, 0] y slices_S7424x128_S8x128_80_0) shapeCasts_S8x128_S1024) slices_S1024_S512_0) shapeCasts_S512_S4x128
theorem cut4_flat (y : S7424x128.Idx → EReal) (p : ℕ) (hp : p < 512) : flat (cut4 y) p = flat y (80 * 128 + p) := by
  unfold cut4
  exact (flat_shapeCast _ _ _).trans ((flat_front _ _ (by omega) p (by omega)).trans ((flat_shapeCast _ _ _).trans
    (flat_rows y _ (by omega) p (by omega))))

def cut5 (y : S7424x128.Idx → EReal) : S4x48x64.Idx → EReal :=
  shapeCast S4x48x64 (extractStridedSlice S96x128 ![88, 0] y slices_S7424x128_S96x128_88_0) shapeCasts_S96x128_S4x48x64
theorem cut5_flat (y : S7424x128.Idx → EReal) (p : ℕ) (hp : p < 12288) : flat (cut5 y) p = flat y (88 * 128 + p) := by
  unfold cut5
  exact (flat_shapeCast _ _ _).trans (flat_rows y _ (by omega) p (by omega))

def cut6 (y : S7424x128.Idx → EReal) : S4x48x64.Idx → EReal :=
  shapeCast S4x48x64 (extractStridedSlice S96x128 ![184, 0] y slices_S7424x128_S96x128_184_0) shapeCasts_S96x128_S4x48x64
theorem cut6_flat (y : S7424x128.Idx → EReal) (p : ℕ) (hp : p < 12288) : flat (cut6 y) p = flat y (184 * 128 + p) := by
  unfold cut6
  exact (flat_shapeCast _ _ _).trans (flat_rows y _ (by omega) p (by omega))

def cut7 (y : S7424x128.Idx → EReal) : S4x48.Idx → EReal :=
  shapeCast S4x48 (extractStridedSlice S192 ![0] (shapeCast S1024 (extractStridedSlice S8x128 ![280, 0] y slices_S7424x128_S8x128_280_0) shapeCasts_S8x128_S1024) slices_S1024_S192_0) shapeCasts_S192_S4x48
theorem cut7_flat (y : S7424x128.Idx → EReal) (p : ℕ) (hp : p < 192) : flat (cut7 y) p = flat y (280 * 128 + p) := by
  unfold cut7
  exact (flat_shapeCast _ _ _).trans ((flat_front _ _ (by omega) p (by omega)).trans ((flat_shapeCast _ _ _).trans
    (flat_rows y _ (by omega) p (by omega))))

def cut8 (y : S7424x128.Idx → EReal) : S4x48x64x16.Idx → EReal :=
  shapeCast S4x48x64x16 (extractStridedSlice S1536x128 ![288, 0] y slices_S7424x128_S1536x128_288_0) shapeCasts_S1536x128_S4x48x64x16
theorem cut8_flat (y : S7424x128.Idx → EReal) (p : ℕ) (hp : p < 196608) : flat (cut8 y) p = flat y (288 * 128 + p) := by
  unfold cut8
  exact (flat_shapeCast _ _ _).trans (flat_rows y _ (by omega) p (by omega))

def cut9 (y : S7424x128.Idx → EReal) : S4x48x64x16.Idx → EReal :=
  shapeCast S4x48x64x16 (extractStridedSlice S1536x128 ![1824, 0] y slices_S7424x128_S1536x128_1824_0) shapeCasts_S1536x128_S4x48x64x16
theorem cut9_flat (y : S7424x128.Idx → EReal) (p : ℕ) (hp : p < 196608) : flat (cut9 y) p = flat y (1824 * 128 + p) := by
  unfold cut9
  exact (flat_shapeCast _ _ _).trans (flat_rows y _ (by omega) p (by omega))

def cut10 (y : S7424x128.Idx → EReal) : S4x48x16x64.Idx → EReal :=
  shapeCast S4x48x16x64 (extractStridedSlice S1536x128 ![3360, 0] y slices_S7424x128_S1536x128_3360_0) shapeCasts_S1536x128_S4x48x16x64
theorem cut10_flat (y : S7424x128.Idx → EReal) (p : ℕ) (hp : p < 196608) : flat (cut10 y) p = flat y (3360 * 128 + p) := by
  unfold cut10
  exact (flat_shapeCast _ _ _).trans (flat_rows y _ (by omega) p (by omega))

def cut11 (y : S7424x128.Idx → EReal) : S4x48x16x64.Idx → EReal :=
  shapeCast S4x48x16x64 (extractStridedSlice S1536x128 ![4896, 0] y slices_S7424x128_S1536x128_4896_0) shapeCasts_S1536x128_S4x48x16x64
theorem cut11_flat (y : S7424x128.Idx → EReal) (p : ℕ) (hp : p < 196608) : flat (cut11 y) p = flat y (4896 * 128 + p) := by
  unfold cut11
  exact (flat_shapeCast _ _ _).trans (flat_rows y _ (by omega) p (by omega))

def cut12 (y : S7424x128.Idx → EReal) : S4x48x16.Idx → EReal :=
  shapeCast S4x48x16 (extractStridedSlice S24x128 ![6432, 0] y slices_S7424x128_S24x128_6432_0) shapeCasts_S24x128_S4x48x16
theorem cut12_flat (y : S7424x128.Idx → EReal) (p : ℕ) (hp : p < 3072) : flat (cut12 y) p = flat y (6432 * 128 + p) := by
  unfold cut12
  exact (flat_shapeCast _ _ _).trans (flat_rows y _ (by omega) p (by omega))

def cut13 (y : S7424x128.Idx → EReal) : S4x768.Idx → EReal :=
  shapeCast S4x768 (extractStridedSlice S24x128 ![6456, 0] y slices_S7424x128_S24x128_6456_0) shapeCasts_S24x128_S4x768
theorem cut13_flat (y : S7424x128.Idx → EReal) (p : ℕ) (hp : p < 3072) : flat (cut13 y) p = flat y (6456 * 128 + p) := by
  unfold cut13
  exact (flat_shapeCast _ _ _).trans (flat_rows y _ (by omega) p (by omega))

def cut14 (y : S7424x128.Idx → EReal) : S4x2048.Idx → EReal :=
  shapeCast S4x2048 (extractStridedSlice S64x128 ![6480, 0] y slices_S7424x128_S64x128_6480_0) shapeCasts_S64x128_S4x2048
theorem cut14_flat (y : S7424x128.Idx → EReal) (p : ℕ) (hp : p < 8192) : flat (cut14 y) p = flat y (6480 * 128 + p) := by
  unfold cut14
  exact (flat_shapeCast _ _ _).trans (flat_rows y _ (by omega) p (by omega))

def cut15 (y : S7424x128.Idx → EReal) : S4x16.Idx → EReal :=
  shapeCast S4x16 (extractStridedSlice S64 ![0] (shapeCast S1024 (extractStridedSlice S8x128 ![6544, 0] y slices_S7424x128_S8x128_6544_0) shapeCasts_S8x128_S1024) slices_S1024_S64_0) shapeCasts_S64_S4x16
theorem cut15_flat (y : S7424x128.Idx → EReal) (p : ℕ) (hp : p < 64) : flat (cut15 y) p = flat y (6544 * 128 + p) := by
  unfold cut15
  exact (flat_shapeCast _ _ _).trans ((flat_front _ _ (by omega) p (by omega)).trans ((flat_shapeCast _ _ _).trans
    (flat_rows y _ (by omega) p (by omega))))

def cut16 (y : S7424x128.Idx → EReal) : S4x16.Idx → EReal :=
  shapeCast S4x16 (extractStridedSlice S64 ![0] (shapeCast S1024 (extractStridedSlice S8x128 ![6552, 0] y slices_S7424x128_S8x128_6552_0) shapeCasts_S8x128_S1024) slices_S1024_S64_0) shapeCasts_S64_S4x16
theorem cut16_flat (y : S7424x128.Idx → EReal) (p : ℕ) (hp : p < 64) : flat (cut16 y) p = flat y (6552 * 128 + p) := by
  unfold cut16
  exact (flat_shapeCast _ _ _).trans ((flat_front _ _ (by omega) p (by omega)).trans ((flat_shapeCast _ _ _).trans
    (flat_rows y _ (by omega) p (by omega))))

def cut17 (y : S7424x128.Idx → EReal) : S4x16.Idx → EReal :=
  shapeCast S4x16 (extractStridedSlice S64 ![0] (shapeCast S1024 (extractStridedSlice S8x128 ![6560, 0] y slices_S7424x128_S8x128_6560_0) shapeCasts_S8x128_S1024) slices_S1024_S64_0) shapeCasts_S64_S4x16
theorem cut17_flat (y : S7424x128.Idx → EReal) (p : ℕ) (hp : p < 64) : flat (cut17 y) p = flat y (6560 * 128 + p) := by
  unfold cut17
  exact (flat_shapeCast _ _ _).trans ((flat_front _ _ (by omega) p (by omega)).trans ((flat_shapeCast _ _ _).trans
    (flat_rows y _ (by omega) p (by omega))))

def cut18 (y : S7424x128.Idx → EReal) : S4x1024.Idx → EReal :=
  shapeCast S4x1024 (extractStridedSlice S32x128 ![6568, 0] y slices_S7424x128_S32x128_6568_0) shapeCasts_S32x128_S4x1024
theorem cut18_flat (y : S7424x128.Idx → EReal) (p : ℕ) (hp : p < 4096) : flat (cut18 y) p = flat y (6568 * 128 + p) := by
  unfold cut18
  exact (flat_shapeCast _ _ _).trans (flat_rows y _ (by omega) p (by omega))

def cut19 (y : S7424x128.Idx → EReal) : S4x4x3072.Idx → EReal :=
  shapeCast S4x4x3072 (extractStridedSlice S384x128 ![6600, 0] y slices_S7424x128_S384x128_6600_0) shapeCasts_S384x128_S4x4x3072
theorem cut19_flat (y : S7424x128.Idx → EReal) (p : ℕ) (hp : p < 49152) : flat (cut19 y) p = flat y (6600 * 128 + p) := by
  unfold cut19
  exact (flat_shapeCast _ _ _).trans (flat_rows y _ (by omega) p (by omega))

def cut20 (y : S7424x128.Idx → EReal) : S4x4x2048.Idx → EReal :=
  shapeCast S4x4x2048 (extractStridedSlice S256x128 ![6984, 0] y slices_S7424x128_S256x128_6984_0) shapeCasts_S256x128_S4x4x2048
theorem cut20_flat (y : S7424x128.Idx → EReal) (p : ℕ) (hp : p < 32768) : flat (cut20 y) p = flat y (6984 * 128 + p) := by
  unfold cut20
  exact (flat_shapeCast _ _ _).trans (flat_rows y _ (by omega) p (by omega))

def cut21 (y : S7424x128.Idx → EReal) : S2048.Idx → EReal :=
  shapeCast S2048 (extractStridedSlice S16x128 ![7240, 0] y slices_S7424x128_S16x128_7240_0) shapeCasts_S16x128_S2048
theorem cut21_flat (y : S7424x128.Idx → EReal) (p : ℕ) (hp : p < 2048) : flat (cut21 y) p = flat y (7240 * 128 + p) := by
  unfold cut21
  exact (flat_shapeCast _ _ _).trans (flat_rows y _ (by omega) p (by omega))

variable (m : (ℓ : Loc nD τ sig) → Buf (Elt Ideal) ℓ)

/-- A weight's rows of the array of sums hold the sums of its gradients. -/
theorem total_of (c : Dev nD) {S T : Shape} {n off : ℕ} (cut : T.Idx → EReal) (a : S.Idx → EReal) (hn : T.numel = n)
    (hoff : off * 128 + n ≤ 7424 * 128) (hcut : ∀ p < n, flat cut p = flat (sums m c) (off * 128 + p))
    (hlies : Lies (parts m c) off n a) : cut = total n T a := funext fun i => by
  have hi : (T.rowMajor i).val < n := hn ▸ (T.rowMajor i).isLt
  rw [← flat_rowMajor cut i, hcut _ hi, sums_flat m c _ (by omega), packed_eq]
  exact Finset.sum_congr rfl fun s _ => hlies s _ hi

theorem total1 (c : Dev nD) : cut1 (sums m c) = total 8192 S4x2048 (parts m c).a1 :=
  total_of m c (off := 0) _ _ (by decide +kernel) (by omega) (fun p hp => cut1_flat _ p hp) (lies1 _)
theorem total2 (c : Dev nD) : cut2 (sums m c) = total 32 S4x8 (parts m c).a2 :=
  total_of m c (off := 64) _ _ (by decide +kernel) (by omega) (fun p hp => cut2_flat _ p hp) (lies2 _)
theorem total3 (c : Dev nD) : cut3 (sums m c) = total 32 S4x8 (parts m c).a3 :=
  total_of m c (off := 72) _ _ (by decide +kernel) (by omega) (fun p hp => cut3_flat _ p hp) (lies3 _)
theorem total4 (c : Dev nD) : cut4 (sums m c) = total 512 S4x128 (parts m c).a4 :=
  total_of m c (off := 80) _ _ (by decide +kernel) (by omega) (fun p hp => cut4_flat _ p hp) (lies4 _)
theorem total5 (c : Dev nD) : cut5 (sums m c) = total 12288 S4x48x64 (parts m c).a5 :=
  total_of m c (off := 88) _ _ (by decide +kernel) (by omega) (fun p hp => cut5_flat _ p hp) (lies5 _)
theorem total6 (c : Dev nD) : cut6 (sums m c) = total 12288 S4x48x64 (parts m c).a6 :=
  total_of m c (off := 184) _ _ (by decide +kernel) (by omega) (fun p hp => cut6_flat _ p hp) (lies6 _)
theorem total7 (c : Dev nD) : cut7 (sums m c) = total 192 S4x48 (parts m c).a7 :=
  total_of m c (off := 280) _ _ (by decide +kernel) (by omega) (fun p hp => cut7_flat _ p hp) (lies7 _)
theorem total8 (c : Dev nD) : cut8 (sums m c) = total 196608 S4x48x64x16 (parts m c).a8 :=
  total_of m c (off := 288) _ _ (by decide +kernel) (by omega) (fun p hp => cut8_flat _ p hp) (lies8 _)
theorem total9 (c : Dev nD) : cut9 (sums m c) = total 196608 S4x48x64x16 (parts m c).a9 :=
  total_of m c (off := 1824) _ _ (by decide +kernel) (by omega) (fun p hp => cut9_flat _ p hp) (lies9 _)
theorem total10 (c : Dev nD) : cut10 (sums m c) = total 196608 S4x48x16x64 (parts m c).a10 :=
  total_of m c (off := 3360) _ _ (by decide +kernel) (by omega) (fun p hp => cut10_flat _ p hp) (lies10 _)
theorem total11 (c : Dev nD) : cut11 (sums m c) = total 196608 S4x48x16x64 (parts m c).a11 :=
  total_of m c (off := 4896) _ _ (by decide +kernel) (by omega) (fun p hp => cut11_flat _ p hp) (lies11 _)
theorem total12 (c : Dev nD) : cut12 (sums m c) = total 3072 S4x48x16 (parts m c).a12 :=
  total_of m c (off := 6432) _ _ (by decide +kernel) (by omega) (fun p hp => cut12_flat _ p hp) (lies12 _)
theorem total13 (c : Dev nD) : cut13 (sums m c) = total 3072 S4x768 (parts m c).a13 :=
  total_of m c (off := 6456) _ _ (by decide +kernel) (by omega) (fun p hp => cut13_flat _ p hp) (lies13 _)
theorem total14 (c : Dev nD) : cut14 (sums m c) = total 8192 S4x2048 (parts m c).a14 :=
  total_of m c (off := 6480) _ _ (by decide +kernel) (by omega) (fun p hp => cut14_flat _ p hp) (lies14 _)
theorem total15 (c : Dev nD) : cut15 (sums m c) = total 64 S4x16 (parts m c).a15 :=
  total_of m c (off := 6544) _ _ (by decide +kernel) (by omega) (fun p hp => cut15_flat _ p hp) (lies15 _)
theorem total16 (c : Dev nD) : cut16 (sums m c) = total 64 S4x16 (parts m c).a16 :=
  total_of m c (off := 6552) _ _ (by decide +kernel) (by omega) (fun p hp => cut16_flat _ p hp) (lies16 _)
theorem total17 (c : Dev nD) : cut17 (sums m c) = total 64 S4x16 (parts m c).a17 :=
  total_of m c (off := 6560) _ _ (by decide +kernel) (by omega) (fun p hp => cut17_flat _ p hp) (lies17 _)
theorem total18 (c : Dev nD) : cut18 (sums m c) = total 4096 S4x1024 (parts m c).a18 :=
  total_of m c (off := 6568) _ _ (by decide +kernel) (by omega) (fun p hp => cut18_flat _ p hp) (lies18 _)
theorem total19 (c : Dev nD) : cut19 (sums m c) = total 49152 S4x4x3072 (parts m c).a19 :=
  total_of m c (off := 6600) _ _ (by decide +kernel) (by omega) (fun p hp => cut19_flat _ p hp) (lies19 _)
theorem total20 (c : Dev nD) : cut20 (sums m c) = total 32768 S4x4x2048 (parts m c).a20 :=
  total_of m c (off := 6984) _ _ (by decide +kernel) (by omega) (fun p hp => cut20_flat _ p hp) (lies20 _)
theorem total21 (c : Dev nD) : cut21 (sums m c) = total 2048 S2048 (parts m c).a21 :=
  total_of m c (off := 7240) _ _ (by decide +kernel) (by omega) (fun p hp => cut21_flat _ p hp) (lies21 _)

end Cert.KernelSsIdeal.Small

end
-- ==== Proof.SsLast.lean ====
/-
  What the host lines after the region leave in each result of the sum of the small gradients.
-/
module

public import proofs.«01_k».proof.Proof.SsUnpack

@[expose] public section

noncomputable section

namespace Cert.KernelSsIdeal.Small

open Idealize.ShloMosaic Idealize.ShloMosaic.TcCoe Idealize.SL.Sem
open Cert.KernelSsIdeal Cert.KernelSsIdeal.Gen Cert.Packing

variable (m : (ℓ : Loc nD τ sig) → Buf (Elt Ideal) ℓ)

/-- What a buffer holds after the last host line. -/
abbrev last (c : Dev nD) (b : Ref sig .tc) := Pipeline.afterTail₀ cfgs (dats m) 0 (V0 m) [hostOps1] c b

/-- The device's index as given. -/
def index (c : Dev nD) : Index := m ((c.tc : Thread nD τ).loc main_arg0)

/-- What the buffers hold when the region is left. -/
def exit (c : Dev nD) : Valuation τ sig (Elt Ideal) :=
  Pipeline.withArrays (cfgs 0).spec c (V0 m c) (fun w => (dats m 0 c).arrAt w (cfgs 0).N)
theorem region_sums (c : Dev nD) : exit m c (Proc.devRef .tc main_v67) = sums m c :=
  Pipeline.withArrays_arr cfg0.spec (by decide +kernel) c (V0 m c) (fun w => (dats m 0 c).arrAt w cfg0.N) 1
theorem region_index (c : Dev nD) : exit m c (Proc.devRef .tc main_arg0) = index m c :=
  (Pipeline.withArrays_of_ne _ c (V0 m c) _ main_arg0 (by exact (by decide : ∀ w, Pipeline.arrRef spec0 w ≠ main_arg0))).trans
    (V_main_arg0 m c)

set_option maxHeartbeats 8000000 in
theorem last1 (c : Dev nD) : last m c main_v69 = cut1 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut1 hs
set_option maxHeartbeats 8000000 in
theorem last2 (c : Dev nD) : last m c main_v73 = cut2 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut2 hs
set_option maxHeartbeats 8000000 in
theorem last3 (c : Dev nD) : last m c main_v77 = cut3 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut3 hs
set_option maxHeartbeats 8000000 in
theorem last4 (c : Dev nD) : last m c main_v81 = cut4 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut4 hs
set_option maxHeartbeats 8000000 in
theorem last5 (c : Dev nD) : last m c main_v83 = cut5 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut5 hs
set_option maxHeartbeats 8000000 in
theorem last6 (c : Dev nD) : last m c main_v85 = cut6 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut6 hs
set_option maxHeartbeats 8000000 in
theorem last7 (c : Dev nD) : last m c main_v89 = cut7 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut7 hs
set_option maxHeartbeats 8000000 in
theorem last8 (c : Dev nD) : last m c main_v91 = cut8 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut8 hs
set_option maxHeartbeats 8000000 in
theorem last9 (c : Dev nD) : last m c main_v93 = cut9 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut9 hs
set_option maxHeartbeats 8000000 in
theorem last10 (c : Dev nD) : last m c main_v95 = cut10 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut10 hs
set_option maxHeartbeats 8000000 in
theorem last11 (c : Dev nD) : last m c main_v97 = cut11 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut11 hs
set_option maxHeartbeats 8000000 in
theorem last12 (c : Dev nD) : last m c main_v99 = cut12 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut12 hs
set_option maxHeartbeats 8000000 in
theorem last13 (c : Dev nD) : last m c main_v101 = cut13 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut13 hs
set_option maxHeartbeats 8000000 in
theorem last14 (c : Dev nD) : last m c main_v103 = cut14 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut14 hs
set_option maxHeartbeats 8000000 in
theorem last15 (c : Dev nD) : last m c main_v107 = cut15 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut15 hs
set_option maxHeartbeats 8000000 in
theorem last16 (c : Dev nD) : last m c main_v111 = cut16 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut16 hs
set_option maxHeartbeats 8000000 in
theorem last17 (c : Dev nD) : last m c main_v115 = cut17 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut17 hs
set_option maxHeartbeats 8000000 in
theorem last18 (c : Dev nD) : last m c main_v117 = cut18 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut18 hs
set_option maxHeartbeats 8000000 in
theorem last19 (c : Dev nD) : last m c main_v128 = own18 (index m c) (cut19 (sums m c)) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  unfold own18
  congr 1
  · exact congrArg cut19 hs
  · funext k
    fin_cases k
    · rfl
    · rfl
    · simp only [Fin.reduceFinMk, Matrix.cons_val]
      after_results_simp
      exact congrArg (fun v : Index => (firstColumn 384#32 3072#32 v (Shape.Idx.first h_S_)).toInt) hi
set_option maxHeartbeats 8000000 in
theorem last20 (c : Dev nD) : last m c main_v133 = own19 (index m c) (cut20 (sums m c)) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  unfold own19
  congr 1
  · exact congrArg cut20 hs
  · funext k
    fin_cases k
    · rfl
    · rfl
    · simp only [Fin.reduceFinMk, Matrix.cons_val]
      after_results_simp
      exact congrArg (fun v : Index => (firstColumn 256#32 2048#32 v (Shape.Idx.first h_S_)).toInt) hi
set_option maxHeartbeats 8000000 in
theorem last21 (c : Dev nD) : last m c main_v123 = cut21 (sums m c) := by
  have hs := region_sums m c
  have hi := region_index m c
  unfold last Pipeline.afterTail₀
  unfold exit at hs hi
  generalize Pipeline.withArrays (cfgs 0).spec c (V0 m c) (fun w => (dats m 0 c).arrAt w (cfgs 0).N) = W at hs hi ⊢
  simp only [hostOps1, List.flatten_cons, List.flatten_nil, List.append_nil, List.cons_append, List.nil_append]
  after_results_simp
  exact congrArg cut21 hs

end Cert.KernelSsIdeal.Small

end
-- ==== Proof.SsValue.lean ====
/-
  The sum of the small weights' gradients over the eight devices: packing them into one buffer, adding the slots tile by
  tile and taking them out again gives the sum of each.
-/
module

public import proofs.«01_k».proof.Proof.SsLast
public import proofs.«01_k».proof.Proof.Gen.ReferenceSsIdeal.Run

@[expose] public section

noncomputable section

namespace Cert.SsValue

open Idealize.ShloMosaic Idealize.ShloMosaic.TcCoe Idealize.SL.Sem
open Cert.KernelSsIdeal Cert.KernelSsIdeal.Gen Cert.KernelSsIdeal.Small Cert.Packing

/-- The kernel's results: the sums, of the convolutions the device's own columns. -/
theorem kernel_sums (m : (ℓ : Loc nD τ sig) → Buf (Elt Ideal) ℓ) (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v69) = total 8192 S4x2048 (parts m c).a1
    ∧ r.2.mem ((c.tc : Thread nD τ).loc main_v73) = total 32 S4x8 (parts m c).a2
    ∧ r.2.mem ((c.tc : Thread nD τ).loc main_v77) = total 32 S4x8 (parts m c).a3
    ∧ r.2.mem ((c.tc : Thread nD τ).loc main_v81) = total 512 S4x128 (parts m c).a4
    ∧ r.2.mem ((c.tc : Thread nD τ).loc main_v83) = total 12288 S4x48x64 (parts m c).a5
    ∧ r.2.mem ((c.tc : Thread nD τ).loc main_v85) = total 12288 S4x48x64 (parts m c).a6
    ∧ r.2.mem ((c.tc : Thread nD τ).loc main_v89) = total 192 S4x48 (parts m c).a7
    ∧ r.2.mem ((c.tc : Thread nD τ).loc main_v91) = total 196608 S4x48x64x16 (parts m c).a8
    ∧ r.2.mem ((c.tc : Thread nD τ).loc main_v93) = total 196608 S4x48x64x16 (parts m c).a9
    ∧ r.2.mem ((c.tc : Thread nD τ).loc main_v95) = total 196608 S4x48x16x64 (parts m c).a10
    ∧ r.2.mem ((c.tc : Thread nD τ).loc main_v97) = total 196608 S4x48x16x64 (parts m c).a11
    ∧ r.2.mem ((c.tc : Thread nD τ).loc main_v99) = total 3072 S4x48x16 (parts m c).a12
    ∧ r.2.mem ((c.tc : Thread nD τ).loc main_v101) = total 3072 S4x768 (parts m c).a13
    ∧ r.2.mem ((c.tc : Thread nD τ).loc main_v103) = total 8192 S4x2048 (parts m c).a14
    ∧ r.2.mem ((c.tc : Thread nD τ).loc main_v107) = total 64 S4x16 (parts m c).a15
    ∧ r.2.mem ((c.tc : Thread nD τ).loc main_v111) = total 64 S4x16 (parts m c).a16
    ∧ r.2.mem ((c.tc : Thread nD τ).loc main_v115) = total 64 S4x16 (parts m c).a17
    ∧ r.2.mem ((c.tc : Thread nD τ).loc main_v117) = total 4096 S4x1024 (parts m c).a18
    ∧ r.2.mem ((c.tc : Thread nD τ).loc main_v128) = own18 (index m c) (total 49152 S4x4x3072 (parts m c).a19)
    ∧ r.2.mem ((c.tc : Thread nD τ).loc main_v133) = own19 (index m c) (total 32768 S4x4x2048 (parts m c).a20)
    ∧ r.2.mem ((c.tc : Thread nD τ).loc main_v123) = total 2048 S2048 (parts m c).a21 := by
  have get := fun b hb => (h c).2 b hb
  exact ⟨(get main_v69 (Pipeline.mem_restRefs_of _ (by decide) (by decide))).trans ((last1 m c).trans (total1 m c)),
    (get main_v73 (Pipeline.mem_restRefs_of _ (by decide) (by decide))).trans ((last2 m c).trans (total2 m c)),
    (get main_v77 (Pipeline.mem_restRefs_of _ (by decide) (by decide))).trans ((last3 m c).trans (total3 m c)),
    (get main_v81 (Pipeline.mem_restRefs_of _ (by decide) (by decide))).trans ((last4 m c).trans (total4 m c)),
    (get main_v83 (Pipeline.mem_restRefs_of _ (by decide) (by decide))).trans ((last5 m c).trans (total5 m c)),
    (get main_v85 (Pipeline.mem_restRefs_of _ (by decide) (by decide))).trans ((last6 m c).trans (total6 m c)),
    (get main_v89 (Pipeline.mem_restRefs_of _ (by decide) (by decide))).trans ((last7 m c).trans (total7 m c)),
    (get main_v91 (Pipeline.mem_restRefs_of _ (by decide) (by decide))).trans ((last8 m c).trans (total8 m c)),
    (get main_v93 (Pipeline.mem_restRefs_of _ (by decide) (by decide))).trans ((last9 m c).trans (total9 m c)),
    (get main_v95 (Pipeline.mem_restRefs_of _ (by decide) (by decide))).trans ((last10 m c).trans (total10 m c)),
    (get main_v97 (Pipeline.mem_restRefs_of _ (by decide) (by decide))).trans ((last11 m c).trans (total11 m c)),
    (get main_v99 (Pipeline.mem_restRefs_of _ (by decide) (by decide))).trans ((last12 m c).trans (total12 m c)),
    (get main_v101 (Pipeline.mem_restRefs_of _ (by decide) (by decide))).trans ((last13 m c).trans (total13 m c)),
    (get main_v103 (Pipeline.mem_restRefs_of _ (by decide) (by decide))).trans ((last14 m c).trans (total14 m c)),
    (get main_v107 (Pipeline.mem_restRefs_of _ (by decide) (by decide))).trans ((last15 m c).trans (total15 m c)),
    (get main_v111 (Pipeline.mem_restRefs_of _ (by decide) (by decide))).trans ((last16 m c).trans (total16 m c)),
    (get main_v115 (Pipeline.mem_restRefs_of _ (by decide) (by decide))).trans ((last17 m c).trans (total17 m c)),
    (get main_v117 (Pipeline.mem_restRefs_of _ (by decide) (by decide))).trans ((last18 m c).trans (total18 m c)),
    (get main_v128 (Pipeline.mem_restRefs_of _ (by decide) (by decide))).trans ((last19 m c).trans (congrArg (own18 (index m c)) (total19 m c))),
    (get main_v133 (Pipeline.mem_restRefs_of _ (by decide) (by decide))).trans ((last20 m c).trans (congrArg (own19 (index m c)) (total20 m c))),
    (get main_v123 (Pipeline.mem_restRefs_of _ (by decide) (by decide))).trans ((last21 m c).trans (total21 m c))⟩

/-- The sums of each weight's gradients: the kernel's results are the reference's. -/
theorem algebraic : Cert.algebraic_KernelSsIdeal_ReferenceSsIdeal (hKernelSsIdeal := Cert.KernelSsIdeal.Gen.facts)
    (hReferenceSsIdeal := Cert.ReferenceSsIdeal.Gen.facts) :=
  fun m ρ m' ρ' _ hag => ⟨fun c => total 8192 S4x2048 (parts m c).a1,
    fun c => total 32 S4x8 (parts m c).a2,
    fun c => total 32 S4x8 (parts m c).a3,
    fun c => total 512 S4x128 (parts m c).a4,
    fun c => total 12288 S4x48x64 (parts m c).a5,
    fun c => total 12288 S4x48x64 (parts m c).a6,
    fun c => total 192 S4x48 (parts m c).a7,
    fun c => total 196608 S4x48x64x16 (parts m c).a8,
    fun c => total 196608 S4x48x64x16 (parts m c).a9,
    fun c => total 196608 S4x48x16x64 (parts m c).a10,
    fun c => total 196608 S4x48x16x64 (parts m c).a11,
    fun c => total 3072 S4x48x16 (parts m c).a12,
    fun c => total 3072 S4x768 (parts m c).a13,
    fun c => total 8192 S4x2048 (parts m c).a14,
    fun c => total 64 S4x16 (parts m c).a15,
    fun c => total 64 S4x16 (parts m c).a16,
    fun c => total 64 S4x16 (parts m c).a17,
    fun c => total 4096 S4x1024 (parts m c).a18,
    fun c => own18 (index m c) (total 49152 S4x4x3072 (parts m c).a19),
    fun c => own19 (index m c) (total 32768 S4x4x2048 (parts m c).a20),
    fun c => total 2048 S2048 (parts m c).a21,
    (θ_run _ _ _).mono (fun r h c => by
      obtain ⟨h1, h2, h3, h4, h5, h6, h7, h8, h9, h10, h11, h12, h13, h14, h15, h16, h17, h18, h19, h20, h21⟩ := kernel_sums m r h.1 c
      exact ⟨h1, h2, h3, h4, h5, h6, h7, h8, h9, h10, h11, h12, h13, h14, h15, h16, h17, h18, h19, h20, h21, h.2 c⟩)
      (θ_run_and (Cert.KernelSsIdeal.Gen.run_main m ρ) (Cert.KernelSsIdeal.Gen.unchanged m ρ)),
    (θ_run _ _ _).mono (fun _ h c => by
      obtain ⟨h1, h2, h3, h4, h5, h6, h7, h8, h9, h10, h11, h12, h13, h14, h15, h16, h17, h18, h19, h20, h21, hr⟩ := h c
      obtain ⟨g0, g1, g2, g3, g4, g5, g6, g7, g8, g9, g10, g11, g12, g13, g14, g15, g16, g17, g18, g19, g20, g21⟩ := hag c
      rw [g1] at h1
      rw [g2] at h2
      rw [g3] at h3
      rw [g4] at h4
      rw [g5] at h5
      rw [g6] at h6
      rw [g7] at h7
      rw [g8] at h8
      rw [g9] at h9
      rw [g10] at h10
      rw [g11] at h11
      rw [g12] at h12
      rw [g13] at h13
      rw [g14] at h14
      rw [g15] at h15
      rw [g16] at h16
      rw [g17] at h17
      rw [g18] at h18
      rw [g19, g0] at h19
      rw [g20, g0] at h20
      rw [g21] at h21
      exact ⟨h1.trans (funext fun i => sum2 _ _ _ i),
        h2.trans (funext fun i => sum2 _ _ _ i),
        h3.trans (funext fun i => sum2 _ _ _ i),
        h4.trans (funext fun i => sum2 _ _ _ i),
        h5.trans (funext fun i => sum3 _ _ _ i),
        h6.trans (funext fun i => sum3 _ _ _ i),
        h7.trans (funext fun i => sum2 _ _ _ i),
        h8.trans (funext fun i => sum4 _ _ _ i),
        h9.trans (funext fun i => sum4 _ _ _ i),
        h10.trans (funext fun i => sum4 _ _ _ i),
        h11.trans (funext fun i => sum4 _ _ _ i),
        h12.trans (funext fun i => sum3 _ _ _ i),
        h13.trans (funext fun i => sum2 _ _ _ i),
        h14.trans (funext fun i => sum2 _ _ _ i),
        h15.trans (funext fun i => sum2 _ _ _ i),
        h16.trans (funext fun i => sum2 _ _ _ i),
        h17.trans (funext fun i => sum2 _ _ _ i),
        h18.trans (funext fun i => sum2 _ _ _ i),
        h19.trans (congrArg (own18 (index m c)) (funext fun i => sum3 _ _ _ i)),
        h20.trans (congrArg (own19 (index m c)) (funext fun i => sum3 _ _ _ i)),
        h21.trans (funext fun i => sum1 _ _ _ i), hr⟩)
      (Cert.ReferenceSsIdeal.Value.run m' ρ')⟩

/-- The reference runs, leaves its arguments as they were, and ends with every counter at zero. -/
theorem reference_frame : Cert.quiescent_ReferenceSsIdeal (hReferenceSsIdeal := Cert.ReferenceSsIdeal.Gen.facts) :=
  fun m ρ _ => (θ_run _ _ _).mono (fun r h => ⟨fun c => by
      obtain ⟨_, _, _, _, _, _, _, _, _, _, _, _, _, _, _, _, _, _, _, _, _, hr⟩ := h c
      exact hr, sem_eq_zero_of_no_sems (by decide) r.2⟩)
    (Cert.ReferenceSsIdeal.Value.run m ρ)

end Cert.SsValue

end
-- ==== Proof.SaBody.lean ====
/-
  The optimiser's step on the packed small weights: what one grid point stores, and what the three arrays hold after the
  run.
-/
module

public import proofs.«01_k».proof.Defs
public import proofs.«01_k».proof.Proof.Packing
public import proofs.«01_k».proof.Proof.Optimiser
public import proofs.«01_k».proof.Proof.Gen.KernelSaIdeal.Frame
public import Idealize.ShloMosaic.Lib.Pipeline.Value
public import Idealize.ShloMosaic.Lib.Pointwise
public import Idealize.ShloMosaic.PureOps.Ideal

@[expose] public section

noncomputable section

namespace Cert.KernelSaIdeal.Small

open Idealize.ShloMosaic Idealize.ShloMosaic.TcCoe Idealize.SL.Sem
open Cert.KernelSaIdeal Cert.KernelSaIdeal.Gen Cert.Packing Cert.Optimiser

theorem hz : (![0, 0] : Fin 2 → Nat) = fun _ => 0 := funext fun a => by fin_cases a <;> rfl

/-! What a point stores in each of the three outputs' blocks. -/

theorem block4_apply (x0 x1 x2 x3 : Vec Ideal S256x128 .f32) (r : Fin 256) (l : Fin 128) :
    out0_4 x0 x1 x2 x3 (ix2 r l) = step (x0 (ix2 r l)) (x1 (ix2 r l)) (x2 (ix2 r l)) (x3 (ix2 r l)) := by
  unfold out0_4 step moment square
  rw [View.canon_unit_zero (S := S256x128) hz]
  pointwise [k0_pay4, k0_pay3, k0_pay2, k0_pay1]

theorem block5_apply (x0 x1 x2 x3 : Vec Ideal S256x128 .f32) (r : Fin 256) (l : Fin 128) :
    out0_5 x0 x1 x2 x3 (ix2 r l) = moment (x1 (ix2 r l)) (x2 (ix2 r l)) := by
  unfold out0_5 moment
  rw [View.canon_unit_zero (S := S256x128) hz]
  pointwise [k0_pay2, k0_pay1]

theorem block6_apply (x0 x1 x2 x3 : Vec Ideal S256x128 .f32) (r : Fin 256) (l : Fin 128) :
    out0_6 x0 x1 x2 x3 (ix2 r l) = square (x1 (ix2 r l)) (x3 (ix2 r l)) := by
  unfold out0_6 square
  rw [View.canon_unit_zero (S := S256x128) hz]
  pointwise [k0_pay3, k0_pay1]

variable (m : (ℓ : Loc nD τ sig) → Buf (Elt Ideal) ℓ)

/-- The packed weights the region reads. -/
def weights (c : Dev nD) : S6912x128.Idx → EReal := V m c main_v68
/-- The packed gradients the region reads. -/
def grads (c : Dev nD) : S6912x128.Idx → EReal := V m c main_v70
/-- The packed first moments the region reads. -/
def firsts (c : Dev nD) : S6912x128.Idx → EReal := V m c main_v72
/-- The packed second moments the region reads. -/
def seconds (c : Dev nD) : S6912x128.Idx → EReal := V m c main_v74
/-- The changes of the weights it leaves. -/
def changes (c : Dev nD) : S6912x128.Idx → EReal := (dats m 0 c).arrAt 4 cfg0.N
/-- The new first moments it leaves. -/
def newFirsts (c : Dev nD) : S6912x128.Idx → EReal := (dats m 0 c).arrAt 5 cfg0.N
/-- The new second moments it leaves. -/
def newSeconds (c : Dev nD) : S6912x128.Idx → EReal := (dats m 0 c).arrAt 6 cfg0.N

/-- The grid point that computes an index, and the place of the index in its block. -/
def pt (i : S6912x128.Idx) : Fin cfg0.N :=
  ⟨(i 0).val / 256, by
    rw [show cfg0.N = 27 from N_0]
    have h0 : (i 0).val < 6912 := (i 0).isLt
    omega⟩
def loc (i : S6912x128.Idx) : S256x128.Idx := ix2 ⟨(i 0).val % 256, Nat.mod_lt _ (by decide)⟩ (i 1)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- The block at a point starts at 256 times the point's number: the place of an index is where it belongs. -/
theorem place (i : S6912x128.Idx) {k0 k1 : ℕ} (e : k0 = (pt i).val ∧ k1 = 0) :
    k0 * 256 + 1 * ((i 0).val % 256) = (i 0).val ∧ k1 * 128 + 1 * (i 1).val = (i 1).val := by
  have hp : (pt i).val = (i 0).val / 256 := rfl
  obtain ⟨e0, e1⟩ := e
  subst e0 e1
  constructor <;> omega

theorem emb0 (i : S6912x128.Idx) : ((cfg0.win 0).blk (pt i)).view.emb (loc i) = i :=
  funext fun a => Fin.ext (by fin_cases a; exacts [(place i (idx0 (pt i))).1, (place i (idx0 (pt i))).2])
theorem emb1 (i : S6912x128.Idx) : ((cfg0.win 1).blk (pt i)).view.emb (loc i) = i :=
  funext fun a => Fin.ext (by fin_cases a; exacts [(place i (idx1 (pt i))).1, (place i (idx1 (pt i))).2])
theorem emb2 (i : S6912x128.Idx) : ((cfg0.win 2).blk (pt i)).view.emb (loc i) = i :=
  funext fun a => Fin.ext (by fin_cases a; exacts [(place i (idx2 (pt i))).1, (place i (idx2 (pt i))).2])
theorem emb3 (i : S6912x128.Idx) : ((cfg0.win 3).blk (pt i)).view.emb (loc i) = i :=
  funext fun a => Fin.ext (by fin_cases a; exacts [(place i (idx3 (pt i))).1, (place i (idx3 (pt i))).2])
theorem emb4 (i : S6912x128.Idx) : ((cfg0.win 4).blk (pt i)).view.emb (loc i) = i :=
  funext fun a => Fin.ext (by fin_cases a; exacts [(place i (idx4 (pt i))).1, (place i (idx4 (pt i))).2])
theorem emb5 (i : S6912x128.Idx) : ((cfg0.win 5).blk (pt i)).view.emb (loc i) = i :=
  funext fun a => Fin.ext (by fin_cases a; exacts [(place i (idx5 (pt i))).1, (place i (idx5 (pt i))).2])
theorem emb6 (i : S6912x128.Idx) : ((cfg0.win 6).blk (pt i)).view.emb (loc i) = i :=
  funext fun a => Fin.ext (by fin_cases a; exacts [(place i (idx6 (pt i))).1, (place i (idx6 (pt i))).2])
theorem read0 (c : Dev nD) (i : S6912x128.Idx) : iblk m c 0 (pt i) (loc i) = weights m c i := congrArg (weights m c) (emb0 i)
theorem read1 (c : Dev nD) (i : S6912x128.Idx) : iblk m c 1 (pt i) (loc i) = grads m c i := congrArg (grads m c) (emb1 i)
theorem read2 (c : Dev nD) (i : S6912x128.Idx) : iblk m c 2 (pt i) (loc i) = firsts m c i := congrArg (firsts m c) (emb2 i)
theorem read3 (c : Dev nD) (i : S6912x128.Idx) : iblk m c 3 (pt i) (loc i) = seconds m c i := congrArg (seconds m c) (emb3 i)

theorem idx4_inj : ∀ t t' : Fin cfg0.N, win0_4.index t = win0_4.index t' → t = t' := fun t t' h =>
  Fin.ext ((idx4 t).1.symm.trans ((congrFun h (0 : Fin 2)).trans (idx4 t').1))

/-- The changes of the weights, at an index. -/
theorem changes_apply (c : Dev nD) (i : S6912x128.Idx) : changes m c i = step (weights m c i) (grads m c i) (firsts m c i) (seconds m c i) := by
  have hr : ((cfg0.win 4).blk (pt i)).view.read (Elt Ideal) ((dats m 0 c).arrAt 4 cfg0.N) (loc i) = changes m c i :=
    congrArg ((dats m 0 c).arrAt 4 cfg0.N) (emb4 i)
  have hd : ∀ t t' : Fin cfg0.N, (cfg0.win 4).flush t = true → (cfg0.win 4).flush t' = true → t ≠ t' →
      Disjoint ((cfg0.win 4).blk t).view.set ((cfg0.win 4).blk t').view.set :=
    fun t t' _ _ hne => (cfg0.win 4).disjoint_blk fun h => hne (idx4_inj t t' h)
  refine hr.symm.trans ((congrFun ((dats m 0 c).read_blk_arrAt_eq_flushed 4 hd cfg0.N (pt i) (pt i).isLt (flush0_4 (pt i))) (loc i)).trans ?_)
  show (cfg0.win 4).cut (grid0.coords (pt i)) ((dats m 0 c).after 4 (pt i)) (loc i) = _
  rw [after0_4, ← read0 m c i, ← read1 m c i, ← read2 m c i, ← read3 m c i]
  exact block4_apply _ _ _ _ _ _

/-- The same in row-major order. -/
theorem changes_flat (c : Dev nD) (p : ℕ) (hp : p < 6912 * 128) : flat (changes m c) p = step (flat (weights m c) p) (flat (grads m c) p) (flat (firsts m c) p) (flat (seconds m c) p) := by
  rw [flat_row _ p hp, changes_apply]
  rw [flat_row (weights m c) p hp]; rw [flat_row (grads m c) p hp]; rw [flat_row (firsts m c) p hp]; rw [flat_row (seconds m c) p hp]

theorem idx5_inj : ∀ t t' : Fin cfg0.N, win0_5.index t = win0_5.index t' → t = t' := fun t t' h =>
  Fin.ext ((idx5 t).1.symm.trans ((congrFun h (0 : Fin 2)).trans (idx5 t').1))

/-- The new first moments, at an index. -/
theorem newFirsts_apply (c : Dev nD) (i : S6912x128.Idx) : newFirsts m c i = moment (grads m c i) (firsts m c i) := by
  have hr : ((cfg0.win 5).blk (pt i)).view.read (Elt Ideal) ((dats m 0 c).arrAt 5 cfg0.N) (loc i) = newFirsts m c i :=
    congrArg ((dats m 0 c).arrAt 5 cfg0.N) (emb5 i)
  have hd : ∀ t t' : Fin cfg0.N, (cfg0.win 5).flush t = true → (cfg0.win 5).flush t' = true → t ≠ t' →
      Disjoint ((cfg0.win 5).blk t).view.set ((cfg0.win 5).blk t').view.set :=
    fun t t' _ _ hne => (cfg0.win 5).disjoint_blk fun h => hne (idx5_inj t t' h)
  refine hr.symm.trans ((congrFun ((dats m 0 c).read_blk_arrAt_eq_flushed 5 hd cfg0.N (pt i) (pt i).isLt (flush0_5 (pt i))) (loc i)).trans ?_)
  show (cfg0.win 5).cut (grid0.coords (pt i)) ((dats m 0 c).after 5 (pt i)) (loc i) = _
  rw [after0_5, ← read1 m c i, ← read2 m c i]
  exact block5_apply _ _ _ _ _ _

/-- The same in row-major order. -/
theorem newFirsts_flat (c : Dev nD) (p : ℕ) (hp : p < 6912 * 128) : flat (newFirsts m c) p = moment (flat (grads m c) p) (flat (firsts m c) p) := by
  rw [flat_row _ p hp, newFirsts_apply]
  rw [flat_row (grads m c) p hp]; rw [flat_row (firsts m c) p hp]

theorem idx6_inj : ∀ t t' : Fin cfg0.N, win0_6.index t = win0_6.index t' → t = t' := fun t t' h =>
  Fin.ext ((idx6 t).1.symm.trans ((congrFun h (0 : Fin 2)).trans (idx6 t').1))

/-- The new second moments, at an index. -/
theorem newSeconds_apply (c : Dev nD) (i : S6912x128.Idx) : newSeconds m c i = square (grads m c i) (seconds m c i) := by
  have hr : ((cfg0.win 6).blk (pt i)).view.read (Elt Ideal) ((dats m 0 c).arrAt 6 cfg0.N) (loc i) = newSeconds m c i :=
    congrArg ((dats m 0 c).arrAt 6 cfg0.N) (emb6 i)
  have hd : ∀ t t' : Fin cfg0.N, (cfg0.win 6).flush t = true → (cfg0.win 6).flush t' = true → t ≠ t' →
      Disjoint ((cfg0.win 6).blk t).view.set ((cfg0.win 6).blk t').view.set :=
    fun t t' _ _ hne => (cfg0.win 6).disjoint_blk fun h => hne (idx6_inj t t' h)
  refine hr.symm.trans ((congrFun ((dats m 0 c).read_blk_arrAt_eq_flushed 6 hd cfg0.N (pt i) (pt i).isLt (flush0_6 (pt i))) (loc i)).trans ?_)
  show (cfg0.win 6).cut (grid0.coords (pt i)) ((dats m 0 c).after 6 (pt i)) (loc i) = _
  rw [after0_6, ← read1 m c i, ← read3 m c i]
  exact block6_apply _ _ _ _ _ _

/-- The same in row-major order. -/
theorem newSeconds_flat (c : Dev nD) (p : ℕ) (hp : p < 6912 * 128) : flat (newSeconds m c) p = square (flat (grads m c) p) (flat (seconds m c) p) := by
  rw [flat_row _ p hp, newSeconds_apply]
  rw [flat_row (grads m c) p hp]; rw [flat_row (seconds m c) p hp]

end Cert.KernelSaIdeal.Small

end
-- ==== Proof.SaPack.lean ====
/-
  The buffer of the small weights with their gradients and moments: each array is padded to whole rows of 128 numbers and
  the pieces are laid one below the other, in four slots. Where each array's numbers lie, and what the region reads.
-/
module

public import proofs.«01_k».proof.Proof.SaBody

@[expose] public section

noncomputable section

namespace Cert.KernelSaIdeal.Small

open Idealize.ShloMosaic Idealize.ShloMosaic.TcCoe Idealize.SL.Sem
open Cert.KernelSaIdeal Cert.KernelSaIdeal.Gen Cert.Packing Cert.Optimiser

/-- Of each of the twenty-one small weights: the weight, its gradient and its two moments, stacked. -/
structure Parts where
  a0 : S4x4x2048.Idx → EReal
  a1 : S4x4x4x384.Idx → EReal
  a2 : S4x4x8.Idx → EReal
  a3 : S4x4x8.Idx → EReal
  a4 : S4x4x128.Idx → EReal
  a5 : S4x4x48x64.Idx → EReal
  a6 : S4x4x48x64.Idx → EReal
  a7 : S4x4x48.Idx → EReal
  a8 : S4x4x48x64x16.Idx → EReal
  a9 : S4x4x48x64x16.Idx → EReal
  a10 : S4x4x48x16x64.Idx → EReal
  a11 : S4x4x48x16x64.Idx → EReal
  a12 : S4x4x48x16.Idx → EReal
  a13 : S4x4x768.Idx → EReal
  a14 : S4x4x4x256.Idx → EReal
  a15 : S4x4x2048.Idx → EReal
  a16 : S4x4x16.Idx → EReal
  a17 : S4x4x16.Idx → EReal
  a18 : S4x4x16.Idx → EReal
  a19 : S4x4x1024.Idx → EReal
  a20 : S4x2048.Idx → EReal

/-- The first sixteen pieces, below one another. -/
def upper (x : Parts) : S4x6624x128.Idx → EReal :=
  concatenate S4x6624x128 1 [⟨S4x64x128, (shapeCast S4x64x128 (shapeCast S4x8192 x.a0 shapeCasts_S4x4x2048_S4x8192) shapeCasts_S4x8192_S4x64x128)⟩,
    ⟨S4x48x128, (shapeCast S4x48x128 (shapeCast S4x6144 x.a1 shapeCasts_S4x4x4x384_S4x6144) shapeCasts_S4x6144_S4x48x128)⟩,
    ⟨S4x8x128, (shapeCast S4x8x128 (concatenate S4x1024 1 [⟨S4x32, (shapeCast S4x32 x.a2 shapeCasts_S4x4x8_S4x32)⟩,
    ⟨S4x992, (broadcastInDim S4x992 ![1] bcast_S992_S4x992_1 (broadcastInDim S992 ![] bcast_S_S992 (constant (F := Ideal) S_ .f32 0x00000000#32)))⟩] concatenates_S4x32_S4x992_S4x1024_d1) shapeCasts_S4x1024_S4x8x128)⟩,
    ⟨S4x8x128, (shapeCast S4x8x128 (concatenate S4x1024 1 [⟨S4x32, (shapeCast S4x32 x.a3 shapeCasts_S4x4x8_S4x32)⟩,
    ⟨S4x992, (broadcastInDim S4x992 ![1] bcast_S992_S4x992_1 (broadcastInDim S992 ![] bcast_S_S992 (constant (F := Ideal) S_ .f32 0x00000000#32)))⟩] concatenates_S4x32_S4x992_S4x1024_d1) shapeCasts_S4x1024_S4x8x128)⟩,
    ⟨S4x8x128, (shapeCast S4x8x128 (concatenate S4x1024 1 [⟨S4x512, (shapeCast S4x512 x.a4 shapeCasts_S4x4x128_S4x512)⟩,
    ⟨S4x512, (broadcastInDim S4x512 ![1] bcast_S512_S4x512_1 (broadcastInDim S512 ![] bcast_S_S512 (constant (F := Ideal) S_ .f32 0x00000000#32)))⟩] concatenates_S4x512_S4x512_S4x1024_d1) shapeCasts_S4x1024_S4x8x128)⟩,
    ⟨S4x96x128, (shapeCast S4x96x128 (shapeCast S4x12288 x.a5 shapeCasts_S4x4x48x64_S4x12288) shapeCasts_S4x12288_S4x96x128)⟩,
    ⟨S4x96x128, (shapeCast S4x96x128 (shapeCast S4x12288 x.a6 shapeCasts_S4x4x48x64_S4x12288) shapeCasts_S4x12288_S4x96x128)⟩,
    ⟨S4x8x128, (shapeCast S4x8x128 (concatenate S4x1024 1 [⟨S4x192, (shapeCast S4x192 x.a7 shapeCasts_S4x4x48_S4x192)⟩,
    ⟨S4x832, (broadcastInDim S4x832 ![1] bcast_S832_S4x832_1 (broadcastInDim S832 ![] bcast_S_S832 (constant (F := Ideal) S_ .f32 0x00000000#32)))⟩] concatenates_S4x192_S4x832_S4x1024_d1) shapeCasts_S4x1024_S4x8x128)⟩,
    ⟨S4x1536x128, (shapeCast S4x1536x128 (shapeCast S4x196608 x.a8 shapeCasts_S4x4x48x64x16_S4x196608) shapeCasts_S4x196608_S4x1536x128)⟩,
    ⟨S4x1536x128, (shapeCast S4x1536x128 (shapeCast S4x196608 x.a9 shapeCasts_S4x4x48x64x16_S4x196608) shapeCasts_S4x196608_S4x1536x128)⟩,
    ⟨S4x1536x128, (shapeCast S4x1536x128 (shapeCast S4x196608 x.a10 shapeCasts_S4x4x48x16x64_S4x196608) shapeCasts_S4x196608_S4x1536x128)⟩,
    ⟨S4x1536x128, (shapeCast S4x1536x128 (shapeCast S4x196608 x.a11 shapeCasts_S4x4x48x16x64_S4x196608) shapeCasts_S4x196608_S4x1536x128)⟩,
    ⟨S4x24x128, (shapeCast S4x24x128 (shapeCast S4x3072 x.a12 shapeCasts_S4x4x48x16_S4x3072) shapeCasts_S4x3072_S4x24x128)⟩,
    ⟨S4x24x128, (shapeCast S4x24x128 (shapeCast S4x3072 x.a13 shapeCasts_S4x4x768_S4x3072) shapeCasts_S4x3072_S4x24x128)⟩,
    ⟨S4x32x128, (shapeCast S4x32x128 (shapeCast S4x4096 x.a14 shapeCasts_S4x4x4x256_S4x4096) shapeCasts_S4x4096_S4x32x128)⟩,
    ⟨S4x64x128, (shapeCast S4x64x128 (shapeCast S4x8192 x.a15 shapeCasts_S4x4x2048_S4x8192) shapeCasts_S4x8192_S4x64x128)⟩] concatenates_S4x64x128_S4x48x128_S4x8x128_S4x8x128_S4x8x128_S4x96x128_S4x96x128_S4x8x128_S4x1536x128_S4x1536x128_S4x1536x128_S4x1536x128_S4x24x128_S4x24x128_S4x32x128_S4x64x128_S4x6624x128_d1

/-- The other five, and the rows of zeros that fill the last tile. -/
def lower (x : Parts) : S4x288x128.Idx → EReal :=
  concatenate S4x288x128 1 [⟨S4x8x128, (shapeCast S4x8x128 (concatenate S4x1024 1 [⟨S4x64, (shapeCast S4x64 x.a16 shapeCasts_S4x4x16_S4x64)⟩,
    ⟨S4x960, (broadcastInDim S4x960 ![1] bcast_S960_S4x960_1 (broadcastInDim S960 ![] bcast_S_S960 (constant (F := Ideal) S_ .f32 0x00000000#32)))⟩] concatenates_S4x64_S4x960_S4x1024_d1) shapeCasts_S4x1024_S4x8x128)⟩,
    ⟨S4x8x128, (shapeCast S4x8x128 (concatenate S4x1024 1 [⟨S4x64, (shapeCast S4x64 x.a17 shapeCasts_S4x4x16_S4x64)⟩,
    ⟨S4x960, (broadcastInDim S4x960 ![1] bcast_S960_S4x960_1 (broadcastInDim S960 ![] bcast_S_S960 (constant (F := Ideal) S_ .f32 0x00000000#32)))⟩] concatenates_S4x64_S4x960_S4x1024_d1) shapeCasts_S4x1024_S4x8x128)⟩,
    ⟨S4x8x128, (shapeCast S4x8x128 (concatenate S4x1024 1 [⟨S4x64, (shapeCast S4x64 x.a18 shapeCasts_S4x4x16_S4x64)⟩,
    ⟨S4x960, (broadcastInDim S4x960 ![1] bcast_S960_S4x960_1 (broadcastInDim S960 ![] bcast_S_S960 (constant (F := Ideal) S_ .f32 0x00000000#32)))⟩] concatenates_S4x64_S4x960_S4x1024_d1) shapeCasts_S4x1024_S4x8x128)⟩,
    ⟨S4x32x128, (shapeCast S4x32x128 (shapeCast S4x4096 x.a19 shapeCasts_S4x4x1024_S4x4096) shapeCasts_S4x4096_S4x32x128)⟩,
    ⟨S4x16x128, (shapeCast S4x16x128 x.a20 shapeCasts_S4x2048_S4x16x128)⟩,
    ⟨S4x216x128, (broadcastInDim S4x216x128 ![1, 2] bcast_S216x128_S4x216x128_1_2 (broadcastInDim S216x128 ![] bcast_S_S216x128 (constant (F := Ideal) S_ .f32 0x00000000#32)))⟩] concatenates_S4x8x128_S4x8x128_S4x8x128_S4x32x128_S4x16x128_S4x216x128_S4x288x128_d1

/-- The buffer. -/
def buffer (x : Parts) : S4x6912x128.Idx → EReal :=
  concatenate S4x6912x128 1 [⟨S4x6624x128, (upper x)⟩,
    ⟨S4x288x128, (lower x)⟩] concatenates_S4x6624x128_S4x288x128_S4x6912x128_d1

theorem at_upper (x : Parts) (s : Fin 4) (p : ℕ) (hp : p < 6624 * 128) :
    flat (buffer x) (s.val * (6912 * 128) + p) = flat (upper x) (s.val * (6624 * 128) + p) := by
  have h := flat_pieceSlots [⟨S4x6624x128, upper x⟩, ⟨S4x288x128, lower x⟩] concatenates_S4x6624x128_S4x288x128_S4x6912x128_d1
    0 (by simp) (upper x) rfl 0 [S4x6624x128, S4x288x128] rfl rfl (by decide) s p hp
  rwa [Nat.zero_mul, Nat.zero_add] at h

theorem at_lower (x : Parts) (s : Fin 4) (p : ℕ) (hp : p < 288 * 128) :
    flat (buffer x) (s.val * (6912 * 128) + (6624 * 128 + p)) = flat (lower x) (s.val * (288 * 128) + p) :=
  flat_pieceSlots [⟨S4x6624x128, upper x⟩, ⟨S4x288x128, lower x⟩] concatenates_S4x6624x128_S4x288x128_S4x6912x128_d1
    1 (by simp) (lower x) rfl 6624 [S4x6624x128, S4x288x128] rfl rfl (by decide) s p hp

/-- The shapes of the pieces. -/
def upperShapes : List Shape := [S4x64x128, S4x48x128, S4x8x128, S4x8x128, S4x8x128, S4x96x128, S4x96x128, S4x8x128, S4x1536x128, S4x1536x128, S4x1536x128, S4x1536x128, S4x24x128, S4x24x128, S4x32x128, S4x64x128]
def lowerShapes : List Shape := [S4x8x128, S4x8x128, S4x8x128, S4x32x128, S4x16x128, S4x216x128]

/-- An array of `n` numbers a slot lies in the buffer from row `off` on. -/
def Lies (x : Parts) (off n : ℕ) {S : Shape} (a : S.Idx → EReal) : Prop :=
  ∀ (s : Fin 4) (p : ℕ), p < n → flat (buffer x) (s.val * (6912 * 128) + (off * 128 + p)) = flat a (s.val * n + p)

/-! The place of each array. -/

theorem lies0 (x : Parts) : Lies x 0 8192 x.a0 := fun s p hp => by
  refine (at_upper x s _ (by omega)).trans ?_
  unfold upper
  refine (flat_pieceSlots (T := 6624) (r := 64) _ _ 0 (by simp) _ rfl 0 upperShapes rfl (by decide +kernel) (by decide) s p (by omega)).trans ?_
  exact (flat_shapeCast _ _ _).trans (flat_shapeCast _ _ _)

theorem lies1 (x : Parts) : Lies x 64 6144 x.a1 := fun s p hp => by
  refine (at_upper x s _ (by omega)).trans ?_
  unfold upper
  refine (flat_pieceSlots (T := 6624) (r := 48) _ _ 1 (by simp) _ rfl 64 upperShapes rfl (by decide +kernel) (by decide) s p (by omega)).trans ?_
  exact (flat_shapeCast _ _ _).trans (flat_shapeCast _ _ _)

theorem lies2 (x : Parts) : Lies x 112 32 x.a2 := fun s p hp => by
  refine (at_upper x s _ (by omega)).trans ?_
  unfold upper
  refine (flat_pieceSlots (T := 6624) (r := 8) _ _ 2 (by simp) _ rfl 112 upperShapes rfl (by decide +kernel) (by decide) s p (by omega)).trans ?_
  refine (flat_shapeCast _ _ _).trans ?_
  exact (flat_paddedSlots (t := 1024) _ _ _ (by decide) s p hp).trans (flat_shapeCast _ _ _)

theorem lies3 (x : Parts) : Lies x 120 32 x.a3 := fun s p hp => by
  refine (at_upper x s _ (by omega)).trans ?_
  unfold upper
  refine (flat_pieceSlots (T := 6624) (r := 8) _ _ 3 (by simp) _ rfl 120 upperShapes rfl (by decide +kernel) (by decide) s p (by omega)).trans ?_
  refine (flat_shapeCast _ _ _).trans ?_
  exact (flat_paddedSlots (t := 1024) _ _ _ (by decide) s p hp).trans (flat_shapeCast _ _ _)

theorem lies4 (x : Parts) : Lies x 128 512 x.a4 := fun s p hp => by
  refine (at_upper x s _ (by omega)).trans ?_
  unfold upper
  refine (flat_pieceSlots (T := 6624) (r := 8) _ _ 4 (by simp) _ rfl 128 upperShapes rfl (by decide +kernel) (by decide) s p (by omega)).trans ?_
  refine (flat_shapeCast _ _ _).trans ?_
  exact (flat_paddedSlots (t := 1024) _ _ _ (by decide) s p hp).trans (flat_shapeCast _ _ _)

theorem lies5 (x : Parts) : Lies x 136 12288 x.a5 := fun s p hp => by
  refine (at_upper x s _ (by omega)).trans ?_
  unfold upper
  refine (flat_pieceSlots (T := 6624) (r := 96) _ _ 5 (by simp) _ rfl 136 upperShapes rfl (by decide +kernel) (by decide) s p (by omega)).trans ?_
  exact (flat_shapeCast _ _ _).trans (flat_shapeCast _ _ _)

theorem lies6 (x : Parts) : Lies x 232 12288 x.a6 := fun s p hp => by
  refine (at_upper x s _ (by omega)).trans ?_
  unfold upper
  refine (flat_pieceSlots (T := 6624) (r := 96) _ _ 6 (by simp) _ rfl 232 upperShapes rfl (by decide +kernel) (by decide) s p (by omega)).trans ?_
  exact (flat_shapeCast _ _ _).trans (flat_shapeCast _ _ _)

theorem lies7 (x : Parts) : Lies x 328 192 x.a7 := fun s p hp => by
  refine (at_upper x s _ (by omega)).trans ?_
  unfold upper
  refine (flat_pieceSlots (T := 6624) (r := 8) _ _ 7 (by simp) _ rfl 328 upperShapes rfl (by decide +kernel) (by decide) s p (by omega)).trans ?_
  refine (flat_shapeCast _ _ _).trans ?_
  exact (flat_paddedSlots (t := 1024) _ _ _ (by decide) s p hp).trans (flat_shapeCast _ _ _)

theorem lies8 (x : Parts) : Lies x 336 196608 x.a8 := fun s p hp => by
  refine (at_upper x s _ (by omega)).trans ?_
  unfold upper
  refine (flat_pieceSlots (T := 6624) (r := 1536) _ _ 8 (by simp) _ rfl 336 upperShapes rfl (by decide +kernel) (by decide) s p (by omega)).trans ?_
  exact (flat_shapeCast _ _ _).trans (flat_shapeCast _ _ _)

theorem lies9 (x : Parts) : Lies x 1872 196608 x.a9 := fun s p hp => by
  refine (at_upper x s _ (by omega)).trans ?_
  unfold upper
  refine (flat_pieceSlots (T := 6624) (r := 1536) _ _ 9 (by simp) _ rfl 1872 upperShapes rfl (by decide +kernel) (by decide) s p (by omega)).trans ?_
  exact (flat_shapeCast _ _ _).trans (flat_shapeCast _ _ _)

theorem lies10 (x : Parts) : Lies x 3408 196608 x.a10 := fun s p hp => by
  refine (at_upper x s _ (by omega)).trans ?_
  unfold upper
  refine (flat_pieceSlots (T := 6624) (r := 1536) _ _ 10 (by simp) _ rfl 3408 upperShapes rfl (by decide +kernel) (by decide) s p (by omega)).trans ?_
  exact (flat_shapeCast _ _ _).trans (flat_shapeCast _ _ _)

theorem lies11 (x : Parts) : Lies x 4944 196608 x.a11 := fun s p hp => by
  refine (at_upper x s _ (by omega)).trans ?_
  unfold upper
  refine (flat_pieceSlots (T := 6624) (r := 1536) _ _ 11 (by simp) _ rfl 4944 upperShapes rfl (by decide +kernel) (by decide) s p (by omega)).trans ?_
  exact (flat_shapeCast _ _ _).trans (flat_shapeCast _ _ _)

theorem lies12 (x : Parts) : Lies x 6480 3072 x.a12 := fun s p hp => by
  refine (at_upper x s _ (by omega)).trans ?_
  unfold upper
  refine (flat_pieceSlots (T := 6624) (r := 24) _ _ 12 (by simp) _ rfl 6480 upperShapes rfl (by decide +kernel) (by decide) s p (by omega)).trans ?_
  exact (flat_shapeCast _ _ _).trans (flat_shapeCast _ _ _)

theorem lies13 (x : Parts) : Lies x 6504 3072 x.a13 := fun s p hp => by
  refine (at_upper x s _ (by omega)).trans ?_
  unfold upper
  refine (flat_pieceSlots (T := 6624) (r := 24) _ _ 13 (by simp) _ rfl 6504 upperShapes rfl (by decide +kernel) (by decide) s p (by omega)).trans ?_
  exact (flat_shapeCast _ _ _).trans (flat_shapeCast _ _ _)

theorem lies14 (x : Parts) : Lies x 6528 4096 x.a14 := fun s p hp => by
  refine (at_upper x s _ (by omega)).trans ?_
  unfold upper
  refine (flat_pieceSlots (T := 6624) (r := 32) _ _ 14 (by simp) _ rfl 6528 upperShapes rfl (by decide +kernel) (by decide) s p (by omega)).trans ?_
  exact (flat_shapeCast _ _ _).trans (flat_shapeCast _ _ _)

theorem lies15 (x : Parts) : Lies x 6560 8192 x.a15 := fun s p hp => by
  refine (at_upper x s _ (by omega)).trans ?_
  unfold upper
  refine (flat_pieceSlots (T := 6624) (r := 64) _ _ 15 (by simp) _ rfl 6560 upperShapes rfl (by decide +kernel) (by decide) s p (by omega)).trans ?_
  exact (flat_shapeCast _ _ _).trans (flat_shapeCast _ _ _)

theorem lies16 (x : Parts) : Lies x 6624 64 x.a16 := fun s p hp => by
  refine (congrArg (fun q => flat (buffer x) (s.val * (6912 * 128) + q)) (by omega : 6624 * 128 + p = 6624 * 128 + (0 * 128 + p))).trans ?_
  refine (at_lower x s _ (by omega)).trans ?_
  unfold lower
  refine (flat_pieceSlots (T := 288) (r := 8) _ _ 0 (by simp) _ rfl 0 lowerShapes rfl (by decide +kernel) (by decide) s p (by omega)).trans ?_
  refine (flat_shapeCast _ _ _).trans ?_
  exact (flat_paddedSlots (t := 1024) _ _ _ (by decide) s p hp).trans (flat_shapeCast _ _ _)

theorem lies17 (x : Parts) : Lies x 6632 64 x.a17 := fun s p hp => by
  refine (congrArg (fun q => flat (buffer x) (s.val * (6912 * 128) + q)) (by omega : 6632 * 128 + p = 6624 * 128 + (8 * 128 + p))).trans ?_
  refine (at_lower x s _ (by omega)).trans ?_
  unfold lower
  refine (flat_pieceSlots (T := 288) (r := 8) _ _ 1 (by simp) _ rfl 8 lowerShapes rfl (by decide +kernel) (by decide) s p (by omega)).trans ?_
  refine (flat_shapeCast _ _ _).trans ?_
  exact (flat_paddedSlots (t := 1024) _ _ _ (by decide) s p hp).trans (flat_shapeCast _ _ _)

theorem lies18 (x : Parts) : Lies x 6640 64 x.a18 := fun s p hp => by
  refine (congrArg (fun q => flat (buffer x) (s.val * (6912 * 128) + q)) (by omega : 6640 * 128 + p = 6624 * 128 + (16 * 128 + p))).trans ?_
  refine (at_lower x s _ (by omega)).trans ?_
  unfold lower
  refine (flat_pieceSlots (T := 288) (r := 8) _ _ 2 (by simp) _ rfl 16 lowerShapes rfl (by decide +kernel) (by decide) s p (by omega)).trans ?_
  refine (flat_shapeCast _ _ _).trans ?_
  exact (flat_paddedSlots (t := 1024) _ _ _ (by decide) s p hp).trans (flat_shapeCast _ _ _)

theorem lies19 (x : Parts) : Lies x 6648 4096 x.a19 := fun s p hp => by
  refine (congrArg (fun q => flat (buffer x) (s.val * (6912 * 128) + q)) (by omega : 6648 * 128 + p = 6624 * 128 + (24 * 128 + p))).trans ?_
  refine (at_lower x s _ (by omega)).trans ?_
  unfold lower
  refine (flat_pieceSlots (T := 288) (r := 32) _ _ 3 (by simp) _ rfl 24 lowerShapes rfl (by decide +kernel) (by decide) s p (by omega)).trans ?_
  exact (flat_shapeCast _ _ _).trans (flat_shapeCast _ _ _)

theorem lies20 (x : Parts) : Lies x 6680 2048 x.a20 := fun s p hp => by
  refine (congrArg (fun q => flat (buffer x) (s.val * (6912 * 128) + q)) (by omega : 6680 * 128 + p = 6624 * 128 + (56 * 128 + p))).trans ?_
  refine (at_lower x s _ (by omega)).trans ?_
  unfold lower
  refine (flat_pieceSlots (T := 288) (r := 16) _ _ 4 (by simp) _ rfl 56 lowerShapes rfl (by decide +kernel) (by decide) s p (by omega)).trans ?_
  exact flat_shapeCast _ _ _

variable (m : (ℓ : Loc nD τ sig) → Buf (Elt Ideal) ℓ)

/-- The arguments the run starts with. -/
def parts (c : Dev nD) : Parts where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)
  a17 := m ((c : Thread nD τ).loc main_arg17)
  a18 := m ((c : Thread nD τ).loc main_arg18)
  a19 := m ((c : Thread nD τ).loc main_arg19)
  a20 := m ((c : Thread nD τ).loc main_arg20)

/-! What the region reads: the four slots of the buffer. -/

set_option maxHeartbeats 8000000 in
theorem weights_eq (c : Dev nD) : weights m c = shapeCast S6912x128 (extractStridedSlice S1x6912x128 ![0, 0, 0] (buffer (parts m c)) slices_S4x6912x128_S1x6912x128_0_0_0) shapeCasts_S1x6912x128_S6912x128 := by
  unfold weights V V0
  simp only [hostOps0, List.flatten_cons, List.flatten_nil, List.append_nil, List.cons_append, List.nil_append]
  after_results_simp
  rfl

theorem weights_flat (c : Dev nD) (p : ℕ) (hp : p < 6912 * 128) :
    flat (weights m c) p = flat (buffer (parts m c)) (0 * (6912 * 128) + p) := by
  rw [weights_eq]
  exact (flat_shapeCast _ _ _).trans (part2 _ _ p hp)

set_option maxHeartbeats 8000000 in
theorem grads_eq (c : Dev nD) : grads m c = shapeCast S6912x128 (extractStridedSlice S1x6912x128 ![1, 0, 0] (buffer (parts m c)) slices_S4x6912x128_S1x6912x128_1_0_0) shapeCasts_S1x6912x128_S6912x128 := by
  unfold grads V V0
  simp only [hostOps0, List.flatten_cons, List.flatten_nil, List.append_nil, List.cons_append, List.nil_append]
  after_results_simp
  rfl

theorem grads_flat (c : Dev nD) (p : ℕ) (hp : p < 6912 * 128) :
    flat (grads m c) p = flat (buffer (parts m c)) (1 * (6912 * 128) + p) := by
  rw [grads_eq]
  exact (flat_shapeCast _ _ _).trans (part2 _ _ p hp)

set_option maxHeartbeats 8000000 in
theorem firsts_eq (c : Dev nD) : firsts m c = shapeCast S6912x128 (extractStridedSlice S1x6912x128 ![2, 0, 0] (buffer (parts m c)) slices_S4x6912x128_S1x6912x128_2_0_0) shapeCasts_S1x6912x128_S6912x128 := by
  unfold firsts V V0
  simp only [hostOps0, List.flatten_cons, List.flatten_nil, List.append_nil, List.cons_append, List.nil_append]
  after_results_simp
  rfl

theorem firsts_flat (c : Dev nD) (p : ℕ) (hp : p < 6912 * 128) :
    flat (firsts m c) p = flat (buffer (parts m c)) (2 * (6912 * 128) + p) := by
  rw [firsts_eq]
  exact (flat_shapeCast _ _ _).trans (part2 _ _ p hp)

set_option maxHeartbeats 8000000 in
theorem seconds_eq (c : Dev nD) : seconds m c = shapeCast S6912x128 (extractStridedSlice S1x6912x128 ![3, 0, 0] (buffer (parts m c)) slices_S4x6912x128_S1x6912x128_3_0_0) shapeCasts_S1x6912x128_S6912x128 := by
  unfold seconds V V0
  simp only [hostOps0, List.flatten_cons, List.flatten_nil, List.append_nil, List.cons_append, List.nil_append]
  after_results_simp
  rfl

theorem seconds_flat (c : Dev nD) (p : ℕ) (hp : p < 6912 * 128) :
    flat (seconds m c) p = flat (buffer (parts m c)) (3 * (6912 * 128) + p) := by
  rw [seconds_eq]
  exact (flat_shapeCast _ _ _).trans (part2 _ _ p hp)

end Cert.KernelSaIdeal.Small

end
-- ==== Proof.SaUnpack.lean ====
/-
  The changes of the small weights and their new moments taken out of the arrays the region leaves: each weight's rows are
  cut out and given their shape again.
-/
module

public import proofs.«01_k».proof.Proof.SaPack

@[expose] public section

noncomputable section

namespace Cert.KernelSaIdeal.Small

open Idealize.ShloMosaic Idealize.ShloMosaic.TcCoe Idealize.SL.Sem
open Cert.KernelSaIdeal Cert.KernelSaIdeal.Gen Cert.Packing Cert.Optimiser

/-- Array `k` of a stack of arrays of `n` numbers. -/
def slot {S : Shape} (n : ℕ) (T : Shape) (k : ℕ) (a : S.Idx → EReal) : T.Idx → EReal := fun i => flat a (k * n + (T.rowMajor i).val)

/-! What AdamW's step does to a weight stacked with its gradient and its two moments: the change of the weight and the two
    new moments. -/

def changeOf {S : Shape} (n : ℕ) (T : Shape) (a : S.Idx → EReal) : T.Idx → EReal :=
  fun i => step (slot n T 0 a i) (slot n T 1 a i) (slot n T 2 a i) (slot n T 3 a i)
def firstOf {S : Shape} (n : ℕ) (T : Shape) (a : S.Idx → EReal) : T.Idx → EReal := fun i => moment (slot n T 1 a i) (slot n T 2 a i)
def secondOf {S : Shape} (n : ℕ) (T : Shape) (a : S.Idx → EReal) : T.Idx → EReal := fun i => square (slot n T 1 a i) (slot n T 3 a i)

/-! Each weight's rows of an array of 6912 rows, in the weight's shape, and where its numbers come from. -/

def cut0 (y : S6912x128.Idx → EReal) : S4x2048.Idx → EReal :=
  shapeCast S4x2048 (extractStridedSlice S64x128 ![0, 0] y slices_S6912x128_S64x128_0_0) shapeCasts_S64x128_S4x2048
theorem cut0_flat (y : S6912x128.Idx → EReal) (p : ℕ) (hp : p < 8192) : flat (cut0 y) p = flat y (0 * 128 + p) := by
  unfold cut0
  exact (flat_shapeCast _ _ _).trans (flat_rows y _ (by omega) p (by omega))

def cut1 (y : S6912x128.Idx → EReal) : S4x4x384.Idx → EReal :=
  shapeCast S4x4x384 (extractStridedSlice S48x128 ![64, 0] y slices_S6912x128_S48x128_64_0) shapeCasts_S48x128_S4x4x384
theorem cut1_flat (y : S6912x128.Idx → EReal) (p : ℕ) (hp : p < 6144) : flat (cut1 y) p = flat y (64 * 128 + p) := by
  unfold cut1
  exact (flat_shapeCast _ _ _).trans (flat_rows y _ (by omega) p (by omega))

def cut2 (y : S6912x128.Idx → EReal) : S4x8.Idx → EReal :=
  shapeCast S4x8 (extractStridedSlice S32 ![0] (shapeCast S1024 (extractStridedSlice S8x128 ![112, 0] y slices_S6912x128_S8x128_112_0) shapeCasts_S8x128_S1024) slices_S1024_S32_0) shapeCasts_S32_S4x8
theorem cut2_flat (y : S6912x128.Idx → EReal) (p : ℕ) (hp : p < 32) : flat (cut2 y) p = flat y (112 * 128 + p) := by
  unfold cut2
  exact (flat_shapeCast _ _ _).trans ((flat_front _ _ (by omega) p (by omega)).trans ((flat_shapeCast _ _ _).trans
    (flat_rows y _ (by omega) p (by omega))))

def cut3 (y : S6912x128.Idx → EReal) : S4x8.Idx → EReal :=
  shapeCast S4x8 (extractStridedSlice S32 ![0] (shapeCast S1024 (extractStridedSlice S8x128 ![120, 0] y slices_S6912x128_S8x128_120_0) shapeCasts_S8x128_S1024) slices_S1024_S32_0) shapeCasts_S32_S4x8
theorem cut3_flat (y : S6912x128.Idx → EReal) (p : ℕ) (hp : p < 32) : flat (cut3 y) p = flat y (120 * 128 + p) := by
  unfold cut3
  exact (flat_shapeCast _ _ _).trans ((flat_front _ _ (by omega) p (by omega)).trans ((flat_shapeCast _ _ _).trans
    (flat_rows y _ (by omega) p (by omega))))

def cut4 (y : S6912x128.Idx → EReal) : S4x128.Idx → EReal :=
  shapeCast S4x128 (extractStridedSlice S512 ![0] (shapeCast S1024 (extractStridedSlice S8x128 ![128, 0] y slices_S6912x128_S8x128_128_0) shapeCasts_S8x128_S1024) slices_S1024_S512_0) shapeCasts_S512_S4x128
theorem cut4_flat (y : S6912x128.Idx → EReal) (p : ℕ) (hp : p < 512) : flat (cut4 y) p = flat y (128 * 128 + p) := by
  unfold cut4
  exact (flat_shapeCast _ _ _).trans ((flat_front _ _ (by omega) p (by omega)).trans ((flat_shapeCast _ _ _).trans
    (flat_rows y _ (by omega) p (by omega))))

def cut5 (y : S6912x128.Idx → EReal) : S4x48x64.Idx → EReal :=
  shapeCast S4x48x64 (extractStridedSlice S96x128 ![136, 0] y slices_S6912x128_S96x128_136_0) shapeCasts_S96x128_S4x48x64
theorem cut5_flat (y : S6912x128.Idx → EReal) (p : ℕ) (hp : p < 12288) : flat (cut5 y) p = flat y (136 * 128 + p) := by
  unfold cut5
  exact (flat_shapeCast _ _ _).trans (flat_rows y _ (by omega) p (by omega))

def cut6 (y : S6912x128.Idx → EReal) : S4x48x64.Idx → EReal :=
  shapeCast S4x48x64 (extractStridedSlice S96x128 ![232, 0] y slices_S6912x128_S96x128_232_0) shapeCasts_S96x128_S4x48x64
theorem cut6_flat (y : S6912x128.Idx → EReal) (p : ℕ) (hp : p < 12288) : flat (cut6 y) p = flat y (232 * 128 + p) := by
  unfold cut6
  exact (flat_shapeCast _ _ _).trans (flat_rows y _ (by omega) p (by omega))

def cut7 (y : S6912x128.Idx → EReal) : S4x48.Idx → EReal :=
  shapeCast S4x48 (extractStridedSlice S192 ![0] (shapeCast S1024 (extractStridedSlice S8x128 ![328, 0] y slices_S6912x128_S8x128_328_0) shapeCasts_S8x128_S1024) slices_S1024_S192_0) shapeCasts_S192_S4x48
theorem cut7_flat (y : S6912x128.Idx → EReal) (p : ℕ) (hp : p < 192) : flat (cut7 y) p = flat y (328 * 128 + p) := by
  unfold cut7
  exact (flat_shapeCast _ _ _).trans ((flat_front _ _ (by omega) p (by omega)).trans ((flat_shapeCast _ _ _).trans
    (flat_rows y _ (by omega) p (by omega))))

def cut8 (y : S6912x128.Idx → EReal) : S4x48x64x16.Idx → EReal :=
  shapeCast S4x48x64x16 (extractStridedSlice S1536x128 ![336, 0] y slices_S6912x128_S1536x128_336_0) shapeCasts_S1536x128_S4x48x64x16
theorem cut8_flat (y : S6912x128.Idx → EReal) (p : ℕ) (hp : p < 196608) : flat (cut8 y) p = flat y (336 * 128 + p) := by
  unfold cut8
  exact (flat_shapeCast _ _ _).trans (flat_rows y _ (by omega) p (by omega))

def cut9 (y : S6912x128.Idx → EReal) : S4x48x64x16.Idx → EReal :=
  shapeCast S4x48x64x16 (extractStridedSlice S1536x128 ![1872, 0] y slices_S6912x128_S1536x128_1872_0) shapeCasts_S1536x128_S4x48x64x16
theorem cut9_flat (y : S6912x128.Idx → EReal) (p : ℕ) (hp : p < 196608) : flat (cut9 y) p = flat y (1872 * 128 + p) := by
  unfold cut9
  exact (flat_shapeCast _ _ _).trans (flat_rows y _ (by omega) p (by omega))

def cut10 (y : S6912x128.Idx → EReal) : S4x48x16x64.Idx → EReal :=
  shapeCast S4x48x16x64 (extractStridedSlice S1536x128 ![3408, 0] y slices_S6912x128_S1536x128_3408_0) shapeCasts_S1536x128_S4x48x16x64
theorem cut10_flat (y : S6912x128.Idx → EReal) (p : ℕ) (hp : p < 196608) : flat (cut10 y) p = flat y (3408 * 128 + p) := by
  unfold cut10
  exact (flat_shapeCast _ _ _).trans (flat_rows y _ (by omega) p (by omega))

def cut11 (y : S6912x128.Idx → EReal) : S4x48x16x64.Idx → EReal :=
  shapeCast S4x48x16x64 (extractStridedSlice S1536x128 ![4944, 0] y slices_S6912x128_S1536x128_4944_0) shapeCasts_S1536x128_S4x48x16x64
theorem cut11_flat (y : S6912x128.Idx → EReal) (p : ℕ) (hp : p < 196608) : flat (cut11 y) p = flat y (4944 * 128 + p) := by
  unfold cut11
  exact (flat_shapeCast _ _ _).trans (flat_rows y _ (by omega) p (by omega))

def cut12 (y : S6912x128.Idx → EReal) : S4x48x16.Idx → EReal :=
  shapeCast S4x48x16 (extractStridedSlice S24x128 ![6480, 0] y slices_S6912x128_S24x128_6480_0) shapeCasts_S24x128_S4x48x16
theorem cut12_flat (y : S6912x128.Idx → EReal) (p : ℕ) (hp : p < 3072) : flat (cut12 y) p = flat y (6480 * 128 + p) := by
  unfold cut12
  exact (flat_shapeCast _ _ _).trans (flat_rows y _ (by omega) p (by omega))

def cut13 (y : S6912x128.Idx → EReal) : S4x768.Idx → EReal :=
  shapeCast S4x768 (extractStridedSlice S24x128 ![6504, 0] y slices_S6912x128_S24x128_6504_0) shapeCasts_S24x128_S4x768
theorem cut13_flat (y : S6912x128.Idx → EReal) (p : ℕ) (hp : p < 3072) : flat (cut13 y) p = flat y (6504 * 128 + p) := by
  unfold cut13
  exact (flat_shapeCast _ _ _).trans (flat_rows y _ (by omega) p (by omega))

def cut14 (y : S6912x128.Idx → EReal) : S4x4x256.Idx → EReal :=
  shapeCast S4x4x256 (extractStridedSlice S32x128 ![6528, 0] y slices_S6912x128_S32x128_6528_0) shapeCasts_S32x128_S4x4x256
theorem cut14_flat (y : S6912x128.Idx → EReal) (p : ℕ) (hp : p < 4096) : flat (cut14 y) p = flat y (6528 * 128 + p) := by
  unfold cut14
  exact (flat_shapeCast _ _ _).trans (flat_rows y _ (by omega) p (by omega))

def cut15 (y : S6912x128.Idx → EReal) : S4x2048.Idx → EReal :=
  shapeCast S4x2048 (extractStridedSlice S64x128 ![6560, 0] y slices_S6912x128_S64x128_6560_0) shapeCasts_S64x128_S4x2048
theorem cut15_flat (y : S6912x128.Idx → EReal) (p : ℕ) (hp : p < 8192) : flat (cut15 y) p = flat y (6560 * 128 + p) := by
  unfold cut15
  exact (flat_shapeCast _ _ _).trans (flat_rows y _ (by omega) p (by omega))

def cut16 (y : S6912x128.Idx → EReal) : S4x16.Idx → EReal :=
  shapeCast S4x16 (extractStridedSlice S64 ![0] (shapeCast S1024 (extractStridedSlice S8x128 ![6624, 0] y slices_S6912x128_S8x128_6624_0) shapeCasts_S8x128_S1024) slices_S1024_S64_0) shapeCasts_S64_S4x16
theorem cut16_flat (y : S6912x128.Idx → EReal) (p : ℕ) (hp : p < 64) : flat (cut16 y) p = flat y (6624 * 128 + p) := by
  unfold cut16
  exact (flat_shapeCast _ _ _).trans ((flat_front _ _ (by omega) p (by omega)).trans ((flat_shapeCast _ _ _).trans
    (flat_rows y _ (by omega) p (by omega))))

def cut17 (y : S6912x128.Idx → EReal) : S4x16.Idx → EReal :=
  shapeCast S4x16 (extractStridedSlice S64 ![0] (shapeCast S1024 (extractStridedSlice S8x128 ![6632, 0] y slices_S6912x128_S8x128_6632_0) shapeCasts_S8x128_S1024) slices_S1024_S64_0) shapeCasts_S64_S4x16
theorem cut17_flat (y : S6912x128.Idx → EReal) (p : ℕ) (hp : p < 64) : flat (cut17 y) p = flat y (6632 * 128 + p) := by
  unfold cut17
  exact (flat_shapeCast _ _ _).trans ((flat_front _ _ (by omega) p (by omega)).trans ((flat_shapeCast _ _ _).trans
    (flat_rows y _ (by omega) p (by omega))))

def cut18 (y : S6912x128.Idx → EReal) : S4x16.Idx → EReal :=
  shapeCast S4x16 (extractStridedSlice S64 ![0] (shapeCast S1024 (extractStridedSlice S8x128 ![6640, 0] y slices_S6912x128_S8x128_6640_0) shapeCasts_S8x128_S1024) slices_S1024_S64_0) shapeCasts_S64_S4x16
theorem cut18_flat (y : S6912x128.Idx → EReal) (p : ℕ) (hp : p < 64) : flat (cut18 y) p = flat y (6640 * 128 + p) := by
  unfold cut18
  exact (flat_shapeCast _ _ _).trans ((flat_front _ _ (by omega) p (by omega)).trans ((flat_shapeCast _ _ _).trans
    (flat_rows y _ (by omega) p (by omega))))

def cut19 (y : S6912x128.Idx → EReal) : S4x1024.Idx → EReal :=
  shapeCast S4x1024 (extractStridedSlice S32x128 ![6648, 0] y slices_S6912x128_S32x128_6648_0) shapeCasts_S32x128_S4x1024
theorem cut19_flat (y : S6912x128.Idx → EReal) (p : ℕ) (hp : p < 4096) : flat (cut19 y) p = flat y (6648 * 128 + p) := by
  unfold cut19
  exact (flat_shapeCast _ _ _).trans (flat_rows y _ (by omega) p (by omega))

def cut20 (y : S6912x128.Idx → EReal) : S2048.Idx → EReal :=
  shapeCast S2048 (extractStridedSlice S16x128 ![6680, 0] y slices_S6912x128_S16x128_6680_0) shapeCasts_S16x128_S2048
theorem cut20_flat (y : S6912x128.Idx → EReal) (p : ℕ) (hp : p < 2048) : flat (cut20 y) p = flat y (6680 * 128 + p) := by
  unfold cut20
  exact (flat_shapeCast _ _ _).trans (flat_rows y _ (by omega) p (by omega))

variable (m : (ℓ : Loc nD τ sig) → Buf (Elt Ideal) ℓ)

/-- A weight's rows of the three arrays hold its change and its new moments. -/
abbrev Steps (c : Dev nD) {S T : Shape} (n : ℕ) (cut : (S6912x128.Idx → EReal) → T.Idx → EReal) (a : S.Idx → EReal) : Prop :=
  cut (changes m c) = changeOf n T a ∧ cut (newFirsts m c) = firstOf n T a ∧ cut (newSeconds m c) = secondOf n T a

theorem stepped (c : Dev nD) {S T : Shape} {n off : ℕ} (cut : (S6912x128.Idx → EReal) → T.Idx → EReal) (a : S.Idx → EReal)
    (hn : T.numel = n) (hoff : off * 128 + n ≤ 6912 * 128)
    (hcut : ∀ y, ∀ p < n, flat (cut y) p = flat y (off * 128 + p)) (hlies : Lies (parts m c) off n a) :
    Steps m c n cut a := by
  have hi : ∀ i : T.Idx, (T.rowMajor i).val < n := fun i => hn ▸ (T.rowMajor i).isLt
  have hb : ∀ i : T.Idx, off * 128 + (T.rowMajor i).val < 6912 * 128 := fun i => by have := hi i; omega
  have at0 := fun i => (weights_flat m c _ (hb i)).trans (hlies 0 _ (hi i))
  have at1 := fun i => (grads_flat m c _ (hb i)).trans (hlies 1 _ (hi i))
  have at2 := fun i => (firsts_flat m c _ (hb i)).trans (hlies 2 _ (hi i))
  have at3 := fun i => (seconds_flat m c _ (hb i)).trans (hlies 3 _ (hi i))
  refine ⟨funext fun i => ?_, funext fun i => ?_, funext fun i => ?_⟩
  · rw [← flat_rowMajor (cut _) i, hcut _ _ (hi i), changes_flat m c _ (hb i), at0, at1, at2, at3]
    rfl
  · rw [← flat_rowMajor (cut _) i, hcut _ _ (hi i), newFirsts_flat m c _ (hb i), at1, at2]
    rfl
  · rw [← flat_rowMajor (cut _) i, hcut _ _ (hi i), newSeconds_flat m c _ (hb i), at1, at3]
    rfl

theorem stepped0 (c : Dev nD) : Steps m c 8192 cut0 (parts m c).a0 :=
  stepped m c (off := 0) _ _ (by decide +kernel) (by omega) cut0_flat (lies0 _)
theorem stepped1 (c : Dev nD) : Steps m c 6144 cut1 (parts m c).a1 :=
  stepped m c (off := 64) _ _ (by decide +kernel) (by omega) cut1_flat (lies1 _)
theorem stepped2 (c : Dev nD) : Steps m c 32 cut2 (parts m c).a2 :=
  stepped m c (off := 112) _ _ (by decide +kernel) (by omega) cut2_flat (lies2 _)
theorem stepped3 (c : Dev nD) : Steps m c 32 cut3 (parts m c).a3 :=
  stepped m c (off := 120) _ _ (by decide +kernel) (by omega) cut3_flat (lies3 _)
theorem stepped4 (c : Dev nD) : Steps m c 512 cut4 (parts m c).a4 :=
  stepped m c (off := 128) _ _ (by decide +kernel) (by omega) cut4_flat (lies4 _)
theorem stepped5 (c : Dev nD) : Steps m c 12288 cut5 (parts m c).a5 :=
  stepped m c (off := 136) _ _ (by decide +kernel) (by omega) cut5_flat (lies5 _)
theorem stepped6 (c : Dev nD) : Steps m c 12288 cut6 (parts m c).a6 :=
  stepped m c (off := 232) _ _ (by decide +kernel) (by omega) cut6_flat (lies6 _)
theorem stepped7 (c : Dev nD) : Steps m c 192 cut7 (parts m c).a7 :=
  stepped m c (off := 328) _ _ (by decide +kernel) (by omega) cut7_flat (lies7 _)
theorem stepped8 (c : Dev nD) : Steps m c 196608 cut8 (parts m c).a8 :=
  stepped m c (off := 336) _ _ (by decide +kernel) (by omega) cut8_flat (lies8 _)
theorem stepped9 (c : Dev nD) : Steps m c 196608 cut9 (parts m c).a9 :=
  stepped m c (off := 1872) _ _ (by decide +kernel) (by omega) cut9_flat (lies9 _)
theorem stepped10 (c : Dev nD) : Steps m c 196608 cut10 (parts m c).a10 :=
  stepped m c (off := 3408) _ _ (by decide +kernel) (by omega) cut10_flat (lies10 _)
theorem stepped11 (c : Dev nD) : Steps m c 196608 cut11 (parts m c).a11 :=
  stepped m c (off := 4944) _ _ (by decide +kernel) (by omega) cut11_flat (lies11 _)
theorem stepped12 (c : Dev nD) : Steps m c 3072 cut12 (parts m c).a12 :=
  stepped m c (off := 6480) _ _ (by decide +kernel) (by omega) cut12_flat (lies12 _)
theorem stepped13 (c : Dev nD) : Steps m c 3072 cut13 (parts m c).a13 :=
  stepped m c (off := 6504) _ _ (by decide +kernel) (by omega) cut13_flat (lies13 _)
theorem stepped14 (c : Dev nD) : Steps m c 4096 cut14 (parts m c).a14 :=
  stepped m c (off := 6528) _ _ (by decide +kernel) (by omega) cut14_flat (lies14 _)
theorem stepped15 (c : Dev nD) : Steps m c 8192 cut15 (parts m c).a15 :=
  stepped m c (off := 6560) _ _ (by decide +kernel) (by omega) cut15_flat (lies15 _)
theorem stepped16 (c : Dev nD) : Steps m c 64 cut16 (parts m c).a16 :=
  stepped m c (off := 6624) _ _ (by decide +kernel) (by omega) cut16_flat (lies16 _)
theorem stepped17 (c : Dev nD) : Steps m c 64 cut17 (parts m c).a17 :=
  stepped m c (off := 6632) _ _ (by decide +kernel) (by omega) cut17_flat (lies17 _)
theorem stepped18 (c : Dev nD) : Steps m c 64 cut18 (parts m c).a18 :=
  stepped m c (off := 6640) _ _ (by decide +kernel) (by omega) cut18_flat (lies18 _)
theorem stepped19 (c : Dev nD) : Steps m c 4096 cut19 (parts m c).a19 :=
  stepped m c (off := 6648) _ _ (by decide +kernel) (by omega) cut19_flat (lies19 _)
theorem stepped20 (c : Dev nD) : Steps m c 2048 cut20 (parts m c).a20 :=
  stepped m c (off := 6680) _ _ (by decide +kernel) (by omega) cut20_flat (lies20 _)

end Cert.KernelSaIdeal.Small

end
-- ==== Proof.SaLast.lean ====
/-
  What the host lines after the region leave in each result of the optimiser's step on the small weights.
-/
module

public import proofs.«01_k».proof.Proof.SaUnpack

@[expose] public section

noncomputable section

namespace Cert.KernelSaIdeal.Small

open Idealize.ShloMosaic Idealize.ShloMosaic.TcCoe Idealize.SL.Sem
open Cert.KernelSaIdeal Cert.KernelSaIdeal.Gen Cert.Packing Cert.Optimiser

variable (m : (ℓ : Loc nD τ sig) → Buf (Elt Ideal) ℓ)

/-- What a buffer holds after the last host line. -/
abbrev last (c : Dev nD) (b : Ref sig .tc) := Pipeline.afterTail₀ cfgs (dats m) 0 (V0 m) [hostOps1] c b

/-- What the buffers hold when the region is left. -/
def exit (c : Dev nD) : Valuation τ sig (Elt Ideal) :=
  Pipeline.withArrays (cfgs 0).spec c (V0 m c) (fun w => (dats m 0 c).arrAt w (cfgs 0).N)
theorem arrays_inj : Function.Injective (Pipeline.arrRef cfg0.spec) := by decide +kernel
theorem region_changes (c : Dev nD) : exit m c (Proc.devRef .tc main_v75_0) = changes m c :=
  Pipeline.withArrays_arr cfg0.spec arrays_inj c (V0 m c) (fun w => (dats m 0 c).arrAt w cfg0.N) 4
theorem region_firsts (c : Dev nD) : exit m c (Proc.devRef .tc main_v75_1) = newFirsts m c :=
  Pipeline.withArrays_arr cfg0.spec arrays_inj c (V0 m c) (fun w => (dats m 0 c).arrAt w cfg0.N) 5
theorem region_seconds (c : Dev nD) : exit m c (Proc.devRef .tc main_v75_2) = newSeconds m c :=
  Pipeline.withArrays_arr cfg0.spec arrays_inj c (V0 m c) (fun w => (dats m 0 c).arrAt w cfg0.N) 6

/-! Of each weight the change and the two new moments. -/

set_option maxHeartbeats 8000000 in
theorem last0 (c : Dev nD) : last m c main_v77 = cut0 (changes m c) ∧ last m c main_v133 = cut0 (newFirsts m c) ∧
    last m c main_v189 = cut0 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut0 h0
  · after_results_simp
    exact congrArg cut0 h1
  · after_results_simp
    exact congrArg cut0 h2
set_option maxHeartbeats 8000000 in
theorem last1 (c : Dev nD) : last m c main_v79 = cut1 (changes m c) ∧ last m c main_v135 = cut1 (newFirsts m c) ∧
    last m c main_v191 = cut1 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut1 h0
  · after_results_simp
    exact congrArg cut1 h1
  · after_results_simp
    exact congrArg cut1 h2
set_option maxHeartbeats 8000000 in
theorem last2 (c : Dev nD) : last m c main_v83 = cut2 (changes m c) ∧ last m c main_v139 = cut2 (newFirsts m c) ∧
    last m c main_v195 = cut2 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut2 h0
  · after_results_simp
    exact congrArg cut2 h1
  · after_results_simp
    exact congrArg cut2 h2
set_option maxHeartbeats 8000000 in
theorem last3 (c : Dev nD) : last m c main_v87 = cut3 (changes m c) ∧ last m c main_v143 = cut3 (newFirsts m c) ∧
    last m c main_v199 = cut3 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut3 h0
  · after_results_simp
    exact congrArg cut3 h1
  · after_results_simp
    exact congrArg cut3 h2
set_option maxHeartbeats 8000000 in
theorem last4 (c : Dev nD) : last m c main_v91 = cut4 (changes m c) ∧ last m c main_v147 = cut4 (newFirsts m c) ∧
    last m c main_v203 = cut4 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut4 h0
  · after_results_simp
    exact congrArg cut4 h1
  · after_results_simp
    exact congrArg cut4 h2
set_option maxHeartbeats 8000000 in
theorem last5 (c : Dev nD) : last m c main_v93 = cut5 (changes m c) ∧ last m c main_v149 = cut5 (newFirsts m c) ∧
    last m c main_v205 = cut5 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut5 h0
  · after_results_simp
    exact congrArg cut5 h1
  · after_results_simp
    exact congrArg cut5 h2
set_option maxHeartbeats 8000000 in
theorem last6 (c : Dev nD) : last m c main_v95 = cut6 (changes m c) ∧ last m c main_v151 = cut6 (newFirsts m c) ∧
    last m c main_v207 = cut6 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut6 h0
  · after_results_simp
    exact congrArg cut6 h1
  · after_results_simp
    exact congrArg cut6 h2
set_option maxHeartbeats 8000000 in
theorem last7 (c : Dev nD) : last m c main_v99 = cut7 (changes m c) ∧ last m c main_v155 = cut7 (newFirsts m c) ∧
    last m c main_v211 = cut7 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut7 h0
  · after_results_simp
    exact congrArg cut7 h1
  · after_results_simp
    exact congrArg cut7 h2
set_option maxHeartbeats 8000000 in
theorem last8 (c : Dev nD) : last m c main_v101 = cut8 (changes m c) ∧ last m c main_v157 = cut8 (newFirsts m c) ∧
    last m c main_v213 = cut8 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut8 h0
  · after_results_simp
    exact congrArg cut8 h1
  · after_results_simp
    exact congrArg cut8 h2
set_option maxHeartbeats 8000000 in
theorem last9 (c : Dev nD) : last m c main_v103 = cut9 (changes m c) ∧ last m c main_v159 = cut9 (newFirsts m c) ∧
    last m c main_v215 = cut9 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut9 h0
  · after_results_simp
    exact congrArg cut9 h1
  · after_results_simp
    exact congrArg cut9 h2
set_option maxHeartbeats 8000000 in
theorem last10 (c : Dev nD) : last m c main_v105 = cut10 (changes m c) ∧ last m c main_v161 = cut10 (newFirsts m c) ∧
    last m c main_v217 = cut10 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut10 h0
  · after_results_simp
    exact congrArg cut10 h1
  · after_results_simp
    exact congrArg cut10 h2
set_option maxHeartbeats 8000000 in
theorem last11 (c : Dev nD) : last m c main_v107 = cut11 (changes m c) ∧ last m c main_v163 = cut11 (newFirsts m c) ∧
    last m c main_v219 = cut11 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut11 h0
  · after_results_simp
    exact congrArg cut11 h1
  · after_results_simp
    exact congrArg cut11 h2
set_option maxHeartbeats 8000000 in
theorem last12 (c : Dev nD) : last m c main_v109 = cut12 (changes m c) ∧ last m c main_v165 = cut12 (newFirsts m c) ∧
    last m c main_v221 = cut12 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut12 h0
  · after_results_simp
    exact congrArg cut12 h1
  · after_results_simp
    exact congrArg cut12 h2
set_option maxHeartbeats 8000000 in
theorem last13 (c : Dev nD) : last m c main_v111 = cut13 (changes m c) ∧ last m c main_v167 = cut13 (newFirsts m c) ∧
    last m c main_v223 = cut13 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut13 h0
  · after_results_simp
    exact congrArg cut13 h1
  · after_results_simp
    exact congrArg cut13 h2
set_option maxHeartbeats 8000000 in
theorem last14 (c : Dev nD) : last m c main_v113 = cut14 (changes m c) ∧ last m c main_v169 = cut14 (newFirsts m c) ∧
    last m c main_v225 = cut14 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut14 h0
  · after_results_simp
    exact congrArg cut14 h1
  · after_results_simp
    exact congrArg cut14 h2
set_option maxHeartbeats 8000000 in
theorem last15 (c : Dev nD) : last m c main_v115 = cut15 (changes m c) ∧ last m c main_v171 = cut15 (newFirsts m c) ∧
    last m c main_v227 = cut15 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut15 h0
  · after_results_simp
    exact congrArg cut15 h1
  · after_results_simp
    exact congrArg cut15 h2
set_option maxHeartbeats 8000000 in
theorem last16 (c : Dev nD) : last m c main_v119 = cut16 (changes m c) ∧ last m c main_v175 = cut16 (newFirsts m c) ∧
    last m c main_v231 = cut16 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut16 h0
  · after_results_simp
    exact congrArg cut16 h1
  · after_results_simp
    exact congrArg cut16 h2
set_option maxHeartbeats 8000000 in
theorem last17 (c : Dev nD) : last m c main_v123 = cut17 (changes m c) ∧ last m c main_v179 = cut17 (newFirsts m c) ∧
    last m c main_v235 = cut17 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut17 h0
  · after_results_simp
    exact congrArg cut17 h1
  · after_results_simp
    exact congrArg cut17 h2
set_option maxHeartbeats 8000000 in
theorem last18 (c : Dev nD) : last m c main_v127 = cut18 (changes m c) ∧ last m c main_v183 = cut18 (newFirsts m c) ∧
    last m c main_v239 = cut18 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut18 h0
  · after_results_simp
    exact congrArg cut18 h1
  · after_results_simp
    exact congrArg cut18 h2
set_option maxHeartbeats 8000000 in
theorem last19 (c : Dev nD) : last m c main_v129 = cut19 (changes m c) ∧ last m c main_v185 = cut19 (newFirsts m c) ∧
    last m c main_v241 = cut19 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut19 h0
  · after_results_simp
    exact congrArg cut19 h1
  · after_results_simp
    exact congrArg cut19 h2
set_option maxHeartbeats 8000000 in
theorem last20 (c : Dev nD) : last m c main_v131 = cut20 (changes m c) ∧ last m c main_v187 = cut20 (newFirsts m c) ∧
    last m c main_v243 = cut20 (newSeconds m c) := by
  have h0 := region_changes m c
  have h1 := region_firsts m c
  have h2 := region_seconds m c
  unfold last Pipeline.afterTail₀
  unfold exit at h0 h1 h2
  generalize Pipeline.withArrays (cfgs 0).spec c (V0 m c) (fun w => (dats m 0 c).arrAt w (cfgs 0).N) = W at h0 h1 h2 ⊢
  simp only [hostOps1, List.flatten_cons, List.flatten_nil, List.append_nil, List.cons_append, List.nil_append]
  refine ⟨?_, ?_, ?_⟩
  · after_results_simp
    exact congrArg cut20 h0
  · after_results_simp
    exact congrArg cut20 h1
  · after_results_simp
    exact congrArg cut20 h2

end Cert.KernelSaIdeal.Small

end
-- ==== Proof.SaValue.lean ====
/-
  The optimiser's step on the small weights: packing each weight with its gradient and moments into one buffer, the step tile
  by tile, and taking the results out again is AdamW's step on each weight.
-/
module

public import proofs.«01_k».proof.Proof.SaLast
public import proofs.«01_k».proof.Proof.Gen.ReferenceSaIdeal.Run

@[expose] public section

noncomputable section

namespace Cert.KernelSaIdeal.Small

open Idealize.ShloMosaic Idealize.ShloMosaic.TcCoe Idealize.SL.Sem
open Cert.KernelSaIdeal Cert.KernelSaIdeal.Gen Cert.Packing Cert.Optimiser

/-! How many places an array has. -/

theorem numel1 (a : ℕ) : (⟨1, ![a]⟩ : Shape).numel = a := by
  simp [Shape.numel, Fin.prod_univ_succ]
theorem numel2 (a b : ℕ) : (⟨2, ![a, b]⟩ : Shape).numel = a * b := by
  simp [Shape.numel, Fin.prod_univ_succ]
theorem numel3 (a b c : ℕ) : (⟨3, ![a, b, c]⟩ : Shape).numel = a * (b * c) := by
  simp [Shape.numel, Fin.prod_univ_succ]
theorem numel4 (a b c d : ℕ) : (⟨4, ![a, b, c, d]⟩ : Shape).numel = a * (b * (c * d)) := by
  simp [Shape.numel, Fin.prod_univ_succ]

/-- An array cut out of a stack. -/
theorem stack1 {q k n a : ℕ} (x : (⟨2, ![q, a]⟩ : Shape).Idx → EReal)
    (h : (⟨2, ![q, a]⟩ : Shape).Slices ![k, 0] ⟨2, ![1, a]⟩) (hc : (⟨2, ![1, a]⟩ : Shape).ShapeCasts ⟨1, ![a]⟩)
    (hn : a = n) :
    shapeCast ⟨1, ![a]⟩ (extractStridedSlice ⟨2, ![1, a]⟩ ![k, 0] x h) hc = slot n ⟨1, ![a]⟩ k x := funext fun i => by
  subst hn
  rw [← flat_rowMajor (shapeCast _ _ _) i, flat_shapeCast, part1 x h _ (lt_of_lt_of_eq (Fin.isLt _) (numel1 ..))]
  rfl

theorem stack2 {q k n a b : ℕ} (x : (⟨3, ![q, a, b]⟩ : Shape).Idx → EReal)
    (h : (⟨3, ![q, a, b]⟩ : Shape).Slices ![k, 0, 0] ⟨3, ![1, a, b]⟩) (hc : (⟨3, ![1, a, b]⟩ : Shape).ShapeCasts ⟨2, ![a, b]⟩)
    (hn : a * b = n) :
    shapeCast ⟨2, ![a, b]⟩ (extractStridedSlice ⟨3, ![1, a, b]⟩ ![k, 0, 0] x h) hc = slot n ⟨2, ![a, b]⟩ k x := funext fun i => by
  subst hn
  rw [← flat_rowMajor (shapeCast _ _ _) i, flat_shapeCast, part2 x h _ (lt_of_lt_of_eq (Fin.isLt _) (numel2 ..))]
  rfl

theorem stack3 {q k n a b c : ℕ} (x : (⟨4, ![q, a, b, c]⟩ : Shape).Idx → EReal)
    (h : (⟨4, ![q, a, b, c]⟩ : Shape).Slices ![k, 0, 0, 0] ⟨4, ![1, a, b, c]⟩) (hc : (⟨4, ![1, a, b, c]⟩ : Shape).ShapeCasts ⟨3, ![a, b, c]⟩)
    (hn : a * (b * c) = n) :
    shapeCast ⟨3, ![a, b, c]⟩ (extractStridedSlice ⟨4, ![1, a, b, c]⟩ ![k, 0, 0, 0] x h) hc = slot n ⟨3, ![a, b, c]⟩ k x := funext fun i => by
  subst hn
  rw [← flat_rowMajor (shapeCast _ _ _) i, flat_shapeCast, part3 x h _ (lt_of_lt_of_eq (Fin.isLt _) (numel3 ..))]
  rfl

theorem stack4 {q k n a b c d : ℕ} (x : (⟨5, ![q, a, b, c, d]⟩ : Shape).Idx → EReal)
    (h : (⟨5, ![q, a, b, c, d]⟩ : Shape).Slices ![k, 0, 0, 0, 0] ⟨5, ![1, a, b, c, d]⟩) (hc : (⟨5, ![1, a, b, c, d]⟩ : Shape).ShapeCasts ⟨4, ![a, b, c, d]⟩)
    (hn : a * (b * (c * d)) = n) :
    shapeCast ⟨4, ![a, b, c, d]⟩ (extractStridedSlice ⟨5, ![1, a, b, c, d]⟩ ![k, 0, 0, 0, 0] x h) hc = slot n ⟨4, ![a, b, c, d]⟩ k x := funext fun i => by
  subst hn
  rw [← flat_rowMajor (shapeCast _ _ _) i, flat_shapeCast, part4 x h _ (lt_of_lt_of_eq (Fin.isLt _) (numel4 ..))]
  rfl

section
variable {T : Shape} (hb : S_.BroadcastsInDim T ![])

/-! The reference's step in one line for each result. -/

theorem first_apply (g m : FVec Ideal T .f32) :
    addf (mulf (broadcastInDim T ![] hb (constant S_ .f32 0x3F666666#32)) m) (mulf (broadcastInDim T ![] hb (constant S_ .f32 0x3DCCCCCD#32)) g)
      = fun i => moment (g i) (m i) := rfl
theorem second_apply (g v : FVec Ideal T .f32) :
    addf (mulf (broadcastInDim T ![] hb (constant S_ .f32 0x3F7FBE77#32)) v) (mulf (broadcastInDim T ![] hb (constant S_ .f32 0x3A83126F#32)) (mulf g g))
      = fun i => square (g i) (v i) := rfl
theorem change_apply (w g m v : FVec Ideal T .f32) :
    mulf (broadcastInDim T ![] hb (constant S_ .f32 0xBA83126F#32)) (addf
      (Host.divf
        (Host.divf (addf (mulf (broadcastInDim T ![] hb (constant S_ .f32 0x3F666666#32)) m) (mulf (broadcastInDim T ![] hb (constant S_ .f32 0x3DCCCCCD#32)) g))
          (broadcastInDim T ![] hb (constant S_ .f32 0x3F26BD02#32)))
        (addf (Host.sqrt (Host.divf (addf (mulf (broadcastInDim T ![] hb (constant S_ .f32 0x3F7FBE77#32)) v) (mulf (broadcastInDim T ![] hb (constant S_ .f32 0x3A83126F#32)) (mulf g g)))
            (broadcastInDim T ![] hb (constant S_ .f32 0x3C231ACC#32))))
          (broadcastInDim T ![] hb (constant S_ .f32 0x322BCC77#32))))
      (mulf (broadcastInDim T ![] hb (constant S_ .f32 0x3C23D70A#32)) w))
      = fun i => step (w i) (g i) (m i) (v i) := rfl

variable {S : Shape} {n : ℕ} {a : S.Idx → EReal} {w g m v : T.Idx → EReal}

theorem change_eq (hw : w = slot n T 0 a) (hg : g = slot n T 1 a) (hm : m = slot n T 2 a) (hv : v = slot n T 3 a) :
    (fun i => step (w i) (g i) (m i) (v i)) = changeOf n T a := by subst hw hg hm hv; rfl
theorem first_eq (hg : g = slot n T 1 a) (hm : m = slot n T 2 a) : (fun i => moment (g i) (m i)) = firstOf n T a := by subst hg hm; rfl
theorem second_eq (hg : g = slot n T 1 a) (hv : v = slot n T 3 a) : (fun i => square (g i) (v i)) = secondOf n T a := by subst hg hv; rfl
end

end Cert.KernelSaIdeal.Small

namespace Cert.SaValue

open Idealize.ShloMosaic Idealize.ShloMosaic.TcCoe Idealize.SL.Sem
open Cert.KernelSaIdeal Cert.KernelSaIdeal.Gen Cert.KernelSaIdeal.Small Cert.Packing

/-- The kernel's results: of each weight the change, then of each the new first moment, then of each the new second. -/
theorem kernel_steps (m : (ℓ : Loc nD τ sig) → Buf (Elt Ideal) ℓ) (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v77) = changeOf 8192 S4x2048 (parts m c).a0
    ∧ r.2.mem ((c.tc : Thread nD τ).loc main_v79) = changeOf 6144 S4x4x384 (parts m c).a1
    ∧ r.2.mem ((c.tc : Thread nD τ).loc main_v83) = changeOf 32 S4x8 (parts m c).a2
    ∧ r.2.mem ((c.tc : Thread nD τ).loc main_v87) = changeOf 32 S4x8 (parts m c).a3
    ∧ r.2.mem ((c.tc : Thread nD τ).loc main_v91) = changeOf 512 S4x128 (parts m c).a4
    ∧ r.2.mem ((c.tc : Thread nD τ).loc main_v93) = changeOf 12288 S4x48x64 (parts m c).a5
    ∧ r.2.mem ((c.tc : Thread nD τ).loc main_v95) = changeOf 12288 S4x48x64 (parts m c).a6
    ∧ r.2.mem ((c.tc : Thread nD τ).loc main_v99) = changeOf 192 S4x48 (parts m c).a7
    ∧ r.2.mem ((c.tc : Thread nD τ).loc main_v101) = changeOf 196608 S4x48x64x16 (parts m c).a8
    ∧ r.2.mem ((c.tc : Thread nD τ).loc main_v103) = changeOf 196608 S4x48x64x16 (parts m c).a9
    ∧ r.2.mem ((c.tc : Thread nD τ).loc main_v105) = changeOf 196608 S4x48x16x64 (parts m c).a10
    ∧ r.2.mem ((c.tc : Thread nD τ).loc main_v107) = changeOf 196608 S4x48x16x64 (parts m c).a11
    ∧ r.2.mem ((c.tc : Thread nD τ).loc main_v109) = changeOf 3072 S4x48x16 (parts m c).a12
    ∧ r.2.mem ((c.tc : Thread nD τ).loc main_v111) = changeOf 3072 S4x768 (parts m c).a13
    ∧ r.2.mem ((c.tc : Thread nD τ).loc main_v113) = changeOf 4096 S4x4x256 (parts m c).a14
    ∧ r.2.mem ((c.tc : Thread nD τ).loc main_v115) = changeOf 8192 S4x2048 (parts m c).a15
    ∧ r.2.mem ((c.tc : Thread nD τ).loc main_v119) = changeOf 64 S4x16 (parts m c).a16
    ∧ r.2.mem ((c.tc : Thread nD τ).loc main_v123) = changeOf 64 S4x16 (parts m c).a17
    ∧ r.2.mem ((c.tc : Thread nD τ).loc main_v127) = changeOf 64 S4x16 (parts m c).a18
    ∧ r.2.mem ((c.tc : Thread nD τ).loc main_v129) = changeOf 4096 S4x1024 (parts m c).a19
    ∧ r.2.mem ((c.tc : Thread nD τ).loc main_v131) = changeOf 2048 S2048 (parts m c).a20
    ∧ r.2.mem ((c.tc : Thread nD τ).loc main_v133) = firstOf 8192 S4x2048 (parts m c).a0
    ∧ r.2.mem ((c.tc : Thread nD τ).loc main_v135) = firstOf 6144 S4x4x384 (parts m c).a1
    ∧ r.2.mem ((c.tc : Thread nD τ).loc main_v139) = firstOf 32 S4x8 (parts m c).a2
    ∧ r.2.mem ((c.tc : Thread nD τ).loc main_v143) = firstOf 32 S4x8 (parts m c).a3
    ∧ r.2.mem ((c.tc : Thread nD τ).loc main_v147) = firstOf 512 S4x128 (parts m c).a4
    ∧ r.2.mem ((c.tc : Thread nD τ).loc main_v149) = firstOf 12288 S4x48x64 (parts m c).a5
    ∧ r.2.mem ((c.tc : Thread nD τ).loc main_v151) = firstOf 12288 S4x48x64 (parts m c).a6
    ∧ r.2.mem ((c.tc : Thread nD τ).loc main_v155) = firstOf 192 S4x48 (parts m c).a7
    ∧ r.2.mem ((c.tc : Thread nD τ).loc main_v157) = firstOf 196608 S4x48x64x16 (parts m c).a8
    ∧ r.2.mem ((c.tc : Thread nD τ).loc main_v159) = firstOf 196608 S4x48x64x16 (parts m c).a9
    ∧ r.2.mem ((c.tc : Thread nD τ).loc main_v161) = firstOf 196608 S4x48x16x64 (parts m c).a10
    ∧ r.2.mem ((c.tc : Thread nD τ).loc main_v163) = firstOf 196608 S4x48x16x64 (parts m c).a11
    ∧ r.2.mem ((c.tc : Thread nD τ).loc main_v165) = firstOf 3072 S4x48x16 (parts m c).a12
    ∧ r.2.mem ((c.tc : Thread nD τ).loc main_v167) = firstOf 3072 S4x768 (parts m c).a13
    ∧ r.2.mem ((c.tc : Thread nD τ).loc main_v169) = firstOf 4096 S4x4x256 (parts m c).a14
    ∧ r.2.mem ((c.tc : Thread nD τ).loc main_v171) = firstOf 8192 S4x2048 (parts m c).a15
    ∧ r.2.mem ((c.tc : Thread nD τ).loc main_v175) = firstOf 64 S4x16 (parts m c).a16
    ∧ r.2.mem ((c.tc : Thread nD τ).loc main_v179) = firstOf 64 S4x16 (parts m c).a17
    ∧ r.2.mem ((c.tc : Thread nD τ).loc main_v183) = firstOf 64 S4x16 (parts m c).a18
    ∧ r.2.mem ((c.tc : Thread nD τ).loc main_v185) = firstOf 4096 S4x1024 (parts m c).a19
    ∧ r.2.mem ((c.tc : Thread nD τ).loc main_v187) = firstOf 2048 S2048 (parts m c).a20
    ∧ r.2.mem ((c.tc : Thread nD τ).loc main_v189) = secondOf 8192 S4x2048 (parts m c).a0
    ∧ r.2.mem ((c.tc : Thread nD τ).loc main_v191) = secondOf 6144 S4x4x384 (parts m c).a1
    ∧ r.2.mem ((c.tc : Thread nD τ).loc main_v195) = secondOf 32 S4x8 (parts m c).a2
    ∧ r.2.mem ((c.tc : Thread nD τ).loc main_v199) = secondOf 32 S4x8 (parts m c).a3
    ∧ r.2.mem ((c.tc : Thread nD τ).loc main_v203) = secondOf 512 S4x128 (parts m c).a4
    ∧ r.2.mem ((c.tc : Thread nD τ).loc main_v205) = secondOf 12288 S4x48x64 (parts m c).a5
    ∧ r.2.mem ((c.tc : Thread nD τ).loc main_v207) = secondOf 12288 S4x48x64 (parts m c).a6
    ∧ r.2.mem ((c.tc : Thread nD τ).loc main_v211) = secondOf 192 S4x48 (parts m c).a7
    ∧ r.2.mem ((c.tc : Thread nD τ).loc main_v213) = secondOf 196608 S4x48x64x16 (parts m c).a8
    ∧ r.2.mem ((c.tc : Thread nD τ).loc main_v215) = secondOf 196608 S4x48x64x16 (parts m c).a9
    ∧ r.2.mem ((c.tc : Thread nD τ).loc main_v217) = secondOf 196608 S4x48x16x64 (parts m c).a10
    ∧ r.2.mem ((c.tc : Thread nD τ).loc main_v219) = secondOf 196608 S4x48x16x64 (parts m c).a11
    ∧ r.2.mem ((c.tc : Thread nD τ).loc main_v221) = secondOf 3072 S4x48x16 (parts m c).a12
    ∧ r.2.mem ((c.tc : Thread nD τ).loc main_v223) = secondOf 3072 S4x768 (parts m c).a13
    ∧ r.2.mem ((c.tc : Thread nD τ).loc main_v225) = secondOf 4096 S4x4x256 (parts m c).a14
    ∧ r.2.mem ((c.tc : Thread nD τ).loc main_v227) = secondOf 8192 S4x2048 (parts m c).a15
    ∧ r.2.mem ((c.tc : Thread nD τ).loc main_v231) = secondOf 64 S4x16 (parts m c).a16
    ∧ r.2.mem ((c.tc : Thread nD τ).loc main_v235) = secondOf 64 S4x16 (parts m c).a17
    ∧ r.2.mem ((c.tc : Thread nD τ).loc main_v239) = secondOf 64 S4x16 (parts m c).a18
    ∧ r.2.mem ((c.tc : Thread nD τ).loc main_v241) = secondOf 4096 S4x1024 (parts m c).a19
    ∧ r.2.mem ((c.tc : Thread nD τ).loc main_v243) = secondOf 2048 S2048 (parts m c).a20 := by
  have get := fun b hb => (h c).2 b hb
  exact ⟨(get main_v77 (Pipeline.mem_restRefs_of _ (by decide) (by decide))).trans ((last0 m c).1.trans (stepped0 m c).1),
    (get main_v79 (Pipeline.mem_restRefs_of _ (by decide) (by decide))).trans ((last1 m c).1.trans (stepped1 m c).1),
    (get main_v83 (Pipeline.mem_restRefs_of _ (by decide) (by decide))).trans ((last2 m c).1.trans (stepped2 m c).1),
    (get main_v87 (Pipeline.mem_restRefs_of _ (by decide) (by decide))).trans ((last3 m c).1.trans (stepped3 m c).1),
    (get main_v91 (Pipeline.mem_restRefs_of _ (by decide) (by decide))).trans ((last4 m c).1.trans (stepped4 m c).1),
    (get main_v93 (Pipeline.mem_restRefs_of _ (by decide) (by decide))).trans ((last5 m c).1.trans (stepped5 m c).1),
    (get main_v95 (Pipeline.mem_restRefs_of _ (by decide) (by decide))).trans ((last6 m c).1.trans (stepped6 m c).1),
    (get main_v99 (Pipeline.mem_restRefs_of _ (by decide) (by decide))).trans ((last7 m c).1.trans (stepped7 m c).1),
    (get main_v101 (Pipeline.mem_restRefs_of _ (by decide) (by decide))).trans ((last8 m c).1.trans (stepped8 m c).1),
    (get main_v103 (Pipeline.mem_restRefs_of _ (by decide) (by decide))).trans ((last9 m c).1.trans (stepped9 m c).1),
    (get main_v105 (Pipeline.mem_restRefs_of _ (by decide) (by decide))).trans ((last10 m c).1.trans (stepped10 m c).1),
    (get main_v107 (Pipeline.mem_restRefs_of _ (by decide) (by decide))).trans ((last11 m c).1.trans (stepped11 m c).1),
    (get main_v109 (Pipeline.mem_restRefs_of _ (by decide) (by decide))).trans ((last12 m c).1.trans (stepped12 m c).1),
    (get main_v111 (Pipeline.mem_restRefs_of _ (by decide) (by decide))).trans ((last13 m c).1.trans (stepped13 m c).1),
    (get main_v113 (Pipeline.mem_restRefs_of _ (by decide) (by decide))).trans ((last14 m c).1.trans (stepped14 m c).1),
    (get main_v115 (Pipeline.mem_restRefs_of _ (by decide) (by decide))).trans ((last15 m c).1.trans (stepped15 m c).1),
    (get main_v119 (Pipeline.mem_restRefs_of _ (by decide) (by decide))).trans ((last16 m c).1.trans (stepped16 m c).1),
    (get main_v123 (Pipeline.mem_restRefs_of _ (by decide) (by decide))).trans ((last17 m c).1.trans (stepped17 m c).1),
    (get main_v127 (Pipeline.mem_restRefs_of _ (by decide) (by decide))).trans ((last18 m c).1.trans (stepped18 m c).1),
    (get main_v129 (Pipeline.mem_restRefs_of _ (by decide) (by decide))).trans ((last19 m c).1.trans (stepped19 m c).1),
    (get main_v131 (Pipeline.mem_restRefs_of _ (by decide) (by decide))).trans ((last20 m c).1.trans (stepped20 m c).1),
    (get main_v133 (Pipeline.mem_restRefs_of _ (by decide) (by decide))).trans ((last0 m c).2.1.trans (stepped0 m c).2.1),
    (get main_v135 (Pipeline.mem_restRefs_of _ (by decide) (by decide))).trans ((last1 m c).2.1.trans (stepped1 m c).2.1),
    (get main_v139 (Pipeline.mem_restRefs_of _ (by decide) (by decide))).trans ((last2 m c).2.1.trans (stepped2 m c).2.1),
    (get main_v143 (Pipeline.mem_restRefs_of _ (by decide) (by decide))).trans ((last3 m c).2.1.trans (stepped3 m c).2.1),
    (get main_v147 (Pipeline.mem_restRefs_of _ (by decide) (by decide))).trans ((last4 m c).2.1.trans (stepped4 m c).2.1),
    (get main_v149 (Pipeline.mem_restRefs_of _ (by decide) (by decide))).trans ((last5 m c).2.1.trans (stepped5 m c).2.1),
    (get main_v151 (Pipeline.mem_restRefs_of _ (by decide) (by decide))).trans ((last6 m c).2.1.trans (stepped6 m c).2.1),
    (get main_v155 (Pipeline.mem_restRefs_of _ (by decide) (by decide))).trans ((last7 m c).2.1.trans (stepped7 m c).2.1),
    (get main_v157 (Pipeline.mem_restRefs_of _ (by decide) (by decide))).trans ((last8 m c).2.1.trans (stepped8 m c).2.1),
    (get main_v159 (Pipeline.mem_restRefs_of _ (by decide) (by decide))).trans ((last9 m c).2.1.trans (stepped9 m c).2.1),
    (get main_v161 (Pipeline.mem_restRefs_of _ (by decide) (by decide))).trans ((last10 m c).2.1.trans (stepped10 m c).2.1),
    (get main_v163 (Pipeline.mem_restRefs_of _ (by decide) (by decide))).trans ((last11 m c).2.1.trans (stepped11 m c).2.1),
    (get main_v165 (Pipeline.mem_restRefs_of _ (by decide) (by decide))).trans ((last12 m c).2.1.trans (stepped12 m c).2.1),
    (get main_v167 (Pipeline.mem_restRefs_of _ (by decide) (by decide))).trans ((last13 m c).2.1.trans (stepped13 m c).2.1),
    (get main_v169 (Pipeline.mem_restRefs_of _ (by decide) (by decide))).trans ((last14 m c).2.1.trans (stepped14 m c).2.1),
    (get main_v171 (Pipeline.mem_restRefs_of _ (by decide) (by decide))).trans ((last15 m c).2.1.trans (stepped15 m c).2.1),
    (get main_v175 (Pipeline.mem_restRefs_of _ (by decide) (by decide))).trans ((last16 m c).2.1.trans (stepped16 m c).2.1),
    (get main_v179 (Pipeline.mem_restRefs_of _ (by decide) (by decide))).trans ((last17 m c).2.1.trans (stepped17 m c).2.1),
    (get main_v183 (Pipeline.mem_restRefs_of _ (by decide) (by decide))).trans ((last18 m c).2.1.trans (stepped18 m c).2.1),
    (get main_v185 (Pipeline.mem_restRefs_of _ (by decide) (by decide))).trans ((last19 m c).2.1.trans (stepped19 m c).2.1),
    (get main_v187 (Pipeline.mem_restRefs_of _ (by decide) (by decide))).trans ((last20 m c).2.1.trans (stepped20 m c).2.1),
    (get main_v189 (Pipeline.mem_restRefs_of _ (by decide) (by decide))).trans ((last0 m c).2.2.trans (stepped0 m c).2.2),
    (get main_v191 (Pipeline.mem_restRefs_of _ (by decide) (by decide))).trans ((last1 m c).2.2.trans (stepped1 m c).2.2),
    (get main_v195 (Pipeline.mem_restRefs_of _ (by decide) (by decide))).trans ((last2 m c).2.2.trans (stepped2 m c).2.2),
    (get main_v199 (Pipeline.mem_restRefs_of _ (by decide) (by decide))).trans ((last3 m c).2.2.trans (stepped3 m c).2.2),
    (get main_v203 (Pipeline.mem_restRefs_of _ (by decide) (by decide))).trans ((last4 m c).2.2.trans (stepped4 m c).2.2),
    (get main_v205 (Pipeline.mem_restRefs_of _ (by decide) (by decide))).trans ((last5 m c).2.2.trans (stepped5 m c).2.2),
    (get main_v207 (Pipeline.mem_restRefs_of _ (by decide) (by decide))).trans ((last6 m c).2.2.trans (stepped6 m c).2.2),
    (get main_v211 (Pipeline.mem_restRefs_of _ (by decide) (by decide))).trans ((last7 m c).2.2.trans (stepped7 m c).2.2),
    (get main_v213 (Pipeline.mem_restRefs_of _ (by decide) (by decide))).trans ((last8 m c).2.2.trans (stepped8 m c).2.2),
    (get main_v215 (Pipeline.mem_restRefs_of _ (by decide) (by decide))).trans ((last9 m c).2.2.trans (stepped9 m c).2.2),
    (get main_v217 (Pipeline.mem_restRefs_of _ (by decide) (by decide))).trans ((last10 m c).2.2.trans (stepped10 m c).2.2),
    (get main_v219 (Pipeline.mem_restRefs_of _ (by decide) (by decide))).trans ((last11 m c).2.2.trans (stepped11 m c).2.2),
    (get main_v221 (Pipeline.mem_restRefs_of _ (by decide) (by decide))).trans ((last12 m c).2.2.trans (stepped12 m c).2.2),
    (get main_v223 (Pipeline.mem_restRefs_of _ (by decide) (by decide))).trans ((last13 m c).2.2.trans (stepped13 m c).2.2),
    (get main_v225 (Pipeline.mem_restRefs_of _ (by decide) (by decide))).trans ((last14 m c).2.2.trans (stepped14 m c).2.2),
    (get main_v227 (Pipeline.mem_restRefs_of _ (by decide) (by decide))).trans ((last15 m c).2.2.trans (stepped15 m c).2.2),
    (get main_v231 (Pipeline.mem_restRefs_of _ (by decide) (by decide))).trans ((last16 m c).2.2.trans (stepped16 m c).2.2),
    (get main_v235 (Pipeline.mem_restRefs_of _ (by decide) (by decide))).trans ((last17 m c).2.2.trans (stepped17 m c).2.2),
    (get main_v239 (Pipeline.mem_restRefs_of _ (by decide) (by decide))).trans ((last18 m c).2.2.trans (stepped18 m c).2.2),
    (get main_v241 (Pipeline.mem_restRefs_of _ (by decide) (by decide))).trans ((last19 m c).2.2.trans (stepped19 m c).2.2),
    (get main_v243 (Pipeline.mem_restRefs_of _ (by decide) (by decide))).trans ((last20 m c).2.2.trans (stepped20 m c).2.2)⟩

/-- AdamW's step on each small weight: the kernel's results are the reference's. -/
theorem algebraic : Cert.algebraic_KernelSaIdeal_ReferenceSaIdeal (hKernelSaIdeal := Cert.KernelSaIdeal.Gen.facts)
    (hReferenceSaIdeal := Cert.ReferenceSaIdeal.Gen.facts) :=
  fun m ρ m' ρ' _ hag => ⟨fun c => changeOf 8192 S4x2048 (parts m c).a0,
    fun c => changeOf 6144 S4x4x384 (parts m c).a1,
    fun c => changeOf 32 S4x8 (parts m c).a2,
    fun c => changeOf 32 S4x8 (parts m c).a3,
    fun c => changeOf 512 S4x128 (parts m c).a4,
    fun c => changeOf 12288 S4x48x64 (parts m c).a5,
    fun c => changeOf 12288 S4x48x64 (parts m c).a6,
    fun c => changeOf 192 S4x48 (parts m c).a7,
    fun c => changeOf 196608 S4x48x64x16 (parts m c).a8,
    fun c => changeOf 196608 S4x48x64x16 (parts m c).a9,
    fun c => changeOf 196608 S4x48x16x64 (parts m c).a10,
    fun c => changeOf 196608 S4x48x16x64 (parts m c).a11,
    fun c => changeOf 3072 S4x48x16 (parts m c).a12,
    fun c => changeOf 3072 S4x768 (parts m c).a13,
    fun c => changeOf 4096 S4x4x256 (parts m c).a14,
    fun c => changeOf 8192 S4x2048 (parts m c).a15,
    fun c => changeOf 64 S4x16 (parts m c).a16,
    fun c => changeOf 64 S4x16 (parts m c).a17,
    fun c => changeOf 64 S4x16 (parts m c).a18,
    fun c => changeOf 4096 S4x1024 (parts m c).a19,
    fun c => changeOf 2048 S2048 (parts m c).a20,
    fun c => firstOf 8192 S4x2048 (parts m c).a0,
    fun c => firstOf 6144 S4x4x384 (parts m c).a1,
    fun c => firstOf 32 S4x8 (parts m c).a2,
    fun c => firstOf 32 S4x8 (parts m c).a3,
    fun c => firstOf 512 S4x128 (parts m c).a4,
    fun c => firstOf 12288 S4x48x64 (parts m c).a5,
    fun c => firstOf 12288 S4x48x64 (parts m c).a6,
    fun c => firstOf 192 S4x48 (parts m c).a7,
    fun c => firstOf 196608 S4x48x64x16 (parts m c).a8,
    fun c => firstOf 196608 S4x48x64x16 (parts m c).a9,
    fun c => firstOf 196608 S4x48x16x64 (parts m c).a10,
    fun c => firstOf 196608 S4x48x16x64 (parts m c).a11,
    fun c => firstOf 3072 S4x48x16 (parts m c).a12,
    fun c => firstOf 3072 S4x768 (parts m c).a13,
    fun c => firstOf 4096 S4x4x256 (parts m c).a14,
    fun c => firstOf 8192 S4x2048 (parts m c).a15,
    fun c => firstOf 64 S4x16 (parts m c).a16,
    fun c => firstOf 64 S4x16 (parts m c).a17,
    fun c => firstOf 64 S4x16 (parts m c).a18,
    fun c => firstOf 4096 S4x1024 (parts m c).a19,
    fun c => firstOf 2048 S2048 (parts m c).a20,
    fun c => secondOf 8192 S4x2048 (parts m c).a0,
    fun c => secondOf 6144 S4x4x384 (parts m c).a1,
    fun c => secondOf 32 S4x8 (parts m c).a2,
    fun c => secondOf 32 S4x8 (parts m c).a3,
    fun c => secondOf 512 S4x128 (parts m c).a4,
    fun c => secondOf 12288 S4x48x64 (parts m c).a5,
    fun c => secondOf 12288 S4x48x64 (parts m c).a6,
    fun c => secondOf 192 S4x48 (parts m c).a7,
    fun c => secondOf 196608 S4x48x64x16 (parts m c).a8,
    fun c => secondOf 196608 S4x48x64x16 (parts m c).a9,
    fun c => secondOf 196608 S4x48x16x64 (parts m c).a10,
    fun c => secondOf 196608 S4x48x16x64 (parts m c).a11,
    fun c => secondOf 3072 S4x48x16 (parts m c).a12,
    fun c => secondOf 3072 S4x768 (parts m c).a13,
    fun c => secondOf 4096 S4x4x256 (parts m c).a14,
    fun c => secondOf 8192 S4x2048 (parts m c).a15,
    fun c => secondOf 64 S4x16 (parts m c).a16,
    fun c => secondOf 64 S4x16 (parts m c).a17,
    fun c => secondOf 64 S4x16 (parts m c).a18,
    fun c => secondOf 4096 S4x1024 (parts m c).a19,
    fun c => secondOf 2048 S2048 (parts m c).a20,
    (θ_run _ _ _).mono (fun r h c => by
      obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62⟩ := kernel_steps m r h.1 c
      exact ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h.2 c⟩)
      (θ_run_and (Cert.KernelSaIdeal.Gen.run_main m ρ) (Cert.KernelSaIdeal.Gen.unchanged m ρ)),
    (θ_run _ _ _).mono (fun _ h c => by
      obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, hr⟩ := h c
      obtain ⟨g0, g1, g2, g3, g4, g5, g6, g7, g8, g9, g10, g11, g12, g13, g14, g15, g16, g17, g18, g19, g20⟩ := hag c
      exact ⟨h0.trans ((change_apply _ _ _ _ _).trans ((change_eq (stack2 _ _ _ rfl) (stack2 _ _ _ rfl) (stack2 _ _ _ rfl) (stack2 _ _ _ rfl)).trans (congrArg (changeOf 8192 S4x2048) g0))),
        h1.trans ((change_apply _ _ _ _ _).trans ((change_eq (stack3 _ _ _ rfl) (stack3 _ _ _ rfl) (stack3 _ _ _ rfl) (stack3 _ _ _ rfl)).trans (congrArg (changeOf 6144 S4x4x384) g1))),
        h2.trans ((change_apply _ _ _ _ _).trans ((change_eq (stack2 _ _ _ rfl) (stack2 _ _ _ rfl) (stack2 _ _ _ rfl) (stack2 _ _ _ rfl)).trans (congrArg (changeOf 32 S4x8) g2))),
        h3.trans ((change_apply _ _ _ _ _).trans ((change_eq (stack2 _ _ _ rfl) (stack2 _ _ _ rfl) (stack2 _ _ _ rfl) (stack2 _ _ _ rfl)).trans (congrArg (changeOf 32 S4x8) g3))),
        h4.trans ((change_apply _ _ _ _ _).trans ((change_eq (stack2 _ _ _ rfl) (stack2 _ _ _ rfl) (stack2 _ _ _ rfl) (stack2 _ _ _ rfl)).trans (congrArg (changeOf 512 S4x128) g4))),
        h5.trans ((change_apply _ _ _ _ _).trans ((change_eq (stack3 _ _ _ rfl) (stack3 _ _ _ rfl) (stack3 _ _ _ rfl) (stack3 _ _ _ rfl)).trans (congrArg (changeOf 12288 S4x48x64) g5))),
        h6.trans ((change_apply _ _ _ _ _).trans ((change_eq (stack3 _ _ _ rfl) (stack3 _ _ _ rfl) (stack3 _ _ _ rfl) (stack3 _ _ _ rfl)).trans (congrArg (changeOf 12288 S4x48x64) g6))),
        h7.trans ((change_apply _ _ _ _ _).trans ((change_eq (stack2 _ _ _ rfl) (stack2 _ _ _ rfl) (stack2 _ _ _ rfl) (stack2 _ _ _ rfl)).trans (congrArg (changeOf 192 S4x48) g7))),
        h8.trans ((change_apply _ _ _ _ _).trans ((change_eq (stack4 _ _ _ rfl) (stack4 _ _ _ rfl) (stack4 _ _ _ rfl) (stack4 _ _ _ rfl)).trans (congrArg (changeOf 196608 S4x48x64x16) g8))),
        h9.trans ((change_apply _ _ _ _ _).trans ((change_eq (stack4 _ _ _ rfl) (stack4 _ _ _ rfl) (stack4 _ _ _ rfl) (stack4 _ _ _ rfl)).trans (congrArg (changeOf 196608 S4x48x64x16) g9))),
        h10.trans ((change_apply _ _ _ _ _).trans ((change_eq (stack4 _ _ _ rfl) (stack4 _ _ _ rfl) (stack4 _ _ _ rfl) (stack4 _ _ _ rfl)).trans (congrArg (changeOf 196608 S4x48x16x64) g10))),
        h11.trans ((change_apply _ _ _ _ _).trans ((change_eq (stack4 _ _ _ rfl) (stack4 _ _ _ rfl) (stack4 _ _ _ rfl) (stack4 _ _ _ rfl)).trans (congrArg (changeOf 196608 S4x48x16x64) g11))),
        h12.trans ((change_apply _ _ _ _ _).trans ((change_eq (stack3 _ _ _ rfl) (stack3 _ _ _ rfl) (stack3 _ _ _ rfl) (stack3 _ _ _ rfl)).trans (congrArg (changeOf 3072 S4x48x16) g12))),
        h13.trans ((change_apply _ _ _ _ _).trans ((change_eq (stack2 _ _ _ rfl) (stack2 _ _ _ rfl) (stack2 _ _ _ rfl) (stack2 _ _ _ rfl)).trans (congrArg (changeOf 3072 S4x768) g13))),
        h14.trans ((change_apply _ _ _ _ _).trans ((change_eq (stack3 _ _ _ rfl) (stack3 _ _ _ rfl) (stack3 _ _ _ rfl) (stack3 _ _ _ rfl)).trans (congrArg (changeOf 4096 S4x4x256) g14))),
        h15.trans ((change_apply _ _ _ _ _).trans ((change_eq (stack2 _ _ _ rfl) (stack2 _ _ _ rfl) (stack2 _ _ _ rfl) (stack2 _ _ _ rfl)).trans (congrArg (changeOf 8192 S4x2048) g15))),
        h16.trans ((change_apply _ _ _ _ _).trans ((change_eq (stack2 _ _ _ rfl) (stack2 _ _ _ rfl) (stack2 _ _ _ rfl) (stack2 _ _ _ rfl)).trans (congrArg (changeOf 64 S4x16) g16))),
        h17.trans ((change_apply _ _ _ _ _).trans ((change_eq (stack2 _ _ _ rfl) (stack2 _ _ _ rfl) (stack2 _ _ _ rfl) (stack2 _ _ _ rfl)).trans (congrArg (changeOf 64 S4x16) g17))),
        h18.trans ((change_apply _ _ _ _ _).trans ((change_eq (stack2 _ _ _ rfl) (stack2 _ _ _ rfl) (stack2 _ _ _ rfl) (stack2 _ _ _ rfl)).trans (congrArg (changeOf 64 S4x16) g18))),
        h19.trans ((change_apply _ _ _ _ _).trans ((change_eq (stack2 _ _ _ rfl) (stack2 _ _ _ rfl) (stack2 _ _ _ rfl) (stack2 _ _ _ rfl)).trans (congrArg (changeOf 4096 S4x1024) g19))),
        h20.trans ((change_apply _ _ _ _ _).trans ((change_eq (stack1 _ _ _ rfl) (stack1 _ _ _ rfl) (stack1 _ _ _ rfl) (stack1 _ _ _ rfl)).trans (congrArg (changeOf 2048 S2048) g20))),
        h21.trans ((first_apply _ _ _).trans ((first_eq (stack2 _ _ _ rfl) (stack2 _ _ _ rfl)).trans (congrArg (firstOf 8192 S4x2048) g0))),
        h22.trans ((first_apply _ _ _).trans ((first_eq (stack3 _ _ _ rfl) (stack3 _ _ _ rfl)).trans (congrArg (firstOf 6144 S4x4x384) g1))),
        h23.trans ((first_apply _ _ _).trans ((first_eq (stack2 _ _ _ rfl) (stack2 _ _ _ rfl)).trans (congrArg (firstOf 32 S4x8) g2))),
        h24.trans ((first_apply _ _ _).trans ((first_eq (stack2 _ _ _ rfl) (stack2 _ _ _ rfl)).trans (congrArg (firstOf 32 S4x8) g3))),
        h25.trans ((first_apply _ _ _).trans ((first_eq (stack2 _ _ _ rfl) (stack2 _ _ _ rfl)).trans (congrArg (firstOf 512 S4x128) g4))),
        h26.trans ((first_apply _ _ _).trans ((first_eq (stack3 _ _ _ rfl) (stack3 _ _ _ rfl)).trans (congrArg (firstOf 12288 S4x48x64) g5))),
        h27.trans ((first_apply _ _ _).trans ((first_eq (stack3 _ _ _ rfl) (stack3 _ _ _ rfl)).trans (congrArg (firstOf 12288 S4x48x64) g6))),
        h28.trans ((first_apply _ _ _).trans ((first_eq (stack2 _ _ _ rfl) (stack2 _ _ _ rfl)).trans (congrArg (firstOf 192 S4x48) g7))),
        h29.trans ((first_apply _ _ _).trans ((first_eq (stack4 _ _ _ rfl) (stack4 _ _ _ rfl)).trans (congrArg (firstOf 196608 S4x48x64x16) g8))),
        h30.trans ((first_apply _ _ _).trans ((first_eq (stack4 _ _ _ rfl) (stack4 _ _ _ rfl)).trans (congrArg (firstOf 196608 S4x48x64x16) g9))),
        h31.trans ((first_apply _ _ _).trans ((first_eq (stack4 _ _ _ rfl) (stack4 _ _ _ rfl)).trans (congrArg (firstOf 196608 S4x48x16x64) g10))),
        h32.trans ((first_apply _ _ _).trans ((first_eq (stack4 _ _ _ rfl) (stack4 _ _ _ rfl)).trans (congrArg (firstOf 196608 S4x48x16x64) g11))),
        h33.trans ((first_apply _ _ _).trans ((first_eq (stack3 _ _ _ rfl) (stack3 _ _ _ rfl)).trans (congrArg (firstOf 3072 S4x48x16) g12))),
        h34.trans ((first_apply _ _ _).trans ((first_eq (stack2 _ _ _ rfl) (stack2 _ _ _ rfl)).trans (congrArg (firstOf 3072 S4x768) g13))),
        h35.trans ((first_apply _ _ _).trans ((first_eq (stack3 _ _ _ rfl) (stack3 _ _ _ rfl)).trans (congrArg (firstOf 4096 S4x4x256) g14))),
        h36.trans ((first_apply _ _ _).trans ((first_eq (stack2 _ _ _ rfl) (stack2 _ _ _ rfl)).trans (congrArg (firstOf 8192 S4x2048) g15))),
        h37.trans ((first_apply _ _ _).trans ((first_eq (stack2 _ _ _ rfl) (stack2 _ _ _ rfl)).trans (congrArg (firstOf 64 S4x16) g16))),
        h38.trans ((first_apply _ _ _).trans ((first_eq (stack2 _ _ _ rfl) (stack2 _ _ _ rfl)).trans (congrArg (firstOf 64 S4x16) g17))),
        h39.trans ((first_apply _ _ _).trans ((first_eq (stack2 _ _ _ rfl) (stack2 _ _ _ rfl)).trans (congrArg (firstOf 64 S4x16) g18))),
        h40.trans ((first_apply _ _ _).trans ((first_eq (stack2 _ _ _ rfl) (stack2 _ _ _ rfl)).trans (congrArg (firstOf 4096 S4x1024) g19))),
        h41.trans ((first_apply _ _ _).trans ((first_eq (stack1 _ _ _ rfl) (stack1 _ _ _ rfl)).trans (congrArg (firstOf 2048 S2048) g20))),
        h42.trans ((second_apply _ _ _).trans ((second_eq (stack2 _ _ _ rfl) (stack2 _ _ _ rfl)).trans (congrArg (secondOf 8192 S4x2048) g0))),
        h43.trans ((second_apply _ _ _).trans ((second_eq (stack3 _ _ _ rfl) (stack3 _ _ _ rfl)).trans (congrArg (secondOf 6144 S4x4x384) g1))),
        h44.trans ((second_apply _ _ _).trans ((second_eq (stack2 _ _ _ rfl) (stack2 _ _ _ rfl)).trans (congrArg (secondOf 32 S4x8) g2))),
        h45.trans ((second_apply _ _ _).trans ((second_eq (stack2 _ _ _ rfl) (stack2 _ _ _ rfl)).trans (congrArg (secondOf 32 S4x8) g3))),
        h46.trans ((second_apply _ _ _).trans ((second_eq (stack2 _ _ _ rfl) (stack2 _ _ _ rfl)).trans (congrArg (secondOf 512 S4x128) g4))),
        h47.trans ((second_apply _ _ _).trans ((second_eq (stack3 _ _ _ rfl) (stack3 _ _ _ rfl)).trans (congrArg (secondOf 12288 S4x48x64) g5))),
        h48.trans ((second_apply _ _ _).trans ((second_eq (stack3 _ _ _ rfl) (stack3 _ _ _ rfl)).trans (congrArg (secondOf 12288 S4x48x64) g6))),
        h49.trans ((second_apply _ _ _).trans ((second_eq (stack2 _ _ _ rfl) (stack2 _ _ _ rfl)).trans (congrArg (secondOf 192 S4x48) g7))),
        h50.trans ((second_apply _ _ _).trans ((second_eq (stack4 _ _ _ rfl) (stack4 _ _ _ rfl)).trans (congrArg (secondOf 196608 S4x48x64x16) g8))),
        h51.trans ((second_apply _ _ _).trans ((second_eq (stack4 _ _ _ rfl) (stack4 _ _ _ rfl)).trans (congrArg (secondOf 196608 S4x48x64x16) g9))),
        h52.trans ((second_apply _ _ _).trans ((second_eq (stack4 _ _ _ rfl) (stack4 _ _ _ rfl)).trans (congrArg (secondOf 196608 S4x48x16x64) g10))),
        h53.trans ((second_apply _ _ _).trans ((second_eq (stack4 _ _ _ rfl) (stack4 _ _ _ rfl)).trans (congrArg (secondOf 196608 S4x48x16x64) g11))),
        h54.trans ((second_apply _ _ _).trans ((second_eq (stack3 _ _ _ rfl) (stack3 _ _ _ rfl)).trans (congrArg (secondOf 3072 S4x48x16) g12))),
        h55.trans ((second_apply _ _ _).trans ((second_eq (stack2 _ _ _ rfl) (stack2 _ _ _ rfl)).trans (congrArg (secondOf 3072 S4x768) g13))),
        h56.trans ((second_apply _ _ _).trans ((second_eq (stack3 _ _ _ rfl) (stack3 _ _ _ rfl)).trans (congrArg (secondOf 4096 S4x4x256) g14))),
        h57.trans ((second_apply _ _ _).trans ((second_eq (stack2 _ _ _ rfl) (stack2 _ _ _ rfl)).trans (congrArg (secondOf 8192 S4x2048) g15))),
        h58.trans ((second_apply _ _ _).trans ((second_eq (stack2 _ _ _ rfl) (stack2 _ _ _ rfl)).trans (congrArg (secondOf 64 S4x16) g16))),
        h59.trans ((second_apply _ _ _).trans ((second_eq (stack2 _ _ _ rfl) (stack2 _ _ _ rfl)).trans (congrArg (secondOf 64 S4x16) g17))),
        h60.trans ((second_apply _ _ _).trans ((second_eq (stack2 _ _ _ rfl) (stack2 _ _ _ rfl)).trans (congrArg (secondOf 64 S4x16) g18))),
        h61.trans ((second_apply _ _ _).trans ((second_eq (stack2 _ _ _ rfl) (stack2 _ _ _ rfl)).trans (congrArg (secondOf 4096 S4x1024) g19))),
        h62.trans ((second_apply _ _ _).trans ((second_eq (stack1 _ _ _ rfl) (stack1 _ _ _ rfl)).trans (congrArg (secondOf 2048 S2048) g20))), hr⟩)
      (Cert.ReferenceSaIdeal.Value.run m' ρ')⟩

/-- The reference runs, leaves its arguments as they were, and ends with every counter at zero. -/
theorem reference_frame : Cert.quiescent_ReferenceSaIdeal (hReferenceSaIdeal := Cert.ReferenceSaIdeal.Gen.facts) :=
  fun m ρ _ => (θ_run _ _ _).mono (fun r h => ⟨fun c => by
      obtain ⟨_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, hr⟩ := h c
      exact hr, sem_eq_zero_of_no_sems (by decide) r.2⟩)
    (Cert.ReferenceSaIdeal.Value.run m ρ)

end Cert.SaValue

end
-- ==== Proof.LgValue.lean ====
/-
  The loss of a device's tokens, and its gradient through the final norm.
-/
module

public import proofs.«01_k».proof.Defs
public import proofs.«01_k».proof.Proof.RmsValue
public import proofs.«01_k».proof.Proof.Gen.KernelLgIdeal.Value
public import proofs.«01_k».proof.Proof.Gen.ReferenceLgIdeal.Run
public import Idealize.ShloMosaic.Lib.Pipeline.Value
public import Idealize.ShloMosaic.Lib.Pointwise
public import Idealize.ShloMosaic.Lib.IdealHost

@[expose] public section

noncomputable section

namespace Cert.LgValue

open Idealize.ShloMosaic Cert.RmsValue
open scoped BigOperators

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_width : Ideal.ofBits .f32 0x45000000#32 = ((2048 : ℝ) : EReal) := by
  simp [Ideal.ofBits, Ideal.ieee, -EReal.coe_mul]; norm_num

/-- Dividing by the row's length is multiplying by its inverse. -/
theorem div_width (a : EReal) : Ideal.div a (Ideal.ofBits .f32 0x45000000#32) = a * ((1 / 2048 : ℝ) : EReal) := by
  rw [ofBits_width]
  unfold Ideal.div
  rw [if_neg (by norm_cast), ← EReal.coe_inv, one_div]

/-- A factor goes into a sum of terms that aren't negative. -/
theorem mul_sum_nonneg {ι : Type} (s : Finset ι) (a : EReal) (f : ι → EReal) (hf : ∀ i, 0 ≤ f i) :
    a * ∑ i ∈ s, f i = ∑ i ∈ s, a * f i := by
  classical
  induction s using Finset.induction_on with
  | empty => simp
  | insert i s hi ih =>
    rw [Finset.sum_insert hi, Finset.sum_insert hi, EReal.left_distrib_of_nonneg (hf i) (Finset.sum_nonneg fun j _ => hf j), ih]

theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- How far the norm's entry is from its target. -/
def err (x w t : Fin 2048 → EReal) (k : Fin 2048) : EReal := x k * Ideal.rsqrt (den x) * w k - t k

/-- The sum of a row's squared errors. -/
def sqErr (x w t : Fin 2048 → EReal) : EReal := ∑ k, err x w t k * err x w t k

/-- The loss's gradient at the norm's entry. -/
def errGrad (x w t : Fin 2048 → EReal) (k : Fin 2048) : EReal :=
  Ideal.div (Ideal.ofBits .f32 0x3F000000#32 * Ideal.ofBits .f32 0x3F800000#32) (Ideal.ofBits .f32 0x45000000#32)
    * (Ideal.ofBits .f32 0x40000000#32 * err x w t k)

/-- The kernel's factor of the error. -/
def factor : EReal :=
  Ideal.ofBits .f32 0x3F000000#32 * Ideal.div (Ideal.ofBits .f32 0x3F800000#32) (Ideal.ofBits .f32 0x45000000#32)

theorem twice (c : ℝ) (hc : 0 < c) (e : EReal) : e * c + c * e = (c : EReal) * (((2 : ℝ) : EReal) * e) := by
  rw [mul_comm e, ← mul_assoc, ← EReal.coe_mul]
  induction e with
  | bot => rw [EReal.coe_mul_bot_of_pos hc, EReal.coe_mul_bot_of_pos (by positivity)]; rfl
  | top => rw [EReal.coe_mul_top_of_pos hc, EReal.coe_mul_top_of_pos (by positivity)]; rfl
  | coe a => norm_cast; ring

/-- The kernel's factor of the error, added twice, is the loss's gradient. -/
theorem errGrad_eq (x w t : Fin 2048 → EReal) (k : Fin 2048) :
    err x w t k * factor + factor * err x w t k = errGrad x w t k := by
  unfold errGrad factor
  rw [div_width, div_width, ofBits_half, Ideal.ofBits_one_f32, ofBits_two, one_mul, mul_one, ← EReal.coe_mul]
  exact twice _ (by norm_num) _

/-- The gradient of a row's entry. -/
def actGrad (x w g : Fin 2048 → EReal) (k : Fin 2048) : EReal :=
  g k * w k * Ideal.rsqrt (den x) + x k * back x w g + back x w g * x k

variable {n : Nat} (X T : (⟨2, ![n, 2048]⟩ : Shape).Idx → EReal) (w : Fin 2048 → EReal)

/-- What row `r` adds to the gradient of the norm's weight. -/
def wTerm (r : ℕ) (l : Fin 2048) : EReal :=
  row X r l * Ideal.rsqrt (den (row X r)) * errGrad (row X r) w (row T r) l

/-- The sum of row `r`'s squared errors. -/
def rowErr (r : ℕ) : EReal := sqErr (row X r) w (row T r)

theorem rowErr_nonneg (r : ℕ) : 0 ≤ rowErr X T w r := by
  unfold rowErr sqErr
  exact Finset.sum_nonneg fun _ _ => square_nonneg _

/-- The loss of the device's tokens. -/
def lossVal (X T : (⟨2, ![8192, 2048]⟩ : Shape).Idx → EReal) : EReal :=
  Ideal.ofBits .f32 0x3F000000#32 * ∑ r : Fin 8192, Ideal.div (rowErr X T w r.val) (Ideal.ofBits .f32 0x45000000#32)

/-- The gradient of the norm's weight: every row's term. -/
def wGrad (X T : (⟨2, ![8192, 2048]⟩ : Shape).Idx → EReal) (l : Fin 2048) : EReal := ∑ r : Fin 8192, wTerm X T w r.val l

/-- What a block of 256 rows adds to the loss. -/
def blockLoss (s : ℕ) : EReal :=
  Ideal.div (Ideal.ofBits .f32 0x3F000000#32 * ∑ r : Fin 256, rowErr X T w (s * 256 + r.val)) (Ideal.ofBits .f32 0x45000000#32)

/-- Halving and dividing each block's sum, or each row's, is the same. -/
theorem sum_blockLoss (X T : (⟨2, ![8192, 2048]⟩ : Shape).Idx → EReal) :
    ∑ s ∈ Finset.range 32, blockLoss X T w s = lossVal w X T := by
  have hq : (0 : EReal) ≤ ((1 / 2048 : ℝ) : EReal) := EReal.coe_nonneg.mpr (by norm_num)
  have hb : ∀ s, blockLoss X T w s
      = Ideal.ofBits .f32 0x3F000000#32 * ∑ r : Fin 256, rowErr X T w (s * 256 + r.val) * ((1 / 2048 : ℝ) : EReal) := fun s => by
    unfold blockLoss
    rw [div_width, mul_assoc, mul_comm (∑ r, _), mul_sum_nonneg _ _ _ fun r => rowErr_nonneg X T w _]
    simp only [mul_comm]
  simp only [hb, lossVal, div_width]
  rw [← mul_sum_nonneg _ _ _ fun s => Finset.sum_nonneg fun r _ => mul_nonneg (rowErr_nonneg X T w _) hq]
  exact congrArg _ (Products.sum_blocks 32 256 fun r => rowErr X T w r * ((1 / 2048 : ℝ) : EReal))

end Cert.LgValue

namespace Cert.KernelLgIdeal.Blocks

open Idealize.ShloMosaic Idealize.ShloMosaic.TcCoe Idealize.SL.Sem
open Cert.KernelLgIdeal Cert.KernelLgIdeal.Gen Cert.Products Cert.RmsValue Cert.LgValue
open scoped BigOperators

theorem hz : (![0, 0] : Fin 2 → Nat) = fun _ => 0 := funext fun a => by fin_cases a <;> rfl

section Payloads
variable (x : Vec Ideal S256x2048 .f32) (w : Vec Ideal S1x2048 .f32) (t : Vec Ideal S256x2048 .f32)

theorem pay6_apply (r : Fin 256) (l : Fin 2048) :
    k0_pay6 t x w (ix2 r l) = err (fun k => x (ix2 r k)) (fun k => w (ix2 0 k)) (fun k => t (ix2 r k)) l := by
  pointwise [k0_pay6, k0_pay5, k0_pay3, k0_pay2, k0_pay1, err, den]

theorem pay7_apply : k0_pay7 t x w (ix2 0 0) = Ideal.div (Ideal.ofBits .f32 0x3F000000#32 * ∑ r : Fin 256,
    sqErr (fun k => x (ix2 r k)) (fun k => w (ix2 0 k)) (fun k => t (ix2 r k))) (Ideal.ofBits .f32 0x45000000#32) := by
  pointwise [k0_pay7, sqErr]
  simp only [pay6_apply]

theorem pay8_apply (r : Fin 256) : k0_pay8 (F := Ideal) (ix2 r 0) = factor := by
  pointwise [k0_pay8, factor]
  simp only [Finset.univ_unique, Finset.sum_singleton]

theorem pay9_apply (r : Fin 256) (l : Fin 2048) : k0_pay9 (k0_pay6 t x w) (k0_pay8 (F := Ideal)) (ix2 r l)
    = errGrad (fun k => x (ix2 r k)) (fun k => w (ix2 0 k)) (fun k => t (ix2 r k)) l := by
  rw [← errGrad_eq]
  pointwise [k0_pay9]
  simp only [pay6_apply, Finset.univ_unique, Finset.sum_singleton]
  rw [show (default : Fin 1) = 0 from rfl, pay8_apply]

theorem pay10_apply (r : Fin 256) (l : Fin 2048) :
    k0_pay10 x (k0_pay1 w) (k0_pay3 x) (k0_pay4 x) (k0_pay6 t x w) (k0_pay8 (F := Ideal)) (ix2 r l)
      = actGrad (fun k => x (ix2 r k)) (fun k => w (ix2 0 k))
        (errGrad (fun k => x (ix2 r k)) (fun k => w (ix2 0 k)) (fun k => t (ix2 r k))) l := by
  pointwise [k0_pay10, k0_pay4, k0_pay3, k0_pay2, k0_pay1, actGrad, back, den]
  simp only [pay9_apply, Finset.univ_unique, Finset.sum_singleton]

theorem pay13_apply (v : Vec Ideal S1x1 .f32) (a : Vec Ideal S1x128 .f32) (l : Fin 128) :
    k0_pay13 v a (ix2 0 l) = a (ix2 0 l) + v (ix2 0 0) := by
  pointwise [k0_pay13]

theorem pay14_apply (a : Vec Ideal S1x2048 .f32) (l : Fin 2048) :
    k0_pay14 (k0_pay5 x) (k0_pay6 t x w) (k0_pay8 (F := Ideal)) a (ix2 0 l)
      = a (ix2 0 l) + ∑ r : Fin 256, x (ix2 r l) * Ideal.rsqrt (den fun k => x (ix2 r k))
        * errGrad (fun k => x (ix2 r k)) (fun k => w (ix2 0 k)) (fun k => t (ix2 r k)) l := by
  pointwise [k0_pay14, k0_pay5, k0_pay3, k0_pay2, den]
  simp only [pay9_apply]

end Payloads

section Bodies
variable (c : Dev nD) (i : grid0.Coords)
  (a1 : Memref sig .tc .vmem S256x2048 .f32) (h1 : a1.IsWhole) (a2 : Memref sig .tc .vmem S1x2048 .f32) (h2 : a2.IsWhole)
  (a3 : Memref sig .tc .vmem S256x2048 .f32) (h3 : a3.IsWhole) (a4 : Memref sig .tc .vmem S1x128 .f32) (h4 : a4.IsWhole)
  (a5 : Memref sig .tc .vmem S256x2048 .f32) (h5 : a5.IsWhole) (a6 : Memref sig .tc .vmem S1x2048 .f32) (h6 : a6.IsWhole)
  (x : Vec Ideal S256x2048 .f32) (w : Vec Ideal S1x2048 .f32) (t : Vec Ideal S256x2048 .f32)
  (al : Vec Ideal S1x128 .f32) (aw : Vec Ideal S1x2048 .f32)

/-! What the body leaves in the three outputs' blocks: at the first point the loss and the weight's gradient start from zero. -/

theorem outA3 (hc : cond0_0 i) : out0_A_3 c i a1 h1 a2 h2 a3 h3 a4 h4 a5 h5 a6 h6 hc x w t
    = k0_pay13 (F := Ideal) (k0_pay7 t x w) (k0_pay11 (F := Ideal)) := by
  unfold out0_A_3
  rw [View.read_writes_eq_canon _ _ _ (cover0_A_3 c i a1 h1 a2 h2 a3 h3 a4 h4 a5 h5 a6 h6 hc x w t)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S256x2048) hz, View.ld_unit_zero (S := S1x2048) hz]

theorem outB3 (hc : ¬cond0_0 i) : out0_B_3 c i a1 h1 a2 h2 a3 h3 a4 h4 a5 h5 a6 h6 hc x w t al aw
    = k0_pay13 (k0_pay7 t x w) al := by
  unfold out0_B_3
  rw [View.read_writes_eq_canon _ _ _ (cover0_B_3 c i a1 h1 a2 h2 a3 h3 a4 h4 a5 h5 a6 h6 hc x w t al aw)]
  unfold kernelRun0_B
  dsimp only
  sl_unfold_words
  rw [View.canon_unit_zero (S := S1x128) hz]
  simp only [View.readAt_eq_ld, h1.read_unread, h2.read_unread, h3.read_unread, h4.read_unread,
    View.ld_unit_zero (S := S256x2048) hz, View.ld_unit_zero (S := S1x2048) hz, View.ld_unit_zero (S := S1x128) hz]

theorem outA4 (hc : cond0_0 i) : out0_A_4 c i a1 h1 a2 h2 a3 h3 a4 h4 a5 h5 a6 h6 hc x w t
    = k0_pay10 x (k0_pay1 w) (k0_pay3 x) (k0_pay4 x) (k0_pay6 t x w) (k0_pay8 (F := Ideal)) := by
  unfold out0_A_4
  rw [View.read_writes_eq_canon _ _ _ (cover0_A_4 c i a1 h1 a2 h2 a3 h3 a4 h4 a5 h5 a6 h6 hc x w t)]
  unfold kernelRun0_A
  dsimp only
  sl_unfold_words
  rw [View.canon_unit_zero (S := S256x2048) hz]
  simp only [View.readAt_eq_ld, h1.read_unread, h2.read_unread, h3.read_unread,
    View.ld_unit_zero (S := S256x2048) hz, View.ld_unit_zero (S := S1x2048) hz]

theorem outB4 (hc : ¬cond0_0 i) : out0_B_4 c i a1 h1 a2 h2 a3 h3 a4 h4 a5 h5 a6 h6 hc x w t al aw
    = k0_pay10 x (k0_pay1 w) (k0_pay3 x) (k0_pay4 x) (k0_pay6 t x w) (k0_pay8 (F := Ideal)) := by
  unfold out0_B_4
  rw [View.read_writes_eq_canon _ _ _ (cover0_B_4 c i a1 h1 a2 h2 a3 h3 a4 h4 a5 h5 a6 h6 hc x w t al aw)]
  unfold kernelRun0_B
  dsimp only
  sl_unfold_words
  rw [View.canon_unit_zero (S := S256x2048) hz]
  simp only [View.readAt_eq_ld, h1.read_unread, h2.read_unread, h3.read_unread,
    View.ld_unit_zero (S := S256x2048) hz, View.ld_unit_zero (S := S1x2048) hz]

theorem outA5 (hc : cond0_0 i) : out0_A_5 c i a1 h1 a2 h2 a3 h3 a4 h4 a5 h5 a6 h6 hc x w t
    = k0_pay14 (F := Ideal) (k0_pay5 x) (k0_pay6 t x w) (k0_pay8 (F := Ideal)) (k0_pay12 (F := Ideal)) := by
  unfold out0_A_5
  rw [View.read_writes_eq_canon _ _ _ (cover0_A_5 c i a1 h1 a2 h2 a3 h3 a4 h4 a5 h5 a6 h6 hc x w t)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread,
    View.ld_unit_zero (S := S256x2048) hz, View.ld_unit_zero (S := S1x2048) hz]

theorem outB5 (hc : ¬cond0_0 i) : out0_B_5 c i a1 h1 a2 h2 a3 h3 a4 h4 a5 h5 a6 h6 hc x w t al aw
    = k0_pay14 (k0_pay5 x) (k0_pay6 t x w) (k0_pay8 (F := Ideal)) aw := by
  unfold out0_B_5
  rw [View.read_writes_eq_canon _ _ _ (cover0_B_5 c i a1 h1 a2 h2 a3 h3 a4 h4 a5 h5 a6 h6 hc x w t al aw)]
  unfold kernelRun0_B
  dsimp only
  sl_unfold_words
  rw [View.canon_unit_zero (S := S1x2048) hz]
  simp only [View.readAt_eq_ld, h1.read_unread, h2.read_unread, h3.read_unread, h6.read_unread,
    View.ld_unit_zero (S := S256x2048) hz, View.ld_unit_zero (S := S1x2048) hz]

end Bodies

variable (m : (ℓ : Loc nD τ sig) → Buf (Elt Ideal) ℓ) (ρ : Dev nD → PrngReg)

/-- The arguments: the activations, the weight (as a function of the column) and the targets. -/
abbrev argX (c : Dev nD) : S8192x2048.Idx → EReal := m ((c : Thread nD τ).loc main_arg0)
abbrev argW (c : Dev nD) : S2048.Idx → EReal := m ((c : Thread nD τ).loc main_arg1)
abbrev colW (c : Dev nD) : Fin 2048 → EReal := fun k => argW m c (ix1 k)
abbrev argT (c : Dev nD) : S8192x2048.Idx → EReal := m ((c : Thread nD τ).loc main_arg2)

/-- The weight's row, that the host makes of the weight. -/
theorem V_main_v0 (c : Dev nD) : V m c main_v0 = shapeCast S1x2048 (argW m c) shapeCasts_S2048_S1x2048 := by
  unfold V hostOps0; after_results; rfl

/-- Which block of each array a point reads or writes: its own 256 rows, and the rest whole. -/
theorem idx_all : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0) :=
  (by decide +kernel : ∀ t : Fin grid0.N, _)

theorem blkX (c : Dev nD) (t : Fin cfg0.N) (r : Fin 256) (k : Fin 2048) :
    iblk m c 0 t (ix2 r k) = row (argX m c) (t.val * 256 + r.val) k := by
  obtain ⟨⟨e0, e1⟩, -⟩ := idx_all t
  refine at2_idx (argX m c) (((cfg0.win 0).blk t).view.emb (ix2 r k)) _ _ ?_ ?_
  · show win0_0.index t (0 : Fin 2) * 256 + 1 * r.val = _
    rw [e0]; omega
  · show win0_0.index t (1 : Fin 2) * 2048 + 1 * k.val = _
    rw [e1]; omega

theorem blkT (c : Dev nD) (t : Fin cfg0.N) (r : Fin 256) (k : Fin 2048) :
    iblk m c 2 t (ix2 r k) = row (argT m c) (t.val * 256 + r.val) k := by
  obtain ⟨-, -, ⟨e0, e1⟩, -⟩ := idx_all t
  refine at2_idx (argT m c) (((cfg0.win 2).blk t).view.emb (ix2 r k)) _ _ ?_ ?_
  · show win0_2.index t (0 : Fin 2) * 256 + 1 * r.val = _
    rw [e0]; omega
  · show win0_2.index t (1 : Fin 2) * 2048 + 1 * k.val = _
    rw [e1]; omega

theorem blkW (c : Dev nD) (t : Fin cfg0.N) (k : Fin 2048) : iblk m c 1 t (ix2 0 k) = argW m c (ix1 k) := by
  obtain ⟨-, ⟨e0, e1⟩, -⟩ := idx_all t
  have hi : ((cfg0.win 1).blk t).view.emb (ix2 (0 : Fin 1) k) = (ix2 (0 : Fin 1) k : S1x2048.Idx) := by
    refine Shape.idx_ext₂ ?_ ?_
    · show win0_1.index t (0 : Fin 2) * 1 + 1 * 0 = 0
      rw [e0]
    · show win0_1.index t (1 : Fin 2) * 2048 + 1 * k.val = k.val
      rw [e1]; omega
  have h : iblk m c 1 t (ix2 (0 : Fin 1) k) = V m c main_v0 (ix2 (0 : Fin 1) k) := congrArg (V m c main_v0) hi
  rw [h, V_main_v0]
  pointwise []

/-- The grid point whose block holds an index's row, and the index's place in that block. -/
def pt (i : S8192x2048.Idx) : Fin cfg0.N :=
  ⟨(i 0).val / 256, by rw [show cfg0.N = 32 from N_0]; have h : (i 0).val < 8192 := (i 0).isLt; omega⟩
def loc (i : S8192x2048.Idx) : S256x2048.Idx := ix2 ⟨(i 0).val % 256, Nat.mod_lt _ (by decide)⟩ (i 1)

/-- The gradient of the activations after the run. -/
theorem final4 (c : Dev nD) : (dats m 0 c).arrAt 4 cfg0.N = fun i =>
    actGrad (row (argX m c) (i 0).val) (colW m c)
      (errGrad (row (argX m c) (i 0).val) (colW m c) (row (argT m c) (i 0).val)) (i 1) := by
  funext i
  have hi0 : (i 0).val < 8192 := (i 0).isLt
  obtain ⟨-, -, -, -, ⟨e0, e1⟩, -⟩ := idx_all (pt i)
  have hi : ((cfg0.win 4).blk (pt i)).view.emb (loc i) = i := by
    refine Shape.idx_ext₂ ?_ ?_
    · show win0_4.index (pt i) (0 : Fin 2) * 256 + 1 * ((i 0).val % 256) = _
      rw [e0]; show (i 0).val / 256 * 256 + _ = _; omega
    · show win0_4.index (pt i) (1 : Fin 2) * 2048 + 1 * (i 1).val = _
      rw [e1]; omega
  have hb := congrFun (Value.blocks4 m c (pt i) (flush0_4 (pt i))) (loc i)
  have hr : ((cfg0.win 4).blk (pt i)).view.read (Elt Ideal) ((dats m 0 c).arrAt 4 cfg0.N) (loc i)
      = (dats m 0 c).arrAt 4 cfg0.N i := congrArg ((dats m 0 c).arrAt 4 cfg0.N) hi
  have hf : (dats m 0 c).flushed 4 (pt i)
      = (cfg0.win 4).cut (grid0.coords (pt i)) (k0_pay10 (iblk m c 0 (pt i)) (k0_pay1 (iblk m c 1 (pt i)))
        (k0_pay3 (iblk m c 0 (pt i))) (k0_pay4 (iblk m c 0 (pt i)))
        (k0_pay6 (iblk m c 2 (pt i)) (iblk m c 0 (pt i)) (iblk m c 1 (pt i))) (k0_pay8 (F := Ideal))) := by
    by_cases h0 : (pt i).val % 32 = 0
    · rw [Value.flushed4_A m c (pt i) h0, outA4]
    · rw [Value.flushed4_B m c (pt i) h0, outB4]
  rw [hf] at hb
  refine hr.symm.trans (hb.trans ((pay10_apply _ _ _ _ _).trans ?_))
  have ep : (pt i).val * 256 + (i 0).val % 256 = (i 0).val := by
    show (i 0).val / 256 * 256 + _ = _; omega
  simp only [blkX, blkT, blkW, ep]

/-- What point `t` adds to the loss. -/
theorem pay7_blk (c : Dev nD) (t : Fin cfg0.N) :
    k0_pay7 (iblk m c 2 t) (iblk m c 0 t) (iblk m c 1 t) (ix2 0 0) = blockLoss (argX m c) (argT m c) (colW m c) t.val := by
  refine (pay7_apply _ _ _).trans ?_
  simp only [blkX, blkT, blkW, blockLoss, rowErr]

/-- What point `t` adds to the weight's gradient: its rows' terms. -/
theorem pay14_blk (c : Dev nD) (t : Fin cfg0.N) (a : Vec Ideal S1x2048 .f32) (l : Fin 2048) :
    k0_pay14 (k0_pay5 (iblk m c 0 t)) (k0_pay6 (iblk m c 2 t) (iblk m c 0 t) (iblk m c 1 t)) (k0_pay8 (F := Ideal)) a (ix2 0 l)
      = a (ix2 0 l) + ∑ r : Fin 256, wTerm (argX m c) (argT m c) (colW m c) (t.val * 256 + r.val) l := by
  refine (pay14_apply _ _ _ a l).trans ?_
  simp only [blkX, blkT, blkW, wTerm]

/-- After point `n` the loss row and the weight's gradient hold the terms of the rows up to there. -/
theorem carried (c : Dev nD) (j : Fin 128) (l : Fin 2048) : ∀ (n : ℕ) (h : n < cfg0.N),
    (outsAt0 m c n h).1 (ix2 0 j) = ∑ s ∈ Finset.range (n + 1), blockLoss (argX m c) (argT m c) (colW m c) s
    ∧ (outsAt0 m c n h).2.2 (ix2 0 l)
      = ∑ s ∈ Finset.range (n + 1), ∑ r : Fin 256, wTerm (argX m c) (argT m c) (colW m c) (s * 256 + r.val) l
  | 0, h => by
    rw [outsAt0_A m c ⟨0, h⟩ rfl]
    dsimp only
    rw [outA3, outA5, pay13_apply, pay7_blk, pay14_blk, Finset.sum_range_one, Finset.sum_range_one]
    exact ⟨(congrArg (· + _) ofBits_zero).trans (zero_add _), (congrArg (· + _) ofBits_zero).trans (zero_add _)⟩
  | n + 1, h => by
    have hN : n + 1 < 32 := lt_of_lt_of_eq h (show cfg0.N = 32 from N_0)
    rw [outsAt0_B m c ⟨n + 1, h⟩ (by dsimp only; omega)]
    dsimp only
    rw [outB3, outB5, pay13_apply, pay7_blk, pay14_blk, Finset.sum_range_succ _ (n + 1), Finset.sum_range_succ _ (n + 1)]
    obtain ⟨i1, i2⟩ := carried c j l n (Nat.lt_of_succ_lt h)
    exact ⟨congrArg (· + _) i1, congrArg (· + _) i2⟩

theorem lastPt : 31 < cfg0.N := by rw [show cfg0.N = 32 from N_0]; decide

/-- The loss row after the run: the loss in every place. -/
theorem final3 (c : Dev nD) : (dats m 0 c).arrAt 3 cfg0.N = fun _ : S1x128.Idx => lossVal (colW m c) (argX m c) (argT m c) := by
  funext i
  have hN : cfg0.N = 32 := N_0
  obtain ⟨-, -, -, ⟨e0, e1⟩, -⟩ := idx_all ⟨31, lastPt⟩
  have i0 : (i 0).val < 1 := (i 0).isLt
  have hi : ((cfg0.win 3).blk ⟨31, lastPt⟩).view.emb (ix2 (0 : Fin 1) (i 1)) = i := by
    refine Shape.idx_ext₂ ?_ ?_
    · show win0_3.index ⟨31, lastPt⟩ (0 : Fin 2) * 1 + 1 * 0 = (i 0).val
      rw [e0]; omega
    · show win0_3.index ⟨31, lastPt⟩ (1 : Fin 2) * 128 + 1 * (i 1).val = _
      rw [e1]; omega
  have last : ∀ t : Fin cfg0.N, (cfg0.win 3).flush t = true → t.val = 31 := fun t h => by
    have h1 := (flush0_3 t).mp h
    have h2 := lt_of_lt_of_eq t.isLt hN
    omega
  have hb := congrFun ((dats m 0 c).read_blk_arrAt_eq_flushed 3
    (fun t t' h h' hne => absurd (Fin.ext ((last t h).trans (last t' h').symm)) hne) cfg0.N ⟨31, lastPt⟩ lastPt
    ((flush0_3 ⟨31, lastPt⟩).mpr rfl)) (ix2 (0 : Fin 1) (i 1))
  have hr : ((cfg0.win 3).blk ⟨31, lastPt⟩).view.read (Elt Ideal) ((dats m 0 c).arrAt 3 cfg0.N) (ix2 (0 : Fin 1) (i 1))
      = (dats m 0 c).arrAt 3 cfg0.N i := congrArg ((dats m 0 c).arrAt 3 cfg0.N) hi
  rw [Value.flushed3] at hb
  exact hr.symm.trans (hb.trans ((carried m c (i 1) 0 31 lastPt).1.trans (sum_blockLoss _ _ _)))

/-- The weight's gradient after the run: every row's term. -/
theorem final5 (c : Dev nD) : (dats m 0 c).arrAt 5 cfg0.N = fun i : S1x2048.Idx =>
    wGrad (colW m c) (argX m c) (argT m c) (i 1) := by
  funext i
  have hN : cfg0.N = 32 := N_0
  obtain ⟨-, -, -, -, -, ⟨e0, e1⟩⟩ := idx_all ⟨31, lastPt⟩
  have i0 : (i 0).val < 1 := (i 0).isLt
  have hi : ((cfg0.win 5).blk ⟨31, lastPt⟩).view.emb (ix2 (0 : Fin 1) (i 1)) = i := by
    refine Shape.idx_ext₂ ?_ ?_
    · show win0_5.index ⟨31, lastPt⟩ (0 : Fin 2) * 1 + 1 * 0 = (i 0).val
      rw [e0]; omega
    · show win0_5.index ⟨31, lastPt⟩ (1 : Fin 2) * 2048 + 1 * (i 1).val = _
      rw [e1]; omega
  have last : ∀ t : Fin cfg0.N, (cfg0.win 5).flush t = true → t.val = 31 := fun t h => by
    have h1 := (flush0_5 t).mp h
    have h2 := lt_of_lt_of_eq t.isLt hN
    omega
  have hb := congrFun ((dats m 0 c).read_blk_arrAt_eq_flushed 5
    (fun t t' h h' hne => absurd (Fin.ext ((last t h).trans (last t' h').symm)) hne) cfg0.N ⟨31, lastPt⟩ lastPt
    ((flush0_5 ⟨31, lastPt⟩).mpr rfl)) (ix2 (0 : Fin 1) (i 1))
  have hr : ((cfg0.win 5).blk ⟨31, lastPt⟩).view.read (Elt Ideal) ((dats m 0 c).arrAt 5 cfg0.N) (ix2 (0 : Fin 1) (i 1))
      = (dats m 0 c).arrAt 5 cfg0.N i := congrArg ((dats m 0 c).arrAt 5 cfg0.N) hi
  rw [Value.flushed5] at hb
  refine hr.symm.trans (hb.trans ((carried m c 0 (i 1) 31 lastPt).2.trans ?_))
  exact sum_blocks 32 256 (fun r => wTerm (argX m c) (argT m c) (colW m c) r (i 1))

end Cert.KernelLgIdeal.Blocks

namespace Cert.LgValue

open Idealize.ShloMosaic Idealize.ShloMosaic.TcCoe Idealize.SL.Sem
open Cert.KernelLgIdeal.Blocks Cert.Products Cert.RmsValue
open scoped BigOperators

/-- The loss, the activations' gradient and the weight's: the kernel's three arrays are the reference's. -/
theorem algebraic : Cert.algebraic_KernelLgIdeal_ReferenceLgIdeal (hKernelLgIdeal := Cert.KernelLgIdeal.Gen.facts)
    (hReferenceLgIdeal := Cert.ReferenceLgIdeal.Gen.facts) :=
  fun m ρ m' ρ' _ hag => ⟨fun c _ => lossVal (colW m c) (argX m c) (argT m c),
    fun c i => actGrad (row (argX m c) (i 0).val) (colW m c)
      (errGrad (row (argX m c) (i 0).val) (colW m c) (row (argT m c) (i 0).val)) (i 1),
    fun c i => wGrad (colW m c) (argX m c) (argT m c) (i 1),
    (θ_run _ _ _).mono (fun _ h c => ⟨(h c).1.trans (final3 m c), (h c).2.1.trans (final4 m c),
      (h c).2.2.1.trans (final5 m c), (h c).2.2.2⟩) (Cert.KernelLgIdeal.Value.run_blocks m ρ),
    (θ_run _ _ _).mono (fun _ h c => by
      obtain ⟨h0, h1, h2, hr⟩ := h c
      obtain ⟨a0, a1, a2⟩ := hag c
      unfold Cert.ReferenceLgIdeal.Value.res_main_v50 at h1
      rw [a0, a1, a2] at h0 h1 h2
      refine ⟨h0.trans ?_, h1.trans ?_, h2.trans ?_, hr⟩ <;> clear h0 h1 h2 hr a0 a1 a2
      · funext i
        obtain ⟨o, l, rfl⟩ : ∃ (o : Fin 1) (l : Fin 128), i = ix2 o l := ⟨i 0, i 1, eq_ix2 i⟩
        simp only [lossVal, rowErr, row_eq]
        pointwise [sqErr, err, den]
      · funext i
        obtain ⟨r, l, rfl⟩ : ∃ (r : Fin 8192) (l : Fin 2048), i = ix2 r l := ⟨i 0, i 1, eq_ix2 i⟩
        show _ = actGrad (row (argX m c) r.val) (colW m c) (errGrad (row (argX m c) r.val) (colW m c) (row (argT m c) r.val)) l
        rw [row_eq, row_eq]
        pointwise [actGrad, back, errGrad, err, den]
        simp only [Finset.univ_unique, Finset.sum_singleton]
      · funext i
        obtain ⟨o, l, rfl⟩ : ∃ (o : Fin 1) (l : Fin 2048), i = ix2 o l := ⟨i 0, i 1, eq_ix2 i⟩
        show _ = wGrad (colW m c) (argX m c) (argT m c) l
        simp only [wGrad, wTerm, row_eq]
        pointwise [errGrad, err, den]
        simp only [Finset.univ_unique, Finset.sum_singleton])
      (Cert.ReferenceLgIdeal.Value.run m' ρ')⟩

/-- The reference runs, leaves its arguments as they were, and ends with every counter at zero. -/
theorem reference_frame : Cert.quiescent_ReferenceLgIdeal (hReferenceLgIdeal := Cert.ReferenceLgIdeal.Gen.facts) :=
  fun m ρ _ => (θ_run _ _ _).mono (fun r h => ⟨fun c => (h c).2.2.2, sem_eq_zero_of_no_sems (by decide) r.2⟩)
    (Cert.ReferenceLgIdeal.Value.run m ρ)

end Cert.LgValue

end
-- ==== Proof.RfValue.lean ====
/-
  The norm of the step's input: each row divided by the root of its mean square, times the weight.
-/
module

public import proofs.«01_k».proof.Defs
public import proofs.«01_k».proof.Proof.RmsValue
public import proofs.«01_k».proof.Proof.Gen.KernelRfIdeal.Value
public import proofs.«01_k».proof.Proof.Gen.ReferenceRfIdeal.Run
public import Idealize.ShloMosaic.Lib.Pipeline.Value
public import Idealize.ShloMosaic.Lib.Pointwise

@[expose] public section

noncomputable section

namespace Cert.RfValue

open Idealize.ShloMosaic Cert.RmsValue

/-- The norm of a row `x` with the weight `w`. -/
def normed (x w : Fin 2048 → EReal) (k : Fin 2048) : EReal := x k * Ideal.rsqrt (den x) * w k

end Cert.RfValue

namespace Cert.KernelRfIdeal.Blocks

open Idealize.ShloMosaic Idealize.ShloMosaic.TcCoe Idealize.SL.Sem
open Cert.KernelRfIdeal Cert.KernelRfIdeal.Gen Cert.Products Cert.RmsValue Cert.RfValue

theorem hz : (![0, 0] : Fin 2 → Nat) = fun _ => 0 := funext fun a => by fin_cases a <;> rfl

/-- What the body leaves in the output's block. -/
theorem out_apply (x : Vec Ideal S256x2048 .f32) (w : Vec Ideal S1x2048 .f32) (r : Fin 256) (l : Fin 2048) :
    out0_2 x w (ix2 r l) = normed (fun k => x (ix2 r k)) (fun k => w (ix2 0 k)) l := by
  unfold out0_2
  rw [View.canon_unit_zero (S := S256x2048) hz, View.ld_unit_zero (S := S256x2048) hz, View.ld_unit_zero (S := S1x2048) hz]
  pointwise [k0_pay1, normed, den]

variable (m : (ℓ : Loc nD τ sig) → Buf (Elt Ideal) ℓ) (ρ : Dev nD → PrngReg)

/-- The arguments: the input and the weight, the latter as a function of the column too. -/
abbrev argX (c : Dev nD) : S8192x2048.Idx → EReal := m ((c : Thread nD τ).loc main_arg0)
abbrev argW (c : Dev nD) : S2048.Idx → EReal := m ((c : Thread nD τ).loc main_arg1)
abbrev colW (c : Dev nD) : Fin 2048 → EReal := fun k => argW m c (ix1 k)

/-- The weight's row, that the host makes of the weight. -/
theorem V_main_v0 (c : Dev nD) : V m c main_v0 = shapeCast S1x2048 (argW m c) shapeCasts_S2048_S1x2048 := by
  unfold V hostOps0; after_results; rfl

/-- Which block of each array a point reads or writes: its own 256 rows, and the weight whole. -/
theorem idx_all : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem blkX (c : Dev nD) (t : Fin cfg0.N) (r : Fin 256) (k : Fin 2048) :
    iblk m c 0 t (ix2 r k) = row (argX m c) (t.val * 256 + r.val) k := by
  obtain ⟨⟨e0, e1⟩, -⟩ := idx_all t
  refine at2_idx (argX m c) (((cfg0.win 0).blk t).view.emb (ix2 r k)) _ _ ?_ ?_
  · show win0_0.index t (0 : Fin 2) * 256 + 1 * r.val = _
    rw [e0]; omega
  · show win0_0.index t (1 : Fin 2) * 2048 + 1 * k.val = _
    rw [e1]; omega

theorem blkW (c : Dev nD) (t : Fin cfg0.N) (k : Fin 2048) : iblk m c 1 t (ix2 0 k) = argW m c (ix1 k) := by
  obtain ⟨-, ⟨e0, e1⟩, -⟩ := idx_all t
  have hi : ((cfg0.win 1).blk t).view.emb (ix2 (0 : Fin 1) k) = (ix2 (0 : Fin 1) k : S1x2048.Idx) := by
    refine Shape.idx_ext₂ ?_ ?_
    · show win0_1.index t (0 : Fin 2) * 1 + 1 * 0 = 0
      rw [e0]
    · show win0_1.index t (1 : Fin 2) * 2048 + 1 * k.val = k.val
      rw [e1]; omega
  have h : iblk m c 1 t (ix2 (0 : Fin 1) k) = V m c main_v0 (ix2 (0 : Fin 1) k) := congrArg (V m c main_v0) hi
  rw [h, V_main_v0]
  pointwise []

/-- The result after the run. -/
theorem final (c : Dev nD) : (dats m 0 c).arrAt 2 cfg0.N = fun i => normed (row (argX m c) (i 0).val) (colW m c) (i 1) := by
  funext i
  obtain ⟨p, hp⟩ : ∃ p : Fin cfg0.N, p.val = (i 0).val / 256 :=
    ⟨⟨(i 0).val / 256, by rw [show cfg0.N = 32 from N_0]; have h : (i 0).val < 8192 := (i 0).isLt; omega⟩, rfl⟩
  obtain ⟨q, hq⟩ : ∃ q : Fin 256, q.val = (i 0).val % 256 := ⟨⟨_, Nat.mod_lt _ (by decide)⟩, rfl⟩
  obtain ⟨-, -, e0, e1⟩ := idx_all p
  have hi : ((cfg0.win 2).blk p).view.emb (ix2 q (i 1)) = i := by
    refine Shape.idx_ext₂ ?_ ?_
    · show win0_2.index p (0 : Fin 2) * 256 + 1 * q.val = _
      rw [e0, hp, hq]; omega
    · show win0_2.index p (1 : Fin 2) * 2048 + 1 * (i 1).val = _
      rw [e1]; omega
  have hb := congrFun (Value.blocks2 m c p (flush0_2 p)) (ix2 q (i 1))
  rw [Value.flushed2] at hb
  refine (congrArg ((dats m 0 c).arrAt 2 cfg0.N) hi).symm.trans (hb.trans ((out_apply _ _ q (i 1)).trans ?_))
  have hx : (fun k => iblk m c 0 p (ix2 q k)) = row (argX m c) (i 0).val := funext fun k => by
    rw [blkX, hp, hq, Nat.div_add_mod']
  rw [hx]
  exact congrArg (fun w => normed _ w (i 1)) (funext fun k => blkW m c p k)

end Cert.KernelRfIdeal.Blocks

namespace Cert.RfValue

open Idealize.ShloMosaic Idealize.ShloMosaic.TcCoe Idealize.SL.Sem
open Cert.KernelRfIdeal.Blocks Cert.RmsValue

/-- The norm: the kernel's array is the reference's. -/
theorem algebraic : Cert.algebraic_KernelRfIdeal_ReferenceRfIdeal (hKernelRfIdeal := Cert.KernelRfIdeal.Gen.facts)
    (hReferenceRfIdeal := Cert.ReferenceRfIdeal.Gen.facts) :=
  fun m ρ m' ρ' _ hag => ⟨fun c i => normed (row (argX m c) (i 0).val) (colW m c) (i 1),
    (θ_run _ _ _).mono (fun _ h c => ⟨(h c).1.trans (final m c), (h c).2⟩) (Cert.KernelRfIdeal.Value.run_blocks m ρ),
    (θ_run _ _ _).mono (fun _ h c => by
      obtain ⟨h0, hr⟩ := h c
      obtain ⟨a0, a1⟩ := hag c
      rw [a0, a1] at h0
      refine ⟨h0.trans ?_, hr⟩
      clear h0 hr a0 a1
      funext i
      obtain ⟨r, l, rfl⟩ : ∃ (r : Fin 8192) (l : Fin 2048), i = ix2 r l := ⟨i 0, i 1, eq_ix2 i⟩
      show _ = normed (row (argX m c) r.val) (colW m c) l
      rw [row_eq]
      pointwise [normed, den])
      (Cert.ReferenceRfIdeal.Value.run m' ρ')⟩

/-- The reference runs, leaves its arguments as they were, and ends with every counter at zero. -/
theorem reference_frame : Cert.quiescent_ReferenceRfIdeal (hReferenceRfIdeal := Cert.ReferenceRfIdeal.Gen.facts) :=
  fun m ρ _ => (θ_run _ _ _).mono (fun r h => ⟨fun c => (h c).2, sem_eq_zero_of_no_sems (by decide) r.2⟩)
    (Cert.ReferenceRfIdeal.Value.run m ρ)

end Cert.RfValue

end
-- ==== Proof.GfValue.lean ====
/-
  The step's gated merge: with `σ` the logistic function, `σ(ga)·a + σ(gb)·b + σ(gc)·c` for each token and channel. The
  kernel walks 64 blocks of 128 tokens.
-/
module

public import proofs.«01_k».proof.Defs
public import proofs.«01_k».proof.Proof.GateValue
public import proofs.«01_k».proof.Proof.Gen.KernelGfIdeal.Value
public import proofs.«01_k».proof.Proof.Gen.ReferenceGfIdeal.Run

@[expose] public section

noncomputable section

namespace Cert.GfValue

open Idealize.ShloMosaic

/-- The merge of the branches `a`, `b` and `c` by the gates' logits. -/
def merged (ga gb gc a b c : EReal) : EReal := Ideal.logistic ga * a + Ideal.logistic gb * b + Ideal.logistic gc * c

end Cert.GfValue

namespace Cert.KernelGfIdeal.Blocks

open Idealize.ShloMosaic Idealize.ShloMosaic.TcCoe Idealize.SL.Sem Idealize.ShloMosaic.ValueIdx
open Cert.KernelGfIdeal Cert.KernelGfIdeal.Gen Cert.Products Cert.GfValue
open Cert.KernelGateIdeal.Blocks (hz logit)

/-- What the body leaves in the output's block, at an index. -/
theorem out_apply (c : Dev nD) (i : grid0.Coords)
    (a1 : Memref sig .tc .vmem S128x2048 .f32) (h1 : a1.IsWhole) (a2 : Memref sig .tc .vmem S128x2048 .f32) (h2 : a2.IsWhole)
    (a3 : Memref sig .tc .vmem S128x2048 .f32) (h3 : a3.IsWhole) (a4 : Memref sig .tc .vmem S128x2048 .f32) (h4 : a4.IsWhole)
    (a5 : Memref sig .tc .vmem S128x2048 .f32) (h5 : a5.IsWhole) (a6 : Memref sig .tc .vmem S128x2048 .f32) (h6 : a6.IsWhole)
    (a7 : Memref sig .tc .vmem S128x2048 .bf16) (h7 : a7.IsWhole) (x0 x1 x2 x3 x4 x5 : Vec Ideal S128x2048 .f32)
    (j : S128x2048.Idx) :
    out0_A_6 c i a1 h1 a2 h2 a3 h3 a4 h4 a5 h5 a6 h6 a7 h7 x0 x1 x2 x3 x4 x5 j
      = merged (x0 j) (x1 j) (x2 j) (x3 j) (x4 j) (x5 j) := by
  unfold out0_A_6
  rw [View.read_writes_eq_canon _ _ _ (fun _ => cover0_A_6 ..)]
  unfold kernelRun0_A
  dsimp only
  sl_unfold_words
  rw [View.canon_unit_zero (S := S128x2048) hz]
  simp only [View.readAt_eq_ld, h1.read_unread, h2.read_unread, h3.read_unread, h4.read_unread, h5.read_unread,
    h6.read_unread, View.ld_unit_zero (S := S128x2048) hz]
  rfl

variable (m : (ℓ : Loc nD τ sig) → Buf (Elt Ideal) ℓ) (ρ : Dev nD → PrngReg)

/-- The projections and the three branches. -/
abbrev proj (c : Dev nD) : S8192x15360.Idx → EReal := m ((c : Thread nD τ).loc main_arg0)
abbrev brA (c : Dev nD) : S8192x2048.Idx → EReal := m ((c : Thread nD τ).loc main_arg1)
abbrev brB (c : Dev nD) : S8192x2048.Idx → EReal := m ((c : Thread nD τ).loc main_arg2)
abbrev brC (c : Dev nD) : S8192x2048.Idx → EReal := m ((c : Thread nD τ).loc main_arg3)

/-- The grid point whose block holds token row `i 0`, and the place of `i` in that block. -/
def pt (i : S8192x2048.Idx) : Fin cfg0.N :=
  ⟨(i 0).val / 128, by rw [show cfg0.N = 64 from N_0]; have h : (i 0).val < 8192 := (i 0).isLt; omega⟩
def loc (i : S8192x2048.Idx) : S128x2048.Idx := ix2 ⟨(i 0).val % 128, Nat.mod_lt _ (by decide)⟩ (i 1)

/-- Which block of each array a point reads or writes: its own rows; columns 0, 1, 2 of the projections for the gates. -/
theorem idx_all : ∀ t : Fin cfg0.N,
    ((win0_0.index t (0 : Fin 2) = t.val ∧ win0_0.index t (1 : Fin 2) = 0)
    ∧ (win0_1.index t (0 : Fin 2) = t.val ∧ win0_1.index t (1 : Fin 2) = 1)
    ∧ (win0_2.index t (0 : Fin 2) = t.val ∧ win0_2.index t (1 : Fin 2) = 2))
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- The place of `loc i` in a window's block of the point `pt i`, whose block column is `k`. -/
theorem row_at (i : S8192x2048.Idx) {s : ℕ} (h : s = (pt i).val) : s * 128 + 1 * ((i 0).val % 128) = (i 0).val := by
  rw [h]; show (i 0).val / 128 * 128 + _ = _; omega
theorem col_at (i : S8192x2048.Idx) {s k : ℕ} (h : s = k) : s * 2048 + 1 * (i 1).val = 2048 * k + (i 1).val := by
  rw [h]; omega
theorem col_zero (i : S8192x2048.Idx) {s : ℕ} (h : s = 0) : s * 2048 + 1 * (i 1).val = (i 1).val := by
  rw [h]; omega

theorem gate0 (c : Dev nD) (i : S8192x2048.Idx) : X0_0 m c (pt i) (loc i) = logit (proj m c) 0 i := by
  unfold X0_0 Pipeline.Window.fill
  rw [dif_pos (moved0_0 (pt i) (loc i))]
  exact at2_idx (proj m c) (((cfg0.win 0).blk (pt i)).view.emb _) _ _ (row_at i (idx_all (pt i)).1.1.1) (col_at i (idx_all (pt i)).1.1.2)
theorem gate1 (c : Dev nD) (i : S8192x2048.Idx) : X0_1 m c (pt i) (loc i) = logit (proj m c) 1 i := by
  unfold X0_1 Pipeline.Window.fill
  rw [dif_pos (moved0_1 (pt i) (loc i))]
  exact at2_idx (proj m c) (((cfg0.win 1).blk (pt i)).view.emb _) _ _ (row_at i (idx_all (pt i)).1.2.1.1) (col_at i (idx_all (pt i)).1.2.1.2)
theorem gate2 (c : Dev nD) (i : S8192x2048.Idx) : X0_2 m c (pt i) (loc i) = logit (proj m c) 2 i := by
  unfold X0_2 Pipeline.Window.fill
  rw [dif_pos (moved0_2 (pt i) (loc i))]
  exact at2_idx (proj m c) (((cfg0.win 2).blk (pt i)).view.emb _) _ _ (row_at i (idx_all (pt i)).1.2.2.1) (col_at i (idx_all (pt i)).1.2.2.2)

theorem in3 (c : Dev nD) (i : S8192x2048.Idx) : iblk m c 3 (pt i) (loc i) = brA m c i :=
  congrArg (brA m c) (Shape.idx_ext₂ (row_at i (idx_all (pt i)).2.1.1) (col_zero i (idx_all (pt i)).2.1.2)
    : ((cfg0.win 3).blk (pt i)).view.emb (loc i) = i)
theorem in4 (c : Dev nD) (i : S8192x2048.Idx) : iblk m c 4 (pt i) (loc i) = brB m c i :=
  congrArg (brB m c) (Shape.idx_ext₂ (row_at i (idx_all (pt i)).2.2.1.1) (col_zero i (idx_all (pt i)).2.2.1.2)
    : ((cfg0.win 4).blk (pt i)).view.emb (loc i) = i)
theorem in5 (c : Dev nD) (i : S8192x2048.Idx) : iblk m c 5 (pt i) (loc i) = brC m c i :=
  congrArg (brC m c) (Shape.idx_ext₂ (row_at i (idx_all (pt i)).2.2.2.1.1) (col_zero i (idx_all (pt i)).2.2.2.1.2)
    : ((cfg0.win 5).blk (pt i)).view.emb (loc i) = i)

/-- The merged activations of the arguments. -/
abbrev spec (c : Dev nD) (i : S8192x2048.Idx) : EReal :=
  merged (logit (proj m c) 0 i) (logit (proj m c) 1 i) (logit (proj m c) 2 i) (brA m c i) (brB m c i) (brC m c i)

/-- The result after the run. -/
theorem final (c : Dev nD) : (dats m 0 c).arrAt 6 cfg0.N = spec m c := by
  funext i
  have hi : ((cfg0.win 6).blk (pt i)).view.emb (loc i) = i :=
    Shape.idx_ext₂ (row_at i (idx_all (pt i)).2.2.2.2.1) (col_zero i (idx_all (pt i)).2.2.2.2.2)
  have hb := congrFun (Value.blocks6 m c (pt i) (flush0_6 (pt i))) (loc i)
  rw [Value.flushed6_A] at hb
  refine (congrArg ((dats m 0 c).arrAt 6 cfg0.N) hi).symm.trans (hb.trans ((out_apply (j := loc i) ..).trans ?_))
  rw [gate0, gate1, gate2, in3, in4, in5]

end Cert.KernelGfIdeal.Blocks

namespace Cert.GfValue

open Idealize.ShloMosaic Idealize.ShloMosaic.TcCoe Idealize.SL.Sem
open Cert.KernelGfIdeal.Blocks Cert.ReferenceGateIdeal.Merge

/-- The reference's merge, at an index. -/
theorem merged_apply (ga gb gc a b c : FVec Ideal Cert.ReferenceGateIdeal.S8192x2048 .f32) (i : Cert.ReferenceGateIdeal.S8192x2048.Idx) :
    (truncf .bf16 (addf (addf (mulf (gate ga) a) (mulf (gate gb) b)) (mulf (gate gc) c)) Cert.ReferenceGfIdeal.Gen.bitsLt_bf16_f32) i
      = merged (ga i) (gb i) (gc i) (a i) (b i) (c i) := by
  show gate ga i * a i + gate gb i * b i + gate gc i * c i = _
  rw [gate_apply, gate_apply, gate_apply]; rfl

/-- The gated merge: the kernel's array is the reference's. -/
theorem algebraic : Cert.algebraic_KernelGfIdeal_ReferenceGfIdeal (hKernelGfIdeal := Cert.KernelGfIdeal.Gen.facts)
    (hReferenceGfIdeal := Cert.ReferenceGfIdeal.Gen.facts) :=
  fun m ρ m' ρ' _ hag => ⟨spec m,
    (θ_run _ _ _).mono (fun _ h c => ⟨(h c).1.trans (final m c), (h c).2⟩) (Cert.KernelGfIdeal.Value.run_blocks m ρ),
    (θ_run _ _ _).mono (fun _ h c => by
      obtain ⟨h0, hr⟩ := h c
      obtain ⟨a0, a1, a2, a3⟩ := hag c
      rw [a0, a1, a2, a3] at h0
      refine ⟨h0.trans ?_, hr⟩
      funext i
      refine (merged_apply _ _ _ _ _ _ i).trans ?_
      rw [slice0, slice1, slice2])
      (Cert.ReferenceGfIdeal.Value.run m' ρ')⟩

/-- The reference runs, leaves its arguments as they were, and ends with every counter at zero. -/
theorem reference_frame : Cert.quiescent_ReferenceGfIdeal (hReferenceGfIdeal := Cert.ReferenceGfIdeal.Gen.facts) :=
  fun m ρ _ => (θ_run _ _ _).mono (fun r h => ⟨fun c => (h c).2, sem_eq_zero_of_no_sems (by decide) r.2⟩)
    (Cert.ReferenceGfIdeal.Value.run m ρ)

end Cert.GfValue

end
-- ==== Proof.TfValue.lean ====
/-
  The gated tail of the S5 branch: the gelu of the recurrence's output, a gated linear unit over the 768 channels, and the
  gate of the branch.
-/
module

public import proofs.«01_k».proof.Defs
public import proofs.«01_k».proof.Proof.Products
public import proofs.«01_k».proof.Proof.Gen.KernelTfIdeal.Value
public import proofs.«01_k».proof.Proof.Gen.ReferenceTfIdeal.Run
public import Idealize.ShloMosaic.Lib.Pipeline.Value
public import Idealize.ShloMosaic.Lib.Pointwise
public import Idealize.ShloMosaic.Lib.IdealHost

@[expose] public section

noncomputable section

namespace Cert.TfValue

open Idealize.ShloMosaic Cert.Products
open scoped BigOperators

abbrev half : EReal := Ideal.ofBits .f32 0x3F000000#32
abbrev slope : EReal := Ideal.ofBits .f32 0x3F4C422A#32
abbrev cubic : EReal := Ideal.ofBits .f32 0x3D372713#32

/-- The hyperbolic tangent in the gelu of `a`. -/
def gtanh (a : EReal) : EReal := Ideal.tanh (slope * (a + cubic * (a * (a * a))))

/-- The factor of the gelu. -/
def weight (a : EReal) : EReal := half * (1 + gtanh a)

def gelu (a : EReal) : EReal := a * weight a

/-- The logit of the gated linear unit's channel `l`, for a row `y`, the weight `W` and the bias `b`. -/
def logit (y : Fin 768 → EReal) (W : Fin 768 → Fin 768 → EReal) (b : Fin 768 → EReal) (l : Fin 768) : EReal :=
  (∑ k, gelu (y k) * W k l) + b l

/-- The tail of a row `y` and its gate `g`. -/
def tail (y g : Fin 768 → EReal) (W : Fin 768 → Fin 768 → EReal) (b : Fin 768 → EReal) (l : Fin 768) : EReal :=
  gelu (y l) * Ideal.logistic (logit y W b l) * (g l * Ideal.logistic (g l))

/-- Row `r` of an array. -/
def row {n w : Nat} (A : (⟨2, ![n, w]⟩ : Shape).Idx → EReal) (r : ℕ) : Fin w → EReal := fun k => at2 A r k.val

theorem row_eq {n w : Nat} (A : (⟨2, ![n, w]⟩ : Shape).Idx → EReal) (r : Fin n) :
    row A r.val = fun k => A (ix2 r k) := funext fun k => (at2_idx A (ix2 r k) _ _ rfl rfl).symm

/-- Row `r` of the gate's logits among the projections. -/
def gateRow (P : (⟨2, ![8192, 15360]⟩ : Shape).Idx → EReal) (r : ℕ) : Fin 768 → EReal := fun k => at2 P r (6912 + k.val)

end Cert.TfValue

namespace Cert.KernelTfIdeal.Blocks

open Idealize.ShloMosaic Idealize.ShloMosaic.TcCoe Idealize.SL.Sem
open Cert.KernelTfIdeal Cert.KernelTfIdeal.Gen Cert.Products Cert.TfValue
open scoped BigOperators

theorem hz : (![0, 0] : Fin 2 → Nat) = fun _ => 0 := funext fun a => by fin_cases a <;> rfl

/-- What the body leaves in the output's block. -/
theorem out_apply (y g : Vec Ideal S256x768 .f32) (W : Vec Ideal S768x768 .bf16) (b : Vec Ideal S1x768 .f32) (r : Fin 256) (l : Fin 768) :
    out0_4 y g W b (ix2 r l)
      = tail (fun k => y (ix2 r k)) (fun k => g (ix2 r k)) (fun k l => W (ix2 k l)) (fun k => b (ix2 0 k)) l := by
  unfold out0_4
  rw [View.canon_unit_zero (S := S256x768) hz]
  simp only [View.ld_unit_zero (S := S256x768) hz, View.ld_unit_zero (S := S768x768) hz, View.ld_unit_zero (S := S1x768) hz]
  pointwise [k0_pay1, tail, logit, gelu, weight, gtanh]

variable (m : (ℓ : Loc nD τ sig) → Buf (Elt Ideal) ℓ) (ρ : Dev nD → PrngReg)

/-- The arguments: the recurrence's output, the projections, the weight and the bias. -/
abbrev argY (c : Dev nD) : S8192x768.Idx → EReal := m ((c : Thread nD τ).loc main_arg0)
abbrev argP (c : Dev nD) : S8192x15360.Idx → EReal := m ((c : Thread nD τ).loc main_arg1)
abbrev argW (c : Dev nD) : S768x768.Idx → EReal := m ((c : Thread nD τ).loc main_arg2)
abbrev argB (c : Dev nD) : S768.Idx → EReal := m ((c : Thread nD τ).loc main_arg3)

/-- The tail of the arguments, at an index. -/
abbrev spec (c : Dev nD) (i : S8192x768.Idx) : EReal :=
  tail (row (argY m c) (i 0).val) (gateRow (argP m c) (i 0).val) (fun k l => argW m c (ix2 k l)) (fun k => argB m c (ix1 k)) (i 1)

/-- The bias's row, that the host makes of the bias. -/
theorem V_main_v0 (c : Dev nD) : V m c main_v0 = shapeCast S1x768 (argB m c) shapeCasts_S768_S1x768 := by
  unfold V hostOps0; after_results; rfl

/-- Which block of each array a point reads or writes: its own 256 rows, the gate's columns, and the rest whole. -/
theorem idx_all : ∀ t : Fin cfg0.N,
    (win0_0.index t (0 : Fin 2) = t.val ∧ win0_0.index t (1 : Fin 2) = 0)
    ∧ (win0_1.index t (0 : Fin 2) = t.val ∧ win0_1.index t (1 : Fin 2) = 9)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, _)

theorem blkY (c : Dev nD) (t : Fin cfg0.N) (r : Fin 256) (k : Fin 768) :
    iblk m c 0 t (ix2 r k) = row (argY m c) (t.val * 256 + r.val) k :=
  at2_emb (argY m c) 768 k.val (idx_all t).1 ⟨rfl, rfl⟩ (by omega)

theorem blkG (c : Dev nD) (t : Fin cfg0.N) (r : Fin 256) (k : Fin 768) :
    iblk m c 1 t (ix2 r k) = gateRow (argP m c) (t.val * 256 + r.val) k :=
  at2_emb (argP m c) 768 k.val (idx_all t).2.1 ⟨rfl, rfl⟩ (by omega)

theorem blkW (c : Dev nD) (t : Fin cfg0.N) (k l : Fin 768) : iblk m c 2 t (ix2 k l) = argW m c (ix2 k l) :=
  congrArg (argW m c) (emb_eq 768 k.val 768 l.val (idx_all t).2.2.1 ⟨rfl, rfl⟩ (by show _ = k.val; omega) (by show _ = l.val; omega))

theorem blkB (c : Dev nD) (t : Fin cfg0.N) (k : Fin 768) : iblk m c 3 t (ix2 0 k) = argB m c (ix1 k) := by
  have h : iblk m c 3 t (ix2 (0 : Fin 1) k) = V m c main_v0 (ix2 (0 : Fin 1) k) :=
    congrArg (V m c main_v0) (emb_eq 1 0 768 k.val (idx_all t).2.2.2.1 ⟨rfl, rfl⟩ rfl (by show _ = k.val; omega))
  rw [h, V_main_v0]
  pointwise []

/-- The result after the run. -/
theorem final (c : Dev nD) : (dats m 0 c).arrAt 4 cfg0.N = spec m c := by
  funext i
  obtain ⟨p, hp⟩ : ∃ p : Fin cfg0.N, p.val = (i 0).val / 256 :=
    ⟨⟨(i 0).val / 256, by rw [show cfg0.N = 32 from N_0]; have h : (i 0).val < 8192 := (i 0).isLt; omega⟩, rfl⟩
  obtain ⟨q, hq⟩ : ∃ q : Fin 256, q.val = (i 0).val % 256 := ⟨⟨_, Nat.mod_lt _ (by decide)⟩, rfl⟩
  have hi : ((cfg0.win 4).blk p).view.emb (ix2 q (i 1)) = i :=
    emb_eq 256 q.val 768 (i 1).val (idx_all p).2.2.2.2 ⟨rfl, rfl⟩ (by omega) (by omega)
  have hb := congrFun (Value.blocks4 m c p (flush0_4 p)) (ix2 q (i 1))
  rw [Value.flushed4] at hb
  refine (congrArg ((dats m 0 c).arrAt 4 cfg0.N) hi).symm.trans (hb.trans ((out_apply _ _ _ _ q (i 1)).trans ?_))
  simp only [blkY, blkG, blkW, blkB, hp, hq, Nat.div_add_mod']

end Cert.KernelTfIdeal.Blocks

namespace Cert.TfValue

open Idealize.ShloMosaic Idealize.ShloMosaic.TcCoe Idealize.SL.Sem
open Cert.KernelTfIdeal.Blocks Cert.Products
open scoped BigOperators

/-- The tail: the kernel's array is the reference's. -/
theorem algebraic : Cert.algebraic_KernelTfIdeal_ReferenceTfIdeal (hKernelTfIdeal := Cert.KernelTfIdeal.Gen.facts)
    (hReferenceTfIdeal := Cert.ReferenceTfIdeal.Gen.facts) :=
  fun m ρ m' ρ' _ hag => ⟨spec m,
    (θ_run _ _ _).mono (fun _ h c => ⟨(h c).1.trans (final m c), (h c).2⟩) (Cert.KernelTfIdeal.Value.run_blocks m ρ),
    (θ_run _ _ _).mono (fun _ h c => by
      obtain ⟨h0, hr⟩ := h c
      obtain ⟨a0, a1, a2, a3⟩ := hag c
      rw [a0, a1, a2, a3] at h0
      refine ⟨h0.trans ?_, hr⟩
      clear h0 hr a0 a1 a2 a3
      funext i
      obtain ⟨r, l, rfl⟩ : ∃ (r : Fin 8192) (l : Fin 768), i = ix2 r l := ⟨i 0, i 1, eq_ix2 i⟩
      show _ = tail (row (argY m c) r.val) (gateRow (argP m c) r.val) (fun k l => argW m c (ix2 k l)) (fun k => argB m c (ix1 k)) l
      rw [row_eq]
      pointwise [tail, logit, gelu, weight, gtanh, gateRow, mul_assoc]
      rw [at2, dif_pos ⟨r.isLt, by omega⟩]
      rfl)
      (Cert.ReferenceTfIdeal.Value.run m' ρ')⟩

/-- The reference runs, leaves its arguments as they were, and ends with every counter at zero. -/
theorem reference_frame : Cert.quiescent_ReferenceTfIdeal (hReferenceTfIdeal := Cert.ReferenceTfIdeal.Gen.facts) :=
  fun m ρ _ => (θ_run _ _ _).mono (fun r h => ⟨fun c => (h c).2, sem_eq_zero_of_no_sems (by decide) r.2⟩)
    (Cert.ReferenceTfIdeal.Value.run m ρ)

end Cert.TfValue

end
-- ==== Proof.TbValue.lean ====
/-
  The gradients of the gated tail of the S5 branch: of the recurrence's output and of the gate's logits at every token, and of
  the weight and the bias of the gated linear unit, which 32 blocks of tokens add up.
-/
module

public import proofs.«01_k».proof.Defs
public import proofs.«01_k».proof.Proof.TfValue
public import proofs.«01_k».proof.Proof.Gen.KernelTbIdeal.Value
public import proofs.«01_k».proof.Proof.Gen.ReferenceTbIdeal.Run

@[expose] public section

noncomputable section

namespace Cert.TbValue

open Idealize.ShloMosaic Cert.Products Cert.TfValue
open scoped BigOperators

/-! The gradients at a token: its row `y`, its gate `g` and the incoming gradient `d`, with the weight `W` and the bias `b`. -/

section Token
variable (y g d : Fin 768 → EReal) (W : Fin 768 → Fin 768 → EReal) (b : Fin 768 → EReal) (l : Fin 768)

/-- The gated linear unit's own gate. -/
def unit : EReal := Ideal.logistic (logit y W b l)

/-- The gradient of its logit. -/
def dz : EReal := gelu (y l) * (d l * (g l * Ideal.logistic (g l))) * (unit y W b l * (1 - unit y W b l))

/-- The gradient of the gelu: directly and through the logits. -/
def dgelu : EReal := d l * (g l * Ideal.logistic (g l)) * unit y W b l + ∑ k, dz y g d W b k * W l k

/-- What the hyperbolic tangent at `a` hands on of the gelu's gradient `e`. -/
def tanhGrad (a e : EReal) : EReal := slope * (half * (a * e) * ((1 + gtanh a) * (1 - gtanh a)))

/-- The gradient of the gelu's argument `a`. -/
def through (a e : EReal) : EReal :=
  e * weight a + tanhGrad a e + cubic * tanhGrad a e * (Ideal.ofBits .f32 0x40400000#32 * (a * a))

def rowGrad : EReal := through (y l) (dgelu y g d W b l)

/-- The gradient of the gate's logit. -/
def gateGrad : EReal :=
  gelu (y l) * unit y W b l * d l * Ideal.logistic (g l)
    + g l * (gelu (y l) * unit y W b l * d l) * (Ideal.logistic (g l) * (1 - Ideal.logistic (g l)))

end Token

end Cert.TbValue

namespace Cert.KernelTbIdeal.Blocks

open Idealize.ShloMosaic Idealize.ShloMosaic.TcCoe Idealize.SL.Sem
open Cert.KernelTbIdeal Cert.KernelTbIdeal.Gen Cert.Products Cert.TfValue Cert.TbValue
open scoped BigOperators

theorem hz : (![0, 0] : Fin 2 → Nat) = fun _ => 0 := funext fun a => by fin_cases a <;> rfl

/-! What the body stores: the two gradients of its tokens, and the sums so far of the weight's and the bias's. -/

section Stored
variable (y g d : Vec Ideal S256x768 .f32) (W : Vec Ideal S768x768 .bf16) (b : Vec Ideal S1x768 .f32)

def rowOut : FVec Ideal S256x768 .f32 :=
  k0_pay15 y g (k0_pay2 W) d (k0_pay3 y) (k0_pay5 y) (k0_pay6 y) (k0_pay7 y) (k0_pay8 y W b) (k0_pay9 y W b) (k0_pay11 g)
def gateOut : FVec Ideal S256x768 .bf16 := k0_pay16 g d (k0_pay10 y W b) (k0_pay11 g) (Scalar.ofBits .f32 0x3F800000#32)
def weightOut (acc : Vec Ideal S768x768 .f32) : FVec Ideal S768x768 .f32 :=
  k0_pay19 g d (k0_pay7 y) (k0_pay9 y W b) (k0_pay11 g) acc
def biasOut (acc : Vec Ideal S1x768 .f32) : FVec Ideal S1x768 .f32 :=
  k0_pay1 (k0_pay14 g d (k0_pay7 y) (k0_pay9 y W b) (k0_pay11 g)) acc

/-- A token's gradient `f` from the blocks. -/
abbrev tok (f : (Fin 768 → EReal) → (Fin 768 → EReal) → (Fin 768 → EReal) → (Fin 768 → Fin 768 → EReal) → (Fin 768 → EReal) → Fin 768 → EReal)
    (r : Fin 256) : Fin 768 → EReal :=
  f (fun k => y (ix2 r k)) (fun k => g (ix2 r k)) (fun k => d (ix2 r k)) (fun k l => W (ix2 k l)) (fun k => b (ix2 0 k))

theorem rowOut_apply (r : Fin 256) (l : Fin 768) : rowOut y g d W b (ix2 r l) = tok y g d W b rowGrad r l := by
  pointwise [rowOut, k0_pay15, k0_pay13, k0_pay12, k0_pay11, k0_pay9, k0_pay8, k0_pay7, k0_pay6, k0_pay5, k0_pay4, k0_pay3, k0_pay2,
    rowGrad, through, tanhGrad, dgelu, dz, unit, logit, gelu, weight, gtanh]

theorem gateOut_apply (r : Fin 256) (l : Fin 768) : gateOut y g d W b (ix2 r l) = tok y g d W b gateGrad r l := by
  pointwise [gateOut, k0_pay16, k0_pay11, k0_pay10, k0_pay8, k0_pay7, k0_pay6, k0_pay4, k0_pay2, gateGrad, unit, logit, gelu, weight, gtanh]

theorem weightOut_apply (acc : Vec Ideal S768x768 .f32) (k l : Fin 768) :
    weightOut y g d W b acc (ix2 k l) = acc (ix2 k l) + ∑ r : Fin 256, gelu (y (ix2 r k)) * tok y g d W b dz r l := by
  pointwise [weightOut, k0_pay19, k0_pay13, k0_pay12, k0_pay11, k0_pay9, k0_pay8, k0_pay7, k0_pay6, k0_pay4, k0_pay2,
    dz, unit, logit, gelu, weight, gtanh]

theorem biasOut_apply (acc : Vec Ideal S1x768 .f32) (l : Fin 768) :
    biasOut y g d W b acc (ix2 0 l) = acc (ix2 0 l) + ∑ r : Fin 256, tok y g d W b dz r l := by
  pointwise [biasOut, k0_pay1, k0_pay14, k0_pay13, k0_pay12, k0_pay11, k0_pay9, k0_pay8, k0_pay7, k0_pay6, k0_pay4, k0_pay2,
    dz, unit, logit, gelu, weight, gtanh]

end Stored

section Bodies
variable (c : Dev nD) (i : grid0.Coords)
  (a1 : Memref sig .tc .vmem S256x768 .f32) (h1 : a1.IsWhole) (a2 : Memref sig .tc .vmem S256x768 .f32) (h2 : a2.IsWhole)
  (a3 : Memref sig .tc .vmem S768x768 .bf16) (h3 : a3.IsWhole) (a4 : Memref sig .tc .vmem S1x768 .f32) (h4 : a4.IsWhole)
  (a5 : Memref sig .tc .vmem S256x768 .f32) (h5 : a5.IsWhole) (a6 : Memref sig .tc .vmem S256x768 .f32) (h6 : a6.IsWhole)
  (a7 : Memref sig .tc .vmem S256x768 .bf16) (h7 : a7.IsWhole) (a8 : Memref sig .tc .vmem S768x768 .f32) (h8 : a8.IsWhole)
  (a9 : Memref sig .tc .vmem S1x768 .f32) (h9 : a9.IsWhole)
  (y g d : Vec Ideal S256x768 .f32) (W : Vec Ideal S768x768 .bf16) (b : Vec Ideal S1x768 .f32)
  (s : Vec Ideal S768x768 .f32) (u : Vec Ideal S1x768 .f32)

/-- What the first point leaves in the outputs' blocks: the two sums start from zero. -/
theorem outA (hc : cond0_0 i) :
    out0_A_5 c i a1 h1 a2 h2 a3 h3 a4 h4 a5 h5 a6 h6 a7 h7 a8 h8 a9 h9 hc y g W b d = rowOut y g d W b
    ∧ out0_A_6 c i a1 h1 a2 h2 a3 h3 a4 h4 a5 h5 a6 h6 a7 h7 a8 h8 a9 h9 hc y g W b d = gateOut y g d W b
    ∧ out0_A_7 c i a1 h1 a2 h2 a3 h3 a4 h4 a5 h5 a6 h6 a7 h7 a8 h8 a9 h9 hc y g W b d = weightOut y g d W b (k0_pay17 (F := Ideal))
    ∧ out0_A_8 c i a1 h1 a2 h2 a3 h3 a4 h4 a5 h5 a6 h6 a7 h7 a8 h8 a9 h9 hc y g W b d = biasOut y g d W b (k0_pay18 (F := Ideal)) := by
  refine ⟨(View.read_writes_eq_canon _ _ _ (fun _ => cover0_A_5 ..)).trans ?_,
    (View.read_writes_eq_canon _ _ _ (fun _ => cover0_A_6 ..)).trans ?_,
    (View.read_writes_eq_canon _ _ _ (fun _ => cover0_A_7 ..)).trans ?_,
    (View.read_writes_eq_canon _ _ _ (fun _ => cover0_A_8 ..)).trans ?_⟩
  all_goals
    unfold kernelRun0_A
    dsimp only
    sl_unfold_words
    first
    | rw [View.canon_unit_zero (S := S256x768) hz]
    | rw [View.canon_cons_unit_zero (S := S768x768) hz, View.readCov_unit_zero (S := S768x768) _ hz]
    | rw [View.canon_cons_unit_zero (S := S1x768) hz, View.readCov_unit_zero (S := S1x768) _ hz]
    simp only [View.readAt_eq_ld, h1.read_unread, h2.read_unread, h3.read_unread, h4.read_unread, h5.read_unread,
      View.ld_unit_zero (S := S256x768) hz, View.ld_unit_zero (S := S768x768) hz, View.ld_unit_zero (S := S1x768) hz]
    rfl

/-- What a later point leaves there: the two sums go on. -/
theorem outB (hc : ¬cond0_0 i) :
    out0_B_5 c i a1 h1 a2 h2 a3 h3 a4 h4 a5 h5 a6 h6 a7 h7 a8 h8 a9 h9 hc y g W b d s u = rowOut y g d W b
    ∧ out0_B_6 c i a1 h1 a2 h2 a3 h3 a4 h4 a5 h5 a6 h6 a7 h7 a8 h8 a9 h9 hc y g W b d s u = gateOut y g d W b
    ∧ out0_B_7 c i a1 h1 a2 h2 a3 h3 a4 h4 a5 h5 a6 h6 a7 h7 a8 h8 a9 h9 hc y g W b d s u = weightOut y g d W b s
    ∧ out0_B_8 c i a1 h1 a2 h2 a3 h3 a4 h4 a5 h5 a6 h6 a7 h7 a8 h8 a9 h9 hc y g W b d s u = biasOut y g d W b u := by
  refine ⟨(View.read_writes_eq_canon _ _ _ (fun _ => cover0_B_5 ..)).trans ?_,
    (View.read_writes_eq_canon _ _ _ (fun _ => cover0_B_6 ..)).trans ?_,
    (View.read_writes_eq_canon _ _ _ (fun _ => cover0_B_7 ..)).trans ?_,
    (View.read_writes_eq_canon _ _ _ (fun _ => cover0_B_8 ..)).trans ?_⟩
  all_goals
    unfold kernelRun0_B
    dsimp only
    sl_unfold_words
    first
    | rw [View.canon_unit_zero (S := S256x768) hz]
    | rw [View.canon_unit_zero (S := S768x768) hz]
    | rw [View.canon_unit_zero (S := S1x768) hz]
    simp only [View.readAt_eq_ld, h1.read_unread, h2.read_unread, h3.read_unread, h4.read_unread, h5.read_unread, h8.read_unread, h9.read_unread,
      View.ld_unit_zero (S := S256x768) hz, View.ld_unit_zero (S := S768x768) hz, View.ld_unit_zero (S := S1x768) hz]
    rfl

end Bodies

variable (m : (ℓ : Loc nD τ sig) → Buf (Elt Ideal) ℓ) (ρ : Dev nD → PrngReg)

/-- The arguments: the recurrence's output, the projections, the weight, the bias and the incoming gradient. -/
abbrev argY (c : Dev nD) : S8192x768.Idx → EReal := m ((c : Thread nD τ).loc main_arg0)
abbrev argP (c : Dev nD) : S8192x15360.Idx → EReal := m ((c : Thread nD τ).loc main_arg1)
abbrev argW (c : Dev nD) : S768x768.Idx → EReal := m ((c : Thread nD τ).loc main_arg2)
abbrev argB (c : Dev nD) : S768.Idx → EReal := m ((c : Thread nD τ).loc main_arg3)
abbrev argD (c : Dev nD) : S8192x768.Idx → EReal := m ((c : Thread nD τ).loc main_arg4)

/-- The gradient `f` at token `r`. -/
abbrev at5 (f : (Fin 768 → EReal) → (Fin 768 → EReal) → (Fin 768 → EReal) → (Fin 768 → Fin 768 → EReal) → (Fin 768 → EReal) → Fin 768 → EReal)
    (c : Dev nD) (r : ℕ) : Fin 768 → EReal :=
  f (row (argY m c) r) (gateRow (argP m c) r) (row (argD m c) r) (fun k l => argW m c (ix2 k l)) (fun k => argB m c (ix1 k))

/-- The weight's and the bias's gradient: every token's term. -/
def weightGrad (c : Dev nD) (i : S768x768.Idx) : EReal :=
  ∑ r : Fin 8192, gelu (row (argY m c) r.val (i 0)) * at5 m dz c r.val (i 1)
def biasGrad (c : Dev nD) (i : S1x768.Idx) : EReal := ∑ r : Fin 8192, at5 m dz c r.val (i 1)

/-- The bias's row, that the host makes of the bias. -/
theorem V_main_v0 (c : Dev nD) : V m c main_v0 = shapeCast S1x768 (argB m c) shapeCasts_S768_S1x768 := by
  unfold V hostOps0; after_results; rfl

/-- Which block of each array a point reads or writes: its own 256 rows, the gate's columns, and the rest whole. -/
theorem idx_all : ∀ t : Fin cfg0.N,
    (win0_0.index t (0 : Fin 2) = t.val ∧ win0_0.index t (1 : Fin 2) = 0)
    ∧ (win0_1.index t (0 : Fin 2) = t.val ∧ win0_1.index t (1 : Fin 2) = 9)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem blkY (c : Dev nD) (t : Fin cfg0.N) (r : Fin 256) (k : Fin 768) :
    iblk m c 0 t (ix2 r k) = row (argY m c) (t.val * 256 + r.val) k :=
  at2_emb (argY m c) 768 k.val (idx_all t).1 ⟨rfl, rfl⟩ (by omega)

theorem blkG (c : Dev nD) (t : Fin cfg0.N) (r : Fin 256) (k : Fin 768) :
    iblk m c 1 t (ix2 r k) = gateRow (argP m c) (t.val * 256 + r.val) k :=
  at2_emb (argP m c) 768 k.val (idx_all t).2.1 ⟨rfl, rfl⟩ (by omega)

theorem blkD (c : Dev nD) (t : Fin cfg0.N) (r : Fin 256) (k : Fin 768) :
    iblk m c 4 t (ix2 r k) = row (argD m c) (t.val * 256 + r.val) k :=
  at2_emb (argD m c) 768 k.val (idx_all t).2.2.2.2.1 ⟨rfl, rfl⟩ (by omega)

theorem blkW (c : Dev nD) (t : Fin cfg0.N) (k l : Fin 768) : iblk m c 2 t (ix2 k l) = argW m c (ix2 k l) :=
  congrArg (argW m c) (emb_eq 768 k.val 768 l.val (idx_all t).2.2.1 ⟨rfl, rfl⟩ (by show _ = k.val; omega) (by show _ = l.val; omega))

theorem blkB (c : Dev nD) (t : Fin cfg0.N) (k : Fin 768) : iblk m c 3 t (ix2 0 k) = argB m c (ix1 k) := by
  have h : iblk m c 3 t (ix2 (0 : Fin 1) k) = V m c main_v0 (ix2 (0 : Fin 1) k) :=
    congrArg (V m c main_v0) (emb_eq 1 0 768 k.val (idx_all t).2.2.2.1 ⟨rfl, rfl⟩ rfl (by show _ = k.val; omega))
  rw [h, V_main_v0]
  pointwise []

theorem outs_rows (c : Dev nD) (t : Fin cfg0.N) (r : Fin 256) (l : Fin 768) :
    (outsAt0 m c t.val t.isLt).1 (ix2 r l) = at5 m rowGrad c (t.val * 256 + r.val) l
    ∧ (outsAt0 m c t.val t.isLt).2.1 (ix2 r l) = at5 m gateGrad c (t.val * 256 + r.val) l := by
  by_cases h0 : t.val % 32 = 0
  · rw [outsAt0_A m c t h0]
    dsimp only
    rw [(outA ..).1, (outA ..).2.1, rowOut_apply, gateOut_apply]
    simp only [tok, blkY, blkG, blkD, blkW, blkB, and_self]
  · rw [outsAt0_B m c t h0]
    dsimp only
    rw [(outB ..).1, (outB ..).2.1, rowOut_apply, gateOut_apply]
    simp only [tok, blkY, blkG, blkD, blkW, blkB, and_self]

/-- After point `n` the weight's and the bias's gradient hold the terms of the tokens up to there. -/
theorem carried (c : Dev nD) (k l : Fin 768) : ∀ (n : ℕ) (h : n < cfg0.N),
    (outsAt0 m c n h).2.2.1 (ix2 k l)
      = ∑ s ∈ Finset.range (n + 1), ∑ r : Fin 256, gelu (row (argY m c) (s * 256 + r.val) k) * at5 m dz c (s * 256 + r.val) l
    ∧ (outsAt0 m c n h).2.2.2 (ix2 0 l) = ∑ s ∈ Finset.range (n + 1), ∑ r : Fin 256, at5 m dz c (s * 256 + r.val) l
  | 0, h => by
    rw [outsAt0_A m c ⟨0, h⟩ rfl]
    dsimp only
    rw [(outA ..).2.2.1, (outA ..).2.2.2, weightOut_apply, biasOut_apply, Finset.sum_range_one, Finset.sum_range_one]
    simp only [tok, blkY, blkG, blkD, blkW, blkB]
    exact ⟨(congrArg (· + _) ofBits_zero).trans (zero_add _), (congrArg (· + _) ofBits_zero).trans (zero_add _)⟩
  | n + 1, h => by
    have hN : n + 1 < 32 := lt_of_lt_of_eq h (show cfg0.N = 32 from N_0)
    rw [outsAt0_B m c ⟨n + 1, h⟩ (by dsimp only; omega)]
    dsimp only
    rw [(outB ..).2.2.1, (outB ..).2.2.2, weightOut_apply, biasOut_apply, Finset.sum_range_succ _ (n + 1), Finset.sum_range_succ _ (n + 1)]
    simp only [tok, blkY, blkG, blkD, blkW, blkB]
    obtain ⟨i1, i2⟩ := carried c k l n (Nat.lt_of_succ_lt h)
    exact ⟨congrArg (· + _) i1, congrArg (· + _) i2⟩

/-- The grid point whose block holds an index's row, and the index's place in that block. -/
def pt (i : S8192x768.Idx) : Fin cfg0.N :=
  ⟨(i 0).val / 256, by rw [show cfg0.N = 32 from N_0]; have h : (i 0).val < 8192 := (i 0).isLt; omega⟩
def loc (i : S8192x768.Idx) : S256x768.Idx := ix2 ⟨(i 0).val % 256, Nat.mod_lt _ (by decide)⟩ (i 1)

theorem row_pt (i : S8192x768.Idx) : (pt i).val * 256 + (i 0).val % 256 = (i 0).val := Nat.div_add_mod' _ _

theorem final5 (c : Dev nD) : (dats m 0 c).arrAt 5 cfg0.N = fun i : S8192x768.Idx => at5 m rowGrad c (i 0).val (i 1) := by
  funext i
  have hi : ((cfg0.win 5).blk (pt i)).view.emb (loc i) = i := emb_eq 256 ((i 0).val % 256) 768 (i 1).val (idx_all (pt i)).2.2.2.2.2.1 ⟨rfl, rfl⟩ (row_pt i) (by omega)
  have hb := congrFun (Value.blocks5 m c (pt i) (flush0_5 (pt i))) (loc i)
  rw [Value.flushed5] at hb
  refine (congrArg ((dats m 0 c).arrAt 5 cfg0.N) hi).symm.trans (hb.trans ((outs_rows m c (pt i) _ (i 1)).1.trans ?_))
  simp only [row_pt]

theorem final6 (c : Dev nD) : (dats m 0 c).arrAt 6 cfg0.N = fun i : S8192x768.Idx => at5 m gateGrad c (i 0).val (i 1) := by
  funext i
  have hi : ((cfg0.win 6).blk (pt i)).view.emb (loc i) = i := emb_eq 256 ((i 0).val % 256) 768 (i 1).val (idx_all (pt i)).2.2.2.2.2.2.1 ⟨rfl, rfl⟩ (row_pt i) (by omega)
  have hb := congrFun (Value.blocks6 m c (pt i) (flush0_6 (pt i))) (loc i)
  rw [Value.flushed6] at hb
  refine (congrArg ((dats m 0 c).arrAt 6 cfg0.N) hi).symm.trans (hb.trans ((outs_rows m c (pt i) _ (i 1)).2.trans ?_))
  simp only [row_pt]

theorem lastPt : 31 < cfg0.N := by rw [show cfg0.N = 32 from N_0]; decide

theorem last {t : Fin cfg0.N} (h : t.val % 32 = 31) : t = ⟨31, lastPt⟩ := by
  have h2 := lt_of_lt_of_eq t.isLt (show cfg0.N = 32 from N_0)
  exact Fin.ext (by dsimp only; omega)

/-- The weight's gradient after the run: every token's term. -/
theorem final7 (c : Dev nD) : (dats m 0 c).arrAt 7 cfg0.N = weightGrad m c := by
  funext i
  have hi : ((cfg0.win 7).blk ⟨31, lastPt⟩).view.emb (ix2 (i 0) (i 1)) = i :=
    emb_eq 768 (i 0).val 768 (i 1).val (idx_all ⟨31, lastPt⟩).2.2.2.2.2.2.2.1 ⟨rfl, rfl⟩ (by omega) (by omega)
  have hb := congrFun ((dats m 0 c).read_blk_arrAt_eq_flushed 7
    (fun t t' h h' hne => absurd ((last ((flush0_7 t).mp h)).trans (last ((flush0_7 t').mp h')).symm) hne) cfg0.N ⟨31, lastPt⟩ lastPt
    ((flush0_7 ⟨31, lastPt⟩).mpr rfl)) (ix2 (i 0) (i 1))
  rw [Value.flushed7] at hb
  refine (congrArg ((dats m 0 c).arrAt 7 cfg0.N) hi).symm.trans (hb.trans ((carried m c (i 0) (i 1) 31 lastPt).1.trans ?_))
  exact sum_blocks 32 256 (fun r => gelu (row (argY m c) r (i 0)) * at5 m dz c r (i 1))

/-- The bias's gradient after the run: every token's term. -/
theorem final8 (c : Dev nD) : (dats m 0 c).arrAt 8 cfg0.N = biasGrad m c := by
  funext i
  have i0 : (i 0).val < 1 := (i 0).isLt
  have hi : ((cfg0.win 8).blk ⟨31, lastPt⟩).view.emb (ix2 (0 : Fin 1) (i 1)) = i :=
    emb_eq 1 0 768 (i 1).val (idx_all ⟨31, lastPt⟩).2.2.2.2.2.2.2.2 ⟨rfl, rfl⟩ (by show 0 * 1 + 0 = _; omega) (by omega)
  have hb := congrFun ((dats m 0 c).read_blk_arrAt_eq_flushed 8
    (fun t t' h h' hne => absurd ((last ((flush0_8 t).mp h)).trans (last ((flush0_8 t').mp h')).symm) hne) cfg0.N ⟨31, lastPt⟩ lastPt
    ((flush0_8 ⟨31, lastPt⟩).mpr rfl)) (ix2 (0 : Fin 1) (i 1))
  rw [Value.flushed8] at hb
  refine (congrArg ((dats m 0 c).arrAt 8 cfg0.N) hi).symm.trans (hb.trans ((carried m c 0 (i 1) 31 lastPt).2.trans ?_))
  exact sum_blocks 32 256 (fun r => at5 m dz c r (i 1))

end Cert.KernelTbIdeal.Blocks

namespace Cert.TbValue

open Idealize.ShloMosaic Idealize.ShloMosaic.TcCoe Idealize.SL.Sem
open Cert.KernelTbIdeal.Blocks Cert.Products Cert.TfValue
open scoped BigOperators

theorem gateRow_eq (P : (⟨2, ![8192, 15360]⟩ : Shape).Idx → EReal) (r : Fin 8192) :
    gateRow P r.val = fun k => P (ix2 r ⟨6912 + k.val, by omega⟩) :=
  funext fun k => (at2_idx P (ix2 r ⟨6912 + k.val, by omega⟩) _ _ rfl rfl).symm

set_option maxHeartbeats 4000000 in
/-- The tail's gradients: the kernel's four arrays are the reference's. -/
theorem algebraic : Cert.algebraic_KernelTbIdeal_ReferenceTbIdeal (hKernelTbIdeal := Cert.KernelTbIdeal.Gen.facts)
    (hReferenceTbIdeal := Cert.ReferenceTbIdeal.Gen.facts) :=
  fun m ρ m' ρ' _ hag => ⟨fun c i => at5 m rowGrad c (i 0).val (i 1), fun c i => at5 m gateGrad c (i 0).val (i 1),
    weightGrad m, biasGrad m,
    (θ_run _ _ _).mono (fun _ h c => ⟨(h c).1.trans (final5 m c), (h c).2.1.trans (final6 m c),
      (h c).2.2.1.trans (final7 m c), (h c).2.2.2.1.trans (final8 m c), (h c).2.2.2.2⟩) (Cert.KernelTbIdeal.Value.run_blocks m ρ),
    (θ_run _ _ _).mono (fun _ h c => by
      obtain ⟨h0, h1, h2, h3, hr⟩ := h c
      obtain ⟨a0, a1, a2, a3, a4⟩ := hag c
      unfold Cert.ReferenceTbIdeal.Value.res_main_v63 at h0
      unfold Cert.ReferenceTbIdeal.Value.res_main_v64 at h1
      unfold Cert.ReferenceTbIdeal.Value.res_main_v49 at h2
      rw [a0, a1, a2, a3, a4] at h0 h1 h2 h3
      refine ⟨h0.trans ?_, h1.trans ?_, h2.trans ?_, h3.trans ?_, hr⟩ <;> clear h0 h1 h2 h3 hr a0 a1 a2 a3 a4
      · funext i
        obtain ⟨r, l, rfl⟩ : ∃ (r : Fin 8192) (l : Fin 768), i = ix2 r l := ⟨i 0, i 1, eq_ix2 i⟩
        show _ = at5 m rowGrad c r.val l
        simp only [at5, row_eq, gateRow_eq]
        pointwise [rowGrad, through, tanhGrad, dgelu, dz, unit, logit, gelu, weight, gtanh, mul_assoc]
        rfl
      · funext i
        obtain ⟨r, l, rfl⟩ : ∃ (r : Fin 8192) (l : Fin 768), i = ix2 r l := ⟨i 0, i 1, eq_ix2 i⟩
        show _ = at5 m gateGrad c r.val l
        simp only [at5, row_eq, gateRow_eq]
        pointwise [gateGrad, unit, logit, gelu, weight, gtanh, mul_assoc]
        rfl
      · funext i
        obtain ⟨k, l, rfl⟩ : ∃ (k l : Fin 768), i = ix2 k l := ⟨i 0, i 1, eq_ix2 i⟩
        show _ = ∑ r : Fin 8192, gelu (row (argY m c) r.val k) * at5 m dz c r.val l
        refine Eq.trans ?_ (Finset.sum_congr rfl fun r _ => mul_comm _ _)
        simp only [at5, row_eq, gateRow_eq]
        pointwise [dz, unit, logit, gelu, weight, gtanh, mul_assoc]
        rfl
      · funext i
        obtain ⟨o, l, rfl⟩ : ∃ (o : Fin 1) (l : Fin 768), i = ix2 o l := ⟨i 0, i 1, eq_ix2 i⟩
        show _ = ∑ r : Fin 8192, at5 m dz c r.val l
        simp only [at5, row_eq, gateRow_eq]
        pointwise [dz, unit, logit, gelu, weight, gtanh, mul_assoc]
        simp only [Finset.univ_unique, Finset.sum_singleton]
        rfl)
      (Cert.ReferenceTbIdeal.Value.run m' ρ')⟩

/-- The reference runs, leaves its arguments as they were, and ends with every counter at zero. -/
theorem reference_frame : Cert.quiescent_ReferenceTbIdeal (hReferenceTbIdeal := Cert.ReferenceTbIdeal.Gen.facts) :=
  fun m ρ _ => (θ_run _ _ _).mono (fun r h => ⟨fun c => (h c).2.2.2.2, sem_eq_zero_of_no_sems (by decide) r.2⟩)
    (Cert.ReferenceTbIdeal.Value.run m ρ)

end Cert.TbValue

end
-- ==== Proof.lean ====
module

public import proofs.«01_k».proof.Defs
public import proofs.«01_k».proof.Proof.Gen.KernelGate.Frame
public import proofs.«01_k».proof.Proof.GateValue
public import proofs.«01_k».proof.Proof.Gen.KernelRms.Frame
public import proofs.«01_k».proof.Proof.RmsValue
public import proofs.«01_k».proof.Proof.Gen.KernelPbx.Frame
public import proofs.«01_k».proof.Proof.PbxValue
public import proofs.«01_k».proof.Proof.Gen.KernelPbw.Frame
public import proofs.«01_k».proof.Proof.PbwValue
public import proofs.«01_k».proof.Proof.Gen.KernelWbx.Frame
public import proofs.«01_k».proof.Proof.WbxValue
public import proofs.«01_k».proof.Proof.Gen.KernelWbw.Frame
public import proofs.«01_k».proof.Proof.WbwValue
public import proofs.«01_k».proof.Proof.Gen.KernelAbx.Frame
public import proofs.«01_k».proof.Proof.AbxValue
public import proofs.«01_k».proof.Proof.Gen.KernelAbw.Frame
public import proofs.«01_k».proof.Proof.AbwValue
public import proofs.«01_k».proof.Proof.Gen.KernelBbx.Frame
public import proofs.«01_k».proof.Proof.BbxValue
public import proofs.«01_k».proof.Proof.Gen.KernelBbw.Frame
public import proofs.«01_k».proof.Proof.BbwValue
public import proofs.«01_k».proof.Proof.Gen.KernelPf.Frame
public import proofs.«01_k».proof.Proof.PfValue
public import proofs.«01_k».proof.Proof.Gen.KernelWf.Frame
public import proofs.«01_k».proof.Proof.WfValue
public import proofs.«01_k».proof.Proof.Gen.KernelAf.Frame
public import proofs.«01_k».proof.Proof.AfValue
public import proofs.«01_k».proof.Proof.Gen.KernelBf.Frame
public import proofs.«01_k».proof.Proof.BfValue
public import proofs.«01_k».proof.Proof.Gen.KernelOw.Frame
public import proofs.«01_k».proof.Proof.OwValue
public import proofs.«01_k».proof.Proof.Gen.KernelOg.Frame
public import proofs.«01_k».proof.Proof.OgValue
public import proofs.«01_k».proof.Proof.Gen.KernelOa.Frame
public import proofs.«01_k».proof.Proof.OaValue
public import proofs.«01_k».proof.Proof.Gen.KernelOb.Frame
public import proofs.«01_k».proof.Proof.ObValue
public import proofs.«01_k».proof.Proof.Gen.KernelOc.Frame
public import proofs.«01_k».proof.Proof.OcValue
public import proofs.«01_k».proof.Proof.Gen.KernelOo.Frame
public import proofs.«01_k».proof.Proof.OoValue
public import proofs.«01_k».proof.Proof.Gen.KernelSs.Frame
public import proofs.«01_k».proof.Proof.SsValue
public import proofs.«01_k».proof.Proof.Gen.KernelSa.Frame
public import proofs.«01_k».proof.Proof.SaValue
public import proofs.«01_k».proof.Proof.Gen.KernelLg.Frame
public import proofs.«01_k».proof.Proof.LgValue
public import proofs.«01_k».proof.Proof.Gen.KernelRf.Frame
public import proofs.«01_k».proof.Proof.RfValue
public import proofs.«01_k».proof.Proof.Gen.KernelGf.Frame
public import proofs.«01_k».proof.Proof.GfValue
public import proofs.«01_k».proof.Proof.Gen.KernelTf.Frame
public import proofs.«01_k».proof.Proof.TfValue
public import proofs.«01_k».proof.Proof.Gen.KernelTb.Frame
public import proofs.«01_k».proof.Proof.TbValue
public import Idealize.ShloMosaic.Adequacy
public import Idealize.ShloMosaic.Init

@[expose] public section

noncomputable section

/-
  The certificate: for each call, the frames of the kernel as launched, of its idealization and of the reference's; that
  the idealization preserves the kernel; and that over the reals the kernel's results are the reference's.
-/
namespace Cert.Proof

open Idealize.ShloMosaic Idealize.SL.Sem

theorem claim : Cert.Claim := ⟨
  Cert.KernelGate.Gen.facts, Cert.KernelGateIdeal.Gen.facts, Cert.ReferenceGateIdeal.Gen.facts,
  Cert.KernelRms.Gen.facts, Cert.KernelRmsIdeal.Gen.facts, Cert.ReferenceRmsIdeal.Gen.facts,
  Cert.KernelPbx.Gen.facts, Cert.KernelPbxIdeal.Gen.facts, Cert.ReferencePbxIdeal.Gen.facts,
  Cert.KernelPbw.Gen.facts, Cert.KernelPbwIdeal.Gen.facts, Cert.ReferencePbwIdeal.Gen.facts,
  Cert.KernelWbx.Gen.facts, Cert.KernelWbxIdeal.Gen.facts, Cert.ReferenceWbxIdeal.Gen.facts,
  Cert.KernelWbw.Gen.facts, Cert.KernelWbwIdeal.Gen.facts, Cert.ReferenceWbwIdeal.Gen.facts,
  Cert.KernelAbx.Gen.facts, Cert.KernelAbxIdeal.Gen.facts, Cert.ReferenceAbxIdeal.Gen.facts,
  Cert.KernelAbw.Gen.facts, Cert.KernelAbwIdeal.Gen.facts, Cert.ReferenceAbwIdeal.Gen.facts,
  Cert.KernelBbx.Gen.facts, Cert.KernelBbxIdeal.Gen.facts, Cert.ReferenceBbxIdeal.Gen.facts,
  Cert.KernelBbw.Gen.facts, Cert.KernelBbwIdeal.Gen.facts, Cert.ReferenceBbwIdeal.Gen.facts,
  Cert.KernelPf.Gen.facts, Cert.KernelPfIdeal.Gen.facts, Cert.ReferencePfIdeal.Gen.facts,
  Cert.KernelWf.Gen.facts, Cert.KernelWfIdeal.Gen.facts, Cert.ReferenceWfIdeal.Gen.facts,
  Cert.KernelAf.Gen.facts, Cert.KernelAfIdeal.Gen.facts, Cert.ReferenceAfIdeal.Gen.facts,
  Cert.KernelBf.Gen.facts, Cert.KernelBfIdeal.Gen.facts, Cert.ReferenceBfIdeal.Gen.facts,
  Cert.KernelOw.Gen.facts, Cert.KernelOwIdeal.Gen.facts, Cert.ReferenceOwIdeal.Gen.facts,
  Cert.KernelOg.Gen.facts, Cert.KernelOgIdeal.Gen.facts, Cert.ReferenceOgIdeal.Gen.facts,
  Cert.KernelOa.Gen.facts, Cert.KernelOaIdeal.Gen.facts, Cert.ReferenceOaIdeal.Gen.facts,
  Cert.KernelOb.Gen.facts, Cert.KernelObIdeal.Gen.facts, Cert.ReferenceObIdeal.Gen.facts,
  Cert.KernelOc.Gen.facts, Cert.KernelOcIdeal.Gen.facts, Cert.ReferenceOcIdeal.Gen.facts,
  Cert.KernelOo.Gen.facts, Cert.KernelOoIdeal.Gen.facts, Cert.ReferenceOoIdeal.Gen.facts,
  Cert.KernelSs.Gen.facts, Cert.KernelSsIdeal.Gen.facts, Cert.ReferenceSsIdeal.Gen.facts,
  Cert.KernelSa.Gen.facts, Cert.KernelSaIdeal.Gen.facts, Cert.ReferenceSaIdeal.Gen.facts,
  Cert.KernelLg.Gen.facts, Cert.KernelLgIdeal.Gen.facts, Cert.ReferenceLgIdeal.Gen.facts,
  Cert.KernelRf.Gen.facts, Cert.KernelRfIdeal.Gen.facts, Cert.ReferenceRfIdeal.Gen.facts,
  Cert.KernelGf.Gen.facts, Cert.KernelGfIdeal.Gen.facts, Cert.ReferenceGfIdeal.Gen.facts,
  Cert.KernelTf.Gen.facts, Cert.KernelTfIdeal.Gen.facts, Cert.ReferenceTfIdeal.Gen.facts,
  Cert.KernelTb.Gen.facts, Cert.KernelTbIdeal.Gen.facts, Cert.ReferenceTbIdeal.Gen.facts,
  fun m ρ _ => Cert.KernelGate.Gen.frame m ρ,
  fun m ρ _ => Cert.KernelGateIdeal.Gen.frame m ρ,
  Cert.GateValue.reference_frame,
  fun m ρ _ => Cert.KernelRms.Gen.frame m ρ,
  fun m ρ _ => Cert.KernelRmsIdeal.Gen.frame m ρ,
  Cert.RmsValue.reference_frame,
  fun m ρ _ => Cert.KernelPbx.Gen.frame m ρ,
  fun m ρ _ => Cert.KernelPbxIdeal.Gen.frame m ρ,
  Cert.PbxValue.reference_frame,
  fun m ρ _ => Cert.KernelPbw.Gen.frame m ρ,
  fun m ρ _ => Cert.KernelPbwIdeal.Gen.frame m ρ,
  Cert.PbwValue.reference_frame,
  fun m ρ _ => Cert.KernelWbx.Gen.frame m ρ,
  fun m ρ _ => Cert.KernelWbxIdeal.Gen.frame m ρ,
  Cert.WbxValue.reference_frame,
  fun m ρ _ => Cert.KernelWbw.Gen.frame m ρ,
  fun m ρ _ => Cert.KernelWbwIdeal.Gen.frame m ρ,
  Cert.WbwValue.reference_frame,
  fun m ρ _ => Cert.KernelAbx.Gen.frame m ρ,
  fun m ρ _ => Cert.KernelAbxIdeal.Gen.frame m ρ,
  Cert.AbxValue.reference_frame,
  fun m ρ _ => Cert.KernelAbw.Gen.frame m ρ,
  fun m ρ _ => Cert.KernelAbwIdeal.Gen.frame m ρ,
  Cert.AbwValue.reference_frame,
  fun m ρ _ => Cert.KernelBbx.Gen.frame m ρ,
  fun m ρ _ => Cert.KernelBbxIdeal.Gen.frame m ρ,
  Cert.BbxValue.reference_frame,
  fun m ρ _ => Cert.KernelBbw.Gen.frame m ρ,
  fun m ρ _ => Cert.KernelBbwIdeal.Gen.frame m ρ,
  Cert.BbwValue.reference_frame,
  fun m ρ _ => Cert.KernelPf.Gen.frame m ρ,
  fun m ρ _ => Cert.KernelPfIdeal.Gen.frame m ρ,
  Cert.PfValue.reference_frame,
  fun m ρ _ => Cert.KernelWf.Gen.frame m ρ,
  fun m ρ _ => Cert.KernelWfIdeal.Gen.frame m ρ,
  Cert.WfValue.reference_frame,
  fun m ρ _ => Cert.KernelAf.Gen.frame m ρ,
  fun m ρ _ => Cert.KernelAfIdeal.Gen.frame m ρ,
  Cert.AfValue.reference_frame,
  fun m ρ _ => Cert.KernelBf.Gen.frame m ρ,
  fun m ρ _ => Cert.KernelBfIdeal.Gen.frame m ρ,
  Cert.BfValue.reference_frame,
  fun m ρ _ => Cert.KernelOw.Gen.frame m ρ,
  fun m ρ _ => Cert.KernelOwIdeal.Gen.frame m ρ,
  Cert.OwValue.reference_frame,
  fun m ρ _ => Cert.KernelOg.Gen.frame m ρ,
  fun m ρ _ => Cert.KernelOgIdeal.Gen.frame m ρ,
  Cert.OgValue.reference_frame,
  fun m ρ _ => Cert.KernelOa.Gen.frame m ρ,
  fun m ρ _ => Cert.KernelOaIdeal.Gen.frame m ρ,
  Cert.OaValue.reference_frame,
  fun m ρ _ => Cert.KernelOb.Gen.frame m ρ,
  fun m ρ _ => Cert.KernelObIdeal.Gen.frame m ρ,
  Cert.ObValue.reference_frame,
  fun m ρ _ => Cert.KernelOc.Gen.frame m ρ,
  fun m ρ _ => Cert.KernelOcIdeal.Gen.frame m ρ,
  Cert.OcValue.reference_frame,
  fun m ρ _ => Cert.KernelOo.Gen.frame m ρ,
  fun m ρ _ => Cert.KernelOoIdeal.Gen.frame m ρ,
  Cert.OoValue.reference_frame,
  fun m ρ _ => Cert.KernelSs.Gen.frame m ρ,
  fun m ρ _ => Cert.KernelSsIdeal.Gen.frame m ρ,
  Cert.SsValue.reference_frame,
  fun m ρ _ => Cert.KernelSa.Gen.frame m ρ,
  fun m ρ _ => Cert.KernelSaIdeal.Gen.frame m ρ,
  Cert.SaValue.reference_frame,
  fun m ρ _ => Cert.KernelLg.Gen.frame m ρ,
  fun m ρ _ => Cert.KernelLgIdeal.Gen.frame m ρ,
  Cert.LgValue.reference_frame,
  fun m ρ _ => Cert.KernelRf.Gen.frame m ρ,
  fun m ρ _ => Cert.KernelRfIdeal.Gen.frame m ρ,
  Cert.RfValue.reference_frame,
  fun m ρ _ => Cert.KernelGf.Gen.frame m ρ,
  fun m ρ _ => Cert.KernelGfIdeal.Gen.frame m ρ,
  Cert.GfValue.reference_frame,
  fun m ρ _ => Cert.KernelTf.Gen.frame m ρ,
  fun m ρ _ => Cert.KernelTfIdeal.Gen.frame m ρ,
  Cert.TfValue.reference_frame,
  fun m ρ _ => Cert.KernelTb.Gen.frame m ρ,
  fun m ρ _ => Cert.KernelTbIdeal.Gen.frame m ρ,
  Cert.TbValue.reference_frame,
  trivial, Cert.GateValue.algebraic,
  trivial, Cert.RmsValue.algebraic,
  trivial, Cert.PbxValue.algebraic,
  trivial, Cert.PbwValue.algebraic,
  trivial, Cert.WbxValue.algebraic,
  trivial, Cert.WbwValue.algebraic,
  trivial, Cert.AbxValue.algebraic,
  trivial, Cert.AbwValue.algebraic,
  trivial, Cert.BbxValue.algebraic,
  trivial, Cert.BbwValue.algebraic,
  trivial, Cert.PfValue.algebraic,
  trivial, Cert.WfValue.algebraic,
  trivial, Cert.AfValue.algebraic,
  trivial, Cert.BfValue.algebraic,
  trivial, Cert.OwValue.algebraic,
  trivial, Cert.OgValue.algebraic,
  trivial, Cert.OaValue.algebraic,
  trivial, Cert.ObValue.algebraic,
  trivial, Cert.OcValue.algebraic,
  trivial, Cert.OoValue.algebraic,
  trivial, Cert.SsValue.algebraic,
  trivial, Cert.SaValue.algebraic,
  trivial, Cert.LgValue.algebraic,
  trivial, Cert.RfValue.algebraic,
  trivial, Cert.GfValue.algebraic,
  trivial, Cert.TfValue.algebraic,
  trivial, Cert.TbValue.algebraic⟩

end Cert.Proof

end
